-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_dy_w_up [hPre_finite_dy_w_up : Cert.Pre_finite_dy_w_up.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_dy_w_up.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite_dy_w_up.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite_dy_w_up.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_dy_w_up [hPre_finite_dy_w_up : Cert.Pre_finite_dy_w_up.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_dy_w_up.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite_dy_w_up.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite_dy_w_up.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite_cross_qk [hPre_finite_cross_qk : Cert.Pre_finite_cross_qk.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite_cross_qk.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))).1 = (fun _ => 1#1)
    ∧ (Cert.Pre_finite_cross_qk.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))).2 = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite_cross_qk [hPre_finite_cross_qk : Cert.Pre_finite_cross_qk.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite_cross_qk.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3))).1 = (fun _ => 1#1)
    ∧ (Cert.Pre_finite_cross_qk.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3))).2 = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite_cross_qk_forward [hPre_finite_cross_qk_forward : Cert.Pre_finite_cross_qk_forward.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite_cross_qk_forward.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2))).1 = (fun _ => 1#1)
    ∧ (Cert.Pre_finite_cross_qk_forward.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2))).2 = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite_cross_qk_forward [hPre_finite_cross_qk_forward : Cert.Pre_finite_cross_qk_forward.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite_cross_qk_forward.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2))).1 = (fun _ => 1#1)
    ∧ (Cert.Pre_finite_cross_qk_forward.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2))).2 = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite_qk_forward [hPre_finite_qk_forward : Cert.Pre_finite_qk_forward.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite_qk_forward.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite_qk_forward [hPre_finite_qk_forward : Cert.Pre_finite_qk_forward.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite_qk_forward.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Kernel27Ideal_finite_gain_dy [hPre_finite_gain_dy : Cert.Pre_finite_gain_dy.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_finite_gain_dy.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3))).1 = (fun _ => 1#1)
    ∧ (Cert.Pre_finite_gain_dy.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3))).2 = (fun _ => 1#1)

def Pre_Reference27Ideal (m : (ℓ : Loc Cert.Reference27Ideal.nD Cert.Reference27Ideal.τ Cert.Reference27Ideal.sig) → Buf (Elt Ideal) ℓ) : Prop :=
  True

def Pre_Reference27Ideal_finite_gain_dy [hPre_finite_gain_dy : Cert.Pre_finite_gain_dy.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_finite_gain_dy.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3))).1 = (fun _ => 1#1)
    ∧ (Cert.Pre_finite_gain_dy.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3))).2 = (fun _ => 1#1)

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_finite_conv_dy [hPre_finite_conv_dy : Cert.Pre_finite_conv_dy.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_finite_conv_dy.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3))) = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_finite_conv_dy [hPre_finite_conv_dy : Cert.Pre_finite_conv_dy.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_finite_conv_dy.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3))) = (fun _ => 1#1)

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_dy_w_up [hKernel3Ideal : Cert.Kernel3Ideal.Facts] [hPre_finite_dy_w_up : Cert.Pre_finite_dy_w_up.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_dy_w_up m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_dy_w_up [hReference3Ideal : Cert.Reference3Ideal.Facts] [hPre_finite_dy_w_up : Cert.Pre_finite_dy_w_up.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_dy_w_up m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Kernel21Ideal_pre_finite_cross_qk [hKernel21Ideal : Cert.Kernel21Ideal.Facts] [hPre_finite_cross_qk : Cert.Pre_finite_cross_qk.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite_cross_qk m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Reference21Ideal_pre_finite_cross_qk [hReference21Ideal : Cert.Reference21Ideal.Facts] [hPre_finite_cross_qk : Cert.Pre_finite_cross_qk.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite_cross_qk m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Kernel22Ideal_pre_finite_cross_qk_forward [hKernel22Ideal : Cert.Kernel22Ideal.Facts] [hPre_finite_cross_qk_forward : Cert.Pre_finite_cross_qk_forward.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite_cross_qk_forward m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Reference22Ideal_pre_finite_cross_qk_forward [hReference22Ideal : Cert.Reference22Ideal.Facts] [hPre_finite_cross_qk_forward : Cert.Pre_finite_cross_qk_forward.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite_cross_qk_forward m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Kernel23Ideal_pre_finite_qk_forward [hKernel23Ideal : Cert.Kernel23Ideal.Facts] [hPre_finite_qk_forward : Cert.Pre_finite_qk_forward.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite_qk_forward m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Reference23Ideal_pre_finite_qk_forward [hReference23Ideal : Cert.Reference23Ideal.Facts] [hPre_finite_qk_forward : Cert.Pre_finite_qk_forward.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite_qk_forward m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Kernel27Ideal_pre_finite_gain_dy [hKernel27Ideal : Cert.Kernel27Ideal.Facts] [hPre_finite_gain_dy : Cert.Pre_finite_gain_dy.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal_finite_gain_dy m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Reference27Ideal_pre_finite_gain_dy [hReference27Ideal : Cert.Reference27Ideal.Facts] [hPre_finite_gain_dy : Cert.Pre_finite_gain_dy.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_finite_gain_dy m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Kernel28Ideal_pre_finite_conv_dy [hKernel28Ideal : Cert.Kernel28Ideal.Facts] [hPre_finite_conv_dy : Cert.Pre_finite_conv_dy.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_finite_conv_dy m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Reference28Ideal_pre_finite_conv_dy [hReference28Ideal : Cert.Reference28Ideal.Facts] [hPre_finite_conv_dy : Cert.Pre_finite_conv_dy.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_finite_conv_dy m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_v15) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite_dy_w_up [hKernel3Ideal : Cert.Kernel3Ideal.Facts] [hReference3Ideal : Cert.Reference3Ideal.Facts] [hPre_finite_dy_w_up : Cert.Pre_finite_dy_w_up.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_dy_w_up m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_v12) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal_pre_finite_cross_qk [hKernel21Ideal : Cert.Kernel21Ideal.Facts] [hReference21Ideal : Cert.Reference21Ideal.Facts] [hPre_finite_cross_qk : Cert.Pre_finite_cross_qk.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite_cross_qk m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v65) = v0 c
          ∧ r.2.mem ((c.tc : Thread Cert.Reference21Ideal.nD Cert.Reference21Ideal.τ).loc Cert.Reference21Ideal.main_v64) = v1 c
          ∧ r.2.mem ((c.tc : Thread Cert.Reference21Ideal.nD Cert.Reference21Ideal.τ).loc Cert.Reference21Ideal.main_v63) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal_pre_finite_cross_qk_forward [hKernel22Ideal : Cert.Kernel22Ideal.Facts] [hReference22Ideal : Cert.Reference22Ideal.Facts] [hPre_finite_cross_qk_forward : Cert.Pre_finite_cross_qk_forward.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite_cross_qk_forward m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  IdealRules.named_const.Statement Cert.Kernel23Ideal.κ "mask" .f32 0xF149F2CA#32 ⊥

def algebraic_Kernel23Ideal_Reference23Ideal_pre_finite_qk_forward [hKernel23Ideal : Cert.Kernel23Ideal.Facts] [hReference23Ideal : Cert.Reference23Ideal.Facts] [hPre_finite_qk_forward : Cert.Pre_finite_qk_forward.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite_qk_forward m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v34) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v1_0)) (v1 : (c : Dev Cert.Kernel24Ideal.nD) → Buf (Elt Ideal) ((c.tc : Thread Cert.Kernel24Ideal.nD Cert.Kernel24Ideal.τ).loc Cert.Kernel24Ideal.main_v1_1)) (v2 : (c : Dev Cert.Kernel24Ideal.nD) → Buf (Elt Ideal) ((c.tc : Thread Cert.Kernel24Ideal.nD Cert.Kernel24Ideal.τ).loc Cert.Kernel24Ideal.main_v1_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1_0) = v0 c
          ∧ r.2.mem ((c.tc : Thread Cert.Kernel24Ideal.nD Cert.Kernel24Ideal.τ).loc Cert.Kernel24Ideal.main_v1_1) = v1 c
          ∧ r.2.mem ((c.tc : Thread Cert.Kernel24Ideal.nD Cert.Kernel24Ideal.τ).loc Cert.Kernel24Ideal.main_v1_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v36) = v0 c
          ∧ r.2.mem ((c.tc : Thread Cert.Reference24Ideal.nD Cert.Reference24Ideal.τ).loc Cert.Reference24Ideal.main_v37) = v1 c
          ∧ r.2.mem ((c.tc : Thread Cert.Reference24Ideal.nD Cert.Reference24Ideal.τ).loc Cert.Reference24Ideal.main_v38) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v35) = v0 c
          ∧ r.2.mem ((c.tc : Thread Cert.Reference25Ideal.nD Cert.Reference25Ideal.τ).loc Cert.Reference25Ideal.main_v36) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v1_0)) (v1 : (c : Dev Cert.Kernel26Ideal.nD) → Buf (Elt Ideal) ((c.tc : Thread Cert.Kernel26Ideal.nD Cert.Kernel26Ideal.τ).loc Cert.Kernel26Ideal.main_v1_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1_0) = v0 c
          ∧ r.2.mem ((c.tc : Thread Cert.Kernel26Ideal.nD Cert.Kernel26Ideal.τ).loc Cert.Kernel26Ideal.main_v1_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v39) = v0 c
          ∧ r.2.mem ((c.tc : Thread Cert.Reference26Ideal.nD Cert.Reference26Ideal.τ).loc Cert.Reference26Ideal.main_v40) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal_pre_finite_gain_dy [hKernel27Ideal : Cert.Kernel27Ideal.Facts] [hReference27Ideal : Cert.Reference27Ideal.Facts] [hPre_finite_gain_dy : Cert.Pre_finite_gain_dy.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal_finite_gain_dy m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v1_0)) (v1 : (c : Dev Cert.Kernel27Ideal.nD) → Buf (Elt Ideal) ((c.tc : Thread Cert.Kernel27Ideal.nD Cert.Kernel27Ideal.τ).loc Cert.Kernel27Ideal.main_v1_1)) (v2 : (c : Dev Cert.Kernel27Ideal.nD) → Buf (Elt Ideal) ((c.tc : Thread Cert.Kernel27Ideal.nD Cert.Kernel27Ideal.τ).loc Cert.Kernel27Ideal.main_v1_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1_0) = v0 c
          ∧ r.2.mem ((c.tc : Thread Cert.Kernel27Ideal.nD Cert.Kernel27Ideal.τ).loc Cert.Kernel27Ideal.main_v1_1) = v1 c
          ∧ r.2.mem ((c.tc : Thread Cert.Kernel27Ideal.nD Cert.Kernel27Ideal.τ).loc Cert.Kernel27Ideal.main_v1_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v45) = v0 c
          ∧ r.2.mem ((c.tc : Thread Cert.Reference27Ideal.nD Cert.Reference27Ideal.τ).loc Cert.Reference27Ideal.main_v46) = v1 c
          ∧ r.2.mem ((c.tc : Thread Cert.Reference27Ideal.nD Cert.Reference27Ideal.τ).loc Cert.Reference27Ideal.main_v47) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal_pre_finite_conv_dy [hKernel28Ideal : Cert.Kernel28Ideal.Facts] [hReference28Ideal : Cert.Reference28Ideal.Facts] [hPre_finite_conv_dy : Cert.Pre_finite_conv_dy.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_finite_conv_dy m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v87) = v0 c
          ∧ r.2.mem ((c.tc : Thread Cert.Reference28Ideal.nD Cert.Reference28Ideal.τ).loc Cert.Reference28Ideal.main_v88) = v1 c
          ∧ r.2.mem ((c.tc : Thread Cert.Reference28Ideal.nD Cert.Reference28Ideal.τ).loc Cert.Reference28Ideal.main_v89) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v38) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v3) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v1) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v2) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v3) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v1) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v13) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v1) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v13) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v1) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v15) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v1) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v13) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)) →
    ∃ (v0 : (c : Dev Cert.Kernel39Ideal.nD) → Buf (Elt Ideal) ((c.tc : Thread Cert.Kernel39Ideal.nD Cert.Kernel39Ideal.τ).loc Cert.Kernel39Ideal.main_v1)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v1) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v15) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)) →
    ∃ (v0 : (c : Dev Cert.Kernel40Ideal.nD) → Buf (Elt Ideal) ((c.tc : Thread Cert.Kernel40Ideal.nD Cert.Kernel40Ideal.τ).loc Cert.Kernel40Ideal.main_v1)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v1) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v18) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)) (v2 : (c : Dev Cert.Kernel41Ideal.nD) → Buf (Elt Ideal) ((c.tc : Thread Cert.Kernel41Ideal.nD Cert.Kernel41Ideal.τ).loc Cert.Kernel41Ideal.main_v0_2)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_v0_2) = v2 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v23) = v0 c
          ∧ r.2.mem ((c.tc : Thread Cert.Reference41Ideal.nD Cert.Reference41Ideal.τ).loc Cert.Reference41Ideal.main_v4) = v1 c
          ∧ r.2.mem ((c.tc : Thread Cert.Reference41Ideal.nD Cert.Reference41Ideal.τ).loc Cert.Reference41Ideal.main_v10) = v2 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)) →
    ∃ (v0 : (c : Dev Cert.Kernel42Ideal.nD) → Buf (Elt Ideal) ((c.tc : Thread Cert.Kernel42Ideal.nD Cert.Kernel42Ideal.τ).loc Cert.Kernel42Ideal.main_v0_0)) (v1 : (c : Dev Cert.Kernel42Ideal.nD) → Buf (Elt Ideal) ((c.tc : Thread Cert.Kernel42Ideal.nD Cert.Kernel42Ideal.τ).loc Cert.Kernel42Ideal.main_v0_1)) (v2 : (c : Dev Cert.Kernel42Ideal.nD) → Buf (Elt Ideal) ((c.tc : Thread Cert.Kernel42Ideal.nD Cert.Kernel42Ideal.τ).loc Cert.Kernel42Ideal.main_v0_2)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0_0) = v0 c
          ∧ r.2.mem ((c.tc : Thread Cert.Kernel42Ideal.nD Cert.Kernel42Ideal.τ).loc Cert.Kernel42Ideal.main_v0_1) = v1 c
          ∧ r.2.mem ((c.tc : Thread Cert.Kernel42Ideal.nD Cert.Kernel42Ideal.τ).loc Cert.Kernel42Ideal.main_v0_2) = v2 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v14) = v0 c
          ∧ r.2.mem ((c.tc : Thread Cert.Reference42Ideal.nD Cert.Reference42Ideal.τ).loc Cert.Reference42Ideal.main_v15) = v1 c
          ∧ r.2.mem ((c.tc : Thread Cert.Reference42Ideal.nD Cert.Reference42Ideal.τ).loc Cert.Reference42Ideal.main_v16) = v2 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)) →
    ∃ (v0 : (c : Dev Cert.Kernel43Ideal.nD) → Buf (Elt Ideal) ((c.tc : Thread Cert.Kernel43Ideal.nD Cert.Kernel43Ideal.τ).loc Cert.Kernel43Ideal.main_v1_0)) (v1 : (c : Dev Cert.Kernel43Ideal.nD) → Buf (Elt Ideal) ((c.tc : Thread Cert.Kernel43Ideal.nD Cert.Kernel43Ideal.τ).loc Cert.Kernel43Ideal.main_v1_1)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v1_0) = v0 c
          ∧ r.2.mem ((c.tc : Thread Cert.Kernel43Ideal.nD Cert.Kernel43Ideal.τ).loc Cert.Kernel43Ideal.main_v1_1) = v1 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v35) = v0 c
          ∧ r.2.mem ((c.tc : Thread Cert.Reference43Ideal.nD Cert.Reference43Ideal.τ).loc Cert.Reference43Ideal.main_v36) = v1 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hPre_finite_qk : Cert.Pre_finite_qk.Facts) (hPre_finite_dy_w_up : Cert.Pre_finite_dy_w_up.Facts) (hPre_finite_cross_qk : Cert.Pre_finite_cross_qk.Facts) (hPre_finite_cross_qk_forward : Cert.Pre_finite_cross_qk_forward.Facts) (hPre_finite_qk_forward : Cert.Pre_finite_qk_forward.Facts) (hPre_finite_gain_dy : Cert.Pre_finite_gain_dy.Facts) (hPre_finite_conv_dy : Cert.Pre_finite_conv_dy.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_dy_w_up (hKernel3Ideal := hKernel3Ideal) (hPre_finite_dy_w_up := hPre_finite_dy_w_up)
    ∧ quiescent_Reference3Ideal (hReference3Ideal := hReference3Ideal)
    ∧ quiescent_Reference3Ideal_pre_finite_dy_w_up (hReference3Ideal := hReference3Ideal) (hPre_finite_dy_w_up := hPre_finite_dy_w_up)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Kernel21Ideal_pre_finite_cross_qk (hKernel21Ideal := hKernel21Ideal) (hPre_finite_cross_qk := hPre_finite_cross_qk)
    ∧ quiescent_Reference21Ideal (hReference21Ideal := hReference21Ideal)
    ∧ quiescent_Reference21Ideal_pre_finite_cross_qk (hReference21Ideal := hReference21Ideal) (hPre_finite_cross_qk := hPre_finite_cross_qk)
    ∧ quiescent_Kernel22 (hKernel22 := hKernel22)
    ∧ quiescent_Kernel22Ideal (hKernel22Ideal := hKernel22Ideal)
    ∧ quiescent_Kernel22Ideal_pre_finite_cross_qk_forward (hKernel22Ideal := hKernel22Ideal) (hPre_finite_cross_qk_forward := hPre_finite_cross_qk_forward)
    ∧ quiescent_Reference22Ideal (hReference22Ideal := hReference22Ideal)
    ∧ quiescent_Reference22Ideal_pre_finite_cross_qk_forward (hReference22Ideal := hReference22Ideal) (hPre_finite_cross_qk_forward := hPre_finite_cross_qk_forward)
    ∧ quiescent_Kernel23 (hKernel23 := hKernel23)
    ∧ quiescent_Kernel23Ideal (hKernel23Ideal := hKernel23Ideal)
    ∧ quiescent_Kernel23Ideal_pre_finite_qk_forward (hKernel23Ideal := hKernel23Ideal) (hPre_finite_qk_forward := hPre_finite_qk_forward)
    ∧ quiescent_Reference23Ideal (hReference23Ideal := hReference23Ideal)
    ∧ quiescent_Reference23Ideal_pre_finite_qk_forward (hReference23Ideal := hReference23Ideal) (hPre_finite_qk_forward := hPre_finite_qk_forward)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Kernel27Ideal_pre_finite_gain_dy (hKernel27Ideal := hKernel27Ideal) (hPre_finite_gain_dy := hPre_finite_gain_dy)
    ∧ quiescent_Reference27Ideal (hReference27Ideal := hReference27Ideal)
    ∧ quiescent_Reference27Ideal_pre_finite_gain_dy (hReference27Ideal := hReference27Ideal) (hPre_finite_gain_dy := hPre_finite_gain_dy)
    ∧ quiescent_Kernel28 (hKernel28 := hKernel28)
    ∧ quiescent_Kernel28Ideal (hKernel28Ideal := hKernel28Ideal)
    ∧ quiescent_Kernel28Ideal_pre_finite_conv_dy (hKernel28Ideal := hKernel28Ideal) (hPre_finite_conv_dy := hPre_finite_conv_dy)
    ∧ quiescent_Reference28Ideal (hReference28Ideal := hReference28Ideal)
    ∧ quiescent_Reference28Ideal_pre_finite_conv_dy (hReference28Ideal := hReference28Ideal) (hPre_finite_conv_dy := hPre_finite_conv_dy)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_dy_w_up (hKernel3Ideal := hKernel3Ideal) (hReference3Ideal := hReference3Ideal) (hPre_finite_dy_w_up := hPre_finite_dy_w_up)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal_pre_finite_cross_qk (hKernel21Ideal := hKernel21Ideal) (hReference21Ideal := hReference21Ideal) (hPre_finite_cross_qk := hPre_finite_cross_qk)
    ∧ preserves_Kernel22_Kernel22Ideal
    ∧ algebraic_Kernel22Ideal_Reference22Ideal_pre_finite_cross_qk_forward (hKernel22Ideal := hKernel22Ideal) (hReference22Ideal := hReference22Ideal) (hPre_finite_cross_qk_forward := hPre_finite_cross_qk_forward)
    ∧ preserves_Kernel23_Kernel23Ideal
    ∧ algebraic_Kernel23Ideal_Reference23Ideal_pre_finite_qk_forward (hKernel23Ideal := hKernel23Ideal) (hReference23Ideal := hReference23Ideal) (hPre_finite_qk_forward := hPre_finite_qk_forward)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal_pre_finite_gain_dy (hKernel27Ideal := hKernel27Ideal) (hReference27Ideal := hReference27Ideal) (hPre_finite_gain_dy := hPre_finite_gain_dy)
    ∧ preserves_Kernel28_Kernel28Ideal
    ∧ algebraic_Kernel28Ideal_Reference28Ideal_pre_finite_conv_dy (hKernel28Ideal := hKernel28Ideal) (hReference28Ideal := hReference28Ideal) (hPre_finite_conv_dy := hPre_finite_conv_dy)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
-- ==== Pre_finite_conv_dy.lean ====
abbrev S2x2048x3840 : Shape := ⟨3, ![2, 2048, 3840]⟩
abbrev S8x1536 : Shape := ⟨2, ![8, 1536]⟩
abbrev S1x1536 : Shape := ⟨2, ![1, 1536]⟩
abbrev S2x2048x1536 : Shape := ⟨3, ![2, 2048, 1536]⟩
abbrev S_ : Shape := ⟨0, ![]⟩

class Facts : Prop where
  bcast_S_S2x2048x1536 : S_.BroadcastsInDim S2x2048x1536 (![] : Fin 0 → Fin S2x2048x1536.rank)

variable [Facts]

def fn {F : FTy → Type} [FloatOps F] (main_arg0 : FVec F S2x2048x3840 .f32) (main_arg1 : FVec F S8x1536 .f32) (main_arg2 : FVec F S1x1536 .f32) (main_arg3 : FVec F S2x2048x1536 .f32) : IVec S2x2048x1536 1 :=
  let main_v0 : FVec F S2x2048x1536 .f32 := Host.absf main_arg3
  let main_cst : FVec F S_ .f32 := constant S_ .f32 0x7F800000#32
  let main_v1 : FVec F S2x2048x1536 .f32 := broadcastInDim S2x2048x1536 ![] bcast_S_S2x2048x1536 main_cst
  let main_v2 : IVec S2x2048x1536 1 := cmpf .olt main_v0 main_v1
  main_v2
-- ==== Pre_finite_cross_qk.lean ====
abbrev S2x2048x512 : Shape := ⟨3, ![2, 2048, 512]⟩
abbrev S2x256x512 : Shape := ⟨3, ![2, 256, 512]⟩
abbrev S_ : Shape := ⟨0, ![]⟩

class Facts : Prop where
  bitsLt_bf16_f32 : FTy.bits .bf16 < FTy.bits .f32
  bcast_S_S2x2048x512 : S_.BroadcastsInDim S2x2048x512 (![] : Fin 0 → Fin S2x2048x512.rank)
  bcast_S_S2x256x512 : S_.BroadcastsInDim S2x256x512 (![] : Fin 0 → Fin S2x256x512.rank)

variable [Facts]

def fn {F : FTy → Type} [FloatOps F] (main_arg0 : FVec F S2x2048x512 .bf16) (main_arg1 : FVec F S2x256x512 .bf16) (main_arg2 : FVec F S2x256x512 .bf16) (main_arg3 : FVec F S2x2048x512 .f32) : IVec S2x2048x512 1 × IVec S2x256x512 1 :=
  let main_v0 : FVec F S2x2048x512 .f32 := (extf .f32 · bitsLt_bf16_f32) main_arg0
  let main_v1 : FVec F S2x2048x512 .f32 := Host.absf main_v0
  let main_cst : FVec F S_ .f32 := constant S_ .f32 0x7F800000#32
  let main_v2 : FVec F S2x2048x512 .f32 := broadcastInDim S2x2048x512 ![] bcast_S_S2x2048x512 main_cst
  let main_v3 : IVec S2x2048x512 1 := cmpf .olt main_v1 main_v2
  let main_v4 : FVec F S2x256x512 .f32 := (extf .f32 · bitsLt_bf16_f32) main_arg1
  let main_v5 : FVec F S2x256x512 .f32 := Host.absf main_v4
  let main_cst_0 : FVec F S_ .f32 := constant S_ .f32 0x7F800000#32
  let main_v6 : FVec F S2x256x512 .f32 := broadcastInDim S2x256x512 ![] bcast_S_S2x256x512 main_cst_0
  let main_v7 : IVec S2x256x512 1 := cmpf .olt main_v5 main_v6
  (main_v3, main_v7)
-- ==== Pre_finite_cross_qk_forward.lean ====
abbrev S2x2048x512 : Shape := ⟨3, ![2, 2048, 512]⟩
abbrev S2x256x512 : Shape := ⟨3, ![2, 256, 512]⟩
abbrev S_ : Shape := ⟨0, ![]⟩

class Facts : Prop where
  bitsLt_bf16_f32 : FTy.bits .bf16 < FTy.bits .f32
  bcast_S_S2x2048x512 : S_.BroadcastsInDim S2x2048x512 (![] : Fin 0 → Fin S2x2048x512.rank)
  bcast_S_S2x256x512 : S_.BroadcastsInDim S2x256x512 (![] : Fin 0 → Fin S2x256x512.rank)

variable [Facts]

def fn {F : FTy → Type} [FloatOps F] (main_arg0 : FVec F S2x2048x512 .bf16) (main_arg1 : FVec F S2x256x512 .bf16) (main_arg2 : FVec F S2x256x512 .bf16) : IVec S2x2048x512 1 × IVec S2x256x512 1 :=
  let main_v0 : FVec F S2x2048x512 .f32 := (extf .f32 · bitsLt_bf16_f32) main_arg0
  let main_v1 : FVec F S2x2048x512 .f32 := Host.absf main_v0
  let main_cst : FVec F S_ .f32 := constant S_ .f32 0x7F800000#32
  let main_v2 : FVec F S2x2048x512 .f32 := broadcastInDim S2x2048x512 ![] bcast_S_S2x2048x512 main_cst
  let main_v3 : IVec S2x2048x512 1 := cmpf .olt main_v1 main_v2
  let main_v4 : FVec F S2x256x512 .f32 := (extf .f32 · bitsLt_bf16_f32) main_arg1
  let main_v5 : FVec F S2x256x512 .f32 := Host.absf main_v4
  let main_cst_0 : FVec F S_ .f32 := constant S_ .f32 0x7F800000#32
  let main_v6 : FVec F S2x256x512 .f32 := broadcastInDim S2x256x512 ![] bcast_S_S2x256x512 main_cst_0
  let main_v7 : IVec S2x256x512 1 := cmpf .olt main_v5 main_v6
  (main_v3, main_v7)
-- ==== Pre_finite_dy_w_up.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S5632x2048 .bf16) (main_arg2 : FVec F S4096x5632 .bf16) (main_arg3 : FVec F S4096x5632 .bf16) : IVec S4096x2048 1 × IVec S5632x2048 1 × IVec S4096x5632 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S4096x5632 .f32 := (extf .f32 · bitsLt_bf16_f32) main_arg3
  let main_v9 : FVec F S4096x5632 .f32 := Host.absf main_v8
  let main_cst_1 : FVec F S_ .f32 := constant S_ .f32 0x7F800000#32
  let main_v10 : FVec F S4096x5632 .f32 := broadcastInDim S4096x5632 ![] bcast_S_S4096x5632 main_cst_1
  let main_v11 : IVec S4096x5632 1 := cmpf .olt main_v9 main_v10
  (main_v3, main_v7, main_v11)
-- ==== Pre_finite_gain_dy.lean ====
abbrev S4096x1024 : Shape := ⟨2, ![4096, 1024]⟩
abbrev S1024 : Shape := ⟨1, ![1024]⟩
abbrev S_ : Shape := ⟨0, ![]⟩

class Facts : Prop where
  bcast_S_S1024 : S_.BroadcastsInDim S1024 (![] : Fin 0 → Fin S1024.rank)
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x1024 .f32) (main_arg2 : FVec F S1024 .f32) (main_arg3 : FVec F S4096x1024 .f32) : IVec S1024 1 × IVec S4096x1024 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S4096x1024 .f32 := Host.absf main_arg3
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  (main_v2, main_v5)
-- ==== Pre_finite_qk.lean ====
abbrev S2x2048x2048 : Shape := ⟨3, ![2, 2048, 2048]⟩
abbrev S2x2048x1024 : Shape := ⟨3, ![2, 2048, 1024]⟩
abbrev S_ : Shape := ⟨0, ![]⟩

class Facts : Prop where
  bitsLt_bf16_f32 : FTy.bits .bf16 < FTy.bits .f32
  bcast_S_S2x2048x2048 : S_.BroadcastsInDim S2x2048x2048 (![] : Fin 0 → Fin S2x2048x2048.rank)

variable [Facts]

def fn {F : FTy → Type} [FloatOps F] (main_arg0 : FVec F S2x2048x2048 .bf16) (main_arg1 : FVec F S2x2048x2048 .bf16) (main_arg2 : FVec F S2x2048x2048 .bf16) (main_arg3 : FVec F S2x2048x1024 .f32) : IVec S2x2048x2048 1 :=
  let main_v0 : FVec F S2x2048x2048 .f32 := (extf .f32 · bitsLt_bf16_f32) main_arg0
  let main_v1 : FVec F S2x2048x2048 .f32 := Host.absf main_v0
  let main_cst : FVec F S_ .f32 := constant S_ .f32 0x7F800000#32
  let main_v2 : FVec F S2x2048x2048 .f32 := broadcastInDim S2x2048x2048 ![] bcast_S_S2x2048x2048 main_cst
  let main_v3 : IVec S2x2048x2048 1 := cmpf .olt main_v1 main_v2
  let main_v4 : FVec F S2x2048x2048 .f32 := (extf .f32 · bitsLt_bf16_f32) main_arg1
  let main_v5 : FVec F S2x2048x2048 .f32 := Host.absf main_v4
  let main_cst_0 : FVec F S_ .f32 := constant S_ .f32 0x7F800000#32
  let main_v6 : FVec F S2x2048x2048 .f32 := broadcastInDim S2x2048x2048 ![] bcast_S_S2x2048x2048 main_cst_0
  let main_v7 : IVec S2x2048x2048 1 := cmpf .olt main_v5 main_v6
  let main_v8 : IVec S2x2048x2048 1 := andi main_v3 main_v7
  main_v8
-- ==== Pre_finite_qk_forward.lean ====
abbrev S2x2048x2048 : Shape := ⟨3, ![2, 2048, 2048]⟩
abbrev S_ : Shape := ⟨0, ![]⟩

class Facts : Prop where
  bitsLt_bf16_f32 : FTy.bits .bf16 < FTy.bits .f32
  bcast_S_S2x2048x2048 : S_.BroadcastsInDim S2x2048x2048 (![] : Fin 0 → Fin S2x2048x2048.rank)

variable [Facts]

def fn {F : FTy → Type} [FloatOps F] (main_arg0 : FVec F S2x2048x2048 .bf16) (main_arg1 : FVec F S2x2048x2048 .bf16) (main_arg2 : FVec F S2x2048x2048 .bf16) : IVec S2x2048x2048 1 :=
  let main_v0 : FVec F S2x2048x2048 .f32 := (extf .f32 · bitsLt_bf16_f32) main_arg0
  let main_v1 : FVec F S2x2048x2048 .f32 := Host.absf main_v0
  let main_cst : FVec F S_ .f32 := constant S_ .f32 0x7F800000#32
  let main_v2 : FVec F S2x2048x2048 .f32 := broadcastInDim S2x2048x2048 ![] bcast_S_S2x2048x2048 main_cst
  let main_v3 : IVec S2x2048x2048 1 := cmpf .olt main_v1 main_v2
  let main_v4 : FVec F S2x2048x2048 .f32 := (extf .f32 · bitsLt_bf16_f32) main_arg1
  let main_v5 : FVec F S2x2048x2048 .f32 := Host.absf main_v4
  let main_cst_0 : FVec F S_ .f32 := constant S_ .f32 0x7F800000#32
  let main_v6 : FVec F S2x2048x2048 .f32 := broadcastInDim S2x2048x2048 ![] bcast_S_S2x2048x2048 main_cst_0
  let main_v7 : IVec S2x2048x2048 1 := cmpf .olt main_v5 main_v6
  let main_v8 : IVec S2x2048x2048 1 := andi main_v3 main_v7
  main_v8
-- ==== Kernel.lean ====
abbrev S2x2048x2048 : Shape := ⟨3, ![2, 2048, 2048]⟩
abbrev S2x2048x1024 : Shape := ⟨3, ![2, 2048, 1024]⟩
abbrev S1x512x256 : Shape := ⟨3, ![1, 512, 256]⟩
abbrev S1x2048x256 : Shape := ⟨3, ![1, 2048, 256]⟩
abbrev S1x2048x128 : Shape := ⟨3, ![1, 2048, 128]⟩
abbrev S1x512x128 : Shape := ⟨3, ![1, 512, 128]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S1x1024x128 : Shape := ⟨3, ![1, 1024, 128]⟩
abbrev S1024x128 : Shape := ⟨2, ![1024, 128]⟩
abbrev S512x1024 : Shape := ⟨2, ![512, 1024]⟩
abbrev S1x1536x256 : Shape := ⟨3, ![1, 1536, 256]⟩
abbrev S1536x256 : Shape := ⟨2, ![1536, 256]⟩
abbrev S1x1536x128 : Shape := ⟨3, ![1, 1536, 128]⟩
abbrev S1536x128 : Shape := ⟨2, ![1536, 128]⟩
abbrev S512x1536 : Shape := ⟨2, ![512, 1536]⟩
abbrev S2048x256 : Shape := ⟨2, ![2048, 256]⟩
abbrev S2048x128 : Shape := ⟨2, ![2048, 128]⟩
abbrev S512x2048 : Shape := ⟨2, ![512, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x2048, .bf16⟩
  | .hbm, ⟨1, _⟩ => ⟨S2x2048x2048, .bf16⟩
  | .hbm, ⟨2, _⟩ => ⟨S2x2048x2048, .bf16⟩
  | .hbm, ⟨3, _⟩ => ⟨S2x2048x1024, .f32⟩
  | .hbm, ⟨4, _⟩ => ⟨S2x2048x2048, .f32⟩
  | .hbm, ⟨5, _⟩ => ⟨S2x2048x2048, .f32⟩
  | .hbm, ⟨6, _⟩ => ⟨S2x2048x1024, .f32⟩
  | .local _ .vmem, ⟨0, _⟩ => ⟨S1x512x256, .bf16⟩
  | .local _ .vmem, ⟨1, _⟩ => ⟨S1x512x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x512x128, .f32⟩
  | .local _ .vmem, ⟨7, _⟩ => ⟨S1x512x128, .f32⟩
  | .local _ .vmem, ⟨8, _⟩ => ⟨S1x512x256, .f32⟩
  | .local _ .vmem, ⟨9, _⟩ => ⟨S1x512x256, .f32⟩
  | .local _ .vmem, ⟨10, _⟩ => ⟨S1x2048x256, .f32⟩
  | .local _ .vmem, ⟨11, _⟩ => ⟨S1x2048x256, .f32⟩
  | .local _ .vmem, ⟨12, _⟩ => ⟨S1x2048x128, .f32⟩
  | .local _ .vmem, ⟨13, _⟩ => ⟨S1x2048x128, .f32⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_5 : BitVec 32 := 0#32
  let v14 : BitVec 1 := Scalar.cmpi .ne v13 c0_i32_5
  v14

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, c0_i32.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S2x2048x2048 : Shape := ⟨3, ![2, 2048, 2048]⟩
abbrev S2x2048x1024 : Shape := ⟨3, ![2, 2048, 1024]⟩
abbrev S2x2048x8x256 : Shape := ⟨4, ![2, 2048, 8, 256]⟩
abbrev S2x2048x8x128 : Shape := ⟨4, ![2, 2048, 8, 128]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x8x2048x256 : Shape := ⟨4, ![2, 8, 2048, 256]⟩

abbrev nBuf : Space → Nat
  | .hbm => 104
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S2x2048x2048, .bf16⟩
  | .hbm, ⟨2, _⟩ => ⟨S2x2048x2048, .bf16⟩
  | .hbm, ⟨3, _⟩ => ⟨S2x2048x1024, .f32⟩
  | .hbm, ⟨4, _⟩ => ⟨S2x2048x8x256, .bf16⟩
  | .hbm, ⟨5, _⟩ => ⟨S2x2048x8x128, .bf16⟩
  | .hbm, ⟨6, _⟩ => ⟨S2x2048x1024, .bf16⟩
  | .hbm, ⟨7, _⟩ => ⟨S2x2048x2048, .f32⟩
  | .hbm, ⟨8, _⟩ => ⟨S2x2048x2048, .f32⟩
  | .hbm, ⟨9, _⟩ => ⟨S2x2048x1024, .f32⟩
  | .hbm, ⟨10, _⟩ => ⟨S2x2048x8x256, .f32⟩
  | .hbm, ⟨11, _⟩ => ⟨S2x2048x8x256, .f32⟩
  | .hbm, ⟨12, _⟩ => ⟨S2x2048x8x128, .f32⟩
  | .hbm, ⟨13, _⟩ => ⟨S2x8x2048x2048, .f32⟩
  | .hbm, ⟨14, _⟩ => ⟨S_, .f32⟩
  | .hbm, ⟨15, _⟩ => ⟨S2x8x2048x2048, .f32⟩
  | .hbm, ⟨16, _⟩ => ⟨S2x8x2048x2048, .f32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S2x8x2048x2048, .i1⟩
  | .hbm, ⟨27, _⟩ => ⟨S2x8x2048x2048, .f32⟩
  | .hbm, ⟨28, _⟩ => ⟨S2x8x2048x2048, .f32⟩
  | .hbm, ⟨29, _⟩ => ⟨S_, .f32⟩
  | .hbm, ⟨30, _⟩ => ⟨S2x8x2048x2048, .f32⟩
  | .hbm, ⟨31, _⟩ => ⟨S_, .f32⟩
  | .hbm, ⟨32, _⟩ => ⟨S2x8x2048, .f32⟩
  | .hbm, ⟨33, _⟩ => ⟨S2x8x2048x1, .f32⟩
  | .hbm, ⟨34, _⟩ => ⟨S2x8x2048x2048, .f32⟩
  | .hbm, ⟨35, _⟩ => ⟨S2x8x2048x2048, .i1⟩
  | .hbm, ⟨36, _⟩ => ⟨S2x8x2048x2048, .f32⟩
  | .hbm, ⟨37, _⟩ => ⟨S_, .f32⟩
  | .hbm, ⟨38, _⟩ => ⟨S2x8x2048, .f32⟩
  | .hbm, ⟨39, _⟩ => ⟨S_, .f32⟩
  | .hbm, ⟨40, _⟩ => ⟨S2x8x2048, .f32⟩
  | .hbm, ⟨41, _⟩ => ⟨S2x8x2048, .f32⟩
  | .hbm, ⟨42, _⟩ => ⟨S_, .f32⟩
  | .hbm, ⟨43, _⟩ => ⟨S2x8x2048, .f32⟩
  | .hbm, ⟨44, _⟩ => ⟨S2x8x2048, .i1⟩
  | .hbm, ⟨45, _⟩ => ⟨S_, .f32⟩
  | .hbm, ⟨46, _⟩ => ⟨S2x8x2048, .f32⟩
  | .hbm, ⟨47, _⟩ => ⟨S2x8x2048, .i1⟩
  | .hbm, ⟨48, _⟩ => ⟨S_, .f32⟩
  | .hbm, ⟨49, _⟩ => ⟨S2x8x2048, .f32⟩
  | .hbm, ⟨50, _⟩ => ⟨S_, .f32⟩
  | .hbm, ⟨51, _⟩ => ⟨S2x8x2048, .f32⟩
  | .hbm, ⟨52, _⟩ => ⟨S_, .f32⟩
  | .hbm, ⟨53, _⟩ => ⟨S2x8x2048, .f32⟩
  | .hbm, ⟨54, _⟩ => ⟨S2x8x2048, .f32⟩
  | .hbm, ⟨55, _⟩ => ⟨S2x8x2048, .f32⟩
  | .hbm, ⟨56, _⟩ => ⟨S2x8x2048x1, .f32⟩
  | .hbm, ⟨57, _⟩ => ⟨S2x8x2048x2048, .f32⟩
  | .hbm, ⟨58, _⟩ => ⟨S2x8x2048x2048, .f32⟩
  | .hbm, ⟨59, _⟩ => ⟨S2x8x2048x2048, .f32⟩
  | .hbm, ⟨60, _⟩ => ⟨S_, .f32⟩
  | .hbm, ⟨61, _⟩ => ⟨S2x8x2048, .f32⟩
  | .hbm, ⟨62, _⟩ => ⟨S2x8x2048x1, .f32⟩
  | .hbm, ⟨63, _⟩ => ⟨S2x8x2048x2048, .f32⟩
  | .hbm, ⟨64, _⟩ => ⟨S2x8x2048x2048, .f32⟩
  | .hbm, ⟨65, _⟩ => ⟨S2x8x2048x1, .f32⟩
  | .hbm, ⟨66, _⟩ => ⟨S_, .f32⟩
  | .hbm, ⟨67, _⟩ => ⟨S2x8x2048x1, .f32⟩
  | .hbm, ⟨68, _⟩ => ⟨S2x8x2048x1, .f32⟩
  | .hbm, ⟨69, _⟩ => ⟨S2x8x128x2048, .f32⟩
  | .hbm, ⟨70, _⟩ => ⟨S2x2048x8x128, .f32⟩
  | .hbm, ⟨71, _⟩ => ⟨S2x2048x1024, .f32⟩
  | .hbm, ⟨72, _⟩ => ⟨S2x2048x8x128, .f32⟩
  | .hbm, ⟨73, _⟩ => ⟨S2x8x128x2048, .f32⟩
  | .hbm, ⟨74, _⟩ => ⟨S2x8x2048x2048, .f32⟩
  | .hbm, ⟨75, _⟩ => ⟨S2x8x128x2048, .f32⟩
  | .hbm, ⟨76, _⟩ => ⟨S2x2048x8x128, .f32⟩
  | .hbm, ⟨77, _⟩ => ⟨S2x8x2048x2048, .f32⟩
  | .hbm, ⟨78, _⟩ => ⟨S2x8x2048x2048, .f32⟩
  | .hbm, ⟨79, _⟩ => ⟨S2x8x2048x2048, .f32⟩
  | .hbm, ⟨80, _⟩ => ⟨S_, .f32⟩
  | .hbm, ⟨81, _⟩ => ⟨S2x8x2048, .f32⟩
  | .hbm, ⟨82, _⟩ => ⟨S2x8x2048x1, .f32⟩
  | .hbm, ⟨83, _⟩ => ⟨S2x8x2048x1, .f32⟩
  | .hbm, ⟨84, _⟩ => ⟨S2x8x2048x2048, .f32⟩
  | .hbm, ⟨85, _⟩ => ⟨S2x8x2048x2048, .f32⟩
  | .hbm, ⟨86, _⟩ => ⟨S_, .f32⟩
  | .hbm, ⟨87, _⟩ => ⟨S2x8x2048, .f32⟩
  | .hbm, ⟨88, _⟩ => ⟨S2x8x2048x2048, .f32⟩
  | .hbm, ⟨89, _⟩ => ⟨S2x8x2048x2048, .f32⟩
  | .hbm, ⟨90, _⟩ => ⟨S2x8x2048x2048, .f32⟩
  | .hbm, ⟨91, _⟩ => ⟨S_, .f32⟩
  | .hbm, ⟨92, _⟩ => ⟨S2x8x2048x2048, .f32⟩
  | .hbm, ⟨93, _⟩ => ⟨S2x8x2048x2048, .f32⟩
  | .hbm, ⟨94, _⟩ => ⟨S_, .f32⟩
  | .hbm, ⟨95, _⟩ => ⟨S2x8x2048x2048, .f32⟩
  | .hbm, ⟨96, _⟩ => ⟨S2x8x2048x2048, .f32⟩
  | .hbm, ⟨97, _⟩ => ⟨S2x8x2048x256, .f32⟩
  | .hbm, ⟨98, _⟩ => ⟨S2x2048x8x256, .f32⟩
  | .hbm, ⟨99, _⟩ => ⟨S2x8x2048x256, .f32⟩
  | .hbm, ⟨100, _⟩ => ⟨S2x2048x8x256, .f32⟩
  | .hbm, ⟨101, _⟩ => ⟨S2x2048x1024, .f32⟩
  | .hbm, ⟨102, _⟩ => ⟨S2x2048x2048, .f32⟩
  | .hbm, ⟨103, _⟩ => ⟨S2x2048x2048, .f32⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_v19_1 : Ref sig .tc := ⟨.hbm, 26, rfl⟩
abbrev main_call0_v2 : Ref sig .tc := ⟨.hbm, 27, rfl⟩
abbrev main_v19_0 : Ref sig .tc := ⟨.hbm, 28, rfl⟩
abbrev main_call0_cst : Ref sig .tc := ⟨.hbm, 29, rfl⟩
abbrev main_v19_2 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_call1_cst : Ref sig .tc := ⟨.hbm, 91, rfl⟩
abbrev main_call1_v0 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== Kernel2.lean ====
abbrev S4096x2048 : Shape := ⟨2, ![4096, 2048]⟩
abbrev S1x4x2048x1408 : Shape := ⟨4, ![1, 4, 2048, 1408]⟩
abbrev S4096x5632 : Shape := ⟨2, ![4096, 5632]⟩
abbrev S512x2048 : Shape := ⟨2, ![512, 2048]⟩
abbrev S1x1x2048x1408 : Shape := ⟨4, ![1, 1, 2048, 1408]⟩
abbrev S512x1408 : Shape := ⟨2, ![512, 1408]⟩
abbrev S2048x1408 : Shape := ⟨2, ![2048, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S1x4x2048x1408, .bf16⟩
  | .hbm, ⟨2, _⟩ => ⟨S1x4x2048x1408, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1x2048x1408, .bf16⟩
  | .local _ .vmem, ⟨5, _⟩ => ⟨S1x1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x2048 : Shape := ⟨2, ![4096, 2048]⟩
abbrev S1x4x2048x1408 : Shape := ⟨4, ![1, 4, 2048, 1408]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S4096x5632 : Shape := ⟨2, ![4096, 5632]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x4x2048x1408, .bf16⟩
  | .hbm, ⟨2, _⟩ => ⟨S1x4x2048x1408, .bf16⟩
  | .hbm, ⟨3, _⟩ => ⟨S4096x2048, .f32⟩
  | .hbm, ⟨4, _⟩ => ⟨S4x2048x1408, .bf16⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S4x2048x1408, .bf16⟩
  | .hbm, ⟨9, _⟩ => ⟨S4x2048x1408, .f32⟩
  | .hbm, ⟨10, _⟩ => ⟨S2048x4x1408, .f32⟩
  | .hbm, ⟨11, _⟩ => ⟨S2048x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S_, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .bf16⟩
  | .hbm, ⟨25, _⟩ => ⟨S4096x5632, .bf16⟩
  | .hbm, ⟨26, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]
-- ==== Kernel3.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S5632x2048, .f32⟩
  | .hbm, ⟨21, _⟩ => ⟨S4096x2048, .f32⟩
  | .hbm, ⟨22, _⟩ => ⟨S4096x2048, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .bf16⟩
  | .hbm, ⟨31, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel4.lean ====
abbrev S4096x5632 : Shape := ⟨2, ![4096, 5632]⟩
abbrev S1x4x2048x1408 : Shape := ⟨4, ![1, 4, 2048, 1408]⟩
abbrev S4096x2048 : Shape := ⟨2, ![4096, 2048]⟩
abbrev S1024x1408 : Shape := ⟨2, ![1024, 1408]⟩
abbrev S1x1x1024x1408 : Shape := ⟨4, ![1, 1, 1024, 1408]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S1x4x2048x1408, .bf16⟩
  | .hbm, ⟨3, _⟩ => ⟨S1x4x2048x1408, .bf16⟩
  | .hbm, ⟨4, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_15 : BitVec 32 := 3#32
  let v17 : BitVec 1 := Scalar.cmpi .eq arg2 c3_i32_15
  let v18 : BitVec 32 := Scalar.extui v17
  let c0_i32_16 : BitVec 32 := 0#32
  let v19 : BitVec 1 := Scalar.cmpi .ne v18 c0_i32_16
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S4096x5632 : Shape := ⟨2, ![4096, 5632]⟩
abbrev S1x4x2048x1408 : Shape := ⟨4, ![1, 4, 2048, 1408]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S4096x2048 : Shape := ⟨2, ![4096, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S1x4x2048x1408, .bf16⟩
  | .hbm, ⟨3, _⟩ => ⟨S1x4x2048x1408, .bf16⟩
  | .hbm, ⟨4, _⟩ => ⟨S4x2048x1408, .bf16⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S4x2048x1408, .bf16⟩
  | .hbm, ⟨9, _⟩ => ⟨S4x2048x1408, .f32⟩
  | .hbm, ⟨10, _⟩ => ⟨S2048x4x1408, .f32⟩
  | .hbm, ⟨11, _⟩ => ⟨S2048x5632, .f32⟩
  | .hbm, ⟨12, _⟩ => ⟨S4096x5632, .f32⟩
  | .hbm, ⟨13, _⟩ => ⟨S4096x5632, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel5.lean ====
abbrev S4096x2048 : Shape := ⟨2, ![4096, 2048]⟩
abbrev S4096x5632 : Shape := ⟨2, ![4096, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S4096x5632 : Shape := ⟨2, ![4096, 5632]⟩
abbrev S5632x2048 : Shape := ⟨2, ![5632, 2048]⟩
abbrev S2048x5632 : Shape := ⟨2, ![2048, 5632]⟩
abbrev S2048x4x1408 : Shape := ⟨3, ![2048, 4, 1408]⟩
abbrev S4x2048x1408 : Shape := ⟨3, ![4, 2048, 1408]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S2048x5632, .f32⟩
  | .hbm, ⟨6, _⟩ => ⟨S2048x4x1408, .f32⟩
  | .hbm, ⟨7, _⟩ => ⟨S4x2048x1408, .f32⟩
  | .hbm, ⟨8, _⟩ => ⟨S4x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel6.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x5632 : Shape := ⟨2, ![4096, 5632]⟩
abbrev S4096x2048 : Shape := ⟨2, ![4096, 2048]⟩
abbrev S2048x5632 : Shape := ⟨2, ![2048, 5632]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S2048x5632, .f32⟩
  | .hbm, ⟨5, _⟩ => ⟨S5632x2048, .f32⟩
  | .hbm, ⟨6, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x2048 : Shape := ⟨2, ![4096, 2048]⟩
abbrev S2048x3840 : Shape := ⟨2, ![2048, 3840]⟩
abbrev S4096x3840 : Shape := ⟨2, ![4096, 3840]⟩
abbrev S2048x2048 : Shape := ⟨2, ![2048, 2048]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x3840, .bf16⟩
  | .hbm, ⟨2, _⟩ => ⟨S4096x3840, .f32⟩
  | .local _ .vmem, ⟨0, _⟩ => ⟨S2048x2048, .bf16⟩
  | .local _ .vmem, ⟨1, _⟩ => ⟨S2048x2048, .bf16⟩
  | .local _ .vmem, ⟨2, _⟩ => ⟨S2048x768, .bf16⟩
  | .local _ .vmem, ⟨3, _⟩ => ⟨S2048x768, .bf16⟩
  | .local _ .vmem, ⟨4, _⟩ => ⟨S2048x768, .f32⟩
  | .local _ .vmem, ⟨5, _⟩ => ⟨S2048x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x3840 : Shape := ⟨2, ![2048, 3840]⟩
abbrev S4096x3840 : Shape := ⟨2, ![4096, 3840]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3840, .bf16⟩
  | .hbm, ⟨2, _⟩ => ⟨S4096x2048, .f32⟩
  | .hbm, ⟨3, _⟩ => ⟨S2048x3840, .f32⟩
  | .hbm, ⟨4, _⟩ => ⟨S4096x3840, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4096x3840 : Shape := ⟨2, ![4096, 3840]⟩
abbrev S2048x3840 : Shape := ⟨2, ![2048, 3840]⟩
abbrev S4096x2048 : Shape := ⟨2, ![4096, 2048]⟩
abbrev S1024x1920 : Shape := ⟨2, ![1024, 1920]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3840, .bf16⟩
  | .hbm, ⟨1, _⟩ => ⟨S2048x3840, .bf16⟩
  | .hbm, ⟨2, _⟩ => ⟨S4096x2048, .f32⟩
  | .local _ .vmem, ⟨0, _⟩ => ⟨S1024x1920, .bf16⟩
  | .local _ .vmem, ⟨1, _⟩ => ⟨S1024x1920, .bf16⟩
  | .local _ .vmem, ⟨2, _⟩ => ⟨S1024x1920, .bf16⟩
  | .local _ .vmem, ⟨3, _⟩ => ⟨S1024x1920, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x3840 : Shape := ⟨2, ![4096, 3840]⟩
abbrev S2048x3840 : Shape := ⟨2, ![2048, 3840]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x3840, .bf16⟩
  | .hbm, ⟨1, _⟩ => ⟨S2048x3840, .bf16⟩
  | .hbm, ⟨2, _⟩ => ⟨S2048x3840, .f32⟩
  | .hbm, ⟨3, _⟩ => ⟨S4096x3840, .f32⟩
  | .hbm, ⟨4, _⟩ => ⟨S4096x2048, .f32⟩
  | _, _ => ⟨S4096x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S4096x2048 : Shape := ⟨2, ![4096, 2048]⟩
abbrev S4096x3840 : Shape := ⟨2, ![4096, 3840]⟩
abbrev S2048x3840 : Shape := ⟨2, ![2048, 3840]⟩
abbrev S2048x1024 : Shape := ⟨2, ![2048, 1024]⟩
abbrev S2048x1280 : Shape := ⟨2, ![2048, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x3840, .bf16⟩
  | .hbm, ⟨2, _⟩ => ⟨S2048x3840, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 2], ![false, false, false]⟩

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S4096x3840 : Shape := ⟨2, ![4096, 3840]⟩
abbrev S3840x2048 : Shape := ⟨2, ![3840, 2048]⟩
abbrev S2048x3840 : Shape := ⟨2, ![2048, 3840]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3840, .bf16⟩
  | .hbm, ⟨2, _⟩ => ⟨S4096x2048, .f32⟩
  | .hbm, ⟨3, _⟩ => ⟨S4096x3840, .f32⟩
  | .hbm, ⟨4, _⟩ => ⟨S3840x2048, .f32⟩
  | .hbm, ⟨5, _⟩ => ⟨S2048x3840, .f32⟩
  | .hbm, ⟨6, _⟩ => ⟨S2048x3840, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .f32⟩
  | .local _ .vmem, ⟨5, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S4096x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel14.lean ====
abbrev S4096x512 : Shape := ⟨2, ![4096, 512]⟩
abbrev S1x4x512x512 : Shape := ⟨4, ![1, 4, 512, 512]⟩
abbrev S4096x2048 : Shape := ⟨2, ![4096, 2048]⟩
abbrev S2048x512 : Shape := ⟨2, ![2048, 512]⟩
abbrev S1x1x512x512 : Shape := ⟨4, ![1, 1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S1x4x512x512, .bf16⟩
  | .hbm, ⟨2, _⟩ => ⟨S4096x2048, .f32⟩
  | .local _ .vmem, ⟨0, _⟩ => ⟨S2048x512, .bf16⟩
  | .local _ .vmem, ⟨1, _⟩ => ⟨S2048x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S2048x512, .f32⟩
  | .local _ .vmem, ⟨5, _⟩ => ⟨S2048x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x512 : Shape := ⟨2, ![4096, 512]⟩
abbrev S1x4x512x512 : Shape := ⟨4, ![1, 4, 512, 512]⟩
abbrev S4x512x512 : Shape := ⟨3, ![4, 512, 512]⟩
abbrev S512x4x512 : Shape := ⟨3, ![512, 4, 512]⟩
abbrev S512x2048 : Shape := ⟨2, ![512, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S1x4x512x512, .bf16⟩
  | .hbm, ⟨2, _⟩ => ⟨S4096x512, .f32⟩
  | .hbm, ⟨3, _⟩ => ⟨S4x512x512, .bf16⟩
  | .hbm, ⟨4, _⟩ => ⟨S4x512x512, .f32⟩
  | .hbm, ⟨5, _⟩ => ⟨S512x4x512, .f32⟩
  | .hbm, ⟨6, _⟩ => ⟨S512x2048, .f32⟩
  | .hbm, ⟨7, _⟩ => ⟨S4096x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel15.lean ====
abbrev S4096x2048 : Shape := ⟨2, ![4096, 2048]⟩
abbrev S1x4x512x512 : Shape := ⟨4, ![1, 4, 512, 512]⟩
abbrev S4096x512 : Shape := ⟨2, ![4096, 512]⟩
abbrev S2048x512 : Shape := ⟨2, ![2048, 512]⟩
abbrev S1x1x512x512 : Shape := ⟨4, ![1, 1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1x4x512x512, .bf16⟩
  | .hbm, ⟨2, _⟩ => ⟨S4096x512, .f32⟩
  | .local _ .vmem, ⟨0, _⟩ => ⟨S2048x512, .bf16⟩
  | .local _ .vmem, ⟨1, _⟩ => ⟨S2048x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S1x4x512x512 : Shape := ⟨4, ![1, 4, 512, 512]⟩
abbrev S4x512x512 : Shape := ⟨3, ![4, 512, 512]⟩
abbrev S512x4x512 : Shape := ⟨3, ![512, 4, 512]⟩
abbrev S512x2048 : Shape := ⟨2, ![512, 2048]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x4x512x512, .bf16⟩
  | .hbm, ⟨2, _⟩ => ⟨S4x512x512, .bf16⟩
  | .hbm, ⟨3, _⟩ => ⟨S4x512x512, .f32⟩
  | .hbm, ⟨4, _⟩ => ⟨S512x4x512, .f32⟩
  | .hbm, ⟨5, _⟩ => ⟨S512x2048, .f32⟩
  | .hbm, ⟨6, _⟩ => ⟨S4096x2048, .f32⟩
  | .hbm, ⟨7, _⟩ => ⟨S4096x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel16.lean ====
abbrev S4096x512 : Shape := ⟨2, ![4096, 512]⟩
abbrev S4096x2048 : Shape := ⟨2, ![4096, 2048]⟩
abbrev S4x512x512 : Shape := ⟨3, ![4, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S4x512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x512 : Shape := ⟨2, ![4096, 512]⟩
abbrev S4096x2048 : Shape := ⟨2, ![4096, 2048]⟩
abbrev S2048x512 : Shape := ⟨2, ![2048, 512]⟩
abbrev S512x2048 : Shape := ⟨2, ![512, 2048]⟩
abbrev S512x4x512 : Shape := ⟨3, ![512, 4, 512]⟩
abbrev S4x512x512 : Shape := ⟨3, ![4, 512, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S4096x512, .f32⟩
  | .hbm, ⟨3, _⟩ => ⟨S4096x2048, .f32⟩
  | .hbm, ⟨4, _⟩ => ⟨S2048x512, .f32⟩
  | .hbm, ⟨5, _⟩ => ⟨S512x2048, .f32⟩
  | .hbm, ⟨6, _⟩ => ⟨S512x4x512, .f32⟩
  | .hbm, ⟨7, _⟩ => ⟨S4x512x512, .f32⟩
  | .hbm, ⟨8, _⟩ => ⟨S4x512x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel17.lean ====
abbrev S4096x2048 : Shape := ⟨2, ![4096, 2048]⟩
abbrev S2048x512 : Shape := ⟨2, ![2048, 512]⟩
abbrev S4096x512 : Shape := ⟨2, ![4096, 512]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x512, .bf16⟩
  | .hbm, ⟨2, _⟩ => ⟨S4096x512, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S2048x512 : Shape := ⟨2, ![2048, 512]⟩
abbrev S4096x512 : Shape := ⟨2, ![4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x512, .bf16⟩
  | .hbm, ⟨2, _⟩ => ⟨S4096x2048, .f32⟩
  | .hbm, ⟨3, _⟩ => ⟨S2048x512, .f32⟩
  | .hbm, ⟨4, _⟩ => ⟨S4096x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S4096x512 : Shape := ⟨2, ![4096, 512]⟩
abbrev S2048x512 : Shape := ⟨2, ![2048, 512]⟩
abbrev S4096x2048 : Shape := ⟨2, ![4096, 2048]⟩
abbrev S1024x512 : Shape := ⟨2, ![1024, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S2048x512, .bf16⟩
  | .hbm, ⟨2, _⟩ => ⟨S4096x2048, .f32⟩
  | .local _ .vmem, ⟨0, _⟩ => ⟨S2048x512, .f32⟩
  | .local _ .vmem, ⟨1, _⟩ => ⟨S2048x512, .f32⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x512 : Shape := ⟨2, ![4096, 512]⟩
abbrev S2048x512 : Shape := ⟨2, ![2048, 512]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S2048x512, .bf16⟩
  | .hbm, ⟨2, _⟩ => ⟨S2048x512, .f32⟩
  | .hbm, ⟨3, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S4096x2048 : Shape := ⟨2, ![4096, 2048]⟩
abbrev S4096x512 : Shape := ⟨2, ![4096, 512]⟩
abbrev S2048x512 : Shape := ⟨2, ![2048, 512]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x512, .f32⟩
  | .hbm, ⟨2, _⟩ => ⟨S2048x512, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .bf16⟩
  | .local _ .vmem, ⟨5, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v7 : BitVec 1 := Scalar.cmpi .eq arg2 c1_i32
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S4096x2048 : Shape := ⟨2, ![4096, 2048]⟩
abbrev S4096x512 : Shape := ⟨2, ![4096, 512]⟩
abbrev S512x2048 : Shape := ⟨2, ![512, 2048]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .f32⟩
  | .hbm, ⟨2, _⟩ => ⟨S4096x2048, .f32⟩
  | .hbm, ⟨3, _⟩ => ⟨S512x2048, .f32⟩
  | .hbm, ⟨4, _⟩ => ⟨S2048x512, .f32⟩
  | .hbm, ⟨5, _⟩ => ⟨S2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S4096x512 : Shape := ⟨2, ![4096, 512]⟩
abbrev S1x4x512x512 : Shape := ⟨4, ![1, 4, 512, 512]⟩
abbrev S4096x2048 : Shape := ⟨2, ![4096, 2048]⟩
abbrev S2048x512 : Shape := ⟨2, ![2048, 512]⟩
abbrev S1x1x512x512 : Shape := ⟨4, ![1, 1, 512, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S1x4x512x512, .bf16⟩
  | .hbm, ⟨2, _⟩ => ⟨S4096x2048, .f32⟩
  | .hbm, ⟨3, _⟩ => ⟨S4096x2048, .f32⟩
  | .local _ .vmem, ⟨0, _⟩ => ⟨S2048x512, .bf16⟩
  | .local _ .vmem, ⟨1, _⟩ => ⟨S2048x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S4096x512 : Shape := ⟨2, ![4096, 512]⟩
abbrev S1x4x512x512 : Shape := ⟨4, ![1, 4, 512, 512]⟩
abbrev S4096x2048 : Shape := ⟨2, ![4096, 2048]⟩
abbrev S4x512x512 : Shape := ⟨3, ![4, 512, 512]⟩
abbrev S512x4x512 : Shape := ⟨3, ![512, 4, 512]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S1x4x512x512, .bf16⟩
  | .hbm, ⟨2, _⟩ => ⟨S4096x2048, .f32⟩
  | .hbm, ⟨3, _⟩ => ⟨S4096x512, .f32⟩
  | .hbm, ⟨4, _⟩ => ⟨S4x512x512, .bf16⟩
  | .hbm, ⟨5, _⟩ => ⟨S4x512x512, .f32⟩
  | .hbm, ⟨6, _⟩ => ⟨S512x4x512, .f32⟩
  | .hbm, ⟨7, _⟩ => ⟨S512x2048, .f32⟩
  | .hbm, ⟨8, _⟩ => ⟨S4096x2048, .f32⟩
  | .hbm, ⟨9, _⟩ => ⟨S4096x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S2x2048x512 : Shape := ⟨3, ![2, 2048, 512]⟩
abbrev S2x256x512 : Shape := ⟨3, ![2, 256, 512]⟩
abbrev S1x2048x128 : Shape := ⟨3, ![1, 2048, 128]⟩
abbrev S1x256x128 : Shape := ⟨3, ![1, 256, 128]⟩
abbrev S2048x128 : Shape := ⟨2, ![2048, 128]⟩
abbrev S256x128 : Shape := ⟨2, ![256, 128]⟩
abbrev S2048x256 : Shape := ⟨2, ![2048, 256]⟩
abbrev S2048 : Shape := ⟨1, ![2048]⟩
abbrev S2048x1 : Shape := ⟨2, ![2048, 1]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x512, .bf16⟩
  | .hbm, ⟨1, _⟩ => ⟨S2x256x512, .bf16⟩
  | .hbm, ⟨2, _⟩ => ⟨S2x256x512, .bf16⟩
  | .hbm, ⟨3, _⟩ => ⟨S2x2048x512, .f32⟩
  | .hbm, ⟨4, _⟩ => ⟨S2x2048x512, .f32⟩
  | .hbm, ⟨5, _⟩ => ⟨S2x256x512, .f32⟩
  | .hbm, ⟨6, _⟩ => ⟨S2x256x512, .f32⟩
  | .local _ .vmem, ⟨0, _⟩ => ⟨S1x2048x128, .bf16⟩
  | .local _ .vmem, ⟨1, _⟩ => ⟨S1x2048x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | _, _ => ⟨S2x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference21Ideal.lean ====
abbrev S2x2048x512 : Shape := ⟨3, ![2, 2048, 512]⟩
abbrev S2x256x512 : Shape := ⟨3, ![2, 256, 512]⟩
abbrev S2x2048x4x128 : Shape := ⟨4, ![2, 2048, 4, 128]⟩
abbrev S2x256x4x128 : Shape := ⟨4, ![2, 256, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x128x256 : Shape := ⟨4, ![2, 4, 128, 256]⟩
abbrev S2x4x256x128 : Shape := ⟨4, ![2, 4, 256, 128]⟩
abbrev S2x4x2048x128 : Shape := ⟨4, ![2, 4, 2048, 128]⟩

abbrev nBuf : Space → Nat
  | .hbm => 84
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S2x256x512, .bf16⟩
  | .hbm, ⟨2, _⟩ => ⟨S2x256x512, .bf16⟩
  | .hbm, ⟨3, _⟩ => ⟨S2x2048x512, .f32⟩
  | .hbm, ⟨4, _⟩ => ⟨S2x2048x512, .f32⟩
  | .hbm, ⟨5, _⟩ => ⟨S2x256x512, .f32⟩
  | .hbm, ⟨6, _⟩ => ⟨S2x256x512, .f32⟩
  | .hbm, ⟨7, _⟩ => ⟨S2x2048x4x128, .f32⟩
  | .hbm, ⟨8, _⟩ => ⟨S2x256x4x128, .f32⟩
  | .hbm, ⟨9, _⟩ => ⟨S2x256x4x128, .f32⟩
  | .hbm, ⟨10, _⟩ => ⟨S2x4x2048x256, .f32⟩
  | .hbm, ⟨11, _⟩ => ⟨S_, .f32⟩
  | .hbm, ⟨12, _⟩ => ⟨S2x4x2048x256, .f32⟩
  | .hbm, ⟨13, _⟩ => ⟨S2x4x2048x256, .f32⟩
  | .hbm, ⟨14, _⟩ => ⟨S_, .f32⟩
  | .hbm, ⟨15, _⟩ => ⟨S2x4x2048, .f32⟩
  | .hbm, ⟨16, _⟩ => ⟨S2x4x2048x1, .f32⟩
  | .hbm, ⟨17, _⟩ => ⟨S2x4x2048x256, .f32⟩
  | .hbm, ⟨18, _⟩ => ⟨S2x4x2048x256, .i1⟩
  | .hbm, ⟨19, _⟩ => ⟨S2x4x2048x256, .f32⟩
  | .hbm, ⟨20, _⟩ => ⟨S_, .f32⟩
  | .hbm, ⟨21, _⟩ => ⟨S2x4x2048, .f32⟩
  | .hbm, ⟨22, _⟩ => ⟨S_, .f32⟩
  | .hbm, ⟨23, _⟩ => ⟨S2x4x2048, .f32⟩
  | .hbm, ⟨24, _⟩ => ⟨S2x4x2048, .f32⟩
  | .hbm, ⟨25, _⟩ => ⟨S_, .f32⟩
  | .hbm, ⟨26, _⟩ => ⟨S2x4x2048, .f32⟩
  | .hbm, ⟨27, _⟩ => ⟨S2x4x2048, .i1⟩
  | .hbm, ⟨28, _⟩ => ⟨S_, .f32⟩
  | .hbm, ⟨29, _⟩ => ⟨S2x4x2048, .f32⟩
  | .hbm, ⟨30, _⟩ => ⟨S2x4x2048, .i1⟩
  | .hbm, ⟨31, _⟩ => ⟨S_, .f32⟩
  | .hbm, ⟨32, _⟩ => ⟨S2x4x2048, .f32⟩
  | .hbm, ⟨33, _⟩ => ⟨S_, .f32⟩
  | .hbm, ⟨34, _⟩ => ⟨S2x4x2048, .f32⟩
  | .hbm, ⟨35, _⟩ => ⟨S_, .f32⟩
  | .hbm, ⟨36, _⟩ => ⟨S2x4x2048, .f32⟩
  | .hbm, ⟨37, _⟩ => ⟨S2x4x2048, .f32⟩
  | .hbm, ⟨38, _⟩ => ⟨S2x4x2048, .f32⟩
  | .hbm, ⟨39, _⟩ => ⟨S2x4x2048x1, .f32⟩
  | .hbm, ⟨40, _⟩ => ⟨S2x4x2048x256, .f32⟩
  | .hbm, ⟨41, _⟩ => ⟨S2x4x2048x256, .f32⟩
  | .hbm, ⟨42, _⟩ => ⟨S2x4x2048x256, .f32⟩
  | .hbm, ⟨43, _⟩ => ⟨S_, .f32⟩
  | .hbm, ⟨44, _⟩ => ⟨S2x4x2048, .f32⟩
  | .hbm, ⟨45, _⟩ => ⟨S2x4x2048x1, .f32⟩
  | .hbm, ⟨46, _⟩ => ⟨S2x4x2048x256, .f32⟩
  | .hbm, ⟨47, _⟩ => ⟨S2x4x2048x256, .f32⟩
  | .hbm, ⟨48, _⟩ => ⟨S2x4x2048x1, .f32⟩
  | .hbm, ⟨49, _⟩ => ⟨S_, .f32⟩
  | .hbm, ⟨50, _⟩ => ⟨S2x4x2048x1, .f32⟩
  | .hbm, ⟨51, _⟩ => ⟨S2x4x2048x1, .f32⟩
  | .hbm, ⟨52, _⟩ => ⟨S2x4x128x2048, .f32⟩
  | .hbm, ⟨53, _⟩ => ⟨S2x2048x4x128, .f32⟩
  | .hbm, ⟨54, _⟩ => ⟨S2x2048x512, .f32⟩
  | .hbm, ⟨55, _⟩ => ⟨S2x2048x4x128, .f32⟩
  | .hbm, ⟨56, _⟩ => ⟨S2x4x128x2048, .f32⟩
  | .hbm, ⟨57, _⟩ => ⟨S2x4x2048x256, .f32⟩
  | .hbm, ⟨58, _⟩ => ⟨S2x4x128x256, .f32⟩
  | .hbm, ⟨59, _⟩ => ⟨S2x256x4x128, .f32⟩
  | .hbm, ⟨60, _⟩ => ⟨S2x4x2048x256, .f32⟩
  | .hbm, ⟨61, _⟩ => ⟨S2x4x2048x256, .f32⟩
  | .hbm, ⟨62, _⟩ => ⟨S2x4x2048x256, .f32⟩
  | .hbm, ⟨63, _⟩ => ⟨S_, .f32⟩
  | .hbm, ⟨64, _⟩ => ⟨S2x4x2048, .f32⟩
  | .hbm, ⟨65, _⟩ => ⟨S2x4x2048x1, .f32⟩
  | .hbm, ⟨66, _⟩ => ⟨S2x4x2048x1, .f32⟩
  | .hbm, ⟨67, _⟩ => ⟨S2x4x2048x256, .f32⟩
  | .hbm, ⟨68, _⟩ => ⟨S2x4x2048x256, .f32⟩
  | .hbm, ⟨69, _⟩ => ⟨S_, .f32⟩
  | .hbm, ⟨70, _⟩ => ⟨S2x4x2048, .f32⟩
  | .hbm, ⟨71, _⟩ => ⟨S2x4x2048x256, .f32⟩
  | .hbm, ⟨72, _⟩ => ⟨S2x4x2048x256, .f32⟩
  | .hbm, ⟨73, _⟩ => ⟨S2x4x2048x256, .f32⟩
  | .hbm, ⟨74, _⟩ => ⟨S_, .f32⟩
  | .hbm, ⟨75, _⟩ => ⟨S2x4x2048x256, .f32⟩
  | .hbm, ⟨76, _⟩ => ⟨S2x4x2048x256, .f32⟩
  | .hbm, ⟨77, _⟩ => ⟨S2x4x256x128, .f32⟩
  | .hbm, ⟨78, _⟩ => ⟨S2x256x4x128, .f32⟩
  | .hbm, ⟨79, _⟩ => ⟨S2x4x2048x128, .f32⟩
  | .hbm, ⟨80, _⟩ => ⟨S2x2048x4x128, .f32⟩
  | .hbm, ⟨81, _⟩ => ⟨S2x256x512, .f32⟩
  | .hbm, ⟨82, _⟩ => ⟨S2x256x512, .f32⟩
  | .hbm, ⟨83, _⟩ => ⟨S2x2048x512, .f32⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Kernel22.lean ====
abbrev S2x2048x512 : Shape := ⟨3, ![2, 2048, 512]⟩
abbrev S2x256x512 : Shape := ⟨3, ![2, 256, 512]⟩
abbrev S1x2048x128 : Shape := ⟨3, ![1, 2048, 128]⟩
abbrev S1x256x128 : Shape := ⟨3, ![1, 256, 128]⟩
abbrev S2048x128 : Shape := ⟨2, ![2048, 128]⟩
abbrev S256x128 : Shape := ⟨2, ![256, 128]⟩
abbrev S2048x256 : Shape := ⟨2, ![2048, 256]⟩
abbrev S2048 : Shape := ⟨1, ![2048]⟩
abbrev S2048x1 : Shape := ⟨2, ![2048, 1]⟩

abbrev nBuf : Space → Nat
  | .hbm => 4
  | .vmem => 8
  | .smem => 0
  | _ => 0

abbrev bufTy : (tb : Table) → Fin (tcTables nBuf tb) → BufTy
  | .hbm, ⟨0, _⟩ => ⟨S2x2048x512, .bf16⟩
  | .hbm, ⟨1, _⟩ => ⟨S2x256x512, .bf16⟩
  | .hbm, ⟨2, _⟩ => ⟨S2x256x512, .bf16⟩
  | .hbm, ⟨3, _⟩ => ⟨S2x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x2048x128, .bf16⟩
  | .local _ .vmem, ⟨7, _⟩ => ⟨S1x2048x128, .bf16⟩
  | _, _ => ⟨S2x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference22Ideal.lean ====
abbrev S2x2048x512 : Shape := ⟨3, ![2, 2048, 512]⟩
abbrev S2x256x512 : Shape := ⟨3, ![2, 256, 512]⟩
abbrev S2x2048x4x128 : Shape := ⟨4, ![2, 2048, 4, 128]⟩
abbrev S2x256x4x128 : Shape := ⟨4, ![2, 256, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S2x256x512, .bf16⟩
  | .hbm, ⟨2, _⟩ => ⟨S2x256x512, .bf16⟩
  | .hbm, ⟨3, _⟩ => ⟨S2x2048x512, .f32⟩
  | .hbm, ⟨4, _⟩ => ⟨S2x256x512, .f32⟩
  | .hbm, ⟨5, _⟩ => ⟨S2x256x512, .f32⟩
  | .hbm, ⟨6, _⟩ => ⟨S2x2048x4x128, .f32⟩
  | .hbm, ⟨7, _⟩ => ⟨S2x256x4x128, .f32⟩
  | .hbm, ⟨8, _⟩ => ⟨S2x256x4x128, .f32⟩
  | .hbm, ⟨9, _⟩ => ⟨S2x4x2048x256, .f32⟩
  | .hbm, ⟨10, _⟩ => ⟨S_, .f32⟩
  | .hbm, ⟨11, _⟩ => ⟨S2x4x2048x256, .f32⟩
  | .hbm, ⟨12, _⟩ => ⟨S2x4x2048x256, .f32⟩
  | .hbm, ⟨13, _⟩ => ⟨S_, .f32⟩
  | .hbm, ⟨14, _⟩ => ⟨S2x4x2048, .f32⟩
  | .hbm, ⟨15, _⟩ => ⟨S_, .f32⟩
  | .hbm, ⟨16, _⟩ => ⟨S2x4x2048, .f32⟩
  | .hbm, ⟨17, _⟩ => ⟨S2x4x2048, .f32⟩
  | .hbm, ⟨18, _⟩ => ⟨S2x4x2048x1, .f32⟩
  | .hbm, ⟨19, _⟩ => ⟨S2x4x2048x256, .f32⟩
  | .hbm, ⟨20, _⟩ => ⟨S2x4x2048x256, .f32⟩
  | .hbm, ⟨21, _⟩ => ⟨S2x4x2048x256, .f32⟩
  | .hbm, ⟨22, _⟩ => ⟨S_, .f32⟩
  | .hbm, ⟨23, _⟩ => ⟨S2x4x2048, .f32⟩
  | .hbm, ⟨24, _⟩ => ⟨S2x4x2048x1, .f32⟩
  | .hbm, ⟨25, _⟩ => ⟨S2x4x2048x256, .f32⟩
  | .hbm, ⟨26, _⟩ => ⟨S2x4x2048x256, .f32⟩
  | .hbm, ⟨27, _⟩ => ⟨S2x4x128x2048, .f32⟩
  | .hbm, ⟨28, _⟩ => ⟨S2x2048x4x128, .f32⟩
  | .hbm, ⟨29, _⟩ => ⟨S2x2048x512, .f32⟩
  | .hbm, ⟨30, _⟩ => ⟨S2x2048x512, .bf16⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel23.lean ====
abbrev S2x2048x2048 : Shape := ⟨3, ![2, 2048, 2048]⟩
abbrev S2x2048x1024 : Shape := ⟨3, ![2, 2048, 1024]⟩
abbrev S1x512x256 : Shape := ⟨3, ![1, 512, 256]⟩
abbrev S1x2048x256 : Shape := ⟨3, ![1, 2048, 256]⟩
abbrev S1x2048x128 : Shape := ⟨3, ![1, 2048, 128]⟩
abbrev S1x512x128 : Shape := ⟨3, ![1, 512, 128]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S1x1024x256 : Shape := ⟨3, ![1, 1024, 256]⟩
abbrev S1024x256 : Shape := ⟨2, ![1024, 256]⟩
abbrev S512x1024 : Shape := ⟨2, ![512, 1024]⟩
abbrev S1x1024x128 : Shape := ⟨3, ![1, 1024, 128]⟩
abbrev S1024x128 : Shape := ⟨2, ![1024, 128]⟩
abbrev S1x1536x256 : Shape := ⟨3, ![1, 1536, 256]⟩
abbrev S1536x256 : Shape := ⟨2, ![1536, 256]⟩
abbrev S512x1536 : Shape := ⟨2, ![512, 1536]⟩
abbrev S1x1536x128 : Shape := ⟨3, ![1, 1536, 128]⟩
abbrev S1536x128 : Shape := ⟨2, ![1536, 128]⟩
abbrev S2048x256 : Shape := ⟨2, ![2048, 256]⟩
abbrev S512x2048 : Shape := ⟨2, ![512, 2048]⟩
abbrev S2048x128 : Shape := ⟨2, ![2048, 128]⟩

abbrev nBuf : Space → Nat
  | .hbm => 4
  | .vmem => 8
  | .smem => 0
  | _ => 0

abbrev bufTy : (tb : Table) → Fin (tcTables nBuf tb) → BufTy
  | .hbm, ⟨0, _⟩ => ⟨S2x2048x2048, .bf16⟩
  | .hbm, ⟨1, _⟩ => ⟨S2x2048x2048, .bf16⟩
  | .hbm, ⟨2, _⟩ => ⟨S2x2048x2048, .bf16⟩
  | .hbm, ⟨3, _⟩ => ⟨S2x2048x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x512x128, .bf16⟩
  | .local _ .vmem, ⟨7, _⟩ => ⟨S1x512x128, .bf16⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, c0_i32.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel23Ideal.lean ====
variable {F : FTy → Type} [FloatOps F] [Named F]
def κ : String → Option EReal := fun
  | "mask" => some ⊥
  | _ => none
-- ==== Reference23Ideal.lean ====
abbrev S2x2048x2048 : Shape := ⟨3, ![2, 2048, 2048]⟩
abbrev S2x2048x8x256 : Shape := ⟨4, ![2, 2048, 8, 256]⟩
abbrev S2x2048x8x128 : Shape := ⟨4, ![2, 2048, 8, 128]⟩
abbrev S2x2048x1024 : Shape := ⟨3, ![2, 2048, 1024]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩

abbrev nBuf : Space → Nat
  | .hbm => 46
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S2x2048x2048, .bf16⟩
  | .hbm, ⟨2, _⟩ => ⟨S2x2048x2048, .bf16⟩
  | .hbm, ⟨3, _⟩ => ⟨S2x2048x8x256, .bf16⟩
  | .hbm, ⟨4, _⟩ => ⟨S2x2048x8x128, .bf16⟩
  | .hbm, ⟨5, _⟩ => ⟨S2x2048x1024, .bf16⟩
  | .hbm, ⟨6, _⟩ => ⟨S2x2048x2048, .f32⟩
  | .hbm, ⟨7, _⟩ => ⟨S2x2048x2048, .f32⟩
  | .hbm, ⟨8, _⟩ => ⟨S2x2048x1024, .f32⟩
  | .hbm, ⟨9, _⟩ => ⟨S2x2048x8x256, .f32⟩
  | .hbm, ⟨10, _⟩ => ⟨S2x2048x8x256, .f32⟩
  | .hbm, ⟨11, _⟩ => ⟨S2x2048x8x128, .f32⟩
  | .hbm, ⟨12, _⟩ => ⟨S2x8x2048x2048, .f32⟩
  | .hbm, ⟨13, _⟩ => ⟨S_, .f32⟩
  | .hbm, ⟨14, _⟩ => ⟨S2x8x2048x2048, .f32⟩
  | .hbm, ⟨15, _⟩ => ⟨S2x8x2048x2048, .f32⟩
  | .hbm, ⟨16, _⟩ => ⟨S2048, .i32⟩
  | .hbm, ⟨17, _⟩ => ⟨S2048x1, .i32⟩
  | .hbm, ⟨18, _⟩ => ⟨S2048, .i32⟩
  | .hbm, ⟨19, _⟩ => ⟨S1x2048, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S_, .f32⟩
  | .hbm, ⟨24, _⟩ => ⟨S_, .f32⟩
  | .hbm, ⟨25, _⟩ => ⟨S2x8x2048x2048, .i1⟩
  | .hbm, ⟨26, _⟩ => ⟨S2x8x2048x2048, .f32⟩
  | .hbm, ⟨27, _⟩ => ⟨S2x8x2048x2048, .f32⟩
  | .hbm, ⟨28, _⟩ => ⟨S_, .f32⟩
  | .hbm, ⟨29, _⟩ => ⟨S2x8x2048, .f32⟩
  | .hbm, ⟨30, _⟩ => ⟨S_, .f32⟩
  | .hbm, ⟨31, _⟩ => ⟨S2x8x2048, .f32⟩
  | .hbm, ⟨32, _⟩ => ⟨S2x8x2048, .f32⟩
  | .hbm, ⟨33, _⟩ => ⟨S2x8x2048x1, .f32⟩
  | .hbm, ⟨34, _⟩ => ⟨S2x8x2048x2048, .f32⟩
  | .hbm, ⟨35, _⟩ => ⟨S2x8x2048x2048, .f32⟩
  | .hbm, ⟨36, _⟩ => ⟨S2x8x2048x2048, .f32⟩
  | .hbm, ⟨37, _⟩ => ⟨S_, .f32⟩
  | .hbm, ⟨38, _⟩ => ⟨S2x8x2048, .f32⟩
  | .hbm, ⟨39, _⟩ => ⟨S2x8x2048x1, .f32⟩
  | .hbm, ⟨40, _⟩ => ⟨S2x8x2048x2048, .f32⟩
  | .hbm, ⟨41, _⟩ => ⟨S2x8x2048x2048, .f32⟩
  | .hbm, ⟨42, _⟩ => ⟨S2x8x128x2048, .f32⟩
  | .hbm, ⟨43, _⟩ => ⟨S2x2048x8x128, .f32⟩
  | .hbm, ⟨44, _⟩ => ⟨S2x2048x1024, .f32⟩
  | .hbm, ⟨45, _⟩ => ⟨S2x2048x1024, .bf16⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel24.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .hbm, ⟨7, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .bf16⟩
  | .local _ .vmem, ⟨11, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference24Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | .hbm, ⟨51, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel25.lean ====
abbrev S4096x512 : Shape := ⟨2, ![4096, 512]⟩
abbrev S512 : Shape := ⟨1, ![512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S4096x512, .f32⟩
  | .hbm, ⟨3, _⟩ => ⟨S1x512, .f32⟩
  | .hbm, ⟨4, _⟩ => ⟨S4096x512, .f32⟩
  | .hbm, ⟨5, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference25Ideal.lean ====
abbrev S4096x512 : Shape := ⟨2, ![4096, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x512 : Shape := ⟨2, ![1, 512]⟩

abbrev nBuf : Space → Nat
  | .hbm => 49
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S4096x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x512, .f32⟩
  | .hbm, ⟨19, _⟩ => ⟨S4096x512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S512, .f32⟩
  | .hbm, ⟨31, _⟩ => ⟨S4096x512, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x512, .f32⟩
  | .hbm, ⟨36, _⟩ => ⟨S4096x512, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel26.lean ====
abbrev S4096x512 : Shape := ⟨2, ![4096, 512]⟩
abbrev S128 : Shape := ⟨1, ![128]⟩
abbrev S1x128 : Shape := ⟨2, ![1, 128]⟩
abbrev S4096x128 : Shape := ⟨2, ![4096, 128]⟩
abbrev S4096 : Shape := ⟨1, ![4096]⟩
abbrev S4096x1 : Shape := ⟨2, ![4096, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S128, .f32⟩
  | .hbm, ⟨2, _⟩ => ⟨S4096x512, .f32⟩
  | .hbm, ⟨3, _⟩ => ⟨S1x128, .f32⟩
  | .hbm, ⟨4, _⟩ => ⟨S4096x512, .f32⟩
  | .hbm, ⟨5, _⟩ => ⟨S1x128, .f32⟩
  | .local _ .vmem, ⟨0, _⟩ => ⟨S4096x128, .f32⟩
  | .local _ .vmem, ⟨1, _⟩ => ⟨S4096x128, .f32⟩
  | .local _ .vmem, ⟨2, _⟩ => ⟨S1x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference26Ideal.lean ====
abbrev S4096x512 : Shape := ⟨2, ![4096, 512]⟩
abbrev S128 : Shape := ⟨1, ![128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S128, .f32⟩
  | .hbm, ⟨2, _⟩ => ⟨S4096x512, .f32⟩
  | .hbm, ⟨3, _⟩ => ⟨S4096x4x128, .f32⟩
  | .hbm, ⟨4, _⟩ => ⟨S4096x4x128, .f32⟩
  | .hbm, ⟨5, _⟩ => ⟨S_, .f32⟩
  | .hbm, ⟨6, _⟩ => ⟨S4096x4, .f32⟩
  | .hbm, ⟨7, _⟩ => ⟨S4096x4x1, .f32⟩
  | .hbm, ⟨8, _⟩ => ⟨S_, .f32⟩
  | .hbm, ⟨9, _⟩ => ⟨S4096x4x1, .f32⟩
  | .hbm, ⟨10, _⟩ => ⟨S4096x4x1, .f32⟩
  | .hbm, ⟨11, _⟩ => ⟨S_, .f32⟩
  | .hbm, ⟨12, _⟩ => ⟨S4096x4x1, .f32⟩
  | .hbm, ⟨13, _⟩ => ⟨S4096x4x1, .f32⟩
  | .hbm, ⟨14, _⟩ => ⟨S4096x4x1, .f32⟩
  | .hbm, ⟨15, _⟩ => ⟨S4096x4x1, .f32⟩
  | .hbm, ⟨16, _⟩ => ⟨S_, .f32⟩
  | .hbm, ⟨17, _⟩ => ⟨S4096x4x1, .f32⟩
  | .hbm, ⟨18, _⟩ => ⟨S4096x4x1, .f32⟩
  | .hbm, ⟨19, _⟩ => ⟨S4096x4x128, .f32⟩
  | .hbm, ⟨20, _⟩ => ⟨S4096x4x128, .f32⟩
  | .hbm, ⟨21, _⟩ => ⟨S1x1x128, .f32⟩
  | .hbm, ⟨22, _⟩ => ⟨S4096x4x128, .f32⟩
  | .hbm, ⟨23, _⟩ => ⟨S4096x4x128, .f32⟩
  | .hbm, ⟨24, _⟩ => ⟨S4096x512, .f32⟩
  | .hbm, ⟨25, _⟩ => ⟨S4096x4x128, .f32⟩
  | .hbm, ⟨26, _⟩ => ⟨S4096x4x128, .f32⟩
  | .hbm, ⟨27, _⟩ => ⟨S_, .f32⟩
  | .hbm, ⟨28, _⟩ => ⟨S128, .f32⟩
  | .hbm, ⟨29, _⟩ => ⟨S1x1x128, .f32⟩
  | .hbm, ⟨30, _⟩ => ⟨S4096x4x128, .f32⟩
  | .hbm, ⟨31, _⟩ => ⟨S4096x4x128, .f32⟩
  | .hbm, ⟨32, _⟩ => ⟨S_, .f32⟩
  | .hbm, ⟨33, _⟩ => ⟨S128, .f32⟩
  | .hbm, ⟨34, _⟩ => ⟨S4096x4x128, .f32⟩
  | .hbm, ⟨35, _⟩ => ⟨S_, .f32⟩
  | .hbm, ⟨36, _⟩ => ⟨S4096x4, .f32⟩
  | .hbm, ⟨37, _⟩ => ⟨S4096x4x1, .f32⟩
  | .hbm, ⟨38, _⟩ => ⟨S4096x4x128, .f32⟩
  | .hbm, ⟨39, _⟩ => ⟨S4096x4x128, .f32⟩
  | .hbm, ⟨40, _⟩ => ⟨S4096x4x1, .f32⟩
  | .hbm, ⟨41, _⟩ => ⟨S_, .f32⟩
  | .hbm, ⟨42, _⟩ => ⟨S4096x4x1, .f32⟩
  | .hbm, ⟨43, _⟩ => ⟨S4096x4x1, .f32⟩
  | .hbm, ⟨44, _⟩ => ⟨S_, .f32⟩
  | .hbm, ⟨45, _⟩ => ⟨S4096x4, .f32⟩
  | .hbm, ⟨46, _⟩ => ⟨S4096x4x128, .f32⟩
  | .hbm, ⟨47, _⟩ => ⟨S4096x4x128, .f32⟩
  | .hbm, ⟨48, _⟩ => ⟨S4096x4x128, .f32⟩
  | .hbm, ⟨49, _⟩ => ⟨S4096x4x128, .f32⟩
  | .hbm, ⟨50, _⟩ => ⟨S4096x4x128, .f32⟩
  | .hbm, ⟨51, _⟩ => ⟨S4096x512, .f32⟩
  | .hbm, ⟨52, _⟩ => ⟨S1x128, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel27.lean ====
abbrev S4096x1024 : Shape := ⟨2, ![4096, 1024]⟩
abbrev S1024 : Shape := ⟨1, ![1024]⟩
abbrev S1x1024 : Shape := ⟨2, ![1, 1024]⟩
abbrev S1024x512 : Shape := ⟨2, ![1024, 512]⟩
abbrev S1x512 : Shape := ⟨2, ![1, 512]⟩
abbrev S1024x1 : Shape := ⟨2, ![1024, 1]⟩
abbrev S512 : Shape := ⟨1, ![512]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1x512, .f32⟩
  | .local _ .vmem, ⟨13, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference27Ideal.lean ====
abbrev S4096x1024 : Shape := ⟨2, ![4096, 1024]⟩
abbrev S1024 : Shape := ⟨1, ![1024]⟩
abbrev S_ : Shape := ⟨0, ![]⟩
abbrev S4096x2x512 : Shape := ⟨3, ![4096, 2, 512]⟩
abbrev S2x512 : Shape := ⟨2, ![2, 512]⟩
abbrev S4096x2 : Shape := ⟨2, ![4096, 2]⟩
abbrev S4096x2x1 : Shape := ⟨3, ![4096, 2, 1]⟩
abbrev S1x2x512 : Shape := ⟨3, ![1, 2, 512]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x2x512, .f32⟩
  | .hbm, ⟨19, _⟩ => ⟨S2x512, .f32⟩
  | .hbm, ⟨20, _⟩ => ⟨S4096x2x512, .f32⟩
  | .hbm, ⟨21, _⟩ => ⟨S_, .f32⟩
  | .hbm, ⟨22, _⟩ => ⟨S4096x2, .f32⟩
  | .hbm, ⟨23, _⟩ => ⟨S4096x2x1, .f32⟩
  | .hbm, ⟨24, _⟩ => ⟨S_, .f32⟩
  | .hbm, ⟨25, _⟩ => ⟨S4096x2x1, .f32⟩
  | .hbm, ⟨26, _⟩ => ⟨S4096x2x1, .f32⟩
  | .hbm, ⟨27, _⟩ => ⟨S_, .f32⟩
  | .hbm, ⟨28, _⟩ => ⟨S4096x2x1, .f32⟩
  | .hbm, ⟨29, _⟩ => ⟨S4096x2x1, .f32⟩
  | .hbm, ⟨30, _⟩ => ⟨S4096x2x1, .f32⟩
  | .hbm, ⟨31, _⟩ => ⟨S4096x2x1, .f32⟩
  | .hbm, ⟨32, _⟩ => ⟨S_, .f32⟩
  | .hbm, ⟨33, _⟩ => ⟨S4096x2x1, .f32⟩
  | .hbm, ⟨34, _⟩ => ⟨S4096x2x1, .f32⟩
  | .hbm, ⟨35, _⟩ => ⟨S4096x2x512, .f32⟩
  | .hbm, ⟨36, _⟩ => ⟨S4096x2x512, .f32⟩
  | .hbm, ⟨37, _⟩ => ⟨S1x2x512, .f32⟩
  | .hbm, ⟨38, _⟩ => ⟨S4096x2x512, .f32⟩
  | .hbm, ⟨39, _⟩ => ⟨S4096x2x512, .f32⟩
  | .hbm, ⟨40, _⟩ => ⟨S4096x1024, .f32⟩
  | .hbm, ⟨41, _⟩ => ⟨S4096x2x512, .f32⟩
  | .hbm, ⟨42, _⟩ => ⟨S4096x2x512, .f32⟩
  | .hbm, ⟨43, _⟩ => ⟨S_, .f32⟩
  | .hbm, ⟨44, _⟩ => ⟨S2x512, .f32⟩
  | .hbm, ⟨45, _⟩ => ⟨S1x2x512, .f32⟩
  | .hbm, ⟨46, _⟩ => ⟨S4096x2x512, .f32⟩
  | .hbm, ⟨47, _⟩ => ⟨S4096x2x512, .f32⟩
  | .hbm, ⟨48, _⟩ => ⟨S_, .f32⟩
  | .hbm, ⟨49, _⟩ => ⟨S2x512, .f32⟩
  | .hbm, ⟨50, _⟩ => ⟨S4096x2x512, .f32⟩
  | .hbm, ⟨51, _⟩ => ⟨S_, .f32⟩
  | .hbm, ⟨52, _⟩ => ⟨S4096x2, .f32⟩
  | .hbm, ⟨53, _⟩ => ⟨S4096x2x1, .f32⟩
  | .hbm, ⟨54, _⟩ => ⟨S4096x2x512, .f32⟩
  | .hbm, ⟨55, _⟩ => ⟨S4096x2x512, .f32⟩
  | .hbm, ⟨56, _⟩ => ⟨S4096x2x1, .f32⟩
  | .hbm, ⟨57, _⟩ => ⟨S_, .f32⟩
  | .hbm, ⟨58, _⟩ => ⟨S4096x2x1, .f32⟩
  | .hbm, ⟨59, _⟩ => ⟨S4096x2x1, .f32⟩
  | .hbm, ⟨60, _⟩ => ⟨S_, .f32⟩
  | .hbm, ⟨61, _⟩ => ⟨S4096x2, .f32⟩
  | .hbm, ⟨62, _⟩ => ⟨S4096x2x512, .f32⟩
  | .hbm, ⟨63, _⟩ => ⟨S4096x2x512, .f32⟩
  | .hbm, ⟨64, _⟩ => ⟨S4096x2x512, .f32⟩
  | .hbm, ⟨65, _⟩ => ⟨S4096x2x512, .f32⟩
  | .hbm, ⟨66, _⟩ => ⟨S4096x2x512, .f32⟩
  | .hbm, ⟨67, _⟩ => ⟨S1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== Kernel28.lean ====
abbrev S2x2048x3840 : Shape := ⟨3, ![2, 2048, 3840]⟩
abbrev S8x1536 : Shape := ⟨2, ![8, 1536]⟩
abbrev S1x1536 : Shape := ⟨2, ![1, 1536]⟩
abbrev S2x2048x1536 : Shape := ⟨3, ![2, 2048, 1536]⟩
abbrev S1x2048x256 : Shape := ⟨3, ![1, 2048, 256]⟩
abbrev S8x256 : Shape := ⟨2, ![8, 256]⟩
abbrev S1x256 : Shape := ⟨2, ![1, 256]⟩
abbrev S2048x256 : Shape := ⟨2, ![2048, 256]⟩
abbrev S256 : Shape := ⟨1, ![256]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x3840, .f32⟩
  | .hbm, ⟨1, _⟩ => ⟨S8x1536, .f32⟩
  | .hbm, ⟨2, _⟩ => ⟨S1x1536, .f32⟩
  | .hbm, ⟨3, _⟩ => ⟨S2x2048x1536, .f32⟩
  | .hbm, ⟨4, _⟩ => ⟨S2x2048x1536, .f32⟩
  | .hbm, ⟨5, _⟩ => ⟨S8x1536, .f32⟩
  | .hbm, ⟨6, _⟩ => ⟨S1x1536, .f32⟩
  | .local _ .vmem, ⟨0, _⟩ => ⟨S1x2048x256, .f32⟩
  | .local _ .vmem, ⟨1, _⟩ => ⟨S1x2048x256, .f32⟩
  | .local _ .vmem, ⟨2, _⟩ => ⟨S8x256, .f32⟩
  | .local _ .vmem, ⟨3, _⟩ => ⟨S8x256, .f32⟩
  | .local _ .vmem, ⟨4, _⟩ => ⟨S1x256, .f32⟩
  | .local _ .vmem, ⟨5, _⟩ => ⟨S1x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S8x256, .f32⟩
  | .local _ .vmem, ⟨11, _⟩ => ⟨S8x256, .f32⟩
  | .local _ .vmem, ⟨12, _⟩ => ⟨S1x256, .f32⟩
  | .local _ .vmem, ⟨13, _⟩ => ⟨S1x256, .f32⟩
  | _, _ => ⟨S2x2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 2], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference28Ideal.lean ====
abbrev S2x2048x3840 : Shape := ⟨3, ![2, 2048, 3840]⟩
abbrev S8x1536 : Shape := ⟨2, ![8, 1536]⟩
abbrev S1x1536 : Shape := ⟨2, ![1, 1536]⟩
abbrev S2x2048x1536 : Shape := ⟨3, ![2, 2048, 1536]⟩
abbrev S4x1536 : Shape := ⟨2, ![4, 1536]⟩
abbrev S1536 : Shape := ⟨1, ![1536]⟩
abbrev S2x3x1536 : Shape := ⟨3, ![2, 3, 1536]⟩
abbrev S_ : Shape := ⟨0, ![]⟩
abbrev S2x2051x1536 : Shape := ⟨3, ![2, 2051, 1536]⟩
abbrev S1x1x1536 : Shape := ⟨3, ![1, 1, 1536]⟩

abbrev nBuf : Space → Nat
  | .hbm => 132
  | .vmem => 0
  | .smem => 0
  | _ => 0

abbrev hbmTy0_0 (i : Nat) : BufTy := match i % 128 with
  | 0 => ⟨S2x2048x3840, .f32⟩
  | 1 => ⟨S8x1536, .f32⟩
  | 2 => ⟨S1x1536, .f32⟩
  | 3 => ⟨S2x2048x1536, .f32⟩
  | 4 => ⟨S2x2048x1536, .f32⟩
  | 5 => ⟨S4x1536, .f32⟩
  | 6 => ⟨S1536, .f32⟩
  | 7 => ⟨S2x3x1536, .f32⟩
  | 8 => ⟨S_, .f32⟩
  | 9 => ⟨S2x3x1536, .f32⟩
  | 10 => ⟨S2x2051x1536, .f32⟩
  | 11 => ⟨S_, .f32⟩
  | 12 => ⟨S2x3x1536, .f32⟩
  | 13 => ⟨S2x2048x1536, .f32⟩
  | 14 => ⟨S1x1536, .f32⟩
  | 15 => ⟨S1536, .f32⟩
  | 16 => ⟨S1x1x1536, .f32⟩
  | 17 => ⟨S2x2048x1536, .f32⟩
  | 18 => ⟨S2x2048x1536, .f32⟩
  | 19 => ⟨S_, .f32⟩
  | 20 => ⟨S2x2048x1536, .f32⟩
  | 21 => ⟨S2x2048x1536, .f32⟩
  | 22 => ⟨S2x2048x1536, .f32⟩
  | 23 => ⟨S1x1536, .f32⟩
  | 24 => ⟨S1536, .f32⟩
  | 25 => ⟨S1x1x1536, .f32⟩
  | 26 => ⟨S2x2048x1536, .f32⟩
  | 27 => ⟨S2x2048x1536, .f32⟩
  | 28 => ⟨S2x2048x1536, .f32⟩
  | 29 => ⟨S2x2048x1536, .f32⟩
  | 30 => ⟨S1x1536, .f32⟩
  | 31 => ⟨S1536, .f32⟩
  | 32 => ⟨S1x1x1536, .f32⟩
  | 33 => ⟨S2x2048x1536, .f32⟩
  | 34 => ⟨S2x2048x1536, .f32⟩
  | 35 => ⟨S2x2048x1536, .f32⟩
  | 36 => ⟨S2x2048x1536, .f32⟩
  | 37 => ⟨S1x1536, .f32⟩
  | 38 => ⟨S1536, .f32⟩
  | 39 => ⟨S1x1x1536, .f32⟩
  | 40 => ⟨S2x2048x1536, .f32⟩
  | 41 => ⟨S2x2048x1536, .f32⟩
  | 42 => ⟨S2x2048x1536, .f32⟩
  | 43 => ⟨S1x1x1536, .f32⟩
  | 44 => ⟨S2x2048x1536, .f32⟩
  | 45 => ⟨S2x2048x1536, .f32⟩
  | 46 => ⟨S2x2048x1536, .f32⟩
  | 47 => ⟨S2x2048x1536, .f32⟩
  | 48 => ⟨S_, .f32⟩
  | 49 => ⟨S2x2048x1536, .f32⟩
  | 50 => ⟨S2x2048x1536, .f32⟩
  | 51 => ⟨S_, .f32⟩
  | 52 => ⟨S2x2048x1536, .f32⟩
  | 53 => ⟨S2x2048x1536, .f32⟩
  | 54 => ⟨S_, .f32⟩
  | 55 => ⟨S2x2048x1536, .f32⟩
  | 56 => ⟨S2x2048x1536, .f32⟩
  | 57 => ⟨S2x2048x1536, .f32⟩
  | 58 => ⟨S2x2048x1536, .f32⟩
  | 59 => ⟨S2x2048x1536, .f32⟩
  | 60 => ⟨S2x2048x1536, .f32⟩
  | 61 => ⟨S2x2048x1536, .f32⟩
  | 62 => ⟨S2x2048x1536, .f32⟩
  | 63 => ⟨S_, .f32⟩
  | 64 => ⟨S1536, .f32⟩
  | 65 => ⟨S1x1x1536, .f32⟩
  | 66 => ⟨S_, .f32⟩
  | 67 => ⟨S1536, .f32⟩
  | 68 => ⟨S2x2048x1536, .f32⟩
  | 69 => ⟨S_, .f32⟩
  | 70 => ⟨S1536, .f32⟩
  | 71 => ⟨S1x1x1536, .f32⟩
  | 72 => ⟨S2x2048x1536, .f32⟩
  | 73 => ⟨S2x2048x1536, .f32⟩
  | 74 => ⟨S_, .f32⟩
  | 75 => ⟨S1536, .f32⟩
  | 76 => ⟨S1x1536, .f32⟩
  | 77 => ⟨S_, .f32⟩
  | 78 => ⟨S4x1536, .f32⟩
  | 79 => ⟨S_, .f32⟩
  | 80 => ⟨S2x2051x1536, .f32⟩
  | 81 => ⟨S2x2048x1536, .f32⟩
  | 82 => ⟨S_, .f32⟩
  | 83 => ⟨S1536, .f32⟩
  | 84 => ⟨S1x1x1536, .f32⟩
  | 85 => ⟨S2x2048x1536, .f32⟩
  | 86 => ⟨S2x2048x1536, .f32⟩
  | 87 => ⟨S_, .f32⟩
  | 88 => ⟨S1536, .f32⟩
  | 89 => ⟨S1x1536, .f32⟩
  | 90 => ⟨S_, .f32⟩
  | 91 => ⟨S4x1536, .f32⟩
  | 92 => ⟨S4x1536, .f32⟩
  | 93 => ⟨S_, .f32⟩
  | 94 => ⟨S2x2051x1536, .f32⟩
  | 95 => ⟨S2x2051x1536, .f32⟩
  | 96 => ⟨S2x2048x1536, .f32⟩
  | 97 => ⟨S_, .f32⟩
  | 98 => ⟨S1536, .f32⟩
  | 99 => ⟨S1x1x1536, .f32⟩
  | 100 => ⟨S2x2048x1536, .f32⟩
  | 101 => ⟨S2x2048x1536, .f32⟩
  | 102 => ⟨S_, .f32⟩
  | 103 => ⟨S1536, .f32⟩
  | 104 => ⟨S1x1536, .f32⟩
  | 105 => ⟨S_, .f32⟩
  | 106 => ⟨S4x1536, .f32⟩
  | 107 => ⟨S4x1536, .f32⟩
  | 108 => ⟨S_, .f32⟩
  | 109 => ⟨S2x2051x1536, .f32⟩
  | 110 => ⟨S2x2051x1536, .f32⟩
  | 111 => ⟨S2x2048x1536, .f32⟩
  | 112 => ⟨S_, .f32⟩
  | 113 => ⟨S1536, .f32⟩
  | 114 => ⟨S1x1x1536, .f32⟩
  | 115 => ⟨S2x2048x1536, .f32⟩
  | 116 => ⟨S2x2048x1536, .f32⟩
  | 117 => ⟨S_, .f32⟩
  | 118 => ⟨S1536, .f32⟩
  | 119 => ⟨S1x1536, .f32⟩
  | 120 => ⟨S_, .f32⟩
  | 121 => ⟨S4x1536, .f32⟩
  | 122 => ⟨S4x1536, .f32⟩
  | 123 => ⟨S_, .f32⟩
  | 124 => ⟨S2x2051x1536, .f32⟩
  | 125 => ⟨S2x2051x1536, .f32⟩
  | 126 => ⟨S2x3x1536, .f32⟩
  | 127 => ⟨S2x2048x1536, .f32⟩
  | _ => ⟨S2x2048x3840, .f32⟩

abbrev hbmTy0_1 (i : Nat) : BufTy := match i % 128 with
  | 0 => ⟨S_, .i32⟩
  | 1 => ⟨S_, .f32⟩
  | 2 => ⟨S8x1536, .f32⟩
  | 3 => ⟨S1x1536, .f32⟩
  | _ => ⟨S2x2048x3840, .f32⟩

abbrev hbmTy (i : Nat) : BufTy := match i / 128 with
  | 0 => hbmTy0_0 i
  | 1 => hbmTy0_1 i
  | _ => ⟨S2x2048x3840, .f32⟩

abbrev bufTy : (tb : Table) → Fin (tcTables nBuf tb) → BufTy
  | .hbm, ⟨i, _⟩ => hbmTy i
  | _, _ => ⟨S2x2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v39_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v39_1 : Ref sig .tc := ⟨.hbm, 57, rfl⟩
abbrev main_v39_0 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v40 : Ref sig .tc := ⟨.hbm, 62, rfl⟩
abbrev main_cst_2 : Ref sig .tc := ⟨.hbm, 63, rfl⟩
abbrev main_v41 : Ref sig .tc := ⟨.hbm, 64, rfl⟩
abbrev main_v42 : Ref sig .tc := ⟨.hbm, 65, rfl⟩
abbrev main_cst_3 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_17 : Ref sig .tc := ⟨.hbm, 117, rfl⟩
abbrev main_v80 : Ref sig .tc := ⟨.hbm, 118, rfl⟩
abbrev main_v81 : Ref sig .tc := ⟨.hbm, 119, rfl⟩
abbrev main_cst_18 : Ref sig .tc := ⟨.hbm, 120, rfl⟩
abbrev main_v82 : Ref sig .tc := ⟨.hbm, 121, rfl⟩
abbrev main_v83 : Ref sig .tc := ⟨.hbm, 122, rfl⟩
abbrev main_cst_19 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_c : Ref sig .tc := ⟨.hbm, 128, rfl⟩
abbrev main_call2_v0 : Ref sig .tc := ⟨.hbm, 129, rfl⟩
abbrev main_v88 : Ref sig .tc := ⟨.hbm, 130, rfl⟩
abbrev main_v89 : Ref sig .tc := ⟨.hbm, 131, rfl⟩

abbrev nD : Nat := 1
abbrev τ : Topo := Topo.v7x

variable {F : FTy → Type} [FloatOps F]
-- ==== Kernel29.lean ====
abbrev S2x2048x3840 : Shape := ⟨3, ![2, 2048, 3840]⟩
abbrev S8x1536 : Shape := ⟨2, ![8, 1536]⟩
abbrev S1x1536 : Shape := ⟨2, ![1, 1536]⟩
abbrev S2x2048x1536 : Shape := ⟨3, ![2, 2048, 1536]⟩
abbrev S1x2048x256 : Shape := ⟨3, ![1, 2048, 256]⟩
abbrev S8x256 : Shape := ⟨2, ![8, 256]⟩
abbrev S1x256 : Shape := ⟨2, ![1, 256]⟩
abbrev S2048x256 : Shape := ⟨2, ![2048, 256]⟩

abbrev nBuf : Space → Nat
  | .hbm => 4
  | .vmem => 8
  | .smem => 0
  | _ => 0

abbrev bufTy : (tb : Table) → Fin (tcTables nBuf tb) → BufTy
  | .hbm, ⟨0, _⟩ => ⟨S2x2048x3840, .f32⟩
  | .hbm, ⟨1, _⟩ => ⟨S8x1536, .f32⟩
  | .hbm, ⟨2, _⟩ => ⟨S1x1536, .f32⟩
  | .hbm, ⟨3, _⟩ => ⟨S2x2048x1536, .f32⟩
  | .local _ .vmem, ⟨0, _⟩ => ⟨S1x2048x256, .f32⟩
  | .local _ .vmem, ⟨1, _⟩ => ⟨S1x2048x256, .f32⟩
  | .local _ .vmem, ⟨2, _⟩ => ⟨S8x256, .f32⟩
  | .local _ .vmem, ⟨3, _⟩ => ⟨S8x256, .f32⟩
  | .local _ .vmem, ⟨4, _⟩ => ⟨S1x256, .f32⟩
  | .local _ .vmem, ⟨5, _⟩ => ⟨S1x256, .f32⟩
  | .local _ .vmem, ⟨6, _⟩ => ⟨S1x2048x256, .f32⟩
  | .local _ .vmem, ⟨7, _⟩ => ⟨S1x2048x256, .f32⟩
  | _, _ => ⟨S2x2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference29Ideal.lean ====
abbrev S2x2048x3840 : Shape := ⟨3, ![2, 2048, 3840]⟩
abbrev S8x1536 : Shape := ⟨2, ![8, 1536]⟩
abbrev S1x1536 : Shape := ⟨2, ![1, 1536]⟩
abbrev S2x2048x1536 : Shape := ⟨3, ![2, 2048, 1536]⟩
abbrev S4x1536 : Shape := ⟨2, ![4, 1536]⟩
abbrev S1536 : Shape := ⟨1, ![1536]⟩
abbrev S2x3x1536 : Shape := ⟨3, ![2, 3, 1536]⟩
abbrev S_ : Shape := ⟨0, ![]⟩
abbrev S2x2051x1536 : Shape := ⟨3, ![2, 2051, 1536]⟩
abbrev S1x1x1536 : Shape := ⟨3, ![1, 1, 1536]⟩

abbrev nBuf : Space → Nat
  | .hbm => 52
  | .vmem => 0
  | .smem => 0
  | _ => 0

abbrev bufTy : (tb : Table) → Fin (tcTables nBuf tb) → BufTy
  | .hbm, ⟨0, _⟩ => ⟨S2x2048x3840, .f32⟩
  | .hbm, ⟨1, _⟩ => ⟨S8x1536, .f32⟩
  | .hbm, ⟨2, _⟩ => ⟨S1x1536, .f32⟩
  | .hbm, ⟨3, _⟩ => ⟨S2x2048x1536, .f32⟩
  | .hbm, ⟨4, _⟩ => ⟨S4x1536, .f32⟩
  | .hbm, ⟨5, _⟩ => ⟨S1536, .f32⟩
  | .hbm, ⟨6, _⟩ => ⟨S2x3x1536, .f32⟩
  | .hbm, ⟨7, _⟩ => ⟨S_, .f32⟩
  | .hbm, ⟨8, _⟩ => ⟨S2x3x1536, .f32⟩
  | .hbm, ⟨9, _⟩ => ⟨S2x2051x1536, .f32⟩
  | .hbm, ⟨10, _⟩ => ⟨S2x2048x1536, .f32⟩
  | .hbm, ⟨11, _⟩ => ⟨S1x1536, .f32⟩
  | .hbm, ⟨12, _⟩ => ⟨S1536, .f32⟩
  | .hbm, ⟨13, _⟩ => ⟨S1x1x1536, .f32⟩
  | .hbm, ⟨14, _⟩ => ⟨S2x2048x1536, .f32⟩
  | .hbm, ⟨15, _⟩ => ⟨S2x2048x1536, .f32⟩
  | .hbm, ⟨16, _⟩ => ⟨S_, .f32⟩
  | .hbm, ⟨17, _⟩ => ⟨S2x2048x1536, .f32⟩
  | .hbm, ⟨18, _⟩ => ⟨S2x2048x1536, .f32⟩
  | .hbm, ⟨19, _⟩ => ⟨S2x2048x1536, .f32⟩
  | .hbm, ⟨20, _⟩ => ⟨S1x1536, .f32⟩
  | .hbm, ⟨21, _⟩ => ⟨S1536, .f32⟩
  | .hbm, ⟨22, _⟩ => ⟨S1x1x1536, .f32⟩
  | .hbm, ⟨23, _⟩ => ⟨S2x2048x1536, .f32⟩
  | .hbm, ⟨24, _⟩ => ⟨S2x2048x1536, .f32⟩
  | .hbm, ⟨25, _⟩ => ⟨S2x2048x1536, .f32⟩
  | .hbm, ⟨26, _⟩ => ⟨S2x2048x1536, .f32⟩
  | .hbm, ⟨27, _⟩ => ⟨S1x1536, .f32⟩
  | .hbm, ⟨28, _⟩ => ⟨S1536, .f32⟩
  | .hbm, ⟨29, _⟩ => ⟨S1x1x1536, .f32⟩
  | .hbm, ⟨30, _⟩ => ⟨S2x2048x1536, .f32⟩
  | .hbm, ⟨31, _⟩ => ⟨S2x2048x1536, .f32⟩
  | .hbm, ⟨32, _⟩ => ⟨S2x2048x1536, .f32⟩
  | .hbm, ⟨33, _⟩ => ⟨S2x2048x1536, .f32⟩
  | .hbm, ⟨34, _⟩ => ⟨S1x1536, .f32⟩
  | .hbm, ⟨35, _⟩ => ⟨S1536, .f32⟩
  | .hbm, ⟨36, _⟩ => ⟨S1x1x1536, .f32⟩
  | .hbm, ⟨37, _⟩ => ⟨S2x2048x1536, .f32⟩
  | .hbm, ⟨38, _⟩ => ⟨S2x2048x1536, .f32⟩
  | .hbm, ⟨39, _⟩ => ⟨S2x2048x1536, .f32⟩
  | .hbm, ⟨40, _⟩ => ⟨S1x1x1536, .f32⟩
  | .hbm, ⟨41, _⟩ => ⟨S2x2048x1536, .f32⟩
  | .hbm, ⟨42, _⟩ => ⟨S2x2048x1536, .f32⟩
  | .hbm, ⟨43, _⟩ => ⟨S2x2048x1536, .f32⟩
  | .hbm, ⟨44, _⟩ => ⟨S2x2048x1536, .f32⟩
  | .hbm, ⟨45, _⟩ => ⟨S_, .f32⟩
  | .hbm, ⟨46, _⟩ => ⟨S2x2048x1536, .f32⟩
  | .hbm, ⟨47, _⟩ => ⟨S2x2048x1536, .f32⟩
  | .hbm, ⟨48, _⟩ => ⟨S_, .f32⟩
  | .hbm, ⟨49, _⟩ => ⟨S2x2048x1536, .f32⟩
  | .hbm, ⟨50, _⟩ => ⟨S2x2048x1536, .f32⟩
  | .hbm, ⟨51, _⟩ => ⟨S2x2048x1536, .f32⟩
  | _, _ => ⟨S2x2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel30.lean ====
abbrev S512x2048 : Shape := ⟨2, ![512, 2048]⟩
abbrev S2048x512 : Shape := ⟨2, ![2048, 512]⟩
abbrev S512x512 : Shape := ⟨2, ![512, 512]⟩

abbrev nBuf : Space → Nat
  | .hbm => 3
  | .vmem => 3
  | .smem => 0
  | _ => 0

abbrev bufTy : (tb : Table) → Fin (tcTables nBuf tb) → BufTy
  | .hbm, ⟨0, _⟩ => ⟨S512x2048, .bf16⟩
  | .hbm, ⟨1, _⟩ => ⟨S2048x512, .bf16⟩
  | .hbm, ⟨2, _⟩ => ⟨S512x512, .f32⟩
  | .local _ .vmem, ⟨0, _⟩ => ⟨S512x2048, .bf16⟩
  | .local _ .vmem, ⟨1, _⟩ => ⟨S2048x512, .bf16⟩
  | .local _ .vmem, ⟨2, _⟩ => ⟨S512x512, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference30Ideal.lean ====
abbrev S512x2048 : Shape := ⟨2, ![512, 2048]⟩
abbrev S2048x512 : Shape := ⟨2, ![2048, 512]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x512, .bf16⟩
  | .hbm, ⟨2, _⟩ => ⟨S512x2048, .f32⟩
  | .hbm, ⟨3, _⟩ => ⟨S2048x512, .f32⟩
  | .hbm, ⟨4, _⟩ => ⟨S512x512, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel31.lean ====
abbrev S512x2048 : Shape := ⟨2, ![512, 2048]⟩
abbrev S2048x512 : Shape := ⟨2, ![2048, 512]⟩
abbrev S512x512 : Shape := ⟨2, ![512, 512]⟩

abbrev nBuf : Space → Nat
  | .hbm => 3
  | .vmem => 3
  | .smem => 0
  | _ => 0

abbrev bufTy : (tb : Table) → Fin (tcTables nBuf tb) → BufTy
  | .hbm, ⟨0, _⟩ => ⟨S512x2048, .bf16⟩
  | .hbm, ⟨1, _⟩ => ⟨S2048x512, .bf16⟩
  | .hbm, ⟨2, _⟩ => ⟨S512x512, .bf16⟩
  | .local _ .vmem, ⟨0, _⟩ => ⟨S512x2048, .bf16⟩
  | .local _ .vmem, ⟨1, _⟩ => ⟨S2048x512, .bf16⟩
  | .local _ .vmem, ⟨2, _⟩ => ⟨S512x512, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference31Ideal.lean ====
abbrev S512x2048 : Shape := ⟨2, ![512, 2048]⟩
abbrev S2048x512 : Shape := ⟨2, ![2048, 512]⟩
abbrev S512x512 : Shape := ⟨2, ![512, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x512, .bf16⟩
  | .hbm, ⟨2, _⟩ => ⟨S512x2048, .f32⟩
  | .hbm, ⟨3, _⟩ => ⟨S2048x512, .f32⟩
  | .hbm, ⟨4, _⟩ => ⟨S512x512, .f32⟩
  | .hbm, ⟨5, _⟩ => ⟨S512x512, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel32.lean ====
abbrev S512x512 : Shape := ⟨2, ![512, 512]⟩
abbrev S2048x512 : Shape := ⟨2, ![2048, 512]⟩
abbrev S512x2048 : Shape := ⟨2, ![512, 2048]⟩

abbrev nBuf : Space → Nat
  | .hbm => 3
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S2048x512, .bf16⟩
  | .hbm, ⟨2, _⟩ => ⟨S512x2048, .f32⟩
  | .local _ .vmem, ⟨0, _⟩ => ⟨S512x512, .f32⟩
  | .local _ .vmem, ⟨1, _⟩ => ⟨S2048x512, .bf16⟩
  | .local _ .vmem, ⟨2, _⟩ => ⟨S512x2048, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference32Ideal.lean ====
abbrev S512x512 : Shape := ⟨2, ![512, 512]⟩
abbrev S2048x512 : Shape := ⟨2, ![2048, 512]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S2048x512, .bf16⟩
  | .hbm, ⟨2, _⟩ => ⟨S2048x512, .f32⟩
  | .hbm, ⟨3, _⟩ => ⟨S512x2048, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel33.lean ====
abbrev S512x512 : Shape := ⟨2, ![512, 512]⟩
abbrev S2048x512 : Shape := ⟨2, ![2048, 512]⟩
abbrev S512x2048 : Shape := ⟨2, ![512, 2048]⟩

abbrev nBuf : Space → Nat
  | .hbm => 4
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S2048x512, .bf16⟩
  | .hbm, ⟨2, _⟩ => ⟨S512x2048, .f32⟩
  | .hbm, ⟨3, _⟩ => ⟨S512x2048, .f32⟩
  | .local _ .vmem, ⟨0, _⟩ => ⟨S512x512, .f32⟩
  | .local _ .vmem, ⟨1, _⟩ => ⟨S2048x512, .bf16⟩
  | .local _ .vmem, ⟨2, _⟩ => ⟨S512x2048, .f32⟩
  | .local _ .vmem, ⟨3, _⟩ => ⟨S512x2048, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference33Ideal.lean ====
abbrev S512x512 : Shape := ⟨2, ![512, 512]⟩
abbrev S2048x512 : Shape := ⟨2, ![2048, 512]⟩
abbrev S512x2048 : Shape := ⟨2, ![512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S2048x512, .bf16⟩
  | .hbm, ⟨2, _⟩ => ⟨S512x2048, .f32⟩
  | .hbm, ⟨3, _⟩ => ⟨S2048x512, .f32⟩
  | .hbm, ⟨4, _⟩ => ⟨S512x2048, .f32⟩
  | .hbm, ⟨5, _⟩ => ⟨S512x2048, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel34.lean ====
abbrev S512x2048 : Shape := ⟨2, ![512, 2048]⟩
abbrev S512x512 : Shape := ⟨2, ![512, 512]⟩
abbrev S2048x512 : Shape := ⟨2, ![2048, 512]⟩

abbrev nBuf : Space → Nat
  | .hbm => 3
  | .vmem => 3
  | .smem => 0
  | _ => 0

abbrev bufTy : (tb : Table) → Fin (tcTables nBuf tb) → BufTy
  | .hbm, ⟨0, _⟩ => ⟨S512x2048, .bf16⟩
  | .hbm, ⟨1, _⟩ => ⟨S512x512, .f32⟩
  | .hbm, ⟨2, _⟩ => ⟨S2048x512, .bf16⟩
  | .local _ .vmem, ⟨0, _⟩ => ⟨S512x2048, .bf16⟩
  | .local _ .vmem, ⟨1, _⟩ => ⟨S512x512, .f32⟩
  | .local _ .vmem, ⟨2, _⟩ => ⟨S2048x512, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference34Ideal.lean ====
abbrev S512x2048 : Shape := ⟨2, ![512, 2048]⟩
abbrev S512x512 : Shape := ⟨2, ![512, 512]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S512x512, .f32⟩
  | .hbm, ⟨2, _⟩ => ⟨S512x2048, .f32⟩
  | .hbm, ⟨3, _⟩ => ⟨S512x2048, .f32⟩
  | .hbm, ⟨4, _⟩ => ⟨S2048x512, .f32⟩
  | .hbm, ⟨5, _⟩ => ⟨S2048x512, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel35.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference35Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel36.lean ====
abbrev S4096x512 : Shape := ⟨2, ![4096, 512]⟩
abbrev S512 : Shape := ⟨1, ![512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S1x512, .f32⟩
  | .hbm, ⟨3, _⟩ => ⟨S4096x512, .bf16⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1024x512, .bf16⟩
  | .local _ .vmem, ⟨4, _⟩ => ⟨S1024x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference36Ideal.lean ====
abbrev S4096x512 : Shape := ⟨2, ![4096, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x512 : Shape := ⟨2, ![1, 512]⟩

abbrev nBuf : Space → Nat
  | .hbm => 19
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x512, .f32⟩
  | .hbm, ⟨14, _⟩ => ⟨S4096x512, .f32⟩
  | .hbm, ⟨15, _⟩ => ⟨S1x512, .f32⟩
  | .hbm, ⟨16, _⟩ => ⟨S4096x512, .f32⟩
  | .hbm, ⟨17, _⟩ => ⟨S4096x512, .f32⟩
  | .hbm, ⟨18, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel37.lean ====
abbrev S4096x512 : Shape := ⟨2, ![4096, 512]⟩
abbrev S128 : Shape := ⟨1, ![128]⟩
abbrev S1x128 : Shape := ⟨2, ![1, 128]⟩
abbrev S4096x128 : Shape := ⟨2, ![4096, 128]⟩
abbrev S4096 : Shape := ⟨1, ![4096]⟩
abbrev S4096x1 : Shape := ⟨2, ![4096, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S128, .f32⟩
  | .hbm, ⟨2, _⟩ => ⟨S1x128, .f32⟩
  | .hbm, ⟨3, _⟩ => ⟨S4096x512, .bf16⟩
  | .local _ .vmem, ⟨0, _⟩ => ⟨S4096x128, .f32⟩
  | .local _ .vmem, ⟨1, _⟩ => ⟨S4096x128, .f32⟩
  | .local _ .vmem, ⟨2, _⟩ => ⟨S1x128, .f32⟩
  | .local _ .vmem, ⟨3, _⟩ => ⟨S4096x128, .bf16⟩
  | .local _ .vmem, ⟨4, _⟩ => ⟨S4096x128, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference37Ideal.lean ====
abbrev S4096x512 : Shape := ⟨2, ![4096, 512]⟩
abbrev S128 : Shape := ⟨1, ![128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩

abbrev nBuf : Space → Nat
  | .hbm => 21
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S128, .f32⟩
  | .hbm, ⟨2, _⟩ => ⟨S4096x4x128, .f32⟩
  | .hbm, ⟨3, _⟩ => ⟨S4096x4x128, .f32⟩
  | .hbm, ⟨4, _⟩ => ⟨S_, .f32⟩
  | .hbm, ⟨5, _⟩ => ⟨S4096x4, .f32⟩
  | .hbm, ⟨6, _⟩ => ⟨S4096x4x1, .f32⟩
  | .hbm, ⟨7, _⟩ => ⟨S_, .f32⟩
  | .hbm, ⟨8, _⟩ => ⟨S4096x4x1, .f32⟩
  | .hbm, ⟨9, _⟩ => ⟨S4096x4x1, .f32⟩
  | .hbm, ⟨10, _⟩ => ⟨S_, .f32⟩
  | .hbm, ⟨11, _⟩ => ⟨S4096x4x1, .f32⟩
  | .hbm, ⟨12, _⟩ => ⟨S4096x4x1, .f32⟩
  | .hbm, ⟨13, _⟩ => ⟨S4096x4x1, .f32⟩
  | .hbm, ⟨14, _⟩ => ⟨S4096x4x128, .f32⟩
  | .hbm, ⟨15, _⟩ => ⟨S4096x4x128, .f32⟩
  | .hbm, ⟨16, _⟩ => ⟨S1x1x128, .f32⟩
  | .hbm, ⟨17, _⟩ => ⟨S4096x4x128, .f32⟩
  | .hbm, ⟨18, _⟩ => ⟨S4096x4x128, .f32⟩
  | .hbm, ⟨19, _⟩ => ⟨S4096x512, .f32⟩
  | .hbm, ⟨20, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel38.lean ====
abbrev S512x2048 : Shape := ⟨2, ![512, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S1x2048, .f32⟩
  | .hbm, ⟨3, _⟩ => ⟨S512x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference38Ideal.lean ====
abbrev S512x2048 : Shape := ⟨2, ![512, 2048]⟩
abbrev S2048 : Shape := ⟨1, ![2048]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S512x2048, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x2048, .f32⟩
  | .hbm, ⟨14, _⟩ => ⟨S512x2048, .f32⟩
  | .hbm, ⟨15, _⟩ => ⟨S1x2048, .f32⟩
  | .hbm, ⟨16, _⟩ => ⟨S512x2048, .f32⟩
  | .hbm, ⟨17, _⟩ => ⟨S512x2048, .f32⟩
  | .hbm, ⟨18, _⟩ => ⟨S512x2048, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel39.lean ====
abbrev S512x512 : Shape := ⟨2, ![512, 512]⟩
abbrev S128 : Shape := ⟨1, ![128]⟩
abbrev S1x128 : Shape := ⟨2, ![1, 128]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S512x512, .f32⟩
  | .hbm, ⟨1, _⟩ => ⟨S128, .f32⟩
  | .hbm, ⟨2, _⟩ => ⟨S1x128, .f32⟩
  | .hbm, ⟨3, _⟩ => ⟨S512x512, .bf16⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .bf16⟩
  | .local _ .vmem, ⟨4, _⟩ => ⟨S512x128, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference39Ideal.lean ====
abbrev S512x512 : Shape := ⟨2, ![512, 512]⟩
abbrev S128 : Shape := ⟨1, ![128]⟩
abbrev S512x4x128 : Shape := ⟨3, ![512, 4, 128]⟩
abbrev S_ : Shape := ⟨0, ![]⟩
abbrev S512x4 : Shape := ⟨2, ![512, 4]⟩
abbrev S512x4x1 : Shape := ⟨3, ![512, 4, 1]⟩
abbrev S1x1x128 : Shape := ⟨3, ![1, 1, 128]⟩

abbrev nBuf : Space → Nat
  | .hbm => 21
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S128, .f32⟩
  | .hbm, ⟨2, _⟩ => ⟨S512x4x128, .f32⟩
  | .hbm, ⟨3, _⟩ => ⟨S512x4x128, .f32⟩
  | .hbm, ⟨4, _⟩ => ⟨S_, .f32⟩
  | .hbm, ⟨5, _⟩ => ⟨S512x4, .f32⟩
  | .hbm, ⟨6, _⟩ => ⟨S512x4x1, .f32⟩
  | .hbm, ⟨7, _⟩ => ⟨S_, .f32⟩
  | .hbm, ⟨8, _⟩ => ⟨S512x4x1, .f32⟩
  | .hbm, ⟨9, _⟩ => ⟨S512x4x1, .f32⟩
  | .hbm, ⟨10, _⟩ => ⟨S_, .f32⟩
  | .hbm, ⟨11, _⟩ => ⟨S512x4x1, .f32⟩
  | .hbm, ⟨12, _⟩ => ⟨S512x4x1, .f32⟩
  | .hbm, ⟨13, _⟩ => ⟨S512x4x1, .f32⟩
  | .hbm, ⟨14, _⟩ => ⟨S512x4x128, .f32⟩
  | .hbm, ⟨15, _⟩ => ⟨S512x4x128, .f32⟩
  | .hbm, ⟨16, _⟩ => ⟨S1x1x128, .f32⟩
  | .hbm, ⟨17, _⟩ => ⟨S512x4x128, .f32⟩
  | .hbm, ⟨18, _⟩ => ⟨S512x4x128, .f32⟩
  | .hbm, ⟨19, _⟩ => ⟨S512x512, .f32⟩
  | .hbm, ⟨20, _⟩ => ⟨S512x512, .bf16⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel40.lean ====
abbrev S4096x1024 : Shape := ⟨2, ![4096, 1024]⟩
abbrev S1024 : Shape := ⟨1, ![1024]⟩
abbrev S1x1024 : Shape := ⟨2, ![1, 1024]⟩
abbrev S1024x512 : Shape := ⟨2, ![1024, 512]⟩
abbrev S1x512 : Shape := ⟨2, ![1, 512]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference40Ideal.lean ====
abbrev S4096x1024 : Shape := ⟨2, ![4096, 1024]⟩
abbrev S1024 : Shape := ⟨1, ![1024]⟩
abbrev S_ : Shape := ⟨0, ![]⟩
abbrev S4096x2x512 : Shape := ⟨3, ![4096, 2, 512]⟩
abbrev S2x512 : Shape := ⟨2, ![2, 512]⟩
abbrev S4096x2 : Shape := ⟨2, ![4096, 2]⟩
abbrev S4096x2x1 : Shape := ⟨3, ![4096, 2, 1]⟩
abbrev S1x2x512 : Shape := ⟨3, ![1, 2, 512]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x2x512, .f32⟩
  | .hbm, ⟨14, _⟩ => ⟨S2x512, .f32⟩
  | .hbm, ⟨15, _⟩ => ⟨S4096x2x512, .f32⟩
  | .hbm, ⟨16, _⟩ => ⟨S_, .f32⟩
  | .hbm, ⟨17, _⟩ => ⟨S4096x2, .f32⟩
  | .hbm, ⟨18, _⟩ => ⟨S4096x2x1, .f32⟩
  | .hbm, ⟨19, _⟩ => ⟨S_, .f32⟩
  | .hbm, ⟨20, _⟩ => ⟨S4096x2x1, .f32⟩
  | .hbm, ⟨21, _⟩ => ⟨S4096x2x1, .f32⟩
  | .hbm, ⟨22, _⟩ => ⟨S_, .f32⟩
  | .hbm, ⟨23, _⟩ => ⟨S4096x2x1, .f32⟩
  | .hbm, ⟨24, _⟩ => ⟨S4096x2x1, .f32⟩
  | .hbm, ⟨25, _⟩ => ⟨S4096x2x1, .f32⟩
  | .hbm, ⟨26, _⟩ => ⟨S4096x2x512, .f32⟩
  | .hbm, ⟨27, _⟩ => ⟨S4096x2x512, .f32⟩
  | .hbm, ⟨28, _⟩ => ⟨S1x2x512, .f32⟩
  | .hbm, ⟨29, _⟩ => ⟨S4096x2x512, .f32⟩
  | .hbm, ⟨30, _⟩ => ⟨S4096x2x512, .f32⟩
  | .hbm, ⟨31, _⟩ => ⟨S4096x1024, .f32⟩
  | .hbm, ⟨32, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Kernel41.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference41Ideal.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel42.lean ====
abbrev S4096x2048 : Shape := ⟨2, ![4096, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8x128, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x128, .f32⟩
  | .local _ .vmem, ⟨7, _⟩ => ⟨S256x2048, .bf16⟩
  | .local _ .vmem, ⟨8, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference42Ideal.lean ====
abbrev S4096x2048 : Shape := ⟨2, ![4096, 2048]⟩
abbrev S_ : Shape := ⟨0, ![]⟩
abbrev S4096 : Shape := ⟨1, ![4096]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S8x128, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel43.lean ====
abbrev S512x2048 : Shape := ⟨2, ![512, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S512x2048, .f32⟩
  | .hbm, ⟨3, _⟩ => ⟨S1x2048, .f32⟩
  | .hbm, ⟨4, _⟩ => ⟨S512x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference43Ideal.lean ====
abbrev S512x2048 : Shape := ⟨2, ![512, 2048]⟩
abbrev S2048 : Shape := ⟨1, ![2048]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x2048, .f32⟩
  | .hbm, ⟨19, _⟩ => ⟨S512x2048, .f32⟩
  | .hbm, ⟨20, _⟩ => ⟨S1x2048, .f32⟩
  | .hbm, ⟨21, _⟩ => ⟨S512x2048, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S2048, .f32⟩
  | .hbm, ⟨31, _⟩ => ⟨S512x2048, .f32⟩
  | .hbm, ⟨32, _⟩ => ⟨S_, .f32⟩
  | .hbm, ⟨33, _⟩ => ⟨S512, .f32⟩
  | .hbm, ⟨34, _⟩ => ⟨S512x1, .f32⟩
  | .hbm, ⟨35, _⟩ => ⟨S512x2048, .f32⟩
  | .hbm, ⟨36, _⟩ => ⟨S512x2048, .f32⟩
  | .hbm, ⟨37, _⟩ => ⟨S512x1, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S_, .f32⟩
  | .hbm, ⟨42, _⟩ => ⟨S512, .f32⟩
  | .hbm, ⟨43, _⟩ => ⟨S512x2048, .f32⟩
  | .hbm, ⟨44, _⟩ => ⟨S512x2048, .f32⟩
  | .hbm, ⟨45, _⟩ => ⟨S512x2048, .f32⟩
  | .hbm, ⟨46, _⟩ => ⟨S512x2048, .f32⟩
  | .hbm, ⟨47, _⟩ => ⟨S512x2048, .f32⟩
  | .hbm, ⟨48, _⟩ => ⟨S1x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Results.lean ====
module

public import Idealize.ShloMosaic.Lib.Claim
public import Idealize.ShloMosaic.Lib.Quiescent

/- From a run to a claim: its end without semaphores, and its result written in another way. -/

@[expose] public section

noncomputable section

namespace Cert

open Idealize.ShloMosaic Idealize.SL.Sem

variable {nD : ℕ} {τ : Topo} {sig : RefSig} {Val : EltTy → Type} {Λ : Labels} {defs : Defs nD τ sig Val Λ}
  {p : (c : Thread nD τ) → Prog (TpuEff nD τ sig Val Λ c.2) PUnit} {s : MemSt nD τ sig Val}

/-- A run of a program without semaphores keeps what it is said to keep, and ends with no counter raised. -/
theorem ends_quietly {X Y : Dev nD → PUnit × MemSt nD τ sig Val → Prop} (hs : sig.nSem + sig.nDmaSem = 0)
    (h : θ_run defs p s fun r => ∀ c, X c r ∧ Y c r) : θ_run defs p s fun r => (∀ c, Y c r) ∧ r.2.sem = fun _ => 0 :=
  (θ_run defs p s).mono (fun r h => ⟨fun c => (h c).2, sem_eq_zero_of_no_sems hs r.2⟩) h

/-- The result of a run, written in another way. -/
theorem result_is {ℓ : Dev nD → Loc nD τ sig} {a v : (c : Dev nD) → Buf Val (ℓ c)} {Y : Dev nD → PUnit × MemSt nD τ sig Val → Prop}
    (h : θ_run defs p s fun r => ∀ c, r.2.mem (ℓ c) = a c ∧ Y c r) (e : ∀ c, a c = v c) :
    θ_run defs p s fun r => ∀ c, r.2.mem (ℓ c) = v c ∧ Y c r :=
  (θ_run defs p s).mono (fun _ h c => ⟨(h c).1.trans (e c), (h c).2⟩) h

end Cert

end
-- ==== Proof.Row.lean ====
module

public import Idealize.ShloMosaic.PureOps.Ideal
public import Idealize.ShloMosaic.PureOps.Ideal.Laws
public import Mathlib.Data.EReal.Inv

/- One row of the attention over the extended reals: the softmax of its scores, and its gradient. -/

@[expose] public section

noncomputable section

namespace Cert.Row

open Idealize.ShloMosaic
open scoped BigOperators

variable {n : ℕ}

/-- The row's largest score. -/
def top (s : Fin n → EReal) : EReal := Finset.univ.fold max ⊥ s

/-- The exponential of a score, measured from the largest. -/
def ex (s : Fin n → EReal) (j : Fin n) : EReal := Ideal.exp (s j - top s)

/-- Their sum. -/
def den (s : Fin n → EReal) : EReal := ∑ j, ex s j

/-- The row's probabilities. -/
def pr (s : Fin n → EReal) (j : Fin n) : EReal := Ideal.div (ex s j) (den s)

/-- The gradient of the scores (`c` the factor the scores were multiplied by) from the gradient `g` of the probabilities. -/
def ds (c : EReal) (s g : Fin n → EReal) (j : Fin n) : EReal := pr s j * (g j - ∑ k, pr s k * g k) * c

/-- The scores are below `⊤`, and one of them is a number. -/
def Good (s : Fin n → EReal) : Prop := (∀ j, s j ≠ ⊤) ∧ ∃ j, s j ≠ ⊥

/-! ## A non-negative number is distributed over any sum -/

theorem mul_add_of (x : ℝ) (hx : 0 ≤ x) (a b : EReal) : (x : EReal) * (a + b) = x * a + x * b :=
  EReal.left_distrib_of_nonneg_of_ne_top (by exact_mod_cast hx) (EReal.coe_ne_top x) a b

theorem mul_sum_of {ι : Type*} (t : Finset ι) (x : ℝ) (hx : 0 ≤ x) (f : ι → EReal) :
    (x : EReal) * ∑ i ∈ t, f i = ∑ i ∈ t, (x : EReal) * f i := by
  classical
  induction t using Finset.induction_on with
  | empty => simp
  | insert i t hi ih => rw [Finset.sum_insert hi, Finset.sum_insert hi, mul_add_of x hx, ih]

theorem mul_sub_of (x : ℝ) (hx : 0 ≤ x) (a b : EReal) : (x : EReal) * (a - b) = x * a - x * b := by
  rw [sub_eq_add_neg, mul_add_of x hx, mul_neg, ← sub_eq_add_neg]

theorem coe_sum {ι : Type*} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

/-! ## The exponentials of a good row are numbers -/

theorem le_top (s : Fin n → EReal) (j : Fin n) : s j ≤ top s := by
  rw [top, Finset.le_fold_max]
  exact .inr ⟨j, Finset.mem_univ _, le_rfl⟩

theorem top_ne_top (s : Fin n → EReal) (h : Good s) : top s ≠ ⊤ := by
  refine ne_of_lt ?_
  rw [top, Finset.fold_max_lt]
  exact ⟨bot_lt_top, fun j _ => lt_top_iff_ne_top.mpr (h.1 j)⟩

theorem top_ne_bot (s : Fin n → EReal) (h : Good s) : top s ≠ ⊥ := by
  obtain ⟨j, hj⟩ := h.2
  intro e
  exact hj (le_bot_iff.mp (e ▸ le_top s j))

theorem ex_coe (s : Fin n → EReal) (h : Good s) :
    ∃ e : Fin n → ℝ, (∀ j, 0 ≤ e j) ∧ 0 < ∑ j, e j ∧ (∀ j, ex s j = (e j : EReal)) ∧ den s = ((∑ j, e j : ℝ) : EReal) := by
  have hm : ∃ m : ℝ, top s = m := ⟨_, (EReal.coe_toReal (top_ne_top s h) (top_ne_bot s h)).symm⟩
  obtain ⟨m, hm⟩ := hm
  have key : ∀ j, ∃ e : ℝ, 0 ≤ e ∧ (s j ≠ ⊥ → 0 < e) ∧ ex s j = e := by
    intro j
    rcases eq_or_ne (s j) ⊥ with hj | hj
    · refine ⟨0, le_rfl, fun h => absurd hj h, ?_⟩
      simp only [ex, hj, EReal.bot_sub]
      rfl
    · obtain ⟨x, hx⟩ : ∃ x : ℝ, s j = x := ⟨_, (EReal.coe_toReal (h.1 j) hj).symm⟩
      refine ⟨Real.exp (x - m), (Real.exp_pos _).le, fun _ => Real.exp_pos _, ?_⟩
      simp only [ex, hx, hm, ← EReal.coe_sub]
      rfl
  choose e he0 hep hee using key
  refine ⟨e, he0, ?_, hee, ?_⟩
  · obtain ⟨j, hj⟩ := h.2
    exact Finset.sum_pos' (fun j _ => he0 j) ⟨j, Finset.mem_univ _, hep j hj⟩
  · rw [coe_sum]
    exact Finset.sum_congr rfl fun j _ => hee j

/-- The probabilities of a good row are non-negative numbers. -/
theorem pr_coe (s : Fin n → EReal) (h : Good s) : ∃ p : Fin n → ℝ, (∀ j, 0 ≤ p j) ∧ ∀ j, pr s j = (p j : EReal) := by
  obtain ⟨e, he, hz, hx, hd⟩ := ex_coe s h
  refine ⟨fun j => e j * (1 / ∑ k, e k), fun j => mul_nonneg (he j) (by positivity), fun j => ?_⟩
  rw [pr, hx, hd, Ideal.div_coe hz.ne', EReal.coe_mul]

theorem ex_masked (s : Fin n → EReal) (j : Fin n) (hj : s j = ⊥) : ex s j = 0 := by
  simp only [ex, hj, EReal.bot_sub]
  rfl

/-- A masked score has probability zero. -/
theorem pr_masked (s : Fin n → EReal) (h : Good s) (j : Fin n) (hj : s j = ⊥) : pr s j = 0 := by
  obtain ⟨e, -, hz, -, hd⟩ := ex_coe s h
  rw [pr, ex_masked s j hj, hd, Ideal.div_coe hz.ne', zero_mul]

theorem ds_masked (c : EReal) (s g : Fin n → EReal) (h : Good s) (j : Fin n) (hj : s j = ⊥) : ds c s g j = 0 := by
  rw [ds, pr_masked s h j hj, zero_mul, zero_mul]

/-! ## The quotient rule, written out -/

/-- The gradient through the quotient `e / ∑ e` and the exponential, in the order the derivative of each operation is taken:
    it is `ds`. -/
theorem quotient_rule (c : EReal) (s g : Fin n → EReal) (h : Good s) (j : Fin n) :
    (Ideal.div (g j) (den s) + -∑ k, g k * Ideal.div 1 (den s * den s) * ex s k) * ex s j * c = ds c s g j := by
  obtain ⟨e, he, hz, hx, hd⟩ := ex_coe s h
  set z := ∑ k, e k with hzd
  have ha : (0 : ℝ) ≤ 1 / z := by positivity
  have hsum : (∑ k, g k * Ideal.div 1 (den s * den s) * ex s k) = ((1 / z : ℝ) : EReal) * ∑ k, pr s k * g k := by
    rw [mul_sum_of _ _ ha]
    refine Finset.sum_congr rfl fun k _ => ?_
    have hzz : z * z ≠ 0 := (mul_pos hz hz).ne'
    rw [pr, hx, hd, ← EReal.coe_mul, Ideal.div_coe hzz, Ideal.div_coe hz.ne', one_mul, mul_comm (g k), mul_right_comm, ← EReal.coe_mul,
      ← mul_assoc, ← EReal.coe_mul, ← EReal.coe_mul]
    congr 2
    field_simp
  rw [hsum, hd, Ideal.div_coe hz.ne', mul_comm (g j), ← sub_eq_add_neg, ← mul_sub_of _ ha, ds]
  congr 1
  rw [pr, hx, hd, Ideal.div_coe hz.ne', mul_comm, ← mul_assoc]

/-! ## A row whose masked end is cut off -/

theorem sum_prefix {m : ℕ} (hmn : m ≤ n) (f : Fin n → EReal) (hf : ∀ j : Fin n, m ≤ j.val → f j = 0) :
    ∑ j, f j = ∑ j : Fin m, f (Fin.castLE hmn j) := by
  refine Eq.trans ?_ (Finset.sum_map Finset.univ (Fin.castLEEmb hmn) f)
  refine (Finset.sum_subset (Finset.subset_univ _) fun j _ hj => hf j ?_).symm
  by_contra hlt
  exact hj (Finset.mem_map.mpr ⟨⟨j.val, not_le.mp hlt⟩, Finset.mem_univ _, Fin.ext rfl⟩)

theorem top_prefix {m : ℕ} (hmn : m ≤ n) (s : Fin n → EReal) (hs : ∀ j : Fin n, m ≤ j.val → s j = ⊥) :
    top (fun j : Fin m => s (Fin.castLE hmn j)) = top s := by
  refine le_antisymm ?_ ?_
  · rw [top, Finset.fold_max_le]
    exact ⟨bot_le, fun j _ => le_top s _⟩
  · rw [top, Finset.fold_max_le]
    refine ⟨bot_le, fun j _ => ?_⟩
    rcases Nat.lt_or_ge j.val m with hj | hj
    · exact le_top (fun j : Fin m => s (Fin.castLE hmn j)) ⟨j.val, hj⟩
    · rw [hs j hj]; exact bot_le

theorem den_prefix {m : ℕ} (hmn : m ≤ n) (s : Fin n → EReal) (hs : ∀ j : Fin n, m ≤ j.val → s j = ⊥) :
    den (fun j : Fin m => s (Fin.castLE hmn j)) = den s := by
  rw [den, den, sum_prefix hmn _ fun j hj => ex_masked s j (hs j hj)]
  refine Finset.sum_congr rfl fun j _ => ?_
  rw [ex, ex, top_prefix hmn s hs]

theorem pr_prefix {m : ℕ} (hmn : m ≤ n) (s : Fin n → EReal) (hs : ∀ j : Fin n, m ≤ j.val → s j = ⊥) (j : Fin m) :
    pr (fun j : Fin m => s (Fin.castLE hmn j)) j = pr s (Fin.castLE hmn j) := by
  rw [pr, pr, den_prefix hmn s hs, ex, ex, top_prefix hmn s hs]

theorem ds_prefix {m : ℕ} (hmn : m ≤ n) (c : EReal) (s g : Fin n → EReal) (h : Good s) (hs : ∀ j : Fin n, m ≤ j.val → s j = ⊥) (j : Fin m) :
    ds c (fun j : Fin m => s (Fin.castLE hmn j)) (fun j => g (Fin.castLE hmn j)) j = ds c s g (Fin.castLE hmn j) := by
  rw [ds, ds, pr_prefix hmn s hs,
    sum_prefix hmn (fun k => pr s k * g k) fun k hk => by rw [pr_masked s h k (hs k hk), zero_mul]]
  refine congrArg (fun d => pr s (Fin.castLE hmn j) * (g (Fin.castLE hmn j) - d) * c) (Finset.sum_congr rfl fun k _ => ?_)
  rw [pr_prefix hmn s hs]

end Cert.Row
-- ==== Proof.Tile.lean ====
module

public import proofs.«01_k».proof.Proof.Row
public import Idealize.ShloMosaic.Lib.MatmulPlain
public import Idealize.ShloMosaic.Lib.Pipeline.Value
public import Idealize.ShloMosaic.Lib.WordCmp

/- One query tile of 512 rows against its first `K` keys: the arrays the tile computes, and what each holds at an index. -/

@[expose] public section

noncomputable section

namespace Cert.Tile

open Idealize.ShloMosaic Idealize.ShloMosaic.ValueIdx Cert.Row
open scoped BigOperators

/-! ## A product over the rows of both operands -/

/-- `[K,M]ᵀ × [K,N]`. -/
def firsts (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem matmul_firsts_apply {K M N : ℕ} {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (firsts K M N) prec lhs rhs acc (ix2 r c) = acc (ix2 r c) + ∑ k : Fin K, lhs (ix2 k r) * rhs (ix2 k c) := by
  rw [Ideal.matmul_apply, ← Equiv.sum_comp (contrEquiv1 (firsts K M N) K rfl rfl).symm]
  refine congrArg (acc (ix2 r c) + ·) (Finset.sum_congr rfl fun k _ => ?_)
  have hk := contrEquiv1_symm_val (firsts K M N) K rfl rfl k
  have el : (firsts K M N).lhsIdx (ix2 r c) ((contrEquiv1 (firsts K M N) K rfl rfl).symm k) = ix2 k r := by
    funext a; apply Fin.ext
    match a with
    | ⟨0, _⟩ => exact hk
    | ⟨1, _⟩ => rfl
  have er : (firsts K M N).rhsIdx (ix2 r c) ((contrEquiv1 (firsts K M N) K rfl rfl).symm k) = ix2 k c := by
    funext a; apply Fin.ext
    match a with
    | ⟨0, _⟩ => exact hk
    | ⟨1, _⟩ => rfl
  rw [el, er]

/-! ## Leading unit axes, and a column repeated along its rows -/

theorem dropUnit_at {α : Type} {a b : ℕ} (x : (⟨3, ![1, a, b]⟩ : Shape).Idx → α) (h : (⟨3, ![1, a, b]⟩ : Shape).ShapeCasts ⟨2, ![a, b]⟩)
    (r : Fin a) (c : Fin b) : shapeCast ⟨2, ![a, b]⟩ x h (ix2 r c) = x (ix3 (0 : Fin 1) r c) := by
  refine (shapeCast_dropUnit_apply ![a, b] x h (ix2 r c)).trans (congrArg x (funext fun i => ?_))
  match i with
  | ⟨0, _⟩ => rfl
  | ⟨1, _⟩ => rfl
  | ⟨2, _⟩ => rfl

theorem addUnit_at {α : Type} {a b : ℕ} (x : (⟨2, ![a, b]⟩ : Shape).Idx → α) (h : (⟨2, ![a, b]⟩ : Shape).ShapeCasts ⟨3, ![1, a, b]⟩)
    (z : Fin 1) (r : Fin a) (c : Fin b) : shapeCast ⟨3, ![1, a, b]⟩ x h (ix3 z r c) = x (ix2 r c) := by
  refine (shapeCast_addUnit_apply ![a, b] x h (ix3 z r c)).trans (congrArg x (funext fun i => ?_))
  match i with
  | ⟨0, _⟩ => rfl
  | ⟨1, _⟩ => rfl

theorem column_at {α : Type} {a b : ℕ} (hb : a ≠ 1) (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (r : Fin a) (c : Fin b) :
    broadcastTo ⟨2, ![a, b]⟩ (shapeCast ⟨2, ![a, 1]⟩ x h) h' (ix2 r c) = x (ix1 r) := by
  rw [broadcastTo_apply _ h' (ix2 r c) (ix2 r (0 : Fin 1)) (fun i => match i with
    | ⟨0, _⟩ => by
      show r.val = if a = 1 then 0 else r.val
      rw [if_neg hb]
    | ⟨1, _⟩ => by
      show 0 = if (1 : ℕ) = 1 then 0 else c.val
      rw [if_pos rfl])]
  refine shapeCast_apply x h _ (ix1 r) ?_
  rw [Shape.rowMajor_val_one, Shape.rowMajor_val_two]
  show r.val = r.val * 1 + 0
  omega

/-! ## A row's sum and largest entry -/

theorem lift_row {a b : ℕ} (h : (⟨2, ![a, b]⟩ : Shape).Reduces [1] ⟨1, ![a]⟩) (r : Fin a) (k : Fin b) : h.lift (ix1 r) k = ix2 r k := by
  funext i; apply Fin.ext
  match i with
  | ⟨0, _⟩ => rfl
  | ⟨1, _⟩ => rfl

/-- The largest entry of each row. -/
def rowMax {a b : ℕ} (h : (⟨2, ![a, b]⟩ : Shape).Reduces [1] ⟨1, ![a]⟩) (x : FVec Ideal ⟨2, ![a, b]⟩ .f32) : FVec Ideal ⟨1, ![a]⟩ .f32 :=
  multiReduction .maximumf [1] ⟨1, ![a]⟩ x 0xFF800000#32 h (.inl rfl) rfl

/-- The sum of each row. -/
def rowSum {a b : ℕ} (h : (⟨2, ![a, b]⟩ : Shape).Reduces [1] ⟨1, ![a]⟩) (x : FVec Ideal ⟨2, ![a, b]⟩ .f32) : FVec Ideal ⟨1, ![a]⟩ .f32 :=
  multiReduction .add [1] ⟨1, ![a]⟩ x 0x00000000#32 h (.inl rfl) rfl

theorem rowSum_at {a b : ℕ} (h : (⟨2, ![a, b]⟩ : Shape).Reduces [1] ⟨1, ![a]⟩) (x : FVec Ideal ⟨2, ![a, b]⟩ .f32) (r : Fin a) :
    rowSum h x (ix1 r) = ∑ k : Fin b, x (ix2 r k) :=
  (Ideal.multiReduction_add_single x _ h _ _ (ix1 r)).trans (Finset.sum_congr rfl fun k _ => congrArg x (lift_row h r k))

theorem negInf : Ideal.ofBits .f32 0xFF800000#32 = ⊥ := by
  simp [Ideal.ofBits, Ideal.ieee]

theorem rowMax_at {a b : ℕ} (h : (⟨2, ![a, b]⟩ : Shape).Reduces [1] ⟨1, ![a]⟩) (x : FVec Ideal ⟨2, ![a, b]⟩ .f32) (r : Fin a) :
    rowMax h x (ix1 r) = top fun k : Fin b => x (ix2 r k) := by
  refine (Ideal.multiReduction_maximumf_single x _ h _ _ (ix1 r)).trans ?_
  rw [top, ← negInf]
  exact congrArg (Finset.univ.fold max _) (funext fun k => congrArg x (lift_row h r k))

theorem zero_at (s : Shape) (i : s.Idx) : (constant s .f32 0x00000000#32 : FVec Ideal s .f32) i = (0 : EReal) :=
  Ideal.ofBits_zero_f32

theorem select_of {α : Type} {c : BitVec 1} {P : Prop} [Decidable P] (h : c = 1#1 ↔ P) (a b : α) :
    Scalar.select c a b = if P then a else b :=
  if_congr h rfl rfl

/-! ## The tile's arrays -/

/-- The factor of the scores. -/
def sc : EReal := Ideal.ofBits .f32 0x3D93CD3A#32

section
variable {K : ℕ}

/-- The masked scores; `row0` is the tile's first row and `mk` the value of a masked score. -/
def scores (row0 : BitVec 32) (mk : Ideal .f32) (hi0 : (⟨2, ![512, K]⟩ : Shape).Iotas .tc 32 [0]) (hi1 : (⟨2, ![512, K]⟩ : Shape).Iotas .tc 32 [1])
    (q : FVec Ideal ⟨2, ![512, 256]⟩ .bf16) (k : FVec Ideal ⟨2, ![K, 256]⟩ .bf16) : FVec Ideal ⟨2, ![512, K]⟩ .f32 :=
  select (cmpi .sge (addi (broadcast ⟨2, ![512, K]⟩ row0) (iota .tc ⟨2, ![512, K]⟩ 32 [0] hi0)) (iota .tc ⟨2, ![512, K]⟩ 32 [1] hi1))
    (mulf (matmul (DotDims.transposedRhs 512 256 K) none q k (constant ⟨2, ![512, K]⟩ .f32 0x00000000#32))
      (broadcast ⟨2, ![512, K]⟩ (Scalar.ofBits .f32 0x3D93CD3A#32)))
    (broadcast ⟨2, ![512, K]⟩ mk)

/-- A column repeated along its rows. -/
def col (x : FVec Ideal ⟨1, ![512]⟩ .f32) (hs : (⟨1, ![512]⟩ : Shape).ShapeCasts ⟨2, ![512, 1]⟩)
    (hb : (⟨2, ![512, 1]⟩ : Shape).Broadcasts ⟨2, ![512, K]⟩) : FVec Ideal ⟨2, ![512, K]⟩ .f32 :=
  broadcastTo ⟨2, ![512, K]⟩ (shapeCast ⟨2, ![512, 1]⟩ x hs) hb

/-- The probabilities. -/
def probs (hr : (⟨2, ![512, K]⟩ : Shape).Reduces [1] ⟨1, ![512]⟩) (hs : (⟨1, ![512]⟩ : Shape).ShapeCasts ⟨2, ![512, 1]⟩)
    (hb : (⟨2, ![512, 1]⟩ : Shape).Broadcasts ⟨2, ![512, K]⟩) (s : FVec Ideal ⟨2, ![512, K]⟩ .f32) : FVec Ideal ⟨2, ![512, K]⟩ .f32 :=
  divf (exp (subf s (col (rowMax hr s) hs hb)))
    (col (rowSum hr (exp (subf s (col (rowMax hr s) hs hb)))) hs hb)

/-- The gradient of the probabilities. -/
def dprobs (v : FVec Ideal ⟨2, ![K, 128]⟩ .bf16) (o : FVec Ideal ⟨2, ![512, 128]⟩ .bf16) : FVec Ideal ⟨2, ![512, K]⟩ .f32 :=
  matmul (DotDims.transposedRhs 512 128 K) none o v (constant ⟨2, ![512, K]⟩ .f32 0x00000000#32)

/-- The gradient of the scores. -/
def dscores (hr : (⟨2, ![512, K]⟩ : Shape).Reduces [1] ⟨1, ![512]⟩) (hs : (⟨1, ![512]⟩ : Shape).ShapeCasts ⟨2, ![512, 1]⟩)
    (hb : (⟨2, ![512, 1]⟩ : Shape).Broadcasts ⟨2, ![512, K]⟩) (p g : FVec Ideal ⟨2, ![512, K]⟩ .f32) : FVec Ideal ⟨2, ![512, K]⟩ .bf16 :=
  truncf .bf16 (mulf (mulf p (subf g (col (rowSum hr (mulf p g)) hs hb)))
    (broadcast ⟨2, ![512, K]⟩ (Scalar.ofBits .f32 0x3D93CD3A#32))) (by decide)

theorem scores_at (r0 : ℕ) (hr0 : r0 ≤ 1536) (hK : K ≤ 2048) (mk : Ideal .f32) (hi0 hi1) (q : FVec Ideal ⟨2, ![512, 256]⟩ .bf16)
    (k : FVec Ideal ⟨2, ![K, 256]⟩ .bf16) (r : Fin 512) (j : Fin K) :
    scores (BitVec.ofNat 32 r0) mk hi0 hi1 q k (ix2 r j)
      = if j.val ≤ r0 + r.val then (∑ c : Fin 256, q (ix2 r c) * k (ix2 j c)) * sc else mk := by
  have hm : matmul (DotDims.transposedRhs 512 256 K) none q k (constant ⟨2, ![512, K]⟩ .f32 0x00000000#32) (ix2 r j)
      = ∑ c : Fin 256, q (ix2 r c) * k (ix2 j c) := by
    refine (Ideal.matmul_transposedRhs_apply none q k _ r j).trans ?_
    exact (congrArg (· + _) (zero_at _ _)).trans (zero_add _)
  have hc : cmpi .sge (addi (broadcast ⟨2, ![512, K]⟩ (BitVec.ofNat 32 r0)) (iota .tc ⟨2, ![512, K]⟩ 32 [0] hi0)) (iota .tc ⟨2, ![512, K]⟩ 32 [1] hi1)
      (ix2 r j) = 1#1 ↔ j.val ≤ r0 + r.val := by
    have h0 := iota_single_apply .tc ⟨2, ![512, K]⟩ 32 0 hi0 (ix2 r j)
    have h1 := iota_single_apply .tc ⟨2, ![512, K]⟩ 32 1 hi1 (ix2 r j)
    show IntOp.cmpi .sge (BitVec.ofNat 32 r0 + iota .tc ⟨2, ![512, K]⟩ 32 [0] hi0 (ix2 r j)) (iota .tc ⟨2, ![512, K]⟩ 32 [1] hi1 (ix2 r j)) = 1#1 ↔ _
    rw [h0, h1, ← BitVec.ofNat_add]
    have hj := j.isLt
    have hr := r.isLt
    exact WordCmp.cmpi_sge_ofNat_eq_one_iff (a := r0 + r.val) (b := j.val) (by omega) (by omega)
  refine (select_of hc _ _).trans ?_
  refine if_congr Iff.rfl ?_ rfl
  exact congrArg (· * sc) hm

theorem col_at (x : FVec Ideal ⟨1, ![512]⟩ .f32) (hs hb) (r : Fin 512) (j : Fin K) : col x hs hb (ix2 r j) = x (ix1 r) :=
  column_at (by decide) x hs hb r j

theorem exps_at (hr hs hb) (s : FVec Ideal ⟨2, ![512, K]⟩ .f32) (r : Fin 512) (j : Fin K) :
    (exp (subf s (col (rowMax hr s) hs hb)) : FVec Ideal ⟨2, ![512, K]⟩ .f32) (ix2 r j)
      = ex (fun j => s (ix2 r j)) j := by
  show Ideal.exp (s (ix2 r j) - col _ hs hb (ix2 r j)) = _
  rw [col_at, rowMax_at, ex]

theorem probs_at (hr hs hb) (s : FVec Ideal ⟨2, ![512, K]⟩ .f32) (r : Fin 512) (j : Fin K) :
    probs hr hs hb s (ix2 r j) = pr (fun j => s (ix2 r j)) j := by
  refine (congr (congrArg Ideal.div (exps_at hr hs hb s r j)) ((col_at _ hs hb r j).trans (rowSum_at hr _ r))).trans ?_
  rw [pr, den]
  exact congrArg _ (Finset.sum_congr rfl fun k _ => exps_at hr hs hb s r k)

theorem dprobs_at (v : FVec Ideal ⟨2, ![K, 128]⟩ .bf16) (o : FVec Ideal ⟨2, ![512, 128]⟩ .bf16) (r : Fin 512) (j : Fin K) :
    dprobs v o (ix2 r j) = ∑ c : Fin 128, o (ix2 r c) * v (ix2 j c) := by
  refine (Ideal.matmul_transposedRhs_apply none o v _ r j).trans ?_
  exact (congrArg (· + _) (zero_at _ _)).trans (zero_add _)

theorem dscores_at (hr hs hb) (s p g : FVec Ideal ⟨2, ![512, K]⟩ .f32) (r : Fin 512) (j : Fin K)
    (hp : ∀ j, p (ix2 r j) = pr (fun j => s (ix2 r j)) j) :
    dscores hr hs hb p g (ix2 r j) = ds sc (fun j => s (ix2 r j)) (fun j => g (ix2 r j)) j := by
  show p (ix2 r j) * (g (ix2 r j) - col _ hs hb (ix2 r j)) * sc = _
  rw [col_at, rowSum_at, hp, ds]
  refine congrArg (fun d => pr _ j * (_ - d) * sc) (Finset.sum_congr rfl fun k _ => ?_)
  show p (ix2 r k) * g (ix2 r k) = _
  rw [hp]

/-- A product of `512 × K` by `K × N`, with nothing added. -/
theorem plain_at {N : ℕ} {φ₁ φ₂ : FTy} (a : FVec Ideal ⟨2, ![512, K]⟩ φ₁) (b : FVec Ideal ⟨2, ![K, N]⟩ φ₂) (r : Fin 512) (c : Fin N) :
    matmul (DotDims.plain 512 K N) none a b (constant ⟨2, ![512, N]⟩ .f32 0x00000000#32) (ix2 r c) = ∑ j : Fin K, a (ix2 r j) * b (ix2 j c) := by
  refine (Ideal.matmul_plain_apply none a b _ r c).trans ?_
  exact (congrArg (· + _) (zero_at _ _)).trans (zero_add _)

/-- The product of `512 × K` transposed by `512 × N`, added to a block with a leading unit axis. -/
theorem addFirsts_at {N : ℕ} {φ₁ φ₂ : FTy} (h h') (d : FVec Ideal ⟨3, ![1, K, N]⟩ .f32) (a : FVec Ideal ⟨2, ![512, K]⟩ φ₁)
    (b : FVec Ideal ⟨2, ![512, N]⟩ φ₂) (z : Fin 1) (j : Fin K) (c : Fin N) :
    shapeCast ⟨3, ![1, K, N]⟩ (addf (shapeCast ⟨2, ![K, N]⟩ d h)
      (matmul (firsts 512 K N) none a b (constant ⟨2, ![K, N]⟩ .f32 0x00000000#32))) h' (ix3 z j c)
      = d (ix3 (0 : Fin 1) j c) + ∑ r : Fin 512, a (ix2 r j) * b (ix2 r c) := by
  rw [addUnit_at]
  show shapeCast ⟨2, ![K, N]⟩ d h (ix2 j c) + matmul (firsts 512 K N) none a b (constant ⟨2, ![K, N]⟩ .f32 0x00000000#32) (ix2 j c) = _
  rw [dropUnit_at]
  refine congrArg (_ + ·) ((matmul_firsts_apply none a b _ j c).trans ?_)
  exact (congrArg (· + _) (zero_at _ _)).trans (zero_add _)

end

end Cert.Tile
-- ==== Proof.Ffn.Common.lean ====
module

public import proofs.«01_k».proof.Proof.Tile
public import Idealize.ShloMosaic.Lib.Pointwise
public import Idealize.ShloMosaic.Lib.Pipeline.ValueKit.Acc

/- Products of matrices at an index, the sigmoid's pieces, and the columns of a weight kept in four blocks. -/

@[expose] public section

noncomputable section

namespace Cert.Ffn

open Idealize.ShloMosaic hiding ix1 ix2 ix3 ix4 eq_ix1 eq_ix2 eq_ix3 eq_ix4
open Idealize.ShloMosaic.ValueIdx Cert.Tile
open scoped BigOperators

/-! ## Arrays the calls compute -/

/-- A weight of `5632` columns kept as four blocks of `1408`: its entry at row `k`, column `j`. -/
def wcol (w : (⟨4, ![1, 4, 2048, 1408]⟩ : Shape).Idx → EReal) (k : Fin 2048) (j : Fin 5632) : EReal :=
  w (ix4 (0 : Fin 1) (⟨j.val / 1408, by omega⟩ : Fin 4) k (⟨j.val % 1408, by omega⟩ : Fin 1408))

/-- The sigmoid, as the programs compute it. -/
def sigm (x : EReal) : EReal := Ideal.div 1 (1 + Ideal.exp (-x))

theorem one_f32 : Ideal.ofBits .f32 0x3F800000#32 = 1 := by
  simp [Ideal.ofBits, Ideal.ieee]
  rw [← EReal.coe_mul]
  norm_num

theorem zero_f32 : Ideal.ofBits .f32 0x00000000#32 = 0 := Ideal.ofBits_zero_f32

/-! ## Unit axes, and products with nothing added -/

theorem dropUnits_at {α : Type} {a b : ℕ} (x : (⟨4, ![1, 1, a, b]⟩ : Shape).Idx → α)
    (h : (⟨4, ![1, 1, a, b]⟩ : Shape).ShapeCasts ⟨2, ![a, b]⟩) (r : Fin a) (c : Fin b) :
    shapeCast ⟨2, ![a, b]⟩ x h (ix2 r c) = x (ix4 (0 : Fin 1) (0 : Fin 1) r c) := by
  refine shapeCast_apply x h _ _ ?_
  rw [Shape.rowMajor_val_four, Shape.rowMajor_val_two]
  show ((0 * 1 + 0) * a + r.val) * b + c.val = r.val * b + c.val
  rw [Nat.zero_mul, Nat.zero_add]

theorem nn_at {M K N : ℕ} {φ₁ φ₂ : FTy} (a : FVec Ideal ⟨2, ![M, K]⟩ φ₁) (b : FVec Ideal ⟨2, ![K, N]⟩ φ₂) (r : Fin M) (c : Fin N) :
    matmul (DotDims.plain M K N) none a b (constant ⟨2, ![M, N]⟩ .f32 0x00000000#32) (ix2 r c) = ∑ j : Fin K, a (ix2 r j) * b (ix2 j c) := by
  refine (Ideal.matmul_plain_apply none a b _ r c).trans ?_
  exact (congrArg (· + _) (zero_at _ _)).trans (zero_add _)

theorem nt_at {M K N : ℕ} {φ₁ φ₂ : FTy} (a : FVec Ideal ⟨2, ![M, K]⟩ φ₁) (b : FVec Ideal ⟨2, ![N, K]⟩ φ₂) (r : Fin M) (c : Fin N) :
    matmul (DotDims.transposedRhs M K N) none a b (constant ⟨2, ![M, N]⟩ .f32 0x00000000#32) (ix2 r c) = ∑ j : Fin K, a (ix2 r j) * b (ix2 c j) := by
  refine (Ideal.matmul_transposedRhs_apply none a b _ r c).trans ?_
  exact (congrArg (· + _) (zero_at _ _)).trans (zero_add _)

theorem tn_at {M K N : ℕ} {φ₁ φ₂ : FTy} (a : FVec Ideal ⟨2, ![K, M]⟩ φ₁) (b : FVec Ideal ⟨2, ![K, N]⟩ φ₂) (r : Fin M) (c : Fin N) :
    matmul (firsts K M N) none a b (constant ⟨2, ![M, N]⟩ .f32 0x00000000#32) (ix2 r c) = ∑ j : Fin K, a (ix2 j r) * b (ix2 j c) := by
  refine (matmul_firsts_apply none a b _ r c).trans ?_
  exact (congrArg (· + _) (zero_at _ _)).trans (zero_add _)

/-! ## Sums added up point by point -/

/-- A value begun at every other of the points, the next point adding its term: what the second leaves. -/
theorem two_points {N : ℕ} {T : Fin N → EReal} {f : (n : ℕ) → n < N → EReal} {o : Fin N → EReal}
    (hA : ∀ t : Fin N, t.val % 2 = 0 → f t.val t.isLt = T t)
    (hB : ∀ t : Fin N, t.val % 2 = 1 → o t = f (t.val - 1) (by omega) + T t) (t : Fin N) (ht : t.val % 2 = 1) :
    o t = ∑ s : Fin 2, T ⟨t.val - 1 + s.val, by omega⟩ := by
  have h1 := hA ⟨t.val - 1, by omega⟩ (by show (t.val - 1) % 2 = 0; omega)
  rw [hB t ht]
  dsimp only at h1
  rw [h1, Fin.sum_univ_two]
  exact congrArg (T _ + ·) (congrArg T (Fin.ext (by show t.val = t.val - 1 + 1; omega)))

/-- A value begun at every fourth of the points, a term added at each: what the fourth leaves. -/
theorem four_points {N : ℕ} {T : Fin N → EReal} {f : (n : ℕ) → n < N → EReal} {o : Fin N → EReal} {b : EReal}
    (hA : ∀ t : Fin N, t.val % 4 = 0 → f t.val t.isLt = T t)
    (hB : ∀ t : Fin N, 1 ≤ t.val % 4 ∧ t.val % 4 ≤ 2 → f t.val t.isLt = f (t.val - 1) (by omega) + T t)
    (t : Fin N) (ht : t.val % 4 = 3) (hC : o t = f (t.val - 1) (by omega) + T t + b) :
    o t = ∑ s : Fin 4, T ⟨t.val - 3 + s.val, by omega⟩ + b := by
  have h1 := hB ⟨t.val - 1, by omega⟩ (by show 1 ≤ (t.val - 1) % 4 ∧ (t.val - 1) % 4 ≤ 2; omega)
  have h2 := hB ⟨t.val - 1 - 1, by omega⟩ (by show 1 ≤ (t.val - 1 - 1) % 4 ∧ (t.val - 1 - 1) % 4 ≤ 2; omega)
  have h3 := hA ⟨t.val - 1 - 1 - 1, by omega⟩ (by show (t.val - 1 - 1 - 1) % 4 = 0; omega)
  rw [hC]
  refine congrArg (· + b) ?_
  dsimp only at h1 h2 h3
  rw [h1, h2, h3, Fin.sum_univ_four]
  congr 1
  · congr 1
    · congr 1
      exact congrArg T (Fin.ext (by show t.val - 1 - 1 = t.val - 3 + 1; omega))
    · exact congrArg T (Fin.ext (by show t.val - 1 = t.val - 3 + 2; omega))
  · exact congrArg T (Fin.ext (by show t.val = t.val - 3 + 3; omega))

/-- A sum over `5632` columns, a block of `1408` at a time. -/
theorem four_blocks (f : Fin 5632 → EReal) : ∑ j, f j = ∑ s : Fin 4, ∑ j : Fin 1408, f ⟨s.val * 1408 + j.val, by omega⟩ :=
  (Fin.sum_mul_add_fin 4 1408 f).symm

/-- A sum over `4096` tokens, a half at a time. -/
theorem two_halves (f : Fin 4096 → EReal) : ∑ j, f j = ∑ s : Fin 2, ∑ j : Fin 2048, f ⟨s.val * 2048 + j.val, by omega⟩ :=
  (Fin.sum_mul_add_fin 2 2048 f).symm

end Cert.Ffn

end
-- ==== Proof.Ffn.GateUp.lean ====
module

public import proofs.«01_k».proof.Proof.Ffn.Common
public import proofs.«01_k».proof.Proof.Gen.Kernel2Ideal.Value
public import proofs.«01_k».proof.Proof.Gen.Reference2Ideal.Read
public import Idealize.ShloMosaic.Lib.Pipeline.ValueKit.Geometry

/- The feed-forward layer's first call: both products of the tokens with the gate and up weights, and the activation. -/

@[expose] public section

set_option maxRecDepth 16384

noncomputable section

namespace Cert.Ffn

open Idealize.ShloMosaic hiding ix1 ix2 ix3 ix4 eq_ix1 eq_ix2 eq_ix3 eq_ix4
open Idealize.ShloMosaic.TcCoe Idealize.ShloMosaic.ValueIdx Cert.Tile
open scoped BigOperators

/-- The tokens times a weight. -/
def prod (h : (⟨2, ![4096, 2048]⟩ : Shape).Idx → EReal) (w : (⟨4, ![1, 4, 2048, 1408]⟩ : Shape).Idx → EReal) :
    (⟨2, ![4096, 5632]⟩ : Shape).Idx → EReal :=
  fun y => ∑ k : Fin 2048, h (ix2 (y 0) k) * wcol w k (y 1)

/-- The activation: the gate's product through `x ↦ x * sigmoid x`, times the up product. -/
def act (h : (⟨2, ![4096, 2048]⟩ : Shape).Idx → EReal) (wg wu : (⟨4, ![1, 4, 2048, 1408]⟩ : Shape).Idx → EReal) :
    (⟨2, ![4096, 5632]⟩ : Shape).Idx → EReal :=
  fun y => prod h wg y * sigm (prod h wg y) * prod h wu y

end Cert.Ffn

namespace Cert.Kernel2Ideal.Hand

open Idealize.ShloMosaic hiding ix1 ix2 ix3 ix4 eq_ix1 eq_ix2 eq_ix3 eq_ix4
open Cert.Kernel2Ideal Cert.Kernel2Ideal.Gen Cert.Ffn Cert.Tile
open Idealize.ShloMosaic.TcCoe Idealize.ShloMosaic.ValueIdx
open scoped BigOperators

/-! ## The body's products -/

theorem pay1_at (v0 : Vec Ideal S512x2048 .bf16) (v1 : Vec Ideal S1x1x2048x1408 .bf16) (r : Fin 512) (j : Fin 1408) :
    k0_pay1 (F := Ideal) v0 v1 (ix2 r j) = ∑ k : Fin 2048, v0 (ix2 r k) * v1 (ix4 (0 : Fin 1) (0 : Fin 1) k j) := by
  refine (nn_at v0 _ r j).trans (Finset.sum_congr rfl fun k _ => ?_)
  rw [dropUnits_at]

theorem pay2_at (v0 : Vec Ideal S512x2048 .bf16) (v1 : Vec Ideal S1x1x2048x1408 .bf16) (r : Fin 512) (j : Fin 1408) :
    k0_pay2 (F := Ideal) v0 v1 (ix2 r j) = ∑ k : Fin 2048, v0 (ix2 r k) * v1 (ix4 (0 : Fin 1) (0 : Fin 1) k j) := pay1_at v0 v1 r j

theorem pay5_at (v0 : Vec Ideal S512x2048 .bf16) (v1 v4 : Vec Ideal S1x1x2048x1408 .bf16) (y : S512x1408.Idx) :
    k0_pay5 (F := Ideal) v0 v1 v4 y = k0_pay1 (F := Ideal) v0 v1 y * sigm (k0_pay1 (F := Ideal) v0 v1 y) * k0_pay2 (F := Ideal) v0 v4 y := by
  show k0_pay1 (F := Ideal) v0 v1 y * Ideal.div (Ideal.ofBits .f32 0x3F800000#32) (Ideal.ofBits .f32 0x3F800000#32
    + Ideal.exp (Ideal.ofBits .f32 0x00000000#32 - k0_pay1 (F := Ideal) v0 v1 y)) * k0_pay2 (F := Ideal) v0 v4 y = _
  rw [one_f32, zero_f32, zero_sub]
  rfl

variable (m : (ℓ : Loc nD τ sig) → Buf (Elt Ideal) ℓ) (c : Dev nD)

/-- The argument arrays. -/
abbrev A0 : (⟨2, ![4096, 2048]⟩ : Shape).Idx → EReal := m ((c.tc : Thread nD τ).loc main_arg0)
abbrev A1 : (⟨4, ![1, 4, 2048, 1408]⟩ : Shape).Idx → EReal := m ((c.tc : Thread nD τ).loc main_arg1)
abbrev A2 : (⟨4, ![1, 4, 2048, 1408]⟩ : Shape).Idx → EReal := m ((c.tc : Thread nD τ).loc main_arg2)

theorem idx_0 : ∀ t : Fin cfg0.N, win0_0.index t = ![t.val / 4, 0] := (by decide +kernel : ∀ t : Fin grid0.N, _)
theorem idx_1 : ∀ t : Fin cfg0.N, win0_1.index t = ![0, t.val % 4, 0, 0] := (by decide +kernel : ∀ t : Fin grid0.N, _)
theorem idx_2 : ∀ t : Fin cfg0.N, win0_2.index t = ![0, t.val % 4, 0, 0] := (by decide +kernel : ∀ t : Fin grid0.N, _)
theorem idx_3 : ∀ t : Fin cfg0.N, win0_3.index t = ![t.val / 4, t.val % 4] := (by decide +kernel : ∀ t : Fin grid0.N, _)
theorem idx_4 : ∀ t : Fin cfg0.N, win0_4.index t = ![t.val / 4, t.val % 4] := (by decide +kernel : ∀ t : Fin grid0.N, _)
theorem idx_5 : ∀ t : Fin cfg0.N, win0_5.index t = ![t.val / 4, t.val % 4] := (by decide +kernel : ∀ t : Fin grid0.N, _)

/-- The rows and columns a grid point works on. -/
def row (t : Fin cfg0.N) (r : Fin 512) : Fin 4096 := ⟨t.val / 4 * 512 + r.val, by have : t.val < 32 := t.isLt; omega⟩
def col (t : Fin cfg0.N) (j : Fin 1408) : Fin 5632 := ⟨t.val % 4 * 1408 + j.val, by omega⟩

theorem blk_0 (t : Fin cfg0.N) (r : Fin 512) (k : Fin 2048) : iblk m c 0 t (ix2 r k) = A0 m c (ix2 (row t r) k) := by
  blk_simp [iblk]
  refine congrArg (A0 m c) (funext fun a => Fin.ext ?_)
  match a with
  | ⟨0, _⟩ => blk_simp [idx_0]; show t.val / 4 * 512 + r.val = t.val / 4 * 512 + r.val; rfl
  | ⟨1, _⟩ => blk_simp [idx_0]

theorem blk_1 (t : Fin cfg0.N) (k : Fin 2048) (j : Fin 1408) :
    iblk m c 1 t (ix4 (0 : Fin 1) (0 : Fin 1) k j) = wcol (A1 m c) k (col t j) := by
  blk_simp [iblk]
  refine congrArg (A1 m c) (funext fun a => Fin.ext ?_)
  match a with
  | ⟨0, _⟩ => blk_simp [idx_1]
  | ⟨1, _⟩ => blk_simp [idx_1]; show t.val % 4 + 0 = (t.val % 4 * 1408 + j.val) / 1408; omega
  | ⟨2, _⟩ => blk_simp [idx_1]
  | ⟨3, _⟩ => blk_simp [idx_1]; show j.val = (t.val % 4 * 1408 + j.val) % 1408; omega

theorem blk_2 (t : Fin cfg0.N) (k : Fin 2048) (j : Fin 1408) :
    iblk m c 2 t (ix4 (0 : Fin 1) (0 : Fin 1) k j) = wcol (A2 m c) k (col t j) := by
  blk_simp [iblk]
  refine congrArg (A2 m c) (funext fun a => Fin.ext ?_)
  match a with
  | ⟨0, _⟩ => blk_simp [idx_2]
  | ⟨1, _⟩ => blk_simp [idx_2]; show t.val % 4 + 0 = (t.val % 4 * 1408 + j.val) / 1408; omega
  | ⟨2, _⟩ => blk_simp [idx_2]
  | ⟨3, _⟩ => blk_simp [idx_2]; show j.val = (t.val % 4 * 1408 + j.val) % 1408; omega

theorem gate_at (t : Fin cfg0.N) (r : Fin 512) (j : Fin 1408) :
    k0_pay1 (F := Ideal) (iblk m c 0 t) (iblk m c 1 t) (ix2 r j) = prod (A0 m c) (A1 m c) (ix2 (row t r) (col t j)) := by
  rw [pay1_at]
  exact Finset.sum_congr rfl fun k _ => by rw [blk_0, blk_1]

theorem up_at (t : Fin cfg0.N) (r : Fin 512) (j : Fin 1408) :
    k0_pay2 (F := Ideal) (iblk m c 0 t) (iblk m c 2 t) (ix2 r j) = prod (A0 m c) (A2 m c) (ix2 (row t r) (col t j)) := by
  rw [pay2_at]
  exact Finset.sum_congr rfl fun k _ => by rw [blk_0, blk_2]

/-! ## The three arrays -/

theorem final_gate : (dats m 0 c).arrAt 3 cfg0.N = prod (A0 m c) (A1 m c) := by
  refine (dats m 0 c).arrAt_eq_of_covers 3 _ (by decide +kernel) fun t hf y => ?_
  blk_simp
  rw [after0_3, out0_3, View.canon_cons_unit_lit _ _ _ (by decide), View.ld_unit_lit _ _ (by decide), View.ld_unit_lit _ _ (by decide)]
  obtain ⟨r, j, rfl⟩ : ∃ (r : Fin 512) (j : Fin 1408), y = ix2 r j := ⟨y 0, y 1, eq_ix2 y⟩
  refine (gate_at m c t r j).trans (congrArg _ (funext fun a => Fin.ext ?_))
  match a with
  | ⟨0, _⟩ => blk_simp [idx_3]; show t.val / 4 * 512 + r.val = t.val / 4 * 512 + r.val; rfl
  | ⟨1, _⟩ => blk_simp [idx_3]; show t.val % 4 * 1408 + j.val = t.val % 4 * 1408 + j.val; rfl

theorem final_up : (dats m 0 c).arrAt 4 cfg0.N = prod (A0 m c) (A2 m c) := by
  refine (dats m 0 c).arrAt_eq_of_covers 4 _ (by decide +kernel) fun t hf y => ?_
  blk_simp
  rw [after0_4, out0_4, View.canon_cons_unit_lit _ _ _ (by decide), View.ld_unit_lit _ _ (by decide), View.ld_unit_lit _ _ (by decide)]
  obtain ⟨r, j, rfl⟩ : ∃ (r : Fin 512) (j : Fin 1408), y = ix2 r j := ⟨y 0, y 1, eq_ix2 y⟩
  refine (up_at m c t r j).trans (congrArg _ (funext fun a => Fin.ext ?_))
  match a with
  | ⟨0, _⟩ => blk_simp [idx_4]; show t.val / 4 * 512 + r.val = t.val / 4 * 512 + r.val; rfl
  | ⟨1, _⟩ => blk_simp [idx_4]; show t.val % 4 * 1408 + j.val = t.val % 4 * 1408 + j.val; rfl

theorem final_act : (dats m 0 c).arrAt 5 cfg0.N = act (A0 m c) (A1 m c) (A2 m c) := by
  refine (dats m 0 c).arrAt_eq_of_covers 5 _ (by decide +kernel) fun t hf y => ?_
  blk_simp
  rw [after0_5, out0_5, View.canon_cons_unit_lit _ _ _ (by decide), View.ld_unit_lit _ _ (by decide), View.ld_unit_lit _ _ (by decide),
    View.ld_unit_lit _ _ (by decide)]
  obtain ⟨r, j, rfl⟩ : ∃ (r : Fin 512) (j : Fin 1408), y = ix2 r j := ⟨y 0, y 1, eq_ix2 y⟩
  refine (pay5_at _ _ _ (ix2 r j)).trans ?_
  rw [gate_at, up_at]
  refine congrArg (act (A0 m c) (A1 m c) (A2 m c)) (show ix2 (row t r) (col t j) = _ from funext fun a => Fin.ext ?_)
  match a with
  | ⟨0, _⟩ => blk_simp [idx_5]; show t.val / 4 * 512 + r.val = t.val / 4 * 512 + r.val; rfl
  | ⟨1, _⟩ => blk_simp [idx_5]; show t.val % 4 * 1408 + j.val = t.val % 4 * 1408 + j.val; rfl

end Cert.Kernel2Ideal.Hand

namespace Cert.Reference2Ideal.Hand

open Idealize.ShloMosaic hiding ix1 ix2 ix3 ix4 eq_ix1 eq_ix2 eq_ix3 eq_ix4
open Cert.Reference2Ideal Cert.Reference2Ideal.Read Cert.Ffn Idealize.ShloMosaic.ValueIdx
open scoped BigOperators

variable (x0 : (⟨S4096x2048, .bf16⟩ : BufTy).Contents (Elt Ideal)) (x1 x2 : (⟨S1x4x2048x1408, .bf16⟩ : BufTy).Contents (Elt Ideal))

theorem v4_at (k : Fin 2048) (j : Fin 5632) : val_main_v4 (F := Ideal) x1 (ix2 k j) = wcol x1 k j := by
  rw [val_main_v4_apply, val_main_v3_apply, val_main_v2_apply, val_main_v1_apply]
  have e0 : (k.val * 5632 + j.val) / 5632 = k.val := by omega
  have e1 : (k.val * 5632 + j.val) / 1408 % 4 = j.val / 1408 := by omega
  have e2 : (k.val * 5632 + j.val) % 1408 = j.val % 1408 := by omega
  refine congrArg x1 (funext fun a => Fin.ext ?_)
  match a with
  | ⟨0, _⟩ => rfl
  | ⟨1, _⟩ =>
    show (((k.val * 5632 + j.val) / 1408 % 4 * 2048 + (k.val * 5632 + j.val) / 5632) * 1408 + (k.val * 5632 + j.val) % 1408) / 2883584 % 4 = j.val / 1408
    rw [e0, e1, e2]; omega
  | ⟨2, _⟩ =>
    show (((k.val * 5632 + j.val) / 1408 % 4 * 2048 + (k.val * 5632 + j.val) / 5632) * 1408 + (k.val * 5632 + j.val) % 1408) / 1408 % 2048 = k.val
    rw [e0, e1, e2]; omega
  | ⟨3, _⟩ =>
    show (((k.val * 5632 + j.val) / 1408 % 4 * 2048 + (k.val * 5632 + j.val) / 5632) * 1408 + (k.val * 5632 + j.val) % 1408) % 1408 = j.val % 1408
    rw [e0, e1, e2]; omega

theorem v9_eq : val_main_v9 (F := Ideal) x0 x1 = prod x0 x1 := by
  funext y
  rw [val_main_v9_apply]
  refine Finset.sum_congr rfl fun k _ => congrArg₂ (· * ·) (congrArg x0 (eq_ix2 _)) ?_
  exact (congrArg (val_main_v4 (F := Ideal) x1) (eq_ix2 _)).trans (v4_at x1 k (y 1))

theorem gate_eq : val_main_v13 (F := Ideal) x0 x1 = prod x0 x1 := v9_eq x0 x1

theorem up_eq : val_main_v14 (F := Ideal) x0 x2 = prod x0 x2 := v9_eq x0 x2

theorem act_eq : val_main_v15 (F := Ideal) x0 x1 x2 = act x0 x1 x2 := by
  funext y
  show val_main_v9 (F := Ideal) x0 x1 y * Ideal.div (val_main_call0_v4 (F := Ideal) y) (val_main_call0_v2 (F := Ideal) y
    + Ideal.exp (-(val_main_v9 (F := Ideal) x0 x1 y))) * val_main_v9 (F := Ideal) x0 x2 y = _
  rw [val_main_call0_v4_apply, val_main_call0_v2_apply, val_main_call0_cst_apply, val_main_call0_cst_0_apply, v9_eq, v9_eq]
  show prod x0 x1 y * Ideal.div (Ideal.ofBits .f32 0x3F800000#32) (Ideal.ofBits .f32 0x3F800000#32 + Ideal.exp (-(prod x0 x1 y))) * prod x0 x2 y = _
  rw [one_f32]
  rfl

end Cert.Reference2Ideal.Hand

end
-- ==== Proof.Ffn.DownDx.lean ====
module

public import proofs.«01_k».proof.Proof.Ffn.Common
public import proofs.«01_k».proof.Proof.Row
public import proofs.«01_k».proof.Proof.Gen.Kernel3Ideal.Value
public import proofs.«01_k».proof.Proof.Gen.Reference3Ideal.Read
public import Idealize.ShloMosaic.Lib.Pipeline.ValueKit.Geometry

/- The gradients of the gate and up products from the feed-forward layer's cotangent. -/

@[expose] public section

set_option maxRecDepth 16384

noncomputable section

namespace Cert.Ffn

open Idealize.ShloMosaic hiding ix1 ix2 ix3 ix4 eq_ix1 eq_ix2 eq_ix3 eq_ix4
open Idealize.ShloMosaic.TcCoe Idealize.ShloMosaic.ValueIdx Cert.Tile
open scoped BigOperators

/-- The activation's gradient: the cotangent times the down weight's transpose. -/
def dact (dy : (⟨2, ![4096, 2048]⟩ : Shape).Idx → EReal) (w : (⟨2, ![5632, 2048]⟩ : Shape).Idx → EReal) :
    (⟨2, ![4096, 5632]⟩ : Shape).Idx → EReal :=
  fun y => ∑ k : Fin 2048, dy (ix2 (y 0) k) * w (ix2 (y 1) k)

/-- The derivative of `x ↦ x * sigmoid x`. -/
def dsilu (x : EReal) : EReal := sigm x * (1 + x * (1 - sigm x))

/-- The gate product's gradient. -/
def dgate (dy : (⟨2, ![4096, 2048]⟩ : Shape).Idx → EReal) (w : (⟨2, ![5632, 2048]⟩ : Shape).Idx → EReal)
    (g u : (⟨2, ![4096, 5632]⟩ : Shape).Idx → EReal) : (⟨2, ![4096, 5632]⟩ : Shape).Idx → EReal :=
  fun y => dact dy w y * u y * dsilu (g y)

/-- The up product's gradient. -/
def dup (dy : (⟨2, ![4096, 2048]⟩ : Shape).Idx → EReal) (w : (⟨2, ![5632, 2048]⟩ : Shape).Idx → EReal)
    (g : (⟨2, ![4096, 5632]⟩ : Shape).Idx → EReal) : (⟨2, ![4096, 5632]⟩ : Shape).Idx → EReal :=
  fun y => dact dy w y * g y * sigm (g y)

/-- Products of numbers have a number as their sum. -/
theorem real_dact {dy : (⟨2, ![4096, 2048]⟩ : Shape).Idx → EReal} {w : (⟨2, ![5632, 2048]⟩ : Shape).Idx → EReal}
    (hd : ∀ y, ∃ a : ℝ, dy y = a) (hw : ∀ y, ∃ a : ℝ, w y = a) (y : (⟨2, ![4096, 5632]⟩ : Shape).Idx) : ∃ a : ℝ, dact dy w y = a := by
  choose d hd using hd
  choose v hw using hw
  refine ⟨∑ k : Fin 2048, d (ix2 (y 0) k) * v (ix2 (y 1) k), ?_⟩
  rw [Cert.Row.coe_sum]
  exact Finset.sum_congr rfl fun k _ => by rw [hd, hw, EReal.coe_mul]

/-- The product rule's two terms add up to the derivative times a finite cotangent, whatever the gate. -/
theorem two_terms (p : ℝ) (g : EReal) :
    (p : EReal) * sigm g + g * (p : EReal) * (sigm g * (1 - sigm g)) = (p : EReal) * dsilu g := by
  unfold dsilu
  induction g with
  | bot => rw [show sigm ⊥ = 0 from Ideal.logistic_bot]; simp
  | top =>
    rw [show sigm ⊤ = 1 from Ideal.logistic_top, show (1 : EReal) - 1 = 0 from by rw [← EReal.coe_one, ← EReal.coe_sub, sub_self, EReal.coe_zero]]
    simp
  | coe x =>
    obtain ⟨s, hs⟩ : ∃ s : ℝ, sigm (x : EReal) = s := ⟨_, Ideal.logistic_coe x⟩
    rw [hs, ← EReal.coe_one]
    norm_cast
    ring

end Cert.Ffn

namespace Cert.Kernel3Ideal.Hand

open Idealize.ShloMosaic hiding ix1 ix2 ix3 ix4 eq_ix1 eq_ix2 eq_ix3 eq_ix4
open Cert.Kernel3Ideal Cert.Kernel3Ideal.Gen Cert.Ffn Cert.Tile
open Idealize.ShloMosaic.TcCoe Idealize.ShloMosaic.ValueIdx
open scoped BigOperators

/-! ## The body's values -/

theorem pay1_at (v0 : Vec Ideal S1024x2048 .bf16) (v1 : Vec Ideal S512x2048 .bf16) (r : Fin 1024) (j : Fin 512) :
    k0_pay1 (F := Ideal) v0 v1 (ix2 r j) = ∑ k : Fin 2048, v0 (ix2 r k) * v1 (ix2 j k) := nt_at v0 v1 r j

theorem pay3_at (v : Vec Ideal S1024x512 .bf16) (y : S1024x512.Idx) : k0_pay3 (F := Ideal) v y = sigm (v y) := by
  show Ideal.div (Ideal.ofBits .f32 0x3F800000#32) (Ideal.ofBits .f32 0x3F800000#32 + Ideal.exp (Ideal.ofBits .f32 0x00000000#32 - v y)) = _
  rw [one_f32, zero_f32, zero_sub]
  rfl

theorem pay4_at (v0 : Vec Ideal S1024x2048 .bf16) (v1 : Vec Ideal S512x2048 .bf16) (v3 v5 : Vec Ideal S1024x512 .bf16) (y : S1024x512.Idx) :
    k0_pay4 (F := Ideal) v0 v1 v3 v5 y = k0_pay1 (F := Ideal) v0 v1 y * v5 y * dsilu (v3 y) := by
  show k0_pay1 (F := Ideal) v0 v1 y * v5 y * (k0_pay3 (F := Ideal) v3 y * (Ideal.ofBits .f32 0x3F800000#32
    + v3 y * (Ideal.ofBits .f32 0x3F800000#32 - k0_pay3 (F := Ideal) v3 y))) = _
  rw [one_f32, pay3_at]
  rfl

theorem pay5_at (v0 : Vec Ideal S1024x2048 .bf16) (v1 : Vec Ideal S512x2048 .bf16) (v3 : Vec Ideal S1024x512 .bf16) (y : S1024x512.Idx) :
    k0_pay5 (F := Ideal) v0 v1 v3 y = k0_pay1 (F := Ideal) v0 v1 y * v3 y * sigm (v3 y) := by
  show k0_pay1 (F := Ideal) v0 v1 y * v3 y * k0_pay3 (F := Ideal) v3 y = _
  rw [pay3_at]

variable (m : (ℓ : Loc nD τ sig) → Buf (Elt Ideal) ℓ) (c : Dev nD)

/-- The argument arrays. -/
abbrev A0 : (⟨2, ![4096, 2048]⟩ : Shape).Idx → EReal := m ((c.tc : Thread nD τ).loc main_arg0)
abbrev A1 : (⟨2, ![5632, 2048]⟩ : Shape).Idx → EReal := m ((c.tc : Thread nD τ).loc main_arg1)
abbrev A2 : (⟨2, ![4096, 5632]⟩ : Shape).Idx → EReal := m ((c.tc : Thread nD τ).loc main_arg2)
abbrev A3 : (⟨2, ![4096, 5632]⟩ : Shape).Idx → EReal := m ((c.tc : Thread nD τ).loc main_arg3)

theorem idx_0 : ∀ t : Fin cfg0.N, win0_0.index t = ![t.val / 11, 0] := (by decide +kernel : ∀ t : Fin grid0.N, _)
theorem idx_1 : ∀ t : Fin cfg0.N, win0_1.index t = ![t.val % 11, 0] := (by decide +kernel : ∀ t : Fin grid0.N, _)
theorem idx_2 : ∀ t : Fin cfg0.N, win0_2.index t = ![t.val / 11, t.val % 11] := (by decide +kernel : ∀ t : Fin grid0.N, _)
theorem idx_3 : ∀ t : Fin cfg0.N, win0_3.index t = ![t.val / 11, t.val % 11] := (by decide +kernel : ∀ t : Fin grid0.N, _)
theorem idx_4 : ∀ t : Fin cfg0.N, win0_4.index t = ![t.val / 11, t.val % 11] := (by decide +kernel : ∀ t : Fin grid0.N, _)
theorem idx_5 : ∀ t : Fin cfg0.N, win0_5.index t = ![t.val / 11, t.val % 11] := (by decide +kernel : ∀ t : Fin grid0.N, _)

/-- The rows and columns a grid point works on. -/
def row (t : Fin cfg0.N) (r : Fin 1024) : Fin 4096 := ⟨t.val / 11 * 1024 + r.val, by have : t.val < 44 := t.isLt; omega⟩
def col (t : Fin cfg0.N) (j : Fin 512) : Fin 5632 := ⟨t.val % 11 * 512 + j.val, by omega⟩

theorem blk_0 (t : Fin cfg0.N) (r : Fin 1024) (k : Fin 2048) : iblk m c 0 t (ix2 r k) = A0 m c (ix2 (row t r) k) := by
  blk_simp [iblk]
  refine congrArg (A0 m c) (funext fun a => Fin.ext ?_)
  match a with
  | ⟨0, _⟩ => blk_simp [idx_0]; show t.val / 11 * 1024 + r.val = t.val / 11 * 1024 + r.val; rfl
  | ⟨1, _⟩ => blk_simp [idx_0]

theorem blk_1 (t : Fin cfg0.N) (j : Fin 512) (k : Fin 2048) : iblk m c 1 t (ix2 j k) = A1 m c (ix2 (col t j) k) := by
  blk_simp [iblk]
  refine congrArg (A1 m c) (funext fun a => Fin.ext ?_)
  match a with
  | ⟨0, _⟩ => blk_simp [idx_1]; show t.val % 11 * 512 + j.val = t.val % 11 * 512 + j.val; rfl
  | ⟨1, _⟩ => blk_simp [idx_1]

theorem blk_2 (t : Fin cfg0.N) (r : Fin 1024) (j : Fin 512) : iblk m c 2 t (ix2 r j) = A2 m c (ix2 (row t r) (col t j)) := by
  blk_simp [iblk]
  refine congrArg (A2 m c) (funext fun a => Fin.ext ?_)
  match a with
  | ⟨0, _⟩ => blk_simp [idx_2]; show t.val / 11 * 1024 + r.val = t.val / 11 * 1024 + r.val; rfl
  | ⟨1, _⟩ => blk_simp [idx_2]; show t.val % 11 * 512 + j.val = t.val % 11 * 512 + j.val; rfl

theorem blk_3 (t : Fin cfg0.N) (r : Fin 1024) (j : Fin 512) : iblk m c 3 t (ix2 r j) = A3 m c (ix2 (row t r) (col t j)) := by
  blk_simp [iblk]
  refine congrArg (A3 m c) (funext fun a => Fin.ext ?_)
  match a with
  | ⟨0, _⟩ => blk_simp [idx_3]; show t.val / 11 * 1024 + r.val = t.val / 11 * 1024 + r.val; rfl
  | ⟨1, _⟩ => blk_simp [idx_3]; show t.val % 11 * 512 + j.val = t.val % 11 * 512 + j.val; rfl

theorem dact_at (t : Fin cfg0.N) (r : Fin 1024) (j : Fin 512) :
    k0_pay1 (F := Ideal) (iblk m c 0 t) (iblk m c 1 t) (ix2 r j) = dact (A0 m c) (A1 m c) (ix2 (row t r) (col t j)) := by
  rw [pay1_at]
  exact Finset.sum_congr rfl fun k _ => by rw [blk_0, blk_1]

/-! ## The two arrays -/

theorem final_gate : (dats m 0 c).arrAt 4 cfg0.N = dgate (A0 m c) (A1 m c) (A2 m c) (A3 m c) := by
  refine (dats m 0 c).arrAt_eq_of_covers 4 _ (by decide +kernel) fun t hf y => ?_
  blk_simp
  rw [after0_4, out0_4, View.canon_cons_unit_lit _ _ _ (by decide), View.ld_unit_lit _ _ (by decide), View.ld_unit_lit _ _ (by decide),
    View.ld_unit_lit _ _ (by decide), View.ld_unit_lit _ _ (by decide)]
  obtain ⟨r, j, rfl⟩ : ∃ (r : Fin 1024) (j : Fin 512), y = ix2 r j := ⟨y 0, y 1, eq_ix2 y⟩
  refine (pay4_at _ _ _ _ (ix2 r j)).trans ?_
  rw [dact_at, blk_2, blk_3]
  refine congrArg (dgate (A0 m c) (A1 m c) (A2 m c) (A3 m c)) (show ix2 (row t r) (col t j) = _ from funext fun a => Fin.ext ?_)
  match a with
  | ⟨0, _⟩ => blk_simp [idx_4]; show t.val / 11 * 1024 + r.val = t.val / 11 * 1024 + r.val; rfl
  | ⟨1, _⟩ => blk_simp [idx_4]; show t.val % 11 * 512 + j.val = t.val % 11 * 512 + j.val; rfl

theorem final_up : (dats m 0 c).arrAt 5 cfg0.N = dup (A0 m c) (A1 m c) (A2 m c) := by
  refine (dats m 0 c).arrAt_eq_of_covers 5 _ (by decide +kernel) fun t hf y => ?_
  blk_simp
  rw [after0_5, out0_5, View.canon_cons_unit_lit _ _ _ (by decide), View.ld_unit_lit _ _ (by decide), View.ld_unit_lit _ _ (by decide),
    View.ld_unit_lit _ _ (by decide)]
  obtain ⟨r, j, rfl⟩ : ∃ (r : Fin 1024) (j : Fin 512), y = ix2 r j := ⟨y 0, y 1, eq_ix2 y⟩
  refine (pay5_at _ _ _ (ix2 r j)).trans ?_
  rw [dact_at, blk_2]
  refine congrArg (dup (A0 m c) (A1 m c) (A2 m c)) (show ix2 (row t r) (col t j) = _ from funext fun a => Fin.ext ?_)
  match a with
  | ⟨0, _⟩ => blk_simp [idx_5]; show t.val / 11 * 1024 + r.val = t.val / 11 * 1024 + r.val; rfl
  | ⟨1, _⟩ => blk_simp [idx_5]; show t.val % 11 * 512 + j.val = t.val % 11 * 512 + j.val; rfl

end Cert.Kernel3Ideal.Hand

namespace Cert.Reference3Ideal.Hand

open Idealize.ShloMosaic hiding ix1 ix2 ix3 ix4 eq_ix1 eq_ix2 eq_ix3 eq_ix4
open Cert.Reference3Ideal Cert.Reference3Ideal.Read Cert.Ffn Idealize.ShloMosaic.ValueIdx
open scoped BigOperators

variable (x0 : (⟨S4096x2048, .bf16⟩ : BufTy).Contents (Elt Ideal)) (x1 : (⟨S5632x2048, .bf16⟩ : BufTy).Contents (Elt Ideal))
  (x2 x3 : (⟨S4096x5632, .bf16⟩ : BufTy).Contents (Elt Ideal))

theorem v7_eq : val_main_v7 (F := Ideal) x0 x1 = dact x0 x1 := by
  funext y
  rw [val_main_v7_apply]
  exact Finset.sum_congr rfl fun k _ => congrArg₂ (· * ·) (congrArg x0 (eq_ix2 _)) (congrArg x1 (eq_ix2 _))

theorem v2_2_at (y : S4096x5632.Idx) : val_main_v2_2 (F := Ideal) x2 y = sigm (x2 y) := by
  show Ideal.div (val_main_call0_v4 (F := Ideal) y) (val_main_call0_v2 (F := Ideal) y + Ideal.exp (-(x2 y))) = _
  rw [val_main_call0_v4_apply, val_main_call0_v2_apply, val_main_call0_cst_apply, val_main_call0_cst_0_apply]
  show Ideal.div (Ideal.ofBits .f32 0x3F800000#32) (Ideal.ofBits .f32 0x3F800000#32 + Ideal.exp (-(x2 y))) = _
  rw [one_f32]
  rfl

theorem up_eq : val_main_v12 (F := Ideal) x0 x1 x2 = dup x0 x1 x2 := by
  funext y
  show x2 y * val_main_v2_2 (F := Ideal) x2 y * val_main_v7 (F := Ideal) x0 x1 y = dact x0 x1 y * x2 y * sigm (x2 y)
  rw [v2_2_at, v7_eq, mul_comm, ← mul_assoc]

theorem gate_eq (h0 : ∀ y, ∃ a : ℝ, x0 y = a) (h1 : ∀ y, ∃ a : ℝ, x1 y = a) (h3 : ∀ y, ∃ a : ℝ, x3 y = a) :
    val_main_v11 (F := Ideal) x0 x1 x2 x3 = dgate x0 x1 x2 x3 := by
  funext y
  show val_main_v7 (F := Ideal) x0 x1 y * x3 y * val_main_v2_2 (F := Ideal) x2 y
    + x2 y * (val_main_v7 (F := Ideal) x0 x1 y * x3 y) * (val_main_v2_2 (F := Ideal) x2 y * (val_main_call0_v6 (F := Ideal) y - val_main_v2_2 (F := Ideal) x2 y)) = _
  rw [val_main_call0_v6_apply, val_main_call0_cst_1_apply, v2_2_at, v7_eq]
  obtain ⟨d, hd⟩ := real_dact h0 h1 y
  obtain ⟨u, hu⟩ := h3 y
  show _ + _ * (_ * (Ideal.ofBits .f32 0x3F800000#32 - _)) = dact x0 x1 y * x3 y * dsilu (x2 y)
  rw [one_f32, hd, hu, ← EReal.coe_mul]
  exact two_terms _ _

end Cert.Reference3Ideal.Hand

end
-- ==== Proof.Ffn.GateUpDx.lean ====
module

public import proofs.«01_k».proof.Proof.Ffn.GateUp
public import proofs.«01_k».proof.Proof.Gen.Kernel4Ideal.Value
public import proofs.«01_k».proof.Proof.Gen.Reference4Ideal.Read

/- The gradient of the feed-forward layer's input: both products with the transposed weights, added up over four column blocks. -/

@[expose] public section

set_option maxRecDepth 16384

noncomputable section

namespace Cert.Ffn

open Idealize.ShloMosaic hiding ix1 ix2 ix3 ix4 eq_ix1 eq_ix2 eq_ix3 eq_ix4
open Idealize.ShloMosaic.TcCoe Idealize.ShloMosaic.ValueIdx Cert.Tile
open scoped BigOperators

/-- The gate's and the up product's gradients, each times its transposed weight. -/
def dxArr (dg du : (⟨2, ![4096, 5632]⟩ : Shape).Idx → EReal) (wg wu : (⟨4, ![1, 4, 2048, 1408]⟩ : Shape).Idx → EReal) :
    (⟨2, ![4096, 2048]⟩ : Shape).Idx → EReal :=
  fun y => ∑ j : Fin 5632, dg (ix2 (y 0) j) * wcol wg (y 1) j + ∑ j : Fin 5632, du (ix2 (y 0) j) * wcol wu (y 1) j

end Cert.Ffn

namespace Cert.Kernel4Ideal.Hand

open Idealize.ShloMosaic hiding ix1 ix2 ix3 ix4 eq_ix1 eq_ix2 eq_ix3 eq_ix4
open Cert.Kernel4Ideal Cert.Kernel4Ideal.Gen Cert.Ffn Cert.Tile
open Idealize.ShloMosaic.TcCoe Idealize.ShloMosaic.ValueIdx
open scoped BigOperators

theorem pay1_at (v0 : Vec Ideal S1024x1408 .bf16) (v1 : Vec Ideal S1x1x1024x1408 .bf16) (v4 : Vec Ideal S1024x1408 .bf16)
    (v5 : Vec Ideal S1x1x1024x1408 .bf16) (r k : Fin 1024) :
    k0_pay1 (F := Ideal) v0 v1 v4 v5 (ix2 r k) = ∑ j : Fin 1408, v0 (ix2 r j) * v1 (ix4 (0 : Fin 1) (0 : Fin 1) k j)
      + ∑ j : Fin 1408, v4 (ix2 r j) * v5 (ix4 (0 : Fin 1) (0 : Fin 1) k j) := by
  refine congrArg₂ (· + ·) ((nt_at v0 _ r k).trans (Finset.sum_congr rfl fun j _ => ?_)) ((nt_at v4 _ r k).trans (Finset.sum_congr rfl fun j _ => ?_))
  · rw [dropUnits_at]
  · rw [dropUnits_at]

variable (m : (ℓ : Loc nD τ sig) → Buf (Elt Ideal) ℓ) (c : Dev nD)

/-- The argument arrays. -/
abbrev A0 : (⟨2, ![4096, 5632]⟩ : Shape).Idx → EReal := m ((c.tc : Thread nD τ).loc main_arg0)
abbrev A1 : (⟨2, ![4096, 5632]⟩ : Shape).Idx → EReal := m ((c.tc : Thread nD τ).loc main_arg1)
abbrev A2 : (⟨4, ![1, 4, 2048, 1408]⟩ : Shape).Idx → EReal := m ((c.tc : Thread nD τ).loc main_arg2)
abbrev A3 : (⟨4, ![1, 4, 2048, 1408]⟩ : Shape).Idx → EReal := m ((c.tc : Thread nD τ).loc main_arg3)

theorem idx_0 : ∀ t : Fin cfg0.N, win0_0.index t = ![t.val / 8, t.val % 4] := (by decide +kernel : ∀ t : Fin grid0.N, _)
theorem idx_1 : ∀ t : Fin cfg0.N, win0_1.index t = ![t.val / 8, t.val % 4] := (by decide +kernel : ∀ t : Fin grid0.N, _)
theorem idx_2 : ∀ t : Fin cfg0.N, win0_2.index t = ![0, t.val % 4, t.val / 4 % 2, 0] := (by decide +kernel : ∀ t : Fin grid0.N, _)
theorem idx_3 : ∀ t : Fin cfg0.N, win0_3.index t = ![0, t.val % 4, t.val / 4 % 2, 0] := (by decide +kernel : ∀ t : Fin grid0.N, _)
theorem idx_4 : ∀ t : Fin cfg0.N, win0_4.index t = ![t.val / 8, t.val / 4 % 2] := (by decide +kernel : ∀ t : Fin grid0.N, _)

/-- The rows of the result a grid point works on, its columns, and the columns it sums over. -/
def row (t : Fin cfg0.N) (r : Fin 1024) : Fin 4096 := ⟨t.val / 8 * 1024 + r.val, by have : t.val < 32 := t.isLt; omega⟩
def col (t : Fin cfg0.N) (k : Fin 1024) : Fin 2048 := ⟨t.val / 4 % 2 * 1024 + k.val, by omega⟩
def mid (t : Fin cfg0.N) (j : Fin 1408) : Fin 5632 := ⟨t.val % 4 * 1408 + j.val, by omega⟩

theorem blk_0 (t : Fin cfg0.N) (r : Fin 1024) (j : Fin 1408) : iblk m c 0 t (ix2 r j) = A0 m c (ix2 (row t r) (mid t j)) := by
  blk_simp [iblk]
  refine congrArg (A0 m c) (funext fun a => Fin.ext ?_)
  match a with
  | ⟨0, _⟩ => blk_simp [idx_0]; show t.val / 8 * 1024 + r.val = t.val / 8 * 1024 + r.val; rfl
  | ⟨1, _⟩ => blk_simp [idx_0]; show t.val % 4 * 1408 + j.val = t.val % 4 * 1408 + j.val; rfl

theorem blk_1 (t : Fin cfg0.N) (r : Fin 1024) (j : Fin 1408) : iblk m c 1 t (ix2 r j) = A1 m c (ix2 (row t r) (mid t j)) := by
  blk_simp [iblk]
  refine congrArg (A1 m c) (funext fun a => Fin.ext ?_)
  match a with
  | ⟨0, _⟩ => blk_simp [idx_1]; show t.val / 8 * 1024 + r.val = t.val / 8 * 1024 + r.val; rfl
  | ⟨1, _⟩ => blk_simp [idx_1]; show t.val % 4 * 1408 + j.val = t.val % 4 * 1408 + j.val; rfl

theorem blk_2 (t : Fin cfg0.N) (k : Fin 1024) (j : Fin 1408) :
    iblk m c 2 t (ix4 (0 : Fin 1) (0 : Fin 1) k j) = wcol (A2 m c) (col t k) (mid t j) := by
  blk_simp [iblk]
  refine congrArg (A2 m c) (funext fun a => Fin.ext ?_)
  match a with
  | ⟨0, _⟩ => blk_simp [idx_2]
  | ⟨1, _⟩ => blk_simp [idx_2]; show t.val % 4 + 0 = (t.val % 4 * 1408 + j.val) / 1408; omega
  | ⟨2, _⟩ => blk_simp [idx_2]; show t.val / 4 % 2 * 1024 + k.val = t.val / 4 % 2 * 1024 + k.val; rfl
  | ⟨3, _⟩ => blk_simp [idx_2]; show j.val = (t.val % 4 * 1408 + j.val) % 1408; omega

theorem blk_3 (t : Fin cfg0.N) (k : Fin 1024) (j : Fin 1408) :
    iblk m c 3 t (ix4 (0 : Fin 1) (0 : Fin 1) k j) = wcol (A3 m c) (col t k) (mid t j) := by
  blk_simp [iblk]
  refine congrArg (A3 m c) (funext fun a => Fin.ext ?_)
  match a with
  | ⟨0, _⟩ => blk_simp [idx_3]
  | ⟨1, _⟩ => blk_simp [idx_3]; show t.val % 4 + 0 = (t.val % 4 * 1408 + j.val) / 1408; omega
  | ⟨2, _⟩ => blk_simp [idx_3]; show t.val / 4 % 2 * 1024 + k.val = t.val / 4 % 2 * 1024 + k.val; rfl
  | ⟨3, _⟩ => blk_simp [idx_3]; show j.val = (t.val % 4 * 1408 + j.val) % 1408; omega

/-- What a grid point adds at an index of its block. -/
def term (y : S1024x1024.Idx) (t : Fin cfg0.N) : EReal :=
  k0_pay1 (F := Ideal) (iblk m c 0 t) (iblk m c 2 t) (iblk m c 1 t) (iblk m c 3 t) y

theorem after_last (t : Fin cfg0.N) (ht : t.val % 4 = 3) (y : S1024x1024.Idx) :
    (dats m 0 c).after 4 t y = ∑ s : Fin 4, term m c y ⟨t.val - 3 + s.val, by have := t.isLt; omega⟩ := by
  refine (four_points (T := term m c y) (f := fun n h => (outsAt0 m c n h).2 y) (o := fun t => (dats m 0 c).after 4 t y)
    (fun t h => ?_) (fun t h => ?_) t ht (b := 0) ?_).trans (add_zero _)
  · show (outsAt0 m c t.val t.isLt).2 y = _
    rw [outsAt0_A m c t h (by omega) (by omega)]
    frame_out
    rw [k0_pay2, shapeCast_self]
    rfl
  · show (outsAt0 m c t.val t.isLt).2 y = _
    rw [outsAt0_B m c t (by omega) h (by omega)]
    frame_out
    rw [k0_pay3, shapeCast_self, Memref.IsWhole.read_unread (Memref.isWhole_whole cc0_scratch0)]
    rfl
  · show (dats m 0 c).after 4 t y = _
    rw [after0_4, outsAt0_C m c t (by omega) (by omega) ht, add_zero]
    frame_out
    rw [Memref.IsWhole.read_unread (Memref.isWhole_whole cc0_scratch0)]
    rfl

theorem final : (dats m 0 c).arrAt 4 cfg0.N = dxArr (A0 m c) (A1 m c) (A2 m c) (A3 m c) := by
  refine (dats m 0 c).arrAt_eq_of_covers 4 _ (by decide +kernel) fun t hf y => ?_
  have ht : t.val % 4 = 3 := (flush0_4 t).mp hf
  have hN : t.val < 32 := t.isLt
  have hN' : cfg0.N = 32 := N_0
  blk_simp
  rw [after_last m c t ht]
  obtain ⟨r, k, rfl⟩ : ∃ r k : Fin 1024, y = ix2 r k := ⟨y 0, y 1, eq_ix2 y⟩
  have e : ((cfg0.win 4).blk t).view.emb (ix2 r k) = ix2 (row t r) (col t k) := funext fun a => Fin.ext <| by
    match a with
    | ⟨0, _⟩ => blk_simp [idx_4]; show t.val / 8 * 1024 + r.val = t.val / 8 * 1024 + r.val; rfl
    | ⟨1, _⟩ => blk_simp [idx_4]; show t.val / 4 % 2 * 1024 + k.val = t.val / 4 % 2 * 1024 + k.val; rfl
  rw [e]
  show _ = ∑ j : Fin 5632, A0 m c (ix2 (row t r) j) * wcol (A2 m c) (col t k) j + ∑ j : Fin 5632, A1 m c (ix2 (row t r) j) * wcol (A3 m c) (col t k) j
  rw [four_blocks, four_blocks, ← Finset.sum_add_distrib]
  refine Finset.sum_congr rfl fun s _ => ?_
  have hs : t.val - 3 + s.val < cfg0.N := by omega
  have hr : ∀ r, row ⟨t.val - 3 + s.val, hs⟩ r = row t r := fun r => Fin.ext (by
    show (t.val - 3 + s.val) / 8 * 1024 + r.val = t.val / 8 * 1024 + r.val; omega)
  have hc : col ⟨t.val - 3 + s.val, hs⟩ k = col t k := Fin.ext (by
    show (t.val - 3 + s.val) / 4 % 2 * 1024 + k.val = t.val / 4 % 2 * 1024 + k.val; omega)
  have hm : ∀ j : Fin 1408, mid ⟨t.val - 3 + s.val, hs⟩ j = ⟨s.val * 1408 + j.val, by omega⟩ := fun j => Fin.ext (by
    show (t.val - 3 + s.val) % 4 * 1408 + j.val = s.val * 1408 + j.val; omega)
  rw [term, pay1_at]
  refine congrArg₂ (· + ·) (Finset.sum_congr rfl fun j _ => ?_) (Finset.sum_congr rfl fun j _ => ?_)
  · rw [blk_0, blk_2, hr, hc, hm]
  · rw [blk_1, blk_3, hr, hc, hm]

end Cert.Kernel4Ideal.Hand

namespace Cert.Reference4Ideal.Hand

open Idealize.ShloMosaic hiding ix1 ix2 ix3 ix4 eq_ix1 eq_ix2 eq_ix3 eq_ix4
open Cert.Reference4Ideal Cert.Reference4Ideal.Read Cert.Ffn Idealize.ShloMosaic.ValueIdx
open scoped BigOperators

variable (x0 x1 : (⟨S4096x5632, .bf16⟩ : BufTy).Contents (Elt Ideal)) (x2 x3 : (⟨S1x4x2048x1408, .bf16⟩ : BufTy).Contents (Elt Ideal))

theorem v3_at (k : Fin 2048) (j : Fin 5632) : val_main_v3 (F := Ideal) x2 (ix2 k j) = wcol x2 k j := Cert.Reference2Ideal.Hand.v4_at x2 k j

theorem v11_at (y : S4096x2048.Idx) : val_main_v11 (F := Ideal) x0 x2 y = ∑ j : Fin 5632, x0 (ix2 (y 0) j) * wcol x2 (y 1) j := by
  rw [val_main_v11_apply]
  refine Finset.sum_congr rfl fun j _ => congrArg₂ (· * ·) (congrArg x0 (eq_ix2 _)) ?_
  exact (congrArg (val_main_v3 (F := Ideal) x2) (eq_ix2 _)).trans (v3_at x2 (y 1) j)

theorem v10_at (y : S4096x2048.Idx) : val_main_v10 (F := Ideal) x1 x3 y = ∑ j : Fin 5632, x1 (ix2 (y 0) j) * wcol x3 (y 1) j := v11_at x1 x3 y

theorem dx_eq : val_main_v12 (F := Ideal) x0 x1 x2 x3 = dxArr x0 x1 x2 x3 := by
  funext y
  rw [val_main_v12_apply]
  show val_main_v10 (F := Ideal) x1 x3 y + val_main_v11 (F := Ideal) x0 x2 y = _
  rw [v10_at, v11_at, add_comm]
  rfl

end Cert.Reference4Ideal.Hand

end
-- ==== Proof.Ffn.WeightGrads.lean ====
module

public import proofs.«01_k».proof.Proof.Ffn.Common
public import proofs.«01_k».proof.Proof.Gen.Kernel5Ideal.Value
public import proofs.«01_k».proof.Proof.Gen.Reference5Ideal.Read
public import proofs.«01_k».proof.Proof.Gen.Kernel6Ideal.Value
public import proofs.«01_k».proof.Proof.Gen.Reference6Ideal.Read
public import Idealize.ShloMosaic.Lib.Pipeline.ValueKit.Geometry

/- The gradients of the feed-forward layer's weights: products over the tokens, a half of them at a time. -/

@[expose] public section

set_option maxRecDepth 16384

noncomputable section

namespace Cert.Ffn

open Idealize.ShloMosaic hiding ix1 ix2 ix3 ix4 eq_ix1 eq_ix2 eq_ix3 eq_ix4
open Idealize.ShloMosaic.TcCoe Idealize.ShloMosaic.ValueIdx Cert.Tile
open scoped BigOperators

/-- The inputs transposed times the products' gradients, kept as four blocks of columns. -/
def dwCols (h : (⟨2, ![4096, 2048]⟩ : Shape).Idx → EReal) (d : (⟨2, ![4096, 5632]⟩ : Shape).Idx → EReal) :
    (⟨3, ![4, 2048, 1408]⟩ : Shape).Idx → EReal :=
  fun y => ∑ s : Fin 4096, h (ix2 s (y 1)) * d (ix2 s (⟨(y 0).val * 1408 + (y 2).val, by
    have : (y 0).val < 4 := (y 0).isLt; have : (y 2).val < 1408 := (y 2).isLt; omega⟩ : Fin 5632))

/-- The activations transposed times the result's gradients. -/
def dwRows (a : (⟨2, ![4096, 5632]⟩ : Shape).Idx → EReal) (d : (⟨2, ![4096, 2048]⟩ : Shape).Idx → EReal) :
    (⟨2, ![5632, 2048]⟩ : Shape).Idx → EReal :=
  fun y => ∑ s : Fin 4096, a (ix2 s (y 0)) * d (ix2 s (y 1))

/-- The tokens a point of the half works on. -/
def half (k : ℕ) (s : Fin 2048) : Fin 4096 := ⟨k % 2 * 2048 + s.val, by omega⟩

end Cert.Ffn

/-! ## The gate's and the up weight -/

namespace Cert.Kernel5Ideal.Hand

open Idealize.ShloMosaic hiding ix1 ix2 ix3 ix4 eq_ix1 eq_ix2 eq_ix3 eq_ix4
open Cert.Kernel5Ideal Cert.Kernel5Ideal.Gen Cert.Ffn Cert.Tile
open Idealize.ShloMosaic.TcCoe Idealize.ShloMosaic.ValueIdx
open scoped BigOperators

variable (m : (ℓ : Loc nD τ sig) → Buf (Elt Ideal) ℓ) (c : Dev nD)

/-- The argument arrays. -/
abbrev A0 : (⟨2, ![4096, 2048]⟩ : Shape).Idx → EReal := m ((c.tc : Thread nD τ).loc main_arg0)
abbrev A1 : (⟨2, ![4096, 5632]⟩ : Shape).Idx → EReal := m ((c.tc : Thread nD τ).loc main_arg1)

theorem idx_0 : ∀ t : Fin cfg0.N, win0_0.index t = ![t.val % 2, t.val / 8] := (by decide +kernel : ∀ t : Fin grid0.N, _)
theorem idx_1 : ∀ t : Fin cfg0.N, win0_1.index t = ![t.val % 2, t.val / 2 % 4] := (by decide +kernel : ∀ t : Fin grid0.N, _)
theorem idx_2 : ∀ t : Fin cfg0.N, win0_2.index t = ![t.val / 2 % 4, t.val / 8, 0] := (by decide +kernel : ∀ t : Fin grid0.N, _)

/-- The rows and columns of the result a grid point works on. -/
def row (t : Fin cfg0.N) (r : Fin 1024) : Fin 2048 := ⟨t.val / 8 * 1024 + r.val, by have : t.val < 16 := t.isLt; omega⟩
def col (t : Fin cfg0.N) (j : Fin 1408) : Fin 5632 := ⟨t.val / 2 % 4 * 1408 + j.val, by omega⟩

theorem blk_0 (t : Fin cfg0.N) (s : Fin 2048) (r : Fin 1024) : iblk m c 0 t (ix2 s r) = A0 m c (ix2 (half t.val s) (row t r)) := by
  blk_simp [iblk]
  refine congrArg (A0 m c) (funext fun a => Fin.ext ?_)
  match a with
  | ⟨0, _⟩ => blk_simp [idx_0]; show t.val % 2 * 2048 + s.val = t.val % 2 * 2048 + s.val; rfl
  | ⟨1, _⟩ => blk_simp [idx_0]; show t.val / 8 * 1024 + r.val = t.val / 8 * 1024 + r.val; rfl

theorem blk_1 (t : Fin cfg0.N) (s : Fin 2048) (j : Fin 1408) : iblk m c 1 t (ix2 s j) = A1 m c (ix2 (half t.val s) (col t j)) := by
  blk_simp [iblk]
  refine congrArg (A1 m c) (funext fun a => Fin.ext ?_)
  match a with
  | ⟨0, _⟩ => blk_simp [idx_1]; show t.val % 2 * 2048 + s.val = t.val % 2 * 2048 + s.val; rfl
  | ⟨1, _⟩ => blk_simp [idx_1]; show t.val / 2 % 4 * 1408 + j.val = t.val / 2 % 4 * 1408 + j.val; rfl

/-- What a grid point adds at an index of its block. -/
def term (r : Fin 1024) (j : Fin 1408) (t : Fin cfg0.N) : EReal := k0_pay1 (F := Ideal) (iblk m c 0 t) (iblk m c 1 t) (ix2 r j)

theorem term_at (r : Fin 1024) (j : Fin 1408) (t : Fin cfg0.N) :
    term m c r j t = ∑ s : Fin 2048, A0 m c (ix2 (half t.val s) (row t r)) * A1 m c (ix2 (half t.val s) (col t j)) :=
  (tn_at (iblk m c 0 t) (iblk m c 1 t) r j).trans (Finset.sum_congr rfl fun s _ => by rw [blk_0, blk_1])

theorem after_last (t : Fin cfg0.N) (ht : t.val % 2 = 1) (z : Fin 1) (r : Fin 1024) (j : Fin 1408) :
    (dats m 0 c).after 2 t (ix3 z r j) = ∑ s : Fin 2, term m c r j ⟨t.val - 1 + s.val, by have := t.isLt; omega⟩ := by
  refine two_points (T := term m c r j) (f := fun n h => (outsAt0 m c n h).2 (ix2 r j)) (o := fun t => (dats m 0 c).after 2 t (ix3 z r j))
    (fun t h => ?_) (fun t h => ?_) t ht
  · show (outsAt0 m c t.val t.isLt).2 (ix2 r j) = _
    rw [outsAt0_A m c t h (by omega)]
    frame_out
    rw [k0_pay2, shapeCast_self]
    rfl
  · show (dats m 0 c).after 2 t (ix3 z r j) = _
    rw [after0_2, outsAt0_B m c t (by omega) h]
    frame_out
    rw [Memref.IsWhole.read_unread (Memref.isWhole_whole cc0_scratch0)]
    rw [k0_pay3, addUnit_at]
    rfl

theorem final : (dats m 0 c).arrAt 2 cfg0.N = dwCols (A0 m c) (A1 m c) := by
  refine (dats m 0 c).arrAt_eq_of_covers 2 _ (by decide +kernel) fun t hf y => ?_
  have ht : t.val % 2 = 1 := (flush0_2 t).mp hf
  have hN : t.val < 16 := t.isLt
  have hN' : cfg0.N = 16 := N_0
  blk_simp
  obtain ⟨z, r, j, rfl⟩ : ∃ (z : Fin 1) (r : Fin 1024) (j : Fin 1408), y = ix3 z r j := ⟨y 0, y 1, y 2, eq_ix3 y⟩
  rw [after_last m c t ht]
  have e : ((cfg0.win 2).blk t).view.emb (ix3 z r j) = ix3 (⟨t.val / 2 % 4, by omega⟩ : Fin 4) (row t r) j := funext fun a => Fin.ext <| by
    match a with
    | ⟨0, _⟩ => blk_simp [idx_2]
    | ⟨1, _⟩ => blk_simp [idx_2]; show t.val / 8 * 1024 + r.val = t.val / 8 * 1024 + r.val; rfl
    | ⟨2, _⟩ => blk_simp [idx_2]
  rw [e]
  show _ = ∑ s : Fin 4096, A0 m c (ix2 s (row t r)) * A1 m c (ix2 s (col t j))
  rw [two_halves]
  refine Finset.sum_congr rfl fun s _ => ?_
  have hs : t.val - 1 + s.val < cfg0.N := by omega
  have hr : row ⟨t.val - 1 + s.val, hs⟩ r = row t r := Fin.ext (by show (t.val - 1 + s.val) / 8 * 1024 + r.val = t.val / 8 * 1024 + r.val; omega)
  have hc : col ⟨t.val - 1 + s.val, hs⟩ j = col t j := Fin.ext (by show (t.val - 1 + s.val) / 2 % 4 * 1408 + j.val = t.val / 2 % 4 * 1408 + j.val; omega)
  have hh : ∀ x : Fin 2048, half (t.val - 1 + s.val) x = ⟨s.val * 2048 + x.val, by omega⟩ := fun x => Fin.ext (by
    show (t.val - 1 + s.val) % 2 * 2048 + x.val = s.val * 2048 + x.val; omega)
  rw [term_at]
  exact Finset.sum_congr rfl fun x _ => by rw [hr, hc, hh]

end Cert.Kernel5Ideal.Hand

namespace Cert.Reference5Ideal.Hand

open Idealize.ShloMosaic hiding ix1 ix2 ix3 ix4 eq_ix1 eq_ix2 eq_ix3 eq_ix4
open Cert.Reference5Ideal Cert.Reference5Ideal.Read Cert.Ffn Idealize.ShloMosaic.ValueIdx
open scoped BigOperators

variable (x0 : (⟨S4096x2048, .bf16⟩ : BufTy).Contents (Elt Ideal)) (x1 : (⟨S4096x5632, .bf16⟩ : BufTy).Contents (Elt Ideal))

theorem dw_eq : val_main_v6 (F := Ideal) x0 x1 = dwCols x0 x1 := by
  funext y
  obtain ⟨p, k, j, rfl⟩ : ∃ (p : Fin 4) (k : Fin 2048) (j : Fin 1408), y = ix3 p k j := ⟨y 0, y 1, y 2, eq_ix3 y⟩
  show val_main_v5 (F := Ideal) x0 x1 (ix3 p k j) = _
  rw [val_main_v5_apply, val_main_v4_apply, val_main_v3_apply, val_main_v2_apply]
  refine Finset.sum_congr rfl fun s _ => (mul_comm _ _).trans (congrArg₂ (· * ·) (congrArg x0 (funext fun a => Fin.ext ?_)) (congrArg x1 (funext fun a => Fin.ext ?_)))
  · match a with
    | ⟨0, _⟩ => rfl
    | ⟨1, _⟩ => show ((k.val * 4 + p.val) * 1408 + j.val) / 5632 = k.val; omega
  · match a with
    | ⟨0, _⟩ => rfl
    | ⟨1, _⟩ => show ((k.val * 4 + p.val) * 1408 + j.val) % 5632 = p.val * 1408 + j.val; omega

end Cert.Reference5Ideal.Hand

/-! ## The down weight -/

namespace Cert.Kernel6Ideal.Hand

open Idealize.ShloMosaic hiding ix1 ix2 ix3 ix4 eq_ix1 eq_ix2 eq_ix3 eq_ix4
open Cert.Kernel6Ideal Cert.Kernel6Ideal.Gen Cert.Ffn Cert.Tile
open Idealize.ShloMosaic.TcCoe Idealize.ShloMosaic.ValueIdx
open scoped BigOperators

variable (m : (ℓ : Loc nD τ sig) → Buf (Elt Ideal) ℓ) (c : Dev nD)

/-- The argument arrays. -/
abbrev A0 : (⟨2, ![4096, 5632]⟩ : Shape).Idx → EReal := m ((c.tc : Thread nD τ).loc main_arg0)
abbrev A1 : (⟨2, ![4096, 2048]⟩ : Shape).Idx → EReal := m ((c.tc : Thread nD τ).loc main_arg1)

theorem idx_0 : ∀ t : Fin cfg0.N, win0_0.index t = ![t.val % 2, t.val / 4] := (by decide +kernel : ∀ t : Fin grid0.N, _)
theorem idx_1 : ∀ t : Fin cfg0.N, win0_1.index t = ![t.val % 2, t.val / 2 % 2] := (by decide +kernel : ∀ t : Fin grid0.N, _)
theorem idx_2 : ∀ t : Fin cfg0.N, win0_2.index t = ![t.val / 4, t.val / 2 % 2] := (by decide +kernel : ∀ t : Fin grid0.N, _)

/-- The rows and columns of the result a grid point works on. -/
def row (t : Fin cfg0.N) (j : Fin 1408) : Fin 5632 := ⟨t.val / 4 * 1408 + j.val, by have : t.val < 16 := t.isLt; omega⟩
def col (t : Fin cfg0.N) (r : Fin 1024) : Fin 2048 := ⟨t.val / 2 % 2 * 1024 + r.val, by omega⟩

theorem blk_0 (t : Fin cfg0.N) (s : Fin 2048) (j : Fin 1408) : iblk m c 0 t (ix2 s j) = A0 m c (ix2 (half t.val s) (row t j)) := by
  blk_simp [iblk]
  refine congrArg (A0 m c) (funext fun a => Fin.ext ?_)
  match a with
  | ⟨0, _⟩ => blk_simp [idx_0]; show t.val % 2 * 2048 + s.val = t.val % 2 * 2048 + s.val; rfl
  | ⟨1, _⟩ => blk_simp [idx_0]; show t.val / 4 * 1408 + j.val = t.val / 4 * 1408 + j.val; rfl

theorem blk_1 (t : Fin cfg0.N) (s : Fin 2048) (r : Fin 1024) : iblk m c 1 t (ix2 s r) = A1 m c (ix2 (half t.val s) (col t r)) := by
  blk_simp [iblk]
  refine congrArg (A1 m c) (funext fun a => Fin.ext ?_)
  match a with
  | ⟨0, _⟩ => blk_simp [idx_1]; show t.val % 2 * 2048 + s.val = t.val % 2 * 2048 + s.val; rfl
  | ⟨1, _⟩ => blk_simp [idx_1]; show t.val / 2 % 2 * 1024 + r.val = t.val / 2 % 2 * 1024 + r.val; rfl

/-- What a grid point adds at an index of its block. -/
def term (j : Fin 1408) (r : Fin 1024) (t : Fin cfg0.N) : EReal := k0_pay1 (F := Ideal) (iblk m c 0 t) (iblk m c 1 t) (ix2 j r)

theorem term_at (j : Fin 1408) (r : Fin 1024) (t : Fin cfg0.N) :
    term m c j r t = ∑ s : Fin 2048, A0 m c (ix2 (half t.val s) (row t j)) * A1 m c (ix2 (half t.val s) (col t r)) :=
  (tn_at (iblk m c 0 t) (iblk m c 1 t) j r).trans (Finset.sum_congr rfl fun s _ => by rw [blk_0, blk_1])

theorem after_last (t : Fin cfg0.N) (ht : t.val % 2 = 1) (j : Fin 1408) (r : Fin 1024) :
    (dats m 0 c).after 2 t (ix2 j r) = ∑ s : Fin 2, term m c j r ⟨t.val - 1 + s.val, by have := t.isLt; omega⟩ := by
  refine two_points (T := term m c j r) (f := fun n h => (outsAt0 m c n h).2 (ix2 j r)) (o := fun t => (dats m 0 c).after 2 t (ix2 j r))
    (fun t h => ?_) (fun t h => ?_) t ht
  · show (outsAt0 m c t.val t.isLt).2 (ix2 j r) = _
    rw [outsAt0_A m c t h (by omega)]
    frame_out
    rw [k0_pay2, shapeCast_self]
    rfl
  · show (dats m 0 c).after 2 t (ix2 j r) = _
    rw [after0_2, outsAt0_B m c t (by omega) h]
    frame_out
    rw [Memref.IsWhole.read_unread (Memref.isWhole_whole cc0_scratch0)]
    rfl

theorem final : (dats m 0 c).arrAt 2 cfg0.N = dwRows (A0 m c) (A1 m c) := by
  refine (dats m 0 c).arrAt_eq_of_covers 2 _ (by decide +kernel) fun t hf y => ?_
  have ht : t.val % 2 = 1 := (flush0_2 t).mp hf
  have hN : t.val < 16 := t.isLt
  have hN' : cfg0.N = 16 := N_0
  blk_simp
  obtain ⟨j, r, rfl⟩ : ∃ (j : Fin 1408) (r : Fin 1024), y = ix2 j r := ⟨y 0, y 1, eq_ix2 y⟩
  rw [after_last m c t ht]
  have e : ((cfg0.win 2).blk t).view.emb (ix2 j r) = ix2 (row t j) (col t r) := funext fun a => Fin.ext <| by
    match a with
    | ⟨0, _⟩ => blk_simp [idx_2]; show t.val / 4 * 1408 + j.val = t.val / 4 * 1408 + j.val; rfl
    | ⟨1, _⟩ => blk_simp [idx_2]; show t.val / 2 % 2 * 1024 + r.val = t.val / 2 % 2 * 1024 + r.val; rfl
  rw [e]
  show _ = ∑ s : Fin 4096, A0 m c (ix2 s (row t j)) * A1 m c (ix2 s (col t r))
  rw [two_halves]
  refine Finset.sum_congr rfl fun s _ => ?_
  have hs : t.val - 1 + s.val < cfg0.N := by omega
  have hr : row ⟨t.val - 1 + s.val, hs⟩ j = row t j := Fin.ext (by show (t.val - 1 + s.val) / 4 * 1408 + j.val = t.val / 4 * 1408 + j.val; omega)
  have hc : col ⟨t.val - 1 + s.val, hs⟩ r = col t r := Fin.ext (by show (t.val - 1 + s.val) / 2 % 2 * 1024 + r.val = t.val / 2 % 2 * 1024 + r.val; omega)
  have hh : ∀ x : Fin 2048, half (t.val - 1 + s.val) x = ⟨s.val * 2048 + x.val, by omega⟩ := fun x => Fin.ext (by
    show (t.val - 1 + s.val) % 2 * 2048 + x.val = s.val * 2048 + x.val; omega)
  rw [term_at]
  exact Finset.sum_congr rfl fun x _ => by rw [hr, hc, hh]

end Cert.Kernel6Ideal.Hand

namespace Cert.Reference6Ideal.Hand

open Idealize.ShloMosaic hiding ix1 ix2 ix3 ix4 eq_ix1 eq_ix2 eq_ix3 eq_ix4
open Cert.Reference6Ideal Cert.Reference6Ideal.Read Cert.Ffn Idealize.ShloMosaic.ValueIdx
open scoped BigOperators

variable (x0 : (⟨S4096x5632, .bf16⟩ : BufTy).Contents (Elt Ideal)) (x1 : (⟨S4096x2048, .bf16⟩ : BufTy).Contents (Elt Ideal))

theorem dw_eq : val_main_v4 (F := Ideal) x0 x1 = dwRows x0 x1 := by
  funext y
  show val_main_v3 (F := Ideal) x0 x1 y = _
  rw [val_main_v3_apply, val_main_v2_apply]
  exact Finset.sum_congr rfl fun s _ => (mul_comm _ _).trans (congrArg₂ (· * ·) (congrArg x0 (eq_ix2 _)) (congrArg x1 (eq_ix2 _)))

end Cert.Reference6Ideal.Hand

end
-- ==== Proof.Ffn.Down.lean ====
module

public import proofs.«01_k».proof.Proof.Ffn.Common
public import proofs.«01_k».proof.Proof.Gen.Kernel7Ideal.Value
public import proofs.«01_k».proof.Proof.Gen.Reference7Ideal.Read
public import Idealize.ShloMosaic.Lib.Pipeline.ValueKit.Geometry

/- The feed-forward layer's last call: the activations times the down weight, added to the layer's input. -/

@[expose] public section

set_option maxRecDepth 16384

noncomputable section

namespace Cert.Ffn

open Idealize.ShloMosaic hiding ix1 ix2 ix3 ix4 eq_ix1 eq_ix2 eq_ix3 eq_ix4
open Idealize.ShloMosaic.TcCoe Idealize.ShloMosaic.ValueIdx Cert.Tile
open scoped BigOperators

/-- The activations times the down weight, and the layer's input added. -/
def downArr (a : (⟨2, ![4096, 5632]⟩ : Shape).Idx → EReal) (w : (⟨2, ![5632, 2048]⟩ : Shape).Idx → EReal)
    (x : (⟨2, ![4096, 2048]⟩ : Shape).Idx → EReal) : (⟨2, ![4096, 2048]⟩ : Shape).Idx → EReal :=
  fun y => ∑ j : Fin 5632, a (ix2 (y 0) j) * w (ix2 j (y 1)) + x y

end Cert.Ffn

namespace Cert.Kernel7Ideal.Hand

open Idealize.ShloMosaic hiding ix1 ix2 ix3 ix4 eq_ix1 eq_ix2 eq_ix3 eq_ix4
open Cert.Kernel7Ideal Cert.Kernel7Ideal.Gen Cert.Ffn Cert.Tile
open Idealize.ShloMosaic.TcCoe Idealize.ShloMosaic.ValueIdx
open scoped BigOperators

variable (m : (ℓ : Loc nD τ sig) → Buf (Elt Ideal) ℓ) (c : Dev nD)

/-- The argument arrays. -/
abbrev A0 : (⟨2, ![4096, 5632]⟩ : Shape).Idx → EReal := m ((c.tc : Thread nD τ).loc main_arg0)
abbrev A1 : (⟨2, ![5632, 2048]⟩ : Shape).Idx → EReal := m ((c.tc : Thread nD τ).loc main_arg1)
abbrev A2 : (⟨2, ![4096, 2048]⟩ : Shape).Idx → EReal := m ((c.tc : Thread nD τ).loc main_arg2)

theorem idx_0 : ∀ t : Fin cfg0.N, win0_0.index t = ![t.val / 8, t.val % 4] := (by decide +kernel : ∀ t : Fin grid0.N, _)
theorem idx_1 : ∀ t : Fin cfg0.N, win0_1.index t = ![t.val % 4, t.val / 4 % 2] := (by decide +kernel : ∀ t : Fin grid0.N, _)
theorem idx_2 : ∀ t : Fin cfg0.N, win0_2.index t = ![t.val / 8, t.val / 4 % 2] := (by decide +kernel : ∀ t : Fin grid0.N, _)
theorem idx_3 : ∀ t : Fin cfg0.N, win0_3.index t = ![t.val / 8, t.val / 4 % 2] := (by decide +kernel : ∀ t : Fin grid0.N, _)

/-- The rows and columns of the result a grid point works on, and the columns it sums over. -/
def row (t : Fin cfg0.N) (r : Fin 1024) : Fin 4096 := ⟨t.val / 8 * 1024 + r.val, by have : t.val < 32 := t.isLt; omega⟩
def col (t : Fin cfg0.N) (k : Fin 1024) : Fin 2048 := ⟨t.val / 4 % 2 * 1024 + k.val, by omega⟩
def mid (t : Fin cfg0.N) (j : Fin 1408) : Fin 5632 := ⟨t.val % 4 * 1408 + j.val, by omega⟩

theorem blk_0 (t : Fin cfg0.N) (r : Fin 1024) (j : Fin 1408) : iblk m c 0 t (ix2 r j) = A0 m c (ix2 (row t r) (mid t j)) := by
  blk_simp [iblk]
  refine congrArg (A0 m c) (funext fun a => Fin.ext ?_)
  match a with
  | ⟨0, _⟩ => blk_simp [idx_0]; show t.val / 8 * 1024 + r.val = t.val / 8 * 1024 + r.val; rfl
  | ⟨1, _⟩ => blk_simp [idx_0]; show t.val % 4 * 1408 + j.val = t.val % 4 * 1408 + j.val; rfl

theorem blk_1 (t : Fin cfg0.N) (j : Fin 1408) (k : Fin 1024) : iblk m c 1 t (ix2 j k) = A1 m c (ix2 (mid t j) (col t k)) := by
  blk_simp [iblk]
  refine congrArg (A1 m c) (funext fun a => Fin.ext ?_)
  match a with
  | ⟨0, _⟩ => blk_simp [idx_1]; show t.val % 4 * 1408 + j.val = t.val % 4 * 1408 + j.val; rfl
  | ⟨1, _⟩ => blk_simp [idx_1]; show t.val / 4 % 2 * 1024 + k.val = t.val / 4 % 2 * 1024 + k.val; rfl

theorem blk_2 (t : Fin cfg0.N) (r k : Fin 1024) : iblk m c 2 t (ix2 r k) = A2 m c (ix2 (row t r) (col t k)) := by
  blk_simp [iblk]
  refine congrArg (A2 m c) (funext fun a => Fin.ext ?_)
  match a with
  | ⟨0, _⟩ => blk_simp [idx_2]; show t.val / 8 * 1024 + r.val = t.val / 8 * 1024 + r.val; rfl
  | ⟨1, _⟩ => blk_simp [idx_2]; show t.val / 4 % 2 * 1024 + k.val = t.val / 4 % 2 * 1024 + k.val; rfl

/-- What a grid point adds at an index of its block. -/
def term (r k : Fin 1024) (t : Fin cfg0.N) : EReal := k0_pay1 (F := Ideal) (iblk m c 0 t) (iblk m c 1 t) (ix2 r k)

theorem term_at (r k : Fin 1024) (t : Fin cfg0.N) :
    term m c r k t = ∑ j : Fin 1408, A0 m c (ix2 (row t r) (mid t j)) * A1 m c (ix2 (mid t j) (col t k)) :=
  (nn_at (iblk m c 0 t) (iblk m c 1 t) r k).trans (Finset.sum_congr rfl fun j _ => by rw [blk_0, blk_1])

theorem after_last (t : Fin cfg0.N) (ht : t.val % 4 = 3) (r k : Fin 1024) :
    (dats m 0 c).after 3 t (ix2 r k) = ∑ s : Fin 4, term m c r k ⟨t.val - 3 + s.val, by have := t.isLt; omega⟩ + A2 m c (ix2 (row t r) (col t k)) := by
  refine four_points (T := term m c r k) (f := fun n h => (outsAt0 m c n h).2 (ix2 r k)) (o := fun t => (dats m 0 c).after 3 t (ix2 r k))
    (fun t h => ?_) (fun t h => ?_) t ht ?_
  · show (outsAt0 m c t.val t.isLt).2 (ix2 r k) = _
    rw [outsAt0_A m c t h (by omega) (by omega)]
    frame_out
    rw [k0_pay2, shapeCast_self]
    rfl
  · show (outsAt0 m c t.val t.isLt).2 (ix2 r k) = _
    rw [outsAt0_B m c t (by omega) h (by omega)]
    frame_out
    rw [k0_pay3, shapeCast_self, Memref.IsWhole.read_unread (Memref.isWhole_whole cc0_scratch0)]
    rfl
  · show (dats m 0 c).after 3 t (ix2 r k) = _
    rw [after0_3, outsAt0_C m c t (by omega) (by omega) ht, ← blk_2]
    frame_out
    rw [Memref.IsWhole.read_unread (Memref.isWhole_whole cc0_scratch0)]
    rfl

theorem final : (dats m 0 c).arrAt 3 cfg0.N = downArr (A0 m c) (A1 m c) (A2 m c) := by
  refine (dats m 0 c).arrAt_eq_of_covers 3 _ (by decide +kernel) fun t hf y => ?_
  have ht : t.val % 4 = 3 := (flush0_3 t).mp hf
  have hN : t.val < 32 := t.isLt
  have hN' : cfg0.N = 32 := N_0
  blk_simp
  obtain ⟨r, k, rfl⟩ : ∃ r k : Fin 1024, y = ix2 r k := ⟨y 0, y 1, eq_ix2 y⟩
  rw [after_last m c t ht]
  have e : ((cfg0.win 3).blk t).view.emb (ix2 r k) = ix2 (row t r) (col t k) := funext fun a => Fin.ext <| by
    match a with
    | ⟨0, _⟩ => blk_simp [idx_3]; show t.val / 8 * 1024 + r.val = t.val / 8 * 1024 + r.val; rfl
    | ⟨1, _⟩ => blk_simp [idx_3]; show t.val / 4 % 2 * 1024 + k.val = t.val / 4 % 2 * 1024 + k.val; rfl
  rw [e]
  show _ = ∑ j : Fin 5632, A0 m c (ix2 (row t r) j) * A1 m c (ix2 j (col t k)) + A2 m c (ix2 (row t r) (col t k))
  rw [four_blocks]
  refine congrArg (· + _) (Finset.sum_congr rfl fun s _ => ?_)
  have hs : t.val - 3 + s.val < cfg0.N := by omega
  have hr : row ⟨t.val - 3 + s.val, hs⟩ r = row t r := Fin.ext (by show (t.val - 3 + s.val) / 8 * 1024 + r.val = t.val / 8 * 1024 + r.val; omega)
  have hc : col ⟨t.val - 3 + s.val, hs⟩ k = col t k := Fin.ext (by
    show (t.val - 3 + s.val) / 4 % 2 * 1024 + k.val = t.val / 4 % 2 * 1024 + k.val; omega)
  have hm : ∀ j : Fin 1408, mid ⟨t.val - 3 + s.val, hs⟩ j = ⟨s.val * 1408 + j.val, by omega⟩ := fun j => Fin.ext (by
    show (t.val - 3 + s.val) % 4 * 1408 + j.val = s.val * 1408 + j.val; omega)
  rw [term_at]
  exact Finset.sum_congr rfl fun j _ => by rw [hr, hc, hm]

end Cert.Kernel7Ideal.Hand

namespace Cert.Reference7Ideal.Hand

open Idealize.ShloMosaic hiding ix1 ix2 ix3 ix4 eq_ix1 eq_ix2 eq_ix3 eq_ix4
open Cert.Reference7Ideal Cert.Reference7Ideal.Read Cert.Ffn Idealize.ShloMosaic.ValueIdx
open scoped BigOperators

variable (x0 : (⟨S4096x5632, .bf16⟩ : BufTy).Contents (Elt Ideal)) (x1 : (⟨S5632x2048, .bf16⟩ : BufTy).Contents (Elt Ideal))
variable (x2 : (⟨S4096x2048, .f32⟩ : BufTy).Contents (Elt Ideal))

theorem down_eq : val_main_v3 (F := Ideal) x0 x1 x2 = downArr x0 x1 x2 := by
  funext y
  rw [val_main_v3_apply]
  show x2 y + val_main_v2 (F := Ideal) x0 x1 y = _
  rw [val_main_v2_apply, add_comm]
  exact congrArg (· + x2 y) (Finset.sum_congr rfl fun j _ => congrArg₂ (· * ·) (congrArg x0 (eq_ix2 _)) (congrArg x1 (eq_ix2 _)))

end Cert.Reference7Ideal.Hand

end
-- ==== Proof.Ffn.Claims.lean ====
module

public import proofs.«01_k».proof.Defs
public import proofs.«01_k».proof.Proof.Results
public import proofs.«01_k».proof.Proof.Ffn.GateUp
public import proofs.«01_k».proof.Proof.Ffn.DownDx
public import proofs.«01_k».proof.Proof.Ffn.GateUpDx
public import proofs.«01_k».proof.Proof.Ffn.WeightGrads
public import proofs.«01_k».proof.Proof.Ffn.Down
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import Idealize.ShloMosaic.Lib.Claim
public import Idealize.ShloMosaic.Lib.Quiescent
public import Idealize.ShloMosaic.Adequacy
public import Idealize.ShloMosaic.Init

/- The feed-forward layer's calls against their references: the equalities of results, and the references' frames. -/

@[expose] public section

noncomputable section

namespace Cert.Ffn

open Idealize.ShloMosaic Idealize.SL.Sem Cert

/-- An extended real whose absolute value is below infinity is a number. -/
theorem real_of_abs {x : EReal} (h : Ideal.cmp .olt (max x (-x)) (Ideal.ofBits .f32 0x7F800000#32) = 1#1) : ∃ a : ℝ, x = a := by
  have e : Ideal.ofBits .f32 0x7F800000#32 = ⊤ := by simp [Ideal.ofBits, Ideal.ieee]
  rw [e] at h
  have hlt : max x (-x) < ⊤ := by
    by_contra hc
    have : Ideal.cmp .olt (max x (-x)) ⊤ = 0#1 := by
      show BitVec.ofBool (decide (max x (-x) < ⊤)) = 0#1
      rw [decide_eq_false hc]
      rfl
    rw [this] at h
    exact absurd h (by decide)
  obtain ⟨h1, h2⟩ := max_lt_iff.mp hlt
  induction x with
  | bot => exact absurd h2 (by simp)
  | top => exact absurd h1 (by simp)
  | coe a => exact ⟨a, rfl⟩

theorem and_one : ∀ p q : BitVec 1, p &&& q = 1#1 → p = 1#1 ∧ q = 1#1 := by decide

/-- The reference run keeps its arguments and uses no semaphore. -/
theorem frame_r2 : @Cert.quiescent_Reference2Ideal Cert.Reference2Ideal.Gen.facts := fun m g _ =>
  (θ_run Cert.Reference2Ideal.defs _ _).mono (fun r h => ⟨fun c => (h c).2.2.2, sem_eq_zero_of_no_sems rfl r.2⟩) (Cert.Reference2Ideal.Value.run (F := Ideal) m g)

/-- The gate and up products and the activation are the reference's. -/
theorem algebraic2 : @Cert.algebraic_Kernel2Ideal_Reference2Ideal Cert.Kernel2Ideal.Gen.facts Cert.Reference2Ideal.Gen.facts := by
  intro m g m' g' _ hagree
  refine ⟨fun c => prod (Cert.Kernel2Ideal.Hand.A0 m c) (Cert.Kernel2Ideal.Hand.A1 m c), fun c => prod (Cert.Kernel2Ideal.Hand.A0 m c) (Cert.Kernel2Ideal.Hand.A2 m c), fun c => act (Cert.Kernel2Ideal.Hand.A0 m c) (Cert.Kernel2Ideal.Hand.A1 m c) (Cert.Kernel2Ideal.Hand.A2 m c), ?_, ?_⟩
  · exact (θ_run Cert.Kernel2Ideal.defs _ _).mono (fun r h c => ⟨(h c).1.trans (Cert.Kernel2Ideal.Hand.final_gate m c), (h c).2.1.trans (Cert.Kernel2Ideal.Hand.final_up m c), (h c).2.2.1.trans (Cert.Kernel2Ideal.Hand.final_act m c), (h c).2.2.2⟩)
      (Cert.Kernel2Ideal.Value.run_blocks (F := Ideal) m g)
  · refine (θ_run Cert.Reference2Ideal.defs _ _).mono (fun r h c => ?_) (Cert.Reference2Ideal.Value.run (F := Ideal) m' g')
    obtain ⟨e0, e1, e2⟩ := hagree c
    refine ⟨(h c).1.trans ?_, (h c).2.1.trans ?_, (h c).2.2.1.trans ?_, (h c).2.2.2⟩
    · rw [Cert.Reference2Ideal.Read.val_main_v13_eq, e0, e1]
      exact Cert.Reference2Ideal.Hand.gate_eq _ _
    · rw [Cert.Reference2Ideal.Read.val_main_v14_eq, e0, e2]
      exact Cert.Reference2Ideal.Hand.up_eq _ _
    · rw [Cert.Reference2Ideal.Read.val_main_v15_eq, e0, e1, e2]
      exact Cert.Reference2Ideal.Hand.act_eq _ _ _

/-- The reference run keeps its arguments and uses no semaphore. -/
theorem frame_r3 : @Cert.quiescent_Reference3Ideal Cert.Reference3Ideal.Gen.facts := fun m g _ =>
  (θ_run Cert.Reference3Ideal.defs _ _).mono (fun r h => ⟨fun c => (h c).2.2, sem_eq_zero_of_no_sems rfl r.2⟩) (Cert.Reference3Ideal.Value.run (F := Ideal) m g)

/-- The precondition's side conditions. -/
theorem pre_dy_facts : Cert.Pre_finite_dy_w_up.Facts := ⟨by decide, by decide, by decide, by decide⟩

/-- The gradients of the gate and up products are the reference's, for a finite cotangent, down weight and up product. -/
theorem algebraic3 : @Cert.algebraic_Kernel3Ideal_Reference3Ideal_pre_finite_dy_w_up Cert.Kernel3Ideal.Gen.facts Cert.Reference3Ideal.Gen.facts pre_dy_facts := by
  intro m g m' g' hpre hagree
  have h0 : ∀ c y, ∃ a : ℝ, Cert.Kernel3Ideal.Hand.A0 m c y = a := fun c y => real_of_abs (congrFun (hpre c).1 y)
  have h1 : ∀ c y, ∃ a : ℝ, Cert.Kernel3Ideal.Hand.A1 m c y = a := fun c y => real_of_abs (congrFun (hpre c).2.1 y)
  have h3 : ∀ c y, ∃ a : ℝ, Cert.Kernel3Ideal.Hand.A3 m c y = a := fun c y => real_of_abs (congrFun (hpre c).2.2 y)
  refine ⟨fun c => dgate (Cert.Kernel3Ideal.Hand.A0 m c) (Cert.Kernel3Ideal.Hand.A1 m c) (Cert.Kernel3Ideal.Hand.A2 m c) (Cert.Kernel3Ideal.Hand.A3 m c),
    fun c => dup (Cert.Kernel3Ideal.Hand.A0 m c) (Cert.Kernel3Ideal.Hand.A1 m c) (Cert.Kernel3Ideal.Hand.A2 m c), ?_, ?_⟩
  · exact (θ_run Cert.Kernel3Ideal.defs _ _).mono (fun r h c => ⟨(h c).1.trans (Cert.Kernel3Ideal.Hand.final_gate m c), (h c).2.1.trans (Cert.Kernel3Ideal.Hand.final_up m c), (h c).2.2⟩)
      (Cert.Kernel3Ideal.Value.run_blocks (F := Ideal) m g)
  · refine (θ_run Cert.Reference3Ideal.defs _ _).mono (fun r h c => ?_) (Cert.Reference3Ideal.Value.run (F := Ideal) m' g')
    obtain ⟨e0, e1, e2, e3⟩ := hagree c
    refine ⟨(h c).1.trans ?_, (h c).2.1.trans ?_, (h c).2.2⟩
    · rw [Cert.Reference3Ideal.Read.val_main_v11_eq, e0, e1, e2, e3]
      exact Cert.Reference3Ideal.Hand.gate_eq _ _ _ _ (h0 c) (h1 c) (h3 c)
    · rw [Cert.Reference3Ideal.Read.val_main_v12_eq, e0, e1, e2]
      exact Cert.Reference3Ideal.Hand.up_eq _ _ _

/-- The feed-forward layer's input gradient is the reference's. -/
theorem algebraic4 : @algebraic_Kernel4Ideal_Reference4Ideal Kernel4Ideal.Gen.facts Reference4Ideal.Gen.facts := fun m g m' g' _ same =>
  ⟨fun c => dxArr (Kernel4Ideal.Hand.A0 m c) (Kernel4Ideal.Hand.A1 m c) (Kernel4Ideal.Hand.A2 m c) (Kernel4Ideal.Hand.A3 m c),
    result_is (Kernel4Ideal.Value.run_blocks (F := Ideal) m g) (Kernel4Ideal.Hand.final m),
    result_is (Reference4Ideal.Value.run (F := Ideal) m' g') fun c => by
      obtain ⟨e0, e1, e2, e3⟩ := same c
      rw [Reference4Ideal.Read.val_main_v12_eq, e0, e1, e2, e3]
      exact Reference4Ideal.Hand.dx_eq _ _ _ _⟩

/-- The gradient of a weight kept in column blocks is the reference's. -/
theorem algebraic5 : @algebraic_Kernel5Ideal_Reference5Ideal Kernel5Ideal.Gen.facts Reference5Ideal.Gen.facts := fun m g m' g' _ same =>
  ⟨fun c => dwCols (Kernel5Ideal.Hand.A0 m c) (Kernel5Ideal.Hand.A1 m c),
    result_is (Kernel5Ideal.Value.run_blocks (F := Ideal) m g) (Kernel5Ideal.Hand.final m),
    result_is (Reference5Ideal.Value.run (F := Ideal) m' g') fun c => by
      rw [Reference5Ideal.Read.val_main_v6_eq, (same c).1, (same c).2]
      exact Reference5Ideal.Hand.dw_eq _ _⟩

/-- The down weight's gradient is the reference's. -/
theorem algebraic6 : @algebraic_Kernel6Ideal_Reference6Ideal Kernel6Ideal.Gen.facts Reference6Ideal.Gen.facts := fun m g m' g' _ same =>
  ⟨fun c => dwRows (Kernel6Ideal.Hand.A0 m c) (Kernel6Ideal.Hand.A1 m c),
    result_is (Kernel6Ideal.Value.run_blocks (F := Ideal) m g) (Kernel6Ideal.Hand.final m),
    result_is (Reference6Ideal.Value.run (F := Ideal) m' g') fun c => by
      rw [Reference6Ideal.Read.val_main_v4_eq, (same c).1, (same c).2]
      exact Reference6Ideal.Hand.dw_eq _ _⟩

/-- The down product and the residual are the reference's. -/
theorem algebraic7 : @algebraic_Kernel7Ideal_Reference7Ideal Kernel7Ideal.Gen.facts Reference7Ideal.Gen.facts := fun m g m' g' _ same =>
  ⟨fun c => downArr (Kernel7Ideal.Hand.A0 m c) (Kernel7Ideal.Hand.A1 m c) (Kernel7Ideal.Hand.A2 m c),
    result_is (Kernel7Ideal.Value.run_blocks (F := Ideal) m g) (Kernel7Ideal.Hand.final m),
    result_is (Reference7Ideal.Value.run (F := Ideal) m' g') fun c => by
      rw [Reference7Ideal.Read.val_main_v3_eq, (same c).1, (same c).2.1, (same c).2.2]
      exact Reference7Ideal.Hand.down_eq _ _ _⟩

end Cert.Ffn

end
-- ==== Proof.Proj.Common.lean ====
module

public import proofs.«01_k».proof.Proof.Ffn.Common

/- Products of two matrices, of all three orientations, and a weight kept in four blocks of columns. -/

@[expose] public section

noncomputable section

namespace Cert.Proj

open Idealize.ShloMosaic hiding ix1 ix2 ix3 ix4 eq_ix1 eq_ix2 eq_ix3 eq_ix4
open Idealize.ShloMosaic.ValueIdx Cert.Tile
open scoped BigOperators

/-- The product of two matrices. -/
def nnArr {M K N : ℕ} (a : (⟨2, ![M, K]⟩ : Shape).Idx → EReal) (b : (⟨2, ![K, N]⟩ : Shape).Idx → EReal) :
    (⟨2, ![M, N]⟩ : Shape).Idx → EReal :=
  fun y => ∑ k : Fin K, a (ix2 (y 0) k) * b (ix2 k (y 1))

/-- The product with the second matrix transposed. -/
def ntArr {M K N : ℕ} (a : (⟨2, ![M, K]⟩ : Shape).Idx → EReal) (b : (⟨2, ![N, K]⟩ : Shape).Idx → EReal) :
    (⟨2, ![M, N]⟩ : Shape).Idx → EReal :=
  fun y => ∑ k : Fin K, a (ix2 (y 0) k) * b (ix2 (y 1) k)

/-- The product with the first matrix transposed. -/
def tnArr {M K N : ℕ} (a : (⟨2, ![K, M]⟩ : Shape).Idx → EReal) (b : (⟨2, ![K, N]⟩ : Shape).Idx → EReal) :
    (⟨2, ![M, N]⟩ : Shape).Idx → EReal :=
  fun y => ∑ k : Fin K, a (ix2 k (y 0)) * b (ix2 k (y 1))

/-- A residual added to an array. -/
def plus {M N : ℕ} (x z : (⟨2, ![M, N]⟩ : Shape).Idx → EReal) : (⟨2, ![M, N]⟩ : Shape).Idx → EReal := fun y => z y + x y

/-- A weight of `2048` columns from its four blocks of `512`. -/
def colsArr (w : (⟨4, ![1, 4, 512, 512]⟩ : Shape).Idx → EReal) : (⟨2, ![512, 2048]⟩ : Shape).Idx → EReal :=
  fun y => w (ix4 (0 : Fin 1) (⟨(y 1).val / 512, by have : (y 1).val < 2048 := (y 1).isLt; omega⟩ : Fin 4) (y 0)
    (⟨(y 1).val % 512, by omega⟩ : Fin 512))

/-- A matrix of `2048` columns, cut into four blocks of `512`. -/
def cutArr (x : (⟨2, ![512, 2048]⟩ : Shape).Idx → EReal) : (⟨3, ![4, 512, 512]⟩ : Shape).Idx → EReal :=
  fun y => x (ix2 (y 1) (⟨(y 0).val * 512 + (y 2).val, by
    have : (y 0).val < 4 := (y 0).isLt; have : (y 2).val < 512 := (y 2).isLt; omega⟩ : Fin 2048))

/-- A matrix at two indices with the same coordinates. -/
theorem same2 {α : Type} {a b : ℕ} (x : (⟨2, ![a, b]⟩ : Shape).Idx → α) {i j : (⟨2, ![a, b]⟩ : Shape).Idx}
    (h0 : (i 0).val = (j 0).val) (h1 : (i 1).val = (j 1).val) : x i = x j :=
  congrArg x (funext fun k => Fin.ext (match k with | ⟨0, _⟩ => h0 | ⟨1, _⟩ => h1))

/-- An array at an index with given coordinates. -/
theorem at2 {α : Type} {a b : ℕ} (x : (⟨2, ![a, b]⟩ : Shape).Idx → α) {i : (⟨2, ![a, b]⟩ : Shape).Idx} {r : Fin a} {c : Fin b}
    (h0 : (i 0).val = r.val) (h1 : (i 1).val = c.val) : x i = x (ix2 r c) :=
  congrArg x (funext fun k => Fin.ext (match k with | ⟨0, _⟩ => h0 | ⟨1, _⟩ => h1))

theorem at3 {α : Type} {a b d : ℕ} (x : (⟨3, ![a, b, d]⟩ : Shape).Idx → α) {i : (⟨3, ![a, b, d]⟩ : Shape).Idx} {p : Fin a} {r : Fin b} {c : Fin d}
    (h0 : (i 0).val = p.val) (h1 : (i 1).val = r.val) (h2 : (i 2).val = c.val) : x i = x (ix3 p r c) :=
  congrArg x (funext fun k => Fin.ext (match k with | ⟨0, _⟩ => h0 | ⟨1, _⟩ => h1 | ⟨2, _⟩ => h2))

theorem at4 {α : Type} {a b d e : ℕ} (x : (⟨4, ![a, b, d, e]⟩ : Shape).Idx → α) {i : (⟨4, ![a, b, d, e]⟩ : Shape).Idx}
    {p : Fin a} {q : Fin b} {r : Fin d} {c : Fin e}
    (h0 : (i 0).val = p.val) (h1 : (i 1).val = q.val) (h2 : (i 2).val = r.val) (h3 : (i 3).val = c.val) : x i = x (ix4 p q r c) :=
  congrArg x (funext fun k => Fin.ext (match k with | ⟨0, _⟩ => h0 | ⟨1, _⟩ => h1 | ⟨2, _⟩ => h2 | ⟨3, _⟩ => h3))

/-- An entry of a weight kept in blocks is one of the weight put together. -/
theorem cols_at (w : (⟨4, ![1, 4, 512, 512]⟩ : Shape).Idx → EReal) {i : (⟨4, ![1, 4, 512, 512]⟩ : Shape).Idx} {k : Fin 512} {j : Fin 2048}
    (h : (i 1).val * 512 + (i 3).val = j.val) (hk : (i 2).val = k.val) : w i = colsArr w (ix2 k j) := by
  have h0 : (i 0).val < 1 := (i 0).isLt
  have h3 : (i 3).val < 512 := (i 3).isLt
  exact at4 w (by show (i 0).val = 0; omega) (by show (i 1).val = j.val / 512; omega) hk (by show (i 3).val = j.val % 512; omega)

/-! ## A block of a product

The product of two blocks is a block of the product, where the blocks are the rows and columns it needs. -/

theorem nn_tile {M K N tm tn : ℕ} {φ₁ φ₂ : FTy} (A : (⟨2, ![M, K]⟩ : Shape).Idx → EReal) (B : (⟨2, ![K, N]⟩ : Shape).Idx → EReal)
    (a : FVec Ideal ⟨2, ![tm, K]⟩ φ₁) (b : FVec Ideal ⟨2, ![K, tn]⟩ φ₂) {y : (⟨2, ![tm, tn]⟩ : Shape).Idx} {i : (⟨2, ![M, N]⟩ : Shape).Idx}
    (ha : ∀ k, a (ix2 (y 0) k) = A (ix2 (i 0) k)) (hb : ∀ k, b (ix2 k (y 1)) = B (ix2 k (i 1))) :
    matmul (DotDims.plain tm K tn) none a b (constant ⟨2, ![tm, tn]⟩ .f32 0x00000000#32) y = nnArr A B i := by
  rw [eq_ix2 y]
  exact (Cert.Ffn.nn_at a b (y 0) (y 1)).trans (Finset.sum_congr rfl fun k _ => congrArg₂ (· * ·) (ha k) (hb k))

theorem nt_tile {M K N tm tn : ℕ} {φ₁ φ₂ : FTy} (A : (⟨2, ![M, K]⟩ : Shape).Idx → EReal) (B : (⟨2, ![N, K]⟩ : Shape).Idx → EReal)
    (a : FVec Ideal ⟨2, ![tm, K]⟩ φ₁) (b : FVec Ideal ⟨2, ![tn, K]⟩ φ₂) {y : (⟨2, ![tm, tn]⟩ : Shape).Idx} {i : (⟨2, ![M, N]⟩ : Shape).Idx}
    (ha : ∀ k, a (ix2 (y 0) k) = A (ix2 (i 0) k)) (hb : ∀ k, b (ix2 (y 1) k) = B (ix2 (i 1) k)) :
    matmul (DotDims.transposedRhs tm K tn) none a b (constant ⟨2, ![tm, tn]⟩ .f32 0x00000000#32) y = ntArr A B i := by
  rw [eq_ix2 y]
  exact (Cert.Ffn.nt_at a b (y 0) (y 1)).trans (Finset.sum_congr rfl fun k _ => congrArg₂ (· * ·) (ha k) (hb k))

/-! ## A block of a product in parts

The sum a block needs is added up over points next to each other, each with its part of the rows or columns summed over. -/

/-- The point before a point. -/
def before {N : ℕ} (t : Fin N) : Fin N := ⟨t.val - 1, by omega⟩

theorem sum_parts {K : ℕ} (S L : ℕ) (hK : K = S * L) (f : Fin K → EReal) :
    ∑ k, f k = ∑ s : Fin S, ∑ l : Fin L, f ⟨s.val * L + l.val, by
      rw [hK]; exact lt_of_lt_of_le (Nat.add_lt_add_left l.isLt _) (by rw [← Nat.succ_mul]; exact Nat.mul_le_mul_right L s.isLt)⟩ := by
  subst hK
  exact (Fin.sum_mul_add_fin S L f).symm

theorem tn_two {M K N L tm tn : ℕ} {φ₁ φ₂ : FTy} (hK : K = 2 * L)
    (A : (⟨2, ![K, M]⟩ : Shape).Idx → EReal) (B : (⟨2, ![K, N]⟩ : Shape).Idx → EReal)
    (a₀ a₁ : FVec Ideal ⟨2, ![L, tm]⟩ φ₁) (b₀ b₁ : FVec Ideal ⟨2, ![L, tn]⟩ φ₂) {y : (⟨2, ![tm, tn]⟩ : Shape).Idx} {i : (⟨2, ![M, N]⟩ : Shape).Idx}
    (ha₀ : ∀ l, a₀ (ix2 l (y 0)) = A (ix2 ⟨0 * L + l.val, by omega⟩ (i 0))) (hb₀ : ∀ l, b₀ (ix2 l (y 1)) = B (ix2 ⟨0 * L + l.val, by omega⟩ (i 1)))
    (ha₁ : ∀ l, a₁ (ix2 l (y 0)) = A (ix2 ⟨1 * L + l.val, by omega⟩ (i 0))) (hb₁ : ∀ l, b₁ (ix2 l (y 1)) = B (ix2 ⟨1 * L + l.val, by omega⟩ (i 1))) :
    matmul (firsts L tm tn) none a₀ b₀ (constant ⟨2, ![tm, tn]⟩ .f32 0x00000000#32) y
      + matmul (firsts L tm tn) none a₁ b₁ (constant ⟨2, ![tm, tn]⟩ .f32 0x00000000#32) y = tnArr A B i := by
  rw [eq_ix2 y]
  refine (congrArg₂ (· + ·) (Cert.Ffn.tn_at a₀ b₀ (y 0) (y 1)) (Cert.Ffn.tn_at a₁ b₁ (y 0) (y 1))).trans ?_
  refine Eq.trans ?_ (sum_parts 2 L hK _).symm
  rw [Fin.sum_univ_two]
  exact congrArg₂ (· + ·) (Finset.sum_congr rfl fun l _ => congrArg₂ (· * ·) (ha₀ l) (hb₀ l))
    (Finset.sum_congr rfl fun l _ => congrArg₂ (· * ·) (ha₁ l) (hb₁ l))

theorem nt_two {M K N L tm tn : ℕ} {φ₁ φ₂ : FTy} (hK : K = 2 * L)
    (A : (⟨2, ![M, K]⟩ : Shape).Idx → EReal) (B : (⟨2, ![N, K]⟩ : Shape).Idx → EReal)
    (a₀ a₁ : FVec Ideal ⟨2, ![tm, L]⟩ φ₁) (b₀ b₁ : FVec Ideal ⟨2, ![tn, L]⟩ φ₂) {y : (⟨2, ![tm, tn]⟩ : Shape).Idx} {i : (⟨2, ![M, N]⟩ : Shape).Idx}
    (ha₀ : ∀ l, a₀ (ix2 (y 0) l) = A (ix2 (i 0) ⟨0 * L + l.val, by omega⟩)) (hb₀ : ∀ l, b₀ (ix2 (y 1) l) = B (ix2 (i 1) ⟨0 * L + l.val, by omega⟩))
    (ha₁ : ∀ l, a₁ (ix2 (y 0) l) = A (ix2 (i 0) ⟨1 * L + l.val, by omega⟩)) (hb₁ : ∀ l, b₁ (ix2 (y 1) l) = B (ix2 (i 1) ⟨1 * L + l.val, by omega⟩)) :
    matmul (DotDims.transposedRhs tm L tn) none a₀ b₀ (constant ⟨2, ![tm, tn]⟩ .f32 0x00000000#32) y
      + matmul (DotDims.transposedRhs tm L tn) none a₁ b₁ (constant ⟨2, ![tm, tn]⟩ .f32 0x00000000#32) y = ntArr A B i := by
  rw [eq_ix2 y]
  refine (congrArg₂ (· + ·) (Cert.Ffn.nt_at a₀ b₀ (y 0) (y 1)) (Cert.Ffn.nt_at a₁ b₁ (y 0) (y 1))).trans ?_
  refine Eq.trans ?_ (sum_parts 2 L hK _).symm
  rw [Fin.sum_univ_two]
  exact congrArg₂ (· + ·) (Finset.sum_congr rfl fun l _ => congrArg₂ (· * ·) (ha₀ l) (hb₀ l))
    (Finset.sum_congr rfl fun l _ => congrArg₂ (· * ·) (ha₁ l) (hb₁ l))

theorem nt_parts {M K N L tm tn : ℕ} (S : ℕ) {φ₁ φ₂ : FTy} (hK : K = S * L)
    (A : (⟨2, ![M, K]⟩ : Shape).Idx → EReal) (B : (⟨2, ![N, K]⟩ : Shape).Idx → EReal)
    (a : Fin S → FVec Ideal ⟨2, ![tm, L]⟩ φ₁) (b : Fin S → FVec Ideal ⟨2, ![tn, L]⟩ φ₂) {y : (⟨2, ![tm, tn]⟩ : Shape).Idx} {i : (⟨2, ![M, N]⟩ : Shape).Idx}
    (ha : ∀ s (l : Fin L) (k : Fin K), k.val = s.val * L + l.val → a s (ix2 (y 0) l) = A (ix2 (i 0) k))
    (hb : ∀ s (l : Fin L) (k : Fin K), k.val = s.val * L + l.val → b s (ix2 (y 1) l) = B (ix2 (i 1) k)) :
    ∑ s, matmul (DotDims.transposedRhs tm L tn) none (a s) (b s) (constant ⟨2, ![tm, tn]⟩ .f32 0x00000000#32) y = ntArr A B i := by
  rw [eq_ix2 y]
  refine Eq.trans (Finset.sum_congr rfl fun s _ => ?_) (sum_parts S L hK _).symm
  exact (Cert.Ffn.nt_at (a s) (b s) (y 0) (y 1)).trans
    (Finset.sum_congr rfl fun l _ => congrArg₂ (· * ·) (ha s l _ rfl) (hb s l _ rfl))

end Cert.Proj

end
-- ==== Proof.Proj.Products.lean ====
module

public import proofs.«01_k».proof.Proof.Proj.Common
public import proofs.«01_k».proof.Proof.Gen.Kernel8Ideal.Value
public import proofs.«01_k».proof.Proof.Gen.Reference8Ideal.Read
public import proofs.«01_k».proof.Proof.Gen.Kernel11Ideal.Value
public import proofs.«01_k».proof.Proof.Gen.Reference11Ideal.Read
public import proofs.«01_k».proof.Proof.Gen.Kernel12Ideal.Value
public import proofs.«01_k».proof.Proof.Gen.Reference12Ideal.Read
public import proofs.«01_k».proof.Proof.Gen.Kernel14Ideal.Value
public import proofs.«01_k».proof.Proof.Gen.Reference14Ideal.Read
public import proofs.«01_k».proof.Proof.Gen.Kernel17Ideal.Value
public import proofs.«01_k».proof.Proof.Gen.Reference17Ideal.Read
public import proofs.«01_k».proof.Proof.Gen.Kernel18Ideal.Value
public import proofs.«01_k».proof.Proof.Gen.Reference18Ideal.Read
public import proofs.«01_k».proof.Proof.Gen.Kernel20Ideal.Value
public import proofs.«01_k».proof.Proof.Gen.Reference20Ideal.Read
public import Idealize.ShloMosaic.Lib.Pipeline.ValueKit.Geometry

/- The projections whose sums fit a grid point: each point writes its block of the product. -/

@[expose] public section

set_option maxRecDepth 16384

noncomputable section

/-! ## Into the mixers -/

namespace Cert.Kernel8Ideal.Hand

open Idealize.ShloMosaic hiding ix1 ix2 ix3 ix4 eq_ix1 eq_ix2 eq_ix3 eq_ix4
open Cert.Kernel8Ideal Cert.Kernel8Ideal.Gen Cert.Proj
open Idealize.ShloMosaic.TcCoe Idealize.ShloMosaic.ValueIdx

variable (m : (ℓ : Loc nD τ sig) → Buf (Elt Ideal) ℓ) (c : Dev nD)

/-- The argument arrays. -/
abbrev A0 : (⟨2, ![4096, 2048]⟩ : Shape).Idx → EReal := m ((c.tc : Thread nD τ).loc main_arg0)
abbrev A1 : (⟨2, ![2048, 3840]⟩ : Shape).Idx → EReal := m ((c.tc : Thread nD τ).loc main_arg1)

/-- The arguments' blocks at a point, by the result's. -/
theorem idx : ∀ t : Fin cfg0.N, win0_0.index t = ![win0_2.index t 0, 0] ∧ win0_1.index t = ![0, win0_2.index t 1] :=
  (by decide +kernel : ∀ t : Fin grid0.N, _)

theorem final : (dats m 0 c).arrAt 2 cfg0.N = nnArr (A0 m c) (A1 m c) := by
  refine (dats m 0 c).arrAt_eq_of_covers 2 _ (by decide +kernel) fun t hf y => ?_
  obtain ⟨i0, i1⟩ := idx t
  blk_simp
  rw [after0_2, out0_2, View.canon_cons_unit_lit _ _ _ (by decide), View.ld_unit_lit _ _ (by decide), View.ld_unit_lit _ _ (by decide)]
  refine nn_tile (A0 m c) (A1 m c) (iblk m c 0 t) (iblk m c 1 t) (fun k => ?_) (fun k => ?_) <;> blk_simp [iblk]
  · exact at2 (A0 m c) (by blk_simp [i0] <;> rfl) (by blk_simp [i0] <;> rfl)
  · exact at2 (A1 m c) (by blk_simp [i1] <;> rfl) (by blk_simp [i1] <;> rfl)

end Cert.Kernel8Ideal.Hand

namespace Cert.Reference8Ideal.Hand

open Idealize.ShloMosaic hiding ix1 ix2 ix3 ix4 eq_ix1 eq_ix2 eq_ix3 eq_ix4
open Cert.Reference8Ideal Cert.Reference8Ideal.Read Cert.Proj Idealize.ShloMosaic.ValueIdx

variable (x0 : (⟨S4096x2048, .bf16⟩ : BufTy).Contents (Elt Ideal)) (x1 : (⟨S2048x3840, .bf16⟩ : BufTy).Contents (Elt Ideal))

theorem value_eq : val_main_v2 (F := Ideal) x0 x1 = nnArr x0 x1 :=
  funext fun y => (val_main_v2_apply x0 x1 y).trans <|
    Finset.sum_congr rfl fun k _ => congrArg₂ (· * ·) (congrArg x0 (eq_ix2 _)) (congrArg x1 (eq_ix2 _))

end Cert.Reference8Ideal.Hand

/-! ## Out of the mixers, the residual added -/

namespace Cert.Kernel11Ideal.Hand

open Idealize.ShloMosaic hiding ix1 ix2 ix3 ix4 eq_ix1 eq_ix2 eq_ix3 eq_ix4
open Cert.Kernel11Ideal Cert.Kernel11Ideal.Gen Cert.Proj
open Idealize.ShloMosaic.TcCoe Idealize.ShloMosaic.ValueIdx

variable (m : (ℓ : Loc nD τ sig) → Buf (Elt Ideal) ℓ) (c : Dev nD)

/-- The argument arrays. -/
abbrev A0 : (⟨2, ![4096, 2048]⟩ : Shape).Idx → EReal := m ((c.tc : Thread nD τ).loc main_arg0)
abbrev A1 : (⟨2, ![2048, 2048]⟩ : Shape).Idx → EReal := m ((c.tc : Thread nD τ).loc main_arg1)
abbrev A2 : (⟨2, ![4096, 2048]⟩ : Shape).Idx → EReal := m ((c.tc : Thread nD τ).loc main_arg2)

/-- The arguments' blocks at a point, by the result's. -/
theorem idx : ∀ t : Fin cfg0.N, win0_0.index t = ![win0_3.index t 0, 0] ∧ win0_1.index t = ![0, win0_3.index t 1]
    ∧ win0_2.index t = win0_3.index t := (by decide +kernel : ∀ t : Fin grid0.N, _)

theorem final : (dats m 0 c).arrAt 3 cfg0.N = plus (A2 m c) (nnArr (A0 m c) (A1 m c)) := by
  refine (dats m 0 c).arrAt_eq_of_covers 3 _ (by decide +kernel) fun t hf y => ?_
  obtain ⟨i0, i1, i2⟩ := idx t
  blk_simp
  rw [after0_3, out0_3, View.canon_cons_unit_lit _ _ _ (by decide), View.ld_unit_lit _ _ (by decide), View.ld_unit_lit _ _ (by decide),
    View.ld_unit_lit _ _ (by decide)]
  refine congrArg₂ (· + ·) (nn_tile (A0 m c) (A1 m c) (iblk m c 0 t) (iblk m c 1 t) (fun k => ?_) (fun k => ?_)) ?_ <;> blk_simp [iblk]
  · exact at2 (A0 m c) (by blk_simp [i0] <;> rfl) (by blk_simp [i0] <;> rfl)
  · exact at2 (A1 m c) (by blk_simp [i1] <;> rfl) (by blk_simp [i1] <;> rfl)
  · exact same2 (A2 m c) (by blk_simp [i2] <;> rfl) (by blk_simp [i2] <;> rfl)

end Cert.Kernel11Ideal.Hand

namespace Cert.Reference11Ideal.Hand

open Idealize.ShloMosaic hiding ix1 ix2 ix3 ix4 eq_ix1 eq_ix2 eq_ix3 eq_ix4
open Cert.Reference11Ideal Cert.Reference11Ideal.Read Cert.Proj Idealize.ShloMosaic.ValueIdx

variable (x0 : (⟨S4096x2048, .bf16⟩ : BufTy).Contents (Elt Ideal)) (x1 : (⟨S2048x2048, .bf16⟩ : BufTy).Contents (Elt Ideal))
  (x2 : (⟨S4096x2048, .f32⟩ : BufTy).Contents (Elt Ideal))

theorem value_eq : val_main_v3 (F := Ideal) x0 x1 x2 = plus x2 (nnArr x0 x1) :=
  funext fun y => (add_comm (x2 y) _).trans <| congrArg (· + x2 y) <| (val_main_v2_apply x0 x1 y).trans <|
    Finset.sum_congr rfl fun k _ => congrArg₂ (· * ·) (congrArg x0 (eq_ix2 _)) (congrArg x1 (eq_ix2 _))

end Cert.Reference11Ideal.Hand

/-! ## The gradient of the mixers' outputs -/

namespace Cert.Kernel12Ideal.Hand

open Idealize.ShloMosaic hiding ix1 ix2 ix3 ix4 eq_ix1 eq_ix2 eq_ix3 eq_ix4
open Cert.Kernel12Ideal Cert.Kernel12Ideal.Gen Cert.Proj
open Idealize.ShloMosaic.TcCoe Idealize.ShloMosaic.ValueIdx

variable (m : (ℓ : Loc nD τ sig) → Buf (Elt Ideal) ℓ) (c : Dev nD)

/-- The argument arrays. -/
abbrev A0 : (⟨2, ![4096, 2048]⟩ : Shape).Idx → EReal := m ((c.tc : Thread nD τ).loc main_arg0)
abbrev A1 : (⟨2, ![2048, 2048]⟩ : Shape).Idx → EReal := m ((c.tc : Thread nD τ).loc main_arg1)

/-- The arguments' blocks at a point, by the result's. -/
theorem idx : ∀ t : Fin cfg0.N, win0_0.index t = ![win0_2.index t 0, 0] ∧ win0_1.index t = ![win0_2.index t 1, 0] :=
  (by decide +kernel : ∀ t : Fin grid0.N, _)

theorem final : (dats m 0 c).arrAt 2 cfg0.N = ntArr (A0 m c) (A1 m c) := by
  refine (dats m 0 c).arrAt_eq_of_covers 2 _ (by decide +kernel) fun t hf y => ?_
  obtain ⟨i0, i1⟩ := idx t
  blk_simp
  rw [after0_2, out0_2, View.canon_cons_unit_lit _ _ _ (by decide), View.ld_unit_lit _ _ (by decide), View.ld_unit_lit _ _ (by decide)]
  refine nt_tile (A0 m c) (A1 m c) (iblk m c 0 t) (iblk m c 1 t) (fun k => ?_) (fun k => ?_) <;> blk_simp [iblk]
  · exact at2 (A0 m c) (by blk_simp [i0] <;> rfl) (by blk_simp [i0] <;> rfl)
  · exact at2 (A1 m c) (by blk_simp [i1] <;> rfl) (by blk_simp [i1] <;> rfl)

end Cert.Kernel12Ideal.Hand

namespace Cert.Reference12Ideal.Hand

open Idealize.ShloMosaic hiding ix1 ix2 ix3 ix4 eq_ix1 eq_ix2 eq_ix3 eq_ix4
open Cert.Reference12Ideal Cert.Reference12Ideal.Read Cert.Proj Idealize.ShloMosaic.ValueIdx

variable (x0 : (⟨S4096x2048, .bf16⟩ : BufTy).Contents (Elt Ideal)) (x1 : (⟨S2048x2048, .bf16⟩ : BufTy).Contents (Elt Ideal))

theorem value_eq : val_main_v2 (F := Ideal) x0 x1 = ntArr x0 x1 :=
  funext fun y => (val_main_v2_apply x0 x1 y).trans <|
    Finset.sum_congr rfl fun k _ => congrArg₂ (· * ·) (congrArg x0 (eq_ix2 _)) (congrArg x1 (eq_ix2 _))

end Cert.Reference12Ideal.Hand

/-! ## From the latents to the heads -/

namespace Cert.Kernel14Ideal.Hand

open Idealize.ShloMosaic hiding ix1 ix2 ix3 ix4 eq_ix1 eq_ix2 eq_ix3 eq_ix4
open Cert.Kernel14Ideal Cert.Kernel14Ideal.Gen Cert.Proj
open Idealize.ShloMosaic.TcCoe Idealize.ShloMosaic.ValueIdx

variable (m : (ℓ : Loc nD τ sig) → Buf (Elt Ideal) ℓ) (c : Dev nD)

/-- The argument arrays. -/
abbrev A0 : (⟨2, ![4096, 512]⟩ : Shape).Idx → EReal := m ((c.tc : Thread nD τ).loc main_arg0)
abbrev A1 : (⟨4, ![1, 4, 512, 512]⟩ : Shape).Idx → EReal := m ((c.tc : Thread nD τ).loc main_arg1)

/-- The arguments' blocks at a point, by the result's. -/
theorem idx : ∀ t : Fin cfg0.N, win0_0.index t = ![win0_2.index t 0, 0] ∧ win0_1.index t = ![0, win0_2.index t 1, 0, 0] :=
  (by decide +kernel : ∀ t : Fin grid0.N, _)

theorem final : (dats m 0 c).arrAt 2 cfg0.N = nnArr (A0 m c) (colsArr (A1 m c)) := by
  refine (dats m 0 c).arrAt_eq_of_covers 2 _ (by decide +kernel) fun t hf y => ?_
  obtain ⟨i0, i1⟩ := idx t
  blk_simp
  rw [after0_2, out0_2, View.canon_cons_unit_lit _ _ _ (by decide), View.ld_unit_lit _ _ (by decide), View.ld_unit_lit _ _ (by decide)]
  refine nn_tile (A0 m c) (colsArr (A1 m c)) (iblk m c 0 t) _ (fun k => ?_) (fun k => (Cert.Ffn.dropUnits_at (iblk m c 1 t) _ k (y 1)).trans ?_)
    <;> blk_simp [iblk]
  · exact at2 (A0 m c) (by blk_simp [i0] <;> rfl) (by blk_simp [i0] <;> rfl)
  · exact cols_at (A1 m c) (by blk_simp [i1] <;> rfl) (by blk_simp [i1] <;> rfl)

end Cert.Kernel14Ideal.Hand

namespace Cert.Reference14Ideal.Hand

open Idealize.ShloMosaic hiding ix1 ix2 ix3 ix4 eq_ix1 eq_ix2 eq_ix3 eq_ix4
open Cert.Reference14Ideal Cert.Reference14Ideal.Read Cert.Proj Idealize.ShloMosaic.ValueIdx

variable (x0 : (⟨S4096x512, .bf16⟩ : BufTy).Contents (Elt Ideal)) (x1 : (⟨S1x4x512x512, .bf16⟩ : BufTy).Contents (Elt Ideal))

/-- The weight put together from its blocks of columns. -/
theorem cols_eq : val_main_v4 (F := Ideal) x1 = colsArr x1 := by
  funext y
  obtain ⟨k, j, rfl⟩ : ∃ (k : Fin 512) (j : Fin 2048), y = ix2 k j := ⟨y 0, y 1, eq_ix2 y⟩
  rw [val_main_v4_apply, val_main_v3_apply, val_main_v2_apply, val_main_v1_apply]
  have e0 : (k.val * 2048 + j.val) / 2048 = k.val := by omega
  have e1 : (k.val * 2048 + j.val) / 512 % 4 = j.val / 512 := by omega
  have e2 : (k.val * 2048 + j.val) % 512 = j.val % 512 := by omega
  refine at4 x1 (p := 0) rfl ?_ ?_ ?_
  · show (((k.val * 2048 + j.val) / 512 % 4 * 512 + (k.val * 2048 + j.val) / 2048) * 512 + (k.val * 2048 + j.val) % 512) / 262144 % 4 = j.val / 512
    rw [e0, e1, e2]; omega
  · show (((k.val * 2048 + j.val) / 512 % 4 * 512 + (k.val * 2048 + j.val) / 2048) * 512 + (k.val * 2048 + j.val) % 512) / 512 % 512 = k.val
    rw [e0, e1, e2]; omega
  · show (((k.val * 2048 + j.val) / 512 % 4 * 512 + (k.val * 2048 + j.val) / 2048) * 512 + (k.val * 2048 + j.val) % 512) % 512 = j.val % 512
    rw [e0, e1, e2]; omega

theorem value_eq : val_main_v5 (F := Ideal) x0 x1 = nnArr x0 (colsArr x1) :=
  funext fun y => (val_main_v5_apply x0 x1 y).trans <|
    Finset.sum_congr rfl fun k _ => congrArg₂ (· * ·) (congrArg x0 (eq_ix2 _)) ((congrFun (cols_eq x1) _).trans (congrArg (colsArr x1) (eq_ix2 _)))

end Cert.Reference14Ideal.Hand

/-! ## The queries of the cross-attention -/

namespace Cert.Kernel17Ideal.Hand

open Idealize.ShloMosaic hiding ix1 ix2 ix3 ix4 eq_ix1 eq_ix2 eq_ix3 eq_ix4
open Cert.Kernel17Ideal Cert.Kernel17Ideal.Gen Cert.Proj
open Idealize.ShloMosaic.TcCoe Idealize.ShloMosaic.ValueIdx

variable (m : (ℓ : Loc nD τ sig) → Buf (Elt Ideal) ℓ) (c : Dev nD)

/-- The argument arrays. -/
abbrev A0 : (⟨2, ![4096, 2048]⟩ : Shape).Idx → EReal := m ((c.tc : Thread nD τ).loc main_arg0)
abbrev A1 : (⟨2, ![2048, 512]⟩ : Shape).Idx → EReal := m ((c.tc : Thread nD τ).loc main_arg1)

/-- The arguments' blocks at a point, by the result's. -/
theorem idx : ∀ t : Fin cfg0.N, win0_0.index t = ![win0_2.index t 0, 0] ∧ win0_1.index t = ![0, win0_2.index t 1] :=
  (by decide +kernel : ∀ t : Fin grid0.N, _)

theorem final : (dats m 0 c).arrAt 2 cfg0.N = nnArr (A0 m c) (A1 m c) := by
  refine (dats m 0 c).arrAt_eq_of_covers 2 _ (by decide +kernel) fun t hf y => ?_
  obtain ⟨i0, i1⟩ := idx t
  blk_simp
  rw [after0_2, out0_2, View.canon_cons_unit_lit _ _ _ (by decide), View.ld_unit_lit _ _ (by decide), View.ld_unit_lit _ _ (by decide)]
  refine nn_tile (A0 m c) (A1 m c) (iblk m c 0 t) (iblk m c 1 t) (fun k => ?_) (fun k => ?_) <;> blk_simp [iblk]
  · exact at2 (A0 m c) (by blk_simp [i0] <;> rfl) (by blk_simp [i0] <;> rfl)
  · exact at2 (A1 m c) (by blk_simp [i1] <;> rfl) (by blk_simp [i1] <;> rfl)

end Cert.Kernel17Ideal.Hand

namespace Cert.Reference17Ideal.Hand

open Idealize.ShloMosaic hiding ix1 ix2 ix3 ix4 eq_ix1 eq_ix2 eq_ix3 eq_ix4
open Cert.Reference17Ideal Cert.Reference17Ideal.Read Cert.Proj Idealize.ShloMosaic.ValueIdx

variable (x0 : (⟨S4096x2048, .bf16⟩ : BufTy).Contents (Elt Ideal)) (x1 : (⟨S2048x512, .bf16⟩ : BufTy).Contents (Elt Ideal))

theorem value_eq : val_main_v2 (F := Ideal) x0 x1 = nnArr x0 x1 :=
  funext fun y => (val_main_v2_apply x0 x1 y).trans <|
    Finset.sum_congr rfl fun k _ => congrArg₂ (· * ·) (congrArg x0 (eq_ix2 _)) (congrArg x1 (eq_ix2 _))

end Cert.Reference17Ideal.Hand

/-! ## The gradient of the cross-attention's input -/

namespace Cert.Kernel18Ideal.Hand

open Idealize.ShloMosaic hiding ix1 ix2 ix3 ix4 eq_ix1 eq_ix2 eq_ix3 eq_ix4
open Cert.Kernel18Ideal Cert.Kernel18Ideal.Gen Cert.Proj
open Idealize.ShloMosaic.TcCoe Idealize.ShloMosaic.ValueIdx

variable (m : (ℓ : Loc nD τ sig) → Buf (Elt Ideal) ℓ) (c : Dev nD)

/-- The argument arrays. -/
abbrev A0 : (⟨2, ![4096, 512]⟩ : Shape).Idx → EReal := m ((c.tc : Thread nD τ).loc main_arg0)
abbrev A1 : (⟨2, ![2048, 512]⟩ : Shape).Idx → EReal := m ((c.tc : Thread nD τ).loc main_arg1)

/-- The arguments' blocks at a point, by the result's. -/
theorem idx : ∀ t : Fin cfg0.N, win0_0.index t = ![win0_2.index t 0, 0] ∧ win0_1.index t = ![win0_2.index t 1, 0] :=
  (by decide +kernel : ∀ t : Fin grid0.N, _)

theorem final : (dats m 0 c).arrAt 2 cfg0.N = ntArr (A0 m c) (A1 m c) := by
  refine (dats m 0 c).arrAt_eq_of_covers 2 _ (by decide +kernel) fun t hf y => ?_
  obtain ⟨i0, i1⟩ := idx t
  blk_simp
  rw [after0_2, out0_2, View.canon_cons_unit_lit _ _ _ (by decide), View.ld_unit_lit _ _ (by decide), View.ld_unit_lit _ _ (by decide)]
  refine nt_tile (φ₁ := .bf16) (A0 m c) (A1 m c) (iblk m c 0 t) (iblk m c 1 t) (fun k => ?_) (fun k => ?_) <;> blk_simp [iblk]
  · exact at2 (A0 m c) (by blk_simp [i0] <;> rfl) (by blk_simp [i0] <;> rfl)
  · exact at2 (A1 m c) (by blk_simp [i1] <;> rfl) (by blk_simp [i1] <;> rfl)

end Cert.Kernel18Ideal.Hand

namespace Cert.Reference18Ideal.Hand

open Idealize.ShloMosaic hiding ix1 ix2 ix3 ix4 eq_ix1 eq_ix2 eq_ix3 eq_ix4
open Cert.Reference18Ideal Cert.Reference18Ideal.Read Cert.Proj Idealize.ShloMosaic.ValueIdx

variable (x0 : (⟨S4096x512, .f32⟩ : BufTy).Contents (Elt Ideal)) (x1 : (⟨S2048x512, .bf16⟩ : BufTy).Contents (Elt Ideal))

theorem value_eq : val_main_v1 (F := Ideal) x0 x1 = ntArr x0 x1 :=
  funext fun y => (val_main_v1_apply x0 x1 y).trans <|
    Finset.sum_congr rfl fun k _ => congrArg₂ (· * ·) (congrArg x0 (eq_ix2 _)) (congrArg x1 (eq_ix2 _))

end Cert.Reference18Ideal.Hand

/-! ## Out of the cross-attention, the residual added -/

namespace Cert.Kernel20Ideal.Hand

open Idealize.ShloMosaic hiding ix1 ix2 ix3 ix4 eq_ix1 eq_ix2 eq_ix3 eq_ix4
open Cert.Kernel20Ideal Cert.Kernel20Ideal.Gen Cert.Proj
open Idealize.ShloMosaic.TcCoe Idealize.ShloMosaic.ValueIdx

variable (m : (ℓ : Loc nD τ sig) → Buf (Elt Ideal) ℓ) (c : Dev nD)

/-- The argument arrays. -/
abbrev A0 : (⟨2, ![4096, 512]⟩ : Shape).Idx → EReal := m ((c.tc : Thread nD τ).loc main_arg0)
abbrev A1 : (⟨4, ![1, 4, 512, 512]⟩ : Shape).Idx → EReal := m ((c.tc : Thread nD τ).loc main_arg1)
abbrev A2 : (⟨2, ![4096, 2048]⟩ : Shape).Idx → EReal := m ((c.tc : Thread nD τ).loc main_arg2)

/-- The arguments' blocks at a point, by the result's. -/
theorem idx : ∀ t : Fin cfg0.N, win0_0.index t = ![win0_3.index t 0, 0] ∧ win0_1.index t = ![0, win0_3.index t 1, 0, 0]
    ∧ win0_2.index t = win0_3.index t := (by decide +kernel : ∀ t : Fin grid0.N, _)

theorem final : (dats m 0 c).arrAt 3 cfg0.N = plus (A2 m c) (nnArr (A0 m c) (colsArr (A1 m c))) := by
  refine (dats m 0 c).arrAt_eq_of_covers 3 _ (by decide +kernel) fun t hf y => ?_
  obtain ⟨i0, i1, i2⟩ := idx t
  blk_simp
  rw [after0_3, out0_3, View.canon_cons_unit_lit _ _ _ (by decide), View.ld_unit_lit _ _ (by decide), View.ld_unit_lit _ _ (by decide),
    View.ld_unit_lit _ _ (by decide)]
  refine congrArg₂ (· + ·) (nn_tile (A0 m c) (colsArr (A1 m c)) (iblk m c 0 t) _ (fun k => ?_)
    (fun k => (Cert.Ffn.dropUnits_at (iblk m c 1 t) _ k (y 1)).trans ?_)) ?_ <;> blk_simp [iblk]
  · exact at2 (A0 m c) (by blk_simp [i0] <;> rfl) (by blk_simp [i0] <;> rfl)
  · exact cols_at (A1 m c) (by blk_simp [i1] <;> rfl) (by blk_simp [i1] <;> rfl)
  · exact same2 (A2 m c) (by blk_simp [i2] <;> rfl) (by blk_simp [i2] <;> rfl)

end Cert.Kernel20Ideal.Hand

namespace Cert.Reference20Ideal.Hand

open Idealize.ShloMosaic hiding ix1 ix2 ix3 ix4 eq_ix1 eq_ix2 eq_ix3 eq_ix4
open Cert.Reference20Ideal Cert.Reference20Ideal.Read Cert.Proj Idealize.ShloMosaic.ValueIdx

variable (x0 : (⟨S4096x512, .bf16⟩ : BufTy).Contents (Elt Ideal)) (x1 : (⟨S1x4x512x512, .bf16⟩ : BufTy).Contents (Elt Ideal))
  (x2 : (⟨S4096x2048, .f32⟩ : BufTy).Contents (Elt Ideal))

theorem cols_eq : val_main_v4 (F := Ideal) x1 = colsArr x1 := Cert.Reference14Ideal.Hand.cols_eq x1

theorem value_eq : val_main_v6 (F := Ideal) x0 x1 x2 = plus x2 (nnArr x0 (colsArr x1)) :=
  funext fun y => (add_comm (x2 y) _).trans <| congrArg (· + x2 y) <| (val_main_v5_apply x0 x1 y).trans <|
    Finset.sum_congr rfl fun k _ => congrArg₂ (· * ·) (congrArg x0 (eq_ix2 _)) ((congrFun (cols_eq x1) _).trans (congrArg (colsArr x1) (eq_ix2 _)))

end Cert.Reference20Ideal.Hand

end
-- ==== Proof.Proj.Sums.lean ====
module

public import proofs.«01_k».proof.Proof.Proj.Products
public import proofs.«01_k».proof.Proof.Gen.Kernel9Ideal.Value
public import proofs.«01_k».proof.Proof.Gen.Reference9Ideal.Read
public import proofs.«01_k».proof.Proof.Gen.Kernel10Ideal.Value
public import proofs.«01_k».proof.Proof.Gen.Reference10Ideal.Read
public import proofs.«01_k».proof.Proof.Gen.Kernel13Ideal.Value
public import proofs.«01_k».proof.Proof.Gen.Reference13Ideal.Read
public import proofs.«01_k».proof.Proof.Gen.Kernel15Ideal.Value
public import proofs.«01_k».proof.Proof.Gen.Reference15Ideal.Read
public import proofs.«01_k».proof.Proof.Gen.Kernel16Ideal.Value
public import proofs.«01_k».proof.Proof.Gen.Reference16Ideal.Read
public import proofs.«01_k».proof.Proof.Gen.Kernel19Ideal.Value
public import proofs.«01_k».proof.Proof.Gen.Reference19Ideal.Read
public import Idealize.ShloMosaic.Lib.Pipeline.ValueKit.Geometry

/- The projections whose sums are added up over several grid points. -/

@[expose] public section

set_option maxRecDepth 16384

noncomputable section

/-! ## The gradient of the mixers' input -/

namespace Cert.Kernel9Ideal.Hand

open Idealize.ShloMosaic hiding ix1 ix2 ix3 ix4 eq_ix1 eq_ix2 eq_ix3 eq_ix4
open Cert.Kernel9Ideal Cert.Kernel9Ideal.Gen Cert.Proj
open Idealize.ShloMosaic.TcCoe Idealize.ShloMosaic.ValueIdx

variable (m : (ℓ : Loc nD τ sig) → Buf (Elt Ideal) ℓ) (c : Dev nD)

/-- The argument arrays. -/
abbrev A0 : (⟨2, ![4096, 3840]⟩ : Shape).Idx → EReal := m ((c.tc : Thread nD τ).loc main_arg0)
abbrev A1 : (⟨2, ![2048, 3840]⟩ : Shape).Idx → EReal := m ((c.tc : Thread nD τ).loc main_arg1)

/-- The blocks of the arguments at a point and the one before it. -/
theorem idx : ∀ t : Fin cfg0.N, t.val % 2 = 1 →
    (win0_0.index (before t) = ![win0_2.index t 0, 0] ∧ win0_1.index (before t) = ![win0_2.index t 1, 0])
      ∧ win0_0.index t = ![win0_2.index t 0, 1] ∧ win0_1.index t = ![win0_2.index t 1, 1] := (by decide +kernel : ∀ t : Fin grid0.N, _)

/-- What the point before a flushing one leaves in the scratch. -/
theorem begun (t : Fin cfg0.N) (ht : t.val % 2 = 1) (h : t.val - 1 < cfg0.N) :
    (outsAt0 m c (t.val - 1) h).2 = k0_pay1 (iblk m c 0 (before t)) (iblk m c 1 (before t)) := by
  have e := outsAt0_A m c (before t) (by show (t.val - 1) % 2 = 0; omega) (by show ¬ (t.val - 1) % 2 = 1; omega)
  refine (congrArg Prod.snd e).trans ?_
  frame_out
  rw [k0_pay2, shapeCast_self]

theorem final : (dats m 0 c).arrAt 2 cfg0.N = ntArr (A0 m c) (A1 m c) := by
  refine (dats m 0 c).arrAt_eq_of_covers 2 _ (by decide +kernel) fun t hf y => ?_
  have ht : t.val % 2 = 1 := (flush0_2 t).mp hf
  obtain ⟨⟨p0, p1⟩, q0, q1⟩ := idx t ht
  blk_simp
  rw [after0_2, outsAt0_B m c t (by omega) ht]
  frame_out
  rw [Memref.IsWhole.read_unread (Memref.isWhole_whole cc0_scratch0), begun m c t ht]
  refine nt_two rfl (A0 m c) (A1 m c) (iblk m c 0 (before t)) (iblk m c 0 t) (iblk m c 1 (before t)) (iblk m c 1 t)
    (fun l => ?_) (fun l => ?_) (fun l => ?_) (fun l => ?_) <;> blk_simp [iblk]
  · exact at2 (A0 m c) (by blk_simp [p0] <;> rfl) (by blk_simp [p0] <;> rfl)
  · exact at2 (A1 m c) (by blk_simp [p1] <;> rfl) (by blk_simp [p1] <;> rfl)
  · exact at2 (A0 m c) (by blk_simp [q0] <;> rfl) (by blk_simp [q0] <;> rfl)
  · exact at2 (A1 m c) (by blk_simp [q1] <;> rfl) (by blk_simp [q1] <;> rfl)

end Cert.Kernel9Ideal.Hand

namespace Cert.Reference9Ideal.Hand

open Idealize.ShloMosaic hiding ix1 ix2 ix3 ix4 eq_ix1 eq_ix2 eq_ix3 eq_ix4
open Cert.Reference9Ideal Cert.Reference9Ideal.Read Cert.Proj Idealize.ShloMosaic.ValueIdx

variable (x0 : (⟨S4096x3840, .bf16⟩ : BufTy).Contents (Elt Ideal)) (x1 : (⟨S2048x3840, .bf16⟩ : BufTy).Contents (Elt Ideal))

theorem value_eq : val_main_v2 (F := Ideal) x0 x1 = ntArr x0 x1 :=
  funext fun y => (val_main_v2_apply x0 x1 y).trans <|
    Finset.sum_congr rfl fun k _ => congrArg₂ (· * ·) (congrArg x0 (eq_ix2 _)) (congrArg x1 (eq_ix2 _))

end Cert.Reference9Ideal.Hand

/-! ## The gradient of the weight into the mixers -/

namespace Cert.Kernel10Ideal.Hand

open Idealize.ShloMosaic hiding ix1 ix2 ix3 ix4 eq_ix1 eq_ix2 eq_ix3 eq_ix4
open Cert.Kernel10Ideal Cert.Kernel10Ideal.Gen Cert.Proj
open Idealize.ShloMosaic.TcCoe Idealize.ShloMosaic.ValueIdx

variable (m : (ℓ : Loc nD τ sig) → Buf (Elt Ideal) ℓ) (c : Dev nD)

/-- The argument arrays. -/
abbrev A0 : (⟨2, ![4096, 2048]⟩ : Shape).Idx → EReal := m ((c.tc : Thread nD τ).loc main_arg0)
abbrev A1 : (⟨2, ![4096, 3840]⟩ : Shape).Idx → EReal := m ((c.tc : Thread nD τ).loc main_arg1)

/-- The blocks of the arguments at a point and the one before it. -/
theorem idx : ∀ t : Fin cfg0.N, t.val % 2 = 1 →
    (win0_0.index (before t) = ![0, win0_2.index t 0] ∧ win0_1.index (before t) = ![0, win0_2.index t 1])
      ∧ win0_0.index t = ![1, win0_2.index t 0] ∧ win0_1.index t = ![1, win0_2.index t 1] := (by decide +kernel : ∀ t : Fin grid0.N, _)

/-- What the point before a flushing one leaves in the scratch. -/
theorem begun (t : Fin cfg0.N) (ht : t.val % 2 = 1) (h : t.val - 1 < cfg0.N) :
    (outsAt0 m c (t.val - 1) h).2 = k0_pay1 (iblk m c 0 (before t)) (iblk m c 1 (before t)) := by
  have e := outsAt0_A m c (before t) (by show (t.val - 1) % 2 = 0; omega) (by show ¬ (t.val - 1) % 2 = 1; omega)
  refine (congrArg Prod.snd e).trans ?_
  frame_out
  rw [k0_pay2, shapeCast_self]

theorem final : (dats m 0 c).arrAt 2 cfg0.N = tnArr (A0 m c) (A1 m c) := by
  refine (dats m 0 c).arrAt_eq_of_covers 2 _ (by decide +kernel) fun t hf y => ?_
  have ht : t.val % 2 = 1 := (flush0_2 t).mp hf
  obtain ⟨⟨p0, p1⟩, q0, q1⟩ := idx t ht
  blk_simp
  rw [after0_2, outsAt0_B m c t (by omega) ht]
  frame_out
  rw [Memref.IsWhole.read_unread (Memref.isWhole_whole cc0_scratch0), begun m c t ht]
  refine tn_two rfl (A0 m c) (A1 m c) (iblk m c 0 (before t)) (iblk m c 0 t) (iblk m c 1 (before t)) (iblk m c 1 t)
    (fun l => ?_) (fun l => ?_) (fun l => ?_) (fun l => ?_) <;> blk_simp [iblk]
  · exact at2 (A0 m c) (by blk_simp [p0] <;> rfl) (by blk_simp [p0] <;> rfl)
  · exact at2 (A1 m c) (by blk_simp [p1] <;> rfl) (by blk_simp [p1] <;> rfl)
  · exact at2 (A0 m c) (by blk_simp [q0] <;> rfl) (by blk_simp [q0] <;> rfl)
  · exact at2 (A1 m c) (by blk_simp [q1] <;> rfl) (by blk_simp [q1] <;> rfl)

end Cert.Kernel10Ideal.Hand

namespace Cert.Reference10Ideal.Hand

open Idealize.ShloMosaic hiding ix1 ix2 ix3 ix4 eq_ix1 eq_ix2 eq_ix3 eq_ix4
open Cert.Reference10Ideal Cert.Reference10Ideal.Read Cert.Proj Idealize.ShloMosaic.ValueIdx

variable (x0 : (⟨S4096x2048, .bf16⟩ : BufTy).Contents (Elt Ideal)) (x1 : (⟨S4096x3840, .bf16⟩ : BufTy).Contents (Elt Ideal))

theorem value_eq : val_main_v4 (F := Ideal) x0 x1 = tnArr x0 x1 := by
  funext y
  show val_main_v3 (F := Ideal) x0 x1 y = _
  rw [val_main_v3_apply, val_main_v2_apply]
  exact Finset.sum_congr rfl fun k _ => (mul_comm _ _).trans (congrArg₂ (· * ·) (congrArg x0 (eq_ix2 _)) (congrArg x1 (eq_ix2 _)))

end Cert.Reference10Ideal.Hand

/-! ## The gradient of the weight out of the mixers -/

namespace Cert.Kernel13Ideal.Hand

open Idealize.ShloMosaic hiding ix1 ix2 ix3 ix4 eq_ix1 eq_ix2 eq_ix3 eq_ix4
open Cert.Kernel13Ideal Cert.Kernel13Ideal.Gen Cert.Ffn Cert.Proj Cert.Tile
open Idealize.ShloMosaic.TcCoe Idealize.ShloMosaic.ValueIdx
open scoped BigOperators

variable (m : (ℓ : Loc nD τ sig) → Buf (Elt Ideal) ℓ) (c : Dev nD)

/-- The argument arrays. -/
abbrev A0 : (⟨2, ![4096, 2048]⟩ : Shape).Idx → EReal := m ((c.tc : Thread nD τ).loc main_arg0)
abbrev A1 : (⟨2, ![4096, 2048]⟩ : Shape).Idx → EReal := m ((c.tc : Thread nD τ).loc main_arg1)

/-- The blocks of the arguments at a point and the one before it. -/
theorem idx : ∀ t : Fin cfg0.N, t.val % 2 = 1 →
    (win0_0.index (before t) = ![0, win0_2.index t 0] ∧ win0_1.index (before t) = ![0, win0_2.index t 1])
      ∧ win0_0.index t = ![1, win0_2.index t 0] ∧ win0_1.index t = ![1, win0_2.index t 1] := (by decide +kernel : ∀ t : Fin grid0.N, _)

/-- What the point before a flushing one leaves in the scratch. -/
theorem begun (t : Fin cfg0.N) (ht : t.val % 2 = 1) (h : t.val - 1 < cfg0.N) :
    (outsAt0 m c (t.val - 1) h).2 = k0_pay1 (iblk m c 0 (before t)) (iblk m c 1 (before t)) := by
  have e := outsAt0_A m c (before t) (by show (t.val - 1) % 2 = 0; omega) (by show ¬ (t.val - 1) % 2 = 1; omega)
  refine (congrArg Prod.snd e).trans ?_
  frame_out
  rw [k0_pay2, shapeCast_self]

theorem final : (dats m 0 c).arrAt 2 cfg0.N = tnArr (A0 m c) (A1 m c) := by
  refine (dats m 0 c).arrAt_eq_of_covers 2 _ (by decide +kernel) fun t hf y => ?_
  have ht : t.val % 2 = 1 := (flush0_2 t).mp hf
  obtain ⟨⟨p0, p1⟩, q0, q1⟩ := idx t ht
  blk_simp
  rw [after0_2, outsAt0_B m c t (by omega) ht]
  frame_out
  rw [Memref.IsWhole.read_unread (Memref.isWhole_whole cc0_scratch0), begun m c t ht]
  refine tn_two rfl (A0 m c) (A1 m c) (iblk m c 0 (before t)) (iblk m c 0 t) (iblk m c 1 (before t)) (iblk m c 1 t) (fun l => ?_) (fun l => ?_) (fun l => ?_) (fun l => ?_) <;> blk_simp [iblk]
  · exact at2 (A0 m c) (by blk_simp [p0] <;> rfl) (by blk_simp [p0] <;> rfl)
  · exact at2 (A1 m c) (by blk_simp [p1] <;> rfl) (by blk_simp [p1] <;> rfl)
  · exact at2 (A0 m c) (by blk_simp [q0] <;> rfl) (by blk_simp [q0] <;> rfl)
  · exact at2 (A1 m c) (by blk_simp [q1] <;> rfl) (by blk_simp [q1] <;> rfl)

end Cert.Kernel13Ideal.Hand

namespace Cert.Reference13Ideal.Hand

open Idealize.ShloMosaic hiding ix1 ix2 ix3 ix4 eq_ix1 eq_ix2 eq_ix3 eq_ix4
open Cert.Reference13Ideal Cert.Reference13Ideal.Read Cert.Proj Idealize.ShloMosaic.ValueIdx

variable (x0 : (⟨S4096x2048, .bf16⟩ : BufTy).Contents (Elt Ideal)) (x1 : (⟨S4096x2048, .bf16⟩ : BufTy).Contents (Elt Ideal))

theorem value_eq : val_main_v4 (F := Ideal) x0 x1 = tnArr x0 x1 := by
  funext y
  show val_main_v3 (F := Ideal) x0 x1 y = _
  rw [val_main_v3_apply, val_main_v2_apply]
  exact Finset.sum_congr rfl fun k _ => (mul_comm _ _).trans (congrArg₂ (· * ·) (congrArg x0 (eq_ix2 _)) (congrArg x1 (eq_ix2 _)))

end Cert.Reference13Ideal.Hand

/-! ## The gradient of the latents -/

namespace Cert.Kernel15Ideal.Hand

open Idealize.ShloMosaic hiding ix1 ix2 ix3 ix4 eq_ix1 eq_ix2 eq_ix3 eq_ix4
open Cert.Kernel15Ideal Cert.Kernel15Ideal.Gen Cert.Proj
open Idealize.ShloMosaic.TcCoe Idealize.ShloMosaic.ValueIdx
open scoped BigOperators

variable (m : (ℓ : Loc nD τ sig) → Buf (Elt Ideal) ℓ) (c : Dev nD)

/-- The argument arrays. -/
abbrev A0 : (⟨2, ![4096, 2048]⟩ : Shape).Idx → EReal := m ((c.tc : Thread nD τ).loc main_arg0)
abbrev A1 : (⟨4, ![1, 4, 512, 512]⟩ : Shape).Idx → EReal := m ((c.tc : Thread nD τ).loc main_arg1)

/-- The points that add up the result of a flushing one. -/
def part (t : Fin cfg0.N) (s : Fin 4) : Fin cfg0.N := ⟨t.val - 3 + s.val, by have : cfg0.N = 8 := N_0; omega⟩

/-- The blocks of the arguments at those points. -/
theorem idx : ∀ t : Fin cfg0.N, t.val % 4 = 3 → ∀ s : Fin 4, win0_0.index (part t s) = ![win0_2.index t 0, s.val]
    ∧ win0_1.index (part t s) = ![0, s.val, win0_2.index t 1, 0] := (by decide +kernel : ∀ t : Fin grid0.N, _)

theorem after_last (t : Fin cfg0.N) (ht : t.val % 4 = 3) (y : (⟨2, ![2048, 512]⟩ : Shape).Idx) :
    (dats m 0 c).after 2 t y = ∑ s : Fin 4, k0_pay1 (F := Ideal) (iblk m c 0 (part t s)) (iblk m c 1 (part t s)) y := by
  refine (Cert.Ffn.four_points (T := fun t => k0_pay1 (F := Ideal) (iblk m c 0 t) (iblk m c 1 t) y) (f := fun n h => (outsAt0 m c n h).2 y)
    (o := fun t => (dats m 0 c).after 2 t y) (b := 0) (fun t h => ?_) (fun t h => ?_) t ht ?_).trans (add_zero _)
  · show (outsAt0 m c t.val t.isLt).2 y = _
    rw [outsAt0_A m c t h (by omega) (by omega)]
    frame_out
    rw [k0_pay2, shapeCast_self]
  · show (outsAt0 m c t.val t.isLt).2 y = _
    rw [outsAt0_B m c t (by omega) h (by omega)]
    frame_out
    rw [k0_pay3, shapeCast_self, Memref.IsWhole.read_unread (Memref.isWhole_whole cc0_scratch0)]
    rfl
  · show (dats m 0 c).after 2 t y = _
    rw [after0_2, outsAt0_C m c t (by omega) (by omega) ht, add_zero]
    frame_out
    rw [Memref.IsWhole.read_unread (Memref.isWhole_whole cc0_scratch0)]
    rfl

theorem final : (dats m 0 c).arrAt 2 cfg0.N = ntArr (A0 m c) (colsArr (A1 m c)) := by
  refine (dats m 0 c).arrAt_eq_of_covers 2 _ (by decide +kernel) fun t hf y => ?_
  have ht : t.val % 4 = 3 := (flush0_2 t).mp hf
  blk_simp
  rw [after_last m c t ht]
  refine nt_parts 4 rfl (A0 m c) (colsArr (A1 m c)) (fun s => iblk m c 0 (part t s)) _ (fun s l k h => ?_)
    (fun s l k h => (Cert.Ffn.dropUnits_at (iblk m c 1 (part t s)) _ (y 1) l).trans ?_) <;> obtain ⟨i0, i1⟩ := idx t ht s <;> blk_simp [iblk]
  · exact at2 (A0 m c) (by blk_simp [i0] <;> rfl) (by blk_simp [i0] <;> exact h.symm)
  · exact cols_at (A1 m c) (by blk_simp [i1] <;> exact h.symm) (by blk_simp [i1] <;> rfl)

end Cert.Kernel15Ideal.Hand

namespace Cert.Reference15Ideal.Hand

open Idealize.ShloMosaic hiding ix1 ix2 ix3 ix4 eq_ix1 eq_ix2 eq_ix3 eq_ix4
open Cert.Reference15Ideal Cert.Reference15Ideal.Read Cert.Proj Idealize.ShloMosaic.ValueIdx

variable (x0 : (⟨S4096x2048, .bf16⟩ : BufTy).Contents (Elt Ideal)) (x1 : (⟨S1x4x512x512, .bf16⟩ : BufTy).Contents (Elt Ideal))

theorem cols_eq : val_main_v3 (F := Ideal) x1 = colsArr x1 := Cert.Reference14Ideal.Hand.cols_eq x1

theorem value_eq : val_main_v5 (F := Ideal) x0 x1 = ntArr x0 (colsArr x1) :=
  funext fun y => (val_main_v5_apply x0 x1 y).trans <|
    Finset.sum_congr rfl fun k _ => congrArg₂ (· * ·) (congrArg x0 (eq_ix2 _)) ((congrFun (cols_eq x1) _).trans (congrArg (colsArr x1) (eq_ix2 _)))

end Cert.Reference15Ideal.Hand

/-! ## The gradient of the weight from the latents to the heads -/

namespace Cert.Kernel16Ideal.Hand

open Idealize.ShloMosaic hiding ix1 ix2 ix3 ix4 eq_ix1 eq_ix2 eq_ix3 eq_ix4
open Cert.Kernel16Ideal Cert.Kernel16Ideal.Gen Cert.Proj Cert.Tile
open Idealize.ShloMosaic.TcCoe Idealize.ShloMosaic.ValueIdx

variable (m : (ℓ : Loc nD τ sig) → Buf (Elt Ideal) ℓ) (c : Dev nD)

/-- The argument arrays. -/
abbrev A0 : (⟨2, ![4096, 512]⟩ : Shape).Idx → EReal := m ((c.tc : Thread nD τ).loc main_arg0)
abbrev A1 : (⟨2, ![4096, 2048]⟩ : Shape).Idx → EReal := m ((c.tc : Thread nD τ).loc main_arg1)

/-- The blocks of the arguments at a point and the one before it. -/
theorem idx : ∀ t : Fin cfg0.N, t.val % 2 = 1 →
    (win0_0.index (before t) = ![0, win0_2.index t 1] ∧ win0_1.index (before t) = ![0, win0_2.index t 0])
      ∧ (win0_0.index t = ![1, win0_2.index t 1] ∧ win0_1.index t = ![1, win0_2.index t 0]) ∧ win0_2.index t 2 = 0 :=
  (by decide +kernel : ∀ t : Fin grid0.N, _)

/-- What the point before a flushing one leaves in the scratch. -/
theorem begun (t : Fin cfg0.N) (ht : t.val % 2 = 1) (h : t.val - 1 < cfg0.N) :
    (outsAt0 m c (t.val - 1) h).2 = k0_pay1 (iblk m c 0 (before t)) (iblk m c 1 (before t)) := by
  have e := outsAt0_A m c (before t) (by show (t.val - 1) % 2 = 0; omega) (by show ¬ (t.val - 1) % 2 = 1; omega)
  refine (congrArg Prod.snd e).trans ?_
  frame_out
  rw [k0_pay2, shapeCast_self]

theorem final : (dats m 0 c).arrAt 2 cfg0.N = cutArr (tnArr (A0 m c) (A1 m c)) := by
  refine (dats m 0 c).arrAt_eq_of_covers 2 _ (by decide +kernel) fun t hf y => ?_
  have ht : t.val % 2 = 1 := (flush0_2 t).mp hf
  obtain ⟨⟨p0, p1⟩, ⟨q0, q1⟩, i2⟩ := idx t ht
  blk_simp
  obtain ⟨z, r, j, rfl⟩ : ∃ (z : Fin 1) (r j : Fin 512), y = ix3 z r j := ⟨y 0, y 1, y 2, eq_ix3 y⟩
  rw [after0_2, outsAt0_B m c t (by omega) ht]
  frame_out
  rw [Memref.IsWhole.read_unread (Memref.isWhole_whole cc0_scratch0), begun m c t ht, k0_pay3, addUnit_at]
  refine tn_two rfl (A0 m c) (A1 m c) (iblk m c 0 (before t)) (iblk m c 0 t) (iblk m c 1 (before t)) (iblk m c 1 t) (y := ix2 r j)
    (fun l => ?_) (fun l => ?_) (fun l => ?_) (fun l => ?_) <;> blk_simp [iblk]
  · exact at2 (A0 m c) (by blk_simp [p0] <;> rfl) (by show _ = ((win0_2.blk t).view.emb (ix3 z r j) 1).val; blk_simp [p0] <;> rfl)
  · exact at2 (A1 m c) (by blk_simp [p1] <;> rfl) (by blk_simp [p1, i2] <;> rfl)
  · exact at2 (A0 m c) (by blk_simp [q0] <;> rfl) (by show _ = ((win0_2.blk t).view.emb (ix3 z r j) 1).val; blk_simp [q0] <;> rfl)
  · exact at2 (A1 m c) (by blk_simp [q1] <;> rfl) (by blk_simp [q1, i2] <;> rfl)

end Cert.Kernel16Ideal.Hand

namespace Cert.Reference16Ideal.Hand

open Idealize.ShloMosaic hiding ix1 ix2 ix3 ix4 eq_ix1 eq_ix2 eq_ix3 eq_ix4
open Cert.Reference16Ideal Cert.Reference16Ideal.Read Cert.Proj Idealize.ShloMosaic.ValueIdx

variable (x0 : (⟨S4096x512, .bf16⟩ : BufTy).Contents (Elt Ideal)) (x1 : (⟨S4096x2048, .bf16⟩ : BufTy).Contents (Elt Ideal))

theorem value_eq : val_main_v6 (F := Ideal) x0 x1 = cutArr (tnArr x0 x1) := by
  funext y
  obtain ⟨p, k, j, rfl⟩ : ∃ (p : Fin 4) (k j : Fin 512), y = ix3 p k j := ⟨y 0, y 1, y 2, eq_ix3 y⟩
  show val_main_v5 (F := Ideal) x0 x1 (ix3 p k j) = _
  rw [val_main_v5_apply, val_main_v4_apply, val_main_v3_apply, val_main_v2_apply]
  refine Finset.sum_congr rfl fun s _ => (mul_comm _ _).trans (congrArg₂ (· * ·) (at2 x0 rfl ?_) (at2 x1 rfl ?_))
  · show ((k.val * 4 + p.val) * 512 + j.val) / 2048 = k.val; omega
  · show ((k.val * 4 + p.val) * 512 + j.val) % 2048 = p.val * 512 + j.val; omega

end Cert.Reference16Ideal.Hand

/-! ## The gradient of the weight of the cross-attention's queries -/

namespace Cert.Kernel19Ideal.Hand

open Idealize.ShloMosaic hiding ix1 ix2 ix3 ix4 eq_ix1 eq_ix2 eq_ix3 eq_ix4
open Cert.Kernel19Ideal Cert.Kernel19Ideal.Gen Cert.Proj
open Idealize.ShloMosaic.TcCoe Idealize.ShloMosaic.ValueIdx

variable (m : (ℓ : Loc nD τ sig) → Buf (Elt Ideal) ℓ) (c : Dev nD)

/-- The argument arrays. -/
abbrev A0 : (⟨2, ![4096, 2048]⟩ : Shape).Idx → EReal := m ((c.tc : Thread nD τ).loc main_arg0)
abbrev A1 : (⟨2, ![4096, 512]⟩ : Shape).Idx → EReal := m ((c.tc : Thread nD τ).loc main_arg1)

/-- The blocks of the arguments at a point and the one before it. -/
theorem idx : ∀ t : Fin cfg0.N, t.val % 2 = 1 →
    (win0_0.index (before t) = ![0, win0_2.index t 0] ∧ win0_1.index (before t) = ![0, win0_2.index t 1])
      ∧ win0_0.index t = ![1, win0_2.index t 0] ∧ win0_1.index t = ![1, win0_2.index t 1] := (by decide +kernel : ∀ t : Fin grid0.N, _)

/-- What the point before a flushing one leaves in the scratch. -/
theorem begun (t : Fin cfg0.N) (ht : t.val % 2 = 1) (h : t.val - 1 < cfg0.N) :
    (outsAt0 m c (t.val - 1) h).2 = k0_pay1 (iblk m c 0 (before t)) (iblk m c 1 (before t)) := by
  have e := outsAt0_A m c (before t) (by show (t.val - 1) % 2 = 0; omega) (by show ¬ (t.val - 1) % 2 = 1; omega)
  refine (congrArg Prod.snd e).trans ?_
  frame_out
  rw [k0_pay2, shapeCast_self]

theorem final : (dats m 0 c).arrAt 2 cfg0.N = tnArr (A0 m c) (A1 m c) := by
  refine (dats m 0 c).arrAt_eq_of_covers 2 _ (by decide +kernel) fun t hf y => ?_
  have ht : t.val % 2 = 1 := (flush0_2 t).mp hf
  obtain ⟨⟨p0, p1⟩, q0, q1⟩ := idx t ht
  blk_simp
  rw [after0_2, outsAt0_B m c t (by omega) ht]
  frame_out
  rw [Memref.IsWhole.read_unread (Memref.isWhole_whole cc0_scratch0), begun m c t ht]
  refine tn_two (φ₂ := .bf16) rfl (A0 m c) (A1 m c) (iblk m c 0 (before t)) (iblk m c 0 t) (iblk m c 1 (before t)) (iblk m c 1 t)
    (fun l => ?_) (fun l => ?_) (fun l => ?_) (fun l => ?_) <;> blk_simp [iblk]
  · exact at2 (A0 m c) (by blk_simp [p0] <;> rfl) (by blk_simp [p0] <;> rfl)
  · exact at2 (A1 m c) (by blk_simp [p1] <;> rfl) (by blk_simp [p1] <;> rfl)
  · exact at2 (A0 m c) (by blk_simp [q0] <;> rfl) (by blk_simp [q0] <;> rfl)
  · exact at2 (A1 m c) (by blk_simp [q1] <;> rfl) (by blk_simp [q1] <;> rfl)

end Cert.Kernel19Ideal.Hand

namespace Cert.Reference19Ideal.Hand

open Idealize.ShloMosaic hiding ix1 ix2 ix3 ix4 eq_ix1 eq_ix2 eq_ix3 eq_ix4
open Cert.Reference19Ideal Cert.Reference19Ideal.Read Cert.Proj Idealize.ShloMosaic.ValueIdx

variable (x0 : (⟨S4096x2048, .bf16⟩ : BufTy).Contents (Elt Ideal)) (x1 : (⟨S4096x512, .f32⟩ : BufTy).Contents (Elt Ideal))

theorem value_eq : val_main_v3 (F := Ideal) x0 x1 = tnArr x0 x1 := by
  funext y
  show val_main_v2 (F := Ideal) x0 x1 y = _
  rw [val_main_v2_apply, val_main_v1_apply]
  exact Finset.sum_congr rfl fun k _ => (mul_comm _ _).trans (congrArg₂ (· * ·) (congrArg x0 (eq_ix2 _)) (congrArg x1 (eq_ix2 _)))

end Cert.Reference19Ideal.Hand

end
-- ==== Proof.Proj.Claims.lean ====
module

public import proofs.«01_k».proof.Defs
public import proofs.«01_k».proof.Proof.Results
public import proofs.«01_k».proof.Proof.Proj.Sums
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import Idealize.ShloMosaic.Adequacy
public import Idealize.ShloMosaic.Init

/- The projections' calls against their references. -/

@[expose] public section

noncomputable section

namespace Cert.Proj

open Idealize.ShloMosaic Cert

/-- Into the mixers. -/
theorem in_proj : @algebraic_Kernel8Ideal_Reference8Ideal Kernel8Ideal.Gen.facts Reference8Ideal.Gen.facts := fun m g m' g' _ same =>
  ⟨fun c => nnArr (Kernel8Ideal.Hand.A0 m c) (Kernel8Ideal.Hand.A1 m c),
    result_is (Kernel8Ideal.Value.run_blocks (F := Ideal) m g) (Kernel8Ideal.Hand.final m),
    result_is (Reference8Ideal.Value.run (F := Ideal) m' g') fun c => by
      rw [Reference8Ideal.Read.val_main_v2_eq, (same c).1, (same c).2]
      exact Reference8Ideal.Hand.value_eq _ _⟩

theorem in_dx : @algebraic_Kernel9Ideal_Reference9Ideal Kernel9Ideal.Gen.facts Reference9Ideal.Gen.facts := fun m g m' g' _ same =>
  ⟨fun c => ntArr (Kernel9Ideal.Hand.A0 m c) (Kernel9Ideal.Hand.A1 m c),
    result_is (Kernel9Ideal.Value.run_blocks (F := Ideal) m g) (Kernel9Ideal.Hand.final m),
    result_is (Reference9Ideal.Value.run (F := Ideal) m' g') fun c => by
      rw [Reference9Ideal.Read.val_main_v2_eq, (same c).1, (same c).2]
      exact Reference9Ideal.Hand.value_eq _ _⟩

theorem in_dw : @algebraic_Kernel10Ideal_Reference10Ideal Kernel10Ideal.Gen.facts Reference10Ideal.Gen.facts := fun m g m' g' _ same =>
  ⟨fun c => tnArr (Kernel10Ideal.Hand.A0 m c) (Kernel10Ideal.Hand.A1 m c),
    result_is (Kernel10Ideal.Value.run_blocks (F := Ideal) m g) (Kernel10Ideal.Hand.final m),
    result_is (Reference10Ideal.Value.run (F := Ideal) m' g') fun c => by
      rw [Reference10Ideal.Read.val_main_v4_eq, (same c).1, (same c).2]
      exact Reference10Ideal.Hand.value_eq _ _⟩

/-- Out of the mixers. -/
theorem out_proj : @algebraic_Kernel11Ideal_Reference11Ideal Kernel11Ideal.Gen.facts Reference11Ideal.Gen.facts := fun m g m' g' _ same =>
  ⟨fun c => plus (Kernel11Ideal.Hand.A2 m c) (nnArr (Kernel11Ideal.Hand.A0 m c) (Kernel11Ideal.Hand.A1 m c)),
    result_is (Kernel11Ideal.Value.run_blocks (F := Ideal) m g) (Kernel11Ideal.Hand.final m),
    result_is (Reference11Ideal.Value.run (F := Ideal) m' g') fun c => by
      rw [Reference11Ideal.Read.val_main_v3_eq, (same c).1, (same c).2.1, (same c).2.2]
      exact Reference11Ideal.Hand.value_eq _ _ _⟩

theorem out_dx : @algebraic_Kernel12Ideal_Reference12Ideal Kernel12Ideal.Gen.facts Reference12Ideal.Gen.facts := fun m g m' g' _ same =>
  ⟨fun c => ntArr (Kernel12Ideal.Hand.A0 m c) (Kernel12Ideal.Hand.A1 m c),
    result_is (Kernel12Ideal.Value.run_blocks (F := Ideal) m g) (Kernel12Ideal.Hand.final m),
    result_is (Reference12Ideal.Value.run (F := Ideal) m' g') fun c => by
      rw [Reference12Ideal.Read.val_main_v2_eq, (same c).1, (same c).2]
      exact Reference12Ideal.Hand.value_eq _ _⟩

theorem out_dw : @algebraic_Kernel13Ideal_Reference13Ideal Kernel13Ideal.Gen.facts Reference13Ideal.Gen.facts := fun m g m' g' _ same =>
  ⟨fun c => tnArr (Kernel13Ideal.Hand.A0 m c) (Kernel13Ideal.Hand.A1 m c),
    result_is (Kernel13Ideal.Value.run_blocks (F := Ideal) m g) (Kernel13Ideal.Hand.final m),
    result_is (Reference13Ideal.Value.run (F := Ideal) m' g') fun c => by
      rw [Reference13Ideal.Read.val_main_v4_eq, (same c).1, (same c).2]
      exact Reference13Ideal.Hand.value_eq _ _⟩

/-- From the latents to the heads. -/
theorem heads : @algebraic_Kernel14Ideal_Reference14Ideal Kernel14Ideal.Gen.facts Reference14Ideal.Gen.facts := fun m g m' g' _ same =>
  ⟨fun c => nnArr (Kernel14Ideal.Hand.A0 m c) (colsArr (Kernel14Ideal.Hand.A1 m c)),
    result_is (Kernel14Ideal.Value.run_blocks (F := Ideal) m g) (Kernel14Ideal.Hand.final m),
    result_is (Reference14Ideal.Value.run (F := Ideal) m' g') fun c => by
      rw [Reference14Ideal.Read.val_main_v5_eq, (same c).1, (same c).2]
      exact Reference14Ideal.Hand.value_eq _ _⟩

theorem heads_dx : @algebraic_Kernel15Ideal_Reference15Ideal Kernel15Ideal.Gen.facts Reference15Ideal.Gen.facts := fun m g m' g' _ same =>
  ⟨fun c => ntArr (Kernel15Ideal.Hand.A0 m c) (colsArr (Kernel15Ideal.Hand.A1 m c)),
    result_is (Kernel15Ideal.Value.run_blocks (F := Ideal) m g) (Kernel15Ideal.Hand.final m),
    result_is (Reference15Ideal.Value.run (F := Ideal) m' g') fun c => by
      rw [Reference15Ideal.Read.val_main_v5_eq, (same c).1, (same c).2]
      exact Reference15Ideal.Hand.value_eq _ _⟩

theorem heads_dw : @algebraic_Kernel16Ideal_Reference16Ideal Kernel16Ideal.Gen.facts Reference16Ideal.Gen.facts := fun m g m' g' _ same =>
  ⟨fun c => cutArr (tnArr (Kernel16Ideal.Hand.A0 m c) (Kernel16Ideal.Hand.A1 m c)),
    result_is (Kernel16Ideal.Value.run_blocks (F := Ideal) m g) (Kernel16Ideal.Hand.final m),
    result_is (Reference16Ideal.Value.run (F := Ideal) m' g') fun c => by
      rw [Reference16Ideal.Read.val_main_v6_eq, (same c).1, (same c).2]
      exact Reference16Ideal.Hand.value_eq _ _⟩

/-- Into and out of the cross-attention. -/
theorem xq : @algebraic_Kernel17Ideal_Reference17Ideal Kernel17Ideal.Gen.facts Reference17Ideal.Gen.facts := fun m g m' g' _ same =>
  ⟨fun c => nnArr (Kernel17Ideal.Hand.A0 m c) (Kernel17Ideal.Hand.A1 m c),
    result_is (Kernel17Ideal.Value.run_blocks (F := Ideal) m g) (Kernel17Ideal.Hand.final m),
    result_is (Reference17Ideal.Value.run (F := Ideal) m' g') fun c => by
      rw [Reference17Ideal.Read.val_main_v2_eq, (same c).1, (same c).2]
      exact Reference17Ideal.Hand.value_eq _ _⟩

theorem xq_dx : @algebraic_Kernel18Ideal_Reference18Ideal Kernel18Ideal.Gen.facts Reference18Ideal.Gen.facts := fun m g m' g' _ same =>
  ⟨fun c => ntArr (Kernel18Ideal.Hand.A0 m c) (Kernel18Ideal.Hand.A1 m c),
    result_is (Kernel18Ideal.Value.run_blocks (F := Ideal) m g) (Kernel18Ideal.Hand.final m),
    result_is (Reference18Ideal.Value.run (F := Ideal) m' g') fun c => by
      rw [Reference18Ideal.Read.val_main_v1_eq, (same c).1, (same c).2]
      exact Reference18Ideal.Hand.value_eq _ _⟩

theorem xq_dw : @algebraic_Kernel19Ideal_Reference19Ideal Kernel19Ideal.Gen.facts Reference19Ideal.Gen.facts := fun m g m' g' _ same =>
  ⟨fun c => tnArr (Kernel19Ideal.Hand.A0 m c) (Kernel19Ideal.Hand.A1 m c),
    result_is (Kernel19Ideal.Value.run_blocks (F := Ideal) m g) (Kernel19Ideal.Hand.final m),
    result_is (Reference19Ideal.Value.run (F := Ideal) m' g') fun c => by
      rw [Reference19Ideal.Read.val_main_v3_eq, (same c).1, (same c).2]
      exact Reference19Ideal.Hand.value_eq _ _⟩

theorem xo_proj : @algebraic_Kernel20Ideal_Reference20Ideal Kernel20Ideal.Gen.facts Reference20Ideal.Gen.facts := fun m g m' g' _ same =>
  ⟨fun c => plus (Kernel20Ideal.Hand.A2 m c) (nnArr (Kernel20Ideal.Hand.A0 m c) (colsArr (Kernel20Ideal.Hand.A1 m c))),
    result_is (Kernel20Ideal.Value.run_blocks (F := Ideal) m g) (Kernel20Ideal.Hand.final m),
    result_is (Reference20Ideal.Value.run (F := Ideal) m' g') fun c => by
      rw [Reference20Ideal.Read.val_main_v6_eq, (same c).1, (same c).2.1, (same c).2.2]
      exact Reference20Ideal.Hand.value_eq _ _ _⟩

end Cert.Proj

end
-- ==== Proof.Cross.Tile.lean ====
module

public import proofs.«01_k».proof.Proof.Tile

/- A block of softmax attention, without regard to where its scores come from: `M` rows of queries, `K` keys, heads of `D` columns. -/

@[expose] public section

set_option maxRecDepth 16384

noncomputable section

namespace Cert.Cross

open Idealize.ShloMosaic
open Idealize.ShloMosaic.ValueIdx Cert.Row
open Cert.Tile hiding scores col probs dprobs dscores scores_at col_at exps_at probs_at dprobs_at dscores_at
open scoped BigOperators

/-! ## A quotient of a sum -/

/-- The weighted sum divided by the sum of the weights is the sum weighted with the probabilities, infinite values included. -/
theorem mean_eq {n : ℕ} (s v : Fin n → EReal) (h : Good s) : Ideal.div (∑ j, ex s j * v j) (den s) = ∑ j, pr s j * v j := by
  obtain ⟨e, he, hz, hx, hd⟩ := ex_coe s h
  have ha : (0 : ℝ) ≤ 1 / ∑ k, e k := by positivity
  rw [hd, Ideal.div_coe hz.ne', mul_comm, mul_sum_of _ _ ha]
  refine Finset.sum_congr rfl fun j _ => ?_
  rw [pr, hx, hd, Ideal.div_coe hz.ne', ← mul_assoc, mul_comm ((1 / ∑ k, e k : ℝ) : EReal)]

/-- Cutting off a masked end changes no weight. -/
theorem ex_prefix {n m : ℕ} (hmn : m ≤ n) (s : Fin n → EReal) (hs : ∀ j : Fin n, m ≤ j.val → s j = ⊥) (j : Fin m) :
    ex (fun j : Fin m => s (Fin.castLE hmn j)) j = ex s (Fin.castLE hmn j) := by
  rw [ex, ex, top_prefix hmn s hs]

/-- The mean over the keys that are not masked is the mean over all. -/
theorem mean_prefix {n m : ℕ} (hmn : m ≤ n) (s v : Fin n → EReal) (h : Good s) (hs : ∀ j : Fin n, m ≤ j.val → s j = ⊥) :
    Ideal.div (∑ j : Fin m, ex (fun j : Fin m => s (Fin.castLE hmn j)) j * v (Fin.castLE hmn j)) (den fun j : Fin m => s (Fin.castLE hmn j))
      = ∑ j, pr s j * v j := by
  rw [← mean_eq s v h, den_prefix hmn s hs, sum_prefix hmn (fun j => ex s j * v j) fun j hj => by rw [ex_masked s j (hs j hj), zero_mul]]
  exact congrArg (Ideal.div · _) (Finset.sum_congr rfl fun j _ => by rw [ex_prefix hmn s hs])

/-! ## The block's arrays -/

section
variable {M K D : ℕ}

/-- A column repeated along its rows. -/
def col (x : FVec Ideal ⟨1, ![M]⟩ .f32) (hs : (⟨1, ![M]⟩ : Shape).ShapeCasts ⟨2, ![M, 1]⟩)
    (hb : (⟨2, ![M, 1]⟩ : Shape).Broadcasts ⟨2, ![M, K]⟩) : FVec Ideal ⟨2, ![M, K]⟩ .f32 :=
  broadcastTo ⟨2, ![M, K]⟩ (shapeCast ⟨2, ![M, 1]⟩ x hs) hb

/-- The scores, unmasked; `w` holds their factor. -/
def scores (w : BitVec 32) (q : FVec Ideal ⟨2, ![M, D]⟩ .bf16) (k : FVec Ideal ⟨2, ![K, D]⟩ .bf16) : FVec Ideal ⟨2, ![M, K]⟩ .f32 :=
  mulf (matmul (DotDims.transposedRhs M D K) none q k (constant ⟨2, ![M, K]⟩ .f32 0x00000000#32))
    (broadcast ⟨2, ![M, K]⟩ (Scalar.ofBits .f32 w))

/-- The weights: exponentials of the scores less the row's largest. -/
def weights (hr : (⟨2, ![M, K]⟩ : Shape).Reduces [1] ⟨1, ![M]⟩) (hs : (⟨1, ![M]⟩ : Shape).ShapeCasts ⟨2, ![M, 1]⟩)
    (hb : (⟨2, ![M, 1]⟩ : Shape).Broadcasts ⟨2, ![M, K]⟩) (s : FVec Ideal ⟨2, ![M, K]⟩ .f32) : FVec Ideal ⟨2, ![M, K]⟩ .f32 :=
  exp (subf s (col (rowMax hr s) hs hb))

/-- The probabilities. -/
def probs (hr : (⟨2, ![M, K]⟩ : Shape).Reduces [1] ⟨1, ![M]⟩) (hs : (⟨1, ![M]⟩ : Shape).ShapeCasts ⟨2, ![M, 1]⟩)
    (hb : (⟨2, ![M, 1]⟩ : Shape).Broadcasts ⟨2, ![M, K]⟩) (s : FVec Ideal ⟨2, ![M, K]⟩ .f32) : FVec Ideal ⟨2, ![M, K]⟩ .f32 :=
  divf (weights hr hs hb s) (col (rowSum hr (weights hr hs hb s)) hs hb)

/-- The gradient of the probabilities. -/
def dprobs (v : FVec Ideal ⟨2, ![K, D]⟩ .bf16) (o : FVec Ideal ⟨2, ![M, D]⟩ .bf16) : FVec Ideal ⟨2, ![M, K]⟩ .f32 :=
  matmul (DotDims.transposedRhs M D K) none o v (constant ⟨2, ![M, K]⟩ .f32 0x00000000#32)

/-- The gradient of the scores before their factor. -/
def dscores (w : BitVec 32) (hr : (⟨2, ![M, K]⟩ : Shape).Reduces [1] ⟨1, ![M]⟩) (hs : (⟨1, ![M]⟩ : Shape).ShapeCasts ⟨2, ![M, 1]⟩)
    (hb : (⟨2, ![M, 1]⟩ : Shape).Broadcasts ⟨2, ![M, K]⟩) (p g : FVec Ideal ⟨2, ![M, K]⟩ .f32) : FVec Ideal ⟨2, ![M, K]⟩ .bf16 :=
  truncf .bf16 (mulf (mulf p (subf g (col (rowSum hr (mulf p g)) hs hb)))
    (broadcast ⟨2, ![M, K]⟩ (Scalar.ofBits .f32 w))) (by decide)

/-- The weighted sum of the values, divided by the sum of the weights. -/
def mixed (hr : (⟨2, ![M, K]⟩ : Shape).Reduces [1] ⟨1, ![M]⟩) (hs : (⟨1, ![M]⟩ : Shape).ShapeCasts ⟨2, ![M, 1]⟩)
    (hb : (⟨2, ![M, 1]⟩ : Shape).Broadcasts ⟨2, ![M, K]⟩) (hd : (⟨2, ![M, 1]⟩ : Shape).Broadcasts ⟨2, ![M, D]⟩)
    (s : FVec Ideal ⟨2, ![M, K]⟩ .f32) (v : FVec Ideal ⟨2, ![K, D]⟩ .bf16) : FVec Ideal ⟨2, ![M, D]⟩ .bf16 :=
  truncf .bf16 (divf (matmul (DotDims.plain M K D) none (truncf .bf16 (weights hr hs hb s) (by decide)) v (constant ⟨2, ![M, D]⟩ .f32 0x00000000#32))
    (col (rowSum hr (weights hr hs hb s)) hs hd)) (by decide)

theorem nt_at {φ₁ φ₂ : FTy} (a : FVec Ideal ⟨2, ![M, D]⟩ φ₁) (b : FVec Ideal ⟨2, ![K, D]⟩ φ₂) (r : Fin M) (j : Fin K) :
    matmul (DotDims.transposedRhs M D K) none a b (constant ⟨2, ![M, K]⟩ .f32 0x00000000#32) (ix2 r j) = ∑ x : Fin D, a (ix2 r x) * b (ix2 j x) := by
  refine (Ideal.matmul_transposedRhs_apply none a b _ r j).trans ?_
  exact (congrArg (· + _) (zero_at _ _)).trans (zero_add _)

theorem nn_at {φ₁ φ₂ : FTy} (a : FVec Ideal ⟨2, ![M, K]⟩ φ₁) (b : FVec Ideal ⟨2, ![K, D]⟩ φ₂) (r : Fin M) (x : Fin D) :
    matmul (DotDims.plain M K D) none a b (constant ⟨2, ![M, D]⟩ .f32 0x00000000#32) (ix2 r x) = ∑ j : Fin K, a (ix2 r j) * b (ix2 j x) := by
  refine (Ideal.matmul_plain_apply none a b _ r x).trans ?_
  exact (congrArg (· + _) (zero_at _ _)).trans (zero_add _)

theorem tn_at {φ₁ φ₂ : FTy} (a : FVec Ideal ⟨2, ![M, K]⟩ φ₁) (b : FVec Ideal ⟨2, ![M, D]⟩ φ₂) (j : Fin K) (x : Fin D) :
    matmul (firsts M K D) none a b (constant ⟨2, ![K, D]⟩ .f32 0x00000000#32) (ix2 j x) = ∑ r : Fin M, a (ix2 r j) * b (ix2 r x) := by
  refine (matmul_firsts_apply none a b _ j x).trans ?_
  exact (congrArg (· + _) (zero_at _ _)).trans (zero_add _)

theorem scores_at (w : BitVec 32) (q : FVec Ideal ⟨2, ![M, D]⟩ .bf16) (k : FVec Ideal ⟨2, ![K, D]⟩ .bf16) (r : Fin M) (j : Fin K) :
    scores w q k (ix2 r j) = (∑ x : Fin D, q (ix2 r x) * k (ix2 j x)) * Ideal.ofBits .f32 w :=
  congrArg (· * Ideal.ofBits .f32 w) (nt_at q k r j)

variable (hM : M ≠ 1)

include hM in
theorem col_at (x : FVec Ideal ⟨1, ![M]⟩ .f32) (hs hb) (r : Fin M) (j : Fin K) : col x hs hb (ix2 r j) = x (ix1 r) :=
  column_at hM x hs hb r j

include hM in
theorem weights_at (hr hs hb) (s : FVec Ideal ⟨2, ![M, K]⟩ .f32) (r : Fin M) (j : Fin K) :
    weights hr hs hb s (ix2 r j) = ex (fun j => s (ix2 r j)) j := by
  show Ideal.exp (s (ix2 r j) - col _ hs hb (ix2 r j)) = _
  rw [col_at hM, rowMax_at, ex]

include hM in
theorem sum_weights_at (hr hs hb) (s : FVec Ideal ⟨2, ![M, K]⟩ .f32) (r : Fin M) :
    rowSum hr (weights hr hs hb s) (ix1 r) = den fun j => s (ix2 r j) :=
  (rowSum_at hr _ r).trans (Finset.sum_congr rfl fun k _ => weights_at hM hr hs hb s r k)

include hM in
theorem probs_at (hr hs hb) (s : FVec Ideal ⟨2, ![M, K]⟩ .f32) (r : Fin M) (j : Fin K) :
    probs hr hs hb s (ix2 r j) = pr (fun j => s (ix2 r j)) j :=
  congr (congrArg Ideal.div (weights_at hM hr hs hb s r j)) ((col_at hM _ hs hb r j).trans (sum_weights_at hM hr hs hb s r))

include hM in
theorem dscores_at (w : BitVec 32) (hr hs hb) (s p g : FVec Ideal ⟨2, ![M, K]⟩ .f32) (r : Fin M) (j : Fin K)
    (hp : ∀ j, p (ix2 r j) = pr (fun j => s (ix2 r j)) j) :
    dscores w hr hs hb p g (ix2 r j) = ds (Ideal.ofBits .f32 w) (fun j => s (ix2 r j)) (fun j => g (ix2 r j)) j := by
  show p (ix2 r j) * (g (ix2 r j) - col _ hs hb (ix2 r j)) * Ideal.ofBits .f32 w = _
  rw [col_at hM, rowSum_at, hp, ds]
  refine congrArg (fun d => pr _ j * (_ - d) * _) (Finset.sum_congr rfl fun k _ => ?_)
  show p (ix2 r k) * g (ix2 r k) = _
  rw [hp]

include hM in
theorem mixed_at (hr hs hb hd) (s : FVec Ideal ⟨2, ![M, K]⟩ .f32) (v : FVec Ideal ⟨2, ![K, D]⟩ .bf16) (r : Fin M) (x : Fin D) :
    mixed hr hs hb hd s v (ix2 r x) = Ideal.div (∑ j, ex (fun j => s (ix2 r j)) j * v (ix2 j x)) (den fun j => s (ix2 r j)) :=
  congr (congrArg Ideal.div ((nn_at _ _ r x).trans (Finset.sum_congr rfl fun j _ => congrArg (· * v (ix2 j x)) (weights_at hM hr hs hb s r j))))
    ((col_at hM _ hs hd r x).trans (sum_weights_at hM hr hs hb s r))

end

end Cert.Cross
-- ==== Proof.Cross.Spec.lean ====
module

public import proofs.«01_k».proof.Proof.Cross.Tile

/- The attention of the sequence to the memory, and its gradient: four heads of 128 columns, 256 keys. -/

@[expose] public section

noncomputable section

namespace Cert.Cross

open Idealize.ShloMosaic
open Idealize.ShloMosaic.ValueIdx Cert.Row
open scoped BigOperators

/-- Column `c` of head `h`, and head and place of a column. -/
def hcol (h : Fin 4) (c : Fin 128) : Fin 512 := ⟨h.val * 128 + c.val, by omega⟩
def head (x : Fin 512) : Fin 4 := ⟨x.val / 128, by omega⟩
def lane (x : Fin 512) : Fin 128 := ⟨x.val % 128, by omega⟩

theorem head_hcol (h : Fin 4) (c : Fin 128) : head (hcol h c) = h := Fin.ext (by show (h.val * 128 + c.val) / 128 = h.val; omega)
theorem lane_hcol (h : Fin 4) (c : Fin 128) : lane (hcol h c) = c := Fin.ext (by show (h.val * 128 + c.val) % 128 = c.val; omega)

/-- The factor of the scores. -/
def fac : EReal := Ideal.ofBits .f32 0x3DB504F3#32

variable (A0 : (⟨3, ![2, 2048, 512]⟩ : Shape).Idx → EReal) (A1 A2 : (⟨3, ![2, 256, 512]⟩ : Shape).Idx → EReal)
  (A3 : (⟨3, ![2, 2048, 512]⟩ : Shape).Idx → EReal)
variable (b : Fin 2) (h : Fin 4)

/-- The scores of row `i`, and the gradients of its probabilities and scores. -/
def score (i : Fin 2048) (j : Fin 256) : EReal := (∑ c : Fin 128, A0 (ix3 b i (hcol h c)) * A1 (ix3 b j (hcol h c))) * fac
def gprob (i : Fin 2048) (j : Fin 256) : EReal := ∑ c : Fin 128, A3 (ix3 b i (hcol h c)) * A2 (ix3 b j (hcol h c))
def gscore (i : Fin 2048) (j : Fin 256) : EReal := ds fac (score A0 A1 b h i) (gprob A2 A3 b h i) j

/-- The output, and the gradients of the queries, the keys and the values. -/
def mix (i : Fin 2048) (c : Fin 128) : EReal := ∑ j : Fin 256, pr (score A0 A1 b h i) j * A2 (ix3 b j (hcol h c))
def dq (i : Fin 2048) (c : Fin 128) : EReal := ∑ j : Fin 256, gscore A0 A1 A2 A3 b h i j * A1 (ix3 b j (hcol h c))
def dk (j : Fin 256) (c : Fin 128) : EReal := ∑ i : Fin 2048, gscore A0 A1 A2 A3 b h i j * A0 (ix3 b i (hcol h c))
def dv (j : Fin 256) (c : Fin 128) : EReal := ∑ i : Fin 2048, pr (score A0 A1 b h i) j * A3 (ix3 b i (hcol h c))

/-- The four arrays. -/
def O (y : (⟨3, ![2, 2048, 512]⟩ : Shape).Idx) : EReal := mix A0 A1 A2 (y 0) (head (y 2)) (y 1) (lane (y 2))
def DQ (y : (⟨3, ![2, 2048, 512]⟩ : Shape).Idx) : EReal := dq A0 A1 A2 A3 (y 0) (head (y 2)) (y 1) (lane (y 2))
def DK (y : (⟨3, ![2, 256, 512]⟩ : Shape).Idx) : EReal := dk A0 A1 A2 A3 (y 0) (head (y 2)) (y 1) (lane (y 2))
def DV (y : (⟨3, ![2, 256, 512]⟩ : Shape).Idx) : EReal := dv A0 A1 A3 (y 0) (head (y 2)) (y 1) (lane (y 2))

/-- Every row's scores are below `⊤`, and one of them is a number. -/
def Rows : Prop := ∀ b h i, Good (score A0 A1 b h i)

theorem fac_coe : ∃ x : ℝ, fac = x := by
  dsimp only [fac, Ideal.ofBits, Ideal.ieee]
  rw [if_neg (by decide), if_neg (by decide)]
  exact ⟨_, rfl⟩

/-- Numbers in the queries and keys give numbers in the scores. -/
theorem rows_of_real (h0 : ∀ y, ∃ x : ℝ, A0 y = x) (h1 : ∀ y, ∃ x : ℝ, A1 y = x) : Rows A0 A1 := by
  choose f0 h0 using h0
  choose f1 h1 using h1
  obtain ⟨s, hs⟩ := fac_coe
  have key : ∀ b h i j, ∃ x : ℝ, score A0 A1 b h i j = x := fun b h i j => by
    refine ⟨(∑ c : Fin 128, f0 (ix3 b i (hcol h c)) * f1 (ix3 b j (hcol h c))) * s, ?_⟩
    rw [score, EReal.coe_mul, coe_sum, hs]
    exact congrArg (· * _) (Finset.sum_congr rfl fun c _ => by rw [h0, h1, EReal.coe_mul])
  intro b h i
  refine ⟨fun j => ?_, 0, ?_⟩
  · obtain ⟨x, hx⟩ := key b h i j
    rw [hx]; exact EReal.coe_ne_top x
  · obtain ⟨x, hx⟩ := key b h i 0
    rw [hx]; exact EReal.coe_ne_bot x

end Cert.Cross
-- ==== Proof.Cross.Fwd.lean ====
module

public import proofs.«01_k».proof.Proof.Cross.Spec
public import proofs.«01_k».proof.Proof.Gen.Kernel22Ideal.Value
public import Idealize.ShloMosaic.Lib.Pipeline.Value
public import Idealize.ShloMosaic.Lib.Pipeline.ValueKit.Geometry

/- The attention of the sequence to the memory: what its kernel leaves. -/

@[expose] public section

set_option maxRecDepth 16384

noncomputable section

namespace Cert.Kernel22Ideal.Hand

open Idealize.ShloMosaic
open Cert.Kernel22Ideal Cert.Kernel22Ideal.Gen Cert.Cross Cert.Row
open Cert.Tile (dropUnit_at addUnit_at)
open Idealize.ShloMosaic.TcCoe Idealize.ShloMosaic.ValueIdx
open scoped BigOperators

variable (m : (ℓ : Loc nD τ sig) → Buf (Elt Ideal) ℓ) (c : Dev nD)

/-- The argument arrays. -/
abbrev A0 : (⟨3, ![2, 2048, 512]⟩ : Shape).Idx → EReal := m ((c.tc : Thread nD τ).loc main_arg0)
abbrev A1 : (⟨3, ![2, 256, 512]⟩ : Shape).Idx → EReal := m ((c.tc : Thread nD τ).loc main_arg1)
abbrev A2 : (⟨3, ![2, 256, 512]⟩ : Shape).Idx → EReal := m ((c.tc : Thread nD τ).loc main_arg2)

theorem idx_0 : ∀ t : Fin cfg0.N, win0_0.index t = ![t.val / 4, 0, t.val % 4] := (by decide +kernel : ∀ t : Fin grid0.N, _)
theorem idx_1 : ∀ t : Fin cfg0.N, win0_1.index t = ![t.val / 4, 0, t.val % 4] := (by decide +kernel : ∀ t : Fin grid0.N, _)
theorem idx_2 : ∀ t : Fin cfg0.N, win0_2.index t = ![t.val / 4, 0, t.val % 4] := (by decide +kernel : ∀ t : Fin grid0.N, _)
theorem idx_3 : ∀ t : Fin cfg0.N, win0_3.index t = ![t.val / 4, 0, t.val % 4] := (by decide +kernel : ∀ t : Fin grid0.N, _)

/-- The sequence and the head a grid point works on. -/
def bOf (t : Fin cfg0.N) : Fin 2 := ⟨t.val / 4, by have : t.val < 8 := t.isLt; omega⟩
def hOf (t : Fin cfg0.N) : Fin 4 := ⟨t.val % 4, by omega⟩

theorem blk_0 (t : Fin cfg0.N) (r : Fin 2048) (x : Fin 128) : iblk m c 0 t (ix3 (0 : Fin 1) r x) = A0 m c (ix3 (bOf t) r (hcol (hOf t) x)) := by
  blk_simp [iblk]
  refine congrArg (A0 m c) (funext fun a => Fin.ext ?_)
  match a with
  | ⟨0, _⟩ => blk_simp [idx_0]; show t.val / 4 + 0 = t.val / 4; omega
  | ⟨1, _⟩ => blk_simp [idx_0]
  | ⟨2, _⟩ => blk_simp [idx_0]; show t.val % 4 * 128 + x.val = t.val % 4 * 128 + x.val; rfl

theorem blk_1 (t : Fin cfg0.N) (j : Fin 256) (x : Fin 128) : iblk m c 1 t (ix3 (0 : Fin 1) j x) = A1 m c (ix3 (bOf t) j (hcol (hOf t) x)) := by
  blk_simp [iblk]
  refine congrArg (A1 m c) (funext fun a => Fin.ext ?_)
  match a with
  | ⟨0, _⟩ => blk_simp [idx_1]; show t.val / 4 + 0 = t.val / 4; omega
  | ⟨1, _⟩ => blk_simp [idx_1]
  | ⟨2, _⟩ => blk_simp [idx_1]; show t.val % 4 * 128 + x.val = t.val % 4 * 128 + x.val; rfl

theorem blk_2 (t : Fin cfg0.N) (j : Fin 256) (x : Fin 128) : iblk m c 2 t (ix3 (0 : Fin 1) j x) = A2 m c (ix3 (bOf t) j (hcol (hOf t) x)) := by
  blk_simp [iblk]
  refine congrArg (A2 m c) (funext fun a => Fin.ext ?_)
  match a with
  | ⟨0, _⟩ => blk_simp [idx_2]; show t.val / 4 + 0 = t.val / 4; omega
  | ⟨1, _⟩ => blk_simp [idx_2]
  | ⟨2, _⟩ => blk_simp [idx_2]; show t.val % 4 * 128 + x.val = t.val % 4 * 128 + x.val; rfl

/-- The scores of a block's row. -/
theorem row_at (t : Fin cfg0.N) (r : Fin 2048) (hq hk) :
    (fun j => scores 0x3DB504F3#32 (shapeCast ⟨2, ![2048, 128]⟩ (iblk m c 0 t : FVec Ideal ⟨3, ![1, 2048, 128]⟩ .bf16) hq)
      (shapeCast ⟨2, ![256, 128]⟩ (iblk m c 1 t : FVec Ideal ⟨3, ![1, 256, 128]⟩ .bf16) hk) (ix2 r j)) = score (A0 m c) (A1 m c) (bOf t) (hOf t) r := by
  funext j
  rw [scores_at, score, fac]
  refine congrArg (· * _) (Finset.sum_congr rfl fun x _ => ?_)
  rw [dropUnit_at, dropUnit_at, blk_0, blk_1]

/-- What the kernel computes, in the words of `Tile`. -/
theorem pay_eq (q : FVec Ideal S1x2048x128 .bf16) (k v : FVec Ideal S1x256x128 .bf16) :
    k0_pay1 (F := Ideal) q k v = shapeCast S1x2048x128
      (mixed reduces_S2048x256_S2048 shapeCasts_S2048_S2048x1 broadcasts_S2048x1_S2048x256 broadcasts_S2048x1_S2048x128
        (scores 0x3DB504F3#32 (shapeCast S2048x128 q shapeCasts_S1x2048x128_S2048x128) (shapeCast S256x128 k shapeCasts_S1x256x128_S256x128))
        (shapeCast S256x128 v shapeCasts_S1x256x128_S256x128)) shapeCasts_S2048x128_S1x2048x128 := rfl

/-- What the kernel computes at an index of its block. -/
theorem pay_at (t : Fin cfg0.N) (r : Fin 2048) (x : Fin 128) (hR : Rows (A0 m c) (A1 m c)) :
    k0_pay1 (F := Ideal) (iblk m c 0 t) (iblk m c 1 t) (iblk m c 2 t) (ix3 (0 : Fin 1) r x) = mix (A0 m c) (A1 m c) (A2 m c) (bOf t) (hOf t) r x := by
  rw [pay_eq, addUnit_at, mixed_at (by decide), row_at, mean_eq _ _ (hR _ _ _), mix]
  exact Finset.sum_congr rfl fun j _ => by rw [dropUnit_at, blk_2]

theorem final (hR : Rows (A0 m c) (A1 m c)) : (dats m 0 c).arrAt 3 cfg0.N = O (A0 m c) (A1 m c) (A2 m c) := by
  refine (dats m 0 c).arrAt_eq_of_covers 3 _ (by decide +kernel) fun t hf y => ?_
  blk_simp
  rw [after0_3, out0_3, View.canon_cons_unit_lit _ _ _ (by decide), View.ld_unit_lit _ _ (by decide), View.ld_unit_lit _ _ (by decide), View.ld_unit_lit _ _ (by decide)]
  obtain ⟨r, x, rfl⟩ : ∃ (r : Fin 2048) (x : Fin 128), y = ix3 (0 : Fin 1) r x :=
    ⟨y 1, y 2, (eq_ix3 y).trans (congrArg (fun z => ix3 z (y 1) (y 2)) (Subsingleton.elim (α := Fin 1) _ _))⟩
  rw [pay_at m c t r x hR]
  have e : ((cfg0.win 3).blk t).view.emb (ix3 (0 : Fin 1) r x) = ix3 (bOf t) r (hcol (hOf t) x) := funext fun a => Fin.ext <| by
    match a with
    | ⟨0, _⟩ => blk_simp [idx_3]; show t.val / 4 + 0 = t.val / 4; omega
    | ⟨1, _⟩ => blk_simp [idx_3]
    | ⟨2, _⟩ => blk_simp [idx_3]; show t.val % 4 * 128 + x.val = t.val % 4 * 128 + x.val; rfl
  rw [e]
  show _ = mix _ _ _ (bOf t) (head (hcol (hOf t) x)) r (lane (hcol (hOf t) x))
  rw [head_hcol, lane_hcol]

end Cert.Kernel22Ideal.Hand
-- ==== Proof.Cross.FwdRef.lean ====
module

public import proofs.«01_k».proof.Proof.Cross.Spec
public import proofs.«01_k».proof.Proof.Gen.Reference22Ideal.Read
public import Idealize.ShloMosaic.Lib.Pointwise

/- The attention to the memory as its reference has it, read at an index. -/

@[expose] public section

noncomputable section

namespace Cert.Reference22Ideal.Hand

open Idealize.ShloMosaic hiding ix3 ix4 eq_ix3 eq_ix4
open Cert.Reference22Ideal Cert.Reference22Ideal.Read Idealize.ShloMosaic.ValueIdx Cert.Row Cert.Cross
open Cert.Tile (negInf)
open scoped BigOperators

variable (x0 : (⟨S2x2048x512, .bf16⟩ : BufTy).Contents (Elt Ideal)) (x1 x2 : (⟨S2x256x512, .bf16⟩ : BufTy).Contents (Elt Ideal))
variable (b : Fin 2) (h : Fin 4) (i : Fin 2048) (j : Fin 256)

/-! ## The arguments by heads -/

theorem v3_at (c : Fin 128) : val_main_v3 (F := Ideal) x0 (ix4 b i h c) = x0 (ix3 b i (hcol h c)) := by
  rw [val_main_v3_apply]
  show x0 _ = _
  refine congrArg x0 (funext fun a => Fin.ext ?_)
  match a with
  | ⟨0, _⟩ => show (((b.val * 2048 + i.val) * 4 + h.val) * 128 + c.val) / 1048576 = b.val; omega
  | ⟨1, _⟩ => show (((b.val * 2048 + i.val) * 4 + h.val) * 128 + c.val) / 512 % 2048 = i.val; omega
  | ⟨2, _⟩ => show (((b.val * 2048 + i.val) * 4 + h.val) * 128 + c.val) % 512 = h.val * 128 + c.val; omega

theorem v4_at (c : Fin 128) : val_main_v4 (F := Ideal) x1 (ix4 b j h c) = x1 (ix3 b j (hcol h c)) := by
  rw [val_main_v4_apply]
  show x1 _ = _
  refine congrArg x1 (funext fun a => Fin.ext ?_)
  match a with
  | ⟨0, _⟩ => show (((b.val * 256 + j.val) * 4 + h.val) * 128 + c.val) / 131072 = b.val; omega
  | ⟨1, _⟩ => show (((b.val * 256 + j.val) * 4 + h.val) * 128 + c.val) / 512 % 256 = j.val; omega
  | ⟨2, _⟩ => show (((b.val * 256 + j.val) * 4 + h.val) * 128 + c.val) % 512 = h.val * 128 + c.val; omega

theorem v5_at (c : Fin 128) : val_main_v5 (F := Ideal) x2 (ix4 b j h c) = x2 (ix3 b j (hcol h c)) := v4_at x2 b h j c

/-! ## Scores, probabilities -/

theorem v8_at : val_main_v8 (F := Ideal) x0 x1 (ix4 b h i j) = score x0 x1 b h i j := by
  rw [val_main_v8_apply, val_main_v7_apply, val_main_cst_apply, val_main_v6_apply, score]
  refine congrArg (· * fac) (Finset.sum_congr rfl fun c _ => ?_)
  rw [← v3_at x0, ← v4_at x1]
  exact congrArg₂ (fun p q => val_main_v3 (F := Ideal) x0 p * val_main_v4 (F := Ideal) x1 q) (eq_ix4 _) (eq_ix4 _)

theorem v11_at : val_main_v11 (F := Ideal) x0 x1 (ix3 b h i) = top (score x0 x1 b h i) := by
  rw [val_main_v11_apply, val_main_v10_apply, val_main_cst_1_apply]
  have e : val_main_v9 (F := Ideal) x0 x1 (ix3 b h i) = top (score x0 x1 b h i) := by
    unfold val_main_v9
    have hs : ∀ k, val_main_v8 (F := Ideal) x0 x1 (Idealize.ShloMosaic.ix4 b h i k) = score x0 x1 b h i k := fun k =>
      (congrArg _ (eq_ix4 _)).trans (v8_at x0 x1 b h i k)
    generalize val_main_v8 (F := Ideal) x0 x1 = y at hs ⊢
    simp only [pointwise]
    rw [show val_main_cst_0 (F := Ideal) (Shape.Idx.first Gen.h_S_) = ⊥ from negInf, top]
    exact congrArg (fun f => Finset.fold max ⊥ f Finset.univ) (funext hs)
  rw [e]
  show max (Ideal.ofBits .f32 0xFF800000#32) _ = _
  rw [negInf, bot_sup_eq]

theorem v15_at : val_main_v15 (F := Ideal) x0 x1 (ix4 b h i j) = ex (score x0 x1 b h i) j := by
  rw [val_main_v15_apply, val_main_v14_apply, v8_at, val_main_v13_apply, val_main_v12_apply, Ideal.hostUnary_exp_def, Ideal.subf_def]
  have e : val_main_v11 (F := Ideal) x0 x1 (idx_main_v12 (idx_main_v13 (ix4 b h i j))) = top (score x0 x1 b h i) :=
    (congrArg _ (eq_ix3 _)).trans (v11_at x0 x1 b h i)
  rw [e, ex]

theorem v16_at : val_main_v16 (F := Ideal) x0 x1 (ix3 b h i) = den (score x0 x1 b h i) := by
  rw [val_main_v16_apply, show val_main_cst_2 (F := Ideal) (Shape.Idx.first Gen.h_S_) = 0 from Ideal.ofBits_zero_f32, zero_add, den]
  refine Finset.sum_congr rfl fun k _ => ?_
  rw [← v15_at]
  exact congrArg _ (eq_ix4 _)

theorem v17_at (z : Fin 1) : val_main_v17 (F := Ideal) x0 x1 (ix4 b h i z) = den (score x0 x1 b h i) := by
  rw [val_main_v17_apply, ← v16_at]
  exact congrArg _ (eq_ix3 _)

theorem v19_at : val_main_v19 (F := Ideal) x0 x1 (ix4 b h i j) = pr (score x0 x1 b h i) j := by
  rw [val_main_v19_apply, v15_at, val_main_v18_apply, Ideal.hostDivf_def, pr]
  exact congrArg (Ideal.div _) ((congrArg _ (eq_ix4 _)).trans (v17_at x0 x1 b h i 0))

/-! ## The result -/

/-- Where a place of the result lies among the heads. -/
theorem of_row (x : Fin 512) : idx_main_v22 (ix3 b i x) = ix4 b i (head x) (lane x) := funext fun a => Fin.ext <| by
  match a with
  | ⟨0, _⟩ => show ((b.val * 2048 + i.val) * 512 + x.val) / 1048576 = b.val; omega
  | ⟨1, _⟩ => show ((b.val * 2048 + i.val) * 512 + x.val) / 512 % 2048 = i.val; omega
  | ⟨2, _⟩ => show ((b.val * 2048 + i.val) * 512 + x.val) / 128 % 4 = x.val / 128; omega
  | ⟨3, _⟩ => show ((b.val * 2048 + i.val) * 512 + x.val) % 128 = x.val % 128; omega

theorem value_eq : val_main_v23 (F := Ideal) x0 x1 x2 = O x0 x1 x2 := by
  funext y
  obtain ⟨b, i, x, rfl⟩ : ∃ (b : Fin 2) (i : Fin 2048) (x : Fin 512), y = ix3 b i x := ⟨y 0, y 1, y 2, eq_ix3 y⟩
  show val_main_v22 (F := Ideal) x0 x1 x2 _ = mix x0 x1 x2 b (head x) i (lane x)
  rw [val_main_v22_apply, of_row, val_main_v21_apply, val_main_v20_apply, mix]
  refine Finset.sum_congr rfl fun k _ => ?_
  rw [← v19_at, ← v5_at x2, mul_comm]
  exact congrArg₂ (fun p q => val_main_v19 (F := Ideal) x0 x1 p * val_main_v5 (F := Ideal) x2 q) (eq_ix4 _) (eq_ix4 _)

end Cert.Reference22Ideal.Hand
-- ==== Proof.Cross.Grad.lean ====
module

public import proofs.«01_k».proof.Proof.Cross.Spec
public import proofs.«01_k».proof.Proof.Gen.Kernel21Ideal.Value
public import Idealize.ShloMosaic.Lib.Pipeline.Value
public import Idealize.ShloMosaic.Lib.Pipeline.ValueKit.Acc
public import Idealize.ShloMosaic.Lib.Pipeline.ValueKit.Geometry

/- The gradient of the attention to the memory: what its kernel leaves. -/

@[expose] public section

set_option maxRecDepth 16384

noncomputable section

namespace Cert.Kernel21Ideal.Hand

open Idealize.ShloMosaic
open Cert.Kernel21Ideal Cert.Kernel21Ideal.Gen Cert.Cross Cert.Row
open Cert.Tile (firsts dropUnit_at addUnit_at zero_at)
open Idealize.ShloMosaic.TcCoe Idealize.ShloMosaic.ValueIdx
open scoped BigOperators

variable (m : (ℓ : Loc nD τ sig) → Buf (Elt Ideal) ℓ) (c : Dev nD)

/-- The argument arrays. -/
abbrev A0 : (⟨3, ![2, 2048, 512]⟩ : Shape).Idx → EReal := m ((c.tc : Thread nD τ).loc main_arg0)
abbrev A1 : (⟨3, ![2, 256, 512]⟩ : Shape).Idx → EReal := m ((c.tc : Thread nD τ).loc main_arg1)
abbrev A2 : (⟨3, ![2, 256, 512]⟩ : Shape).Idx → EReal := m ((c.tc : Thread nD τ).loc main_arg2)
abbrev A3 : (⟨3, ![2, 2048, 512]⟩ : Shape).Idx → EReal := m ((c.tc : Thread nD τ).loc main_arg3)

theorem idx_0 : ∀ t : Fin cfg0.N, win0_0.index t = ![t.val / 4, 0, t.val % 4] := (by decide +kernel : ∀ t : Fin grid0.N, _)
theorem idx_1 : ∀ t : Fin cfg0.N, win0_1.index t = ![t.val / 4, 0, t.val % 4] := (by decide +kernel : ∀ t : Fin grid0.N, _)
theorem idx_2 : ∀ t : Fin cfg0.N, win0_2.index t = ![t.val / 4, 0, t.val % 4] := (by decide +kernel : ∀ t : Fin grid0.N, _)
theorem idx_3 : ∀ t : Fin cfg0.N, win0_3.index t = ![t.val / 4, 0, t.val % 4] := (by decide +kernel : ∀ t : Fin grid0.N, _)
theorem idx_4 : ∀ t : Fin cfg0.N, win0_4.index t = ![t.val / 4, 0, t.val % 4] := (by decide +kernel : ∀ t : Fin grid0.N, _)
theorem idx_5 : ∀ t : Fin cfg0.N, win0_5.index t = ![t.val / 4, 0, t.val % 4] := (by decide +kernel : ∀ t : Fin grid0.N, _)
theorem idx_6 : ∀ t : Fin cfg0.N, win0_6.index t = ![t.val / 4, 0, t.val % 4] := (by decide +kernel : ∀ t : Fin grid0.N, _)

/-- The sequence and the head a grid point works on. -/
def bOf (t : Fin cfg0.N) : Fin 2 := ⟨t.val / 4, by have : t.val < 8 := t.isLt; omega⟩
def hOf (t : Fin cfg0.N) : Fin 4 := ⟨t.val % 4, by omega⟩

theorem blk_0 (t : Fin cfg0.N) (r : Fin 2048) (x : Fin 128) : iblk m c 0 t (ix3 (0 : Fin 1) r x) = A0 m c (ix3 (bOf t) r (hcol (hOf t) x)) := by
  blk_simp [iblk]
  refine congrArg (A0 m c) (funext fun a => Fin.ext ?_)
  match a with
  | ⟨0, _⟩ => blk_simp [idx_0]; show t.val / 4 + 0 = t.val / 4; omega
  | ⟨1, _⟩ => blk_simp [idx_0]
  | ⟨2, _⟩ => blk_simp [idx_0]; show t.val % 4 * 128 + x.val = t.val % 4 * 128 + x.val; rfl

theorem blk_1 (t : Fin cfg0.N) (j : Fin 256) (x : Fin 128) : iblk m c 1 t (ix3 (0 : Fin 1) j x) = A1 m c (ix3 (bOf t) j (hcol (hOf t) x)) := by
  blk_simp [iblk]
  refine congrArg (A1 m c) (funext fun a => Fin.ext ?_)
  match a with
  | ⟨0, _⟩ => blk_simp [idx_1]; show t.val / 4 + 0 = t.val / 4; omega
  | ⟨1, _⟩ => blk_simp [idx_1]
  | ⟨2, _⟩ => blk_simp [idx_1]; show t.val % 4 * 128 + x.val = t.val % 4 * 128 + x.val; rfl

theorem blk_2 (t : Fin cfg0.N) (j : Fin 256) (x : Fin 128) : iblk m c 2 t (ix3 (0 : Fin 1) j x) = A2 m c (ix3 (bOf t) j (hcol (hOf t) x)) := by
  blk_simp [iblk]
  refine congrArg (A2 m c) (funext fun a => Fin.ext ?_)
  match a with
  | ⟨0, _⟩ => blk_simp [idx_2]; show t.val / 4 + 0 = t.val / 4; omega
  | ⟨1, _⟩ => blk_simp [idx_2]
  | ⟨2, _⟩ => blk_simp [idx_2]; show t.val % 4 * 128 + x.val = t.val % 4 * 128 + x.val; rfl

theorem blk_3 (t : Fin cfg0.N) (r : Fin 2048) (x : Fin 128) : iblk m c 3 t (ix3 (0 : Fin 1) r x) = A3 m c (ix3 (bOf t) r (hcol (hOf t) x)) := by
  blk_simp [iblk]
  refine congrArg (A3 m c) (funext fun a => Fin.ext ?_)
  match a with
  | ⟨0, _⟩ => blk_simp [idx_3]; show t.val / 4 + 0 = t.val / 4; omega
  | ⟨1, _⟩ => blk_simp [idx_3]
  | ⟨2, _⟩ => blk_simp [idx_3]; show t.val % 4 * 128 + x.val = t.val % 4 * 128 + x.val; rfl

/-! ## The kernel's intermediate arrays -/

/-- The scores of a block. -/
abbrev sc (t : Fin cfg0.N) : FVec Ideal S2048x256 .f32 :=
  scores 0x3DB504F3#32 (shapeCast S2048x128 (iblk m c 0 t) shapeCasts_S1x2048x128_S2048x128 : FVec Ideal S2048x128 .bf16)
    (shapeCast S256x128 (iblk m c 1 t) shapeCasts_S1x256x128_S256x128)

theorem sc_row (t : Fin cfg0.N) (r : Fin 2048) : (fun j => sc m c t (ix2 r j)) = score (A0 m c) (A1 m c) (bOf t) (hOf t) r := by
  funext j
  rw [sc, scores_at, score, fac]
  refine congrArg (· * _) (Finset.sum_congr rfl fun x _ => ?_)
  rw [dropUnit_at, dropUnit_at, blk_0, blk_1]

/-- The probabilities of a block. -/
theorem p_at (t : Fin cfg0.N) (r : Fin 2048) (j : Fin 256) :
    k0_pay10 (F := Ideal) (iblk m c 0 t) (iblk m c 1 t) (ix2 r j) = pr (fun j => sc m c t (ix2 r j)) j :=
  probs_at (by decide : 2048 ≠ 1) reduces_S2048x256_S2048 shapeCasts_S2048_S2048x1 broadcasts_S2048x1_S2048x256 (sc m c t) r j

/-- The output's gradient, rounded. -/
theorem ct_at (t : Fin cfg0.N) (r : Fin 2048) (x : Fin 128) :
    k0_pay11 (F := Ideal) (iblk m c 3 t) (ix2 r x) = A3 m c (ix3 (bOf t) r (hcol (hOf t) x)) :=
  (dropUnit_at (iblk m c 3 t) shapeCasts_S1x2048x128_S2048x128 r x).trans (blk_3 m c t r x)

/-- The gradients of the probabilities. -/
theorem dp_row (t : Fin cfg0.N) (r : Fin 2048) :
    (fun j => matmul (DotDims.transposedRhs 2048 128 256) none (k0_pay11 (F := Ideal) (iblk m c 3 t)) (k0_pay9 (F := Ideal) (iblk m c 2 t))
      (constant S2048x256 .f32 0x00000000#32) (ix2 r j)) = gprob (A2 m c) (A3 m c) (bOf t) (hOf t) r := by
  funext j
  rw [nt_at, gprob]
  refine Finset.sum_congr rfl fun x _ => ?_
  rw [ct_at, show k0_pay9 (F := Ideal) (iblk m c 2 t) (ix2 j x) = _ from dropUnit_at (iblk m c 2 t) shapeCasts_S1x256x128_S256x128 j x, blk_2]

/-- The gradients of the scores. -/
theorem ds_eq (p : FVec Ideal S2048x256 .f32) (v : FVec Ideal S256x128 .bf16) (o : FVec Ideal S2048x128 .bf16) :
    k0_pay2 (F := Ideal) v p o = dscores 0x3DB504F3#32 reduces_S2048x256_S2048 shapeCasts_S2048_S2048x1 broadcasts_S2048x1_S2048x256 p
      (matmul (DotDims.transposedRhs 2048 128 256) none o v (constant S2048x256 .f32 0x00000000#32)) := rfl

theorem ds_at (t : Fin cfg0.N) (r : Fin 2048) (j : Fin 256) :
    k0_pay2 (F := Ideal) (k0_pay9 (iblk m c 2 t)) (k0_pay10 (iblk m c 0 t) (iblk m c 1 t)) (k0_pay11 (iblk m c 3 t)) (ix2 r j)
      = gscore (A0 m c) (A1 m c) (A2 m c) (A3 m c) (bOf t) (hOf t) r j := by
  rw [ds_eq, dscores_at (by decide) _ _ _ _ (sc m c t) _ _ r j (p_at m c t r), sc_row, dp_row, gscore, fac]

/-- The keys' and the values' gradients begin at zero. -/
theorem zero5_at (j : Fin 256) (x : Fin 128) : k0_pay5 (F := Ideal) (ix3 (0 : Fin 1) j x) = (0 : EReal) := Ideal.ofBits_zero_f32

/-! ## The three outputs -/

theorem final_q : (dats m 0 c).arrAt 4 cfg0.N = DQ (A0 m c) (A1 m c) (A2 m c) (A3 m c) := by
  refine (dats m 0 c).arrAt_eq_of_covers 4 _ (by decide +kernel) fun t hf y => ?_
  blk_simp
  rw [after0_4]
  obtain ⟨r, x, rfl⟩ : ∃ (r : Fin 2048) (x : Fin 128), y = ix3 (0 : Fin 1) r x :=
    ⟨y 1, y 2, (eq_ix3 y).trans (congrArg (fun z => ix3 z (y 1) (y 2)) (Subsingleton.elim (α := Fin 1) _ _))⟩
  have e : ((cfg0.win 4).blk t).view.emb (ix3 (0 : Fin 1) r x) = ix3 (bOf t) r (hcol (hOf t) x) := funext fun a => Fin.ext <| by
    match a with
    | ⟨0, _⟩ => blk_simp [idx_4]; show t.val / 4 + 0 = t.val / 4; omega
    | ⟨1, _⟩ => blk_simp [idx_4]
    | ⟨2, _⟩ => blk_simp [idx_4]; show t.val % 4 * 128 + x.val = t.val % 4 * 128 + x.val; rfl
  rw [e]
  show _ = dq _ _ _ _ (bOf t) (head (hcol (hOf t) x)) r (lane (hcol (hOf t) x))
  rw [head_hcol, lane_hcol, dq, outsAt0]
  dsimp only
  frame_out
  rw [k0_pay3, addUnit_at]
  refine (nn_at _ _ r x).trans (Finset.sum_congr rfl fun j _ => ?_)
  rw [ds_at, show k0_pay8 (F := Ideal) (iblk m c 1 t) (ix2 j x) = _ from dropUnit_at (iblk m c 1 t) shapeCasts_S1x256x128_S256x128 j x, blk_1]

theorem final_k : (dats m 0 c).arrAt 5 cfg0.N = DK (A0 m c) (A1 m c) (A2 m c) (A3 m c) := by
  refine (dats m 0 c).arrAt_eq_of_covers 5 _ (by decide +kernel) fun t hf y => ?_
  blk_simp
  rw [after0_5]
  obtain ⟨j, x, rfl⟩ : ∃ (j : Fin 256) (x : Fin 128), y = ix3 (0 : Fin 1) j x :=
    ⟨y 1, y 2, (eq_ix3 y).trans (congrArg (fun z => ix3 z (y 1) (y 2)) (Subsingleton.elim (α := Fin 1) _ _))⟩
  have e : ((cfg0.win 5).blk t).view.emb (ix3 (0 : Fin 1) j x) = ix3 (bOf t) j (hcol (hOf t) x) := funext fun a => Fin.ext <| by
    match a with
    | ⟨0, _⟩ => blk_simp [idx_5]; show t.val / 4 + 0 = t.val / 4; omega
    | ⟨1, _⟩ => blk_simp [idx_5]
    | ⟨2, _⟩ => blk_simp [idx_5]; show t.val % 4 * 128 + x.val = t.val % 4 * 128 + x.val; rfl
  rw [e]
  show _ = dk _ _ _ _ (bOf t) (head (hcol (hOf t) x)) j (lane (hcol (hOf t) x))
  rw [head_hcol, lane_hcol, dk, outsAt0]
  dsimp only
  frame_out
  rw [k0_pay4, addUnit_at]
  refine (congrArg₂ (· + ·) ((dropUnit_at (k0_pay5 (F := Ideal)) shapeCasts_S1x256x128_S256x128 j x).trans (zero5_at j x)) (tn_at _ _ j x)).trans ?_
  rw [zero_add]
  refine Finset.sum_congr rfl fun i _ => ?_
  rw [ds_at, show k0_pay7 (F := Ideal) (iblk m c 0 t) (ix2 i x) = _ from dropUnit_at (iblk m c 0 t) shapeCasts_S1x2048x128_S2048x128 i x, blk_0]

theorem final_v : (dats m 0 c).arrAt 6 cfg0.N = DV (A0 m c) (A1 m c) (A3 m c) := by
  refine (dats m 0 c).arrAt_eq_of_covers 6 _ (by decide +kernel) fun t hf y => ?_
  blk_simp
  rw [after0_6]
  obtain ⟨j, x, rfl⟩ : ∃ (j : Fin 256) (x : Fin 128), y = ix3 (0 : Fin 1) j x :=
    ⟨y 1, y 2, (eq_ix3 y).trans (congrArg (fun z => ix3 z (y 1) (y 2)) (Subsingleton.elim (α := Fin 1) _ _))⟩
  have e : ((cfg0.win 6).blk t).view.emb (ix3 (0 : Fin 1) j x) = ix3 (bOf t) j (hcol (hOf t) x) := funext fun a => Fin.ext <| by
    match a with
    | ⟨0, _⟩ => blk_simp [idx_6]; show t.val / 4 + 0 = t.val / 4; omega
    | ⟨1, _⟩ => blk_simp [idx_6]
    | ⟨2, _⟩ => blk_simp [idx_6]; show t.val % 4 * 128 + x.val = t.val % 4 * 128 + x.val; rfl
  rw [e]
  show _ = dv _ _ _ (bOf t) (head (hcol (hOf t) x)) j (lane (hcol (hOf t) x))
  rw [head_hcol, lane_hcol, dv, outsAt0]
  dsimp only
  frame_out
  rw [k0_pay1, addUnit_at]
  refine (congrArg₂ (· + ·) ((dropUnit_at (k0_pay6 (F := Ideal)) shapeCasts_S1x256x128_S256x128 j x).trans (zero5_at j x)) (tn_at _ _ j x)).trans ?_
  rw [zero_add]
  refine Finset.sum_congr rfl fun i _ => ?_
  rw [ct_at]
  exact congrArg (· * _) ((p_at m c t i j).trans (by rw [sc_row]))

end Cert.Kernel21Ideal.Hand
-- ==== Proof.Spec.lean ====
module

public import proofs.«01_k».proof.Proof.Tile

/- The gradients of the causal attention, row by row, as functions of the argument arrays. -/

@[expose] public section

noncomputable section

namespace Cert.Spec

open Idealize.ShloMosaic Idealize.ShloMosaic.ValueIdx Cert.Row Cert.Tile
open scoped BigOperators

/-- Column `c` of head `h` of the queries and keys; of the values, which follow 128 other columns; of the output. -/
def qcol (h : Fin 8) (c : Fin 256) : Fin 2048 := ⟨h.val * 256 + c.val, by omega⟩
def vcol (h : Fin 8) (c : Fin 128) : Fin 2048 := ⟨h.val * 256 + 128 + c.val, by omega⟩
def ocol (h : Fin 8) (c : Fin 128) : Fin 1024 := ⟨h.val * 128 + c.val, by omega⟩

variable (A0 A1 A2 : (⟨3, ![2, 2048, 2048]⟩ : Shape).Idx → EReal) (A3 : (⟨3, ![2, 2048, 1024]⟩ : Shape).Idx → EReal)
variable (b : Fin 2) (h : Fin 8)

/-- The masked scores of row `i`. -/
def score (i j : Fin 2048) : EReal :=
  if j.val ≤ i.val then (∑ c : Fin 256, A0 (ix3 b i (qcol h c)) * A1 (ix3 b j (qcol h c))) * sc else ⊥

/-- The gradient of row `i`'s probabilities. -/
def gprob (i j : Fin 2048) : EReal := ∑ c : Fin 128, A3 (ix3 b i (ocol h c)) * A2 (ix3 b j (vcol h c))

/-- The gradient of the scores. -/
def gscore (i j : Fin 2048) : EReal := ds sc (score A0 A1 b h i) (gprob A2 A3 b h i) j

/-- The gradients of the queries, the keys and the values. -/
def dq (i : Fin 2048) (c : Fin 256) : EReal := ∑ j : Fin 2048, gscore A0 A1 A2 A3 b h i j * A1 (ix3 b j (qcol h c))
def dk (j : Fin 2048) (c : Fin 256) : EReal := ∑ i : Fin 2048, gscore A0 A1 A2 A3 b h i j * A0 (ix3 b i (qcol h c))
def dv (j : Fin 2048) (c : Fin 128) : EReal := ∑ i : Fin 2048, pr (score A0 A1 b h i) j * A3 (ix3 b i (ocol h c))

/-- Head and column of a column. -/
def head (x : Fin 2048) : Fin 8 := ⟨x.val / 256, by omega⟩
def lane (x : Fin 2048) : Fin 256 := ⟨x.val % 256, by omega⟩
def ohead (x : Fin 1024) : Fin 8 := ⟨x.val / 128, by omega⟩
def olane (x : Fin 1024) : Fin 128 := ⟨x.val % 128, by omega⟩

/-- The three gradient arrays. -/
def DQ (y : (⟨3, ![2, 2048, 2048]⟩ : Shape).Idx) : EReal := dq A0 A1 A2 A3 (y 0) (head (y 2)) (y 1) (lane (y 2))
def DK (y : (⟨3, ![2, 2048, 2048]⟩ : Shape).Idx) : EReal := dk A0 A1 A2 A3 (y 0) (head (y 2)) (y 1) (lane (y 2))
def DV (y : (⟨3, ![2, 2048, 1024]⟩ : Shape).Idx) : EReal := dv A0 A1 A3 (y 0) (ohead (y 2)) (y 1) (olane (y 2))

/-- Every row's scores are below `⊤`, and one of them is a number. -/
def Rows : Prop := ∀ b h i, Good (score A0 A1 b h i)

/-- The factor of the scores is a number. -/
theorem sc_coe : ∃ x : ℝ, sc = x := by
  dsimp only [sc, Ideal.ofBits, Ideal.ieee]
  rw [if_neg (by decide), if_neg (by decide)]
  exact ⟨_, rfl⟩

/-- Numbers in the queries and keys give numbers in the scores: a row's own key is not masked. -/
theorem rows_of_real (h0 : ∀ y, ∃ x : ℝ, A0 y = x) (h1 : ∀ y, ∃ x : ℝ, A1 y = x) : Rows A0 A1 := by
  choose f0 h0 using h0
  choose f1 h1 using h1
  obtain ⟨s, hs⟩ := sc_coe
  have key : ∀ b h i j, ∃ x : ℝ, (∑ c : Fin 256, A0 (ix3 b i (qcol h c)) * A1 (ix3 b j (qcol h c))) * sc = x := fun b h i j => by
    refine ⟨(∑ c : Fin 256, f0 (ix3 b i (qcol h c)) * f1 (ix3 b j (qcol h c))) * s, ?_⟩
    rw [EReal.coe_mul, coe_sum, hs]
    exact congrArg (· * _) (Finset.sum_congr rfl fun c _ => by rw [h0, h1, EReal.coe_mul])
  intro b h i
  refine ⟨fun j => ?_, i, ?_⟩
  · obtain ⟨x, hx⟩ := key b h i j
    unfold score
    split
    · rw [hx]; exact EReal.coe_ne_top x
    · exact bot_ne_top
  · obtain ⟨x, hx⟩ := key b h i i
    rw [score, if_pos le_rfl, hx]
    exact EReal.coe_ne_bot x

end Cert.Spec
-- ==== Proof.Ref.lean ====
module

public import proofs.«01_k».proof.Proof.Spec
public import proofs.«01_k».proof.Proof.Gen.ReferenceIdeal.Read
public import Idealize.ShloMosaic.Lib.Pointwise
public import Idealize.ShloMosaic.Lib.WordCmp

/- The reference program's three results, read at an index: the gradients of `Spec`. -/

@[expose] public section

noncomputable section

namespace Cert.ReferenceIdeal.Hand

open Idealize.ShloMosaic hiding ix3 ix4 eq_ix3 eq_ix4
open Cert.ReferenceIdeal Cert.ReferenceIdeal.Read Idealize.ShloMosaic.ValueIdx Cert.Row Cert.Tile Cert.Spec
open scoped BigOperators

variable (x0 x1 x2 : (⟨S2x2048x2048, .bf16⟩ : BufTy).Contents (Elt Ideal)) (x3 : (⟨S2x2048x1024, .f32⟩ : BufTy).Contents (Elt Ideal))
variable (b : Fin 2) (h : Fin 8) (i j : Fin 2048)

theorem one_f32 : Ideal.ofBits .f32 0x3F800000#32 = 1 := by
  simp [Ideal.ofBits, Ideal.ieee]
  rw [← EReal.coe_mul]
  norm_num

/-! ## The arguments by heads -/

theorem v6_at (c : Fin 256) : val_main_v6 (F := Ideal) x0 (ix4 b i h c) = x0 (ix3 b i (qcol h c)) := by
  rw [val_main_v6_apply, val_main_v3_apply]
  refine congrArg x0 (funext fun a => Fin.ext ?_)
  match a with
  | ⟨0, _⟩ => show (((b.val * 2048 + i.val) * 8 + h.val) * 256 + c.val) / 4194304 = b.val; omega
  | ⟨1, _⟩ => show (((b.val * 2048 + i.val) * 8 + h.val) * 256 + c.val) / 2048 % 2048 = i.val; omega
  | ⟨2, _⟩ => show (((b.val * 2048 + i.val) * 8 + h.val) * 256 + c.val) % 2048 = h.val * 256 + c.val; omega

theorem v7_at (c : Fin 256) : val_main_v7 (F := Ideal) x1 (ix4 b j h c) = x1 (ix3 b j (qcol h c)) := v6_at x1 b h j c

theorem v51_at (c : Fin 128) : val_main_v51 (F := Ideal) x3 (ix4 b i h c) = x3 (ix3 b i (ocol h c)) := by
  rw [val_main_v51_apply]
  refine congrArg x3 (funext fun a => Fin.ext ?_)
  match a with
  | ⟨0, _⟩ => show (((b.val * 2048 + i.val) * 8 + h.val) * 128 + c.val) / 2097152 = b.val; omega
  | ⟨1, _⟩ => show (((b.val * 2048 + i.val) * 8 + h.val) * 128 + c.val) / 1024 % 2048 = i.val; omega
  | ⟨2, _⟩ => show (((b.val * 2048 + i.val) * 8 + h.val) * 128 + c.val) % 1024 = h.val * 128 + c.val; omega

theorem v52_at (c : Fin 128) : val_main_v52 (F := Ideal) x3 (ix4 b h c i) = x3 (ix3 b i (ocol h c)) := by
  rw [val_main_v52_apply, ← v51_at x3]
  exact congrArg _ (eq_ix4 _)

theorem v8_at (c : Fin 128) : val_main_v8 (F := Ideal) x2 (ix4 b j h c) = x2 (ix3 b j (vcol h c)) := by
  rw [val_main_v8_apply, val_main_v5_apply]
  show val_main_v2 (F := Ideal) x2 _ = _
  rw [val_main_v2_apply, val_main_v1_apply, val_main_v0_apply]
  have e0 : (((b.val * 2048 + j.val) * 8 + h.val) * 128 + c.val) / 2097152 = b.val := by omega
  have e1 : (((b.val * 2048 + j.val) * 8 + h.val) * 128 + c.val) / 1024 % 2048 = j.val := by omega
  have e2 : (((b.val * 2048 + j.val) * 8 + h.val) * 128 + c.val) % 1024 = h.val * 128 + c.val := by omega
  have f0 : ((b.val * 2048 + j.val) * 1024 + (h.val * 128 + c.val)) / 2097152 = b.val := by omega
  have f1 : ((b.val * 2048 + j.val) * 1024 + (h.val * 128 + c.val)) / 1024 % 2048 = j.val := by omega
  have f2 : ((b.val * 2048 + j.val) * 1024 + (h.val * 128 + c.val)) / 128 % 8 = h.val := by omega
  have f3 : ((b.val * 2048 + j.val) * 1024 + (h.val * 128 + c.val)) % 128 = c.val := by omega
  have e : idx_main_v1 (idx_main_v2 (idx_main_v8 (ix4 b j h c))) = ix4 b j h ⟨128 + c.val, by omega⟩ := funext fun a => Fin.ext <| by
    have k8 : idx_main_v8 (ix4 b j h c) = ix3 b j (ocol h c) := funext fun a => Fin.ext <| by
      match a with
      | ⟨0, _⟩ => exact e0
      | ⟨1, _⟩ => exact e1
      | ⟨2, _⟩ => exact e2
    rw [k8]
    match a with
    | ⟨0, _⟩ => exact f0
    | ⟨1, _⟩ => exact f1
    | ⟨2, _⟩ => exact f2
    | ⟨3, _⟩ => exact congrArg (128 + ·) f3
  rw [e]
  refine congrArg x2 (funext fun a => Fin.ext ?_)
  match a with
  | ⟨0, _⟩ => show (((b.val * 2048 + j.val) * 8 + h.val) * 256 + (128 + c.val)) / 4194304 = b.val; omega
  | ⟨1, _⟩ => show (((b.val * 2048 + j.val) * 8 + h.val) * 256 + (128 + c.val)) / 2048 % 2048 = j.val; omega
  | ⟨2, _⟩ => show (((b.val * 2048 + j.val) * 8 + h.val) * 256 + (128 + c.val)) % 2048 = h.val * 256 + 128 + c.val; omega

/-! ## Scores, probabilities -/

theorem mask_at : val_main_v19_1 (F := Ideal) (ix4 b h i j) = 1#1 ↔ j.val ≤ i.val := by
  rw [val_main_v19_1_apply, val_main_v18_apply, val_main_v16_apply, val_main_v13_apply, val_main_v12_apply,
    val_main_v17_apply, val_main_v15_apply, val_main_v14_apply]
  exact WordCmp.cmpi_sge_ofNat_eq_one_iff (by show i.val < _; omega) (by show j.val < _; omega)

theorem v9_at : val_main_v9 (F := Ideal) x0 x1 (ix4 b h i j) = ∑ c : Fin 256, x0 (ix3 b i (qcol h c)) * x1 (ix3 b j (qcol h c)) := by
  rw [val_main_v9_apply]
  refine Finset.sum_congr rfl fun c _ => ?_
  rw [← v6_at x0, ← v7_at x1]
  exact congrArg₂ (fun p q => val_main_v6 (F := Ideal) x0 p * val_main_v7 (F := Ideal) x1 q) (eq_ix4 _) (eq_ix4 _)

theorem v19_at : val_main_v19_0 (F := Ideal) x0 x1 (ix4 b h i j) = score x0 x1 b h i j := by
  rw [val_main_v19_0_apply, select_of (mask_at b h i j), score, val_main_v11_apply, val_main_v10_apply, val_main_cst_apply,
    val_main_call0_v2_apply, val_main_call0_v0_apply, val_main_cst_0_apply, v9_at]
  exact if_congr Iff.rfl rfl negInf

theorem v27_at : val_main_v27 (F := Ideal) x0 x1 (ix3 b h i) = top (score x0 x1 b h i) := by
  rw [val_main_v27_apply, val_main_v26_apply, val_main_cst_3_apply]
  have e : val_main_v20 (F := Ideal) x0 x1 (ix3 b h i) = top (score x0 x1 b h i) := by
    unfold val_main_v20
    have hs : ∀ k, val_main_v19_0 (F := Ideal) x0 x1 (Idealize.ShloMosaic.ix4 b h i k) = score x0 x1 b h i k := fun k =>
      (congrArg _ (eq_ix4 _)).trans (v19_at x0 x1 b h i k)
    generalize val_main_v19_0 (F := Ideal) x0 x1 = y at hs ⊢
    simp only [pointwise]
    rw [show val_main_cst_1 (F := Ideal) (Shape.Idx.first Gen.h_S_) = ⊥ from negInf, top]
    exact congrArg (fun f => Finset.fold max ⊥ f Finset.univ) (funext hs)
  rw [e]
  show max (Ideal.ofBits .f32 0xFF800000#32) _ = _
  rw [negInf, bot_sup_eq]

theorem v40_at : val_main_v40 (F := Ideal) x0 x1 (ix4 b h i j) = ex (score x0 x1 b h i) j := by
  rw [val_main_v40_apply, val_main_v39_apply, v19_at, val_main_v38_apply, val_main_v37_apply, Ideal.hostUnary_exp_def, Ideal.subf_def]
  have e : val_main_v27 (F := Ideal) x0 x1 (idx_main_v37 (idx_main_v38 (ix4 b h i j))) = top (score x0 x1 b h i) :=
    (congrArg _ (eq_ix3 _)).trans (v27_at x0 x1 b h i)
  rw [e, ex]

theorem v41_at : val_main_v41 (F := Ideal) x0 x1 (ix3 b h i) = den (score x0 x1 b h i) := by
  rw [val_main_v41_apply, show val_main_cst_9 (F := Ideal) (Shape.Idx.first Gen.h_S_) = 0 from Ideal.ofBits_zero_f32, zero_add, den]
  refine Finset.sum_congr rfl fun k _ => ?_
  rw [← v40_at]
  exact congrArg _ (eq_ix4 _)

theorem v42_at (z : Fin 1) : val_main_v42 (F := Ideal) x0 x1 (ix4 b h i z) = den (score x0 x1 b h i) := by
  rw [val_main_v42_apply, ← v41_at]
  exact congrArg _ (eq_ix3 _)

theorem v44_at : val_main_v44 (F := Ideal) x0 x1 (ix4 b h i j) = pr (score x0 x1 b h i) j := by
  rw [val_main_v44_apply, v40_at, val_main_v43_apply, Ideal.hostDivf_def, pr]
  exact congrArg (Ideal.div _) ((congrArg _ (eq_ix4 _)).trans (v42_at x0 x1 b h i 0))

/-! ## The gradients of the probabilities and of the scores -/

theorem v53_at : val_main_v53 (F := Ideal) x2 x3 (ix4 b h i j) = gprob x2 x3 b h i j := by
  rw [val_main_v53_apply, gprob]
  refine Finset.sum_congr rfl fun c _ => ?_
  rw [← v52_at x3, ← v8_at x2]
  exact congrArg₂ (fun p q => val_main_v52 (F := Ideal) x3 p * val_main_v8 (F := Ideal) x2 q) (eq_ix4 _) (eq_ix4 _)

theorem v47_at (z : Fin 1) : val_main_v47 (F := Ideal) x0 x1 (ix4 b h i z)
    = Ideal.div 1 (den (score x0 x1 b h i) * den (score x0 x1 b h i)) := by
  rw [val_main_v47_apply, val_main_v46_apply, val_main_cst_10_apply, val_main_v45_apply, v42_at, Ideal.hostDivf_def]
  exact congrArg (Ideal.div · _) one_f32

theorem v58_at : val_main_v58 (F := Ideal) x0 x1 x2 x3 (ix4 b h i j)
    = gprob x2 x3 b h i j * Ideal.div 1 (den (score x0 x1 b h i) * den (score x0 x1 b h i)) * ex (score x0 x1 b h i) j := by
  rw [val_main_v58_apply, val_main_v57_apply, v53_at, v40_at, val_main_v56_apply]
  exact congrArg (fun z => _ * z * _) ((congrArg _ (eq_ix4 _)).trans (v47_at x0 x1 b h i 0))

theorem v59_at : val_main_v59 (F := Ideal) x0 x1 x2 x3 (ix3 b h i)
    = ∑ k, gprob x2 x3 b h i k * Ideal.div 1 (den (score x0 x1 b h i) * den (score x0 x1 b h i)) * ex (score x0 x1 b h i) k := by
  rw [val_main_v59_apply, show val_main_cst_11 (F := Ideal) (Shape.Idx.first Gen.h_S_) = 0 from Ideal.ofBits_zero_f32, zero_add]
  refine Finset.sum_congr rfl fun k _ => ?_
  rw [← v58_at]
  exact congrArg _ (eq_ix4 _)

theorem v64_at : val_main_v64 (F := Ideal) x0 x1 x2 x3 (ix3 b h i)
    = -∑ k, gprob x2 x3 b h i k * Ideal.div 1 (den (score x0 x1 b h i) * den (score x0 x1 b h i)) * ex (score x0 x1 b h i) k := by
  rw [val_main_v64_apply, show val_main_cst_12 (F := Ideal) (Shape.Idx.first Gen.h_S_) = 0 from Ideal.ofBits_zero_f32, zero_add, ← v59_at, Fin.sum_univ_one, val_main_v61_apply, val_main_v60_apply]
  refine congrArg (fun p => -val_main_v59 (F := Ideal) x0 x1 x2 x3 p) (funext fun a => Fin.ext ?_)
  match a with
  | ⟨0, _⟩ => show (((b.val * 8 + h.val) * 2048 + i.val) * 1 + 0) / 16384 = b.val; omega
  | ⟨1, _⟩ => show (((b.val * 8 + h.val) * 2048 + i.val) * 1 + 0) / 2048 % 8 = h.val; omega
  | ⟨2, _⟩ => show (((b.val * 8 + h.val) * 2048 + i.val) * 1 + 0) % 2048 = i.val; omega

theorem v67_at : val_main_v67 (F := Ideal) x0 x1 x2 x3 (ix4 b h i j)
    = (Ideal.div (gprob x2 x3 b h i j) (den (score x0 x1 b h i))
      + -∑ k, gprob x2 x3 b h i k * Ideal.div 1 (den (score x0 x1 b h i) * den (score x0 x1 b h i)) * ex (score x0 x1 b h i) k)
      * ex (score x0 x1 b h i) j := by
  rw [val_main_v67_apply, val_main_v66_apply, val_main_v63_apply, v53_at, v40_at, val_main_v62_apply, val_main_v65_apply, Ideal.hostDivf_def]
  exact congrArg₂ (fun p q => (Ideal.div _ p + q) * _) ((congrArg _ (eq_ix4 _)).trans (v42_at x0 x1 b h i 0))
    ((congrArg _ (eq_ix3 _)).trans (v64_at x0 x1 x2 x3 b h i))

variable (hR : Rows x0 x1)

include hR in
theorem v70_at : val_main_v70 (F := Ideal) x0 x1 x2 x3 (ix4 b h i j) = gscore x0 x1 x2 x3 b h i j := by
  rw [val_main_v70_apply, val_main_v68_apply, select_of (mask_at b h i j), v67_at, val_main_v69_apply, val_main_cst_13_apply,
    val_main_call1_v0_apply, val_main_call1_cst_apply, gscore]
  show (if _ then _ else _) * sc = _
  by_cases hj : j.val ≤ i.val
  · rw [if_pos hj, quotient_rule sc _ _ (hR b h i)]
  · rw [if_neg hj, ds_masked sc _ _ (hR b h i) j (if_neg hj)]
    exact (congrArg (· * sc) Ideal.ofBits_zero_f32).trans (zero_mul _)

/-! ## The three results -/

include hR in
theorem q_eq : val_main_v77 (F := Ideal) x0 x1 x2 x3 = DQ x0 x1 x2 x3 := by
  funext y
  obtain ⟨b, i, x, rfl⟩ : ∃ (b : Fin 2) (i : Fin 2048) (x : Fin 2048), y = ix3 b i x := ⟨y 0, y 1, y 2, eq_ix3 y⟩
  rw [val_main_v77_apply, val_main_v74_apply]
  have e : idx_main_v74 (idx_main_v77 (ix3 b i x)) = ix4 b (head x) i (lane x) := funext fun a => Fin.ext <| by
    match a with
    | ⟨0, _⟩ => show ((b.val * 2048 + i.val) * 2048 + x.val) / 4194304 = b.val; omega
    | ⟨1, _⟩ => show ((b.val * 2048 + i.val) * 2048 + x.val) / 256 % 8 = x.val / 256; omega
    | ⟨2, _⟩ => show ((b.val * 2048 + i.val) * 2048 + x.val) / 2048 % 2048 = i.val; omega
    | ⟨3, _⟩ => show ((b.val * 2048 + i.val) * 2048 + x.val) % 256 = x.val % 256; omega
  rw [e, val_main_v73_apply]
  show _ = dq x0 x1 x2 x3 b (head x) i (lane x)
  rw [dq]
  refine Finset.sum_congr rfl fun k _ => ?_
  rw [← v70_at x0 x1 x2 x3 _ _ _ _ hR, ← v7_at x1]
  exact congrArg₂ (fun p q => val_main_v70 (F := Ideal) x0 x1 x2 x3 p * val_main_v7 (F := Ideal) x1 q) (eq_ix4 _) (eq_ix4 _)

include hR in
theorem k_eq : val_main_v76 (F := Ideal) x0 x1 x2 x3 = DK x0 x1 x2 x3 := by
  funext y
  obtain ⟨b, i, x, rfl⟩ : ∃ (b : Fin 2) (i : Fin 2048) (x : Fin 2048), y = ix3 b i x := ⟨y 0, y 1, y 2, eq_ix3 y⟩
  rw [val_main_v76_apply, val_main_v72_apply]
  have e : idx_main_v72 (idx_main_v76 (ix3 b i x)) = ix4 b (head x) i (lane x) := funext fun a => Fin.ext <| by
    match a with
    | ⟨0, _⟩ => show ((b.val * 2048 + i.val) * 2048 + x.val) / 4194304 = b.val; omega
    | ⟨1, _⟩ => show ((b.val * 2048 + i.val) * 2048 + x.val) / 256 % 8 = x.val / 256; omega
    | ⟨2, _⟩ => show ((b.val * 2048 + i.val) * 2048 + x.val) / 2048 % 2048 = i.val; omega
    | ⟨3, _⟩ => show ((b.val * 2048 + i.val) * 2048 + x.val) % 256 = x.val % 256; omega
  rw [e, val_main_v71_apply]
  show _ = dk x0 x1 x2 x3 b (head x) i (lane x)
  rw [dk]
  refine Finset.sum_congr rfl fun k _ => ?_
  rw [← v70_at x0 x1 x2 x3 _ _ _ _ hR, ← v6_at x0]
  exact congrArg₂ (fun p q => val_main_v70 (F := Ideal) x0 x1 x2 x3 p * val_main_v6 (F := Ideal) x0 q) (eq_ix4 _) (eq_ix4 _)

theorem v_eq : val_main_v75 (F := Ideal) x0 x1 x3 = DV x0 x1 x3 := by
  funext y
  obtain ⟨b, i, x, rfl⟩ : ∃ (b : Fin 2) (i : Fin 2048) (x : Fin 1024), y = ix3 b i x := ⟨y 0, y 1, y 2, eq_ix3 y⟩
  rw [val_main_v75_apply, val_main_v55_apply]
  have e : idx_main_v55 (idx_main_v75 (ix3 b i x)) = ix4 b (ohead x) (olane x) i := funext fun a => Fin.ext <| by
    match a with
    | ⟨0, _⟩ => show ((b.val * 2048 + i.val) * 1024 + x.val) / 2097152 = b.val; omega
    | ⟨1, _⟩ => show ((b.val * 2048 + i.val) * 1024 + x.val) / 128 % 8 = x.val / 128; omega
    | ⟨2, _⟩ => show ((b.val * 2048 + i.val) * 1024 + x.val) % 128 = x.val % 128; omega
    | ⟨3, _⟩ => show ((b.val * 2048 + i.val) * 1024 + x.val) / 1024 % 2048 = i.val; omega
  rw [e, val_main_v54_apply]
  show _ = dv x0 x1 x3 b (ohead x) i (olane x)
  rw [dv]
  refine Finset.sum_congr rfl fun k _ => ?_
  rw [← v44_at, ← v52_at x3, mul_comm]
  exact congrArg₂ (fun p q => val_main_v44 (F := Ideal) x0 x1 p * val_main_v52 (F := Ideal) x3 q) (eq_ix4 _) (eq_ix4 _)

end Cert.ReferenceIdeal.Hand
-- ==== Proof.Cross.GradRef.lean ====
module

public import proofs.«01_k».proof.Proof.Cross.FwdRef
public import proofs.«01_k».proof.Proof.Ref
public import proofs.«01_k».proof.Proof.Gen.Reference21Ideal.Read

/- The gradient of the attention to the memory as its reference has it, read at an index. -/

@[expose] public section

noncomputable section

namespace Cert.Reference21Ideal.Hand

open Idealize.ShloMosaic hiding ix3 ix4 eq_ix3 eq_ix4
open Cert.Reference21Ideal Cert.Reference21Ideal.Read Idealize.ShloMosaic.ValueIdx Cert.Row Cert.Cross
open Cert.ReferenceIdeal.Hand (one_f32)
open scoped BigOperators

variable (x0 : (⟨S2x2048x512, .bf16⟩ : BufTy).Contents (Elt Ideal)) (x1 x2 : (⟨S2x256x512, .bf16⟩ : BufTy).Contents (Elt Ideal))
  (x3 : (⟨S2x2048x512, .f32⟩ : BufTy).Contents (Elt Ideal))
variable (b : Fin 2) (h : Fin 4) (i : Fin 2048) (j : Fin 256)

/-! ## What the forward attention has as well -/

theorem v3_at (c : Fin 128) : val_main_v3 (F := Ideal) x0 (ix4 b i h c) = x0 (ix3 b i (hcol h c)) := Reference22Ideal.Hand.v3_at x0 b h i c
theorem v4_at (c : Fin 128) : val_main_v4 (F := Ideal) x1 (ix4 b j h c) = x1 (ix3 b j (hcol h c)) := Reference22Ideal.Hand.v4_at x1 b h j c
theorem v5_at (c : Fin 128) : val_main_v5 (F := Ideal) x2 (ix4 b j h c) = x2 (ix3 b j (hcol h c)) := Reference22Ideal.Hand.v4_at x2 b h j c
theorem v29_at : val_main_v29 (F := Ideal) x0 x1 (ix4 b h i j) = ex (score x0 x1 b h i) j := Reference22Ideal.Hand.v15_at x0 x1 b h i j
theorem v31_at (z : Fin 1) : val_main_v31 (F := Ideal) x0 x1 (ix4 b h i z) = den (score x0 x1 b h i) := Reference22Ideal.Hand.v17_at x0 x1 b h i z
theorem v33_at : val_main_v33 (F := Ideal) x0 x1 (ix4 b h i j) = pr (score x0 x1 b h i) j := Reference22Ideal.Hand.v19_at x0 x1 b h i j

/-! ## The gradients of the probabilities and of the scores -/

theorem v41_at (c : Fin 128) : val_main_v41 (F := Ideal) x3 (ix4 b h c i) = x3 (ix3 b i (hcol h c)) := by
  rw [val_main_v41_apply]
  exact (congrArg (val_main_v3 (F := Ideal) x3) (eq_ix4 _)).trans (v3_at x3 b h i c)

theorem v42_at : val_main_v42 (F := Ideal) x2 x3 (ix4 b h i j) = gprob x2 x3 b h i j := by
  rw [val_main_v42_apply, gprob]
  refine Finset.sum_congr rfl fun c _ => ?_
  rw [← v41_at x3, ← v5_at x2]
  exact congrArg₂ (fun p q => val_main_v41 (F := Ideal) x3 p * val_main_v5 (F := Ideal) x2 q) (eq_ix4 _) (eq_ix4 _)

theorem v36_at (z : Fin 1) : val_main_v36 (F := Ideal) x0 x1 (ix4 b h i z)
    = Ideal.div 1 (den (score x0 x1 b h i) * den (score x0 x1 b h i)) := by
  rw [val_main_v36_apply, val_main_v35_apply, val_main_cst_9_apply, val_main_v34_apply, v31_at, Ideal.hostDivf_def]
  exact congrArg (Ideal.div · _) one_f32

theorem v47_at : val_main_v47 (F := Ideal) x0 x1 x2 x3 (ix4 b h i j)
    = gprob x2 x3 b h i j * Ideal.div 1 (den (score x0 x1 b h i) * den (score x0 x1 b h i)) * ex (score x0 x1 b h i) j := by
  rw [val_main_v47_apply, val_main_v46_apply, v42_at, v29_at, val_main_v45_apply]
  exact congrArg (fun z => _ * z * _) ((congrArg _ (eq_ix4 _)).trans (v36_at x0 x1 b h i 0))

theorem v48_at : val_main_v48 (F := Ideal) x0 x1 x2 x3 (ix3 b h i)
    = ∑ k, gprob x2 x3 b h i k * Ideal.div 1 (den (score x0 x1 b h i) * den (score x0 x1 b h i)) * ex (score x0 x1 b h i) k := by
  rw [val_main_v48_apply, show val_main_cst_10 (F := Ideal) (Shape.Idx.first Gen.h_S_) = 0 from Ideal.ofBits_zero_f32, zero_add]
  refine Finset.sum_congr rfl fun k _ => ?_
  rw [← v47_at]
  exact congrArg _ (eq_ix4 _)

theorem v53_at : val_main_v53 (F := Ideal) x0 x1 x2 x3 (ix3 b h i)
    = -∑ k, gprob x2 x3 b h i k * Ideal.div 1 (den (score x0 x1 b h i) * den (score x0 x1 b h i)) * ex (score x0 x1 b h i) k := by
  rw [val_main_v53_apply, show val_main_cst_11 (F := Ideal) (Shape.Idx.first Gen.h_S_) = 0 from Ideal.ofBits_zero_f32, zero_add, ← v48_at,
    Fin.sum_univ_one, val_main_v50_apply, val_main_v49_apply]
  refine congrArg (fun p => -val_main_v48 (F := Ideal) x0 x1 x2 x3 p) (funext fun a => Fin.ext ?_)
  match a with
  | ⟨0, _⟩ => show (((b.val * 4 + h.val) * 2048 + i.val) * 1 + 0) / 8192 = b.val; omega
  | ⟨1, _⟩ => show (((b.val * 4 + h.val) * 2048 + i.val) * 1 + 0) / 2048 % 4 = h.val; omega
  | ⟨2, _⟩ => show (((b.val * 4 + h.val) * 2048 + i.val) * 1 + 0) % 2048 = i.val; omega

theorem v56_at : val_main_v56 (F := Ideal) x0 x1 x2 x3 (ix4 b h i j)
    = (Ideal.div (gprob x2 x3 b h i j) (den (score x0 x1 b h i))
      + -∑ k, gprob x2 x3 b h i k * Ideal.div 1 (den (score x0 x1 b h i) * den (score x0 x1 b h i)) * ex (score x0 x1 b h i) k)
      * ex (score x0 x1 b h i) j := by
  rw [val_main_v56_apply, val_main_v55_apply, val_main_v52_apply, v42_at, v29_at, val_main_v51_apply, val_main_v54_apply, Ideal.hostDivf_def]
  exact congrArg₂ (fun p q => (Ideal.div _ p + q) * _) ((congrArg _ (eq_ix4 _)).trans (v31_at x0 x1 b h i 0))
    ((congrArg _ (eq_ix3 _)).trans (v53_at x0 x1 x2 x3 b h i))

variable (hR : Rows x0 x1)

include hR in
theorem v58_at : val_main_v58 (F := Ideal) x0 x1 x2 x3 (ix4 b h i j) = gscore x0 x1 x2 x3 b h i j := by
  rw [val_main_v58_apply, v56_at, val_main_v57_apply, val_main_cst_12_apply, gscore, ← quotient_rule fac _ _ (hR b h i)]
  rfl

/-! ## The three results -/

/-- Where a place of a result lies among the heads. -/
theorem of_key (x : Fin 512) : idx_main_v64 (ix3 b j x) = ix4 b j (head x) (lane x) := funext fun a => Fin.ext <| by
  match a with
  | ⟨0, _⟩ => show ((b.val * 256 + j.val) * 512 + x.val) / 131072 = b.val; omega
  | ⟨1, _⟩ => show ((b.val * 256 + j.val) * 512 + x.val) / 512 % 256 = j.val; omega
  | ⟨2, _⟩ => show ((b.val * 256 + j.val) * 512 + x.val) / 128 % 4 = x.val / 128; omega
  | ⟨3, _⟩ => show ((b.val * 256 + j.val) * 512 + x.val) % 128 = x.val % 128; omega

theorem of_row (x : Fin 512) : idx_main_v65 (ix3 b i x) = ix4 b i (head x) (lane x) := Reference22Ideal.Hand.of_row b i x
theorem of_val (x : Fin 512) : idx_main_v63 (ix3 b j x) = ix4 b j (head x) (lane x) := of_key b j x

include hR in
theorem q_eq : val_main_v65 (F := Ideal) x0 x1 x2 x3 = DQ x0 x1 x2 x3 := by
  funext y
  obtain ⟨b, i, x, rfl⟩ : ∃ (b : Fin 2) (i : Fin 2048) (x : Fin 512), y = ix3 b i x := ⟨y 0, y 1, y 2, eq_ix3 y⟩
  show _ = dq x0 x1 x2 x3 b (head x) i (lane x)
  rw [val_main_v65_apply, of_row, val_main_v62_apply, val_main_v61_apply, dq]
  refine Finset.sum_congr rfl fun k _ => ?_
  rw [← v58_at x0 x1 x2 x3 _ _ _ _ hR, ← v4_at x1]
  exact congrArg₂ (fun p q => val_main_v58 (F := Ideal) x0 x1 x2 x3 p * val_main_v4 (F := Ideal) x1 q) (eq_ix4 _) (eq_ix4 _)

include hR in
theorem k_eq : val_main_v64 (F := Ideal) x0 x1 x2 x3 = DK x0 x1 x2 x3 := by
  funext y
  obtain ⟨b, j, x, rfl⟩ : ∃ (b : Fin 2) (j : Fin 256) (x : Fin 512), y = ix3 b j x := ⟨y 0, y 1, y 2, eq_ix3 y⟩
  show _ = dk x0 x1 x2 x3 b (head x) j (lane x)
  rw [val_main_v64_apply, of_key, val_main_v60_apply, val_main_v59_apply, dk]
  refine Finset.sum_congr rfl fun k _ => ?_
  rw [← v58_at x0 x1 x2 x3 _ _ _ _ hR, ← v3_at x0]
  exact congrArg₂ (fun p q => val_main_v58 (F := Ideal) x0 x1 x2 x3 p * val_main_v3 (F := Ideal) x0 q) (eq_ix4 _) (eq_ix4 _)

theorem v_eq : val_main_v63 (F := Ideal) x0 x1 x3 = DV x0 x1 x3 := by
  funext y
  obtain ⟨b, j, x, rfl⟩ : ∃ (b : Fin 2) (j : Fin 256) (x : Fin 512), y = ix3 b j x := ⟨y 0, y 1, y 2, eq_ix3 y⟩
  show _ = dv x0 x1 x3 b (head x) j (lane x)
  rw [val_main_v63_apply, of_val, val_main_v44_apply, val_main_v43_apply, dv]
  refine Finset.sum_congr rfl fun k _ => ?_
  rw [← v33_at, ← v41_at x3, mul_comm]
  exact congrArg₂ (fun p q => val_main_v33 (F := Ideal) x0 x1 p * val_main_v41 (F := Ideal) x3 q) (eq_ix4 _) (eq_ix4 _)

end Cert.Reference21Ideal.Hand
-- ==== Proof.Cross.Claims.lean ====
module

public import proofs.«01_k».proof.Defs
public import proofs.«01_k».proof.Proof.Results
public import proofs.«01_k».proof.Proof.Cross.Fwd
public import proofs.«01_k».proof.Proof.Cross.FwdRef
public import proofs.«01_k».proof.Proof.Cross.Grad
public import proofs.«01_k».proof.Proof.Cross.GradRef
public import proofs.«01_k».proof.Proof.Ffn.Claims
public import proofs.«01_k».proof.Proof.Gen.Reference21Ideal.Run
public import proofs.«01_k».proof.Proof.Gen.Reference22Ideal.Run

/- The attention to the memory against its reference: its output and its gradients. -/

@[expose] public section

noncomputable section

namespace Cert.Cross

open Idealize.ShloMosaic Idealize.SL.Sem Cert

/-- The preconditions' side conditions. -/
theorem pre_grad_facts : Pre_finite_cross_qk.Facts := ⟨by decide, by decide, by decide⟩
theorem pre_fwd_facts : Pre_finite_cross_qk_forward.Facts := ⟨by decide, by decide, by decide⟩

/-- The gradients' reference ends quietly. -/
theorem frame_r : @quiescent_Reference21Ideal Reference21Ideal.Gen.facts := fun m g _ =>
  (θ_run Reference21Ideal.defs _ _).mono (fun r h => ⟨fun c => (h c).2.2.2, sem_eq_zero_of_no_sems rfl r.2⟩) (Reference21Ideal.Value.run (F := Ideal) m g)

/-- The gradients of the queries, keys and values are the reference's, for finite queries and keys. -/
theorem gradient : @algebraic_Kernel21Ideal_Reference21Ideal_pre_finite_cross_qk Kernel21Ideal.Gen.facts Reference21Ideal.Gen.facts pre_grad_facts := by
  intro m g m' g' hpre same
  have hR : ∀ c, Rows (Kernel21Ideal.Hand.A0 m c) (Kernel21Ideal.Hand.A1 m c) := fun c =>
    rows_of_real _ _ (fun y => Ffn.real_of_abs (congrFun (hpre c).1 y)) (fun y => Ffn.real_of_abs (congrFun (hpre c).2 y))
  refine ⟨fun c => DQ (Kernel21Ideal.Hand.A0 m c) (Kernel21Ideal.Hand.A1 m c) (Kernel21Ideal.Hand.A2 m c) (Kernel21Ideal.Hand.A3 m c),
    fun c => DK (Kernel21Ideal.Hand.A0 m c) (Kernel21Ideal.Hand.A1 m c) (Kernel21Ideal.Hand.A2 m c) (Kernel21Ideal.Hand.A3 m c),
    fun c => DV (Kernel21Ideal.Hand.A0 m c) (Kernel21Ideal.Hand.A1 m c) (Kernel21Ideal.Hand.A3 m c), ?_, ?_⟩
  · exact (θ_run Kernel21Ideal.defs _ _).mono (fun r h c => ⟨(h c).1.trans (Kernel21Ideal.Hand.final_q m c),
      (h c).2.1.trans (Kernel21Ideal.Hand.final_k m c), (h c).2.2.1.trans (Kernel21Ideal.Hand.final_v m c), (h c).2.2.2⟩)
      (Kernel21Ideal.Value.run_blocks (F := Ideal) m g)
  · refine (θ_run Reference21Ideal.defs _ _).mono (fun r h c => ?_) (Reference21Ideal.Value.run (F := Ideal) m' g')
    obtain ⟨e0, e1, e2, e3⟩ := same c
    refine ⟨(h c).1.trans ?_, (h c).2.1.trans ?_, (h c).2.2.1.trans ?_, (h c).2.2.2⟩
    · rw [Reference21Ideal.Read.val_main_v65_eq, e0, e1, e2, e3]
      exact Reference21Ideal.Hand.q_eq _ _ _ _ (hR c)
    · rw [Reference21Ideal.Read.val_main_v64_eq, e0, e1, e2, e3]
      exact Reference21Ideal.Hand.k_eq _ _ _ _ (hR c)
    · rw [Reference21Ideal.Read.val_main_v63_eq, e0, e1, e3]
      exact Reference21Ideal.Hand.v_eq _ _ _

/-- The output is the reference's, for finite queries and keys. -/
theorem output : @algebraic_Kernel22Ideal_Reference22Ideal_pre_finite_cross_qk_forward Kernel22Ideal.Gen.facts Reference22Ideal.Gen.facts pre_fwd_facts := fun m g m' g' hpre same =>
  ⟨fun c => O (Kernel22Ideal.Hand.A0 m c) (Kernel22Ideal.Hand.A1 m c) (Kernel22Ideal.Hand.A2 m c),
    result_is (Kernel22Ideal.Value.run_blocks (F := Ideal) m g) fun c => Kernel22Ideal.Hand.final m c <|
      rows_of_real _ _ (fun y => Ffn.real_of_abs (congrFun (hpre c).1 y)) (fun y => Ffn.real_of_abs (congrFun (hpre c).2 y)),
    result_is (Reference22Ideal.Value.run (F := Ideal) m' g') fun c => by
      obtain ⟨e0, e1, e2⟩ := same c
      rw [Reference22Ideal.Read.val_main_v23_eq, e0, e1, e2]
      exact Reference22Ideal.Hand.value_eq _ _ _⟩

end Cert.Cross
-- ==== Proof.Body.lean ====
module

public import proofs.«01_k».proof.Proof.Gen.KernelIdeal.Frame
public import proofs.«01_k».proof.Proof.Gen.KernelIdeal.Skeleton
public import Idealize.ShloMosaic.Lib.VecWindow

/- The attention gradient's body at one grid point, run: what its three output blocks hold afterwards, for each of the four numbers
   of key tiles a query tile attends to. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open VecWindow (window put)

variable {F : FTy → Type} [FloatOps F] [Named F]

local notation "𝕄" => MT nD τ sig Unit (Elt F) ℕ (UR sig nD τ) ℕ

/-! ## The first `kl` keys of a block -/

/-- The first 512 / 1024 / 1536 / 2048 keys (values) of a block of 2048. -/
def keys1 (x : Vec F S1x2048x256 .bf16) : Vec F S1x512x256 .bf16 := window x ![0, 0, 0] S1x512x256.size inb_S1x2048x256_S1x512x256_0_0_0
def keys2 (x : Vec F S1x2048x256 .bf16) : Vec F S1x1024x256 .bf16 := window x ![0, 0, 0] S1x1024x256.size inb_S1x2048x256_S1x1024x256_0_0_0
def keys3 (x : Vec F S1x2048x256 .bf16) : Vec F S1x1536x256 .bf16 := window x ![0, 0, 0] S1x1536x256.size inb_S1x2048x256_S1x1536x256_0_0_0
def vals1 (x : Vec F S1x2048x128 .bf16) : Vec F S1x512x128 .bf16 := window x ![0, 0, 0] S1x512x128.size inb_S1x2048x128_S1x512x128_0_0_0
def vals2 (x : Vec F S1x2048x128 .bf16) : Vec F S1x1024x128 .bf16 := window x ![0, 0, 0] S1x1024x128.size inb_S1x2048x128_S1x1024x128_0_0_0
def vals3 (x : Vec F S1x2048x128 .bf16) : Vec F S1x1536x128 .bf16 := window x ![0, 0, 0] S1x1536x128.size inb_S1x2048x128_S1x1536x128_0_0_0

/-! ## What a grid point leaves in the three output blocks -/

/-- The gradient of the query tile, when it attends to `n + 1` key tiles. -/
def dqOf (n : Fin 4) (x0 : Vec F S1x512x256 .bf16) (x1 : Vec F S1x2048x256 .bf16) (x2 : Vec F S1x2048x128 .bf16) (x3 : Vec F S1x512x128 .f32) : Vec F S1x512x256 .f32 :=
  match n with
  | 0 => k0_pay5 (k0_pay20 (keys1 x1)) (k0_pay21 (vals1 x2)) (k0_pay22 x0 (keys1 x1)) (k0_pay23 x3)
  | 1 => k0_pay9 (k0_pay26 (keys2 x1)) (k0_pay27 (vals2 x2)) (k0_pay28 x0 (keys2 x1)) (k0_pay29 x3)
  | 2 => k0_pay13 (k0_pay32 (keys3 x1)) (k0_pay33 (vals3 x2)) (k0_pay34 x0 (keys3 x1)) (k0_pay35 x3)
  | 3 => k0_pay17 (k0_pay38 x1) (k0_pay39 x2) (k0_pay40 x0 x1) (k0_pay41 x3)

/-- The keys' gradient block after the point, from what it held before (`d`; the first tile starts from zero). -/
def dkOf (n : Fin 4) (x0 : Vec F S1x512x256 .bf16) (x1 : Vec F S1x2048x256 .bf16) (x2 : Vec F S1x2048x128 .bf16) (x3 : Vec F S1x512x128 .f32) (d : Vec F S1x2048x256 .f32) : Vec F S1x2048x256 .f32 :=
  match n with
  | 0 => put k0_pay1 ![0, 0, 0] S1x512x256.size
      (k0_pay6 (k0_pay19 x0) (k0_pay21 (vals1 x2)) (k0_pay22 x0 (keys1 x1)) (k0_pay23 x3) (window k0_pay1 ![0, 0, 0] S1x512x256.size inb_S1x2048x256_S1x512x256_0_0_0))
  | 1 => put d ![0, 0, 0] S1x1024x256.size
      (k0_pay10 (k0_pay25 x0) (k0_pay27 (vals2 x2)) (k0_pay28 x0 (keys2 x1)) (k0_pay29 x3) (window d ![0, 0, 0] S1x1024x256.size inb_S1x2048x256_S1x1024x256_0_0_0))
  | 2 => put d ![0, 0, 0] S1x1536x256.size
      (k0_pay14 (k0_pay31 x0) (k0_pay33 (vals3 x2)) (k0_pay34 x0 (keys3 x1)) (k0_pay35 x3) (window d ![0, 0, 0] S1x1536x256.size inb_S1x2048x256_S1x1536x256_0_0_0))
  | 3 => k0_pay18 (k0_pay37 x0) (k0_pay39 x2) (k0_pay40 x0 x1) (k0_pay41 x3) d

/-- The values' gradient block after the point, likewise. -/
def dvOf (n : Fin 4) (x0 : Vec F S1x512x256 .bf16) (x1 : Vec F S1x2048x256 .bf16) (x3 : Vec F S1x512x128 .f32) (d : Vec F S1x2048x128 .f32) : Vec F S1x2048x128 .f32 :=
  match n with
  | 0 => put k0_pay2 ![0, 0, 0] S1x512x128.size
      (k0_pay3 (k0_pay24 x0 (keys1 x1) x3 (window k0_pay2 ![0, 0, 0] S1x512x128.size inb_S1x2048x128_S1x512x128_0_0_0)))
  | 1 => put d ![0, 0, 0] S1x1024x128.size
      (k0_pay7 (k0_pay30 x0 (keys2 x1) x3 (window d ![0, 0, 0] S1x1024x128.size inb_S1x2048x128_S1x1024x128_0_0_0)))
  | 2 => put d ![0, 0, 0] S1x1536x128.size
      (k0_pay11 (k0_pay36 x0 (keys3 x1) x3 (window d ![0, 0, 0] S1x1536x128.size inb_S1x2048x128_S1x1536x128_0_0_0)))
  | 3 => k0_pay15 (k0_pay42 x0 x1 x3 d)

/-! ## Reading the buffers -/

/-- A load of a window, as the window of what the buffer reads. -/
theorem readAt_window {sh : Shape} {e : EltTy} (v : View sig .tc .vmem sh e) (f : v.ty.Contents (Elt F)) {off size : Fin sh.rank → ℕ} (inb : ∀ a, off a + size a ≤ sh.size a) :
    v.readAt (Elt F) (Rect.unit off size inb).toLoadRect f = window (v.read (Elt F) f) off size inb := View.readAt_unit v f inb rfl inb

/-- One store at a window puts its payload there. -/
theorem read_store {sh : Shape} {e : EltTy} (v : View sig .tc .vmem sh e) (f : v.ty.Contents (Elt F)) {off size : Fin sh.rank → ℕ} (inb : ∀ a, off a + size a ≤ sh.size a)
    (w : (Rect.unit off size inb).shape.Idx → Elt F e) (L : List (View.Piece (Elt F) sh e)) :
    v.read (Elt F) (v.writes (Elt F) f (⟨Rect.unit off size inb, w⟩ :: L)) = put (v.read (Elt F) (v.writes (Elt F) f L)) off size w := View.read_writes_cons_put v f inb w L rfl

/-- A load of a window after stores that leave the whole buffer at `x`. -/
theorem readCov_window {sh : Shape} {e : EltTy} (v : View sig .tc .vmem sh e) {off size : Fin sh.rank → ℕ} (inb : ∀ a, off a + size a ≤ sh.size a)
    {x : sh.Idx → Elt F e} (L : List (View.Piece (Elt F) sh e)) (h : ∀ g, v.read (Elt F) (v.writes (Elt F) g L) = x) :
    v.readCov L (Rect.unit off size inb).toLoadRect = window x off size inb := by
  unfold View.readCov; rw [readAt_window, h]

/-- The two buffers after the store of zeros. -/
theorem zero_k (arg8 : Memref sig .tc .vmem S1x2048x256 .f32) (g) :
    View.read (Elt F) arg8.view (arg8.view.writes (Elt F) g [⟨Rect.unit ![0, 0, 0] S1x2048x256.size inb_S1x2048x256_S1x2048x256_0_0_0, k0_pay1⟩]) = k0_pay1 :=
  View.read_writes_full _ _ _ _ _
theorem zero_v (arg9 : Memref sig .tc .vmem S1x2048x128 .f32) (g) :
    View.read (Elt F) arg9.view (arg9.view.writes (Elt F) g [⟨Rect.unit ![0, 0, 0] S1x2048x128.size inb_S1x2048x128_S1x2048x128_0_0_0, k0_pay2⟩]) = k0_pay2 :=
  View.read_writes_full _ _ _ _ _
theorem zero_k_window (arg8 : Memref sig .tc .vmem S1x2048x256 .f32) :
    arg8.view.readCov (Val := Elt F) [⟨Rect.unit ![0, 0, 0] S1x2048x256.size inb_S1x2048x256_S1x2048x256_0_0_0, k0_pay1⟩] (Rect.unit (s := S1x2048x256) ![0, 0, 0] S1x512x256.size inb_S1x2048x256_S1x512x256_0_0_0).toLoadRect
      = window (k0_pay1 (F := F)) ![0, 0, 0] S1x512x256.size inb_S1x2048x256_S1x512x256_0_0_0 :=
  readCov_window arg8.view inb_S1x2048x256_S1x512x256_0_0_0 _ (zero_k arg8)
theorem zero_v_window (arg9 : Memref sig .tc .vmem S1x2048x128 .f32) :
    arg9.view.readCov (Val := Elt F) [⟨Rect.unit ![0, 0, 0] S1x2048x128.size inb_S1x2048x128_S1x2048x128_0_0_0, k0_pay2⟩] (Rect.unit (s := S1x2048x128) ![0, 0, 0] S1x512x128.size inb_S1x2048x128_S1x512x128_0_0_0).toLoadRect
      = window (k0_pay2 (F := F)) ![0, 0, 0] S1x512x128.size inb_S1x2048x128_S1x512x128_0_0_0 :=
  readCov_window arg9.view inb_S1x2048x128_S1x512x128_0_0_0 _ (zero_v arg9)

/-! ## The runs -/

section
variable (c : Dev nD) (i : grid0.Coords)
  (arg3 : Memref sig .tc .vmem S1x512x256 .bf16) (harg3 : arg3.IsWhole) (arg4 : Memref sig .tc .vmem S1x2048x256 .bf16) (harg4 : arg4.IsWhole)
  (arg5 : Memref sig .tc .vmem S1x2048x128 .bf16) (harg5 : arg5.IsWhole) (arg6 : Memref sig .tc .vmem S1x512x128 .f32) (harg6 : arg6.IsWhole)
  (arg7 : Memref sig .tc .vmem S1x512x256 .f32) (harg7 : arg7.IsWhole) (arg8 : Memref sig .tc .vmem S1x2048x256 .f32) (harg8 : arg8.IsWhole)
  (arg9 : Memref sig .tc .vmem S1x2048x128 .f32) (harg9 : arg9.IsWhole)

/-- The body at grid point `i`, with `n + 1` key tiles, leaves the inputs as they are and the outputs at `dqOf`, `dkOf`, `dvOf`. -/
def Runs (n : Fin 4) : Prop :=
  ∀ (x0 : Vec F S1x512x256 .bf16) (x1 : Vec F S1x2048x256 .bf16) (x2 : Vec F S1x2048x128 .bf16) (x3 : Vec F S1x512x128 .f32)
    (d5 : Vec F S1x2048x256 .f32) (d6 : Vec F S1x2048x128 .f32) (E : Set ℕ) (K : PUnit → sProp 𝕄),
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ owns (c : Thread nD τ) arg8 fullShare d5 ∗ owns (c : Thread nD τ) arg9 fullShare d6
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (dqOf n x0 x1 x2 x3) ∗ owns (c : Thread nD τ) arg8 fullShare (dkOf n x0 x1 x2 x3 d5) ∗ owns (c : Thread nD τ) arg9 fullShare (dvOf n x0 x1 x3 d6)) -∗ K ⟨⟩))
      ⊢ wp frame (wpE (defs₀ (F := F)) Variants.none c none) E (cc0_mla_attn i arg3 harg3 arg4 harg4 arg5 harg5 arg6 harg6 arg7 harg7 arg8 harg8 arg9 harg9) K

set_option maxHeartbeats 1000000 in
theorem run_0 (hc0 : k0_cond1 i = 1#1) (hc1 : k0_cond2 i = 1#1) (hc2 : ¬k0_cond3 i = 1#1) (hc3 : ¬k0_cond4 i = 1#1) (hc4 : ¬k0_cond5 i = 1#1) :
    Runs (F := F) c i arg3 harg3 arg4 harg4 arg5 harg5 arg6 harg6 arg7 harg7 arg8 harg8 arg9 harg9 0 := by
  intro x0 x1 x2 x3 d5 d6 E K
  simp only [cc0_mla_attn_eq_skeleton]; unfold cc0_mla_attn_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  sl_exec (disch := first | sl_exact hc0 | sl_exact hc1 | sl_exact hc2 | sl_exact hc3 | sl_exact hc4)
  sl_step
  iapply Hk
  isplitl [H0]; · (iexists _; isplitr; swap; · iexact H0); ipureintro; exact hf0
  isplitl [H1]; · (iexists _; isplitr; swap; · iexact H1); ipureintro; exact hf1
  isplitl [H2]; · (iexists _; isplitr; swap; · iexact H2); ipureintro; exact hf2
  isplitl [H3]; · (iexists _; isplitr; swap; · iexact H3); ipureintro; exact hf3
  have l0 : View.readAt (Elt F) arg3.view (Rect.unit ![0, 0, 0] S1x512x256.size inb_S1x512x256_S1x512x256_0_0_0).toLoadRect f0 = x0 := (View.readAt_full _ _ _).trans hf0
  have l3 : View.readAt (Elt F) arg6.view (Rect.unit ![0, 0, 0] S1x512x128.size inb_S1x512x128_S1x512x128_0_0_0).toLoadRect f3 = x3 := (View.readAt_full _ _ _).trans hf3
  have z5 := zero_k (F := F) arg8
  have c5 := zero_k_window (F := F) arg8
  have z6 := zero_v (F := F) arg9
  have c6 := zero_v_window (F := F) arg9
  sl_unfold_words
  isplitl [H4]
  · (iexists _; isplitr; swap; · iexact H4)
    ipureintro
    refine (View.read_writes_full _ _ _ _ _).trans ?_
    rw [l0, l3]
    subst hf1 hf2; rfl
  isplitl [H5]
  · (iexists _; isplitr; swap; · iexact H5)
    ipureintro
    refine (read_store _ _ _ _ _).trans ?_
    rw [l0, l3, z5, c5]
    subst hf1 hf2; rfl
  (iexists _; isplitr; swap; · iexact H6)
  ipureintro
  refine (read_store _ _ _ _ _).trans ?_
  rw [l0, l3, z6, c6]
  subst hf1 hf2; rfl

set_option maxHeartbeats 1000000 in
theorem run_1 (hc0 : ¬k0_cond1 i = 1#1) (hc1 : ¬k0_cond2 i = 1#1) (hc2 : k0_cond3 i = 1#1) (hc3 : ¬k0_cond4 i = 1#1) (hc4 : ¬k0_cond5 i = 1#1) :
    Runs (F := F) c i arg3 harg3 arg4 harg4 arg5 harg5 arg6 harg6 arg7 harg7 arg8 harg8 arg9 harg9 1 := by
  intro x0 x1 x2 x3 d5 d6 E K
  simp only [cc0_mla_attn_eq_skeleton]; unfold cc0_mla_attn_skel
  simp only [k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  sl_exec (disch := first | sl_exact hc0 | sl_exact hc1 | sl_exact hc2 | sl_exact hc3 | sl_exact hc4)
  sl_step
  iapply Hk
  isplitl [H0]; · (iexists _; isplitr; swap; · iexact H0); ipureintro; exact hf0
  isplitl [H1]; · (iexists _; isplitr; swap; · iexact H1); ipureintro; exact hf1
  isplitl [H2]; · (iexists _; isplitr; swap; · iexact H2); ipureintro; exact hf2
  isplitl [H3]; · (iexists _; isplitr; swap; · iexact H3); ipureintro; exact hf3
  have l0 : View.readAt (Elt F) arg3.view (Rect.unit ![0, 0, 0] S1x512x256.size inb_S1x512x256_S1x512x256_0_0_0).toLoadRect f0 = x0 := (View.readAt_full _ _ _).trans hf0
  have l3 : View.readAt (Elt F) arg6.view (Rect.unit ![0, 0, 0] S1x512x128.size inb_S1x512x128_S1x512x128_0_0_0).toLoadRect f3 = x3 := (View.readAt_full _ _ _).trans hf3

  sl_unfold_words
  isplitl [H4]
  · (iexists _; isplitr; swap; · iexact H4)
    ipureintro
    refine (View.read_writes_full _ _ _ _ _).trans ?_
    rw [l0, l3]
    subst hf1 hf2 hf5 hf6; rfl
  isplitl [H5]
  · (iexists _; isplitr; swap; · iexact H5)
    ipureintro
    refine (read_store _ _ _ _ _).trans ?_
    rw [l0, l3]
    subst hf1 hf2 hf5 hf6; rfl
  (iexists _; isplitr; swap; · iexact H6)
  ipureintro
  refine (read_store _ _ _ _ _).trans ?_
  rw [l0, l3]
  subst hf1 hf2 hf5 hf6; rfl

set_option maxHeartbeats 1000000 in
theorem run_2 (hc0 : ¬k0_cond1 i = 1#1) (hc1 : ¬k0_cond2 i = 1#1) (hc2 : ¬k0_cond3 i = 1#1) (hc3 : k0_cond4 i = 1#1) (hc4 : ¬k0_cond5 i = 1#1) :
    Runs (F := F) c i arg3 harg3 arg4 harg4 arg5 harg5 arg6 harg6 arg7 harg7 arg8 harg8 arg9 harg9 2 := by
  intro x0 x1 x2 x3 d5 d6 E K
  simp only [cc0_mla_attn_eq_skeleton]; unfold cc0_mla_attn_skel
  simp only [k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  sl_exec (disch := first | sl_exact hc0 | sl_exact hc1 | sl_exact hc2 | sl_exact hc3 | sl_exact hc4)
  sl_step
  iapply Hk
  isplitl [H0]; · (iexists _; isplitr; swap; · iexact H0); ipureintro; exact hf0
  isplitl [H1]; · (iexists _; isplitr; swap; · iexact H1); ipureintro; exact hf1
  isplitl [H2]; · (iexists _; isplitr; swap; · iexact H2); ipureintro; exact hf2
  isplitl [H3]; · (iexists _; isplitr; swap; · iexact H3); ipureintro; exact hf3
  have l0 : View.readAt (Elt F) arg3.view (Rect.unit ![0, 0, 0] S1x512x256.size inb_S1x512x256_S1x512x256_0_0_0).toLoadRect f0 = x0 := (View.readAt_full _ _ _).trans hf0
  have l3 : View.readAt (Elt F) arg6.view (Rect.unit ![0, 0, 0] S1x512x128.size inb_S1x512x128_S1x512x128_0_0_0).toLoadRect f3 = x3 := (View.readAt_full _ _ _).trans hf3

  sl_unfold_words
  isplitl [H4]
  · (iexists _; isplitr; swap; · iexact H4)
    ipureintro
    refine (View.read_writes_full _ _ _ _ _).trans ?_
    rw [l0, l3]
    subst hf1 hf2 hf5 hf6; rfl
  isplitl [H5]
  · (iexists _; isplitr; swap; · iexact H5)
    ipureintro
    refine (read_store _ _ _ _ _).trans ?_
    rw [l0, l3]
    subst hf1 hf2 hf5 hf6; rfl
  (iexists _; isplitr; swap; · iexact H6)
  ipureintro
  refine (read_store _ _ _ _ _).trans ?_
  rw [l0, l3]
  subst hf1 hf2 hf5 hf6; rfl

set_option maxHeartbeats 1000000 in
theorem run_3 (hc0 : ¬k0_cond1 i = 1#1) (hc1 : ¬k0_cond2 i = 1#1) (hc2 : ¬k0_cond3 i = 1#1) (hc3 : ¬k0_cond4 i = 1#1) (hc4 : k0_cond5 i = 1#1) :
    Runs (F := F) c i arg3 harg3 arg4 harg4 arg5 harg5 arg6 harg6 arg7 harg7 arg8 harg8 arg9 harg9 3 := by
  intro x0 x1 x2 x3 d5 d6 E K
  simp only [cc0_mla_attn_eq_skeleton]; unfold cc0_mla_attn_skel
  simp only [k0_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  sl_exec (disch := first | sl_exact hc0 | sl_exact hc1 | sl_exact hc2 | sl_exact hc3 | sl_exact hc4)
  sl_step
  iapply Hk
  isplitl [H0]; · (iexists _; isplitr; swap; · iexact H0); ipureintro; exact hf0
  isplitl [H1]; · (iexists _; isplitr; swap; · iexact H1); ipureintro; exact hf1
  isplitl [H2]; · (iexists _; isplitr; swap; · iexact H2); ipureintro; exact hf2
  isplitl [H3]; · (iexists _; isplitr; swap; · iexact H3); ipureintro; exact hf3
  have l0 : View.readAt (Elt F) arg3.view (Rect.unit ![0, 0, 0] S1x512x256.size inb_S1x512x256_S1x512x256_0_0_0).toLoadRect f0 = x0 := (View.readAt_full _ _ _).trans hf0
  have l3 : View.readAt (Elt F) arg6.view (Rect.unit ![0, 0, 0] S1x512x128.size inb_S1x512x128_S1x512x128_0_0_0).toLoadRect f3 = x3 := (View.readAt_full _ _ _).trans hf3
  have l1 : View.readAt (Elt F) arg4.view (Rect.unit ![0, 0, 0] S1x2048x256.size inb_S1x2048x256_S1x2048x256_0_0_0).toLoadRect f1 = x1 := (View.readAt_full _ _ _).trans hf1
  have l2 : View.readAt (Elt F) arg5.view (Rect.unit ![0, 0, 0] S1x2048x128.size inb_S1x2048x128_S1x2048x128_0_0_0).toLoadRect f2 = x2 := (View.readAt_full _ _ _).trans hf2
  have l5 : View.readAt (Elt F) arg8.view (Rect.unit ![0, 0, 0] S1x2048x256.size inb_S1x2048x256_S1x2048x256_0_0_0).toLoadRect f5 = d5 := (View.readAt_full _ _ _).trans hf5
  have l6 : View.readAt (Elt F) arg9.view (Rect.unit ![0, 0, 0] S1x2048x128.size inb_S1x2048x128_S1x2048x128_0_0_0).toLoadRect f6 = d6 := (View.readAt_full _ _ _).trans hf6
  sl_unfold_words
  isplitl [H4]
  · (iexists _; isplitr; swap; · iexact H4)
    ipureintro
    refine (View.read_writes_full _ _ _ _ _).trans ?_
    rw [l0, l3, l1, l2]
    rfl
  isplitl [H5]
  · (iexists _; isplitr; swap; · iexact H5)
    ipureintro
    refine (View.read_writes_full _ _ _ _ _).trans ?_
    rw [l0, l3, l1, l2, l5]
    rfl
  (iexists _; isplitr; swap; · iexact H6)
  ipureintro
  refine (View.read_writes_full _ _ _ _ _).trans ?_
  rw [l0, l3, l1, l6]
  rfl

end

end Cert.KernelIdeal.Hand

end
-- ==== Proof.Blocks.lean ====
module

public import proofs.«01_k».proof.Proof.Tile
public import proofs.«01_k».proof.Proof.Body
public import Idealize.ShloMosaic.Lib.VecWindow

/- What a grid point leaves in its three output blocks, index by index. -/

@[expose] public section

set_option maxRecDepth 16384

noncomputable section

namespace Cert.Tile

open Idealize.ShloMosaic Idealize.ShloMosaic.ValueIdx Cert.Row
open VecWindow (window put)
open scoped BigOperators

/-- What the shapes of a tile with `K` keys have to satisfy. -/
structure Ev (K : ℕ) : Prop where
  i0 : (⟨2, ![512, K]⟩ : Shape).Iotas .tc 32 [0]
  i1 : (⟨2, ![512, K]⟩ : Shape).Iotas .tc 32 [1]
  red : (⟨2, ![512, K]⟩ : Shape).Reduces [1] ⟨1, ![512]⟩
  rep : (⟨2, ![512, 1]⟩ : Shape).Broadcasts ⟨2, ![512, K]⟩
  col : (⟨1, ![512]⟩ : Shape).ShapeCasts ⟨2, ![512, 1]⟩
  q : (⟨3, ![1, 512, 256]⟩ : Shape).ShapeCasts ⟨2, ![512, 256]⟩
  q' : (⟨2, ![512, 256]⟩ : Shape).ShapeCasts ⟨3, ![1, 512, 256]⟩
  o : (⟨3, ![1, 512, 128]⟩ : Shape).ShapeCasts ⟨2, ![512, 128]⟩
  k : (⟨3, ![1, K, 256]⟩ : Shape).ShapeCasts ⟨2, ![K, 256]⟩
  k' : (⟨2, ![K, 256]⟩ : Shape).ShapeCasts ⟨3, ![1, K, 256]⟩
  v : (⟨3, ![1, K, 128]⟩ : Shape).ShapeCasts ⟨2, ![K, 128]⟩
  v' : (⟨2, ![K, 128]⟩ : Shape).ShapeCasts ⟨3, ![1, K, 128]⟩
  le : K ≤ 2048

section
variable {K : ℕ} (e : Ev K) (r0 : ℕ) (mk : Ideal .f32)
  (x0 : FVec Ideal ⟨3, ![1, 512, 256]⟩ .bf16) (k : FVec Ideal ⟨3, ![1, K, 256]⟩ .bf16) (v : FVec Ideal ⟨3, ![1, K, 128]⟩ .bf16)
  (x3 : FVec Ideal ⟨3, ![1, 512, 128]⟩ .f32)

/-- The tile's probabilities. -/
def tP : FVec Ideal ⟨2, ![512, K]⟩ .f32 :=
  probs e.red e.col e.rep (scores (BitVec.ofNat 32 r0) mk e.i0 e.i1 (shapeCast ⟨2, ![512, 256]⟩ x0 e.q) (shapeCast ⟨2, ![K, 256]⟩ k e.k))

/-- The output's gradient. -/
def tO : FVec Ideal ⟨2, ![512, 128]⟩ .bf16 := truncf .bf16 (shapeCast ⟨2, ![512, 128]⟩ x3 e.o) (by decide)

/-- The gradient of the tile's scores. -/
def tS : FVec Ideal ⟨2, ![512, K]⟩ .bf16 :=
  dscores e.red e.col e.rep (tP e r0 mk x0 k) (dprobs (shapeCast ⟨2, ![K, 128]⟩ v e.v) (tO e x3))

/-- The gradient of the queries. -/
def tQ : FVec Ideal ⟨3, ![1, 512, 256]⟩ .f32 :=
  shapeCast ⟨3, ![1, 512, 256]⟩ (matmul (DotDims.plain 512 K 256) none (tS e r0 mk x0 k v x3) (shapeCast ⟨2, ![K, 256]⟩ k e.k)
    (constant ⟨2, ![512, 256]⟩ .f32 0x00000000#32)) e.q'

/-- The gradient of the keys, added to `d`. -/
def tK (d : FVec Ideal ⟨3, ![1, K, 256]⟩ .f32) : FVec Ideal ⟨3, ![1, K, 256]⟩ .f32 :=
  shapeCast ⟨3, ![1, K, 256]⟩ (addf (shapeCast ⟨2, ![K, 256]⟩ d e.k) (matmul (firsts 512 K 256) none (tS e r0 mk x0 k v x3)
    (shapeCast ⟨2, ![512, 256]⟩ x0 e.q) (constant ⟨2, ![K, 256]⟩ .f32 0x00000000#32))) e.k'

/-- The gradient of the values, added to `d`. -/
def tV (d : FVec Ideal ⟨3, ![1, K, 128]⟩ .f32) : FVec Ideal ⟨3, ![1, K, 128]⟩ .f32 :=
  shapeCast ⟨3, ![1, K, 128]⟩ (addf (shapeCast ⟨2, ![K, 128]⟩ d e.v) (matmul (firsts 512 K 128) none
    (truncf .bf16 (tP e r0 mk x0 k) (by decide)) (tO e x3) (constant ⟨2, ![K, 128]⟩ .f32 0x00000000#32))) e.v'

end

/-! ## The same, over all 2048 keys -/

/-- Row `r`'s masked scores, `r0` rows lying before the tile. -/
def S (r0 : ℕ) (x0 : FVec Ideal ⟨3, ![1, 512, 256]⟩ .bf16) (x1 : FVec Ideal ⟨3, ![1, 2048, 256]⟩ .bf16) (r : Fin 512) (j : Fin 2048) : EReal :=
  if j.val ≤ r0 + r.val then (∑ c : Fin 256, x0 (ix3 (0 : Fin 1) r c) * x1 (ix3 (0 : Fin 1) j c)) * sc else ⊥

/-- The gradient of row `r`'s probabilities. -/
def G (x2 : FVec Ideal ⟨3, ![1, 2048, 128]⟩ .bf16) (x3 : FVec Ideal ⟨3, ![1, 512, 128]⟩ .f32) (r : Fin 512) (j : Fin 2048) : EReal :=
  ∑ c : Fin 128, x3 (ix3 (0 : Fin 1) r c) * x2 (ix3 (0 : Fin 1) j c)

section
variable {K : ℕ} (e : Ev K) (r0 : ℕ) (hr0 : r0 ≤ 1536) (hK : r0 + 512 ≤ K)
  (x0 : FVec Ideal ⟨3, ![1, 512, 256]⟩ .bf16) (k : FVec Ideal ⟨3, ![1, K, 256]⟩ .bf16) (v : FVec Ideal ⟨3, ![1, K, 128]⟩ .bf16)
  (x1 : FVec Ideal ⟨3, ![1, 2048, 256]⟩ .bf16) (x2 : FVec Ideal ⟨3, ![1, 2048, 128]⟩ .bf16)
  (x3 : FVec Ideal ⟨3, ![1, 512, 128]⟩ .f32)
  (hk : ∀ (j : Fin K) (c : Fin 256), k (ix3 (0 : Fin 1) j c) = x1 (ix3 (0 : Fin 1) (j.castLE e.le) c))
  (hv : ∀ (j : Fin K) (c : Fin 128), v (ix3 (0 : Fin 1) j c) = x2 (ix3 (0 : Fin 1) (j.castLE e.le) c))

include hK in
theorem S_beyond (r : Fin 512) (j : Fin 2048) (hj : K ≤ j.val) : S r0 x0 x1 r j = ⊥ :=
  if_neg (by have := r.isLt; omega)

include hr0 hk in
theorem scores_row (r : Fin 512) : (fun j => scores (BitVec.ofNat 32 r0) ⊥ e.i0 e.i1 (shapeCast ⟨2, ![512, 256]⟩ x0 e.q)
    (shapeCast ⟨2, ![K, 256]⟩ k e.k) (ix2 r j)) = fun j : Fin K => S r0 x0 x1 r (j.castLE e.le) := by
  funext j
  rw [scores_at r0 hr0 e.le, S]
  refine if_congr Iff.rfl (congrArg (· * sc) (Finset.sum_congr rfl fun c _ => ?_)) rfl
  rw [dropUnit_at, dropUnit_at, hk]

include hr0 hK hk in
theorem tP_at (r : Fin 512) (j : Fin K) : tP e r0 ⊥ x0 k (ix2 r j) = pr (S r0 x0 x1 r) (j.castLE e.le) := by
  rw [tP, probs_at, scores_row e r0 hr0 x0 k x1 hk]
  exact pr_prefix e.le _ (S_beyond r0 hK x0 x1 r) j

theorem tO_at (r : Fin 512) (c : Fin 128) : tO e x3 (ix2 r c) = x3 (ix3 (0 : Fin 1) r c) :=
  dropUnit_at x3 e.o r c

include hr0 hK hk hv in
theorem tS_at (r : Fin 512) (hg : Good (S r0 x0 x1 r)) (j : Fin K) :
    tS e r0 ⊥ x0 k v x3 (ix2 r j) = ds sc (S r0 x0 x1 r) (G x2 x3 r) (j.castLE e.le) := by
  rw [tS, tP, dscores_at e.red e.col e.rep _ _ _ r j fun j => probs_at e.red e.col e.rep _ r j, scores_row e r0 hr0 x0 k x1 hk,
    show (fun j => dprobs (shapeCast ⟨2, ![K, 128]⟩ v e.v) (tO e x3) (ix2 r j)) = fun j : Fin K => G x2 x3 r (j.castLE e.le) from
      funext fun j => by
        rw [dprobs_at, G]
        exact Finset.sum_congr rfl fun c _ => by rw [tO_at, dropUnit_at, hv]]
  exact ds_prefix e.le sc _ _ hg (S_beyond r0 hK x0 x1 r) j

include hr0 hK hk hv in
theorem tQ_at (hg : ∀ r, Good (S r0 x0 x1 r)) (z : Fin 1) (r : Fin 512) (c : Fin 256) :
    tQ e r0 ⊥ x0 k v x3 (ix3 z r c) = ∑ j : Fin 2048, ds sc (S r0 x0 x1 r) (G x2 x3 r) j * x1 (ix3 (0 : Fin 1) j c) := by
  rw [tQ, addUnit_at, plain_at, sum_prefix e.le (fun j => ds sc (S r0 x0 x1 r) (G x2 x3 r) j * x1 (ix3 (0 : Fin 1) j c)) fun j hj => by
    rw [ds_masked _ _ _ (hg r) j (S_beyond r0 hK x0 x1 r j hj), zero_mul]]
  exact Finset.sum_congr rfl fun j _ => by rw [tS_at e r0 hr0 hK x0 k v x1 x2 x3 hk hv r (hg r), dropUnit_at, hk]

include hr0 hK hk hv in
theorem tK_at (hg : ∀ r, Good (S r0 x0 x1 r)) (d : FVec Ideal ⟨3, ![1, K, 256]⟩ .f32) (z : Fin 1) (j : Fin K) (c : Fin 256) :
    tK e r0 ⊥ x0 k v x3 d (ix3 z j c) = d (ix3 (0 : Fin 1) j c)
      + ∑ r : Fin 512, ds sc (S r0 x0 x1 r) (G x2 x3 r) (j.castLE e.le) * x0 (ix3 (0 : Fin 1) r c) := by
  rw [tK, addFirsts_at]
  exact congrArg (_ + ·) (Finset.sum_congr rfl fun r _ => by rw [tS_at e r0 hr0 hK x0 k v x1 x2 x3 hk hv r (hg r), dropUnit_at])

include hr0 hK hk in
theorem tV_at (d : FVec Ideal ⟨3, ![1, K, 128]⟩ .f32) (z : Fin 1) (j : Fin K) (c : Fin 128) :
    tV e r0 ⊥ x0 k x3 d (ix3 z j c) = d (ix3 (0 : Fin 1) j c)
      + ∑ r : Fin 512, pr (S r0 x0 x1 r) (j.castLE e.le) * x3 (ix3 (0 : Fin 1) r c) := by
  rw [tV, addFirsts_at]
  refine congrArg (_ + ·) (Finset.sum_congr rfl fun r _ => ?_)
  rw [tO_at]
  exact congrArg (· * _) (tP_at e r0 hr0 hK x0 k x1 hk r j)

/-! ## The first `K` rows of a block, rewritten -/

theorem window_at {N : ℕ} {α : Type} (d : (⟨3, ![1, 2048, N]⟩ : Shape).Idx → α)
    (inb : ∀ a, (![0, 0, 0] : Fin 3 → ℕ) a + (![1, K, N] : Fin 3 → ℕ) a ≤ (⟨3, ![1, 2048, N]⟩ : Shape).size a) (h : K ≤ 2048) (z : Fin 1) (j : Fin K) (c : Fin N) :
    window d ![0, 0, 0] ![1, K, N] inb (ix3 z j c) = d (ix3 z (j.castLE h) c) := by
  refine congrArg d (funext fun a => Fin.ext ?_)
  match a with
  | ⟨0, _⟩ => show 0 + 1 * z.val = z.val; omega
  | ⟨1, _⟩ => show 0 + 1 * j.val = j.val; omega
  | ⟨2, _⟩ => show 0 + 1 * c.val = c.val; omega

theorem put_at_lt {N : ℕ} {α : Type} (d : (⟨3, ![1, 2048, N]⟩ : Shape).Idx → α) (w : (⟨3, ![1, K, N]⟩ : Shape).Idx → α)
    (z : Fin 1) (j : Fin 2048) (c : Fin N) (hj : j.val < K) :
    put (s := ⟨3, ![1, 2048, N]⟩) d ![0, 0, 0] ![1, K, N] w (ix3 z j c) = w (ix3 z (⟨j.val, hj⟩ : Fin K) c) := by
  have h : ∀ a : Fin 3, (![0, 0, 0] : Fin 3 → ℕ) a ≤ (ix3 z j c a).val ∧ (ix3 z j c a).val < (![0, 0, 0] : Fin 3 → ℕ) a + (![1, K, N] : Fin 3 → ℕ) a := by
    intro a
    match a with
    | ⟨0, _⟩ => exact ⟨Nat.zero_le _, by show z.val < 0 + 1; omega⟩
    | ⟨1, _⟩ => exact ⟨Nat.zero_le _, by show j.val < 0 + K; omega⟩
    | ⟨2, _⟩ => exact ⟨Nat.zero_le _, by show c.val < 0 + N; omega⟩
  refine (dif_pos h).trans (congrArg w (funext fun a => Fin.ext ?_))
  match a with
  | ⟨0, _⟩ => rfl
  | ⟨1, _⟩ => rfl
  | ⟨2, _⟩ => rfl

theorem put_at_ge {N : ℕ} {α : Type} (d : (⟨3, ![1, 2048, N]⟩ : Shape).Idx → α) (w : (⟨3, ![1, K, N]⟩ : Shape).Idx → α)
    (z : Fin 1) (j : Fin 2048) (c : Fin N) (hj : K ≤ j.val) :
    put (s := ⟨3, ![1, 2048, N]⟩) d ![0, 0, 0] ![1, K, N] w (ix3 z j c) = d (ix3 z j c) := by
  refine dif_neg fun h => ?_
  have h1 : j.val < 0 + K := (h 1).2
  omega

include hr0 hK hk hv in
theorem putK_at (hg : ∀ r, Good (S r0 x0 x1 r)) (d : FVec Ideal ⟨3, ![1, 2048, 256]⟩ .f32) (inb) (z : Fin 1) (j : Fin 2048) (c : Fin 256) :
    put (s := ⟨3, ![1, 2048, 256]⟩) d ![0, 0, 0] ![1, K, 256] (tK e r0 ⊥ x0 k v x3 (window (s := ⟨3, ![1, 2048, 256]⟩) d ![0, 0, 0] ![1, K, 256] inb)) (ix3 z j c)
      = d (ix3 z j c) + ∑ r : Fin 512, ds sc (S r0 x0 x1 r) (G x2 x3 r) j * x0 (ix3 (0 : Fin 1) r c) := by
  obtain rfl : z = 0 := Subsingleton.elim _ _
  rcases Nat.lt_or_ge j.val K with hj | hj
  · rw [put_at_lt _ _ _ _ _ hj, tK_at e r0 hr0 hK x0 k v x1 x2 x3 hk hv hg]
    exact congrArg (· + _) (window_at d inb e.le 0 ⟨j.val, hj⟩ c)
  · rw [put_at_ge _ _ _ _ _ hj, Finset.sum_eq_zero fun r _ => by
      rw [ds_masked _ _ _ (hg r) j (S_beyond r0 hK x0 x1 r j hj), zero_mul], add_zero]

include hr0 hK hk in
theorem putV_at (hg : ∀ r, Good (S r0 x0 x1 r)) (d : FVec Ideal ⟨3, ![1, 2048, 128]⟩ .f32) (inb) (z : Fin 1) (j : Fin 2048) (c : Fin 128) :
    put (s := ⟨3, ![1, 2048, 128]⟩) d ![0, 0, 0] ![1, K, 128] (tV e r0 ⊥ x0 k x3 (window (s := ⟨3, ![1, 2048, 128]⟩) d ![0, 0, 0] ![1, K, 128] inb)) (ix3 z j c)
      = d (ix3 z j c) + ∑ r : Fin 512, pr (S r0 x0 x1 r) j * x3 (ix3 (0 : Fin 1) r c) := by
  obtain rfl : z = 0 := Subsingleton.elim _ _
  rcases Nat.lt_or_ge j.val K with hj | hj
  · rw [put_at_lt _ _ _ _ _ hj, tV_at e r0 hr0 hK x0 k x1 x3 hk]
    exact congrArg (· + _) (window_at d inb e.le 0 ⟨j.val, hj⟩ c)
  · rw [put_at_ge _ _ _ _ _ hj, Finset.sum_eq_zero fun r _ => by
      rw [pr_masked _ (hg r) j (S_beyond r0 hK x0 x1 r j hj), zero_mul], add_zero]

end

end Cert.Tile

namespace Cert.KernelIdeal.Hand

open Cert.KernelIdeal Cert.KernelIdeal.Gen Cert.Tile Cert.Row
open Idealize.ShloMosaic Idealize.ShloMosaic.ValueIdx
open VecWindow (window put)
open scoped BigOperators

theorem ev1 : Ev 512 := ⟨iota_S512x512_d0_w32, iota_S512x512_d1_w32, reduces_S512x512_S512, broadcasts_S512x1_S512x512, shapeCasts_S512_S512x1,
  shapeCasts_S1x512x256_S512x256, shapeCasts_S512x256_S1x512x256, shapeCasts_S1x512x128_S512x128, shapeCasts_S1x512x256_S512x256,
  shapeCasts_S512x256_S1x512x256, shapeCasts_S1x512x128_S512x128, shapeCasts_S512x128_S1x512x128, by decide⟩
theorem ev2 : Ev 1024 := ⟨iota_S512x1024_d0_w32, iota_S512x1024_d1_w32, reduces_S512x1024_S512, broadcasts_S512x1_S512x1024, shapeCasts_S512_S512x1,
  shapeCasts_S1x512x256_S512x256, shapeCasts_S512x256_S1x512x256, shapeCasts_S1x512x128_S512x128, shapeCasts_S1x1024x256_S1024x256,
  shapeCasts_S1024x256_S1x1024x256, shapeCasts_S1x1024x128_S1024x128, shapeCasts_S1024x128_S1x1024x128, by decide⟩
theorem ev3 : Ev 1536 := ⟨iota_S512x1536_d0_w32, iota_S512x1536_d1_w32, reduces_S512x1536_S512, broadcasts_S512x1_S512x1536, shapeCasts_S512_S512x1,
  shapeCasts_S1x512x256_S512x256, shapeCasts_S512x256_S1x512x256, shapeCasts_S1x512x128_S512x128, shapeCasts_S1x1536x256_S1536x256,
  shapeCasts_S1536x256_S1x1536x256, shapeCasts_S1x1536x128_S1536x128, shapeCasts_S1536x128_S1x1536x128, by decide⟩
theorem ev4 : Ev 2048 := ⟨iota_S512x2048_d0_w32, iota_S512x2048_d1_w32, reduces_S512x2048_S512, broadcasts_S512x1_S512x2048, shapeCasts_S512_S512x1,
  shapeCasts_S1x512x256_S512x256, shapeCasts_S512x256_S1x512x256, shapeCasts_S1x512x128_S512x128, shapeCasts_S1x2048x256_S2048x256,
  shapeCasts_S2048x256_S1x2048x256, shapeCasts_S1x2048x128_S2048x128, shapeCasts_S2048x128_S1x2048x128, by decide⟩

/-- The value of a masked score. -/
def mk : Ideal .f32 := Named.named κ "mask" 0xF149F2CA#32

theorem mk_eq : mk = (⊥ : EReal) := IdealRules.named_const.ideal_named_scalar _ _ _ _ rfl

section
variable (x0 : Vec Ideal S1x512x256 .bf16) (x1 : Vec Ideal S1x2048x256 .bf16) (x2 : Vec Ideal S1x2048x128 .bf16) (x3 : Vec Ideal S1x512x128 .f32)

theorem dqOf_0 : dqOf 0 x0 x1 x2 x3 = tQ ev1 0 mk x0 (keys1 x1) (vals1 x2) x3 := rfl
theorem dqOf_1 : dqOf 1 x0 x1 x2 x3 = tQ ev2 512 mk x0 (keys2 x1) (vals2 x2) x3 := rfl
theorem dqOf_2 : dqOf 2 x0 x1 x2 x3 = tQ ev3 1024 mk x0 (keys3 x1) (vals3 x2) x3 := rfl
theorem dqOf_3 : dqOf 3 x0 x1 x2 x3 = tQ ev4 1536 mk x0 x1 x2 x3 := rfl

theorem dkOf_0 (d) : dkOf 0 x0 x1 x2 x3 d = put (s := S1x2048x256) k0_pay1 ![0, 0, 0] ![1, 512, 256]
    (tK ev1 0 mk x0 (keys1 x1) (vals1 x2) x3 (window (s := S1x2048x256) k0_pay1 ![0, 0, 0] ![1, 512, 256] inb_S1x2048x256_S1x512x256_0_0_0)) := rfl
theorem dkOf_1 (d) : dkOf 1 x0 x1 x2 x3 d = put (s := S1x2048x256) d ![0, 0, 0] ![1, 1024, 256]
    (tK ev2 512 mk x0 (keys2 x1) (vals2 x2) x3 (window (s := S1x2048x256) d ![0, 0, 0] ![1, 1024, 256] inb_S1x2048x256_S1x1024x256_0_0_0)) := rfl
theorem dkOf_2 (d) : dkOf 2 x0 x1 x2 x3 d = put (s := S1x2048x256) d ![0, 0, 0] ![1, 1536, 256]
    (tK ev3 1024 mk x0 (keys3 x1) (vals3 x2) x3 (window (s := S1x2048x256) d ![0, 0, 0] ![1, 1536, 256] inb_S1x2048x256_S1x1536x256_0_0_0)) := rfl
theorem dkOf_3 (d) : dkOf 3 x0 x1 x2 x3 d = tK ev4 1536 mk x0 x1 x2 x3 d := rfl

theorem dvOf_0 (d) : dvOf 0 x0 x1 x3 d = put (s := S1x2048x128) k0_pay2 ![0, 0, 0] ![1, 512, 128]
    (tV ev1 0 mk x0 (keys1 x1) x3 (window (s := S1x2048x128) k0_pay2 ![0, 0, 0] ![1, 512, 128] inb_S1x2048x128_S1x512x128_0_0_0)) := rfl
theorem dvOf_1 (d) : dvOf 1 x0 x1 x3 d = put (s := S1x2048x128) d ![0, 0, 0] ![1, 1024, 128]
    (tV ev2 512 mk x0 (keys2 x1) x3 (window (s := S1x2048x128) d ![0, 0, 0] ![1, 1024, 128] inb_S1x2048x128_S1x1024x128_0_0_0)) := rfl
theorem dvOf_2 (d) : dvOf 2 x0 x1 x3 d = put (s := S1x2048x128) d ![0, 0, 0] ![1, 1536, 128]
    (tV ev3 1024 mk x0 (keys3 x1) x3 (window (s := S1x2048x128) d ![0, 0, 0] ![1, 1536, 128] inb_S1x2048x128_S1x1536x128_0_0_0)) := rfl
theorem dvOf_3 (d) : dvOf 3 x0 x1 x3 d = tV ev4 1536 mk x0 x1 x3 d := rfl

/-- Each row of the tile has a score that is a number, and none is `⊤`. -/
def GoodTile (n : Fin 4) : Prop := ∀ r, Good (S (512 * n.val) x0 x1 r)

theorem dqOf_at (n : Fin 4) (hg : GoodTile x0 x1 n) (z : Fin 1) (r : Fin 512) (c : Fin 256) : dqOf n x0 x1 x2 x3 (ix3 z r c)
    = ∑ j : Fin 2048, ds sc (S (512 * n.val) x0 x1 r) (G x2 x3 r) j * x1 (ix3 (0 : Fin 1) j c) := by
  match n, hg with
  | 0, hg => rw [dqOf_0, mk_eq]
             exact tQ_at ev1 0 (by omega) (by omega) x0 _ _ x1 x2 x3 (window_at x1 _ ev1.le 0) (window_at x2 _ ev1.le 0) hg z r c
  | 1, hg => rw [dqOf_1, mk_eq]
             exact tQ_at ev2 512 (by omega) (by omega) x0 _ _ x1 x2 x3 (window_at x1 _ ev2.le 0) (window_at x2 _ ev2.le 0) hg z r c
  | 2, hg => rw [dqOf_2, mk_eq]
             exact tQ_at ev3 1024 (by omega) (by omega) x0 _ _ x1 x2 x3 (window_at x1 _ ev3.le 0) (window_at x2 _ ev3.le 0) hg z r c
  | 3, hg => rw [dqOf_3, mk_eq]
             exact tQ_at ev4 1536 (by omega) (by omega) x0 _ _ x1 x2 x3 (fun _ _ => rfl) (fun _ _ => rfl) hg z r c

theorem dkOf_at (n : Fin 4) (hg : GoodTile x0 x1 n) (d : Vec Ideal S1x2048x256 .f32) (z : Fin 1) (j : Fin 2048) (c : Fin 256) :
    dkOf n x0 x1 x2 x3 d (ix3 z j c) = (if n = 0 then (0 : EReal) else d (ix3 z j c))
      + ∑ r : Fin 512, ds sc (S (512 * n.val) x0 x1 r) (G x2 x3 r) j * x0 (ix3 (0 : Fin 1) r c) := by
  match n, hg with
  | 0, hg => rw [dkOf_0, mk_eq]
             refine (putK_at ev1 0 (by omega) (by omega) x0 _ _ x1 x2 x3 (window_at x1 _ ev1.le 0) (window_at x2 _ ev1.le 0) hg k0_pay1 _ z j c).trans ?_
             exact congrArg (· + _) Ideal.ofBits_zero_f32
  | 1, hg => rw [dkOf_1, mk_eq]
             exact putK_at ev2 512 (by omega) (by omega) x0 _ _ x1 x2 x3 (window_at x1 _ ev2.le 0) (window_at x2 _ ev2.le 0) hg d _ z j c
  | 2, hg => rw [dkOf_2, mk_eq]
             exact putK_at ev3 1024 (by omega) (by omega) x0 _ _ x1 x2 x3 (window_at x1 _ ev3.le 0) (window_at x2 _ ev3.le 0) hg d _ z j c
  | 3, hg => rw [dkOf_3, mk_eq]
             obtain rfl : z = 0 := Subsingleton.elim _ _
             exact tK_at ev4 1536 (by omega) (by omega) x0 _ _ x1 x2 x3 (fun _ _ => rfl) (fun _ _ => rfl) hg d 0 j c

theorem dvOf_at (n : Fin 4) (hg : GoodTile x0 x1 n) (d : Vec Ideal S1x2048x128 .f32) (z : Fin 1) (j : Fin 2048) (c : Fin 128) :
    dvOf n x0 x1 x3 d (ix3 z j c) = (if n = 0 then (0 : EReal) else d (ix3 z j c))
      + ∑ r : Fin 512, pr (S (512 * n.val) x0 x1 r) j * x3 (ix3 (0 : Fin 1) r c) := by
  match n, hg with
  | 0, hg => rw [dvOf_0, mk_eq]
             refine (putV_at ev1 0 (by omega) (by omega) x0 _ x1 x3 (window_at x1 _ ev1.le 0) hg k0_pay2 _ z j c).trans ?_
             exact congrArg (· + _) Ideal.ofBits_zero_f32
  | 1, hg => rw [dvOf_1, mk_eq]
             exact putV_at ev2 512 (by omega) (by omega) x0 _ x1 x3 (window_at x1 _ ev2.le 0) hg d _ z j c
  | 2, hg => rw [dvOf_2, mk_eq]
             exact putV_at ev3 1024 (by omega) (by omega) x0 _ x1 x3 (window_at x1 _ ev3.le 0) hg d _ z j c
  | 3, hg => rw [dvOf_3, mk_eq]
             obtain rfl : z = 0 := Subsingleton.elim _ _
             exact tV_at ev4 1536 (by omega) (by omega) x0 _ x1 x3 (fun _ _ => rfl) d 0 j c

end

end Cert.KernelIdeal.Hand
-- ==== Proof.Mla.Fwd.lean ====
module

public import proofs.«01_k».proof.Proof.Spec
public import proofs.«01_k».proof.Proof.Blocks
public import proofs.«01_k».proof.Proof.Cross.Tile
public import proofs.«01_k».proof.Proof.Gen.Kernel23Ideal.Value
public import Idealize.ShloMosaic.Lib.Pipeline.Value
public import Idealize.ShloMosaic.Lib.Pipeline.ValueKit.Acc
public import Idealize.ShloMosaic.Lib.Pipeline.ValueKit.Geometry

/- The causal attention itself: what its kernel leaves. -/

@[expose] public section

set_option maxRecDepth 16384

noncomputable section

namespace Cert.Mla

open Idealize.ShloMosaic Idealize.ShloMosaic.ValueIdx Cert.Row Cert.Tile
open Cert.Cross (mixed mixed_at mean_prefix)
open scoped BigOperators

/-- The output of head `h` at row `i`. -/
def mix (A0 A1 A2 : (⟨3, ![2, 2048, 2048]⟩ : Shape).Idx → EReal) (b : Fin 2) (h : Fin 8) (i : Fin 2048) (c : Fin 128) : EReal :=
  ∑ j : Fin 2048, pr (Spec.score A0 A1 b h i) j * A2 (ix3 b j (Spec.vcol h c))

/-- The output. -/
def O (A0 A1 A2 : (⟨3, ![2, 2048, 2048]⟩ : Shape).Idx → EReal) (y : (⟨3, ![2, 2048, 1024]⟩ : Shape).Idx) : EReal :=
  mix A0 A1 A2 (y 0) (Spec.ohead (y 2)) (y 1) (Spec.olane (y 2))

section
variable {K : ℕ} (e : Ev K) (r0 : ℕ) (mk : Ideal .f32)
  (x0 : FVec Ideal ⟨3, ![1, 512, 256]⟩ .bf16) (k : FVec Ideal ⟨3, ![1, K, 256]⟩ .bf16) (v : FVec Ideal ⟨3, ![1, K, 128]⟩ .bf16)
  (hd : (⟨2, ![512, 1]⟩ : Shape).Broadcasts ⟨2, ![512, 128]⟩) (ho : (⟨2, ![512, 128]⟩ : Shape).ShapeCasts ⟨3, ![1, 512, 128]⟩)

/-- What a tile that has `K` keys before its end gives. -/
def tF : FVec Ideal ⟨3, ![1, 512, 128]⟩ .bf16 :=
  shapeCast ⟨3, ![1, 512, 128]⟩ (mixed e.red e.col e.rep hd
    (scores (BitVec.ofNat 32 r0) mk e.i0 e.i1 (shapeCast ⟨2, ![512, 256]⟩ x0 e.q) (shapeCast ⟨2, ![K, 256]⟩ k e.k)) (shapeCast ⟨2, ![K, 128]⟩ v e.v)) ho

/-- It is the mean over all keys. -/
theorem tF_at (hr0 : r0 ≤ 1536) (hK : r0 + 512 ≤ K) (x1 : FVec Ideal ⟨3, ![1, 2048, 256]⟩ .bf16) (x2 : FVec Ideal ⟨3, ![1, 2048, 128]⟩ .bf16)
    (hk : ∀ (j : Fin K) (c : Fin 256), k (ix3 (0 : Fin 1) j c) = x1 (ix3 (0 : Fin 1) (j.castLE e.le) c))
    (hv : ∀ (j : Fin K) (c : Fin 128), v (ix3 (0 : Fin 1) j c) = x2 (ix3 (0 : Fin 1) (j.castLE e.le) c))
    (r : Fin 512) (hg : Good (S r0 x0 x1 r)) (z : Fin 1) (c : Fin 128) :
    tF e r0 ⊥ x0 k v hd ho (ix3 z r c) = ∑ j : Fin 2048, pr (S r0 x0 x1 r) j * x2 (ix3 (0 : Fin 1) j c) := by
  rw [tF, addUnit_at, mixed_at (by decide), scores_row e r0 hr0 x0 k x1 hk,
    ← mean_prefix e.le (S r0 x0 x1 r) (fun j => x2 (ix3 (0 : Fin 1) j c)) hg (S_beyond r0 hK x0 x1 r)]
  exact congrArg (Ideal.div · _) (Finset.sum_congr rfl fun j _ => by rw [dropUnit_at, hv])

end

end Cert.Mla

namespace Cert.Kernel23Ideal.Hand

open Idealize.ShloMosaic
open Cert.Kernel23Ideal Cert.Kernel23Ideal.Gen Cert.Row Cert.Spec Cert.Mla
open Cert.Tile hiding col
open Cert.KernelIdeal.Hand (ev1 ev2 ev3 ev4)
open Idealize.ShloMosaic.TcCoe Idealize.ShloMosaic.ValueIdx
open scoped BigOperators

variable (m : (ℓ : Loc nD τ sig) → Buf (Elt Ideal) ℓ) (c : Dev nD)

/-- The argument arrays. -/
abbrev A0 : (⟨3, ![2, 2048, 2048]⟩ : Shape).Idx → EReal := m ((c.tc : Thread nD τ).loc main_arg0)
abbrev A1 : (⟨3, ![2, 2048, 2048]⟩ : Shape).Idx → EReal := m ((c.tc : Thread nD τ).loc main_arg1)
abbrev A2 : (⟨3, ![2, 2048, 2048]⟩ : Shape).Idx → EReal := m ((c.tc : Thread nD τ).loc main_arg2)

/-- The sequence, the head and the query tile a grid point works on, and a row of the tile. -/
def bOf (t : Fin cfg0.N) : Fin 2 := ⟨t.val / 32, by have : t.val < 64 := t.isLt; omega⟩
def hOf (t : Fin cfg0.N) : Fin 8 := ⟨t.val / 4 % 8, by omega⟩
def row (t : Fin cfg0.N) (r : Fin 512) : Fin 2048 := ⟨t.val % 4 * 512 + r.val, by omega⟩

theorem idx_0 : ∀ t : Fin cfg0.N, win0_0.index t = ![t.val / 32, t.val % 4, t.val / 4 % 8] := (by decide +kernel : ∀ t : Fin grid0.N, _)
theorem idx_1 : ∀ t : Fin cfg0.N, win0_1.index t = ![t.val / 32, 0, t.val / 4 % 8] := (by decide +kernel : ∀ t : Fin grid0.N, _)
theorem idx_2 : ∀ t : Fin cfg0.N, win0_2.index t = ![t.val / 32, 0, 2 * (t.val / 4 % 8) + 1] := (by decide +kernel : ∀ t : Fin grid0.N, _)
theorem idx_3 : ∀ t : Fin cfg0.N, win0_3.index t = ![t.val / 32, t.val % 4, t.val / 4 % 8] := (by decide +kernel : ∀ t : Fin grid0.N, _)

theorem blk_0 (t : Fin cfg0.N) (r : Fin 512) (x : Fin 256) : iblk m c 0 t (ix3 (0 : Fin 1) r x) = A0 m c (ix3 (bOf t) (row t r) (qcol (hOf t) x)) := by
  blk_simp [iblk]
  refine congrArg (A0 m c) (funext fun a => Fin.ext ?_)
  match a with
  | ⟨0, _⟩ => blk_simp [idx_0]; show t.val / 32 + 0 = t.val / 32; omega
  | ⟨1, _⟩ => blk_simp [idx_0]; show t.val % 4 * 512 + r.val = t.val % 4 * 512 + r.val; rfl
  | ⟨2, _⟩ => blk_simp [idx_0]; show t.val / 4 % 8 * 256 + x.val = t.val / 4 % 8 * 256 + x.val; rfl

theorem blk_1 (t : Fin cfg0.N) (j : Fin 2048) (x : Fin 256) : iblk m c 1 t (ix3 (0 : Fin 1) j x) = A1 m c (ix3 (bOf t) j (qcol (hOf t) x)) := by
  blk_simp [iblk]
  refine congrArg (A1 m c) (funext fun a => Fin.ext ?_)
  match a with
  | ⟨0, _⟩ => blk_simp [idx_1]; show t.val / 32 + 0 = t.val / 32; omega
  | ⟨1, _⟩ => blk_simp [idx_1]
  | ⟨2, _⟩ => blk_simp [idx_1]; show t.val / 4 % 8 * 256 + x.val = t.val / 4 % 8 * 256 + x.val; rfl

theorem blk_2 (t : Fin cfg0.N) (j : Fin 2048) (x : Fin 128) : iblk m c 2 t (ix3 (0 : Fin 1) j x) = A2 m c (ix3 (bOf t) j (vcol (hOf t) x)) := by
  blk_simp [iblk]
  refine congrArg (A2 m c) (funext fun a => Fin.ext ?_)
  match a with
  | ⟨0, _⟩ => blk_simp [idx_2]; show t.val / 32 + 0 = t.val / 32; omega
  | ⟨1, _⟩ => blk_simp [idx_2]
  | ⟨2, _⟩ => blk_simp [idx_2]; show (2 * (t.val / 4 % 8) + 1) * 128 + x.val = t.val / 4 % 8 * 256 + 128 + x.val; omega

/-- A tile's rows are rows of the arrays. -/
theorem S_row (t : Fin cfg0.N) (r0 : ℕ) (h0 : r0 = t.val % 4 * 512) (r : Fin 512) : S r0 (iblk m c 0 t) (iblk m c 1 t) r
    = score (A0 m c) (A1 m c) (bOf t) (hOf t) (row t r) := by
  funext j
  rw [S, score, h0]
  refine if_congr Iff.rfl (congrArg (· * sc) (Finset.sum_congr rfl fun x _ => ?_)) rfl
  rw [blk_0, blk_1]

/-- What one of the four cases leaves. -/
theorem case_at (hR : Rows (A0 m c) (A1 m c)) (t : Fin cfg0.N) {K : ℕ} (e : Ev K) (r0 : ℕ) (h0 : r0 = t.val % 4 * 512) (hK : r0 + 512 ≤ K)
    (k : FVec Ideal ⟨3, ![1, K, 256]⟩ .bf16) (v : FVec Ideal ⟨3, ![1, K, 128]⟩ .bf16) (hd ho)
    (hk : ∀ (j : Fin K) (x : Fin 256), k (ix3 (0 : Fin 1) j x) = iblk m c 1 t (ix3 (0 : Fin 1) (j.castLE e.le) x))
    (hv : ∀ (j : Fin K) (x : Fin 128), v (ix3 (0 : Fin 1) j x) = iblk m c 2 t (ix3 (0 : Fin 1) (j.castLE e.le) x)) (r : Fin 512) (x : Fin 128) :
    tF e r0 ⊥ (iblk m c 0 t) k v hd ho (ix3 (0 : Fin 1) r x) = mix (A0 m c) (A1 m c) (A2 m c) (bOf t) (hOf t) (row t r) x := by
  rw [tF_at e r0 (iblk m c 0 t) k v hd ho (by omega) hK (iblk m c 1 t) (iblk m c 2 t) hk hv r (by rw [S_row m c t r0 h0]; exact hR _ _ _) 0 x,
    S_row m c t r0 h0, mix]
  exact Finset.sum_congr rfl fun j _ => by rw [blk_2]

theorem after_at (hR : Rows (A0 m c) (A1 m c)) (t : Fin cfg0.N) (r : Fin 512) (x : Fin 128) :
    (dats m 0 c).after 3 t (ix3 (0 : Fin 1) r x) = mix (A0 m c) (A1 m c) (A2 m c) (bOf t) (hOf t) (row t r) x := by
  rw [after0_3]
  have h4 : t.val % 4 < 4 := Nat.mod_lt _ (by decide)
  rcases (by omega : t.val % 4 = 0 ∨ t.val % 4 = 1 ∨ t.val % 4 = 2 ∨ t.val % 4 = 3) with h | h | h | h
  · rw [outsAt0_A m c t h (by omega) (by omega) (by omega)]
    frame_out
    exact case_at m c hR t ev1 0 (by omega) (by omega) _ _ broadcasts_S512x1_S512x128 shapeCasts_S512x128_S1x512x128 (window_at _ _ ev1.le 0) (window_at _ _ ev1.le 0) r x
  · rw [outsAt0_B m c t (by omega) h (by omega) (by omega)]
    frame_out
    exact case_at m c hR t ev2 512 (by omega) (by omega) _ _ broadcasts_S512x1_S512x128 shapeCasts_S512x128_S1x512x128 (window_at _ _ ev2.le 0) (window_at _ _ ev2.le 0) r x
  · rw [outsAt0_C m c t (by omega) (by omega) h (by omega)]
    frame_out
    exact case_at m c hR t ev3 1024 (by omega) (by omega) _ _ broadcasts_S512x1_S512x128 shapeCasts_S512x128_S1x512x128 (window_at _ _ ev3.le 0) (window_at _ _ ev3.le 0) r x
  · rw [outsAt0_D m c t (by omega) (by omega) (by omega) h]
    frame_out
    exact case_at m c hR t ev4 1536 (by omega) (by omega) _ _ broadcasts_S512x1_S512x128 shapeCasts_S512x128_S1x512x128 (fun _ _ => rfl) (fun _ _ => rfl) r x

theorem final (hR : Rows (A0 m c) (A1 m c)) : (dats m 0 c).arrAt 3 cfg0.N = O (A0 m c) (A1 m c) (A2 m c) := by
  refine (dats m 0 c).arrAt_eq_of_covers 3 _ (by decide +kernel) fun t hf y => ?_
  blk_simp
  obtain ⟨r, x, rfl⟩ : ∃ (r : Fin 512) (x : Fin 128), y = ix3 (0 : Fin 1) r x :=
    ⟨y 1, y 2, (eq_ix3 y).trans (congrArg (fun z => ix3 z (y 1) (y 2)) (Subsingleton.elim (α := Fin 1) _ _))⟩
  rw [after_at m c hR]
  have e : ((cfg0.win 3).blk t).view.emb (ix3 (0 : Fin 1) r x) = ix3 (bOf t) (row t r) (ocol (hOf t) x) := funext fun a => Fin.ext <| by
    match a with
    | ⟨0, _⟩ => blk_simp [idx_3]; show t.val / 32 + 0 = t.val / 32; omega
    | ⟨1, _⟩ => blk_simp [idx_3]; show t.val % 4 * 512 + r.val = t.val % 4 * 512 + r.val; rfl
    | ⟨2, _⟩ => blk_simp [idx_3]; show t.val / 4 % 8 * 128 + x.val = t.val / 4 % 8 * 128 + x.val; rfl
  rw [e]
  have hh : ohead (ocol (hOf t) x) = hOf t := Fin.ext (by show (t.val / 4 % 8 * 128 + x.val) / 128 = t.val / 4 % 8; omega)
  have hl : olane (ocol (hOf t) x) = x := Fin.ext (by show (t.val / 4 % 8 * 128 + x.val) % 128 = x.val; omega)
  show _ = mix _ _ _ (bOf t) (ohead (ocol (hOf t) x)) (row t r) (olane (ocol (hOf t) x))
  rw [hh, hl]

end Cert.Kernel23Ideal.Hand
-- ==== Proof.Mla.FwdRef.lean ====
module

public import proofs.«01_k».proof.Proof.Ref
public import proofs.«01_k».proof.Proof.Mla.Fwd
public import proofs.«01_k».proof.Proof.Gen.Reference23Ideal.Read
public import Idealize.ShloMosaic.Lib.Pointwise

/- The causal attention as its reference has it, read at an index. Up to the probabilities it is word for word the gradient's reference. -/

@[expose] public section

noncomputable section

namespace Cert.Reference23Ideal.Hand

open Idealize.ShloMosaic hiding ix3 ix4 eq_ix3 eq_ix4
open Cert.Reference23Ideal Cert.Reference23Ideal.Read Idealize.ShloMosaic.ValueIdx Cert.Row Cert.Spec
open Cert.Mla (O mix)
open scoped BigOperators

variable (x0 x1 x2 : (⟨S2x2048x2048, .bf16⟩ : BufTy).Contents (Elt Ideal))
variable (b : Fin 2) (h : Fin 8) (i j : Fin 2048)

theorem v8_at (c : Fin 128) : val_main_v8 (F := Ideal) x2 (ix4 b j h c) = x2 (ix3 b j (vcol h c)) := ReferenceIdeal.Hand.v8_at x2 b h j c

theorem v30_at : val_main_v30 (F := Ideal) x0 x1 (ix4 b h i j) = pr (score x0 x1 b h i) j := ReferenceIdeal.Hand.v44_at x0 x1 b h i j

/-- Where a place of the result lies among the heads. -/
theorem of_row (x : Fin 1024) : idx_main_v33 (ix3 b i x) = ix4 b i (ohead x) (olane x) := funext fun a => Fin.ext <| by
  match a with
  | ⟨0, _⟩ => show ((b.val * 2048 + i.val) * 1024 + x.val) / 2097152 = b.val; omega
  | ⟨1, _⟩ => show ((b.val * 2048 + i.val) * 1024 + x.val) / 1024 % 2048 = i.val; omega
  | ⟨2, _⟩ => show ((b.val * 2048 + i.val) * 1024 + x.val) / 128 % 8 = x.val / 128; omega
  | ⟨3, _⟩ => show ((b.val * 2048 + i.val) * 1024 + x.val) % 128 = x.val % 128; omega

theorem value_eq : val_main_v34 (F := Ideal) x0 x1 x2 = O x0 x1 x2 := by
  funext y
  obtain ⟨b, i, x, rfl⟩ : ∃ (b : Fin 2) (i : Fin 2048) (x : Fin 1024), y = ix3 b i x := ⟨y 0, y 1, y 2, eq_ix3 y⟩
  show val_main_v33 (F := Ideal) x0 x1 x2 _ = mix x0 x1 x2 b (ohead x) i (olane x)
  rw [val_main_v33_apply, of_row, val_main_v32_apply, val_main_v31_apply, mix]
  refine Finset.sum_congr rfl fun k _ => ?_
  rw [← v30_at, ← v8_at x2, mul_comm]
  exact congrArg₂ (fun p q => val_main_v30 (F := Ideal) x0 x1 p * val_main_v8 (F := Ideal) x2 q) (eq_ix4 _) (eq_ix4 _)

end Cert.Reference23Ideal.Hand
-- ==== Proof.Mla.Claims.lean ====
module

public import proofs.«01_k».proof.Defs
public import proofs.«01_k».proof.Proof.Results
public import proofs.«01_k».proof.Proof.Mla.Fwd
public import proofs.«01_k».proof.Proof.Mla.FwdRef
public import proofs.«01_k».proof.Proof.Ffn.Claims
public import proofs.«01_k».proof.Proof.Gen.Reference23Ideal.Run

/- The causal attention against its reference. -/

@[expose] public section

noncomputable section

namespace Cert.Mla

open Idealize.ShloMosaic Idealize.SL.Sem Cert

/-- The precondition's side conditions. -/
theorem pre_fwd_facts : Pre_finite_qk_forward.Facts := ⟨by decide, by decide, by decide⟩

/-- The output is the reference's, for finite queries and keys. -/
theorem output : @algebraic_Kernel23Ideal_Reference23Ideal_pre_finite_qk_forward Kernel23Ideal.Gen.facts Reference23Ideal.Gen.facts pre_fwd_facts := fun m g m' g' hpre same =>
  ⟨fun c => O (Kernel23Ideal.Hand.A0 m c) (Kernel23Ideal.Hand.A1 m c) (Kernel23Ideal.Hand.A2 m c),
    result_is (Kernel23Ideal.Value.run_blocks (F := Ideal) m g) fun c => Kernel23Ideal.Hand.final m c <|
      Spec.rows_of_real _ _ (fun y => Ffn.real_of_abs (Ffn.and_one _ _ (congrFun (hpre c) y)).1) (fun y => Ffn.real_of_abs (Ffn.and_one _ _ (congrFun (hpre c) y)).2),
    result_is (Reference23Ideal.Value.run (F := Ideal) m' g') fun c => by
      obtain ⟨e0, e1, e2⟩ := same c
      rw [Reference23Ideal.Read.val_main_v34_eq, e0, e1, e2]
      exact Reference23Ideal.Hand.value_eq _ _ _⟩

end Cert.Mla
-- ==== Proof.Norm.Row.lean ====
module

public import proofs.«01_k».proof.Proof.Row

/- One row of the gradient of a root-mean-square normalisation, over the extended reals: the kernel's form and the reference's. They are
equal at every row, infinities included. -/

@[expose] public section

noncomputable section

namespace Cert.Norm

open Idealize.ShloMosaic Cert.Row
open scoped BigOperators

variable {n : ℕ} (w e : ℝ) (x d : Fin n → EReal)

/-- The row's mean square, and the small number added to it. -/
def var : EReal := Ideal.div (∑ k, x k * x k) w + e

/-- One over its root. -/
def rs : EReal := Ideal.rsqrt (var w e x)

/-- The normalised row. -/
def unit (j : Fin n) : EReal := x j * rs w e x

/-- The gradient of the row, as the kernel has it: `d` is the gradient of the normalised row. -/
def grad (j : Fin n) : EReal := rs w e x * (d j - unit w e x j * Ideal.div (∑ k, d k * unit w e x k) w)

/-- What the reference adds for the dependence of the root on the row (`h` is minus a half). -/
def back (h : EReal) : EReal := Ideal.div ((∑ k, x k * d k) * (h * Ideal.div (rs w e x) (var w e x))) w

/-- The gradient of the row, as the reference has it. -/
def gradRef (h : EReal) (j : Fin n) : EReal := d j * rs w e x + x j * back w e x d h + back w e x d h * x j

theorem sq_nonneg (a : EReal) : 0 ≤ a * a := by
  induction a with
  | bot => simp
  | top => simp
  | coe a => exact_mod_cast mul_self_nonneg a

/-- A row whose squares have a finite sum is a row of numbers. -/
theorem real_of_sum (h : ∑ k, x k * x k ≠ ⊤) (k : Fin n) : ∃ r : ℝ, x k = r := by
  have hk : x k * x k ≠ ⊤ := fun hk => h <| top_le_iff.mp <| hk ▸ Finset.single_le_sum (f := fun k => x k * x k) (fun i _ => sq_nonneg (x i)) (Finset.mem_univ k)
  induction hx : x k with
  | bot => rw [hx] at hk; simp at hk
  | top => rw [hx] at hk; simp at hk
  | coe r => exact ⟨r, rfl⟩

/-- Twice a number. -/
theorem twice (a : EReal) (c : ℝ) : a * c + a * c = a * ((2 * c : ℝ) : EReal) := by
  have h : (2 : EReal) * (a * c) = a * c + a * c := by
    rw [← one_add_one_eq_two, EReal.right_distrib_of_nonneg zero_le_one zero_le_one, one_mul]
  rw [← h, EReal.coe_mul, mul_left_comm]
  rfl

variable (hw : 0 < w) (he : 0 < e)

include hw he in
/-- Either the row's mean square is infinite, or the row is one of numbers and its mean square a positive one. -/
theorem cases_var : var w e x = ⊤ ∨ (∀ k, ∃ r : ℝ, x k = r) ∧ ∃ v : ℝ, 0 < v ∧ var w e x = v := by
  by_cases h : ∑ k, x k * x k = ⊤
  · left
    rw [var, h, Ideal.div_coe hw.ne', EReal.top_mul_coe_of_pos (by positivity)]
    rfl
  · right
    refine ⟨real_of_sum x h, ?_⟩
    choose r hr using real_of_sum x h
    refine ⟨(∑ k, r k * r k) * (1 / w) + e, ?_, ?_⟩
    · have : 0 ≤ ∑ k, r k * r k := Finset.sum_nonneg fun k _ => mul_self_nonneg (r k)
      positivity
    · rw [var, Ideal.div_coe hw.ne', EReal.coe_add, EReal.coe_mul, coe_sum]
      simp only [hr, EReal.coe_mul]

include hw he in
theorem grad_eq (j : Fin n) : gradRef w e x d ((-(1 / 2) : ℝ) : EReal) j = grad w e x d j := by
  rcases cases_var w e x hw he with h | ⟨hx, v, hv, h⟩
  · have hr : rs w e x = 0 := by rw [rs, h, Ideal.rsqrt_top]
    have hd : Ideal.div 0 ⊤ = 0 := by simp [Ideal.div]
    rw [gradRef, grad, back, hr, h, hd, mul_zero, mul_zero, mul_zero, Ideal.div_coe hw.ne', zero_mul, zero_mul, mul_zero, zero_mul, add_zero, add_zero]
  · choose r hr using hx
    set s : ℝ := (Real.sqrt v)⁻¹ with hs
    have hs0 : 0 < s := by positivity
    have hs2 : s * s = 1 / v := by
      rw [hs, ← mul_inv, Real.mul_self_sqrt hv.le, one_div]
    have hrs : rs w e x = s := by
      rw [rs, h, Ideal.rsqrt_coe, if_neg hv.le.not_gt, if_neg hv.ne']
    have hsum : ∑ k, d k * unit w e x k = (s : EReal) * ∑ k, x k * d k := by
      rw [mul_sum_of _ s hs0.le]
      refine Finset.sum_congr rfl fun k _ => ?_
      rw [unit, hrs, ← mul_assoc, mul_comm, mul_comm (d k)]
    have hb : back w e x d ((-(1 / 2) : ℝ) : EReal) = (∑ k, x k * d k) * ((-(1 / 2) * (s * (1 / v)) * (1 / w) : ℝ) : EReal) := by
      rw [back, hrs, h, Ideal.div_coe hv.ne', Ideal.div_coe hw.ne', mul_assoc, ← EReal.coe_mul, ← EReal.coe_mul, ← EReal.coe_mul]
    rw [gradRef, grad, hsum, hb, unit, hrs, Ideal.div_coe hw.ne', mul_sub_of s hs0.le, hr j]
    generalize ∑ k, x k * d k = a
    rw [add_assoc, mul_comm (r j : EReal), mul_assoc, ← EReal.coe_mul, twice, sub_eq_add_neg, mul_comm (d j)]
    refine congrArg (fun z : EReal => (s : EReal) * d j + z) ?_
    have e1 : (s : EReal) * ((r j : EReal) * s * (s * a * ((1 / w : ℝ) : EReal))) = a * ((s * (r j * s) * (s * (1 / w)) : ℝ) : EReal) := by
      simp only [EReal.coe_mul]
      ac_rfl
    rw [e1, ← mul_neg, ← EReal.coe_neg]
    refine congrArg (fun z : ℝ => a * (z : EReal)) ?_
    linear_combination (r j * s * (1 / w)) * hs2

/-! ## The literals -/

/-- The small number added to the mean square. -/
def eps : ℝ := 8796093 / 8796093022208

theorem eps_pos : 0 < eps := by norm_num [eps]

theorem eps_f32 : Ideal.ofBits .f32 0x358637BD#32 = eps := by
  simp [Ideal.ofBits, Ideal.ieee]
  rw [← EReal.coe_mul, eps]
  norm_num

theorem half_f32 : Ideal.ofBits .f32 0xBF000000#32 = ((-(1 / 2) : ℝ) : EReal) := by
  simp [Ideal.ofBits, Ideal.ieee]
  rw [← EReal.coe_mul]
  norm_num

theorem w2048_f32 : Ideal.ofBits .f32 0x45000000#32 = ((2048 : ℝ) : EReal) := by
  simp [Ideal.ofBits, Ideal.ieee]
  rw [← EReal.coe_mul]
  norm_num

theorem w512_f32 : Ideal.ofBits .f32 0x44000000#32 = ((512 : ℝ) : EReal) := by
  simp [Ideal.ofBits, Ideal.ieee]
  rw [← EReal.coe_mul]
  norm_num

theorem w128_f32 : Ideal.ofBits .f32 0x43000000#32 = ((128 : ℝ) : EReal) := by
  simp [Ideal.ofBits, Ideal.ieee]
  rw [← EReal.coe_mul]
  norm_num

/-! ## A sum carried from one point to the next -/

theorem carried {N : ℕ} (f : (n : ℕ) → n < N → EReal) (T : Fin N → EReal) (h0 : ∀ h : 0 < N, f 0 h = T ⟨0, h⟩)
    (hs : ∀ (n : ℕ) (h : n + 1 < N), f (n + 1) h = f n (Nat.lt_of_succ_lt h) + T ⟨n + 1, h⟩) :
    ∀ (n : ℕ) (h : n < N), f n h = ∑ s : Fin (n + 1), T ⟨s.val, lt_of_lt_of_le s.isLt h⟩
  | 0, h => by rw [h0 h, Fin.sum_univ_one]; rfl
  | n + 1, h => (hs n h).trans ((congrArg (· + T ⟨n + 1, h⟩) (carried f T h0 hs n (Nat.lt_of_succ_lt h))).trans
    (Fin.sum_univ_castSucc fun s : Fin (n + 2) => T ⟨s.val, lt_of_lt_of_le s.isLt h⟩).symm)

end Cert.Norm
-- ==== Proof.Norm.Tile.lean ====
module

public import proofs.«01_k».proof.Proof.Tile
public import proofs.«01_k».proof.Proof.Norm.Row

/- One tile of the normalisation's gradient, for any number of rows and any width: the arrays the tile computes, and what each holds at an
index. -/

@[expose] public section

noncomputable section

namespace Cert.Norm

open Idealize.ShloMosaic Idealize.ShloMosaic.ValueIdx Cert.Row Cert.Tile
open scoped BigOperators

section

variable {M N : ℕ} {α : Type}

/-! ## Layouts -/

theorem spread_at (hM : M ≠ 1) (x : (⟨2, ![M, 1]⟩ : Shape).Idx → α) (h : (⟨2, ![M, 1]⟩ : Shape).Broadcasts ⟨2, ![M, N]⟩) (r : Fin M) (c : Fin N) :
    broadcastTo ⟨2, ![M, N]⟩ x h (ix2 r c) = x (ix2 r (0 : Fin 1)) :=
  broadcastTo_apply x h (ix2 r c) (ix2 r (0 : Fin 1)) (fun i => match i with
    | ⟨0, _⟩ => by
      show r.val = if M = 1 then 0 else r.val
      rw [if_neg hM]
    | ⟨1, _⟩ => by
      show 0 = if (1 : ℕ) = 1 then 0 else c.val
      rw [if_pos rfl])

theorem rows_at (hN : N ≠ 1) (x : (⟨2, ![1, N]⟩ : Shape).Idx → α) (h : (⟨2, ![1, N]⟩ : Shape).Broadcasts ⟨2, ![M, N]⟩) (r : Fin M) (c : Fin N) :
    broadcastTo ⟨2, ![M, N]⟩ x h (ix2 r c) = x (ix2 (0 : Fin 1) c) :=
  broadcastTo_apply x h (ix2 r c) (ix2 (0 : Fin 1) c) (fun i => match i with
    | ⟨0, _⟩ => by
      show 0 = if (1 : ℕ) = 1 then 0 else r.val
      rw [if_pos rfl]
    | ⟨1, _⟩ => by
      show c.val = if N = 1 then 0 else c.val
      rw [if_neg hN])

theorem stand_at (x : (⟨1, ![M]⟩ : Shape).Idx → α) (h : (⟨1, ![M]⟩ : Shape).ShapeCasts ⟨2, ![M, 1]⟩) (r : Fin M) :
    shapeCast ⟨2, ![M, 1]⟩ x h (ix2 r (0 : Fin 1)) = x (ix1 r) := by
  refine shapeCast_apply x h _ (ix1 r) ?_
  rw [Shape.rowMajor_val_one, Shape.rowMajor_val_two]
  show r.val = r.val * 1 + 0
  omega

theorem lie_at (x : (⟨1, ![N]⟩ : Shape).Idx → α) (h : (⟨1, ![N]⟩ : Shape).ShapeCasts ⟨2, ![1, N]⟩) (z : Fin 1) (c : Fin N) :
    shapeCast ⟨2, ![1, N]⟩ x h (ix2 z c) = x (ix1 c) := by
  refine shapeCast_apply x h _ (ix1 c) ?_
  rw [Shape.rowMajor_val_one, Shape.rowMajor_val_two]
  show c.val = z.val * N + c.val
  have : z.val = 0 := by omega
  rw [this, zero_mul, zero_add]

theorem same_at {s : Shape} (x : s.Idx → α) (h : s.ShapeCasts s) (i : s.Idx) : shapeCast s x h i = x i :=
  shapeCast_apply x h i i rfl

/-! ## A column's sum -/

theorem lift_col (h : (⟨2, ![M, N]⟩ : Shape).Reduces [0] ⟨1, ![N]⟩) (c : Fin N) (k : Fin M) : h.lift (ix1 c) k = ix2 k c := by
  funext i; apply Fin.ext
  match i with
  | ⟨0, _⟩ => rfl
  | ⟨1, _⟩ => rfl

/-- The sum of each column. -/
def colSum (h : (⟨2, ![M, N]⟩ : Shape).Reduces [0] ⟨1, ![N]⟩) (x : FVec Ideal ⟨2, ![M, N]⟩ .f32) : FVec Ideal ⟨1, ![N]⟩ .f32 :=
  multiReduction .add [0] ⟨1, ![N]⟩ x 0x00000000#32 h (.inl rfl) rfl

theorem colSum_at (h : (⟨2, ![M, N]⟩ : Shape).Reduces [0] ⟨1, ![N]⟩) (x : FVec Ideal ⟨2, ![M, N]⟩ .f32) (c : Fin N) :
    colSum h x (ix1 c) = ∑ k : Fin M, x (ix2 k c) :=
  (Ideal.multiReduction_add_single x _ h _ _ (ix1 c)).trans (Finset.sum_congr rfl fun k _ => congrArg x (lift_col h c k))

end

/-! ## The tile -/

section

variable {M N : ℕ} (wb : BitVec 32) (hr : (⟨2, ![M, N]⟩ : Shape).Reduces [1] ⟨1, ![M]⟩) (hc : (⟨2, ![M, N]⟩ : Shape).Reduces [0] ⟨1, ![N]⟩)
  (hs : (⟨1, ![M]⟩ : Shape).ShapeCasts ⟨2, ![M, 1]⟩) (hl : (⟨1, ![N]⟩ : Shape).ShapeCasts ⟨2, ![1, N]⟩)
  (hi : (⟨2, ![1, N]⟩ : Shape).ShapeCasts ⟨2, ![1, N]⟩)
  (hb : (⟨2, ![M, 1]⟩ : Shape).Broadcasts ⟨2, ![M, N]⟩) (hg : (⟨2, ![1, N]⟩ : Shape).Broadcasts ⟨2, ![M, N]⟩)

/-- One over the root of each row's mean square. -/
def rootT (x : FVec Ideal ⟨2, ![M, N]⟩ .f32) : FVec Ideal ⟨2, ![M, 1]⟩ .f32 :=
  rsqrt (addf (divf (shapeCast ⟨2, ![M, 1]⟩ (rowSum hr (mulf x x)) hs) (broadcast ⟨2, ![M, 1]⟩ (Scalar.ofBits .f32 wb)))
    (broadcast ⟨2, ![M, 1]⟩ (Scalar.ofBits .f32 0x358637BD#32)))

/-- The normalised rows. -/
def unitT (x : FVec Ideal ⟨2, ![M, N]⟩ .f32) : FVec Ideal ⟨2, ![M, N]⟩ .f32 :=
  mulf x (broadcastTo ⟨2, ![M, N]⟩ (rootT wb hr hs x) hb)

/-- The gain's gradient, carried on. -/
def gainT (x dy : FVec Ideal ⟨2, ![M, N]⟩ .f32) (old : FVec Ideal ⟨2, ![1, N]⟩ .f32) : FVec Ideal ⟨2, ![1, N]⟩ .f32 :=
  addf (shapeCast ⟨2, ![1, N]⟩ old hi) (shapeCast ⟨2, ![1, N]⟩ (colSum hc (mulf dy (unitT wb hr hs hb x))) hl)

/-- The gradient of the normalised rows. -/
def scaledT (dy : FVec Ideal ⟨2, ![M, N]⟩ .f32) (g : FVec Ideal ⟨2, ![1, N]⟩ .f32) : FVec Ideal ⟨2, ![M, N]⟩ .f32 :=
  mulf dy (broadcastTo ⟨2, ![M, N]⟩ (shapeCast ⟨2, ![1, N]⟩ g hi) hg)

/-- The bracket of the rows' gradient. -/
def innerT (x d : FVec Ideal ⟨2, ![M, N]⟩ .f32) : FVec Ideal ⟨2, ![M, N]⟩ .f32 :=
  subf d (mulf (unitT wb hr hs hb x)
    (broadcastTo ⟨2, ![M, N]⟩ (divf (shapeCast ⟨2, ![M, 1]⟩ (rowSum hr (mulf d (unitT wb hr hs hb x))) hs)
      (broadcast ⟨2, ![M, 1]⟩ (Scalar.ofBits .f32 wb))) hb))

/-- The gradient of the rows. -/
def gradT (x d : FVec Ideal ⟨2, ![M, N]⟩ .f32) : FVec Ideal ⟨2, ![M, N]⟩ .f32 :=
  mulf (broadcastTo ⟨2, ![M, N]⟩ (rootT wb hr hs x) hb) (innerT wb hr hs hb x d)

variable (w : ℝ) (hwb : Ideal.ofBits .f32 wb = w) (hM : M ≠ 1) (hN : N ≠ 1)

include hwb in
theorem rootT_at (x : FVec Ideal ⟨2, ![M, N]⟩ .f32) (r : Fin M) : rootT wb hr hs x (ix2 r (0 : Fin 1)) = rs w eps fun k => x (ix2 r k) := by
  show Ideal.rsqrt (Ideal.div (shapeCast _ _ hs (ix2 r (0 : Fin 1))) (Ideal.ofBits .f32 wb) + Ideal.ofBits .f32 0x358637BD#32) = _
  rw [stand_at, rowSum_at, hwb, eps_f32]
  rfl

include hwb hM in
theorem unitT_at (x : FVec Ideal ⟨2, ![M, N]⟩ .f32) (r : Fin M) (c : Fin N) : unitT wb hr hs hb x (ix2 r c) = unit w eps (fun k => x (ix2 r k)) c :=
  congrArg (x (ix2 r c) * ·) ((spread_at hM _ hb r c).trans (rootT_at wb hr hs w hwb x r))

include hwb hM in
theorem gainT_at (x dy : FVec Ideal ⟨2, ![M, N]⟩ .f32) (old : FVec Ideal ⟨2, ![1, N]⟩ .f32) (c : Fin N) :
    gainT wb hr hc hs hl hi hb x dy old (ix2 (0 : Fin 1) c)
      = old (ix2 (0 : Fin 1) c) + ∑ r : Fin M, dy (ix2 r c) * unit w eps (fun k => x (ix2 r k)) c :=
  congrArg₂ (· + ·) (same_at old hi _) <| (lie_at _ hl (0 : Fin 1) c).trans <| (colSum_at hc _ c).trans <|
    Finset.sum_congr rfl fun r _ => congrArg (dy (ix2 r c) * ·) (unitT_at wb hr hs hb w hwb hM x r c)

include hN in
theorem scaledT_at (dy : FVec Ideal ⟨2, ![M, N]⟩ .f32) (g : FVec Ideal ⟨2, ![1, N]⟩ .f32) (r : Fin M) (c : Fin N) :
    scaledT hi hg dy g (ix2 r c) = dy (ix2 r c) * g (ix2 (0 : Fin 1) c) :=
  congrArg (dy (ix2 r c) * ·) ((rows_at hN _ hg r c).trans (same_at g hi _))

include hwb hM in
theorem gradT_at (x d : FVec Ideal ⟨2, ![M, N]⟩ .f32) (r : Fin M) (c : Fin N) :
    gradT wb hr hs hb x d (ix2 r c) = grad w eps (fun k => x (ix2 r k)) (fun k => d (ix2 r k)) c := by
  show broadcastTo _ _ hb (ix2 r c) * (d (ix2 r c) - unitT wb hr hs hb x (ix2 r c) * broadcastTo _ _ hb (ix2 r c)) = _
  rw [spread_at hM _ hb, spread_at hM _ hb, unitT_at wb hr hs hb w hwb hM, rootT_at wb hr hs w hwb]
  refine congrArg (fun z : EReal => rs w eps (fun k => x (ix2 r k)) * (d (ix2 r c) - unit w eps (fun k => x (ix2 r k)) c * z)) ?_
  show Ideal.div (shapeCast _ _ hs (ix2 r (0 : Fin 1))) (Ideal.ofBits .f32 wb) = _
  rw [stand_at, rowSum_at, hwb]
  exact congrArg (Ideal.div · _) (Finset.sum_congr rfl fun k _ => congrArg (d (ix2 r k) * ·) (unitT_at wb hr hs hb w hwb hM x r k))

end

/-! ## The results, for any number of rows and any width -/

section

variable {R N : ℕ} (w : ℝ)

/-- The gradient of the rows. -/
def dx (x dy : (⟨2, ![R, N]⟩ : Shape).Idx → EReal) (g : (⟨1, ![N]⟩ : Shape).Idx → EReal) (i : Fin R) (j : Fin N) : EReal :=
  grad w eps (fun k => x (ix2 i k)) (fun k => dy (ix2 i k) * g (ix1 k)) j

/-- The gradient of the gain. -/
def dg (x dy : (⟨2, ![R, N]⟩ : Shape).Idx → EReal) (j : Fin N) : EReal :=
  ∑ i : Fin R, dy (ix2 i j) * unit w eps (fun k => x (ix2 i k)) j

end

end Cert.Norm
-- ==== Proof.Norm.Wide.lean ====
module

public import proofs.«01_k».proof.Proof.Norm.Tile
public import proofs.«01_k».proof.Proof.Gen.Kernel24Ideal.Value
public import Idealize.ShloMosaic.Lib.Pipeline.Value
public import Idealize.ShloMosaic.Lib.Pipeline.ValueKit.Acc
public import Idealize.ShloMosaic.Lib.Pipeline.ValueKit.Geometry

/- The gradient of a normalisation of rows of 2048: what its kernel leaves. -/

@[expose] public section

set_option maxRecDepth 16384

noncomputable section

namespace Cert.Kernel24Ideal.Hand

open Idealize.ShloMosaic
open Cert.Kernel24Ideal Cert.Kernel24Ideal.Gen Cert.Norm
open Idealize.ShloMosaic.TcCoe Idealize.ShloMosaic.ValueIdx
open scoped BigOperators

variable (m : (ℓ : Loc nD τ sig) → Buf (Elt Ideal) ℓ) (c : Dev nD)

/-- The argument arrays: the rows, the gain, the result's gradient, and what is added to the rows' gradient. -/
abbrev A0 : (⟨2, ![4096, 2048]⟩ : Shape).Idx → EReal := m ((c.tc : Thread nD τ).loc main_arg0)
abbrev A1 : (⟨1, ![2048]⟩ : Shape).Idx → EReal := m ((c.tc : Thread nD τ).loc main_arg1)
abbrev A2 : (⟨2, ![4096, 2048]⟩ : Shape).Idx → EReal := m ((c.tc : Thread nD τ).loc main_arg2)
abbrev A3 : (⟨2, ![4096, 2048]⟩ : Shape).Idx → EReal := m ((c.tc : Thread nD τ).loc main_arg3)

theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![t.val, 0] := (by decide +kernel : ∀ t : Fin grid0.N, _)

/-- A row of a grid point's tile, among all. -/
def rowOf (t : Fin cfg0.N) (r : Fin 256) : Fin 4096 := ⟨t.val * 256 + r.val, by have : t.val < 16 := t.isLt; omega⟩

/-- The gain as the kernel is given it: one row. -/
theorem gain_v0 : V m c main_v0 = shapeCast S1x2048 (A1 m c) shapeCasts_S2048_S1x2048 := by
  unfold_abbrev_sides
  after_results
  rfl

theorem blk_0 (t : Fin cfg0.N) (r : Fin 256) (x : Fin 2048) : iblk m c 0 t (ix2 r x) = A0 m c (ix2 (rowOf t r) x) := by
  blk_simp [iblk]
  refine congrArg (A0 m c) (funext fun a => Fin.ext ?_)
  match a with
  | ⟨0, _⟩ => blk_simp [idx_0]; rfl
  | ⟨1, _⟩ => blk_simp [idx_0]

theorem blk_1 (t : Fin cfg0.N) (x : Fin 2048) : iblk m c 1 t (ix2 (0 : Fin 1) x) = A1 m c (ix1 x) := by
  refine Eq.trans ?_ (lie_at (A1 m c) shapeCasts_S2048_S1x2048 (0 : Fin 1) x)
  rw [← gain_v0]
  blk_simp [iblk]
  refine congrArg (V m c main_v0) (funext fun a => Fin.ext ?_)
  match a with
  | ⟨0, _⟩ => blk_simp [idx_1]
  | ⟨1, _⟩ => blk_simp [idx_1]

theorem blk_2 (t : Fin cfg0.N) (r : Fin 256) (x : Fin 2048) : iblk m c 2 t (ix2 r x) = A2 m c (ix2 (rowOf t r) x) := by
  blk_simp [iblk]
  refine congrArg (A2 m c) (funext fun a => Fin.ext ?_)
  match a with
  | ⟨0, _⟩ => blk_simp [idx_2]; rfl
  | ⟨1, _⟩ => blk_simp [idx_2]

theorem blk_3 (t : Fin cfg0.N) (r : Fin 256) (x : Fin 2048) : iblk m c 3 t (ix2 r x) = A3 m c (ix2 (rowOf t r) x) := by
  blk_simp [iblk]
  refine congrArg (A3 m c) (funext fun a => Fin.ext ?_)
  match a with
  | ⟨0, _⟩ => blk_simp [idx_3]; rfl
  | ⟨1, _⟩ => blk_simp [idx_3]

/-! ## The tile's arrays -/

theorem grad_pay (x dy : FVec Ideal S256x2048 .f32) (g : FVec Ideal S1x2048 .f32) :
    k0_pay7 (F := Ideal) x dy g = gradT 0x45000000#32 reduces_S256x2048_S256 shapeCasts_S256_S256x1 broadcasts_S256x1_S256x2048 x
      (scaledT shapeCasts_S1x2048_S1x2048 broadcasts_S1x2048_S256x2048 dy g) := rfl

theorem gain_pay (x dy : FVec Ideal S256x2048 .f32) (old : FVec Ideal S1x2048 .f32) :
    k0_pay6 (F := Ideal) x dy old = gainT 0x45000000#32 reduces_S256x2048_S256 reduces_S256x2048_S2048 shapeCasts_S256_S256x1 shapeCasts_S2048_S1x2048
      shapeCasts_S1x2048_S1x2048 broadcasts_S256x1_S256x2048 x dy old := rfl

theorem zero_pay (i : S1x2048.Idx) : k0_pay3 (F := Ideal) i = (0 : EReal) := Ideal.ofBits_zero_f32

theorem grad_at (t : Fin cfg0.N) (r : Fin 256) (x : Fin 2048) :
    k0_pay7 (F := Ideal) (iblk m c 0 t) (iblk m c 2 t) (iblk m c 1 t) (ix2 r x) = dx 2048 (A0 m c) (A2 m c) (A1 m c) (rowOf t r) x := by
  rw [grad_pay, gradT_at _ _ _ _ 2048 w2048_f32 (by decide), dx]
  refine congrArg₂ (fun a b => grad 2048 eps a b x) (funext fun k => blk_0 m c t r k) (funext fun k => ?_)
  rw [scaledT_at _ _ (by decide), blk_2, blk_1]

/-- What one grid point adds to the gain's gradient. -/
def part (t : Fin cfg0.N) (x : Fin 2048) : EReal :=
  ∑ r : Fin 256, A2 m c (ix2 (rowOf t r) x) * unit 2048 eps (fun k => A0 m c (ix2 (rowOf t r) k)) x

theorem gain_at (t : Fin cfg0.N) (old : FVec Ideal S1x2048 .f32) (x : Fin 2048) :
    k0_pay6 (F := Ideal) (iblk m c 0 t) (iblk m c 2 t) old (ix2 (0 : Fin 1) x) = old (ix2 (0 : Fin 1) x) + part m c t x := by
  rw [gain_pay, gainT_at _ _ _ _ _ _ _ 2048 w2048_f32 (by decide), part]
  refine congrArg (fun z : EReal => old (ix2 (0 : Fin 1) x) + z) (Finset.sum_congr rfl fun r _ => ?_)
  rw [blk_2]
  exact congrArg (fun a => _ * unit 2048 eps a x) (funext fun k => blk_0 m c t r k)

theorem first_gain (t : Fin cfg0.N) (h0 : t.val % 16 = 0) (x : Fin 2048) : (outsAt0 m c t.val t.isLt).2.1 (ix2 (0 : Fin 1) x) = part m c t x := by
  rw [outsAt0_A m c t h0]
  dsimp only
  frame_out
  rw [gain_at, zero_pay, zero_add]

theorem next_gain (t : Fin cfg0.N) (h0 : ¬t.val % 16 = 0) (x : Fin 2048) :
    (outsAt0 m c t.val t.isLt).2.1 (ix2 (0 : Fin 1) x)
      = (outsAt0 m c (t.val - 1) (by omega)).2.1 (ix2 (0 : Fin 1) x) + part m c t x := by
  rw [outsAt0_B m c t h0]
  dsimp only
  frame_out
  exact gain_at m c t _ x

theorem gain_upto (x : Fin 2048) (n : ℕ) (h : n < cfg0.N) :
    (outsAt0 m c n h).2.1 (ix2 (0 : Fin 1) x) = ∑ s : Fin (n + 1), part m c ⟨s.val, lt_of_lt_of_le s.isLt h⟩ x :=
  carried (fun n h => (outsAt0 m c n h).2.1 (ix2 (0 : Fin 1) x)) (fun t => part m c t x) (fun h => first_gain m c ⟨0, h⟩ rfl x)
    (fun n h => next_gain m c ⟨n + 1, h⟩ (by have : n + 1 < 16 := h; show ¬(n + 1) % 16 = 0; omega) x) n h

/-! ## The three outputs -/

theorem out4_at (t : Fin cfg0.N) (r : Fin 256) (x : Fin 2048) :
    (outsAt0 m c t.val t.isLt).1 (ix2 r x) = dx 2048 (A0 m c) (A2 m c) (A1 m c) (rowOf t r) x + A3 m c (ix2 (rowOf t r) x) := by
  by_cases h0 : t.val % 16 = 0
  · rw [outsAt0_A m c t h0]
    dsimp only
    frame_out
    exact congrArg₂ (· + ·) (grad_at m c t r x) (blk_3 m c t r x)
  · rw [outsAt0_B m c t h0]
    dsimp only
    frame_out
    exact congrArg₂ (· + ·) (grad_at m c t r x) (blk_3 m c t r x)

theorem out6_at (t : Fin cfg0.N) (r : Fin 256) (x : Fin 2048) :
    (outsAt0 m c t.val t.isLt).2.2 (ix2 r x) = dx 2048 (A0 m c) (A2 m c) (A1 m c) (rowOf t r) x + A3 m c (ix2 (rowOf t r) x) := by
  by_cases h0 : t.val % 16 = 0
  · rw [outsAt0_A m c t h0]
    dsimp only
    frame_out
    exact congrArg₂ (· + ·) (grad_at m c t r x) (blk_3 m c t r x)
  · rw [outsAt0_B m c t h0]
    dsimp only
    frame_out
    exact congrArg₂ (· + ·) (grad_at m c t r x) (blk_3 m c t r x)

/-- The rows' gradient and what is added to it. -/
def DX (x : (⟨2, ![4096, 2048]⟩ : Shape).Idx → EReal) (g : (⟨1, ![2048]⟩ : Shape).Idx → EReal) (dy add : (⟨2, ![4096, 2048]⟩ : Shape).Idx → EReal) :
    (⟨2, ![4096, 2048]⟩ : Shape).Idx → EReal := fun y => dx 2048 x dy g (y 0) (y 1) + add y

/-- The gain's gradient, as one row. -/
def DG (x dy : (⟨2, ![4096, 2048]⟩ : Shape).Idx → EReal) : (⟨2, ![1, 2048]⟩ : Shape).Idx → EReal := fun y => dg 2048 x dy (y 1)

theorem final_x : (dats m 0 c).arrAt 4 cfg0.N = DX (A0 m c) (A1 m c) (A2 m c) (A3 m c) := by
  refine (dats m 0 c).arrAt_eq_of_covers 4 _ (by decide +kernel) fun t hf y => ?_
  blk_simp
  rw [after0_4]
  obtain ⟨r, x, rfl⟩ : ∃ (r : Fin 256) (x : Fin 2048), y = ix2 r x := ⟨y 0, y 1, eq_ix2 y⟩
  have e : ((cfg0.win 4).blk t).view.emb (ix2 r x) = ix2 (rowOf t r) x := funext fun a => Fin.ext <| by
    match a with
    | ⟨0, _⟩ => blk_simp [idx_4]; rfl
    | ⟨1, _⟩ => blk_simp [idx_4]
  rw [e]
  exact out4_at m c t r x

theorem final_copy : (dats m 0 c).arrAt 6 cfg0.N = DX (A0 m c) (A1 m c) (A2 m c) (A3 m c) := by
  refine (dats m 0 c).arrAt_eq_of_covers 6 _ (by decide +kernel) fun t hf y => ?_
  blk_simp
  rw [after0_6]
  obtain ⟨r, x, rfl⟩ : ∃ (r : Fin 256) (x : Fin 2048), y = ix2 r x := ⟨y 0, y 1, eq_ix2 y⟩
  have e : ((cfg0.win 6).blk t).view.emb (ix2 r x) = ix2 (rowOf t r) x := funext fun a => Fin.ext <| by
    match a with
    | ⟨0, _⟩ => blk_simp [idx_6]; rfl
    | ⟨1, _⟩ => blk_simp [idx_6]
  rw [e]
  exact out6_at m c t r x

theorem final_gain : (dats m 0 c).arrAt 5 cfg0.N = DG (A0 m c) (A2 m c) := by
  refine (dats m 0 c).arrAt_eq_of_covers 5 _ (by decide +kernel) fun t hf y => ?_
  blk_simp
  rw [after0_5]
  obtain ⟨x, rfl⟩ : ∃ x : Fin 2048, y = ix2 (0 : Fin 1) x :=
    ⟨y 1, (eq_ix2 y).trans (congrArg (fun z => ix2 z (y 1)) (Subsingleton.elim (α := Fin 1) _ _))⟩
  have e : ((cfg0.win 5).blk t).view.emb (ix2 (0 : Fin 1) x) = ix2 (0 : Fin 1) x := funext fun a => Fin.ext <| by
    match a with
    | ⟨0, _⟩ => blk_simp [idx_5]
    | ⟨1, _⟩ => blk_simp [idx_5]
  rw [e]
  have ht : t.val = 15 := by have := (flush0_5 t).mp hf; have : t.val < 16 := t.isLt; omega
  obtain rfl : t = ⟨15, by decide⟩ := Fin.ext ht
  refine (gain_upto m c x 15 _).trans ?_
  exact (Fin.sum_mul_add_fin 16 256 fun i : Fin 4096 => A2 m c (ix2 i x) * unit 2048 eps (fun k => A0 m c (ix2 i k)) x)

end Cert.Kernel24Ideal.Hand
-- ==== Proof.Norm.Ref.lean ====
module

public import proofs.«01_k».proof.Proof.Norm.Tile
public import Idealize.ShloMosaic.Lib.Pipeline.Value

/- The normalisation's gradient as the references have it, for any number of rows and any width: the arrays they compute, and what each holds
at an index. -/

@[expose] public section

noncomputable section

namespace Cert.Norm

open Idealize.ShloMosaic Idealize.ShloMosaic.ValueIdx Cert.Row
open scoped BigOperators

/-- What the operations ask of the shapes. -/
structure Shapes (R N : ℕ) : Prop where
  rowsOf : (⟨2, ![R, N]⟩ : Shape).ReducesTo [1] ⟨1, ![R]⟩
  rowsOf' : (⟨2, ![R, N]⟩ : Shape).Reduces [1] ⟨1, ![R]⟩
  colsOf : (⟨2, ![R, N]⟩ : Shape).ReducesTo [0] ⟨1, ![N]⟩
  colsOf' : (⟨2, ![R, N]⟩ : Shape).Reduces [0] ⟨1, ![N]⟩
  unitRow : (⟨2, ![R, 1]⟩ : Shape).ReducesTo [1] ⟨1, ![R]⟩
  unitRow' : (⟨2, ![R, 1]⟩ : Shape).Reduces [1] ⟨1, ![R]⟩
  unitCol : (⟨2, ![1, N]⟩ : Shape).ReducesTo [0] ⟨1, ![N]⟩
  unitCol' : (⟨2, ![1, N]⟩ : Shape).Reduces [0] ⟨1, ![N]⟩
  one : 0 < (⟨0, ![]⟩ : Shape).numel
  stand : (⟨1, ![R]⟩ : Shape).BroadcastsInDim ⟨2, ![R, 1]⟩ ![0]
  point : (⟨0, ![]⟩ : Shape).BroadcastsInDim ⟨2, ![R, 1]⟩ ![]
  wide : (⟨2, ![R, 1]⟩ : Shape).BroadcastsInDim ⟨2, ![R, N]⟩ ![0, 1]
  across : (⟨1, ![R]⟩ : Shape).BroadcastsInDim ⟨2, ![R, N]⟩ ![0]
  lie : (⟨1, ![N]⟩ : Shape).BroadcastsInDim ⟨2, ![1, N]⟩ ![1]
  down : (⟨2, ![1, N]⟩ : Shape).BroadcastsInDim ⟨2, ![R, N]⟩ ![0, 1]
  column : (⟨1, ![R]⟩ : Shape).ShapeCasts ⟨2, ![R, 1]⟩
  line : (⟨1, ![N]⟩ : Shape).ShapeCasts ⟨2, ![1, N]⟩
  rows_ne : R ≠ 1
  cols_ne : N ≠ 1

section

variable {R N : ℕ} (wb : BitVec 32) (S : Shapes R N)
variable (x dy : FVec Ideal ⟨2, ![R, N]⟩ .f32) (g : FVec Ideal ⟨1, ![N]⟩ .f32)

/-- A literal in every row. -/
def lit (b : BitVec 32) : FVec Ideal ⟨2, ![R, 1]⟩ .f32 := broadcastInDim ⟨2, ![R, 1]⟩ ![] S.point (constant ⟨0, ![]⟩ .f32 b)

/-- The sum of each row. -/
def hsum (y : FVec Ideal ⟨2, ![R, N]⟩ .f32) : FVec Ideal ⟨1, ![R]⟩ .f32 := Host.reduceAdd y (constant ⟨0, ![]⟩ .f32 0x00000000#32) S.rowsOf S.one

def hvar : FVec Ideal ⟨2, ![R, 1]⟩ .f32 :=
  addf (Host.divf (broadcastInDim ⟨2, ![R, 1]⟩ ![0] S.stand (hsum S (mulf x x))) (lit S wb)) (lit S 0x358637BD#32)

def hroot : FVec Ideal ⟨2, ![R, 1]⟩ .f32 := Host.rsqrt (hvar wb S x)

/-- Each row's root, along the row. -/
def hwide : FVec Ideal ⟨2, ![R, N]⟩ .f32 := broadcastInDim ⟨2, ![R, N]⟩ ![0, 1] S.wide (hroot wb S x)

/-- The gradient of the normalised rows. -/
def hscaled : FVec Ideal ⟨2, ![R, N]⟩ .f32 :=
  mulf dy (broadcastInDim ⟨2, ![R, N]⟩ ![0, 1] S.down (broadcastInDim ⟨2, ![1, N]⟩ ![1] S.lie g))

/-- What the dependence of the root on its row adds, along the row. -/
def hback : FVec Ideal ⟨2, ![R, N]⟩ .f32 :=
  broadcastInDim ⟨2, ![R, N]⟩ ![0] S.across (Host.reduceAdd
    (Host.divf (mulf (shapeCast ⟨2, ![R, 1]⟩ (hsum S (mulf x (hscaled S dy g))) S.column)
      (mulf (lit S 0xBF000000#32) (Host.divf (hroot wb S x) (hvar wb S x)))) (lit S wb)) (constant ⟨0, ![]⟩ .f32 0x00000000#32) S.unitRow S.one)

/-- The gradient of the rows. -/
def hgrad : FVec Ideal ⟨2, ![R, N]⟩ .f32 :=
  addf (addf (mulf (hscaled S dy g) (hwide wb S x)) (mulf x (hback wb S x dy g))) (mulf (hback wb S x dy g) x)

/-- The gradient of the gain, as one row. -/
def hgain : FVec Ideal ⟨2, ![1, N]⟩ .f32 :=
  shapeCast ⟨2, ![1, N]⟩ (Host.reduceAdd (shapeCast ⟨2, ![1, N]⟩
    (Host.reduceAdd (mulf (mulf x (hwide wb S x)) dy) (constant ⟨0, ![]⟩ .f32 0x00000000#32) S.colsOf S.one) S.line)
    (constant ⟨0, ![]⟩ .f32 0x00000000#32) S.unitCol S.one) S.line

theorem lit_at (b : BitVec 32) (i : Fin R) : lit S b (ix2 i (0 : Fin 1)) = Ideal.ofBits .f32 b := rfl

/-- A sum along the first or the second axis, from zero. -/
theorem add_zero_at {s t : Shape} {a : Fin s.rank} (h : s.ReducesTo [a] t) (h' : s.Reduces [a] t) (hz : 0 < (⟨0, ![]⟩ : Shape).numel)
    (y : FVec Ideal s .f32) (j : t.Idx) :
    Host.reduceAdd y (constant ⟨0, ![]⟩ .f32 0x00000000#32) h hz j = ∑ k : Fin (s.size a), y (h'.lift j k) := by
  simp only [Host.reduceAdd, Ideal.hostReduceAdd_def]
  rw [Ideal.hostReduceAdd_single h h']
  exact (congrArg (· + _) Ideal.ofBits_zero_f32).trans (zero_add _)

theorem hsum_at (y : FVec Ideal ⟨2, ![R, N]⟩ .f32) (i : Fin R) : hsum S y (ix1 i) = ∑ k, y (ix2 i k) :=
  (add_zero_at S.rowsOf S.rowsOf' S.one y (ix1 i)).trans (Finset.sum_congr rfl fun k _ => congrArg y (Tile.lift_row S.rowsOf' i k))

variable (w : ℝ) (hwb : Ideal.ofBits .f32 wb = w)

include hwb in
theorem hvar_at (i : Fin R) : hvar wb S x (ix2 i (0 : Fin 1)) = var w eps fun k => x (ix2 i k) := by
  show Ideal.div (broadcastInDim _ _ S.stand _ (ix2 i (0 : Fin 1))) (lit S wb (ix2 i 0)) + lit S 0x358637BD#32 (ix2 i 0) = _
  rw [lit_at, lit_at, hwb, eps_f32, broadcastInDim_apply _ S.stand _ _ (ix1 i) (fun a => match a with
    | ⟨0, _⟩ => by show i.val = if R = 1 then 0 else i.val; rw [if_neg S.rows_ne]), hsum_at]
  rfl

include hwb in
theorem hroot_at (i : Fin R) : hroot wb S x (ix2 i (0 : Fin 1)) = rs w eps fun k => x (ix2 i k) := congrArg Ideal.rsqrt (hvar_at wb S x w hwb i)

include hwb in
theorem hwide_at (i : Fin R) (j : Fin N) : hwide wb S x (ix2 i j) = rs w eps fun k => x (ix2 i k) := by
  rw [hwide, broadcastInDim_apply _ S.wide _ _ (ix2 i (0 : Fin 1)) (fun a => match a with
    | ⟨0, _⟩ => by show i.val = if R = 1 then 0 else i.val; rw [if_neg S.rows_ne]
    | ⟨1, _⟩ => by show 0 = if (1 : ℕ) = 1 then 0 else j.val; rw [if_pos rfl]), hroot_at wb S x w hwb]

theorem hscaled_at (i : Fin R) (j : Fin N) : hscaled S dy g (ix2 i j) = dy (ix2 i j) * g (ix1 j) := by
  refine congrArg (fun z : EReal => dy (ix2 i j) * z) ?_
  rw [broadcastInDim_apply _ S.down _ _ (ix2 (0 : Fin 1) j) (fun a => match a with
    | ⟨0, _⟩ => by show 0 = if (1 : ℕ) = 1 then 0 else i.val; rw [if_pos rfl]
    | ⟨1, _⟩ => by show j.val = if N = 1 then 0 else j.val; rw [if_neg S.cols_ne]),
    broadcastInDim_apply _ S.lie _ _ (ix1 j) (fun a => match a with
    | ⟨0, _⟩ => by show j.val = if N = 1 then 0 else j.val; rw [if_neg S.cols_ne])]

include hwb in
theorem hback_at (i : Fin R) (j : Fin N) :
    hback wb S x dy g (ix2 i j) = back w eps (fun k => x (ix2 i k)) (fun k => dy (ix2 i k) * g (ix1 k)) ((-(1 / 2) : ℝ) : EReal) := by
  rw [hback, broadcastInDim_apply _ S.across _ _ (ix1 i) (fun a => match a with
    | ⟨0, _⟩ => by show i.val = if R = 1 then 0 else i.val; rw [if_neg S.rows_ne])]
  refine (add_zero_at S.unitRow S.unitRow' S.one _ (ix1 i)).trans ((Fin.sum_univ_one _).trans ?_)
  rw [Tile.lift_row S.unitRow' i (0 : Fin 1)]
  show Ideal.div (shapeCast _ _ S.column (ix2 i (0 : Fin 1)) * (lit S 0xBF000000#32 (ix2 i 0) * Ideal.div (hroot wb S x (ix2 i 0)) (hvar wb S x (ix2 i 0))))
    (lit S wb (ix2 i 0)) = _
  rw [stand_at, hsum_at, lit_at, lit_at, hroot_at wb S x w hwb, hvar_at wb S x w hwb, hwb, half_f32, back]
  refine congrArg (fun z : EReal => Ideal.div (z * _) _) (Finset.sum_congr rfl fun k _ => ?_)
  exact congrArg (fun z : EReal => x (ix2 i k) * z) (hscaled_at S dy g i k)

include hwb in
theorem hgrad_at (hw : 0 < w) (i : Fin R) (j : Fin N) : hgrad wb S x dy g (ix2 i j) = dx w x dy g i j := by
  show hscaled S dy g (ix2 i j) * hwide wb S x (ix2 i j) + x (ix2 i j) * hback wb S x dy g (ix2 i j) + hback wb S x dy g (ix2 i j) * x (ix2 i j) = _
  rw [hscaled_at, hwide_at wb S x w hwb, hback_at wb S x dy g w hwb]
  exact grad_eq w eps (fun k => x (ix2 i k)) (fun k => dy (ix2 i k) * g (ix1 k)) hw eps_pos j

include hwb in
theorem hgain_at (j : Fin N) : hgain wb S x dy (ix2 (0 : Fin 1) j) = dg w x dy j := by
  rw [hgain, lie_at]
  refine (add_zero_at S.unitCol S.unitCol' S.one _ (ix1 j)).trans ((Fin.sum_univ_one _).trans ?_)
  rw [lift_col S.unitCol' j (0 : Fin 1), lie_at]
  refine (add_zero_at S.colsOf S.colsOf' S.one _ (ix1 j)).trans (Finset.sum_congr rfl fun k _ => ?_)
  rw [lift_col S.colsOf' j k]
  exact (congrArg (fun z : EReal => x (ix2 k j) * z * dy (ix2 k j)) (hwide_at wb S x w hwb k j)).trans (mul_comm _ _)

end

end Cert.Norm
-- ==== Proof.Norm.WideRef.lean ====
module

public import proofs.«01_k».proof.Proof.Norm.Wide
public import proofs.«01_k».proof.Proof.Norm.Ref
public import proofs.«01_k».proof.Proof.Gen.Reference24Ideal.Read

/- The gradient of a normalisation of rows of 2048 as its reference has it, read at an index. -/

@[expose] public section

noncomputable section

namespace Cert.Reference24Ideal.Hand

open Idealize.ShloMosaic
open Cert.Reference24Ideal Cert.Reference24Ideal.Gen Cert.Reference24Ideal.Read Idealize.ShloMosaic.ValueIdx Cert.Norm
open Cert.Kernel24Ideal.Hand (DX DG)

variable (x0 : (⟨S4096x2048, .f32⟩ : BufTy).Contents (Elt Ideal)) (x1 : (⟨S2048, .f32⟩ : BufTy).Contents (Elt Ideal))
  (x2 x3 : (⟨S4096x2048, .f32⟩ : BufTy).Contents (Elt Ideal))

theorem shapes : Shapes 4096 2048 :=
  ⟨reducesTo_S4096x2048_S4096_d1, by decide, reducesTo_S4096x2048_S2048_d0, by decide, reducesTo_S4096x1_S4096_d1, by decide,
    reducesTo_S1x2048_S2048_d0, by decide, h_S_, bcast_S4096_S4096x1_0, bcast_S_S4096x1, bcast_S4096x1_S4096x2048_0_1, bcast_S4096_S4096x2048_0,
    bcast_S2048_S1x2048_1, bcast_S1x2048_S4096x2048_0_1, shapeCasts_S4096_S4096x1, shapeCasts_S2048_S1x2048, by decide, by decide⟩

theorem grad_term : val_main_v35 (F := Ideal) x0 x1 x2 = hgrad 0x45000000#32 shapes x0 x2 x1 := rfl

theorem gain_term : val_main_v37 (F := Ideal) x0 x2 = hgain 0x45000000#32 shapes x0 x2 := rfl

theorem x_eq : val_main_v36 (F := Ideal) x0 x1 x2 x3 = DX x0 x1 x2 x3 := by
  funext y
  obtain ⟨i, j, rfl⟩ : ∃ (i : Fin 4096) (j : Fin 2048), y = ix2 i j := ⟨y 0, y 1, eq_ix2 y⟩
  show val_main_v35 (F := Ideal) x0 x1 x2 (ix2 i j) + x3 (ix2 i j) = _
  rw [grad_term, hgrad_at _ _ _ _ _ 2048 w2048_f32 (by norm_num)]
  rfl

theorem copy_eq : val_main_v38 (F := Ideal) x0 x1 x2 x3 = DX x0 x1 x2 x3 := x_eq x0 x1 x2 x3

theorem gain_eq : val_main_v37 (F := Ideal) x0 x2 = DG x0 x2 := by
  funext y
  obtain ⟨j, rfl⟩ : ∃ j : Fin 2048, y = ix2 (0 : Fin 1) j :=
    ⟨y 1, (eq_ix2 y).trans (congrArg (fun z => ix2 z (y 1)) (Subsingleton.elim (α := Fin 1) _ _))⟩
  rw [gain_term, hgain_at _ _ _ _ 2048 w2048_f32]
  rfl

end Cert.Reference24Ideal.Hand
-- ==== Proof.Norm.Latent.lean ====
module

public import proofs.«01_k».proof.Proof.Norm.Ref
public import proofs.«01_k».proof.Proof.Gen.Kernel25Ideal.Value
public import proofs.«01_k».proof.Proof.Gen.Reference25Ideal.Read
public import Idealize.ShloMosaic.Lib.Pipeline.Value
public import Idealize.ShloMosaic.Lib.Pipeline.ValueKit.Acc
public import Idealize.ShloMosaic.Lib.Pipeline.ValueKit.Geometry

/- The gradient of a normalisation of rows of 512: what its kernel leaves, and its reference. -/

@[expose] public section

set_option maxRecDepth 16384

noncomputable section

namespace Cert.Kernel25Ideal.Hand

open Idealize.ShloMosaic
open Cert.Kernel25Ideal Cert.Kernel25Ideal.Gen Cert.Norm
open Idealize.ShloMosaic.TcCoe Idealize.ShloMosaic.ValueIdx
open scoped BigOperators

variable (m : (ℓ : Loc nD τ sig) → Buf (Elt Ideal) ℓ) (c : Dev nD)

/-- The argument arrays: the rows, the gain, and the result's gradient. -/
abbrev A0 : (⟨2, ![4096, 512]⟩ : Shape).Idx → EReal := m ((c.tc : Thread nD τ).loc main_arg0)
abbrev A1 : (⟨1, ![512]⟩ : Shape).Idx → EReal := m ((c.tc : Thread nD τ).loc main_arg1)
abbrev A2 : (⟨2, ![4096, 512]⟩ : Shape).Idx → EReal := m ((c.tc : Thread nD τ).loc main_arg2)

theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![0, 0] := (by decide +kernel : ∀ t : Fin grid0.N, _)

/-- A row of a grid point's tile, among all. -/
def rowOf (t : Fin cfg0.N) (r : Fin 1024) : Fin 4096 := ⟨t.val * 1024 + r.val, by have : t.val < 4 := t.isLt; omega⟩

/-- The gain as the kernel is given it: one row. -/
theorem gain_v0 : V m c main_v0 = shapeCast S1x512 (A1 m c) shapeCasts_S512_S1x512 := by
  unfold_abbrev_sides
  after_results
  rfl

theorem blk_0 (t : Fin cfg0.N) (r : Fin 1024) (x : Fin 512) : iblk m c 0 t (ix2 r x) = A0 m c (ix2 (rowOf t r) x) := by
  blk_simp [iblk]
  refine congrArg (A0 m c) (funext fun a => Fin.ext ?_)
  match a with
  | ⟨0, _⟩ => blk_simp [idx_0]; rfl
  | ⟨1, _⟩ => blk_simp [idx_0]

theorem blk_1 (t : Fin cfg0.N) (x : Fin 512) : iblk m c 1 t (ix2 (0 : Fin 1) x) = A1 m c (ix1 x) := by
  refine Eq.trans ?_ (lie_at (A1 m c) shapeCasts_S512_S1x512 (0 : Fin 1) x)
  rw [← gain_v0]
  blk_simp [iblk]
  refine congrArg (V m c main_v0) (funext fun a => Fin.ext ?_)
  match a with
  | ⟨0, _⟩ => blk_simp [idx_1]
  | ⟨1, _⟩ => blk_simp [idx_1]

theorem blk_2 (t : Fin cfg0.N) (r : Fin 1024) (x : Fin 512) : iblk m c 2 t (ix2 r x) = A2 m c (ix2 (rowOf t r) x) := by
  blk_simp [iblk]
  refine congrArg (A2 m c) (funext fun a => Fin.ext ?_)
  match a with
  | ⟨0, _⟩ => blk_simp [idx_2]; rfl
  | ⟨1, _⟩ => blk_simp [idx_2]

/-! ## The tile's arrays -/

theorem grad_pay (x dy : FVec Ideal S1024x512 .f32) (g : FVec Ideal S1x512 .f32) :
    k0_pay5 (F := Ideal) x dy g = gradT 0x44000000#32 reduces_S1024x512_S1024 shapeCasts_S1024_S1024x1 broadcasts_S1024x1_S1024x512 x
      (scaledT shapeCasts_S1x512_S1x512 broadcasts_S1x512_S1024x512 dy g) := rfl

theorem gain_pay (x dy : FVec Ideal S1024x512 .f32) (old : FVec Ideal S1x512 .f32) :
    k0_pay4 (F := Ideal) x dy old = gainT 0x44000000#32 reduces_S1024x512_S1024 reduces_S1024x512_S512 shapeCasts_S1024_S1024x1 shapeCasts_S512_S1x512
      shapeCasts_S1x512_S1x512 broadcasts_S1024x1_S1024x512 x dy old := rfl

theorem zero_pay (i : S1x512.Idx) : k0_pay1 (F := Ideal) i = (0 : EReal) := Ideal.ofBits_zero_f32

theorem grad_at (t : Fin cfg0.N) (r : Fin 1024) (x : Fin 512) :
    k0_pay5 (F := Ideal) (iblk m c 0 t) (iblk m c 2 t) (iblk m c 1 t) (ix2 r x) = dx 512 (A0 m c) (A2 m c) (A1 m c) (rowOf t r) x := by
  rw [grad_pay, gradT_at _ _ _ _ 512 w512_f32 (by decide), dx]
  refine congrArg₂ (fun a b => grad 512 eps a b x) (funext fun k => blk_0 m c t r k) (funext fun k => ?_)
  rw [scaledT_at _ _ (by decide), blk_2, blk_1]

/-- What one grid point adds to the gain's gradient. -/
def part (t : Fin cfg0.N) (x : Fin 512) : EReal :=
  ∑ r : Fin 1024, A2 m c (ix2 (rowOf t r) x) * unit 512 eps (fun k => A0 m c (ix2 (rowOf t r) k)) x

theorem gain_at (t : Fin cfg0.N) (old : FVec Ideal S1x512 .f32) (x : Fin 512) :
    k0_pay4 (F := Ideal) (iblk m c 0 t) (iblk m c 2 t) old (ix2 (0 : Fin 1) x) = old (ix2 (0 : Fin 1) x) + part m c t x := by
  rw [gain_pay, gainT_at _ _ _ _ _ _ _ 512 w512_f32 (by decide), part]
  refine congrArg (fun z : EReal => old (ix2 (0 : Fin 1) x) + z) (Finset.sum_congr rfl fun r _ => ?_)
  rw [blk_2]
  exact congrArg (fun a => _ * unit 512 eps a x) (funext fun k => blk_0 m c t r k)

theorem first_gain (t : Fin cfg0.N) (h0 : t.val % 4 = 0) (x : Fin 512) : (outsAt0 m c t.val t.isLt).2 (ix2 (0 : Fin 1) x) = part m c t x := by
  rw [outsAt0_A m c t h0]
  dsimp only
  frame_out
  rw [gain_at, zero_pay, zero_add]

theorem next_gain (t : Fin cfg0.N) (h0 : ¬t.val % 4 = 0) (x : Fin 512) :
    (outsAt0 m c t.val t.isLt).2 (ix2 (0 : Fin 1) x) = (outsAt0 m c (t.val - 1) (by omega)).2 (ix2 (0 : Fin 1) x) + part m c t x := by
  rw [outsAt0_B m c t h0]
  dsimp only
  frame_out
  exact gain_at m c t _ x

theorem gain_upto (x : Fin 512) (n : ℕ) (h : n < cfg0.N) :
    (outsAt0 m c n h).2 (ix2 (0 : Fin 1) x) = ∑ s : Fin (n + 1), part m c ⟨s.val, lt_of_lt_of_le s.isLt h⟩ x :=
  carried (fun n h => (outsAt0 m c n h).2 (ix2 (0 : Fin 1) x)) (fun t => part m c t x) (fun h => first_gain m c ⟨0, h⟩ rfl x)
    (fun n h => next_gain m c ⟨n + 1, h⟩ (by have : n + 1 < 4 := h; show ¬(n + 1) % 4 = 0; omega) x) n h

/-! ## The two outputs -/

theorem out3_at (t : Fin cfg0.N) (r : Fin 1024) (x : Fin 512) :
    (outsAt0 m c t.val t.isLt).1 (ix2 r x) = dx 512 (A0 m c) (A2 m c) (A1 m c) (rowOf t r) x := by
  by_cases h0 : t.val % 4 = 0
  · rw [outsAt0_A m c t h0]
    dsimp only
    frame_out
    exact grad_at m c t r x
  · rw [outsAt0_B m c t h0]
    dsimp only
    frame_out
    exact grad_at m c t r x

/-- The rows' gradient. -/
def DX (x : (⟨2, ![4096, 512]⟩ : Shape).Idx → EReal) (g : (⟨1, ![512]⟩ : Shape).Idx → EReal) (dy : (⟨2, ![4096, 512]⟩ : Shape).Idx → EReal) :
    (⟨2, ![4096, 512]⟩ : Shape).Idx → EReal := fun y => dx 512 x dy g (y 0) (y 1)

/-- The gain's gradient, as one row. -/
def DG (x dy : (⟨2, ![4096, 512]⟩ : Shape).Idx → EReal) : (⟨2, ![1, 512]⟩ : Shape).Idx → EReal := fun y => dg 512 x dy (y 1)

theorem final_x : (dats m 0 c).arrAt 3 cfg0.N = DX (A0 m c) (A1 m c) (A2 m c) := by
  refine (dats m 0 c).arrAt_eq_of_covers 3 _ (by decide +kernel) fun t hf y => ?_
  blk_simp
  rw [after0_3]
  obtain ⟨r, x, rfl⟩ : ∃ (r : Fin 1024) (x : Fin 512), y = ix2 r x := ⟨y 0, y 1, eq_ix2 y⟩
  have e : ((cfg0.win 3).blk t).view.emb (ix2 r x) = ix2 (rowOf t r) x := funext fun a => Fin.ext <| by
    match a with
    | ⟨0, _⟩ => blk_simp [idx_3]; rfl
    | ⟨1, _⟩ => blk_simp [idx_3]
  rw [e]
  exact out3_at m c t r x

theorem final_gain : (dats m 0 c).arrAt 4 cfg0.N = DG (A0 m c) (A2 m c) := by
  refine (dats m 0 c).arrAt_eq_of_covers 4 _ (by decide +kernel) fun t hf y => ?_
  blk_simp
  rw [after0_4]
  obtain ⟨x, rfl⟩ : ∃ x : Fin 512, y = ix2 (0 : Fin 1) x :=
    ⟨y 1, (eq_ix2 y).trans (congrArg (fun z => ix2 z (y 1)) (Subsingleton.elim (α := Fin 1) _ _))⟩
  have e : ((cfg0.win 4).blk t).view.emb (ix2 (0 : Fin 1) x) = ix2 (0 : Fin 1) x := funext fun a => Fin.ext <| by
    match a with
    | ⟨0, _⟩ => blk_simp [idx_4]
    | ⟨1, _⟩ => blk_simp [idx_4]
  rw [e]
  have ht : t.val = 3 := by have := (flush0_4 t).mp hf; have : t.val < 4 := t.isLt; omega
  obtain rfl : t = ⟨3, by decide⟩ := Fin.ext ht
  refine (gain_upto m c x 3 _).trans ?_
  exact (Fin.sum_mul_add_fin 4 1024 fun i : Fin 4096 => A2 m c (ix2 i x) * unit 512 eps (fun k => A0 m c (ix2 i k)) x)

end Cert.Kernel25Ideal.Hand

namespace Cert.Reference25Ideal.Hand

open Idealize.ShloMosaic
open Cert.Reference25Ideal Cert.Reference25Ideal.Gen Cert.Reference25Ideal.Read Idealize.ShloMosaic.ValueIdx Cert.Norm
open Cert.Kernel25Ideal.Hand (DX DG)

variable (x0 : (⟨S4096x512, .f32⟩ : BufTy).Contents (Elt Ideal)) (x1 : (⟨S512, .f32⟩ : BufTy).Contents (Elt Ideal))
  (x2 : (⟨S4096x512, .f32⟩ : BufTy).Contents (Elt Ideal))

theorem shapes : Shapes 4096 512 :=
  ⟨reducesTo_S4096x512_S4096_d1, by decide, reducesTo_S4096x512_S512_d0, by decide, reducesTo_S4096x1_S4096_d1, by decide,
    reducesTo_S1x512_S512_d0, by decide, h_S_, bcast_S4096_S4096x1_0, bcast_S_S4096x1, bcast_S4096x1_S4096x512_0_1, bcast_S4096_S4096x512_0,
    bcast_S512_S1x512_1, bcast_S1x512_S4096x512_0_1, shapeCasts_S4096_S4096x1, shapeCasts_S512_S1x512, by decide, by decide⟩

theorem grad_term : val_main_v35 (F := Ideal) x0 x1 x2 = hgrad 0x44000000#32 shapes x0 x2 x1 := rfl

theorem gain_term : val_main_v36 (F := Ideal) x0 x2 = hgain 0x44000000#32 shapes x0 x2 := rfl

theorem x_eq : val_main_v35 (F := Ideal) x0 x1 x2 = DX x0 x1 x2 := by
  funext y
  obtain ⟨i, j, rfl⟩ : ∃ (i : Fin 4096) (j : Fin 512), y = ix2 i j := ⟨y 0, y 1, eq_ix2 y⟩
  rw [grad_term, hgrad_at _ _ _ _ _ 512 w512_f32 (by norm_num)]
  rfl

theorem gain_eq : val_main_v36 (F := Ideal) x0 x2 = DG x0 x2 := by
  funext y
  obtain ⟨j, rfl⟩ : ∃ j : Fin 512, y = ix2 (0 : Fin 1) j :=
    ⟨y 1, (eq_ix2 y).trans (congrArg (fun z => ix2 z (y 1)) (Subsingleton.elim (α := Fin 1) _ _))⟩
  rw [gain_term, hgain_at _ _ _ _ 512 w512_f32]
  rfl

end Cert.Reference25Ideal.Hand
-- ==== Proof.Norm.Heads.lean ====
module

public import proofs.«01_k».proof.Proof.Norm.Ref
public import proofs.«01_k».proof.Proof.Gen.Kernel26Ideal.Value
public import Idealize.ShloMosaic.Lib.Pipeline.Value
public import Idealize.ShloMosaic.Lib.Pipeline.ValueKit.Acc
public import Idealize.ShloMosaic.Lib.Pipeline.ValueKit.Geometry

/- The gradient of a normalisation of each head's 128 lanes, the gain shared by the four heads: what its kernel leaves. -/

@[expose] public section

set_option maxRecDepth 16384

noncomputable section

namespace Cert.Kernel26Ideal.Hand

open Idealize.ShloMosaic
open Cert.Kernel26Ideal Cert.Kernel26Ideal.Gen Cert.Norm
open Idealize.ShloMosaic.TcCoe Idealize.ShloMosaic.ValueIdx
open scoped BigOperators

/-! ## The results -/

/-- A head's lane among all columns, and back. -/
def hcol (h : Fin 4) (x : Fin 128) : Fin 512 := ⟨h.val * 128 + x.val, by omega⟩
def head (j : Fin 512) : Fin 4 := ⟨j.val / 128, by omega⟩
def lane (j : Fin 512) : Fin 128 := ⟨j.val % 128, by omega⟩

theorem head_hcol (h : Fin 4) (x : Fin 128) : head (hcol h x) = h := Fin.ext (by show (h.val * 128 + x.val) / 128 = h.val; omega)
theorem lane_hcol (h : Fin 4) (x : Fin 128) : lane (hcol h x) = x := Fin.ext (by show (h.val * 128 + x.val) % 128 = x.val; omega)

/-- One head's columns. -/
def slice (x : (⟨2, ![4096, 512]⟩ : Shape).Idx → EReal) (h : Fin 4) : (⟨2, ![4096, 128]⟩ : Shape).Idx → EReal := fun y => x (ix2 (y 0) (hcol h (y 1)))

/-- The rows' gradient. -/
def DX (x : (⟨2, ![4096, 512]⟩ : Shape).Idx → EReal) (g : (⟨1, ![128]⟩ : Shape).Idx → EReal) (dy : (⟨2, ![4096, 512]⟩ : Shape).Idx → EReal) :
    (⟨2, ![4096, 512]⟩ : Shape).Idx → EReal := fun y => dx 128 (slice x (head (y 1))) (slice dy (head (y 1))) g (y 0) (lane (y 1))

/-- The gain's gradient, as one row. -/
def DG (x dy : (⟨2, ![4096, 512]⟩ : Shape).Idx → EReal) : (⟨2, ![1, 128]⟩ : Shape).Idx → EReal :=
  fun y => ∑ h : Fin 4, dg 128 (slice x h) (slice dy h) (y 1)

/-! ## The kernel -/

variable (m : (ℓ : Loc nD τ sig) → Buf (Elt Ideal) ℓ) (c : Dev nD)

/-- The argument arrays: the rows, the gain, and the result's gradient. -/
abbrev A0 : (⟨2, ![4096, 512]⟩ : Shape).Idx → EReal := m ((c.tc : Thread nD τ).loc main_arg0)
abbrev A1 : (⟨1, ![128]⟩ : Shape).Idx → EReal := m ((c.tc : Thread nD τ).loc main_arg1)
abbrev A2 : (⟨2, ![4096, 512]⟩ : Shape).Idx → EReal := m ((c.tc : Thread nD τ).loc main_arg2)

theorem idx_0 : ∀ t : Fin cfg0.N, win0_0.index t = ![0, t.val] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, t.val] := (by decide +kernel : ∀ t : Fin grid0.N, _)
theorem idx_3 : ∀ t : Fin cfg0.N, win0_3.index t = ![0, t.val] := (by decide +kernel : ∀ t : Fin grid0.N, _)
theorem idx_4 : ∀ t : Fin cfg0.N, win0_4.index t = ![0, 0] := (by decide +kernel : ∀ t : Fin grid0.N, _)

/-- The head a grid point works on. -/
def hOf (t : Fin cfg0.N) : Fin 4 := ⟨t.val, by have : t.val < 4 := t.isLt; omega⟩

/-- The gain as the kernel is given it: one row. -/
theorem gain_v0 : V m c main_v0 = shapeCast S1x128 (A1 m c) shapeCasts_S128_S1x128 := by
  unfold_abbrev_sides
  after_results
  rfl

theorem blk_0 (t : Fin cfg0.N) (r : Fin 4096) (x : Fin 128) : iblk m c 0 t (ix2 r x) = slice (A0 m c) (hOf t) (ix2 r x) := by
  blk_simp [iblk]
  refine congrArg (A0 m c) (funext fun a => Fin.ext ?_)
  match a with
  | ⟨0, _⟩ => blk_simp [idx_0]
  | ⟨1, _⟩ => blk_simp [idx_0]; rfl

theorem blk_1 (t : Fin cfg0.N) (x : Fin 128) : iblk m c 1 t (ix2 (0 : Fin 1) x) = A1 m c (ix1 x) := by
  refine Eq.trans ?_ (lie_at (A1 m c) shapeCasts_S128_S1x128 (0 : Fin 1) x)
  rw [← gain_v0]
  blk_simp [iblk]
  refine congrArg (V m c main_v0) (funext fun a => Fin.ext ?_)
  match a with
  | ⟨0, _⟩ => blk_simp [idx_1]
  | ⟨1, _⟩ => blk_simp [idx_1]

theorem blk_2 (t : Fin cfg0.N) (r : Fin 4096) (x : Fin 128) : iblk m c 2 t (ix2 r x) = slice (A2 m c) (hOf t) (ix2 r x) := by
  blk_simp [iblk]
  refine congrArg (A2 m c) (funext fun a => Fin.ext ?_)
  match a with
  | ⟨0, _⟩ => blk_simp [idx_2]
  | ⟨1, _⟩ => blk_simp [idx_2]; rfl

theorem grad_pay (x dy : FVec Ideal S4096x128 .f32) (g : FVec Ideal S1x128 .f32) :
    k0_pay1 (F := Ideal) (k0_pay6 x dy g) (k0_pay7 x) = gradT 0x43000000#32 reduces_S4096x128_S4096 shapeCasts_S4096_S4096x1 broadcasts_S4096x1_S4096x128 x
      (scaledT shapeCasts_S1x128_S1x128 broadcasts_S1x128_S4096x128 dy g) := rfl

theorem gain_pay (x dy : FVec Ideal S4096x128 .f32) (old : FVec Ideal S1x128 .f32) :
    k0_pay5 (F := Ideal) x dy old = gainT 0x43000000#32 reduces_S4096x128_S4096 reduces_S4096x128_S128 shapeCasts_S4096_S4096x1 shapeCasts_S128_S1x128
      shapeCasts_S1x128_S1x128 broadcasts_S4096x1_S4096x128 x dy old := rfl

theorem zero_pay (i : S1x128.Idx) : k0_pay2 (F := Ideal) i = (0 : EReal) := Ideal.ofBits_zero_f32

theorem grad_at (t : Fin cfg0.N) (r : Fin 4096) (x : Fin 128) :
    k0_pay1 (F := Ideal) (k0_pay6 (iblk m c 0 t) (iblk m c 2 t) (iblk m c 1 t)) (k0_pay7 (iblk m c 0 t)) (ix2 r x)
      = dx 128 (slice (A0 m c) (hOf t)) (slice (A2 m c) (hOf t)) (A1 m c) r x := by
  rw [grad_pay, gradT_at _ _ _ _ 128 w128_f32 (by decide), dx]
  refine congrArg₂ (fun a b => grad 128 eps a b x) (funext fun k => blk_0 m c t r k) (funext fun k => ?_)
  rw [scaledT_at _ _ (by decide), blk_2, blk_1]

theorem gain_at (t : Fin cfg0.N) (old : FVec Ideal S1x128 .f32) (x : Fin 128) :
    k0_pay5 (F := Ideal) (iblk m c 0 t) (iblk m c 2 t) old (ix2 (0 : Fin 1) x)
      = old (ix2 (0 : Fin 1) x) + dg 128 (slice (A0 m c) (hOf t)) (slice (A2 m c) (hOf t)) x := by
  rw [gain_pay, gainT_at _ _ _ _ _ _ _ 128 w128_f32 (by decide), dg]
  refine congrArg (fun z : EReal => old (ix2 (0 : Fin 1) x) + z) (Finset.sum_congr rfl fun r _ => ?_)
  rw [blk_2]
  exact congrArg (fun a => _ * unit 128 eps a x) (funext fun k => blk_0 m c t r k)

theorem first_gain (t : Fin cfg0.N) (h0 : t.val % 4 = 0) (x : Fin 128) :
    (outsAt0 m c t.val t.isLt).2 (ix2 (0 : Fin 1) x) = dg 128 (slice (A0 m c) (hOf t)) (slice (A2 m c) (hOf t)) x := by
  rw [outsAt0_A m c t h0]
  dsimp only
  frame_out
  rw [gain_at, zero_pay, zero_add]

theorem next_gain (t : Fin cfg0.N) (h0 : ¬t.val % 4 = 0) (x : Fin 128) :
    (outsAt0 m c t.val t.isLt).2 (ix2 (0 : Fin 1) x)
      = (outsAt0 m c (t.val - 1) (by omega)).2 (ix2 (0 : Fin 1) x) + dg 128 (slice (A0 m c) (hOf t)) (slice (A2 m c) (hOf t)) x := by
  rw [outsAt0_B m c t h0]
  dsimp only
  frame_out
  exact gain_at m c t _ x

theorem gain_upto (x : Fin 128) (n : ℕ) (h : n < cfg0.N) :
    (outsAt0 m c n h).2 (ix2 (0 : Fin 1) x)
      = ∑ s : Fin (n + 1), dg 128 (slice (A0 m c) (hOf ⟨s.val, lt_of_lt_of_le s.isLt h⟩)) (slice (A2 m c) (hOf ⟨s.val, lt_of_lt_of_le s.isLt h⟩)) x :=
  carried (fun n h => (outsAt0 m c n h).2 (ix2 (0 : Fin 1) x)) (fun t => dg 128 (slice (A0 m c) (hOf t)) (slice (A2 m c) (hOf t)) x)
    (fun h => first_gain m c ⟨0, h⟩ rfl x)
    (fun n h => next_gain m c ⟨n + 1, h⟩ (by have : n + 1 < 4 := h; show ¬(n + 1) % 4 = 0; omega) x) n h

theorem out3_at (t : Fin cfg0.N) (r : Fin 4096) (x : Fin 128) :
    (outsAt0 m c t.val t.isLt).1 (ix2 r x) = dx 128 (slice (A0 m c) (hOf t)) (slice (A2 m c) (hOf t)) (A1 m c) r x := by
  by_cases h0 : t.val % 4 = 0
  · rw [outsAt0_A m c t h0]
    dsimp only
    frame_out
    exact grad_at m c t r x
  · rw [outsAt0_B m c t h0]
    dsimp only
    frame_out
    exact grad_at m c t r x

theorem final_x : (dats m 0 c).arrAt 3 cfg0.N = DX (A0 m c) (A1 m c) (A2 m c) := by
  refine (dats m 0 c).arrAt_eq_of_covers 3 _ (by decide +kernel) fun t hf y => ?_
  blk_simp
  rw [after0_3]
  obtain ⟨r, x, rfl⟩ : ∃ (r : Fin 4096) (x : Fin 128), y = ix2 r x := ⟨y 0, y 1, eq_ix2 y⟩
  have e : ((cfg0.win 3).blk t).view.emb (ix2 r x) = ix2 r (hcol (hOf t) x) := funext fun a => Fin.ext <| by
    match a with
    | ⟨0, _⟩ => blk_simp [idx_3]
    | ⟨1, _⟩ => blk_simp [idx_3]; rfl
  rw [e]
  show _ = dx 128 (slice (A0 m c) (head (hcol (hOf t) x))) (slice (A2 m c) (head (hcol (hOf t) x))) (A1 m c) r (lane (hcol (hOf t) x))
  rw [head_hcol, lane_hcol]
  exact out3_at m c t r x

theorem final_gain : (dats m 0 c).arrAt 4 cfg0.N = DG (A0 m c) (A2 m c) := by
  refine (dats m 0 c).arrAt_eq_of_covers 4 _ (by decide +kernel) fun t hf y => ?_
  blk_simp
  rw [after0_4]
  obtain ⟨x, rfl⟩ : ∃ x : Fin 128, y = ix2 (0 : Fin 1) x :=
    ⟨y 1, (eq_ix2 y).trans (congrArg (fun z => ix2 z (y 1)) (Subsingleton.elim (α := Fin 1) _ _))⟩
  have e : ((cfg0.win 4).blk t).view.emb (ix2 (0 : Fin 1) x) = ix2 (0 : Fin 1) x := funext fun a => Fin.ext <| by
    match a with
    | ⟨0, _⟩ => blk_simp [idx_4]
    | ⟨1, _⟩ => blk_simp [idx_4]
  rw [e]
  have ht : t.val = 3 := by have := (flush0_4 t).mp hf; have : t.val < 4 := t.isLt; omega
  obtain rfl : t = ⟨3, by decide⟩ := Fin.ext ht
  exact gain_upto m c x 3 _

end Cert.Kernel26Ideal.Hand
-- ==== Proof.Norm.Groups.lean ====
module

public import proofs.«01_k».proof.Proof.Norm.Tile
public import Idealize.ShloMosaic.Lib.Pipeline.Value

/- A sum along the first two axes of three. -/

@[expose] public section

noncomputable section

namespace Cert.Norm

open Idealize.ShloMosaic Idealize.ShloMosaic.ValueIdx
open scoped BigOperators

theorem firstTwo_at {A B C : ℕ} (h : (⟨3, ![A, B, C]⟩ : Shape).ReducesTo [0, 1] ⟨1, ![C]⟩) (hz : 0 < (⟨0, ![]⟩ : Shape).numel)
    (y : FVec Ideal ⟨3, ![A, B, C]⟩ .f32) (k : Fin C) :
    Host.reduceAdd y (constant ⟨0, ![]⟩ .f32 0x00000000#32) h hz (ix1 k) = ∑ a : Fin A, ∑ b : Fin B, y (ix3 a b k) := by
  simp only [Host.reduceAdd, Ideal.hostReduceAdd_def]
  refine (congrArg (· + _) Ideal.ofBits_zero_f32).trans ((zero_add _).trans ?_)
  rw [← Fintype.sum_prod_type' fun a b => y (ix3 a b k)]
  have keep : ∀ i : (⟨3, ![A, B, C]⟩ : Shape).Idx, (h.drop i 0).val = (i 2).val := fun i => rfl
  refine Finset.sum_nbij' (fun i => ((i 0 : Fin A), (i 1 : Fin B))) (fun p => ix3 p.1 p.2 k) (fun _ _ => Finset.mem_univ _) (fun p _ => ?_)
    (fun i hi => ?_) (fun _ _ => rfl) (fun i hi => ?_)
  · refine Finset.mem_filter.mpr ⟨Finset.mem_univ _, (eq_ix1 _).trans (congrArg ix1 (Fin.ext (keep _)))⟩
  · have e : (i 2 : Fin C) = k := Fin.ext ((keep i).symm.trans (congrArg (fun j => (j 0).val) (Finset.mem_filter.mp hi).2))
    exact ((eq_ix3 i).trans (congrArg (ix3 _ _) e)).symm
  · have e : (i 2 : Fin C) = k := Fin.ext ((keep i).symm.trans (congrArg (fun j => (j 0).val) (Finset.mem_filter.mp hi).2))
    exact congrArg y ((eq_ix3 i).trans (congrArg (ix3 _ _) e))

end Cert.Norm
-- ==== Proof.Norm.HeadsRef.lean ====
module

public import proofs.«01_k».proof.Proof.Norm.Heads
public import proofs.«01_k».proof.Proof.Norm.Groups
public import proofs.«01_k».proof.Proof.Gen.Reference26Ideal.Read

/- The gradient of a normalisation of each head's 128 lanes as its reference has it, read at an index. -/

@[expose] public section

noncomputable section

namespace Cert.Reference26Ideal.Hand

open Idealize.ShloMosaic
open Cert.Reference26Ideal Cert.Reference26Ideal.Gen Cert.Reference26Ideal.Read Idealize.ShloMosaic.ValueIdx Cert.Norm
open Cert.Kernel26Ideal.Hand
open scoped BigOperators

variable (x0 : (⟨S4096x512, .f32⟩ : BufTy).Contents (Elt Ideal)) (x1 : (⟨S128, .f32⟩ : BufTy).Contents (Elt Ideal))
  (x2 : (⟨S4096x512, .f32⟩ : BufTy).Contents (Elt Ideal))
variable (i : Fin 4096) (h : Fin 4) (j : Fin 128)

/-- A row of a head, and the gradient of the normalised one. -/
abbrev row : Fin 128 → EReal := fun k => slice x0 h (ix2 i k)
abbrev drow : Fin 128 → EReal := fun k => slice x2 h (ix2 i k) * x1 (ix1 k)

theorem split_at (x : (⟨S4096x512, .f32⟩ : BufTy).Contents (Elt Ideal)) : val_main_v0 (F := Ideal) x (ix3 i h j) = slice x h (ix2 i j) := by
  rw [val_main_v0_apply]
  refine congrArg x (funext fun a => Fin.ext ?_)
  match a with
  | ⟨0, _⟩ => show ((i.val * 4 + h.val) * 128 + j.val) / 512 = i.val; omega
  | ⟨1, _⟩ => show ((i.val * 4 + h.val) * 128 + j.val) % 512 = h.val * 128 + j.val; omega

theorem v18_at : val_main_v18 (F := Ideal) x2 (ix3 i h j) = slice x2 h (ix2 i j) := split_at i h j x2

theorem v7_at : val_main_v7 (F := Ideal) x0 (ix3 i h (0 : Fin 1)) = var 128 eps (row x0 i h) := by
  show Ideal.div (val_main_v3 (F := Ideal) x0 (ix3 i h 0)) (val_main_v4 (F := Ideal) (ix3 i h 0)) + val_main_v6 (F := Ideal) (ix3 i h 0) = _
  rw [val_main_v3_apply, val_main_v2_apply, val_main_v4_apply, val_main_v6_apply]
  show Ideal.div (Ideal.ofBits .f32 0x00000000#32 + _) (Ideal.ofBits .f32 0x43000000#32) + Ideal.ofBits .f32 0x358637BD#32 = _
  rw [Ideal.ofBits_zero_f32, zero_add, w128_f32, eps_f32, var]
  refine congrArg (fun z : EReal => Ideal.div z _ + _) (Finset.sum_congr rfl fun k _ => ?_)
  refine (congrArg (fun y => val_main_v0 (F := Ideal) x0 y * val_main_v0 (F := Ideal) x0 y) (eq_ix3 _)).trans ?_
  exact congrArg (fun z : EReal => z * z) (split_at i h k x0)

theorem v8_at : val_main_v8 (F := Ideal) x0 (ix3 i h (0 : Fin 1)) = rs 128 eps (row x0 i h) := congrArg Ideal.rsqrt (v7_at x0 i h)

theorem v12_at : val_main_v12 (F := Ideal) x0 (ix3 i h j) = rs 128 eps (row x0 i h) := by
  rw [val_main_v12_apply]
  exact (congrArg (val_main_v8 (F := Ideal) x0) (eq_ix3 _)).trans (v8_at x0 i h)

theorem v22_at : val_main_v22 (F := Ideal) x1 (ix3 i h j) = x1 (ix1 j) := by
  rw [val_main_v22_apply, val_main_v14_apply]
  exact congrArg x1 (eq_ix1 _)

theorem v23_at : val_main_v23 (F := Ideal) x1 x2 (ix3 i h j) = drow x1 x2 i h j := congrArg₂ (fun a b : EReal => a * b) (v18_at x2 i h j) (v22_at x1 i h j)

theorem v11_at : val_main_v11 (F := Ideal) x0 (ix3 i h (0 : Fin 1))
    = ((-(1 / 2) : ℝ) : EReal) * Ideal.div (rs 128 eps (row x0 i h)) (var 128 eps (row x0 i h)) := by
  show val_main_v10 (F := Ideal) (ix3 i h 0) * Ideal.div (val_main_v8 (F := Ideal) x0 (ix3 i h 0)) (val_main_v7 (F := Ideal) x0 (ix3 i h 0)) = _
  rw [val_main_v10_apply, v8_at, v7_at, ← half_f32]
  rfl

theorem v27_at : val_main_v27 (F := Ideal) x0 x1 x2 (ix3 i h (0 : Fin 1)) = ∑ k, row x0 i h k * drow x1 x2 i h k := by
  have e : idx_main_v27 (ix3 i h (0 : Fin 1)) = ix2 i h := funext fun a => Fin.ext <| by
    match a with
    | ⟨0, _⟩ => show ((i.val * 4 + h.val) * 1 + 0) / 4 = i.val; omega
    | ⟨1, _⟩ => show ((i.val * 4 + h.val) * 1 + 0) % 4 = h.val; omega
  rw [val_main_v27_apply, e, val_main_v26_apply]
  show Ideal.ofBits .f32 0x00000000#32 + _ = _
  rw [Ideal.ofBits_zero_f32, zero_add]
  refine Finset.sum_congr rfl fun k _ => ?_
  refine (congrArg (val_main_v25 (F := Ideal) x0 x1 x2) (eq_ix3 _)).trans ?_
  exact congrArg₂ (fun a b : EReal => a * b) (split_at i h k x0) (v23_at x1 x2 i h k)

theorem v34_at : val_main_v34 (F := Ideal) x0 x1 x2 (ix3 i h j) = back 128 eps (row x0 i h) (drow x1 x2 i h) ((-(1 / 2) : ℝ) : EReal) := by
  rw [val_main_v34_apply, val_main_v33_apply, Fin.sum_univ_one]
  show Ideal.ofBits .f32 0x00000000#32 + _ = _
  rw [Ideal.ofBits_zero_f32, zero_add]
  refine (congrArg (val_main_v32 (F := Ideal) x0 x1 x2) (eq_ix3 _)).trans ?_
  show Ideal.div (val_main_v27 (F := Ideal) x0 x1 x2 (ix3 i h 0) * val_main_v11 (F := Ideal) x0 (ix3 i h 0)) (val_main_v31 (F := Ideal) (ix3 i h 0)) = _
  rw [v27_at, v11_at, val_main_v31_apply]
  show Ideal.div _ (Ideal.ofBits .f32 0x43000000#32) = _
  rw [w128_f32, back]

theorem v38_at : val_main_v38 (F := Ideal) x0 x1 x2 (ix3 i h j) = dx 128 (slice x0 h) (slice x2 h) x1 i j := by
  show val_main_v23 (F := Ideal) x1 x2 (ix3 i h j) * val_main_v12 (F := Ideal) x0 (ix3 i h j)
    + val_main_v0 (F := Ideal) x0 (ix3 i h j) * val_main_v34 (F := Ideal) x0 x1 x2 (ix3 i h j)
    + val_main_v34 (F := Ideal) x0 x1 x2 (ix3 i h j) * val_main_v0 (F := Ideal) x0 (ix3 i h j) = _
  rw [v23_at, v12_at, v34_at, split_at]
  exact grad_eq 128 eps (row x0 i h) (drow x1 x2 i h) (by norm_num) eps_pos j

theorem x_eq : val_main_v39 (F := Ideal) x0 x1 x2 = DX x0 x1 x2 := by
  funext y
  obtain ⟨i, j, rfl⟩ : ∃ (i : Fin 4096) (j : Fin 512), y = ix2 i j := ⟨y 0, y 1, eq_ix2 y⟩
  have e : idx_main_v39 (ix2 i j) = ix3 i (head j) (lane j) := funext fun a => Fin.ext <| by
    match a with
    | ⟨0, _⟩ => show (i.val * 512 + j.val) / 512 = i.val; omega
    | ⟨1, _⟩ => show (i.val * 512 + j.val) / 128 % 4 = j.val / 128; omega
    | ⟨2, _⟩ => show (i.val * 512 + j.val) % 128 = j.val % 128; omega
  rw [val_main_v39_apply, e]
  exact v38_at x0 x1 x2 i (head j) (lane j)

theorem v20_at : val_main_v20 (F := Ideal) x0 x2 (ix1 j) = ∑ h : Fin 4, dg 128 (slice x0 h) (slice x2 h) j := by
  refine (firstTwo_at reducesTo_S4096x4x128_S128_d0_1 _ (val_main_v19 (F := Ideal) x0 x2) j).trans ?_
  rw [Finset.sum_comm]
  refine Finset.sum_congr rfl fun h _ => Finset.sum_congr rfl fun i _ => ?_
  show val_main_v0 (F := Ideal) x0 (ix3 i h j) * val_main_v12 (F := Ideal) x0 (ix3 i h j) * val_main_v18 (F := Ideal) x2 (ix3 i h j) = _
  rw [split_at, v12_at, v18_at, mul_comm]
  rfl

theorem gain_eq : val_main_v40 (F := Ideal) x0 x2 = DG x0 x2 := by
  funext y
  obtain ⟨j, rfl⟩ : ∃ j : Fin 128, y = ix2 (0 : Fin 1) j :=
    ⟨y 1, (eq_ix2 y).trans (congrArg (fun z => ix2 z (y 1)) (Subsingleton.elim (α := Fin 1) _ _))⟩
  have e : idx_main_v40 (ix2 (0 : Fin 1) j) = ix1 j := (eq_ix1 _).trans (congrArg ix1 (Fin.ext (by show 0 * 128 + j.val = j.val; omega)))
  have e' : idx_main_v21 (ix3 (0 : Fin 1) (0 : Fin 1) j) = ix1 j := (eq_ix1 _).trans (congrArg ix1 (Fin.ext (by show (0 * 1 + 0) * 128 + j.val = j.val; omega)))
  rw [val_main_v40_apply, e]
  refine (firstTwo_at reducesTo_S1x1x128_S128_d0_1 _ (val_main_v21 (F := Ideal) x0 x2) j).trans ?_
  rw [Fin.sum_univ_one, Fin.sum_univ_one, val_main_v21_apply, e']
  exact v20_at x0 x2 j

end Cert.Reference26Ideal.Hand
-- ==== Proof.Norm.Claims.lean ====
module

public import proofs.«01_k».proof.Defs
public import proofs.«01_k».proof.Proof.Results
public import proofs.«01_k».proof.Proof.Norm.WideRef
public import proofs.«01_k».proof.Proof.Norm.Latent
public import proofs.«01_k».proof.Proof.Norm.HeadsRef
public import proofs.«01_k».proof.Proof.Gen.Reference24Ideal.Run
public import proofs.«01_k».proof.Proof.Gen.Reference25Ideal.Run
public import proofs.«01_k».proof.Proof.Gen.Reference26Ideal.Run

/- The normalisations' gradients against their references. -/

@[expose] public section

noncomputable section

namespace Cert.Norm

open Idealize.ShloMosaic Idealize.SL.Sem Cert

/-- The references end quietly. -/
theorem wide_frame : @quiescent_Reference24Ideal Reference24Ideal.Gen.facts := fun m g _ =>
  (θ_run Reference24Ideal.defs _ _).mono (fun r h => ⟨fun c => (h c).2.2.2, sem_eq_zero_of_no_sems rfl r.2⟩) (Reference24Ideal.Value.run (F := Ideal) m g)
theorem latent_frame : @quiescent_Reference25Ideal Reference25Ideal.Gen.facts := fun m g _ =>
  (θ_run Reference25Ideal.defs _ _).mono (fun r h => ⟨fun c => (h c).2.2, sem_eq_zero_of_no_sems rfl r.2⟩) (Reference25Ideal.Value.run (F := Ideal) m g)
theorem heads_frame : @quiescent_Reference26Ideal Reference26Ideal.Gen.facts := fun m g _ =>
  (θ_run Reference26Ideal.defs _ _).mono (fun r h => ⟨fun c => (h c).2.2, sem_eq_zero_of_no_sems rfl r.2⟩) (Reference26Ideal.Value.run (F := Ideal) m g)

/-- The gradient of the model's normalisation, with the residual's and its rounded copy, is the reference's. -/
theorem wide : @algebraic_Kernel24Ideal_Reference24Ideal Kernel24Ideal.Gen.facts Reference24Ideal.Gen.facts := by
  intro m g m' g' _ same
  refine ⟨fun c => Kernel24Ideal.Hand.DX (Kernel24Ideal.Hand.A0 m c) (Kernel24Ideal.Hand.A1 m c) (Kernel24Ideal.Hand.A2 m c) (Kernel24Ideal.Hand.A3 m c),
    fun c => Kernel24Ideal.Hand.DG (Kernel24Ideal.Hand.A0 m c) (Kernel24Ideal.Hand.A2 m c),
    fun c => Kernel24Ideal.Hand.DX (Kernel24Ideal.Hand.A0 m c) (Kernel24Ideal.Hand.A1 m c) (Kernel24Ideal.Hand.A2 m c) (Kernel24Ideal.Hand.A3 m c), ?_, ?_⟩
  · exact (θ_run Kernel24Ideal.defs _ _).mono (fun r h c => ⟨(h c).1.trans (Kernel24Ideal.Hand.final_x m c),
      (h c).2.1.trans (Kernel24Ideal.Hand.final_gain m c), (h c).2.2.1.trans (Kernel24Ideal.Hand.final_copy m c), (h c).2.2.2⟩)
      (Kernel24Ideal.Value.run_blocks (F := Ideal) m g)
  · refine (θ_run Reference24Ideal.defs _ _).mono (fun r h c => ?_) (Reference24Ideal.Value.run (F := Ideal) m' g')
    obtain ⟨e0, e1, e2, e3⟩ := same c
    refine ⟨(h c).1.trans ?_, (h c).2.1.trans ?_, (h c).2.2.1.trans ?_, (h c).2.2.2⟩
    · rw [Reference24Ideal.Read.val_main_v36_eq, e0, e1, e2, e3]
      exact Reference24Ideal.Hand.x_eq _ _ _ _
    · rw [Reference24Ideal.Read.val_main_v37_eq, e0, e2]
      exact Reference24Ideal.Hand.gain_eq _ _
    · rw [Reference24Ideal.Read.val_main_v38_eq, e0, e1, e2, e3]
      exact Reference24Ideal.Hand.copy_eq _ _ _ _

/-- The gradient of a latent's normalisation is the reference's. -/
theorem latent : @algebraic_Kernel25Ideal_Reference25Ideal Kernel25Ideal.Gen.facts Reference25Ideal.Gen.facts := by
  intro m g m' g' _ same
  refine ⟨fun c => Kernel25Ideal.Hand.DX (Kernel25Ideal.Hand.A0 m c) (Kernel25Ideal.Hand.A1 m c) (Kernel25Ideal.Hand.A2 m c),
    fun c => Kernel25Ideal.Hand.DG (Kernel25Ideal.Hand.A0 m c) (Kernel25Ideal.Hand.A2 m c), ?_, ?_⟩
  · exact (θ_run Kernel25Ideal.defs _ _).mono (fun r h c => ⟨(h c).1.trans (Kernel25Ideal.Hand.final_x m c),
      (h c).2.1.trans (Kernel25Ideal.Hand.final_gain m c), (h c).2.2⟩) (Kernel25Ideal.Value.run_blocks (F := Ideal) m g)
  · refine (θ_run Reference25Ideal.defs _ _).mono (fun r h c => ?_) (Reference25Ideal.Value.run (F := Ideal) m' g')
    obtain ⟨e0, e1, e2⟩ := same c
    refine ⟨(h c).1.trans ?_, (h c).2.1.trans ?_, (h c).2.2⟩
    · rw [Reference25Ideal.Read.val_main_v35_eq, e0, e1, e2]
      exact Reference25Ideal.Hand.x_eq _ _ _
    · rw [Reference25Ideal.Read.val_main_v36_eq, e0, e2]
      exact Reference25Ideal.Hand.gain_eq _ _

/-- The gradient of the heads' normalisation is the reference's. -/
theorem heads : @algebraic_Kernel26Ideal_Reference26Ideal Kernel26Ideal.Gen.facts Reference26Ideal.Gen.facts := by
  intro m g m' g' _ same
  refine ⟨fun c => Kernel26Ideal.Hand.DX (Kernel26Ideal.Hand.A0 m c) (Kernel26Ideal.Hand.A1 m c) (Kernel26Ideal.Hand.A2 m c),
    fun c => Kernel26Ideal.Hand.DG (Kernel26Ideal.Hand.A0 m c) (Kernel26Ideal.Hand.A2 m c), ?_, ?_⟩
  · exact (θ_run Kernel26Ideal.defs _ _).mono (fun r h c => ⟨(h c).1.trans (Kernel26Ideal.Hand.final_x m c),
      (h c).2.1.trans (Kernel26Ideal.Hand.final_gain m c), (h c).2.2⟩) (Kernel26Ideal.Value.run_blocks (F := Ideal) m g)
  · refine (θ_run Reference26Ideal.defs _ _).mono (fun r h c => ?_) (Reference26Ideal.Value.run (F := Ideal) m' g')
    obtain ⟨e0, e1, e2⟩ := same c
    refine ⟨(h c).1.trans ?_, (h c).2.1.trans ?_, (h c).2.2⟩
    · rw [Reference26Ideal.Read.val_main_v39_eq, e0, e1, e2]
      exact Reference26Ideal.Hand.x_eq _ _ _
    · rw [Reference26Ideal.Read.val_main_v40_eq, e0, e2]
      exact Reference26Ideal.Hand.gain_eq _ _

end Cert.Norm
-- ==== Proof.Data.lean ====
module

public import proofs.«01_k».proof.Proof.Gen.KernelIdeal.Launch
public import proofs.«01_k».proof.Proof.Gen.KernelIdeal.Points
public import proofs.«01_k».proof.Proof.Body
public import Idealize.ShloMosaic.Lib.Pipeline.FrameBody
public import Idealize.ShloMosaic.Lib.Tactic
public import Idealize.ShloMosaic.Lib.Claim
public import Idealize.ShloMosaic.Lib.WordCmp

/- The attention gradient's pipeline: what every grid point leaves in the output blocks, the body's obligation, and the run of the
   whole program, with every output array named. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open VecWindow (window put)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which query tile a grid point works on -/

/-- The number of the query tile at grid point `t`: the tile attends to one key tile more. -/
def tileOf (t : Fin cfg0.N) : Fin 4 := ⟨t.val % 4, Nat.mod_lt _ (by decide)⟩

section
variable (t : Fin cfg0.N)
theorem coord2 : (grid0.coords t 2).val = t.val % 4 := by
  have h : (grid0.coords t 2).val = t.val / 1 % 4 := Pipeline.Grid.coords_val t 2 (by decide) rfl
  rwa [Nat.div_one] at h
theorem cond1_iff : k0_cond1 (grid0.coords t) = 1#1 ↔ t.val % 4 = 0 := by simp only [k0_cond1, coord2]; word_cmp
theorem cond2_iff : k0_cond2 (grid0.coords t) = 1#1 ↔ t.val % 4 = 0 := by simp only [k0_cond2, coord2]; word_cmp
theorem cond3_iff : k0_cond3 (grid0.coords t) = 1#1 ↔ t.val % 4 = 1 := by simp only [k0_cond3, coord2]; word_cmp
theorem cond4_iff : k0_cond4 (grid0.coords t) = 1#1 ↔ t.val % 4 = 2 := by simp only [k0_cond4, coord2]; word_cmp
theorem cond5_iff : k0_cond5 (grid0.coords t) = 1#1 ↔ t.val % 4 = 3 := by simp only [k0_cond5, coord2]; word_cmp
end

/-- The last grid axis has four points, and each of the four branches belongs to one of them. -/
theorem live (i : grid0.Coords) : cfg0.idle 4 i = false ∧ cfg0.idle 5 i = false ∧ cfg0.idle 6 i = false := by
  obtain h | h | h | h : (i 2).val = 0 ∨ (i 2).val = 1 ∨ (i 2).val = 2 ∨ (i 2).val = 3 := by
    have : (i 2).val < 4 := (i 2).isLt
    omega
  all_goals
    show idle0 4 i = false ∧ idle0 5 i = false ∧ idle0 6 i = false
    simp only [idle0, k0_cond1, k0_cond2, k0_cond3, k0_cond4, k0_cond5, h]
    decide

abbrev ms0 (t : Fin cfg0.N) : Memref sig .tc .vmem S1x512x256 .bf16 := win0_0.stage (cfg0.slots t 0)
abbrev ms1 (t : Fin cfg0.N) : Memref sig .tc .vmem S1x2048x256 .bf16 := win0_1.stage (cfg0.slots t 1)
abbrev ms2 (t : Fin cfg0.N) : Memref sig .tc .vmem S1x2048x128 .bf16 := win0_2.stage (cfg0.slots t 2)
abbrev ms3 (t : Fin cfg0.N) : Memref sig .tc .vmem S1x512x128 .f32 := win0_3.stage (cfg0.slots t 3)
abbrev ms4 (t : Fin cfg0.N) : Memref sig .tc .vmem S1x512x256 .f32 := win0_4.stage (cfg0.slots t 4)
abbrev ms5 (t : Fin cfg0.N) : Memref sig .tc .vmem S1x2048x256 .f32 := win0_5.stage (cfg0.slots t 5)
abbrev ms6 (t : Fin cfg0.N) : Memref sig .tc .vmem S1x2048x128 .f32 := win0_6.stage (cfg0.slots t 6)

/-- The body at grid point `t` runs as its query tile says. -/
theorem runs_at (c : Dev nD) (t : Fin cfg0.N) :
    Runs (F := F) c (grid0.coords t) (ms0 t) (hstage0_0 ((cfg0.slots t 0).cast nbuf0_0)) (ms1 t) (hstage0_1 ((cfg0.slots t 1).cast nbuf0_1))
      (ms2 t) (hstage0_2 ((cfg0.slots t 2).cast nbuf0_2)) (ms3 t) (hstage0_3 ((cfg0.slots t 3).cast nbuf0_3)) (ms4 t) (hstage0_4 ((cfg0.slots t 4).cast nbuf0_4))
      (ms5 t) (hstage0_5 ((cfg0.slots t 5).cast nbuf0_5)) (ms6 t) (hstage0_6 ((cfg0.slots t 6).cast nbuf0_6)) (tileOf t) := by
  have hn : ∀ n : Fin 4, t.val % 4 = n.val → tileOf t = n := fun n h => Fin.ext h
  have h1 := cond1_iff t; have h2 := cond2_iff t; have h3 := cond3_iff t; have h4 := cond4_iff t; have h5 := cond5_iff t
  obtain h | h | h | h : t.val % 4 = 0 ∨ t.val % 4 = 1 ∨ t.val % 4 = 2 ∨ t.val % 4 = 3 := by omega
  · rw [hn 0 h]; apply run_0 <;> simp only [h1, h2, h3, h4, h5] <;> omega
  · rw [hn 1 h]; apply run_1 <;> simp only [h1, h2, h3, h4, h5] <;> omega
  · rw [hn 2 h]; apply run_2 <;> simp only [h1, h2, h3, h4, h5] <;> omega
  · rw [hn 3 h]; apply run_3 <;> simp only [h1, h2, h3, h4, h5] <;> omega

/-! ## The proof data -/

/-- The keys' and the values' gradient block after grid point `n`, by recursion over the points. -/
def aft5 (c : Dev nD) : ℕ → Vec F S1x2048x256 .f32
  | 0 => if h : 0 < cfg0.N then dkOf (tileOf ⟨0, h⟩) (iblk m c 0 ⟨0, h⟩) (iblk m c 1 ⟨0, h⟩) (iblk m c 2 ⟨0, h⟩) (iblk m c 3 ⟨0, h⟩) k0_pay1 else k0_pay1
  | n + 1 => if h : n + 1 < cfg0.N then dkOf (tileOf ⟨n + 1, h⟩) (iblk m c 0 ⟨n + 1, h⟩) (iblk m c 1 ⟨n + 1, h⟩) (iblk m c 2 ⟨n + 1, h⟩) (iblk m c 3 ⟨n + 1, h⟩) (aft5 c n) else k0_pay1
def aft6 (c : Dev nD) : ℕ → Vec F S1x2048x128 .f32
  | 0 => if h : 0 < cfg0.N then dvOf (tileOf ⟨0, h⟩) (iblk m c 0 ⟨0, h⟩) (iblk m c 1 ⟨0, h⟩) (iblk m c 3 ⟨0, h⟩) k0_pay2 else k0_pay2
  | n + 1 => if h : n + 1 < cfg0.N then dvOf (tileOf ⟨n + 1, h⟩) (iblk m c 0 ⟨n + 1, h⟩) (iblk m c 1 ⟨n + 1, h⟩) (iblk m c 3 ⟨n + 1, h⟩) (aft6 c n) else k0_pay2

/-- The proof data: the inputs' buffers keep their blocks, the outputs hold what the points so far have left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqOf (tileOf t) (iblk m c 0 t) (iblk m c 1 t) (iblk m c 2 t) (iblk m c 3 t)
    | ⟨5, _⟩ => aft5 m c t.val
    | ⟨6, _⟩ => aft6 m c t.val
  Φ _ := Pipeline.ΦA spec0 c
  q _ := fullShare
  owed _ := 0

theorem A_eq (c : Dev nD) (w : Fin cfg0.W) : (dats m 0 c).A w = V m c (Pipeline.arrRef spec0 w) := by dsimp only [dats]

section
variable (c : Dev nD) (t : Fin cfg0.N)
theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = dqOf (tileOf t) (iblk m c 0 t) (iblk m c 1 t) (iblk m c 2 t) (iblk m c 3 t) := by dsimp only [dats]
theorem after_5 : (dats m 0 c).after 5 t = aft5 m c t.val := by dsimp only [dats]
theorem after_6 : (dats m 0 c).after 6 t = aft6 m c t.val := by dsimp only [dats]
theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d

/-- On the first query tile nothing of the blocks' former contents is kept. -/
theorem dkOf_first (h : tileOf t = 0) (x0 x1 x2 x3) (d d' : Vec F S1x2048x256 .f32) : dkOf (tileOf t) x0 x1 x2 x3 d = dkOf (tileOf t) x0 x1 x2 x3 d' := by rw [h]; rfl
theorem dvOf_first (h : tileOf t = 0) (x0 x1 x3) (d d' : Vec F S1x2048x128 .f32) : dvOf (tileOf t) x0 x1 x3 d = dvOf (tileOf t) x0 x1 x3 d' := by rw [h]; rfl

/-- One step: from what the body finds in the blocks to what the proof data say it leaves. -/
theorem step5 (d) : dkOf (tileOf t) (iblk m c 0 t) (iblk m c 1 t) (iblk m c 2 t) (iblk m c 3 t) ((dats m 0 c).before 5 t d) = aft5 m c t.val := by
  obtain ⟨n, hn⟩ := t
  cases n with
  | zero =>
    rw [dkOf_first ⟨0, hn⟩ (Fin.ext rfl) _ _ _ _ _ k0_pay1]; show _ = aft5 m c 0; unfold aft5; rw [dif_pos hn]
  | succ n =>
    show _ = aft5 m c (n + 1)
    rw [show aft5 m c (n + 1) = dkOf (tileOf ⟨n + 1, hn⟩) (iblk m c 0 ⟨n + 1, hn⟩) (iblk m c 1 ⟨n + 1, hn⟩) (iblk m c 2 ⟨n + 1, hn⟩) (iblk m c 3 ⟨n + 1, hn⟩) (aft5 m c n) from dif_pos hn]
    by_cases h : (n + 1) % 4 = 0
    · exact dkOf_first ⟨n + 1, hn⟩ (Fin.ext h) _ _ _ _ _ _
    · rw [(dats m 0 c).before_out_kept 5 rfl ⟨n + 1, hn⟩ (Nat.succ_ne_zero n)
        (Bool.eq_false_iff.mpr fun hf => h (by have := (flush0_5 _).mp hf; simp only [Nat.add_sub_cancel] at this; omega)) (fun i => (live i).2.1) (fun _ _ => rfl)]
      rw [after_5]; rfl
theorem step6 (d) : dvOf (tileOf t) (iblk m c 0 t) (iblk m c 1 t) (iblk m c 3 t) ((dats m 0 c).before 6 t d) = aft6 m c t.val := by
  obtain ⟨n, hn⟩ := t
  cases n with
  | zero =>
    rw [dvOf_first ⟨0, hn⟩ (Fin.ext rfl) _ _ _ _ k0_pay2]; show _ = aft6 m c 0; unfold aft6; rw [dif_pos hn]
  | succ n =>
    show _ = aft6 m c (n + 1)
    rw [show aft6 m c (n + 1) = dvOf (tileOf ⟨n + 1, hn⟩) (iblk m c 0 ⟨n + 1, hn⟩) (iblk m c 1 ⟨n + 1, hn⟩) (iblk m c 3 ⟨n + 1, hn⟩) (aft6 m c n) from dif_pos hn]
    by_cases h : (n + 1) % 4 = 0
    · exact dvOf_first ⟨n + 1, hn⟩ (Fin.ext h) _ _ _ _ _
    · rw [(dats m 0 c).before_out_kept 6 rfl ⟨n + 1, hn⟩ (Nat.succ_ne_zero n)
        (Bool.eq_false_iff.mpr fun hf => h (by have := (flush0_6 _).mp hf; simp only [Nat.add_sub_cancel] at this; omega)) (fun i => (live i).2.2) (fun _ _ => rfl)]
      rw [after_6]; rfl
end

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0 t) fullShare (iblk m c 0 t) from by unfold Dat.leavesExact; rw [show cfg0.idle 0 (grid0.coords t) = false from rfl, after_0],
    show (dats m 0 c).leavesExact 1 t = owns (c : Thread nD τ) (ms1 t) fullShare (iblk m c 1 t) from by unfold Dat.leavesExact; rw [show cfg0.idle 1 (grid0.coords t) = false from rfl, after_1],
    show (dats m 0 c).leavesExact 2 t = owns (c : Thread nD τ) (ms2 t) fullShare (iblk m c 2 t) from by unfold Dat.leavesExact; rw [show cfg0.idle 2 (grid0.coords t) = false from rfl, after_2],
    show (dats m 0 c).leavesExact 3 t = owns (c : Thread nD τ) (ms3 t) fullShare (iblk m c 3 t) from by unfold Dat.leavesExact; rw [show cfg0.idle 3 (grid0.coords t) = false from rfl, after_3],
    show (dats m 0 c).leavesExact 4 t = owns (c : Thread nD τ) (ms4 t) fullShare (dqOf (tileOf t) (iblk m c 0 t) (iblk m c 1 t) (iblk m c 2 t) (iblk m c 3 t)) from by unfold Dat.leavesExact; rw [(live (grid0.coords t)).1, after_4],
    show (dats m 0 c).leavesExact 5 t = owns (c : Thread nD τ) (ms5 t) fullShare (aft5 m c t.val) from by unfold Dat.leavesExact; rw [(live (grid0.coords t)).2.1, after_5],
    show (dats m 0 c).leavesExact 6 t = owns (c : Thread nD τ) (ms6 t) fullShare (aft6 m c t.val) from by unfold Dat.leavesExact; rw [(live (grid0.coords t)).2.2, after_6]]
  iintro ⟨HΦ, Ho, ⟨%d0, H0⟩, ⟨%d1, H1⟩, ⟨%d2, H2⟩, ⟨%d3, H3⟩, ⟨%d4, H4⟩, ⟨%d5, H5⟩, ⟨%d6, H6⟩⟩
  rw [← step5 m c t d5, ← step6 m c t d6]
  iapply (runs_at c t (iblk m c 0 t) (iblk m c 1 t) (iblk m c 2 t) (iblk m c 3 t) ((dats m 0 c).before 5 t d5) ((dats m 0 c).before 6 t d6) Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run ends, with the arrays as the proof data say and every counter at zero. -/
theorem run_all : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments are unchanged and every counter is zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_all m ρ))) ((θ_run defs _ _).mono (fun _ h => h.2) (run_all m ρ))

end Cert.KernelIdeal.Hand

end
-- ==== Proof.Final.lean ====
module

public import Idealize.ShloMosaic.Lib.Pipeline.ValueKit.Acc
public import proofs.«01_k».proof.Proof.Spec
public import proofs.«01_k».proof.Proof.Blocks
public import proofs.«01_k».proof.Proof.Data
public import Idealize.ShloMosaic.Lib.Pipeline.Value
public import Idealize.ShloMosaic.Lib.Pipeline.ValueKit.Geometry

/- The kernel's three output arrays after the run: the gradients of the causal attention. -/

@[expose] public section

set_option maxRecDepth 16384

noncomputable section

namespace Cert.KernelIdeal.Hand

open Cert.KernelIdeal Cert.KernelIdeal.Gen Cert.Tile Cert.Row Cert.Spec
open Idealize.ShloMosaic Idealize.ShloMosaic.TcCoe Idealize.ShloMosaic.ValueIdx
open scoped BigOperators

variable (m : (ℓ : Loc nD τ sig) → Buf (Elt Ideal) ℓ) (c : Dev nD)

/-! ## The blocks, read off the arrays -/

/-- The argument arrays. -/
abbrev A0 : (⟨3, ![2, 2048, 2048]⟩ : Shape).Idx → EReal := m ((c.tc : Thread nD τ).loc main_arg0)
abbrev A1 : (⟨3, ![2, 2048, 2048]⟩ : Shape).Idx → EReal := m ((c.tc : Thread nD τ).loc main_arg1)
abbrev A2 : (⟨3, ![2, 2048, 2048]⟩ : Shape).Idx → EReal := m ((c.tc : Thread nD τ).loc main_arg2)
abbrev A3 : (⟨3, ![2, 2048, 1024]⟩ : Shape).Idx → EReal := m ((c.tc : Thread nD τ).loc main_arg3)

/-- The sequence and the head a grid point works on. -/
def bOf (t : Fin cfg0.N) : Fin 2 := ⟨t.val / 32, by have : t.val < 64 := t.isLt; omega⟩
def hOf (t : Fin cfg0.N) : Fin 8 := ⟨t.val / 4 % 8, by omega⟩
/-- Row `r` of query tile `n`. -/
def row (n : Fin 4) (r : Fin 512) : Fin 2048 := ⟨n.val * 512 + r.val, by omega⟩

theorem idx_0 : ∀ t : Fin cfg0.N, win0_0.index t = ![t.val / 32, t.val % 4, t.val / 4 % 8] := (by decide +kernel : ∀ t : Fin grid0.N, _)
theorem idx_1 : ∀ t : Fin cfg0.N, win0_1.index t = ![t.val / 32, 0, t.val / 4 % 8] := (by decide +kernel : ∀ t : Fin grid0.N, _)
theorem idx_2 : ∀ t : Fin cfg0.N, win0_2.index t = ![t.val / 32, 0, 2 * (t.val / 4 % 8) + 1] := (by decide +kernel : ∀ t : Fin grid0.N, _)
theorem idx_3 : ∀ t : Fin cfg0.N, win0_3.index t = ![t.val / 32, t.val % 4, t.val / 4 % 8] := (by decide +kernel : ∀ t : Fin grid0.N, _)
theorem idx_4 : ∀ t : Fin cfg0.N, win0_4.index t = ![t.val / 32, t.val % 4, t.val / 4 % 8] := (by decide +kernel : ∀ t : Fin grid0.N, _)
theorem idx_5 : ∀ t : Fin cfg0.N, win0_5.index t = ![t.val / 32, 0, t.val / 4 % 8] := (by decide +kernel : ∀ t : Fin grid0.N, _)
theorem idx_6 : ∀ t : Fin cfg0.N, win0_6.index t = ![t.val / 32, 0, t.val / 4 % 8] := (by decide +kernel : ∀ t : Fin grid0.N, _)

theorem blk_0 (t : Fin cfg0.N) (r : Fin 512) (x : Fin 256) :
    iblk m c 0 t (ix3 (0 : Fin 1) r x) = A0 m c (ix3 (bOf t) (row (tileOf t) r) (qcol (hOf t) x)) := by
  blk_simp [iblk]
  refine congrArg (A0 m c) (funext fun a => Fin.ext ?_)
  match a with
  | ⟨0, _⟩ => blk_simp [idx_0]; show t.val / 32 + 0 = t.val / 32; omega
  | ⟨1, _⟩ => blk_simp [idx_0]; show t.val % 4 * 512 + r.val = t.val % 4 * 512 + r.val; rfl
  | ⟨2, _⟩ => blk_simp [idx_0]; show t.val / 4 % 8 * 256 + x.val = t.val / 4 % 8 * 256 + x.val; rfl

theorem blk_1 (t : Fin cfg0.N) (j : Fin 2048) (x : Fin 256) :
    iblk m c 1 t (ix3 (0 : Fin 1) j x) = A1 m c (ix3 (bOf t) j (qcol (hOf t) x)) := by
  blk_simp [iblk]
  refine congrArg (A1 m c) (funext fun a => Fin.ext ?_)
  match a with
  | ⟨0, _⟩ => blk_simp [idx_1]; show t.val / 32 + 0 = t.val / 32; omega
  | ⟨1, _⟩ => blk_simp [idx_1]
  | ⟨2, _⟩ => blk_simp [idx_1]; show t.val / 4 % 8 * 256 + x.val = t.val / 4 % 8 * 256 + x.val; rfl

theorem blk_2 (t : Fin cfg0.N) (j : Fin 2048) (x : Fin 128) :
    iblk m c 2 t (ix3 (0 : Fin 1) j x) = A2 m c (ix3 (bOf t) j (vcol (hOf t) x)) := by
  blk_simp [iblk]
  refine congrArg (A2 m c) (funext fun a => Fin.ext ?_)
  match a with
  | ⟨0, _⟩ => blk_simp [idx_2]; show t.val / 32 + 0 = t.val / 32; omega
  | ⟨1, _⟩ => blk_simp [idx_2]
  | ⟨2, _⟩ => blk_simp [idx_2]; show (2 * (t.val / 4 % 8) + 1) * 128 + x.val = t.val / 4 % 8 * 256 + 128 + x.val; omega

theorem blk_3 (t : Fin cfg0.N) (r : Fin 512) (x : Fin 128) :
    iblk m c 3 t (ix3 (0 : Fin 1) r x) = A3 m c (ix3 (bOf t) (row (tileOf t) r) (ocol (hOf t) x)) := by
  blk_simp [iblk]
  refine congrArg (A3 m c) (funext fun a => Fin.ext ?_)
  match a with
  | ⟨0, _⟩ => blk_simp [idx_3]; show t.val / 32 + 0 = t.val / 32; omega
  | ⟨1, _⟩ => blk_simp [idx_3]; show t.val % 4 * 512 + r.val = t.val % 4 * 512 + r.val; rfl
  | ⟨2, _⟩ => blk_simp [idx_3]; show t.val / 4 % 8 * 128 + x.val = t.val / 4 % 8 * 128 + x.val; rfl

/-- A tile's rows are rows of the arrays. -/
theorem S_row (t : Fin cfg0.N) (r : Fin 512) : S (512 * (tileOf t).val) (iblk m c 0 t) (iblk m c 1 t) r
    = score (A0 m c) (A1 m c) (bOf t) (hOf t) (row (tileOf t) r) := by
  funext j
  rw [S, score]
  refine if_congr ?_ (congrArg (· * sc) (Finset.sum_congr rfl fun x _ => ?_)) rfl
  · show j.val ≤ 512 * (tileOf t).val + r.val ↔ j.val ≤ (tileOf t).val * 512 + r.val
    omega
  · rw [blk_0, blk_1]

theorem G_row (t : Fin cfg0.N) (r : Fin 512) : G (iblk m c 2 t) (iblk m c 3 t) r
    = gprob (A2 m c) (A3 m c) (bOf t) (hOf t) (row (tileOf t) r) := by
  funext j
  rw [G, gprob]
  exact Finset.sum_congr rfl fun x _ => by rw [blk_2, blk_3]

variable (hR : Rows (A0 m c) (A1 m c))

include hR in
theorem good_at (t : Fin cfg0.N) : GoodTile (iblk m c 0 t) (iblk m c 1 t) (tileOf t) := fun r => by
  rw [S_row]
  exact hR _ _ _

/-! ## The queries' gradient -/

include hR in
theorem final_q : (dats m 0 c).arrAt 4 cfg0.N = DQ (A0 m c) (A1 m c) (A2 m c) (A3 m c) := by
  refine (dats m 0 c).arrAt_eq_of_covers 4 _ (by decide +kernel) fun t hf y => ?_
  blk_simp
  rw [after_4]
  obtain ⟨r, x, rfl⟩ : ∃ (r : Fin 512) (x : Fin 256), y = ix3 (0 : Fin 1) r x :=
    ⟨y 1, y 2, (eq_ix3 y).trans (congrArg (fun z => ix3 z (y 1) (y 2)) (Subsingleton.elim (α := Fin 1) _ _))⟩
  rw [dqOf_at _ _ _ _ _ (good_at m c hR t)]
  have e : ((cfg0.win 4).blk t).view.emb (ix3 (0 : Fin 1) r x) = ix3 (bOf t) (row (tileOf t) r) (qcol (hOf t) x) := funext fun a => Fin.ext <| by
    match a with
    | ⟨0, _⟩ => blk_simp [idx_4]; show t.val / 32 + 0 = t.val / 32; omega
    | ⟨1, _⟩ => blk_simp [idx_4]; show t.val % 4 * 512 + r.val = t.val % 4 * 512 + r.val; rfl
    | ⟨2, _⟩ => blk_simp [idx_4]; show t.val / 4 % 8 * 256 + x.val = t.val / 4 % 8 * 256 + x.val; rfl
  rw [e]
  have hh : head (qcol (hOf t) x) = hOf t := Fin.ext (by show (t.val / 4 % 8 * 256 + x.val) / 256 = t.val / 4 % 8; omega)
  have hl : lane (qcol (hOf t) x) = x := Fin.ext (by show (t.val / 4 % 8 * 256 + x.val) % 256 = x.val; omega)
  show _ = dq _ _ _ _ (bOf t) (head (qcol (hOf t) x)) (row (tileOf t) r) (lane (qcol (hOf t) x))
  rw [hh, hl, dq]
  refine Finset.sum_congr rfl fun j _ => ?_
  rw [S_row, G_row, blk_1, gscore]

/-! ## The keys' and the values' gradient, added up over the four query tiles -/

theorem aft5_at (t : Fin cfg0.N) : ∃ d, aft5 m c t.val = dkOf (tileOf t) (iblk m c 0 t) (iblk m c 1 t) (iblk m c 2 t) (iblk m c 3 t) d
    ∧ (t.val % 4 ≠ 0 → d = aft5 m c (t.val - 1)) := by
  obtain ⟨n, hn⟩ := t
  match n, hn with
  | 0, hn => exact ⟨(k0_pay1 : FVec Idealize.ShloMosaic.Ideal S1x2048x256 FTy.f32), by simp only [aft5]; rw [dif_pos hn], fun h => absurd rfl h⟩
  | n + 1, hn => exact ⟨aft5 m c n, by simp only [aft5]; rw [dif_pos hn], fun _ => rfl⟩

theorem aft6_at (t : Fin cfg0.N) : ∃ d, aft6 m c t.val = dvOf (tileOf t) (iblk m c 0 t) (iblk m c 1 t) (iblk m c 3 t) d
    ∧ (t.val % 4 ≠ 0 → d = aft6 m c (t.val - 1)) := by
  obtain ⟨n, hn⟩ := t
  match n, hn with
  | 0, hn => exact ⟨(k0_pay2 : FVec Idealize.ShloMosaic.Ideal S1x2048x128 FTy.f32), by simp only [aft6]; rw [dif_pos hn], fun h => absurd rfl h⟩
  | n + 1, hn => exact ⟨aft6 m c n, by simp only [aft6]; rw [dif_pos hn], fun _ => rfl⟩

/-- A value that starts anew at every fourth point and has a term added at each holds, after the fourth, the sum of the four. -/
theorem four (f : ℕ → EReal) (T : Fin cfg0.N → EReal) (h0 : ∀ t : Fin cfg0.N, t.val % 4 = 0 → f t.val = 0 + T t)
    (h1 : ∀ t : Fin cfg0.N, t.val % 4 ≠ 0 → f t.val = f (t.val - 1) + T t) (t : Fin cfg0.N) (ht : t.val % 4 = 3)
    (g : Fin 4 → EReal) (hg : ∀ u : Fin cfg0.N, u.val / 4 = t.val / 4 → T u = g (tileOf u)) : f t.val = ∑ n, g n := by
  have hlt : t.val < 64 := t.isLt
  have e (i : ℕ) (hi : i < 4) : (T ⟨t.val - 3 + i, by show _ < 64; omega⟩) = g ⟨i, hi⟩ := by
    rw [hg _ (by show (t.val - 3 + i) / 4 = _; omega)]
    exact congrArg g (Fin.ext (by show (t.val - 3 + i) % 4 = i; omega))
  have a3 := h1 ⟨t.val - 3 + 3, by show _ < 64; omega⟩ (by show (t.val - 3 + 3) % 4 ≠ 0; omega)
  have a2 := h1 ⟨t.val - 3 + 2, by show _ < 64; omega⟩ (by show (t.val - 3 + 2) % 4 ≠ 0; omega)
  have a1 := h1 ⟨t.val - 3 + 1, by show _ < 64; omega⟩ (by show (t.val - 3 + 1) % 4 ≠ 0; omega)
  have a0 := h0 ⟨t.val - 3 + 0, by show _ < 64; omega⟩ (by show (t.val - 3 + 0) % 4 = 0; omega)
  rw [e 3 (by omega)] at a3
  rw [e 2 (by omega)] at a2
  rw [e 1 (by omega)] at a1
  rw [e 0 (by omega)] at a0
  have s3 : t.val - 3 + 3 = t.val := by omega
  have p3 : t.val - 1 = t.val - 3 + 2 := by omega
  have p2 : t.val - 3 + 2 - 1 = t.val - 3 + 1 := by omega
  have p1 : t.val - 3 + 1 - 1 = t.val - 3 + 0 := by omega
  simp only [s3, p3, p2, p1] at a3 a2 a1 a0
  rw [a3, a2, a1, a0, zero_add, Fin.sum_univ_four]
  rfl

/-- The rows of the four tiles are all rows. -/
theorem sum_rows (f : Fin 2048 → EReal) : ∑ n : Fin 4, ∑ r : Fin 512, f (row n r) = ∑ i, f i :=
  Fin.sum_mul_add_fin 4 512 f

theorem bOf_eq {u t : Fin cfg0.N} (h : u.val / 4 = t.val / 4) : bOf u = bOf t :=
  Fin.ext (by show u.val / 32 = t.val / 32; omega)
theorem hOf_eq {u t : Fin cfg0.N} (h : u.val / 4 = t.val / 4) : hOf u = hOf t :=
  Fin.ext (by show u.val / 4 % 8 = t.val / 4 % 8; omega)
theorem tileOf_zero {t : Fin cfg0.N} : tileOf t = 0 ↔ t.val % 4 = 0 :=
  ⟨fun h => congrArg Fin.val h, fun h => Fin.ext h⟩

include hR in
theorem sum_k (t : Fin cfg0.N) (ht : t.val % 4 = 3) (j : Fin 2048) (x : Fin 256) :
    aft5 m c t.val (ix3 (0 : Fin 1) j x) = dk (A0 m c) (A1 m c) (A2 m c) (A3 m c) (bOf t) (hOf t) j x := by
  rw [dk, ← sum_rows]
  refine four (fun n => aft5 m c n (ix3 (0 : Fin 1) j x))
    (fun t => ∑ r : Fin 512, gscore (A0 m c) (A1 m c) (A2 m c) (A3 m c) (bOf t) (hOf t) (row (tileOf t) r) j
      * A0 m c (ix3 (bOf t) (row (tileOf t) r) (qcol (hOf t) x))) (fun t h => ?_) (fun t h => ?_) t ht _ fun u hu => ?_
  · obtain ⟨d, hd, -⟩ := aft5_at m c t
    show aft5 m c t.val _ = _
    rw [hd, dkOf_at _ _ _ _ _ (good_at m c hR t), if_pos (tileOf_zero.mpr h)]
    exact congrArg (0 + ·) (Finset.sum_congr rfl fun r _ => by rw [S_row, G_row, blk_0, gscore])
  · obtain ⟨d, hd, hd'⟩ := aft5_at m c t
    show aft5 m c t.val _ = aft5 m c (t.val - 1) _ + _
    rw [hd, dkOf_at _ _ _ _ _ (good_at m c hR t), if_neg (fun e => h (tileOf_zero.mp e)), hd' h]
    exact congrArg (_ + ·) (Finset.sum_congr rfl fun r _ => by rw [S_row, G_row, blk_0, gscore])
  · show Finset.sum _ _ = _
    rw [bOf_eq hu, hOf_eq hu]

include hR in
theorem sum_v (t : Fin cfg0.N) (ht : t.val % 4 = 3) (j : Fin 2048) (x : Fin 128) :
    aft6 m c t.val (ix3 (0 : Fin 1) j x) = dv (A0 m c) (A1 m c) (A3 m c) (bOf t) (hOf t) j x := by
  rw [dv, ← sum_rows]
  refine four (fun n => aft6 m c n (ix3 (0 : Fin 1) j x))
    (fun t => ∑ r : Fin 512, pr (score (A0 m c) (A1 m c) (bOf t) (hOf t) (row (tileOf t) r)) j
      * A3 m c (ix3 (bOf t) (row (tileOf t) r) (ocol (hOf t) x))) (fun t h => ?_) (fun t h => ?_) t ht _ fun u hu => ?_
  · obtain ⟨d, hd, -⟩ := aft6_at m c t
    show aft6 m c t.val _ = _
    rw [hd, dvOf_at _ _ _ _ (good_at m c hR t), if_pos (tileOf_zero.mpr h)]
    exact congrArg (0 + ·) (Finset.sum_congr rfl fun r _ => by rw [S_row, blk_3])
  · obtain ⟨d, hd, hd'⟩ := aft6_at m c t
    show aft6 m c t.val _ = aft6 m c (t.val - 1) _ + _
    rw [hd, dvOf_at _ _ _ _ (good_at m c hR t), if_neg (fun e => h (tileOf_zero.mp e)), hd' h]
    exact congrArg (_ + ·) (Finset.sum_congr rfl fun r _ => by rw [S_row, blk_3])
  · show Finset.sum _ _ = _
    rw [bOf_eq hu, hOf_eq hu]

include hR in
theorem final_k : (dats m 0 c).arrAt 5 cfg0.N = DK (A0 m c) (A1 m c) (A2 m c) (A3 m c) := by
  refine (dats m 0 c).arrAt_eq_of_covers 5 _ (by decide +kernel) fun t hf y => ?_
  blk_simp
  rw [after_5]
  obtain ⟨j, x, rfl⟩ : ∃ (j : Fin 2048) (x : Fin 256), y = ix3 (0 : Fin 1) j x :=
    ⟨y 1, y 2, (eq_ix3 y).trans (congrArg (fun z => ix3 z (y 1) (y 2)) (Subsingleton.elim (α := Fin 1) _ _))⟩
  rw [sum_k m c hR t ((flush0_5 t).mp hf)]
  have e : ((cfg0.win 5).blk t).view.emb (ix3 (0 : Fin 1) j x) = ix3 (bOf t) j (qcol (hOf t) x) := funext fun a => Fin.ext <| by
    match a with
    | ⟨0, _⟩ => blk_simp [idx_5]; show t.val / 32 + 0 = t.val / 32; omega
    | ⟨1, _⟩ => blk_simp [idx_5]
    | ⟨2, _⟩ => blk_simp [idx_5]; show t.val / 4 % 8 * 256 + x.val = t.val / 4 % 8 * 256 + x.val; rfl
  rw [e]
  have hh : head (qcol (hOf t) x) = hOf t := Fin.ext (by show (t.val / 4 % 8 * 256 + x.val) / 256 = t.val / 4 % 8; omega)
  have hl : lane (qcol (hOf t) x) = x := Fin.ext (by show (t.val / 4 % 8 * 256 + x.val) % 256 = x.val; omega)
  show _ = dk _ _ _ _ (bOf t) (head (qcol (hOf t) x)) j (lane (qcol (hOf t) x))
  rw [hh, hl]

include hR in
theorem final_v : (dats m 0 c).arrAt 6 cfg0.N = DV (A0 m c) (A1 m c) (A3 m c) := by
  refine (dats m 0 c).arrAt_eq_of_covers 6 _ (by decide +kernel) fun t hf y => ?_
  blk_simp
  rw [after_6]
  obtain ⟨j, x, rfl⟩ : ∃ (j : Fin 2048) (x : Fin 128), y = ix3 (0 : Fin 1) j x :=
    ⟨y 1, y 2, (eq_ix3 y).trans (congrArg (fun z => ix3 z (y 1) (y 2)) (Subsingleton.elim (α := Fin 1) _ _))⟩
  rw [sum_v m c hR t ((flush0_6 t).mp hf)]
  have e : ((cfg0.win 6).blk t).view.emb (ix3 (0 : Fin 1) j x) = ix3 (bOf t) j (ocol (hOf t) x) := funext fun a => Fin.ext <| by
    match a with
    | ⟨0, _⟩ => blk_simp [idx_6]; show t.val / 32 + 0 = t.val / 32; omega
    | ⟨1, _⟩ => blk_simp [idx_6]
    | ⟨2, _⟩ => blk_simp [idx_6]; show t.val / 4 % 8 * 128 + x.val = t.val / 4 % 8 * 128 + x.val; rfl
  rw [e]
  have hh : ohead (ocol (hOf t) x) = hOf t := Fin.ext (by show (t.val / 4 % 8 * 128 + x.val) / 128 = t.val / 4 % 8; omega)
  have hl : olane (ocol (hOf t) x) = x := Fin.ext (by show (t.val / 4 % 8 * 128 + x.val) % 128 = x.val; omega)
  show _ = dv _ _ _ (bOf t) (ohead (ocol (hOf t) x)) j (olane (ocol (hOf t) x))
  rw [hh, hl]

end Cert.KernelIdeal.Hand
-- ==== Proof.Norm.Gate.lean ====
module

public import proofs.«01_k».proof.Proof.Ffn.DownDx
public import proofs.«01_k».proof.Proof.Norm.Tile

/- A normalisation after a gate: the gate's gradient, for every input and every gate. -/

@[expose] public section

noncomputable section

namespace Cert.Norm

open Idealize.ShloMosaic Cert.Row
open Cert.Ffn (sigm dsilu two_terms)
open scoped BigOperators

/-- A factor of a number is a number, or the other factor is zero. -/
theorem real_or_zero {a b : EReal} (h : ∃ r : ℝ, a * b = r) : (∃ r : ℝ, a = r) ∨ b = 0 := by
  obtain ⟨r, h⟩ := h
  rcases lt_trichotomy b 0 with hb | hb | hb
  · induction a with
    | bot => rw [EReal.bot_mul_of_neg hb] at h; exact absurd h.symm (EReal.coe_ne_top r)
    | top => rw [EReal.top_mul_of_neg hb] at h; exact absurd h.symm (EReal.coe_ne_bot r)
    | coe a => exact .inl ⟨a, rfl⟩
  · exact .inr hb
  · induction a with
    | bot => rw [EReal.bot_mul_of_pos hb] at h; exact absurd h.symm (EReal.coe_ne_bot r)
    | top => rw [EReal.top_mul_of_pos hb] at h; exact absurd h.symm (EReal.coe_ne_top r)
    | coe a => exact .inl ⟨a, rfl⟩

/-- The product rule's two terms are the derivative times the cotangent, where the cotangent is zero, or a number that meets a number or a
closed gate. -/
theorem gate_terms (y z D : EReal) (h : D = 0 ∨ (∃ d : ℝ, D = d) ∧ ((∃ r : ℝ, y = r) ∨ z * sigm z = 0)) :
    y * D * sigm z + z * (y * D) * (sigm z * (1 - sigm z)) = D * y * dsilu z := by
  rcases h with rfl | ⟨⟨d, rfl⟩, ⟨r, rfl⟩ | h⟩
  · simp
  · rw [← EReal.coe_mul, two_terms, mul_comm (d : EReal), EReal.coe_mul]
  · rcases mul_eq_zero.mp h with rfl | h
    · simp [dsilu, mul_comm]
    · simp [dsilu, h]

variable {n : ℕ} (w e : ℝ) (u d : Fin n → EReal) (hw : 0 < w) (he : 0 < e)

include hw he in
/-- The gradient of a row is zero, or it and the row are numbers. -/
theorem grad_cases (hd : ∀ k, ∃ r : ℝ, d k = r) (j : Fin n) : grad w e u d j = 0 ∨ (∃ r : ℝ, grad w e u d j = r) ∧ ∃ r : ℝ, u j = r := by
  rcases cases_var w e u hw he with h | ⟨hu, v, hv, h⟩
  · left
    rw [grad, rs, h, Ideal.rsqrt_top, zero_mul]
  · refine .inr ⟨?_, hu j⟩
    choose r hr using hu
    choose p hp using hd
    have hrs : rs w e u = (((Real.sqrt v)⁻¹ : ℝ) : EReal) := by rw [rs, h, Ideal.rsqrt_coe, if_neg hv.le.not_gt, if_neg hv.ne']
    refine ⟨(Real.sqrt v)⁻¹ * (p j - r j * (Real.sqrt v)⁻¹ * ((∑ k, p k * (r k * (Real.sqrt v)⁻¹)) * (1 / w))), ?_⟩
    simp only [grad, unit, hrs, hr, hp, Ideal.div_coe hw.ne', ← EReal.coe_mul, ← coe_sum, ← EReal.coe_sub]

include hw he in
/-- The gate's gradient. -/
theorem gate_grad (x z : Fin n → EReal) (hd : ∀ k, ∃ r : ℝ, d k = r) (j : Fin n) :
    x j * grad w e (fun k => x k * (z k * sigm (z k))) d j * sigm (z j)
      + z j * (x j * grad w e (fun k => x k * (z k * sigm (z k))) d j) * (sigm (z j) * (1 - sigm (z j)))
      = grad w e (fun k => x k * (z k * sigm (z k))) d j * x j * dsilu (z j) := by
  refine gate_terms _ _ _ ?_
  rcases grad_cases w e (fun k => x k * (z k * sigm (z k))) d hw he hd j with h | ⟨h, h'⟩
  · exact .inl h
  · exact .inr ⟨h, real_or_zero h'⟩

end Cert.Norm
-- ==== Proof.Norm.Gated.lean ====
module

public import proofs.«01_k».proof.Proof.Norm.Gate
public import proofs.«01_k».proof.Proof.Gen.Kernel27Ideal.Value
public import Idealize.ShloMosaic.Lib.Pipeline.Value
public import Idealize.ShloMosaic.Lib.Pipeline.ValueKit.Acc
public import Idealize.ShloMosaic.Lib.Pipeline.ValueKit.Geometry

/- The gradient of the normalisation after the gate, by two groups of 512 columns: what its kernel leaves. -/

@[expose] public section

set_option maxRecDepth 16384

noncomputable section

namespace Cert.Kernel27Ideal.Hand

open Idealize.ShloMosaic hiding ix1 ix2 ix3 ix4 eq_ix1 eq_ix2 eq_ix3 eq_ix4
open Cert.Kernel27Ideal Cert.Kernel27Ideal.Gen Cert.Norm
open Cert.Ffn (sigm dsilu one_f32 zero_f32)
open Idealize.ShloMosaic.TcCoe Idealize.ShloMosaic.ValueIdx
open scoped BigOperators

/-! ## The results -/

/-- A group's column among all columns, and back. -/
def gcol (h : Fin 2) (x : Fin 512) : Fin 1024 := ⟨h.val * 512 + x.val, by omega⟩
def grp (j : Fin 1024) : Fin 2 := ⟨j.val / 512, by omega⟩
def pos (j : Fin 1024) : Fin 512 := ⟨j.val % 512, by omega⟩

theorem grp_gcol (h : Fin 2) (x : Fin 512) : grp (gcol h x) = h := Fin.ext (by show (h.val * 512 + x.val) / 512 = h.val; omega)
theorem pos_gcol (h : Fin 2) (x : Fin 512) : pos (gcol h x) = x := Fin.ext (by show (h.val * 512 + x.val) % 512 = x.val; omega)
theorem gcol_grp (j : Fin 1024) : gcol (grp j) (pos j) = j := Fin.ext (by show j.val / 512 * 512 + j.val % 512 = j.val; omega)

/-- The gated rows. -/
def U (x z : (⟨2, ![4096, 1024]⟩ : Shape).Idx → EReal) : (⟨2, ![4096, 1024]⟩ : Shape).Idx → EReal := fun y => x y * (z y * sigm (z y))

/-- One group's columns. -/
def slice (x : (⟨2, ![4096, 1024]⟩ : Shape).Idx → EReal) (h : Fin 2) : (⟨2, ![4096, 512]⟩ : Shape).Idx → EReal := fun y => x (ix2 (y 0) (gcol h (y 1)))
def gslice (g : (⟨1, ![1024]⟩ : Shape).Idx → EReal) (h : Fin 2) : (⟨1, ![512]⟩ : Shape).Idx → EReal := fun y => g (ix1 (gcol h (y 0)))

/-- The gradient of the gated rows, in a group. -/
def du (x z : (⟨2, ![4096, 1024]⟩ : Shape).Idx → EReal) (g : (⟨1, ![1024]⟩ : Shape).Idx → EReal) (dy : (⟨2, ![4096, 1024]⟩ : Shape).Idx → EReal)
    (h : Fin 2) (i : Fin 4096) (j : Fin 512) : EReal := dx 512 (slice (U x z) h) (slice dy h) (gslice g h) i j

/-- The gradient of the rows. -/
def DX (x z : (⟨2, ![4096, 1024]⟩ : Shape).Idx → EReal) (g : (⟨1, ![1024]⟩ : Shape).Idx → EReal) (dy : (⟨2, ![4096, 1024]⟩ : Shape).Idx → EReal) :
    (⟨2, ![4096, 1024]⟩ : Shape).Idx → EReal := fun y => du x z g dy (grp (y 1)) (y 0) (pos (y 1)) * (z y * sigm (z y))

/-- The gradient of the gate. -/
def DZ (x z : (⟨2, ![4096, 1024]⟩ : Shape).Idx → EReal) (g : (⟨1, ![1024]⟩ : Shape).Idx → EReal) (dy : (⟨2, ![4096, 1024]⟩ : Shape).Idx → EReal) :
    (⟨2, ![4096, 1024]⟩ : Shape).Idx → EReal := fun y => du x z g dy (grp (y 1)) (y 0) (pos (y 1)) * x y * dsilu (z y)

/-- The gradient of the gain, as one row. -/
def DG (x z dy : (⟨2, ![4096, 1024]⟩ : Shape).Idx → EReal) : (⟨2, ![1, 1024]⟩ : Shape).Idx → EReal :=
  fun y => dg 512 (slice (U x z) (grp (y 1))) (slice dy (grp (y 1))) (pos (y 1))

/-! ## The kernel -/

variable (m : (ℓ : Loc nD τ sig) → Buf (Elt Ideal) ℓ) (c : Dev nD)

/-- The argument arrays: the rows, the gate, the gain, and the result's gradient. -/
abbrev A0 : (⟨2, ![4096, 1024]⟩ : Shape).Idx → EReal := m ((c.tc : Thread nD τ).loc main_arg0)
abbrev A1 : (⟨2, ![4096, 1024]⟩ : Shape).Idx → EReal := m ((c.tc : Thread nD τ).loc main_arg1)
abbrev A2 : (⟨1, ![1024]⟩ : Shape).Idx → EReal := m ((c.tc : Thread nD τ).loc main_arg2)
abbrev A3 : (⟨2, ![4096, 1024]⟩ : Shape).Idx → EReal := m ((c.tc : Thread nD τ).loc main_arg3)

theorem idx_0 : ∀ t : Fin cfg0.N, win0_0.index t = ![t.val % 4, t.val / 4] := (by decide +kernel : ∀ t : Fin grid0.N, _)
theorem idx_1 : ∀ t : Fin cfg0.N, win0_1.index t = ![t.val % 4, t.val / 4] := (by decide +kernel : ∀ t : Fin grid0.N, _)
theorem idx_2 : ∀ t : Fin cfg0.N, win0_2.index t = ![0, t.val / 4] := (by decide +kernel : ∀ t : Fin grid0.N, _)
theorem idx_3 : ∀ t : Fin cfg0.N, win0_3.index t = ![t.val % 4, t.val / 4] := (by decide +kernel : ∀ t : Fin grid0.N, _)
theorem idx_4 : ∀ t : Fin cfg0.N, win0_4.index t = ![t.val % 4, t.val / 4] := (by decide +kernel : ∀ t : Fin grid0.N, _)
theorem idx_5 : ∀ t : Fin cfg0.N, win0_5.index t = ![t.val % 4, t.val / 4] := (by decide +kernel : ∀ t : Fin grid0.N, _)
theorem idx_6 : ∀ t : Fin cfg0.N, win0_6.index t = ![0, t.val / 4] := (by decide +kernel : ∀ t : Fin grid0.N, _)

/-- The group a grid point works on, and a row of its tile, among all. -/
def hOf (t : Fin cfg0.N) : Fin 2 := ⟨t.val / 4, by have : t.val < 8 := t.isLt; omega⟩
def rowOf (t : Fin cfg0.N) (r : Fin 1024) : Fin 4096 := ⟨t.val % 4 * 1024 + r.val, by omega⟩

/-- The gain as the kernel is given it: one row. -/
theorem gain_v0 : V m c main_v0 = shapeCast S1x1024 (A2 m c) shapeCasts_S1024_S1x1024 := by
  unfold_abbrev_sides
  after_results
  rfl

theorem blk_0 (t : Fin cfg0.N) (r : Fin 1024) (x : Fin 512) : iblk m c 0 t (ix2 r x) = A0 m c (ix2 (rowOf t r) (gcol (hOf t) x)) := by
  blk_simp [iblk]
  refine congrArg (A0 m c) (funext fun a => Fin.ext ?_)
  match a with
  | ⟨0, _⟩ => blk_simp [idx_0]; rfl
  | ⟨1, _⟩ => blk_simp [idx_0]; rfl

theorem blk_1 (t : Fin cfg0.N) (r : Fin 1024) (x : Fin 512) : iblk m c 1 t (ix2 r x) = A1 m c (ix2 (rowOf t r) (gcol (hOf t) x)) := by
  blk_simp [iblk]
  refine congrArg (A1 m c) (funext fun a => Fin.ext ?_)
  match a with
  | ⟨0, _⟩ => blk_simp [idx_1]; rfl
  | ⟨1, _⟩ => blk_simp [idx_1]; rfl

theorem blk_2 (t : Fin cfg0.N) (x : Fin 512) : iblk m c 2 t (ix2 (0 : Fin 1) x) = gslice (A2 m c) (hOf t) (ix1 x) := by
  refine Eq.trans ?_ (lie_at (A2 m c) shapeCasts_S1024_S1x1024 (0 : Fin 1) (gcol (hOf t) x))
  rw [← gain_v0]
  blk_simp [iblk]
  refine congrArg (V m c main_v0) (funext fun a => Fin.ext ?_)
  match a with
  | ⟨0, _⟩ => blk_simp [idx_2]
  | ⟨1, _⟩ => blk_simp [idx_2]; rfl

theorem blk_3 (t : Fin cfg0.N) (r : Fin 1024) (x : Fin 512) : iblk m c 3 t (ix2 r x) = slice (A3 m c) (hOf t) (ix2 (rowOf t r) x) := by
  blk_simp [iblk]
  refine congrArg (A3 m c) (funext fun a => Fin.ext ?_)
  match a with
  | ⟨0, _⟩ => blk_simp [idx_3]; rfl
  | ⟨1, _⟩ => blk_simp [idx_3]; rfl

/-! ## The tile's arrays -/

theorem sigm_at (z : FVec Ideal S1024x512 .f32) (i : S1024x512.Idx) : k0_pay5 (F := Ideal) z i = sigm (z i) := by
  show Ideal.div (Ideal.ofBits .f32 0x3F800000#32) (Ideal.ofBits .f32 0x3F800000#32 + Ideal.exp (Ideal.ofBits .f32 0x00000000#32 - z i)) = _
  rw [one_f32, zero_f32, zero_sub]
  rfl

theorem gated_at (x z : FVec Ideal S1024x512 .f32) (i : S1024x512.Idx) : k0_pay6 (F := Ideal) x z i = x i * (z i * sigm (z i)) :=
  congrArg (fun s : EReal => x i * (z i * s)) (sigm_at z i)

theorem grad_pay (x z dy : FVec Ideal S1024x512 .f32) (g : FVec Ideal S1x512 .f32) :
    k0_pay1 (F := Ideal) (k0_pay7 x z) (k0_pay8 x z) dy (k0_pay10 g)
      = gradT 0x44000000#32 reduces_S1024x512_S1024 shapeCasts_S1024_S1024x1 broadcasts_S1024x1_S1024x512 (k0_pay6 x z)
        (scaledT shapeCasts_S1x512_S1x512 broadcasts_S1x512_S1024x512 dy g) := rfl

theorem gain_pay (x z dy : FVec Ideal S1024x512 .f32) (old : FVec Ideal S1x512 .f32) :
    k0_pay9 (F := Ideal) x z dy old = gainT 0x44000000#32 reduces_S1024x512_S1024 reduces_S1024x512_S512 shapeCasts_S1024_S1024x1 shapeCasts_S512_S1x512
      shapeCasts_S1x512_S1x512 broadcasts_S1024x1_S1024x512 (k0_pay6 x z) dy old := rfl

theorem zero_pay (i : S1x512.Idx) : k0_pay4 (F := Ideal) i = (0 : EReal) := Ideal.ofBits_zero_f32

theorem row_at (t : Fin cfg0.N) (r : Fin 1024) (x : Fin 512) :
    k0_pay6 (F := Ideal) (iblk m c 0 t) (iblk m c 1 t) (ix2 r x) = slice (U (A0 m c) (A1 m c)) (hOf t) (ix2 (rowOf t r) x) := by
  rw [gated_at, blk_0, blk_1]
  rfl

theorem du_at (t : Fin cfg0.N) (r : Fin 1024) (x : Fin 512) :
    k0_pay1 (F := Ideal) (k0_pay7 (iblk m c 0 t) (iblk m c 1 t)) (k0_pay8 (iblk m c 0 t) (iblk m c 1 t)) (iblk m c 3 t) (k0_pay10 (iblk m c 2 t)) (ix2 r x)
      = du (A0 m c) (A1 m c) (A2 m c) (A3 m c) (hOf t) (rowOf t r) x := by
  rw [grad_pay, gradT_at _ _ _ _ 512 w512_f32 (by decide), du, dx]
  refine congrArg₂ (fun a b => grad 512 eps a b x) (funext fun k => row_at m c t r k) (funext fun k => ?_)
  rw [scaledT_at _ _ (by decide), blk_3, blk_2]

theorem x_pay (x z dy : FVec Ideal S1024x512 .f32) (g : FVec Ideal S1x512 .f32) (i : S1024x512.Idx) :
    k0_pay2 (F := Ideal) z (k0_pay5 z) (k0_pay7 x z) (k0_pay8 x z) dy (k0_pay10 g) i
      = k0_pay1 (F := Ideal) (k0_pay7 x z) (k0_pay8 x z) dy (k0_pay10 g) i * (z i * sigm (z i)) :=
  congrArg (fun s : EReal => k0_pay1 (F := Ideal) (k0_pay7 x z) (k0_pay8 x z) dy (k0_pay10 g) i * (z i * s)) (sigm_at z i)

theorem z_pay (x z dy : FVec Ideal S1024x512 .f32) (g : FVec Ideal S1x512 .f32) (i : S1024x512.Idx) :
    k0_pay3 (F := Ideal) x z (k0_pay5 z) (k0_pay7 x z) (k0_pay8 x z) dy (k0_pay10 g) i
      = k0_pay1 (F := Ideal) (k0_pay7 x z) (k0_pay8 x z) dy (k0_pay10 g) i * x i * dsilu (z i) := by
  show k0_pay1 (F := Ideal) (k0_pay7 x z) (k0_pay8 x z) dy (k0_pay10 g) i * x i * (k0_pay5 (F := Ideal) z i * (Ideal.ofBits .f32 0x3F800000#32
      + z i * (Ideal.ofBits .f32 0x3F800000#32 - k0_pay5 (F := Ideal) z i))) = _
  rw [sigm_at, one_f32]
  rfl

theorem x_at (t : Fin cfg0.N) (r : Fin 1024) (x : Fin 512) :
    k0_pay2 (F := Ideal) (iblk m c 1 t) (k0_pay5 (iblk m c 1 t)) (k0_pay7 (iblk m c 0 t) (iblk m c 1 t)) (k0_pay8 (iblk m c 0 t) (iblk m c 1 t))
      (iblk m c 3 t) (k0_pay10 (iblk m c 2 t)) (ix2 r x) = DX (A0 m c) (A1 m c) (A2 m c) (A3 m c) (ix2 (rowOf t r) (gcol (hOf t) x)) := by
  refine (x_pay (iblk m c 0 t) (iblk m c 1 t) (iblk m c 3 t) (iblk m c 2 t) (ix2 r x)).trans ?_
  show _ = du (A0 m c) (A1 m c) (A2 m c) (A3 m c) (grp (gcol (hOf t) x)) (rowOf t r) (pos (gcol (hOf t) x)) * _
  rw [du_at, blk_1, grp_gcol, pos_gcol]

theorem z_at (t : Fin cfg0.N) (r : Fin 1024) (x : Fin 512) :
    k0_pay3 (F := Ideal) (iblk m c 0 t) (iblk m c 1 t) (k0_pay5 (iblk m c 1 t)) (k0_pay7 (iblk m c 0 t) (iblk m c 1 t)) (k0_pay8 (iblk m c 0 t) (iblk m c 1 t))
      (iblk m c 3 t) (k0_pay10 (iblk m c 2 t)) (ix2 r x) = DZ (A0 m c) (A1 m c) (A2 m c) (A3 m c) (ix2 (rowOf t r) (gcol (hOf t) x)) := by
  refine (z_pay (iblk m c 0 t) (iblk m c 1 t) (iblk m c 3 t) (iblk m c 2 t) (ix2 r x)).trans ?_
  show _ = du (A0 m c) (A1 m c) (A2 m c) (A3 m c) (grp (gcol (hOf t) x)) (rowOf t r) (pos (gcol (hOf t) x)) * _ * _
  rw [du_at, blk_1, blk_0, grp_gcol, pos_gcol]

/-! ## The gain's gradient -/

/-- What one grid point adds to it. -/
def part (t : Fin cfg0.N) (x : Fin 512) : EReal :=
  ∑ r : Fin 1024, slice (A3 m c) (hOf t) (ix2 (rowOf t r) x) * unit 512 eps (fun k => slice (U (A0 m c) (A1 m c)) (hOf t) (ix2 (rowOf t r) k)) x

theorem gain_at (t : Fin cfg0.N) (old : FVec Ideal S1x512 .f32) (x : Fin 512) :
    k0_pay9 (F := Ideal) (iblk m c 0 t) (iblk m c 1 t) (iblk m c 3 t) old (ix2 (0 : Fin 1) x) = old (ix2 (0 : Fin 1) x) + part m c t x := by
  rw [gain_pay, gainT_at _ _ _ _ _ _ _ 512 w512_f32 (by decide), part]
  refine congrArg (fun z : EReal => old (ix2 (0 : Fin 1) x) + z) (Finset.sum_congr rfl fun r _ => ?_)
  rw [blk_3]
  exact congrArg (fun a => _ * unit 512 eps a x) (funext fun k => row_at m c t r k)

theorem first_gain (t : Fin cfg0.N) (h0 : t.val % 4 = 0) (x : Fin 512) : (outsAt0 m c t.val t.isLt).2.2 (ix2 (0 : Fin 1) x) = part m c t x := by
  rw [outsAt0_A m c t h0]
  dsimp only
  frame_out
  rw [gain_at, zero_pay, zero_add]

theorem next_gain (t : Fin cfg0.N) (h0 : ¬t.val % 4 = 0) (x : Fin 512) :
    (outsAt0 m c t.val t.isLt).2.2 (ix2 (0 : Fin 1) x) = (outsAt0 m c (t.val - 1) (by omega)).2.2 (ix2 (0 : Fin 1) x) + part m c t x := by
  rw [outsAt0_B m c t h0]
  dsimp only
  frame_out
  exact gain_at m c t _ x

/-- The points of one group. -/
def pt (h : Fin 2) (s : Fin 4) : Fin cfg0.N := ⟨h.val * 4 + s.val, by show h.val * 4 + s.val < 8; omega⟩

theorem gain_upto (h : Fin 2) (x : Fin 512) (n : ℕ) (hn : n < 4) :
    (outsAt0 m c (h.val * 4 + n) (pt h ⟨n, hn⟩).isLt).2.2 (ix2 (0 : Fin 1) x) = ∑ s : Fin (n + 1), part m c (pt h ⟨s.val, lt_of_lt_of_le s.isLt hn⟩) x :=
  carried (N := 4) (fun n hn => (outsAt0 m c (h.val * 4 + n) (pt h ⟨n, hn⟩).isLt).2.2 (ix2 (0 : Fin 1) x)) (fun s => part m c (pt h s) x)
    (fun h0 => first_gain m c (pt h ⟨0, h0⟩) (by show (h.val * 4 + 0) % 4 = 0; omega) x)
    (fun n hn => next_gain m c (pt h ⟨n + 1, hn⟩) (by show ¬(h.val * 4 + (n + 1)) % 4 = 0; omega) x) n hn

/-! ## The three outputs -/

theorem outs_at (t : Fin cfg0.N) (r : Fin 1024) (x : Fin 512) :
    (outsAt0 m c t.val t.isLt).1 (ix2 r x) = DX (A0 m c) (A1 m c) (A2 m c) (A3 m c) (ix2 (rowOf t r) (gcol (hOf t) x))
      ∧ (outsAt0 m c t.val t.isLt).2.1 (ix2 r x) = DZ (A0 m c) (A1 m c) (A2 m c) (A3 m c) (ix2 (rowOf t r) (gcol (hOf t) x)) := by
  by_cases h0 : t.val % 4 = 0
  · rw [outsAt0_A m c t h0]
    dsimp only
    constructor
    · frame_out
      exact x_at m c t r x
    · frame_out
      exact z_at m c t r x
  · rw [outsAt0_B m c t h0]
    dsimp only
    constructor
    · frame_out
      exact x_at m c t r x
    · frame_out
      exact z_at m c t r x

theorem final_x : (dats m 0 c).arrAt 4 cfg0.N = DX (A0 m c) (A1 m c) (A2 m c) (A3 m c) := by
  refine (dats m 0 c).arrAt_eq_of_covers 4 _ (by decide +kernel) fun t hf y => ?_
  blk_simp
  rw [after0_4]
  obtain ⟨r, x, rfl⟩ : ∃ (r : Fin 1024) (x : Fin 512), y = ix2 r x := ⟨y 0, y 1, eq_ix2 y⟩
  have e : ((cfg0.win 4).blk t).view.emb (ix2 r x) = ix2 (rowOf t r) (gcol (hOf t) x) := funext fun a => Fin.ext <| by
    match a with
    | ⟨0, _⟩ => blk_simp [idx_4]; rfl
    | ⟨1, _⟩ => blk_simp [idx_4]; rfl
  rw [e]
  exact (outs_at m c t r x).1

theorem final_z : (dats m 0 c).arrAt 5 cfg0.N = DZ (A0 m c) (A1 m c) (A2 m c) (A3 m c) := by
  refine (dats m 0 c).arrAt_eq_of_covers 5 _ (by decide +kernel) fun t hf y => ?_
  blk_simp
  rw [after0_5]
  obtain ⟨r, x, rfl⟩ : ∃ (r : Fin 1024) (x : Fin 512), y = ix2 r x := ⟨y 0, y 1, eq_ix2 y⟩
  have e : ((cfg0.win 5).blk t).view.emb (ix2 r x) = ix2 (rowOf t r) (gcol (hOf t) x) := funext fun a => Fin.ext <| by
    match a with
    | ⟨0, _⟩ => blk_simp [idx_5]; rfl
    | ⟨1, _⟩ => blk_simp [idx_5]; rfl
  rw [e]
  exact (outs_at m c t r x).2

theorem final_gain : (dats m 0 c).arrAt 6 cfg0.N = DG (A0 m c) (A1 m c) (A3 m c) := by
  refine (dats m 0 c).arrAt_eq_of_covers 6 _ (by decide +kernel) fun t hf y => ?_
  blk_simp
  rw [after0_6]
  obtain ⟨x, rfl⟩ : ∃ x : Fin 512, y = ix2 (0 : Fin 1) x :=
    ⟨y 1, (eq_ix2 y).trans (congrArg (fun z => ix2 z (y 1)) (Subsingleton.elim (α := Fin 1) _ _))⟩
  have e : ((cfg0.win 6).blk t).view.emb (ix2 (0 : Fin 1) x) = ix2 (0 : Fin 1) (gcol (hOf t) x) := funext fun a => Fin.ext <| by
    match a with
    | ⟨0, _⟩ => blk_simp [idx_6]
    | ⟨1, _⟩ => blk_simp [idx_6]; rfl
  rw [e]
  have ht : t.val % 4 = 3 := (flush0_6 t).mp hf
  obtain ⟨h, rfl⟩ : ∃ h : Fin 2, t = pt h 3 := ⟨hOf t, Fin.ext (by show t.val = t.val / 4 * 4 + 3; omega)⟩
  have hh (s : Fin 4) : hOf (pt h s) = h := Fin.ext (by show (h.val * 4 + s.val) / 4 = h.val; omega)
  have hr (s : Fin 4) (r : Fin 1024) : rowOf (pt h s) r = (⟨s.val * 1024 + r.val, by omega⟩ : Fin 4096) :=
    Fin.ext (by show (h.val * 4 + s.val) % 4 * 1024 + r.val = s.val * 1024 + r.val; omega)
  refine (gain_upto m c h x 3 (by decide)).trans ?_
  show _ = dg 512 (slice (U (A0 m c) (A1 m c)) (grp (gcol (hOf (pt h 3)) x))) (slice (A3 m c) (grp (gcol (hOf (pt h 3)) x))) (pos (gcol (hOf (pt h 3)) x))
  rw [grp_gcol, pos_gcol, hh]
  refine Eq.trans (Finset.sum_congr rfl fun s _ => ?_) (Fin.sum_mul_add_fin 4 1024 fun i : Fin 4096 =>
    slice (A3 m c) h (ix2 i x) * unit 512 eps (fun k => slice (U (A0 m c) (A1 m c)) h (ix2 i k)) x)
  rw [part, hh]
  exact Finset.sum_congr rfl fun r _ => by rw [hr]

end Cert.Kernel27Ideal.Hand
-- ==== Proof.Norm.GatedRef.lean ====
module

public import proofs.«01_k».proof.Proof.Norm.Gated
public import proofs.«01_k».proof.Proof.Gen.Reference27Ideal.Read

/- The gradient of the normalisation after the gate as its reference has it, read at an index. -/

@[expose] public section

noncomputable section

namespace Cert.Reference27Ideal.Hand

open Idealize.ShloMosaic hiding ix1 ix2 ix3 ix4 eq_ix1 eq_ix2 eq_ix3 eq_ix4
open Cert.Reference27Ideal Cert.Reference27Ideal.Gen Cert.Reference27Ideal.Read Idealize.ShloMosaic.ValueIdx Cert.Norm
open Cert.Kernel27Ideal.Hand
open Cert.Ffn (sigm dsilu one_f32)
open scoped BigOperators

variable (x0 x1 : (⟨S4096x1024, .f32⟩ : BufTy).Contents (Elt Ideal)) (x2 : (⟨S1024, .f32⟩ : BufTy).Contents (Elt Ideal))
  (x3 : (⟨S4096x1024, .f32⟩ : BufTy).Contents (Elt Ideal))
variable (i : Fin 4096) (h : Fin 2) (j : Fin 512)

theorem gate_at (y : S4096x1024.Idx) : val_main_v0_2 (F := Ideal) x1 y = sigm (x1 y) := by
  show Ideal.div (val_main_call0_v4 (F := Ideal) y) (val_main_call0_v2 (F := Ideal) y + Ideal.exp (-(x1 y))) = _
  rw [val_main_call0_v4_apply, val_main_call0_v2_apply, val_main_call0_cst_apply, val_main_call0_cst_0_apply]
  show Ideal.div (Ideal.ofBits .f32 0x3F800000#32) (Ideal.ofBits .f32 0x3F800000#32 + Ideal.exp (-(x1 y))) = _
  rw [one_f32]
  rfl

theorem gated_eq : val_main_v1 (F := Ideal) x0 x1 = U x0 x1 := funext fun y => congrArg (fun s : EReal => x0 y * (x1 y * s)) (gate_at x1 y)

/-- A row of a group after the gate, and the gradient of the normalised one. -/
abbrev row : Fin 512 → EReal := fun k => slice (U x0 x1) h (ix2 i k)
abbrev drow : Fin 512 → EReal := fun k => slice x3 h (ix2 i k) * gslice x2 h (ix1 k)

theorem split_at (x : (⟨S4096x1024, .f32⟩ : BufTy).Contents (Elt Ideal)) : val_main_v21 (F := Ideal) x (ix3 i h j) = slice x h (ix2 i j) := by
  rw [val_main_v21_apply]
  refine congrArg x (funext fun a => Fin.ext ?_)
  match a with
  | ⟨0, _⟩ => show ((i.val * 2 + h.val) * 512 + j.val) / 1024 = i.val; omega
  | ⟨1, _⟩ => show ((i.val * 2 + h.val) * 512 + j.val) % 1024 = h.val * 512 + j.val; omega

theorem v2_at : val_main_v2 (F := Ideal) x0 x1 (ix3 i h j) = row x0 x1 i h j := by
  rw [row, ← gated_eq]
  exact split_at i h j (val_main_v1 (F := Ideal) x0 x1)

theorem v10_at : val_main_v10 (F := Ideal) x0 x1 (ix3 i h (0 : Fin 1)) = var 512 eps (row x0 x1 i h) := by
  show Ideal.div (val_main_v6 (F := Ideal) x0 x1 (ix3 i h 0)) (val_main_v7 (F := Ideal) (ix3 i h 0)) + val_main_v9 (F := Ideal) (ix3 i h 0) = _
  rw [val_main_v6_apply, val_main_v5_apply, val_main_v7_apply, val_main_v9_apply]
  show Ideal.div (Ideal.ofBits .f32 0x00000000#32 + _) (Ideal.ofBits .f32 0x44000000#32) + Ideal.ofBits .f32 0x358637BD#32 = _
  rw [Ideal.ofBits_zero_f32, zero_add, w512_f32, eps_f32, var]
  refine congrArg (fun z : EReal => Ideal.div z _ + _) (Finset.sum_congr rfl fun k _ => ?_)
  refine (congrArg (fun y => val_main_v2 (F := Ideal) x0 x1 y * val_main_v2 (F := Ideal) x0 x1 y) (eq_ix3 _)).trans ?_
  exact congrArg (fun z : EReal => z * z) (v2_at x0 x1 i h k)

theorem v11_at : val_main_v11 (F := Ideal) x0 x1 (ix3 i h (0 : Fin 1)) = rs 512 eps (row x0 x1 i h) := congrArg Ideal.rsqrt (v10_at x0 x1 i h)

theorem v15_at : val_main_v15 (F := Ideal) x0 x1 (ix3 i h j) = rs 512 eps (row x0 x1 i h) := by
  rw [val_main_v15_apply]
  exact (congrArg (val_main_v11 (F := Ideal) x0 x1) (eq_ix3 _)).trans (v11_at x0 x1 i h)

theorem v25_at : val_main_v25 (F := Ideal) x2 (ix3 i h j) = gslice x2 h (ix1 j) := by
  rw [val_main_v25_apply, val_main_v17_apply, val_main_v3_apply]
  exact congrArg x2 ((eq_ix1 _).trans (congrArg ix1 (Fin.ext rfl)))

theorem v26_at : val_main_v26 (F := Ideal) x2 x3 (ix3 i h j) = drow x2 x3 i h j := congrArg₂ (fun a b : EReal => a * b) (split_at i h j x3) (v25_at x2 i h j)

theorem v14_at : val_main_v14 (F := Ideal) x0 x1 (ix3 i h (0 : Fin 1))
    = ((-(1 / 2) : ℝ) : EReal) * Ideal.div (rs 512 eps (row x0 x1 i h)) (var 512 eps (row x0 x1 i h)) := by
  show val_main_v13 (F := Ideal) (ix3 i h 0) * Ideal.div (val_main_v11 (F := Ideal) x0 x1 (ix3 i h 0)) (val_main_v10 (F := Ideal) x0 x1 (ix3 i h 0)) = _
  rw [val_main_v13_apply, v11_at, v10_at, ← half_f32]
  rfl

theorem v30_at : val_main_v30 (F := Ideal) x0 x1 x2 x3 (ix3 i h (0 : Fin 1)) = ∑ k, row x0 x1 i h k * drow x2 x3 i h k := by
  have e : idx_main_v30 (ix3 i h (0 : Fin 1)) = ix2 i h := funext fun a => Fin.ext <| by
    match a with
    | ⟨0, _⟩ => show ((i.val * 2 + h.val) * 1 + 0) / 2 = i.val; omega
    | ⟨1, _⟩ => show ((i.val * 2 + h.val) * 1 + 0) % 2 = h.val; omega
  rw [val_main_v30_apply, e, val_main_v29_apply]
  show Ideal.ofBits .f32 0x00000000#32 + _ = _
  rw [Ideal.ofBits_zero_f32, zero_add]
  refine Finset.sum_congr rfl fun k _ => ?_
  refine (congrArg (val_main_v28 (F := Ideal) x0 x1 x2 x3) (eq_ix3 _)).trans ?_
  exact congrArg₂ (fun a b : EReal => a * b) (v2_at x0 x1 i h k) (v26_at x2 x3 i h k)

theorem v37_at : val_main_v37 (F := Ideal) x0 x1 x2 x3 (ix3 i h j) = back 512 eps (row x0 x1 i h) (drow x2 x3 i h) ((-(1 / 2) : ℝ) : EReal) := by
  rw [val_main_v37_apply, val_main_v36_apply, Fin.sum_univ_one]
  show Ideal.ofBits .f32 0x00000000#32 + _ = _
  rw [Ideal.ofBits_zero_f32, zero_add]
  refine (congrArg (val_main_v35 (F := Ideal) x0 x1 x2 x3) (eq_ix3 _)).trans ?_
  show Ideal.div (val_main_v30 (F := Ideal) x0 x1 x2 x3 (ix3 i h 0) * val_main_v14 (F := Ideal) x0 x1 (ix3 i h 0)) (val_main_v34 (F := Ideal) (ix3 i h 0)) = _
  rw [v30_at, v14_at, val_main_v34_apply]
  show Ideal.div _ (Ideal.ofBits .f32 0x44000000#32) = _
  rw [w512_f32, back]

theorem v41_at : val_main_v41 (F := Ideal) x0 x1 x2 x3 (ix3 i h j) = du x0 x1 x2 x3 h i j := by
  show val_main_v26 (F := Ideal) x2 x3 (ix3 i h j) * val_main_v15 (F := Ideal) x0 x1 (ix3 i h j)
    + val_main_v2 (F := Ideal) x0 x1 (ix3 i h j) * val_main_v37 (F := Ideal) x0 x1 x2 x3 (ix3 i h j)
    + val_main_v37 (F := Ideal) x0 x1 x2 x3 (ix3 i h j) * val_main_v2 (F := Ideal) x0 x1 (ix3 i h j) = _
  rw [v26_at, v15_at, v37_at, v2_at]
  exact grad_eq 512 eps (row x0 x1 i h) (drow x2 x3 i h) (by norm_num) eps_pos j

theorem v43_at (j : Fin 1024) : val_main_v43 (F := Ideal) x0 x1 x2 x3 (ix2 i j) = du x0 x1 x2 x3 (grp j) i (pos j) := by
  have e : idx_main_v43 (ix2 i j) = ix3 i (grp j) (pos j) := funext fun a => Fin.ext <| by
    match a with
    | ⟨0, _⟩ => show (i.val * 1024 + j.val) / 1024 = i.val; omega
    | ⟨1, _⟩ => show (i.val * 1024 + j.val) / 512 % 2 = j.val / 512; omega
    | ⟨2, _⟩ => show (i.val * 1024 + j.val) % 512 = j.val % 512; omega
  rw [val_main_v43_apply, e]
  exact v41_at x0 x1 x2 x3 i (grp j) (pos j)

theorem x_eq : val_main_v45 (F := Ideal) x0 x1 x2 x3 = DX x0 x1 x2 x3 := by
  funext y
  obtain ⟨i, j, rfl⟩ : ∃ (i : Fin 4096) (j : Fin 1024), y = ix2 i j := ⟨y 0, y 1, eq_ix2 y⟩
  exact congrArg₂ (fun a s : EReal => a * (x1 (ix2 i j) * s)) (v43_at x0 x1 x2 x3 i j) (gate_at x1 _)

theorem z_eq (h2 : ∀ y, ∃ r : ℝ, x2 y = r) (h3 : ∀ y, ∃ r : ℝ, x3 y = r) : val_main_v46 (F := Ideal) x0 x1 x2 x3 = DZ x0 x1 x2 x3 := by
  funext y
  obtain ⟨i, j, rfl⟩ : ∃ (i : Fin 4096) (j : Fin 1024), y = ix2 i j := ⟨y 0, y 1, eq_ix2 y⟩
  show x0 (ix2 i j) * val_main_v43 (F := Ideal) x0 x1 x2 x3 (ix2 i j) * val_main_v0_2 (F := Ideal) x1 (ix2 i j)
    + x1 (ix2 i j) * (x0 (ix2 i j) * val_main_v43 (F := Ideal) x0 x1 x2 x3 (ix2 i j)) * (val_main_v0_2 (F := Ideal) x1 (ix2 i j)
      * (val_main_call0_v6 (F := Ideal) (ix2 i j) - val_main_v0_2 (F := Ideal) x1 (ix2 i j))) = _
  rw [val_main_call0_v6_apply, val_main_call0_cst_1_apply, gate_at, v43_at]
  show _ + _ * (_ * (Ideal.ofBits .f32 0x3F800000#32 - _)) = _
  rw [one_f32]
  have hd (k : Fin 512) : ∃ r : ℝ, drow x2 x3 i (grp j) k = r := by
    obtain ⟨a, ha⟩ := h3 (ix2 i (gcol (grp j) k))
    obtain ⟨b, hb⟩ := h2 (ix1 (gcol (grp j) k))
    exact ⟨a * b, by rw [EReal.coe_mul, ← ha, ← hb]; rfl⟩
  have key := gate_grad 512 eps (drow x2 x3 i (grp j)) (by norm_num) eps_pos (fun k => x0 (ix2 i (gcol (grp j) k)))
    (fun k => x1 (ix2 i (gcol (grp j) k))) hd (pos j)
  simp only [gcol_grp] at key
  exact key

theorem v16_at : val_main_v16 (F := Ideal) x0 x1 (ix3 i h j) = unit 512 eps (row x0 x1 i h) j :=
  congrArg₂ (fun a b : EReal => a * b) (v2_at x0 x1 i h j) (v15_at x0 x1 i h j)

theorem v23_at : val_main_v23 (F := Ideal) x0 x1 x3 (ix2 h j) = dg 512 (slice (U x0 x1) h) (slice x3 h) j := by
  rw [val_main_v23_apply]
  show Ideal.ofBits .f32 0x00000000#32 + _ = _
  rw [Ideal.ofBits_zero_f32, zero_add, dg]
  refine Finset.sum_congr rfl fun i _ => ?_
  refine (congrArg (val_main_v22 (F := Ideal) x0 x1 x3) (eq_ix3 _)).trans ?_
  exact (congrArg₂ (fun a b : EReal => a * b) (v16_at x0 x1 i h j) (split_at i h j x3)).trans (mul_comm _ _)

theorem gain_eq : val_main_v47 (F := Ideal) x0 x1 x3 = DG x0 x1 x3 := by
  funext y
  obtain ⟨j, rfl⟩ : ∃ j : Fin 1024, y = ix2 (0 : Fin 1) j :=
    ⟨y 1, (eq_ix2 y).trans (congrArg (fun z => ix2 z (y 1)) (Subsingleton.elim (α := Fin 1) _ _))⟩
  have e : idx_main_v42 (idx_main_v47 (ix2 (0 : Fin 1) j)) = ix2 (grp j) (pos j) := funext fun a => Fin.ext <| by
    match a with
    | ⟨0, _⟩ => show (0 * 1024 + j.val) / 512 = j.val / 512; omega
    | ⟨1, _⟩ => show (0 * 1024 + j.val) % 512 = j.val % 512; omega
  have e' : idx_main_v24 (ix3 (0 : Fin 1) (grp j) (pos j)) = ix2 (grp j) (pos j) := funext fun a => Fin.ext <| by
    match a with
    | ⟨0, _⟩ => show ((0 * 2 + (grp j).val) * 512 + (pos j).val) / 512 = (grp j).val; omega
    | ⟨1, _⟩ => show ((0 * 2 + (grp j).val) * 512 + (pos j).val) % 512 = (pos j).val; omega
  rw [val_main_v47_apply, val_main_v42_apply, e, val_main_v27_apply, Fin.sum_univ_one]
  show Ideal.ofBits .f32 0x00000000#32 + _ = _
  rw [Ideal.ofBits_zero_f32, zero_add]
  refine (congrArg (val_main_v24 (F := Ideal) x0 x1 x3) (eq_ix3 _)).trans ?_
  refine (val_main_v24_apply x0 x1 x3 (ix3 (0 : Fin 1) (grp j) (pos j))).trans ?_
  rw [e']
  exact v23_at x0 x1 x3 (grp j) (pos j)

end Cert.Reference27Ideal.Hand
-- ==== Proof.Norm.GateClaims.lean ====
module

public import proofs.«01_k».proof.Defs
public import proofs.«01_k».proof.Proof.Results
public import proofs.«01_k».proof.Proof.Ffn.Claims
public import proofs.«01_k».proof.Proof.Norm.GatedRef
public import proofs.«01_k».proof.Proof.Gen.Reference27Ideal.Run

/- The gated normalisation's gradients against their reference. -/

@[expose] public section

noncomputable section

namespace Cert.Norm

open Idealize.ShloMosaic Idealize.SL.Sem Cert

theorem pre_gain_dy_facts : Pre_finite_gain_dy.Facts := ⟨by decide, by decide, by decide⟩

/-- The reference ends quietly. -/
theorem gate_frame : @quiescent_Reference27Ideal Reference27Ideal.Gen.facts := fun m g _ =>
  (θ_run Reference27Ideal.defs _ _).mono (fun r h => ⟨fun c => (h c).2.2.2, sem_eq_zero_of_no_sems rfl r.2⟩) (Reference27Ideal.Value.run (F := Ideal) m g)

/-- The gradients of the gated normalisation, by groups, are the reference's. -/
theorem gate : @algebraic_Kernel27Ideal_Reference27Ideal_pre_finite_gain_dy Kernel27Ideal.Gen.facts Reference27Ideal.Gen.facts pre_gain_dy_facts := by
  intro m g m' g' hpre same
  refine ⟨fun c => Kernel27Ideal.Hand.DX (Kernel27Ideal.Hand.A0 m c) (Kernel27Ideal.Hand.A1 m c) (Kernel27Ideal.Hand.A2 m c) (Kernel27Ideal.Hand.A3 m c),
    fun c => Kernel27Ideal.Hand.DZ (Kernel27Ideal.Hand.A0 m c) (Kernel27Ideal.Hand.A1 m c) (Kernel27Ideal.Hand.A2 m c) (Kernel27Ideal.Hand.A3 m c),
    fun c => Kernel27Ideal.Hand.DG (Kernel27Ideal.Hand.A0 m c) (Kernel27Ideal.Hand.A1 m c) (Kernel27Ideal.Hand.A3 m c), ?_, ?_⟩
  · exact (θ_run Kernel27Ideal.defs _ _).mono (fun r h c => ⟨(h c).1.trans (Kernel27Ideal.Hand.final_x m c),
      (h c).2.1.trans (Kernel27Ideal.Hand.final_z m c), (h c).2.2.1.trans (Kernel27Ideal.Hand.final_gain m c), (h c).2.2.2⟩)
      (Kernel27Ideal.Value.run_blocks (F := Ideal) m g)
  · refine (θ_run Reference27Ideal.defs _ _).mono (fun r h c => ?_) (Reference27Ideal.Value.run (F := Ideal) m' g')
    obtain ⟨e0, e1, e2, e3⟩ := same c
    refine ⟨(h c).1.trans ?_, (h c).2.1.trans ?_, (h c).2.2.1.trans ?_, (h c).2.2.2⟩
    · rw [Reference27Ideal.Read.val_main_v45_eq, e0, e1, e2, e3]
      exact Reference27Ideal.Hand.x_eq _ _ _ _
    · rw [Reference27Ideal.Read.val_main_v46_eq, e0, e1, e2, e3]
      exact Reference27Ideal.Hand.z_eq _ _ _ _ (fun y => Ffn.real_of_abs (congrFun (hpre c).1 y)) (fun y => Ffn.real_of_abs (congrFun (hpre c).2 y))
    · rw [Reference27Ideal.Read.val_main_v47_eq, e0, e1, e3]
      exact Reference27Ideal.Hand.gain_eq _ _ _

end Cert.Norm
-- ==== Proof.Conv.Spec.lean ====
module

public import proofs.«01_k».proof.Proof.Norm.Gate

/- The gradient of the causal convolution over four rows, then the gate `x * sigm x`: one column at a time, and the three arrays. -/

@[expose] public section

noncomputable section

namespace Cert.Conv

open Idealize.ShloMosaic hiding ix1 ix2 ix3 ix4 eq_ix1 eq_ix2 eq_ix3 eq_ix4
open Idealize.ShloMosaic.ValueIdx
open Cert.Ffn (sigm dsilu)
open scoped BigOperators

/-! ## One column -/

/-- A column moved down by some rows, with zeros in front. -/
def down (u : Fin 2048 → EReal) (j : ℕ) (i : Fin 2048) : EReal := if j ≤ i.val then u ⟨i.val - j, by omega⟩ else 0

/-- A column moved up by some rows, with zeros behind. -/
def up (d : Fin 2048 → EReal) (j : ℕ) (i : Fin 2048) : EReal := if h : i.val + j < 2048 then d ⟨i.val + j, h⟩ else 0

theorem down_zero (u : Fin 2048 → EReal) : down u 0 = u := funext fun i => if_pos (Nat.zero_le _)

theorem up_zero (d : Fin 2048 → EReal) : up d 0 = d := funext fun i => dif_pos i.isLt

variable (u : Fin 2048 → EReal) (w : Fin 4 → EReal) (b : EReal) (dy : Fin 2048 → EReal)

/-- The convolution. -/
def pre (i : Fin 2048) : EReal := b + w 0 * down u 3 i + w 1 * down u 2 i + w 2 * down u 1 i + w 3 * u i

/-- The gradient of the convolution. -/
def dpre (i : Fin 2048) : EReal := dy i * dsilu (pre u w b i)

/-- The gradient of the column. -/
def gu (i : Fin 2048) : EReal :=
  w 0 * up (dpre u w b dy) 3 i + w 1 * up (dpre u w b dy) 2 i + w 2 * up (dpre u w b dy) 1 i + w 3 * dpre u w b dy i

/-- The gradient of the tap that meets the column moved down by `j` rows. -/
def gw (j : ℕ) : EReal := ∑ i : Fin 2048, dpre u w b dy i * down u j i

/-- The gradient of the bias. -/
def gb : EReal := ∑ i : Fin 2048, dpre u w b dy i

/-- The gradient of a row of the taps: four rows are in use, the rest are zero. -/
def tap (k : Fin 8) : EReal := if k.val < 4 then gw u w b dy (3 - k.val) else 0

/-! ## The arrays -/

variable (U : (⟨3, ![2, 2048, 3840]⟩ : Shape).Idx → EReal) (W : (⟨2, ![8, 1536]⟩ : Shape).Idx → EReal) (B : (⟨2, ![1, 1536]⟩ : Shape).Idx → EReal)
  (D : (⟨3, ![2, 2048, 1536]⟩ : Shape).Idx → EReal)

/-- A column of one batch of the convolution's input, its taps, and its result's gradient. -/
def ucol (s : Fin 2) (j : Fin 1536) (i : Fin 2048) : EReal := U (ix3 s i (⟨1024 + j.val, by omega⟩ : Fin 3840))
def wcol (j : Fin 1536) (k : Fin 4) : EReal := W (ix2 (⟨k.val, by omega⟩ : Fin 8) j)
def dcol (s : Fin 2) (j : Fin 1536) (i : Fin 2048) : EReal := D (ix3 s i j)

/-- The gradient of the input. -/
def DU : (⟨3, ![2, 2048, 1536]⟩ : Shape).Idx → EReal :=
  fun y => gu (ucol U (y 0) (y 2)) (wcol W (y 2)) (B (ix2 (0 : Fin 1) (y 2))) (dcol D (y 0) (y 2)) (y 1)

/-- The gradient of the taps. -/
def DW : (⟨2, ![8, 1536]⟩ : Shape).Idx → EReal :=
  fun y => ∑ s : Fin 2, tap (ucol U s (y 1)) (wcol W (y 1)) (B (ix2 (0 : Fin 1) (y 1))) (dcol D s (y 1)) (y 0)

/-- The gradient of the bias. -/
def DB : (⟨2, ![1, 1536]⟩ : Shape).Idx → EReal :=
  fun y => ∑ s : Fin 2, gb (ucol U s (y 1)) (wcol W (y 1)) (B (ix2 (0 : Fin 1) (y 1))) (dcol D s (y 1))

end Cert.Conv
-- ==== Proof.Conv.Tile.lean ====
module

public import proofs.«01_k».proof.Proof.Conv.Spec
public import proofs.«01_k».proof.Proof.Norm.Tile
public import proofs.«01_k».proof.Proof.Gen.Kernel28Ideal.Value
public import Idealize.ShloMosaic.Lib.WritesUnit
public import Idealize.ShloMosaic.Lib.KernelVsHost
public import Idealize.ShloMosaic.Lib.WordCmp

/- The gradient of the causal convolution: what one tile of its kernel computes. -/

@[expose] public section

set_option maxRecDepth 16384

noncomputable section

namespace Cert.Kernel28Ideal.Hand

open Idealize.ShloMosaic hiding ix1 ix2 ix3 ix4 eq_ix1 eq_ix2 eq_ix3 eq_ix4
open Cert.Kernel28Ideal Cert.Kernel28Ideal.Gen Cert.Norm Cert.Conv
open Cert.Ffn (sigm dsilu one_f32 zero_f32)
open Idealize.ShloMosaic.TcCoe Idealize.ShloMosaic.ValueIdx
open scoped BigOperators

/-! ## Rows moved down and up -/

theorem rot_at (x : FVec Ideal S2048x256 .f32) (n : BitVec 32) (i k : Fin 2048) (c : Fin 256) (hk : k.val = (i.val + 2048 - n.toNat % 2048) % 2048) :
    dynamicRotate 0 n none x rotates_S2048x256_d0 (ix2 i c) = x (ix2 k c) :=
  dynamicRotate_apply 0 n x rotates_S2048x256_d0 (ix2 i c) (ix2 k c) (fun b => match b with
    | ⟨0, _⟩ => hk
    | ⟨1, _⟩ => rfl)

theorem down_at (j : ℕ) (hj : j < 2048) (x : FVec Ideal S2048x256 .f32) (i : Fin 2048) (c : Fin 256) :
    select (cmpi .sge (iota .tc S2048x256 32 [0] iota_S2048x256_d0_w32) (broadcast S2048x256 (BitVec.ofNat 32 j)))
      (dynamicRotate 0 (BitVec.ofNat 32 j) none x rotates_S2048x256_d0) (broadcast S2048x256 (Scalar.ofBits (F := Ideal) .f32 0x00000000#32)) (ix2 i c)
      = down (fun k => x (ix2 k c)) j i := by
  have hi : i.val < 2048 := i.isLt
  have hn : (BitVec.ofNat 32 j).toNat = j := by rw [BitVec.toNat_ofNat]; omega
  show Scalar.select (IntOp.cmpi .sge (iota .tc S2048x256 32 [0] iota_S2048x256_d0_w32 (ix2 i c)) (BitVec.ofNat 32 j)) _ (Ideal.ofBits .f32 0x00000000#32) = _
  rw [iota_single_apply, zero_f32]
  show Scalar.select (IntOp.cmpi .sge (BitVec.ofNat 32 i.val) (BitVec.ofNat 32 j)) _ _ = _
  rw [WordCmp.cmpi_sge_ofNat (by omega) (by omega), down]
  by_cases h : j ≤ i.val
  · rw [if_pos h, decide_eq_true h]
    exact rot_at x _ i _ c (by rw [hn]; show i.val - j = _; omega)
  · rw [if_neg h, decide_eq_false h]
    rfl

theorem up_at (j n : ℕ) (hj : 0 < j) (hn : n + j = 2048) (x : FVec Ideal S2048x256 .f32) (i : Fin 2048) (c : Fin 256) :
    select (cmpi .slt (iota .tc S2048x256 32 [0] iota_S2048x256_d0_w32) (broadcast S2048x256 (BitVec.ofNat 32 n)))
      (dynamicRotate 0 (BitVec.ofNat 32 n) none x rotates_S2048x256_d0) (broadcast S2048x256 (Scalar.ofBits (F := Ideal) .f32 0x00000000#32)) (ix2 i c)
      = up (fun k => x (ix2 k c)) j i := by
  have hi : i.val < 2048 := i.isLt
  have hm : (BitVec.ofNat 32 n).toNat = n := by rw [BitVec.toNat_ofNat]; omega
  show Scalar.select (IntOp.cmpi .slt (iota .tc S2048x256 32 [0] iota_S2048x256_d0_w32 (ix2 i c)) (BitVec.ofNat 32 n)) _ (Ideal.ofBits .f32 0x00000000#32) = _
  rw [iota_single_apply, zero_f32]
  show Scalar.select (IntOp.cmpi .slt (BitVec.ofNat 32 i.val) (BitVec.ofNat 32 n)) _ _ = _
  rw [WordCmp.cmpi_slt_ofNat (by omega) (by omega), up]
  by_cases h : i.val < n
  · rw [dif_pos (by omega), decide_eq_true h]
    exact rot_at x _ i _ c (by rw [hm]; show i.val + j = _; omega)
  · rw [dif_neg (by omega), decide_eq_false h]
    rfl

theorem flat_at (x : FVec Ideal S1x2048x256 .f32) (i : Fin 2048) (c : Fin 256) :
    shapeCast S2048x256 x shapeCasts_S1x2048x256_S2048x256 (ix2 i c) = x (ix3 (0 : Fin 1) i c) := by
  refine shapeCast_apply x _ _ (ix3 (0 : Fin 1) i c) ?_
  rw [Shape.rowMajor_val_three, Shape.rowMajor_val_two]
  show (0 * 2048 + i.val) * 256 + c.val = i.val * 256 + c.val
  omega

theorem back_at (x : FVec Ideal S2048x256 .f32) (i : Fin 2048) (c : Fin 256) : k0_pay1 x (ix3 (0 : Fin 1) i c) = x (ix2 i c) := by
  refine shapeCast_apply x _ _ (ix2 i c) ?_
  rw [Shape.rowMajor_val_three, Shape.rowMajor_val_two]
  show i.val * 256 + c.val = (0 * 2048 + i.val) * 256 + c.val
  omega

/-! ## The convolution and its gradient -/

section

variable (u dy : FVec Ideal S1x2048x256 .f32) (b w0 w1 w2 w3 : FVec Ideal S1x256 .f32) (i : Fin 2048) (c : Fin 256)

/-- The columns of a tile, and one column's taps. -/
def tcol (x : FVec Ideal S1x2048x256 .f32) (c : Fin 256) (i : Fin 2048) : EReal := x (ix3 (0 : Fin 1) i c)
def taps (w0 w1 w2 w3 : FVec Ideal S1x256 .f32) (c : Fin 256) : Fin 4 → EReal :=
  ![w0 (ix2 (0 : Fin 1) c), w1 (ix2 (0 : Fin 1) c), w2 (ix2 (0 : Fin 1) c), w3 (ix2 (0 : Fin 1) c)]

theorem u_at : k0_pay4 (F := Ideal) u (ix2 i c) = tcol u c i := flat_at u i c

theorem ucol_eq : (fun k => k0_pay4 (F := Ideal) u (ix2 k c)) = tcol u c := funext fun k => flat_at u k c

theorem wide (x : FVec Ideal S1x256 .f32) : broadcastTo S2048x256 x broadcasts_S1x256_S2048x256 (ix2 i c) = x (ix2 (0 : Fin 1) c) :=
  rows_at (by decide) x _ i c

/-- The tile's convolution. -/
def Z : FVec Ideal S2048x256 .f32 :=
  addf (addf (k0_pay5 u b w0 w1) (mulf (broadcastTo S2048x256 w2 broadcasts_S1x256_S2048x256)
    (select k0_pay6 (k0_pay7 u) (broadcast S2048x256 (Scalar.ofBits (F := Ideal) .f32 0x00000000#32)))))
    (mulf (broadcastTo S2048x256 w3 broadcasts_S1x256_S2048x256) (k0_pay4 u))

theorem Z_at : Z u b w0 w1 w2 w3 (ix2 i c) = pre (tcol u c) (taps w0 w1 w2 w3 c) (b (ix2 (0 : Fin 1) c)) i := by
  have h5 : k0_pay5 u b w0 w1 (ix2 i c) = b (ix2 (0 : Fin 1) c) + w0 (ix2 (0 : Fin 1) c) * down (tcol u c) 3 i + w1 (ix2 (0 : Fin 1) c) * down (tcol u c) 2 i := by
    refine (congrArg₂ (· + ·) (congrArg₂ (· + ·) (congrArg₂ (· + ·) (wide i c b) zero_f32) (congrArg₂ (· * ·) (wide i c w0) (down_at 3 (by decide) (k0_pay4 u) i c)))
      (congrArg₂ (· * ·) (wide i c w1) (down_at 2 (by decide) (k0_pay4 u) i c))).trans ?_
    rw [ucol_eq, add_zero]
  refine (congrArg₂ (· + ·) (congrArg₂ (· + ·) h5 (congrArg₂ (· * ·) (wide i c w2) (down_at 1 (by decide) (k0_pay4 u) i c)))
    (congrArg₂ (· * ·) (wide i c w3) (u_at u i c))).trans ?_
  rw [ucol_eq]
  rfl

/-- The tile's gradient of the convolution. -/
abbrev P : FVec Ideal S2048x256 .f32 :=
  k0_pay8 (k0_pay4 u) (k0_pay5 u b w0 w1) w2 k0_pay6 (k0_pay7 u) (FloatOps.ofBits (F := Ideal) FTy.f32 0#32) w3 dy

theorem gate_at (d z : FVec Ideal S2048x256 .f32) (y : S2048x256.Idx) :
    mulf d (mulf (divf (broadcast S2048x256 (Scalar.ofBits (F := Ideal) .f32 0x3F800000#32)) (addf (broadcast S2048x256 (Scalar.ofBits (F := Ideal) .f32 0x3F800000#32))
        (exp (subf (broadcast S2048x256 (Scalar.ofBits (F := Ideal) .f32 0x00000000#32)) z))))
      (addf (broadcast S2048x256 (Scalar.ofBits (F := Ideal) .f32 0x3F800000#32)) (mulf z (subf (broadcast S2048x256 (Scalar.ofBits (F := Ideal) .f32 0x3F800000#32))
        (divf (broadcast S2048x256 (Scalar.ofBits (F := Ideal) .f32 0x3F800000#32)) (addf (broadcast S2048x256 (Scalar.ofBits (F := Ideal) .f32 0x3F800000#32))
        (exp (subf (broadcast S2048x256 (Scalar.ofBits (F := Ideal) .f32 0x00000000#32)) z)))))))) y
      = d y * dsilu (z y) := by
  show d y * (Ideal.div (Ideal.ofBits .f32 0x3F800000#32) (Ideal.ofBits .f32 0x3F800000#32 + Ideal.exp (Ideal.ofBits .f32 0x00000000#32 - z y))
    * (Ideal.ofBits .f32 0x3F800000#32 + z y * (Ideal.ofBits .f32 0x3F800000#32 - Ideal.div (Ideal.ofBits .f32 0x3F800000#32) (Ideal.ofBits .f32 0x3F800000#32
      + Ideal.exp (Ideal.ofBits .f32 0x00000000#32 - z y))))) = _
  rw [one_f32, zero_f32, zero_sub]
  rfl

theorem P_at : P u dy b w0 w1 w2 w3 (ix2 i c) = dpre (tcol u c) (taps w0 w1 w2 w3 c) (b (ix2 (0 : Fin 1) c)) (tcol dy c) i := by
  refine (gate_at (shapeCast S2048x256 dy shapeCasts_S1x2048x256_S2048x256) (Z u b w0 w1 w2 w3) (ix2 i c)).trans ?_
  rw [Z_at, flat_at]
  rfl

theorem pcol_eq : (fun k => P u dy b w0 w1 w2 w3 (ix2 k c)) = dpre (tcol u c) (taps w0 w1 w2 w3 c) (b (ix2 (0 : Fin 1) c)) (tcol dy c) :=
  funext fun k => P_at u dy b w0 w1 w2 w3 k c

/-- The gradient of the input, over any gradient of the convolution. -/
theorem moved_at (p : FVec Ideal S2048x256 .f32) (old : FVec Ideal S2048x256 .f32) (h : old (ix2 i c) = w0 (ix2 (0 : Fin 1) c) * up (fun k => p (ix2 k c)) 3 i) :
    k0_pay18 p (k0_pay13 p old w1) w2 k0_pay15 (k0_pay16 p) w3 (ix2 i c)
      = w0 (ix2 (0 : Fin 1) c) * up (fun k => p (ix2 k c)) 3 i + w1 (ix2 (0 : Fin 1) c) * up (fun k => p (ix2 k c)) 2 i
        + w2 (ix2 (0 : Fin 1) c) * up (fun k => p (ix2 k c)) 1 i + w3 (ix2 (0 : Fin 1) c) * p (ix2 i c) :=
  congrArg₂ (· + ·) (congrArg₂ (· + ·) (congrArg₂ (· + ·) h (congrArg₂ (· * ·) (wide i c w1) (up_at 2 2046 (by decide) rfl p i c)))
    (congrArg₂ (· * ·) (wide i c w2) (up_at 1 2047 (by decide) rfl p i c))) (congrArg (· * _) (wide i c w3))

theorem u_pay : k0_pay1 (k0_pay18 (P u dy b w0 w1 w2 w3) (k0_pay13 (P u dy b w0 w1 w2 w3)
      (k0_pay9 (k0_pay4 u) (k0_pay5 u b w0 w1) w2 k0_pay6 (k0_pay7 u) (FloatOps.ofBits (F := Ideal) FTy.f32 0#32) w3 dy w0) w1) w2 k0_pay15
      (k0_pay16 (P u dy b w0 w1 w2 w3)) w3) (ix3 (0 : Fin 1) i c)
      = gu (tcol u c) (taps w0 w1 w2 w3 c) (b (ix2 (0 : Fin 1) c)) (tcol dy c) i := by
  rw [back_at, moved_at w0 w1 w2 w3 i c, pcol_eq, P_at]
  · rfl
  · refine (congrArg₂ (· + ·) zero_f32 (congrArg₂ (· * ·) (wide i c w0) (up_at 3 2045 (by decide) rfl (P u dy b w0 w1 w2 w3) i c))).trans ?_
    rw [zero_add]

/-! ## The sums -/

/-- A row with a tile's column sums added. -/
theorem sum_at (old : FVec Ideal S1x256 .f32) (y : FVec Ideal S2048x256 .f32) :
    addf (shapeCast S1x256 old shapeCasts_S1x256_S1x256) (shapeCast S1x256 (multiReduction .add [0] S256 y 0x00000000#32 reduces_S2048x256_S256 (.inl rfl) rfl)
      shapeCasts_S256_S1x256) (ix2 (0 : Fin 1) c) = old (ix2 (0 : Fin 1) c) + ∑ k : Fin 2048, y (ix2 k c) :=
  congrArg₂ (· + ·) (same_at old _ _) ((lie_at _ _ 0 c).trans (colSum_at _ y c))

theorem b_pay (old : FVec Ideal S1x256 .f32) : k0_pay20 (P u dy b w0 w1 w2 w3) old (ix2 (0 : Fin 1) c)
    = old (ix2 (0 : Fin 1) c) + gb (tcol u c) (taps w0 w1 w2 w3 c) (b (ix2 (0 : Fin 1) c)) (tcol dy c) := by
  refine (sum_at c old (P u dy b w0 w1 w2 w3)).trans ?_
  rw [gb, ← pcol_eq]

/-- A row of the taps' gradient: the convolution's gradient against the columns moved down. -/
theorem row_pay (j : ℕ) (hj : j < 2048) (old : FVec Ideal S1x256 .f32) :
    addf (shapeCast S1x256 old shapeCasts_S1x256_S1x256) (shapeCast S1x256 (multiReduction .add [0] S256 (mulf (P u dy b w0 w1 w2 w3)
      (select (cmpi .sge (iota .tc S2048x256 32 [0] iota_S2048x256_d0_w32) (broadcast S2048x256 (BitVec.ofNat 32 j)))
      (dynamicRotate 0 (BitVec.ofNat 32 j) none (k0_pay4 u) rotates_S2048x256_d0) (broadcast S2048x256 (Scalar.ofBits (F := Ideal) .f32 0x00000000#32))))
      0x00000000#32 reduces_S2048x256_S256 (.inl rfl) rfl) shapeCasts_S256_S1x256) (ix2 (0 : Fin 1) c)
      = old (ix2 (0 : Fin 1) c) + gw (tcol u c) (taps w0 w1 w2 w3 c) (b (ix2 (0 : Fin 1) c)) (tcol dy c) j := by
  refine (sum_at c old _).trans (congrArg (fun z : EReal => old (ix2 (0 : Fin 1) c) + z) (Finset.sum_congr rfl fun k _ => ?_))
  refine (congrArg₂ (· * ·) (P_at u dy b w0 w1 w2 w3 k c) (down_at j hj (k0_pay4 u) k c)).trans ?_
  rw [ucol_eq]

theorem row0_pay (old : FVec Ideal S1x256 .f32) : k0_pay12 (k0_pay4 u) (P u dy b w0 w1 w2 w3) (k0_pay10 old) k0_pay11 (ix2 (0 : Fin 1) c)
    = old (ix2 (0 : Fin 1) c) + gw (tcol u c) (taps w0 w1 w2 w3 c) (b (ix2 (0 : Fin 1) c)) (tcol dy c) 3 :=
  row_pay u dy b w0 w1 w2 w3 c 3 (by decide) old

theorem row1_pay (old : FVec Ideal S1x256 .f32) : k0_pay14 (k0_pay4 u) (P u dy b w0 w1 w2 w3) old (ix2 (0 : Fin 1) c)
    = old (ix2 (0 : Fin 1) c) + gw (tcol u c) (taps w0 w1 w2 w3 c) (b (ix2 (0 : Fin 1) c)) (tcol dy c) 2 :=
  row_pay u dy b w0 w1 w2 w3 c 2 (by decide) old

theorem row2_pay (old : FVec Ideal S1x256 .f32) : k0_pay17 (k0_pay4 u) (P u dy b w0 w1 w2 w3) old (ix2 (0 : Fin 1) c)
    = old (ix2 (0 : Fin 1) c) + gw (tcol u c) (taps w0 w1 w2 w3 c) (b (ix2 (0 : Fin 1) c)) (tcol dy c) 1 :=
  row_pay u dy b w0 w1 w2 w3 c 1 (by decide) old

theorem row3_pay (old : FVec Ideal S1x256 .f32) : k0_pay19 (k0_pay4 u) (P u dy b w0 w1 w2 w3) old (ix2 (0 : Fin 1) c)
    = old (ix2 (0 : Fin 1) c) + gw (tcol u c) (taps w0 w1 w2 w3 c) (b (ix2 (0 : Fin 1) c)) (tcol dy c) 0 := by
  refine (sum_at c old (mulf (P u dy b w0 w1 w2 w3) (k0_pay4 u))).trans (congrArg (fun z : EReal => old (ix2 (0 : Fin 1) c) + z) (Finset.sum_congr rfl fun k _ => ?_))
  refine (congrArg₂ (· * ·) (P_at u dy b w0 w1 w2 w3 k c) (u_at u k c)).trans ?_
  rw [down_zero]

end

/-! ## Four rows stored one at a time -/

section

variable {sg : RefSig} {κ : Kind} {sp : Space} {e : EltTy} {Val : EltTy → Type} (v : View sg κ sp S8x256 e) (f : v.ty.Contents Val)

theorem hit (o : ℕ) (ho : o < 8) (inb : ∀ a : Fin 2, (![o, 0] : Fin 2 → ℕ) a + (![1, 256] : Fin 2 → ℕ) a ≤ S8x256.size a)
    (w : (Rect.unit (s := S8x256) ![o, 0] ![1, 256] inb).shape.Idx → Val e) (L : List (View.Piece Val S8x256 e)) (x : Fin 256) :
    v.read Val (v.writes Val f ((⟨Rect.unit (s := S8x256) ![o, 0] ![1, 256] inb, w⟩ : View.Piece Val S8x256 e) :: L)) (ix2 (⟨o, ho⟩ : Fin 8) x)
      = w (ix2 (0 : Fin 1) x) :=
  View.read_writes_cons_rows_of_mem v f inb w L (ix2 (⟨o, ho⟩ : Fin 8) x) (ix2 (0 : Fin 1) x) rfl rfl rfl

theorem miss (o : ℕ) (inb : ∀ a : Fin 2, (![o, 0] : Fin 2 → ℕ) a + (![1, 256] : Fin 2 → ℕ) a ≤ S8x256.size a)
    (w : (Rect.unit (s := S8x256) ![o, 0] ![1, 256] inb).shape.Idx → Val e) (L : List (View.Piece Val S8x256 e)) (k : Fin 8) (x : Fin 256) (h : k.val ≠ o) :
    v.read Val (v.writes Val f ((⟨Rect.unit (s := S8x256) ![o, 0] ![1, 256] inb, w⟩ : View.Piece Val S8x256 e) :: L)) (ix2 k x)
      = v.read Val (v.writes Val f L) (ix2 k x) :=
  View.read_writes_cons_rows_of_not_mem v f inb w L (ix2 k x) rfl rfl (by show k.val < o ∨ o + 1 ≤ k.val; omega)

/-- What the buffer holds when the first four rows are stored last. -/
theorem four_at (p0 p1 p2 p3 : S1x256.Idx → Val e) (L : List (View.Piece Val S8x256 e)) (k : Fin 8) (x : Fin 256) (g : Fin 8 → Val e)
    (h0 : p0 (ix2 (0 : Fin 1) x) = g 0) (h1 : p1 (ix2 (0 : Fin 1) x) = g 1) (h2 : p2 (ix2 (0 : Fin 1) x) = g 2) (h3 : p3 (ix2 (0 : Fin 1) x) = g 3)
    (hL : ∀ k : Fin 8, 4 ≤ k.val → v.read Val (v.writes Val f L) (ix2 k x) = g k) :
    v.read Val (v.writes Val f ((⟨Rect.unit (s := S8x256) ![3, 0] ![1, 256] inb_S8x256_S1x256_3_0, p3⟩ : View.Piece Val S8x256 e)
      :: ⟨Rect.unit (s := S8x256) ![2, 0] ![1, 256] inb_S8x256_S1x256_2_0, p2⟩ :: ⟨Rect.unit (s := S8x256) ![1, 0] ![1, 256] inb_S8x256_S1x256_1_0, p1⟩
      :: ⟨Rect.unit (s := S8x256) ![0, 0] ![1, 256] inb_S8x256_S1x256_0_0, p0⟩ :: L)) (ix2 k x) = g k := by
  by_cases e3 : k.val = 3
  · obtain rfl : k = 3 := Fin.ext e3
    exact (hit v f 3 (by decide) _ _ _ x).trans h3
  rw [miss v f 3 _ _ _ k x e3]
  by_cases e2 : k.val = 2
  · obtain rfl : k = 2 := Fin.ext e2
    exact (hit v f 2 (by decide) _ _ _ x).trans h2
  rw [miss v f 2 _ _ _ k x e2]
  by_cases e1 : k.val = 1
  · obtain rfl : k = 1 := Fin.ext e1
    exact (hit v f 1 (by decide) _ _ _ x).trans h1
  rw [miss v f 1 _ _ _ k x e1]
  by_cases e0 : k.val = 0
  · obtain rfl : k = 0 := Fin.ext e0
    exact (hit v f 0 (by decide) _ _ _ x).trans h0
  rw [miss v f 0 _ _ _ k x e0]
  exact hL k (by omega)

end

section

variable {sg : RefSig} {κ : Kind} {sp : Space} (v : View sg κ sp S8x256 .f32) (f : v.ty.Contents (Elt Ideal))

theorem whole_mem (inb : ∀ a : Fin 2, (![0, 0] : Fin 2 → ℕ) a + (![8, 256] : Fin 2 → ℕ) a ≤ S8x256.size a) (k : Fin 8) (x : Fin 256) :
    ix2 k x ∈ (Rect.unit (s := S8x256) ![0, 0] ![8, 256] inb).set := by
  rw [← Rect.map_emb_univ]
  refine Finset.mem_map.mpr ⟨ix2 k x, Finset.mem_univ _, funext fun a => Fin.ext ?_⟩
  match a with
  | ⟨0, _⟩ => show 0 + 1 * k.val = k.val; omega
  | ⟨1, _⟩ => show 0 + 1 * x.val = x.val; omega

/-- The four rows stored over a whole store, read without naming the buffer. -/
theorem canon_at (p0 p1 p2 p3 : S1x256.Idx → EReal) (z : S8x256.Idx → EReal) (k : Fin 8) (x : Fin 256) :
    View.canon ((⟨Rect.unit (s := S8x256) ![3, 0] ![1, 256] inb_S8x256_S1x256_3_0, p3⟩ : View.Piece (Elt Ideal) S8x256 .f32)
      :: ⟨Rect.unit (s := S8x256) ![2, 0] ![1, 256] inb_S8x256_S1x256_2_0, p2⟩ :: ⟨Rect.unit (s := S8x256) ![1, 0] ![1, 256] inb_S8x256_S1x256_1_0, p1⟩
      :: ⟨Rect.unit (s := S8x256) ![0, 0] ![1, 256] inb_S8x256_S1x256_0_0, p0⟩ :: [⟨Rect.unit (s := S8x256) ![0, 0] ![8, 256] inb_S8x256_S8x256_0_0, z⟩]) (ix2 k x)
      = v.read (Elt Ideal) (v.writes (Elt Ideal) f ((⟨Rect.unit (s := S8x256) ![3, 0] ![1, 256] inb_S8x256_S1x256_3_0, p3⟩ : View.Piece (Elt Ideal) S8x256 .f32)
      :: ⟨Rect.unit (s := S8x256) ![2, 0] ![1, 256] inb_S8x256_S1x256_2_0, p2⟩ :: ⟨Rect.unit (s := S8x256) ![1, 0] ![1, 256] inb_S8x256_S1x256_1_0, p1⟩
      :: ⟨Rect.unit (s := S8x256) ![0, 0] ![1, 256] inb_S8x256_S1x256_0_0, p0⟩ :: [⟨Rect.unit (s := S8x256) ![0, 0] ![8, 256] inb_S8x256_S8x256_0_0, z⟩])) (ix2 k x) :=
  (View.read_writes_apply_eq_canon v f (ix2 k x) _ ⟨⟨Rect.unit (s := S8x256) ![0, 0] ![8, 256] inb_S8x256_S8x256_0_0, z⟩,
    List.mem_cons_of_mem _ (List.mem_cons_of_mem _ (List.mem_cons_of_mem _ (List.mem_cons_of_mem _ List.mem_cons_self))), whole_mem inb_S8x256_S8x256_0_0 k x⟩).symm

theorem zeros_at (k : Fin 8) (x : Fin 256) :
    v.read (Elt Ideal) (v.writes (Elt Ideal) f [(⟨Rect.unit (s := S8x256) ![0, 0] ![8, 256] inb_S8x256_S8x256_0_0, k0_pay2 (F := Ideal)⟩ : View.Piece (Elt Ideal) S8x256 .f32)]) (ix2 k x)
      = (0 : EReal) :=
  (View.read_writes_cons_rows_of_mem (o := 0) v f _ _ [] (ix2 k x) (ix2 k x) rfl (Nat.zero_add _).symm rfl).trans zero_f32

theorem cov_at (o : ℕ) (ho : o < 8) (inb : ∀ a : Fin 2, (![o, 0] : Fin 2 → ℕ) a + (![1, 256] : Fin 2 → ℕ) a ≤ S8x256.size a)
    (L : List (View.Piece (Elt Ideal) S8x256 .f32)) (x : Fin 256) :
    v.readCov L (Rect.unit (s := S8x256) ![o, 0] ![1, 256] inb).toLoadRect (ix2 (0 : Fin 1) x)
      = v.read (Elt Ideal) (v.writes (Elt Ideal) v.junk L) (ix2 (⟨o, ho⟩ : Fin 8) x) := by
  refine congrArg (v.read (Elt Ideal) (v.writes (Elt Ideal) v.junk L)) (funext fun a => Fin.ext ?_)
  match a with
  | ⟨0, _⟩ => rfl
  | ⟨1, _⟩ => show 0 + 1 * x.val = x.val; omega

end

end Cert.Kernel28Ideal.Hand
-- ==== Proof.Conv.Kernel.lean ====
module

public import proofs.«01_k».proof.Proof.Conv.Tile
public import Idealize.ShloMosaic.Lib.Pipeline.Value
public import Idealize.ShloMosaic.Lib.Pipeline.ValueKit.Acc
public import Idealize.ShloMosaic.Lib.Pipeline.ValueKit.Geometry

/- The gradient of the causal convolution: what its kernel leaves. -/

@[expose] public section

set_option maxRecDepth 16384

noncomputable section

namespace Cert.Kernel28Ideal.Hand

open Idealize.ShloMosaic hiding ix1 ix2 ix3 ix4 eq_ix1 eq_ix2 eq_ix3 eq_ix4
open Cert.Kernel28Ideal Cert.Kernel28Ideal.Gen Cert.Norm Cert.Conv
open Idealize.ShloMosaic.TcCoe Idealize.ShloMosaic.ValueIdx
open scoped BigOperators

variable (m : (ℓ : Loc nD τ sig) → Buf (Elt Ideal) ℓ) (c : Dev nD)

/-- The argument arrays: the convolution's input, the taps, the bias, and the result's gradient. -/
abbrev A0 : (⟨3, ![2, 2048, 3840]⟩ : Shape).Idx → EReal := m ((c.tc : Thread nD τ).loc main_arg0)
abbrev A1 : (⟨2, ![8, 1536]⟩ : Shape).Idx → EReal := m ((c.tc : Thread nD τ).loc main_arg1)
abbrev A2 : (⟨2, ![1, 1536]⟩ : Shape).Idx → EReal := m ((c.tc : Thread nD τ).loc main_arg2)
abbrev A3 : (⟨3, ![2, 2048, 1536]⟩ : Shape).Idx → EReal := m ((c.tc : Thread nD τ).loc main_arg3)

theorem idx_0 : ∀ t : Fin cfg0.N, win0_0.index t = ![t.val % 2, 0, 4 + t.val / 2] := (by decide +kernel : ∀ t : Fin grid0.N, _)
theorem idx_1 : ∀ t : Fin cfg0.N, win0_1.index t = ![0, t.val / 2] := (by decide +kernel : ∀ t : Fin grid0.N, _)
theorem idx_2 : ∀ t : Fin cfg0.N, win0_2.index t = ![0, t.val / 2] := (by decide +kernel : ∀ t : Fin grid0.N, _)
theorem idx_3 : ∀ t : Fin cfg0.N, win0_3.index t = ![t.val % 2, 0, t.val / 2] := (by decide +kernel : ∀ t : Fin grid0.N, _)
theorem idx_4 : ∀ t : Fin cfg0.N, win0_4.index t = ![t.val % 2, 0, t.val / 2] := (by decide +kernel : ∀ t : Fin grid0.N, _)
theorem idx_5 : ∀ t : Fin cfg0.N, win0_5.index t = ![0, t.val / 2] := (by decide +kernel : ∀ t : Fin grid0.N, _)
theorem idx_6 : ∀ t : Fin cfg0.N, win0_6.index t = ![0, t.val / 2] := (by decide +kernel : ∀ t : Fin grid0.N, _)

/-- The batch a grid point works on, and a column of its tile, among all. -/
def bat (t : Fin cfg0.N) : Fin 2 := ⟨t.val % 2, by omega⟩
def col (t : Fin cfg0.N) (x : Fin 256) : Fin 1536 := ⟨t.val / 2 * 256 + x.val, by have : t.val < 12 := t.isLt; omega⟩

/-! ## The tile's arrays -/

theorem blk_0 (t : Fin cfg0.N) (x : Fin 256) : tcol (iblk m c 0 t) x = ucol (A0 m c) (bat t) (col t x) := by
  funext i
  show iblk m c 0 t (ix3 (0 : Fin 1) i x) = A0 m c (ix3 (bat t) i (⟨1024 + (t.val / 2 * 256 + x.val), _⟩ : Fin 3840))
  blk_simp [iblk]
  refine congrArg (A0 m c) (funext fun a => Fin.ext ?_)
  match a with
  | ⟨0, _⟩ => blk_simp [idx_0]; rfl
  | ⟨1, _⟩ => blk_simp [idx_0]
  | ⟨2, _⟩ =>
    blk_simp [idx_0]
    show (4 + t.val / 2) * 256 + x.val = 1024 + (t.val / 2 * 256 + x.val)
    omega

theorem blk_1 (t : Fin cfg0.N) (k : Fin 8) (x : Fin 256) : iblk m c 1 t (ix2 k x) = A1 m c (ix2 k (col t x)) := by
  blk_simp [iblk]
  refine congrArg (A1 m c) (funext fun a => Fin.ext ?_)
  match a with
  | ⟨0, _⟩ => blk_simp [idx_1]
  | ⟨1, _⟩ => blk_simp [idx_1]; rfl

theorem blk_2 (t : Fin cfg0.N) (x : Fin 256) : iblk m c 2 t (ix2 (0 : Fin 1) x) = A2 m c (ix2 (0 : Fin 1) (col t x)) := by
  blk_simp [iblk]
  refine congrArg (A2 m c) (funext fun a => Fin.ext ?_)
  match a with
  | ⟨0, _⟩ => blk_simp [idx_2]
  | ⟨1, _⟩ => blk_simp [idx_2]; rfl

theorem blk_3 (t : Fin cfg0.N) (x : Fin 256) : tcol (iblk m c 3 t) x = dcol (A3 m c) (bat t) (col t x) := by
  funext i
  show iblk m c 3 t (ix3 (0 : Fin 1) i x) = A3 m c (ix3 (bat t) i (col t x))
  blk_simp [iblk]
  refine congrArg (A3 m c) (funext fun a => Fin.ext ?_)
  match a with
  | ⟨0, _⟩ => blk_simp [idx_3]; rfl
  | ⟨1, _⟩ => blk_simp [idx_3]
  | ⟨2, _⟩ => blk_simp [idx_3]; rfl

/-- A row of an array of eight, as it is loaded. -/
theorem ld_row (w : FVec Ideal S8x256 .f32) (o : ℕ) (ho : o < 8) (inb : ∀ a : Fin 2, (![o, 0] : Fin 2 → ℕ) a + (![1, 256] : Fin 2 → ℕ) a ≤ S8x256.size a)
    (x : Fin 256) : View.ld (Val := Elt Ideal) (e' := .f32) w (Rect.unit (s := S8x256) ![o, 0] ![1, 256] inb) (ix2 (0 : Fin 1) x) = w (ix2 (⟨o, ho⟩ : Fin 8) x) := by
  refine congrArg w (funext fun a => Fin.ext ?_)
  match a with
  | ⟨0, _⟩ => rfl
  | ⟨1, _⟩ => show 0 + 1 * x.val = x.val; omega

theorem taps_at (w : FVec Ideal S8x256 .f32) (W : (⟨2, ![8, 1536]⟩ : Shape).Idx → EReal) (j : Fin 1536) (x : Fin 256) (h : ∀ k : Fin 8, w (ix2 k x) = W (ix2 k j)) :
    taps (View.ld (Val := Elt Ideal) (e' := .f32) w (Rect.unit (s := S8x256) ![0, 0] ![1, 256] inb_S8x256_S1x256_0_0)) (View.ld (Val := Elt Ideal) (e' := .f32) w (Rect.unit (s := S8x256) ![1, 0] ![1, 256] inb_S8x256_S1x256_1_0))
      (View.ld (Val := Elt Ideal) (e' := .f32) w (Rect.unit (s := S8x256) ![2, 0] ![1, 256] inb_S8x256_S1x256_2_0)) (View.ld (Val := Elt Ideal) (e' := .f32) w (Rect.unit (s := S8x256) ![3, 0] ![1, 256] inb_S8x256_S1x256_3_0)) x
      = wcol W j := by
  funext k
  match k with
  | ⟨0, _⟩ => exact (ld_row w 0 (by decide) _ x).trans (h 0)
  | ⟨1, _⟩ => exact (ld_row w 1 (by decide) _ x).trans (h 1)
  | ⟨2, _⟩ => exact (ld_row w 2 (by decide) _ x).trans (h 2)
  | ⟨3, _⟩ => exact (ld_row w 3 (by decide) _ x).trans (h 3)

/-! ## What one grid point computes -/

/-- What one grid point adds to the taps' gradient and to the bias's. -/
def wpart (t : Fin cfg0.N) (k : Fin 8) (x : Fin 256) : EReal :=
  tap (ucol (A0 m c) (bat t) (col t x)) (wcol (A1 m c) (col t x)) (A2 m c (ix2 (0 : Fin 1) (col t x))) (dcol (A3 m c) (bat t) (col t x)) k
def bpart (t : Fin cfg0.N) (x : Fin 256) : EReal :=
  gb (ucol (A0 m c) (bat t) (col t x)) (wcol (A1 m c) (col t x)) (A2 m c (ix2 (0 : Fin 1) (col t x))) (dcol (A3 m c) (bat t) (col t x))

theorem outs_at (t : Fin cfg0.N) (i : Fin 2048) (x : Fin 256) :
    (outsAt0 m c t.val t.isLt).1 (ix3 (0 : Fin 1) i x) = DU (A0 m c) (A1 m c) (A2 m c) (A3 m c) (ix3 (bat t) i (col t x)) := by
  by_cases h0 : t.val % 2 = 0
  · rw [outsAt0_A m c t h0]
    dsimp only
    frame_out
    refine (u_pay (iblk m c 0 t) (iblk m c 3 t) (iblk m c 2 t) _ _ _ _ i x).trans ?_
    rw [blk_0, blk_3, blk_2, taps_at _ (A1 m c) (col t x) x (fun k => blk_1 m c t k x)]
    rfl
  · rw [outsAt0_B m c t h0]
    dsimp only
    frame_out
    refine (u_pay (iblk m c 0 t) (iblk m c 3 t) (iblk m c 2 t) _ _ _ _ i x).trans ?_
    rw [blk_0, blk_3, blk_2, taps_at _ (A1 m c) (col t x) x (fun k => blk_1 m c t k x)]
    rfl

theorem first_b (t : Fin cfg0.N) (h0 : t.val % 2 = 0) (x : Fin 256) : (outsAt0 m c t.val t.isLt).2.2 (ix2 (0 : Fin 1) x) = bpart m c t x := by
  rw [outsAt0_A m c t h0]
  dsimp only
  frame_out
  refine (b_pay (iblk m c 0 t) (iblk m c 3 t) (iblk m c 2 t) _ _ _ _ x _).trans ?_
  rw [blk_0, blk_3, blk_2, taps_at _ (A1 m c) (col t x) x (fun k => blk_1 m c t k x)]
  exact (congrArg (· + _) Cert.Ffn.zero_f32).trans (zero_add _)

theorem next_b (t : Fin cfg0.N) (h0 : ¬t.val % 2 = 0) (x : Fin 256) :
    (outsAt0 m c t.val t.isLt).2.2 (ix2 (0 : Fin 1) x) = (outsAt0 m c (t.val - 1) (by omega)).2.2 (ix2 (0 : Fin 1) x) + bpart m c t x := by
  rw [outsAt0_B m c t h0]
  dsimp only
  frame_out
  refine (b_pay (iblk m c 0 t) (iblk m c 3 t) (iblk m c 2 t) _ _ _ _ x _).trans ?_
  rw [blk_0, blk_3, blk_2, taps_at _ (A1 m c) (col t x) x (fun k => blk_1 m c t k x)]
  rfl

theorem first_w (t : Fin cfg0.N) (h0 : t.val % 2 = 0) (k : Fin 8) (x : Fin 256) : (outsAt0 m c t.val t.isLt).2.1 (ix2 k x) = wpart m c t k x := by
  rw [outsAt0_A m c t h0]
  dsimp only
  frame_out
  refine (canon_at (ms0_5 t).view (ms0_5 t).view.junk _ _ _ _ _ k x).trans ?_
  refine four_at (Val := Elt Ideal) (e := .f32) (ms0_5 t).view _ _ _ _ _ _ k x (fun k => wpart m c t k x) ?_ ?_ ?_ ?_ ?_
  · refine (row0_pay (iblk m c 0 t) (iblk m c 3 t) (iblk m c 2 t) _ _ _ _ x _).trans ?_
    rw [blk_0, blk_3, blk_2, taps_at _ (A1 m c) (col t x) x (fun k => blk_1 m c t k x), cov_at _ 0 (by decide), zeros_at, zero_add]
    rfl
  · refine (row1_pay (iblk m c 0 t) (iblk m c 3 t) (iblk m c 2 t) _ _ _ _ x _).trans ?_
    rw [blk_0, blk_3, blk_2, taps_at _ (A1 m c) (col t x) x (fun k => blk_1 m c t k x), cov_at _ 1 (by decide), miss _ _ 0 _ _ _ _ _ (by decide), zeros_at, zero_add]
    rfl
  · refine (row2_pay (iblk m c 0 t) (iblk m c 3 t) (iblk m c 2 t) _ _ _ _ x _).trans ?_
    rw [blk_0, blk_3, blk_2, taps_at _ (A1 m c) (col t x) x (fun k => blk_1 m c t k x), cov_at _ 2 (by decide), miss _ _ 1 _ _ _ _ _ (by decide),
      miss _ _ 0 _ _ _ _ _ (by decide), zeros_at, zero_add]
    rfl
  · refine (row3_pay (iblk m c 0 t) (iblk m c 3 t) (iblk m c 2 t) _ _ _ _ x _).trans ?_
    rw [blk_0, blk_3, blk_2, taps_at _ (A1 m c) (col t x) x (fun k => blk_1 m c t k x), cov_at _ 3 (by decide), miss _ _ 2 _ _ _ _ _ (by decide),
      miss _ _ 1 _ _ _ _ _ (by decide), miss _ _ 0 _ _ _ _ _ (by decide), zeros_at, zero_add]
    rfl
  · intro k hk
    exact (zeros_at _ _ k x).trans (if_neg (by omega)).symm

theorem next_w (t : Fin cfg0.N) (h0 : ¬t.val % 2 = 0) (k : Fin 8) (x : Fin 256) :
    (outsAt0 m c t.val t.isLt).2.1 (ix2 k x) = (outsAt0 m c (t.val - 1) (by omega)).2.1 (ix2 k x) + wpart m c t k x := by
  rw [outsAt0_B m c t h0]
  dsimp only
  frame_out
  refine four_at (Val := Elt Ideal) (e := .f32) _ _ _ _ _ _ _ k x (fun k => (outsAt0 m c (t.val - 1) (by omega)).2.1 (ix2 k x) + wpart m c t k x) ?_ ?_ ?_ ?_ ?_
  · refine (row0_pay (iblk m c 0 t) (iblk m c 3 t) (iblk m c 2 t) _ _ _ _ x _).trans ?_
    rw [blk_0, blk_3, blk_2, taps_at _ (A1 m c) (col t x) x (fun k => blk_1 m c t k x), ld_row _ 0 (by decide)]
    rfl
  · refine (row1_pay (iblk m c 0 t) (iblk m c 3 t) (iblk m c 2 t) _ _ _ _ x _).trans ?_
    rw [blk_0, blk_3, blk_2, taps_at _ (A1 m c) (col t x) x (fun k => blk_1 m c t k x), ld_row _ 1 (by decide)]
    rfl
  · refine (row2_pay (iblk m c 0 t) (iblk m c 3 t) (iblk m c 2 t) _ _ _ _ x _).trans ?_
    rw [blk_0, blk_3, blk_2, taps_at _ (A1 m c) (col t x) x (fun k => blk_1 m c t k x), ld_row _ 2 (by decide)]
    rfl
  · refine (row3_pay (iblk m c 0 t) (iblk m c 3 t) (iblk m c 2 t) _ _ _ _ x _).trans ?_
    rw [blk_0, blk_3, blk_2, taps_at _ (A1 m c) (col t x) x (fun k => blk_1 m c t k x), ld_row _ 3 (by decide)]
    rfl
  · intro k hk
    have hz : wpart m c t k x = 0 := if_neg (by omega)
    rw [hz, add_zero, View.writes_nil, Memref.IsWhole.read_unread]

/-! ## The three outputs -/

/-- The points of one block of columns. -/
def pt (j : Fin 6) (s : Fin 2) : Fin cfg0.N := ⟨j.val * 2 + s.val, by show j.val * 2 + s.val < 12; omega⟩

theorem pt_of (t : Fin cfg0.N) (ht : t.val % 2 = 1) : ∃ j : Fin 6, t = pt j 1 :=
  ⟨⟨t.val / 2, by have : t.val < 12 := t.isLt; omega⟩, Fin.ext (by show t.val = t.val / 2 * 2 + 1; omega)⟩

theorem bat_pt (j : Fin 6) (s : Fin 2) : bat (pt j s) = s := Fin.ext (by show (j.val * 2 + s.val) % 2 = s.val; omega)

theorem col_pt (j : Fin 6) (s s' : Fin 2) (x : Fin 256) : col (pt j s) x = col (pt j s') x :=
  Fin.ext (by show (j.val * 2 + s.val) / 2 * 256 + x.val = (j.val * 2 + s'.val) / 2 * 256 + x.val; omega)

theorem w_at (j : Fin 6) (k : Fin 8) (x : Fin 256) : (outsAt0 m c (pt j 1).val (pt j 1).isLt).2.1 (ix2 k x) = ∑ s : Fin 2, wpart m c (pt j s) k x := by
  rw [Fin.sum_univ_two]
  refine (next_w m c (pt j 1) (by show ¬(j.val * 2 + 1) % 2 = 0; omega) k x).trans (congrArg (· + wpart m c (pt j 1) k x) ?_)
  exact first_w m c (pt j 0) (by show (j.val * 2 + 0) % 2 = 0; omega) k x

theorem b_at (j : Fin 6) (x : Fin 256) : (outsAt0 m c (pt j 1).val (pt j 1).isLt).2.2 (ix2 (0 : Fin 1) x) = ∑ s : Fin 2, bpart m c (pt j s) x := by
  rw [Fin.sum_univ_two]
  refine (next_b m c (pt j 1) (by show ¬(j.val * 2 + 1) % 2 = 0; omega) x).trans (congrArg (· + bpart m c (pt j 1) x) ?_)
  exact first_b m c (pt j 0) (by show (j.val * 2 + 0) % 2 = 0; omega) x

theorem final_u : (dats m 0 c).arrAt 4 cfg0.N = DU (A0 m c) (A1 m c) (A2 m c) (A3 m c) := by
  refine (dats m 0 c).arrAt_eq_of_covers 4 _ (by decide +kernel) fun t hf y => ?_
  blk_simp
  rw [after0_4]
  obtain ⟨i, x, rfl⟩ : ∃ (i : Fin 2048) (x : Fin 256), y = ix3 (0 : Fin 1) i x :=
    ⟨y 1, y 2, (eq_ix3 y).trans (congrArg (fun z => ix3 z (y 1) (y 2)) (Subsingleton.elim (α := Fin 1) _ _))⟩
  have e : ((cfg0.win 4).blk t).view.emb (ix3 (0 : Fin 1) i x) = ix3 (bat t) i (col t x) := funext fun a => Fin.ext <| by
    match a with
    | ⟨0, _⟩ => blk_simp [idx_4]; rfl
    | ⟨1, _⟩ => blk_simp [idx_4]
    | ⟨2, _⟩ => blk_simp [idx_4]; rfl
  rw [e]
  exact outs_at m c t i x

theorem final_w : (dats m 0 c).arrAt 5 cfg0.N = DW (A0 m c) (A1 m c) (A2 m c) (A3 m c) := by
  refine (dats m 0 c).arrAt_eq_of_covers 5 _ (by decide +kernel) fun t hf y => ?_
  blk_simp
  rw [after0_5]
  obtain ⟨k, x, rfl⟩ : ∃ (k : Fin 8) (x : Fin 256), y = ix2 k x := ⟨y 0, y 1, eq_ix2 y⟩
  have e : ((cfg0.win 5).blk t).view.emb (ix2 k x) = ix2 k (col t x) := funext fun a => Fin.ext <| by
    match a with
    | ⟨0, _⟩ => blk_simp [idx_5]
    | ⟨1, _⟩ => blk_simp [idx_5]; rfl
  rw [e]
  obtain ⟨j, rfl⟩ := pt_of t ((flush0_5 t).mp hf)
  refine (w_at m c j k x).trans (Finset.sum_congr rfl fun s _ => ?_)
  rw [wpart, bat_pt, col_pt j s 1]

theorem final_b : (dats m 0 c).arrAt 6 cfg0.N = DB (A0 m c) (A1 m c) (A2 m c) (A3 m c) := by
  refine (dats m 0 c).arrAt_eq_of_covers 6 _ (by decide +kernel) fun t hf y => ?_
  blk_simp
  rw [after0_6]
  obtain ⟨x, rfl⟩ : ∃ x : Fin 256, y = ix2 (0 : Fin 1) x :=
    ⟨y 1, (eq_ix2 y).trans (congrArg (fun z => ix2 z (y 1)) (Subsingleton.elim (α := Fin 1) _ _))⟩
  have e : ((cfg0.win 6).blk t).view.emb (ix2 (0 : Fin 1) x) = ix2 (0 : Fin 1) (col t x) := funext fun a => Fin.ext <| by
    match a with
    | ⟨0, _⟩ => blk_simp [idx_6]
    | ⟨1, _⟩ => blk_simp [idx_6]; rfl
  rw [e]
  obtain ⟨j, rfl⟩ := pt_of t ((flush0_6 t).mp hf)
  refine (b_at m c j x).trans (Finset.sum_congr rfl fun s _ => ?_)
  rw [bpart, bat_pt, col_pt j s 1]

end Cert.Kernel28Ideal.Hand
-- ==== Proof.Conv.Ref.lean ====
module

public import proofs.«01_k».proof.Proof.Conv.Spec
public import proofs.«01_k».proof.Proof.Norm.Groups
public import proofs.«01_k».proof.Proof.Ffn.DownDx
public import proofs.«01_k».proof.Proof.Gen.Reference28Ideal.Read
public import Idealize.ShloMosaic.Lib.KernelVsHost
public import Idealize.ShloMosaic.Lib.Pipeline.Value

/- The gradient of the causal convolution as its reference has it, read at an index. -/

@[expose] public section

set_option maxRecDepth 16384

noncomputable section

namespace Cert.Reference28Ideal.Hand

open Idealize.ShloMosaic hiding ix1 ix2 ix3 ix4 eq_ix1 eq_ix2 eq_ix3 eq_ix4
open Cert.Reference28Ideal Cert.Reference28Ideal.Gen Cert.Reference28Ideal.Read Idealize.ShloMosaic.ValueIdx Cert.Norm Cert.Conv
open Cert.Ffn (sigm dsilu one_f32 zero_f32 two_terms)
open scoped BigOperators

/-! ## The operations, read at an index -/

section

variable (s : Fin 2) (i : Fin 2048) (j : Fin 1536)

/-- A row of the taps, laid over the whole array. -/
theorem row_at (n : ℕ) (hn : n < 4) (x1 : (⟨S8x1536, .f32⟩ : BufTy).Contents (Elt Ideal)) (h : S4x1536.Slices ![n, 0] S1x1536) :
    broadcastInDim S2x2048x1536 ![0, 1, 2] bcast_S1x1x1536_S2x2048x1536_0_1_2 (broadcastInDim S1x1x1536 ![2] bcast_S1536_S1x1x1536_2
      (shapeCast S1536 (extractStridedSlice S1x1536 ![n, 0] (val_main_v1 (F := Ideal) x1) h) shapeCasts_S1x1536_S1536)) (ix3 s i j)
      = wcol x1 j ⟨n, hn⟩ := by
  refine (broadcastInDim_apply _ _ _ (ix3 s i j) (ix3 (0 : Fin 1) (0 : Fin 1) j) (fun a => match a with
    | ⟨0, _⟩ => rfl
    | ⟨1, _⟩ => rfl
    | ⟨2, _⟩ => by show j.val = if (1536 : ℕ) = 1 then 0 else j.val; rw [if_neg (by decide)])).trans ?_
  refine (broadcastInDim_apply _ _ _ _ (ix1 j) (fun a => match a with
    | ⟨0, _⟩ => by show j.val = if (1536 : ℕ) = 1 then 0 else j.val; rw [if_neg (by decide)])).trans ?_
  refine (shapeCast_apply _ _ _ (ix2 (0 : Fin 1) j) (by
    rw [Shape.rowMajor_val_two, Shape.rowMajor_val_one]; show 0 * 1536 + j.val = j.val; omega)).trans ?_
  refine (extractStridedSlice_apply _ _ _ _ (ix2 (⟨n, hn⟩ : Fin 4) j) (fun a => match a with
    | ⟨0, _⟩ => rfl
    | ⟨1, _⟩ => by show j.val = 0 + j.val; omega)).trans ?_
  rw [val_main_v1_apply]
  exact congrArg x1 (eq_ix2 _)

/-- An array with zeros around its rows, read three rows on. -/
theorem pad_at (n : ℕ) (hn : n ≤ 3) (hi : Fin 3 → ℕ) (y : FVec Ideal S2x2048x1536 .f32) (h : S2x2048x1536.Pads ![0, n, 0] hi ![0, 0, 0] S2x2051x1536) :
    pad S2x2051x1536 ![0, n, 0] hi ![0, 0, 0] y (constant (F := Ideal) S_ .f32 0x00000000#32) h h_S_ (ix3 s (⟨3 + i.val, by omega⟩ : Fin 2051) j)
      = up (fun k => y (ix3 s k j)) (3 - n) i := by
  rw [up]
  by_cases hk : i.val + (3 - n) < 2048
  · rw [dif_pos hk]
    exact pad_apply_of_inside _ _ _ y _ h h_S_ _ (ix3 s (⟨i.val + (3 - n), hk⟩ : Fin 2048) j) (fun a => match a with
      | ⟨0, _⟩ => by show s.val = 0 + s.val * (0 + 1); omega
      | ⟨1, _⟩ => by show 3 + i.val = n + (i.val + (3 - n)) * (0 + 1); omega
      | ⟨2, _⟩ => by show j.val = 0 + j.val * (0 + 1); omega)
  · rw [dif_neg hk]
    refine (pad_apply_of_not_inside _ _ _ y _ h h_S_ _ (1 : Fin 3) ?_).trans zero_f32
    show ¬(n ≤ 3 + i.val ∧ (3 + i.val - n) % (0 + 1) = 0 ∧ (3 + i.val - n) / (0 + 1) < 2048)
    omega

/-- One row with zeros above and below. -/
theorem rowpad_at (n : ℕ) (hi : Fin 2 → ℕ) (y : FVec Ideal S1x1536 .f32) (h : S1x1536.Pads ![n, 0] hi ![0, 0] S4x1536) (k : Fin 4) :
    pad S4x1536 ![n, 0] hi ![0, 0] y (constant (F := Ideal) S_ .f32 0x00000000#32) h h_S_ (ix2 k j) = if k.val = n then y (ix2 (0 : Fin 1) j) else 0 := by
  by_cases hk : k.val = n
  · rw [if_pos hk]
    exact pad_apply_of_inside _ _ _ y _ h h_S_ _ (ix2 (0 : Fin 1) j) (fun a => match a with
      | ⟨0, _⟩ => by show k.val = n + 0 * (0 + 1); omega
      | ⟨1, _⟩ => by show j.val = 0 + j.val * (0 + 1); omega)
  · rw [if_neg hk]
    refine (pad_apply_of_not_inside _ _ _ y _ h h_S_ _ (0 : Fin 2) ?_).trans zero_f32
    show ¬(n ≤ k.val ∧ (k.val - n) % (0 + 1) = 0 ∧ (k.val - n) / (0 + 1) < 1)
    omega

/-- A column's sum over both batches, summed again over the single entry left. -/
theorem twice_at (y : FVec Ideal S2x2048x1536 .f32) :
    Host.reduceAdd (shapeCast S1x1x1536 (Host.reduceAdd y (constant (F := Ideal) S_ .f32 0x00000000#32) reducesTo_S2x2048x1536_S1536_d0_1 h_S_) shapeCasts_S1536_S1x1x1536)
      (constant (F := Ideal) S_ .f32 0x00000000#32) reducesTo_S1x1x1536_S1536_d0_1 h_S_ (ix1 j) = ∑ s : Fin 2, ∑ i : Fin 2048, y (ix3 s i j) := by
  refine (firstTwo_at reducesTo_S1x1x1536_S1536_d0_1 h_S_ _ j).trans ?_
  rw [Fin.sum_univ_one, Fin.sum_univ_one]
  refine (shapeCast_apply _ _ _ (ix1 j) (by
    rw [Shape.rowMajor_val_one, Shape.rowMajor_val_three]; show j.val = (0 * 1 + 0) * 1536 + j.val; omega)).trans ?_
  exact firstTwo_at reducesTo_S2x2048x1536_S1536_d0_1 h_S_ y j

/-- A row of the taps' gradient, among four. -/
theorem wrow_at (n : ℕ) (hi : Fin 2 → ℕ) (y : FVec Ideal S2x2048x1536 .f32) (h : S1x1536.Pads ![n, 0] hi ![0, 0] S4x1536) (k : Fin 4) :
    pad S4x1536 ![n, 0] hi ![0, 0] (broadcastInDim S1x1536 ![1] bcast_S1536_S1x1536_1
      (Host.reduceAdd (shapeCast S1x1x1536 (Host.reduceAdd y (constant (F := Ideal) S_ .f32 0x00000000#32) reducesTo_S2x2048x1536_S1536_d0_1 h_S_) shapeCasts_S1536_S1x1x1536)
        (constant (F := Ideal) S_ .f32 0x00000000#32) reducesTo_S1x1x1536_S1536_d0_1 h_S_)) (constant (F := Ideal) S_ .f32 0x00000000#32) h h_S_ (ix2 k j)
      = if k.val = n then ∑ s : Fin 2, ∑ i : Fin 2048, y (ix3 s i j) else 0 := by
  refine (rowpad_at j n hi _ h k).trans (congrArg (fun z : EReal => if k.val = n then z else 0) ?_)
  refine (broadcastInDim_apply _ _ _ (ix2 (0 : Fin 1) j) (ix1 j) (fun a => match a with
    | ⟨0, _⟩ => by show j.val = if (1536 : ℕ) = 1 then 0 else j.val; rw [if_neg (by decide)])).trans ?_
  exact twice_at j y

end

/-! ## The reference -/

variable (x0 : (⟨S2x2048x3840, .f32⟩ : BufTy).Contents (Elt Ideal)) (x1 : (⟨S8x1536, .f32⟩ : BufTy).Contents (Elt Ideal))
  (x2 : (⟨S1x1536, .f32⟩ : BufTy).Contents (Elt Ideal)) (x3 : (⟨S2x2048x1536, .f32⟩ : BufTy).Contents (Elt Ideal))
variable (s : Fin 2) (i : Fin 2048) (j : Fin 1536)

theorem v0_at : val_main_v0 (F := Ideal) x0 (ix3 s i j) = ucol x0 s j i := by
  rw [val_main_v0_apply]
  exact congrArg x0 (eq_ix3 _)

/-- The columns with three zeros in front, read from some row on. -/
theorem front_at (d n : ℕ) (hd : n + d = 3) (h : S2x2051x1536.Slices ![0, n, 0] S2x2048x1536) :
    extractStridedSlice S2x2048x1536 ![0, n, 0] (val_main_v5 (F := Ideal) x0) h (ix3 s i j) = down (ucol x0 s j) d i := by
  refine (extractStridedSlice_apply _ _ _ _ (ix3 s (⟨n + i.val, by omega⟩ : Fin 2051) j) (fun a => match a with
    | ⟨0, _⟩ => by show s.val = 0 + s.val; omega
    | ⟨1, _⟩ => rfl
    | ⟨2, _⟩ => by show j.val = 0 + j.val; omega)).trans ?_
  rw [down, val_main_v5]
  by_cases hk : d ≤ i.val
  · rw [if_pos hk, ← v0_at]
    exact concatenate_pair_apply_right (t := S2x2051x1536) 1 (val_main_v4 (F := Ideal)) (val_main_v0 (F := Ideal) x0) _ _ rfl rfl
      (ix3 s (⟨i.val - d, by omega⟩ : Fin 2048) j) (fun b hb => match b, hb with
        | ⟨0, _⟩, _ => rfl
        | ⟨1, _⟩, hb => absurd rfl hb
        | ⟨2, _⟩, _ => rfl) (by show i.val - d + 3 = n + i.val; omega)
  · rw [if_neg hk]
    refine (concatenate_pair_apply_left (t := S2x2051x1536) 1 (val_main_v4 (F := Ideal)) (val_main_v0 (F := Ideal) x0) _ _ rfl
      (ix3 s (⟨n + i.val, by omega⟩ : Fin 3) j) (fun b => match b with
        | ⟨0, _⟩ => rfl
        | ⟨1, _⟩ => rfl
        | ⟨2, _⟩ => rfl)).trans ?_
    rw [val_main_v4_apply]
    exact zero_f32

theorem bias_at : val_main_v37 (F := Ideal) x2 (ix3 s i j) = x2 (ix2 (0 : Fin 1) j) := by
  rw [val_main_v37_apply, val_main_v36_apply, val_main_v2_apply]
  refine congrArg x2 (funext fun a => Fin.ext ?_)
  match a with
  | ⟨0, _⟩ => rfl
  | ⟨1, _⟩ => show j.val % 1536 = j.val; omega

theorem pre_at : val_main_v38 (F := Ideal) x0 x1 x2 (ix3 s i j) = pre (ucol x0 s j) (wcol x1 j) (x2 (ix2 (0 : Fin 1) j)) i := by
  refine (congrArg₂ (· + ·) (congrArg₂ (· + ·) (congrArg₂ (· + ·) (congrArg₂ (· + ·) (congrArg₂ (· + ·) ((val_main_v13_apply (F := Ideal) _).trans zero_f32)
      (congrArg₂ (· * ·) (front_at x0 s i j 3 0 rfl _) (row_at s i j 0 (by decide) x1 _)))
      (congrArg₂ (· * ·) (front_at x0 s i j 2 1 rfl _) (row_at s i j 1 (by decide) x1 _)))
      (congrArg₂ (· * ·) (front_at x0 s i j 1 2 rfl _) (row_at s i j 2 (by decide) x1 _)))
      (congrArg₂ (· * ·) (front_at x0 s i j 0 3 rfl _) (row_at s i j 3 (by decide) x1 _)))
      (bias_at x2 s i j)).trans ?_
  rw [down_zero, zero_add, pre, mul_comm (wcol x1 j 0), mul_comm (wcol x1 j 1), mul_comm (wcol x1 j 2), mul_comm (wcol x1 j 3)]
  show down (ucol x0 s j) 3 i * wcol x1 j 0 + down (ucol x0 s j) 2 i * wcol x1 j 1 + down (ucol x0 s j) 1 i * wcol x1 j 2 + ucol x0 s j i * wcol x1 j 3
    + x2 (ix2 (0 : Fin 1) j) = _
  ac_rfl

theorem sigm_at (y : S2x2048x1536.Idx) : val_main_v39_2 (F := Ideal) x0 x1 x2 y = sigm (val_main_v38 (F := Ideal) x0 x1 x2 y) := by
  show Ideal.div (val_main_call0_v4 (F := Ideal) y) (val_main_call0_v2 (F := Ideal) y + Ideal.exp (-(val_main_v38 (F := Ideal) x0 x1 x2 y))) = _
  rw [val_main_call0_v4_apply, val_main_call0_v2_apply, val_main_call0_cst_apply, val_main_call0_cst_0_apply]
  show Ideal.div (Ideal.ofBits .f32 0x3F800000#32) (Ideal.ofBits .f32 0x3F800000#32 + Ideal.exp (-(val_main_v38 (F := Ideal) x0 x1 x2 y))) = _
  rw [one_f32]
  rfl

/-- The gradient of the convolution, column by column. -/
abbrev G (s : Fin 2) (j : Fin 1536) : Fin 2048 → EReal := dpre (ucol x0 s j) (wcol x1 j) (x2 (ix2 (0 : Fin 1) j)) (dcol x3 s j)

variable (h3 : ∀ y, ∃ r : ℝ, x3 y = r)

include h3

theorem G_at : val_main_v40 (F := Ideal) x0 x1 x2 x3 (ix3 s i j) = G x0 x1 x2 x3 s j i := by
  show x3 (ix3 s i j) * val_main_v39_2 (F := Ideal) x0 x1 x2 (ix3 s i j)
    + val_main_v38 (F := Ideal) x0 x1 x2 (ix3 s i j) * x3 (ix3 s i j) * (val_main_v39_2 (F := Ideal) x0 x1 x2 (ix3 s i j)
      * (val_main_call0_v6 (F := Ideal) (ix3 s i j) - val_main_v39_2 (F := Ideal) x0 x1 x2 (ix3 s i j))) = _
  rw [val_main_call0_v6_apply, val_main_call0_cst_1_apply, sigm_at, pre_at]
  show _ + _ * (_ * (Ideal.ofBits .f32 0x3F800000#32 - _)) = _
  obtain ⟨r, hr⟩ := h3 (ix3 s i j)
  rw [one_f32, hr]
  refine (two_terms r _).trans ?_
  rw [← hr]
  rfl

theorem Gcol_eq : (fun k => val_main_v40 (F := Ideal) x0 x1 x2 x3 (ix3 s k j)) = G x0 x1 x2 x3 s j := funext fun k => G_at x0 x1 x2 x3 s k j h3

theorem b_eq : val_main_v89 (F := Ideal) x0 x1 x2 x3 = DB x0 x1 x2 x3 := by
  funext y
  obtain ⟨j, rfl⟩ : ∃ j : Fin 1536, y = ix2 (0 : Fin 1) j :=
    ⟨y 1, (eq_ix2 y).trans (congrArg (fun z => ix2 z (y 1)) (Subsingleton.elim (α := Fin 1) _ _))⟩
  refine (lie_at _ shapeCasts_S1536_S1x1536 (0 : Fin 1) j).trans ((twice_at j (val_main_v40 (F := Ideal) x0 x1 x2 x3)).trans ?_)
  exact Finset.sum_congr rfl fun s _ => Finset.sum_congr rfl fun i _ => G_at x0 x1 x2 x3 s i j h3

/-- The sums behind one row of the taps' gradient. -/
theorem wsum_at (d n : ℕ) (hd : n + d = 3) (h : S2x2051x1536.Slices ![0, n, 0] S2x2048x1536) :
    ∑ s : Fin 2, ∑ i : Fin 2048, (mulf (extractStridedSlice S2x2048x1536 ![0, n, 0] (val_main_v5 (F := Ideal) x0) h) (val_main_v40 (F := Ideal) x0 x1 x2 x3) : FVec Ideal S2x2048x1536 .f32) (ix3 s i j)
      = ∑ s : Fin 2, gw (ucol x0 s j) (wcol x1 j) (x2 (ix2 (0 : Fin 1) j)) (dcol x3 s j) d :=
  Finset.sum_congr rfl fun s _ => Finset.sum_congr rfl fun i _ =>
    (congrArg₂ (· * ·) (front_at x0 s i j d n hd h) (G_at x0 x1 x2 x3 s i j h3)).trans (mul_comm _ _)

theorem v83_at (k : Fin 4) : val_main_v83 (F := Ideal) x0 x1 x2 x3 (ix2 k j)
    = ∑ s : Fin 2, gw (ucol x0 s j) (wcol x1 j) (x2 (ix2 (0 : Fin 1) j)) (dcol x3 s j) (3 - k.val) := by
  refine (congrArg₂ (· + ·) (congrArg₂ (· + ·) (congrArg₂ (· + ·) (wrow_at j 3 _ (val_main_v44 (F := Ideal) x0 x1 x2 x3) _ k)
    (wrow_at j 2 _ (val_main_v53 (F := Ideal) x0 x1 x2 x3) _ k)) (wrow_at j 1 _ (val_main_v64 (F := Ideal) x0 x1 x2 x3) _ k))
    (wrow_at j 0 _ (val_main_v75 (F := Ideal) x0 x1 x2 x3) _ k)).trans ?_
  have e3 := wsum_at x0 x1 x2 x3 j h3 0 3 rfl slices_S2x2051x1536_S2x2048x1536_0_3_0
  have e2 := wsum_at x0 x1 x2 x3 j h3 1 2 rfl slices_S2x2051x1536_S2x2048x1536_0_2_0
  have e1 := wsum_at x0 x1 x2 x3 j h3 2 1 rfl slices_S2x2051x1536_S2x2048x1536_0_1_0
  have e0 := wsum_at x0 x1 x2 x3 j h3 3 0 rfl slices_S2x2051x1536_S2x2048x1536_0_0_0
  refine (congrArg₂ (· + ·) (congrArg₂ (· + ·) (congrArg₂ (· + ·) (congrArg (fun z : EReal => if k.val = 3 then z else 0) e3)
    (congrArg (fun z : EReal => if k.val = 2 then z else 0) e2)) (congrArg (fun z : EReal => if k.val = 1 then z else 0) e1))
    (congrArg (fun z : EReal => if k.val = 0 then z else 0) e0)).trans ?_
  match k with
  | ⟨0, _⟩ => simp
  | ⟨1, _⟩ => simp
  | ⟨2, _⟩ => simp
  | ⟨3, _⟩ => simp

theorem w_eq : val_main_v88 (F := Ideal) x0 x1 x2 x3 = DW x0 x1 x2 x3 := by
  funext y
  obtain ⟨k, j, rfl⟩ : ∃ (k : Fin 8) (j : Fin 1536), y = ix2 k j := ⟨y 0, y 1, eq_ix2 y⟩
  show _ = ∑ s : Fin 2, tap (ucol x0 s j) (wcol x1 j) (x2 (ix2 (0 : Fin 1) j)) (dcol x3 s j) k
  rw [val_main_v88]
  by_cases hk : k.val < 4
  · refine (pad_apply_of_inside _ _ _ _ _ pads_S4x1536_S8x1536_040_000 h_S_ (ix2 k j) (ix2 (⟨k.val, hk⟩ : Fin 4) j) (fun a => match a with
      | ⟨0, _⟩ => by show k.val = 0 + k.val * (0 + 1); omega
      | ⟨1, _⟩ => by show j.val = 0 + j.val * (0 + 1); omega)).trans ?_
    rw [v83_at x0 x1 x2 x3 j h3]
    exact Finset.sum_congr rfl fun s _ => (if_pos hk).symm
  · refine (pad_apply_of_not_inside _ _ _ _ _ pads_S4x1536_S8x1536_040_000 h_S_ (ix2 k j) (0 : Fin 2) ?_).trans ?_
    · show ¬(0 ≤ k.val ∧ (k.val - 0) % (0 + 1) = 0 ∧ (k.val - 0) / (0 + 1) < 4)
      omega
    · refine Eq.trans ?_ (Finset.sum_eq_zero fun s _ => if_neg hk).symm
      show (((0#32 : BitVec 32).toInt : ℝ) : EReal) = 0
      simp

theorem u_eq : val_main_v87 (F := Ideal) x0 x1 x2 x3 = DU x0 x1 x2 x3 := by
  funext y
  obtain ⟨s, i, j, rfl⟩ : ∃ (s : Fin 2) (i : Fin 2048) (j : Fin 1536), y = ix3 s i j := ⟨y 0, y 1, y 2, eq_ix3 y⟩
  have hu (n : ℕ) (hn : n < 4) (h : S4x1536.Slices ![n, 0] S1x1536) (d : ℕ) : up (fun k => (mulf (val_main_v40 (F := Ideal) x0 x1 x2 x3)
      (broadcastInDim S2x2048x1536 ![0, 1, 2] bcast_S1x1x1536_S2x2048x1536_0_1_2 (broadcastInDim S1x1x1536 ![2] bcast_S1536_S1x1x1536_2
      (shapeCast S1536 (extractStridedSlice S1x1536 ![n, 0] (val_main_v1 (F := Ideal) x1) h) shapeCasts_S1x1536_S1536))) : FVec Ideal S2x2048x1536 .f32) (ix3 s k j)) d i
      = wcol x1 j ⟨n, hn⟩ * up (G x0 x1 x2 x3 s j) d i := by
    rw [up, up]
    split
    · exact (congrArg₂ (· * ·) (G_at x0 x1 x2 x3 s _ j h3) (row_at s _ j n hn x1 h)).trans (mul_comm _ _)
    · exact (mul_zero _).symm
  refine (extractStridedSlice_apply _ _ slices_S2x2051x1536_S2x2048x1536_0_3_0 (ix3 s i j) (ix3 s (⟨3 + i.val, by omega⟩ : Fin 2051) j) (fun a => match a with
    | ⟨0, _⟩ => by show s.val = 0 + s.val; omega
    | ⟨1, _⟩ => rfl
    | ⟨2, _⟩ => by show j.val = 0 + j.val; omega)).trans ?_
  refine (congrArg₂ (· + ·) (congrArg₂ (· + ·) (congrArg₂ (· + ·)
    ((pad_at s i j 3 (by decide) _ (val_main_v48 (F := Ideal) x0 x1 x2 x3) _).trans (hu 3 (by decide) slices_S4x1536_S1x1536_3_0 0))
    ((pad_at s i j 2 (by decide) _ (val_main_v57 (F := Ideal) x0 x1 x2 x3) _).trans (hu 2 (by decide) slices_S4x1536_S1x1536_2_0 1)))
    ((pad_at s i j 1 (by decide) _ (val_main_v68 (F := Ideal) x0 x1 x2 x3) _).trans (hu 1 (by decide) slices_S4x1536_S1x1536_1_0 2)))
    ((pad_at s i j 0 (by decide) _ (val_main_v79 (F := Ideal) x0 x1 x2 x3) _).trans (hu 0 (by decide) slices_S4x1536_S1x1536_0_0 3))).trans ?_
  show _ = gu (ucol x0 s j) (wcol x1 j) (x2 (ix2 (0 : Fin 1) j)) (dcol x3 s j) i
  rw [up_zero, gu]
  show wcol x1 j 3 * G x0 x1 x2 x3 s j i + wcol x1 j 2 * up (G x0 x1 x2 x3 s j) 1 i + wcol x1 j 1 * up (G x0 x1 x2 x3 s j) 2 i
    + wcol x1 j 0 * up (G x0 x1 x2 x3 s j) 3 i = _
  ac_rfl

end Cert.Reference28Ideal.Hand
-- ==== Proof.Conv.Claims.lean ====
module

public import proofs.«01_k».proof.Defs
public import proofs.«01_k».proof.Proof.Results
public import proofs.«01_k».proof.Proof.Ffn.Claims
public import proofs.«01_k».proof.Proof.Conv.Kernel
public import proofs.«01_k».proof.Proof.Conv.Ref
public import proofs.«01_k».proof.Proof.Gen.Reference28Ideal.Run

/- The causal convolution's gradients against their reference. -/

@[expose] public section

noncomputable section

namespace Cert.Conv

open Idealize.ShloMosaic Idealize.SL.Sem Cert

theorem pre_conv_dy_facts : Pre_finite_conv_dy.Facts := ⟨by decide, by decide⟩

/-- The reference ends quietly. -/
theorem conv_frame : @quiescent_Reference28Ideal Reference28Ideal.Gen.facts := fun m g _ =>
  (θ_run Reference28Ideal.defs _ _).mono (fun r h => ⟨fun c => (h c).2.2.2, sem_eq_zero_of_no_sems rfl r.2⟩) (Reference28Ideal.Value.run (F := Ideal) m g)

/-- The gradients of the causal convolution are the reference's. -/
theorem conv : @algebraic_Kernel28Ideal_Reference28Ideal_pre_finite_conv_dy Kernel28Ideal.Gen.facts Reference28Ideal.Gen.facts pre_conv_dy_facts := by
  intro m g m' g' hpre same
  refine ⟨fun c => DU (Kernel28Ideal.Hand.A0 m c) (Kernel28Ideal.Hand.A1 m c) (Kernel28Ideal.Hand.A2 m c) (Kernel28Ideal.Hand.A3 m c),
    fun c => DW (Kernel28Ideal.Hand.A0 m c) (Kernel28Ideal.Hand.A1 m c) (Kernel28Ideal.Hand.A2 m c) (Kernel28Ideal.Hand.A3 m c),
    fun c => DB (Kernel28Ideal.Hand.A0 m c) (Kernel28Ideal.Hand.A1 m c) (Kernel28Ideal.Hand.A2 m c) (Kernel28Ideal.Hand.A3 m c), ?_, ?_⟩
  · exact (θ_run Kernel28Ideal.defs _ _).mono (fun r h c => ⟨(h c).1.trans (Kernel28Ideal.Hand.final_u m c),
      (h c).2.1.trans (Kernel28Ideal.Hand.final_w m c), (h c).2.2.1.trans (Kernel28Ideal.Hand.final_b m c), (h c).2.2.2⟩)
      (Kernel28Ideal.Value.run_blocks (F := Ideal) m g)
  · refine (θ_run Reference28Ideal.defs _ _).mono (fun r h c => ?_) (Reference28Ideal.Value.run (F := Ideal) m' g')
    obtain ⟨e0, e1, e2, e3⟩ := same c
    have h3 : ∀ y, ∃ r : ℝ, Kernel28Ideal.Hand.A3 m c y = r := fun y => Ffn.real_of_abs (congrFun (hpre c) y)
    refine ⟨(h c).1.trans ?_, (h c).2.1.trans ?_, (h c).2.2.1.trans ?_, (h c).2.2.2⟩
    · rw [Reference28Ideal.Read.val_main_v87_eq, e0, e1, e2, e3]
      exact Reference28Ideal.Hand.u_eq _ _ _ _ h3
    · rw [Reference28Ideal.Read.val_main_v88_eq, e0, e1, e2, e3]
      exact Reference28Ideal.Hand.w_eq _ _ _ _ h3
    · rw [Reference28Ideal.Read.val_main_v89_eq, e0, e1, e2, e3]
      exact Reference28Ideal.Hand.b_eq _ _ _ _ h3

end Cert.Conv
-- ==== Proof.Conv.Forward.lean ====
module

public import proofs.«01_k».proof.Defs
public import proofs.«01_k».proof.Proof.Results
public import proofs.«01_k».proof.Proof.Conv.Kernel
public import proofs.«01_k».proof.Proof.Conv.Ref
public import proofs.«01_k».proof.Proof.Gen.Kernel29Ideal.Value
public import proofs.«01_k».proof.Proof.Gen.Reference29Ideal.Read
public import proofs.«01_k».proof.Proof.Gen.Reference29Ideal.Run
public import Idealize.ShloMosaic.Lib.Pipeline.Value
public import Idealize.ShloMosaic.Lib.Pipeline.ValueKit.Geometry

/- The causal convolution and the gate after it: the kernel, the reference, and their equality. -/

@[expose] public section

set_option maxRecDepth 16384

noncomputable section

namespace Cert.Conv

open Idealize.ShloMosaic hiding ix1 ix2 ix3 ix4 eq_ix1 eq_ix2 eq_ix3 eq_ix4
open Idealize.ShloMosaic.ValueIdx
open Cert.Ffn (sigm)

/-- The gate of a number. -/
def gated (p : EReal) : EReal := p * sigm p

/-- The convolution, gated. -/
def FW (U : (⟨3, ![2, 2048, 3840]⟩ : Shape).Idx → EReal) (W : (⟨2, ![8, 1536]⟩ : Shape).Idx → EReal) (B : (⟨2, ![1, 1536]⟩ : Shape).Idx → EReal) :
    (⟨3, ![2, 2048, 1536]⟩ : Shape).Idx → EReal :=
  fun y => gated (pre (ucol U (y 0) (y 2)) (wcol W (y 2)) (B (ix2 (0 : Fin 1) (y 2))) (y 1))

end Cert.Conv

namespace Cert.Kernel29Ideal.Hand

open Idealize.ShloMosaic hiding ix1 ix2 ix3 ix4 eq_ix1 eq_ix2 eq_ix3 eq_ix4
open Cert.Kernel29Ideal Cert.Kernel29Ideal.Gen Cert.Conv
open Cert.Ffn (sigm one_f32 zero_f32)
open Cert.Kernel28Ideal.Hand (tcol taps Z Z_at back_at taps_at)
open Idealize.ShloMosaic.TcCoe Idealize.ShloMosaic.ValueIdx

/-! ## One tile -/

theorem gated_at (z : FVec Ideal S2048x256 .f32) (y : S2048x256.Idx) :
    mulf z (divf (broadcast S2048x256 (Scalar.ofBits (F := Ideal) .f32 0x3F800000#32)) (addf (broadcast S2048x256 (Scalar.ofBits (F := Ideal) .f32 0x3F800000#32))
      (exp (subf (broadcast S2048x256 (Scalar.ofBits (F := Ideal) .f32 0x00000000#32)) z)))) y = gated (z y) := by
  show z y * Ideal.div (Ideal.ofBits .f32 0x3F800000#32) (Ideal.ofBits .f32 0x3F800000#32 + Ideal.exp (Ideal.ofBits .f32 0x00000000#32 - z y)) = _
  rw [one_f32, zero_f32, zero_sub]
  rfl

theorem out_pay (u : FVec Ideal S1x2048x256 .f32) (b w0 w1 w2 w3 : FVec Ideal S1x256 .f32) (i : Fin 2048) (x : Fin 256) :
    (k0_pay1 (F := Ideal) (k0_pay2 (F := Ideal) u) (k0_pay3 (F := Ideal) u b w0 w1 w2) w3 : FVec Ideal S1x2048x256 .f32) (ix3 (0 : Fin 1) i x)
      = gated (pre (tcol u x) (taps w0 w1 w2 w3 x) (b (ix2 (0 : Fin 1) x)) i) := by
  refine (back_at (mulf (Z u b w0 w1 w2 w3) (divf (broadcast S2048x256 (Scalar.ofBits (F := Ideal) .f32 0x3F800000#32))
    (addf (broadcast S2048x256 (Scalar.ofBits (F := Ideal) .f32 0x3F800000#32))
      (exp (subf (broadcast S2048x256 (Scalar.ofBits (F := Ideal) .f32 0x00000000#32)) (Z u b w0 w1 w2 w3)))))) i x).trans ?_
  exact (gated_at (Z u b w0 w1 w2 w3) (ix2 i x)).trans (congrArg gated (Z_at u b w0 w1 w2 w3 i x))

/-! ## The tiles -/

variable (m : (ℓ : Loc nD τ sig) → Buf (Elt Ideal) ℓ) (c : Dev nD)

/-- The argument arrays: the convolution's input, the taps and the bias. -/
abbrev A0 : (⟨3, ![2, 2048, 3840]⟩ : Shape).Idx → EReal := m ((c.tc : Thread nD τ).loc main_arg0)
abbrev A1 : (⟨2, ![8, 1536]⟩ : Shape).Idx → EReal := m ((c.tc : Thread nD τ).loc main_arg1)
abbrev A2 : (⟨2, ![1, 1536]⟩ : Shape).Idx → EReal := m ((c.tc : Thread nD τ).loc main_arg2)

theorem idx_0 : ∀ t : Fin cfg0.N, win0_0.index t = ![t.val / 6, 0, 4 + t.val % 6] := (by decide +kernel : ∀ t : Fin grid0.N, _)
theorem idx_1 : ∀ t : Fin cfg0.N, win0_1.index t = ![0, t.val % 6] := (by decide +kernel : ∀ t : Fin grid0.N, _)
theorem idx_2 : ∀ t : Fin cfg0.N, win0_2.index t = ![0, t.val % 6] := (by decide +kernel : ∀ t : Fin grid0.N, _)
theorem idx_3 : ∀ t : Fin cfg0.N, win0_3.index t = ![t.val / 6, 0, t.val % 6] := (by decide +kernel : ∀ t : Fin grid0.N, _)

/-- The batch a grid point works on, and a column of its tile, among all. -/
def bat (t : Fin cfg0.N) : Fin 2 := ⟨t.val / 6, by have : t.val < 12 := t.isLt; omega⟩
def col (t : Fin cfg0.N) (x : Fin 256) : Fin 1536 := ⟨t.val % 6 * 256 + x.val, by omega⟩

theorem blk_0 (t : Fin cfg0.N) (x : Fin 256) : tcol (iblk m c 0 t) x = ucol (A0 m c) (bat t) (col t x) := by
  funext i
  show iblk m c 0 t (ix3 (0 : Fin 1) i x) = A0 m c (ix3 (bat t) i (⟨1024 + (t.val % 6 * 256 + x.val), _⟩ : Fin 3840))
  blk_simp [iblk]
  refine congrArg (A0 m c) (funext fun a => Fin.ext ?_)
  match a with
  | ⟨0, _⟩ => blk_simp [idx_0]; rfl
  | ⟨1, _⟩ => blk_simp [idx_0]
  | ⟨2, _⟩ =>
    blk_simp [idx_0]
    show (4 + t.val % 6) * 256 + x.val = 1024 + (t.val % 6 * 256 + x.val)
    omega

theorem blk_1 (t : Fin cfg0.N) (k : Fin 8) (x : Fin 256) : iblk m c 1 t (ix2 k x) = A1 m c (ix2 k (col t x)) := by
  blk_simp [iblk]
  refine congrArg (A1 m c) (funext fun a => Fin.ext ?_)
  match a with
  | ⟨0, _⟩ => blk_simp [idx_1]
  | ⟨1, _⟩ => blk_simp [idx_1]; rfl

theorem blk_2 (t : Fin cfg0.N) (x : Fin 256) : iblk m c 2 t (ix2 (0 : Fin 1) x) = A2 m c (ix2 (0 : Fin 1) (col t x)) := by
  blk_simp [iblk]
  refine congrArg (A2 m c) (funext fun a => Fin.ext ?_)
  match a with
  | ⟨0, _⟩ => blk_simp [idx_2]
  | ⟨1, _⟩ => blk_simp [idx_2]; rfl

theorem final : (dats m 0 c).arrAt 3 cfg0.N = FW (A0 m c) (A1 m c) (A2 m c) := by
  refine (dats m 0 c).arrAt_eq_of_covers 3 _ (by decide +kernel) fun t hf y => ?_
  blk_simp
  rw [after0_3, out0_3, View.canon_cons_unit_lit _ _ _ (by decide), View.ld_unit_lit _ _ (by decide), View.ld_unit_lit _ _ (by decide)]
  obtain ⟨i, x, rfl⟩ : ∃ (i : Fin 2048) (x : Fin 256), y = ix3 (0 : Fin 1) i x :=
    ⟨y 1, y 2, (eq_ix3 y).trans (congrArg (fun z => ix3 z (y 1) (y 2)) (Subsingleton.elim (α := Fin 1) _ _))⟩
  have e : ((cfg0.win 3).blk t).view.emb (ix3 (0 : Fin 1) i x) = ix3 (bat t) i (col t x) := funext fun a => Fin.ext <| by
    match a with
    | ⟨0, _⟩ => blk_simp [idx_3]; rfl
    | ⟨1, _⟩ => blk_simp [idx_3]
    | ⟨2, _⟩ => blk_simp [idx_3]; rfl
  rw [e]
  refine (out_pay (iblk m c 0 t) (iblk m c 2 t) _ _ _ _ i x).trans ?_
  rw [blk_0, blk_2]
  exact congrArg (fun w => gated (pre _ w _ i)) (taps_at _ (A1 m c) (col t x) x (fun k => blk_1 m c t k x))

end Cert.Kernel29Ideal.Hand

namespace Cert.Reference29Ideal.Hand

open Idealize.ShloMosaic hiding ix1 ix2 ix3 ix4 eq_ix1 eq_ix2 eq_ix3 eq_ix4
open Cert.Reference29Ideal Cert.Reference29Ideal.Gen Cert.Reference29Ideal.Read Idealize.ShloMosaic.ValueIdx Cert.Conv
open Cert.Ffn (sigm one_f32)

variable (x0 : (⟨S2x2048x3840, .f32⟩ : BufTy).Contents (Elt Ideal)) (x1 : (⟨S8x1536, .f32⟩ : BufTy).Contents (Elt Ideal))
  (x2 : (⟨S1x1536, .f32⟩ : BufTy).Contents (Elt Ideal))

/-- The convolution is the one whose gradient is taken. -/
theorem same_pre : val_main_v37 (F := Ideal) x0 x1 x2 = Cert.Reference28Ideal.Read.val_main_v38 (F := Ideal) x0 x1 x2 := rfl

theorem value_eq : val_main_v38 (F := Ideal) x0 x1 x2 = FW x0 x1 x2 := by
  funext y
  obtain ⟨s, i, j, rfl⟩ : ∃ (s : Fin 2) (i : Fin 2048) (j : Fin 1536), y = ix3 s i j := ⟨y 0, y 1, y 2, eq_ix3 y⟩
  have h := (congrFun (same_pre x0 x1 x2) (ix3 s i j)).trans (Cert.Reference28Ideal.Hand.pre_at x0 x1 x2 s i j)
  show val_main_v37 (F := Ideal) x0 x1 x2 (ix3 s i j) * Ideal.div (val_main_call0_v4 (F := Ideal) (ix3 s i j))
    (val_main_call0_v2 (F := Ideal) (ix3 s i j) + Ideal.exp (-(val_main_v37 (F := Ideal) x0 x1 x2 (ix3 s i j)))) = _
  rw [val_main_call0_v4_apply, val_main_call0_v2_apply, val_main_call0_cst_apply, val_main_call0_cst_0_apply, h]
  show _ * Ideal.div (Ideal.ofBits .f32 0x3F800000#32) (Ideal.ofBits .f32 0x3F800000#32 + _) = _
  rw [one_f32]
  rfl

end Cert.Reference29Ideal.Hand

namespace Cert.Conv

open Idealize.ShloMosaic Cert

/-- The convolution, gated, is the reference's. -/
theorem forward : @algebraic_Kernel29Ideal_Reference29Ideal Kernel29Ideal.Gen.facts Reference29Ideal.Gen.facts := fun m g m' g' _ same =>
  ⟨fun c => FW (Kernel29Ideal.Hand.A0 m c) (Kernel29Ideal.Hand.A1 m c) (Kernel29Ideal.Hand.A2 m c),
    result_is (Kernel29Ideal.Value.run_blocks (F := Ideal) m g) (Kernel29Ideal.Hand.final m),
    result_is (Reference29Ideal.Value.run (F := Ideal) m' g') fun c => by
      rw [Reference29Ideal.Read.val_main_v38_eq, (same c).1, (same c).2.1, (same c).2.2]
      exact Reference29Ideal.Hand.value_eq _ _ _⟩

end Cert.Conv

end
-- ==== Proof.Norm.Forward.lean ====
module

public import proofs.«01_k».proof.Proof.Norm.Ref
public import proofs.«01_k».proof.Proof.Norm.Heads
public import proofs.«01_k».proof.Proof.Norm.Gated
public import proofs.«01_k».proof.Proof.Proj.Common
public import proofs.«01_k».proof.Proof.Gen.Kernel35Ideal.Value
public import proofs.«01_k».proof.Proof.Gen.Kernel36Ideal.Value
public import proofs.«01_k».proof.Proof.Gen.Kernel37Ideal.Value
public import proofs.«01_k».proof.Proof.Gen.Kernel38Ideal.Value
public import proofs.«01_k».proof.Proof.Gen.Kernel39Ideal.Value
public import proofs.«01_k».proof.Proof.Gen.Kernel40Ideal.Value
public import Idealize.ShloMosaic.Lib.Pipeline.Value
public import Idealize.ShloMosaic.Lib.Pipeline.ValueKit.Geometry

/- The normalisations, forward: what a tile holds, for any number of rows and any width, and what the kernels leave. -/

@[expose] public section

set_option maxRecDepth 16384

noncomputable section

namespace Cert.Norm

open Idealize.ShloMosaic hiding ix1 ix2 ix3 ix4 eq_ix1 eq_ix2 eq_ix3 eq_ix4
open Idealize.ShloMosaic.ValueIdx Cert.Tile
open Cert.Ffn (sigm)

/-! ## The results -/

/-- The normalised rows times the gain. -/
def rowsN {R N : ℕ} (w : ℝ) (x : (⟨2, ![R, N]⟩ : Shape).Idx → EReal) (g : (⟨1, ![N]⟩ : Shape).Idx → EReal) : (⟨2, ![R, N]⟩ : Shape).Idx → EReal :=
  fun y => unit w eps (fun k => x (ix2 (y 0) k)) (y 1) * g (ix1 (y 1))

section

open Cert.Kernel26Ideal.Hand

/-- The same of each head's columns, with one gain for all heads. -/
def headsN {R : ℕ} (x : (⟨2, ![R, 512]⟩ : Shape).Idx → EReal) (g : (⟨1, ![128]⟩ : Shape).Idx → EReal) : (⟨2, ![R, 512]⟩ : Shape).Idx → EReal :=
  fun y => unit 128 eps (fun k => x (ix2 (y 0) (hcol (head (y 1)) k))) (lane (y 1)) * g (ix1 (lane (y 1)))

end

section

open Cert.Kernel27Ideal.Hand

/-- The same of each group's columns after the gate. -/
def groupsN (x z : (⟨2, ![4096, 1024]⟩ : Shape).Idx → EReal) (g : (⟨1, ![1024]⟩ : Shape).Idx → EReal) : (⟨2, ![4096, 1024]⟩ : Shape).Idx → EReal :=
  fun y => unit 512 eps (fun k => U x z (ix2 (y 0) (gcol (grp (y 1)) k))) (pos (y 1)) * g (ix1 (y 1))

end

/-! ## One tile -/

section

variable {M N : ℕ} (wb : BitVec 32) (hr : (⟨2, ![M, N]⟩ : Shape).Reduces [1] ⟨1, ![M]⟩)
  (hs : (⟨1, ![M]⟩ : Shape).ShapeCasts ⟨2, ![M, 1]⟩) (hi : (⟨2, ![1, N]⟩ : Shape).ShapeCasts ⟨2, ![1, N]⟩)
  (hb : (⟨2, ![M, 1]⟩ : Shape).Broadcasts ⟨2, ![M, N]⟩) (hg : (⟨2, ![1, N]⟩ : Shape).Broadcasts ⟨2, ![M, N]⟩)
  (w : ℝ) (hwb : Ideal.ofBits .f32 wb = w) (hM : M ≠ 1) (hN : N ≠ 1)
  (a : FVec Ideal ⟨2, ![M, N]⟩ .f32) (b : FVec Ideal ⟨2, ![1, N]⟩ .f32) {y : (⟨2, ![M, N]⟩ : Shape).Idx}

/-- The tile: its rows normalised, times the gain. -/
def normT : FVec Ideal ⟨2, ![M, N]⟩ .f32 := scaledT hi hg (unitT wb hr hs hb a) b

include hwb hM hN in
theorem normT_at (X : Fin N → EReal) (ha : ∀ k, a (ix2 (y 0) k) = X k) :
    normT wb hr hs hi hb hg a b y = unit w eps X (y 1) * b (ix2 (0 : Fin 1) (y 1)) := by
  conv_lhs => rw [eq_ix2 y]
  refine (scaledT_at hi hg hN _ b (y 0) (y 1)).trans (congrArg (· * b (ix2 (0 : Fin 1) (y 1))) ?_)
  exact (unitT_at wb hr hs hb w hwb hM a (y 0) (y 1)).trans (congrArg (fun X => unit w eps X (y 1)) (funext ha))

include hwb hM hN in
/-- A tile of whole rows. -/
theorem rows_tile {R : ℕ} (A : (⟨2, ![R, N]⟩ : Shape).Idx → EReal) (G : (⟨1, ![N]⟩ : Shape).Idx → EReal) {i : (⟨2, ![R, N]⟩ : Shape).Idx}
    (e : i 1 = y 1) (ha : ∀ k, a (ix2 (y 0) k) = A (ix2 (i 0) k)) (h : ∀ k, b (ix2 (0 : Fin 1) k) = G (ix1 k)) :
    normT wb hr hs hi hb hg a b y = rowsN w A G i :=
  (normT_at wb hr hs hi hb hg w hwb hM hN a b _ ha).trans <| (congrArg (unit w eps (fun k => A (ix2 (i 0) k)) (y 1) * ·) (h (y 1))).trans <|
    congrArg (fun j : Fin N => unit w eps (fun k => A (ix2 (i 0) k)) j * G (ix1 j)) e.symm

end

section

open Cert.Kernel26Ideal.Hand in
theorem of_head (F : Fin 4 → Fin 128 → EReal) (h : Fin 4) (x : Fin 128) : F h x = F (head (hcol h x)) (lane (hcol h x)) := by rw [head_hcol, lane_hcol]

open Cert.Kernel27Ideal.Hand in
theorem of_group (F : Fin 2 → Fin 512 → EReal) (h : Fin 2) (x : Fin 512) : F h x = F (grp (gcol h x)) (pos (gcol h x)) := by rw [grp_gcol, pos_gcol]

variable {M : ℕ} (wb : BitVec 32)

open Cert.Kernel26Ideal.Hand in
/-- A tile of one head's rows. -/
theorem heads_tile {R : ℕ} (hr : (⟨2, ![M, 128]⟩ : Shape).Reduces [1] ⟨1, ![M]⟩)
    (hs : (⟨1, ![M]⟩ : Shape).ShapeCasts ⟨2, ![M, 1]⟩) (hi : (⟨2, ![1, 128]⟩ : Shape).ShapeCasts ⟨2, ![1, 128]⟩)
    (hb : (⟨2, ![M, 1]⟩ : Shape).Broadcasts ⟨2, ![M, 128]⟩) (hg : (⟨2, ![1, 128]⟩ : Shape).Broadcasts ⟨2, ![M, 128]⟩) (hwb : Ideal.ofBits .f32 wb = (128 : ℝ))
    (hM : M ≠ 1) (a : FVec Ideal ⟨2, ![M, 128]⟩ .f32) (b : FVec Ideal ⟨2, ![1, 128]⟩ .f32) {y : (⟨2, ![M, 128]⟩ : Shape).Idx}
    (A : (⟨2, ![R, 512]⟩ : Shape).Idx → EReal) (G : (⟨1, ![128]⟩ : Shape).Idx → EReal) {i : (⟨2, ![R, 512]⟩ : Shape).Idx} (h : Fin 4)
    (e : i 1 = hcol h (y 1)) (ha : ∀ k, a (ix2 (y 0) k) = A (ix2 (i 0) (hcol h k))) (hG : ∀ k, b (ix2 (0 : Fin 1) k) = G (ix1 k)) :
    normT wb hr hs hi hb hg a b y = headsN A G i := by
  refine (normT_at wb hr hs hi hb hg 128 hwb hM (by decide) a b _ ha).trans ((congrArg (unit 128 eps (fun k => A (ix2 (i 0) (hcol h k))) (y 1) * ·) (hG (y 1))).trans ?_)
  refine Eq.trans ?_ (congrArg (fun j : Fin 512 => unit 128 eps (fun k => A (ix2 (i 0) (hcol (head j) k))) (lane j) * G (ix1 (lane j))) e.symm)
  exact of_head (fun h x => unit 128 eps (fun k => A (ix2 (i 0) (hcol h k))) x * G (ix1 x)) h (y 1)

open Cert.Kernel27Ideal.Hand in
/-- A tile of one group's rows. -/
theorem groups_tile (hr : (⟨2, ![M, 512]⟩ : Shape).Reduces [1] ⟨1, ![M]⟩)
    (hs : (⟨1, ![M]⟩ : Shape).ShapeCasts ⟨2, ![M, 1]⟩) (hi : (⟨2, ![1, 512]⟩ : Shape).ShapeCasts ⟨2, ![1, 512]⟩)
    (hb : (⟨2, ![M, 1]⟩ : Shape).Broadcasts ⟨2, ![M, 512]⟩) (hg : (⟨2, ![1, 512]⟩ : Shape).Broadcasts ⟨2, ![M, 512]⟩) (hwb : Ideal.ofBits .f32 wb = (512 : ℝ))
    (hM : M ≠ 1) (a : FVec Ideal ⟨2, ![M, 512]⟩ .f32) (b : FVec Ideal ⟨2, ![1, 512]⟩ .f32) {y : (⟨2, ![M, 512]⟩ : Shape).Idx}
    (A Z : (⟨2, ![4096, 1024]⟩ : Shape).Idx → EReal) (G : (⟨1, ![1024]⟩ : Shape).Idx → EReal) {i : (⟨2, ![4096, 1024]⟩ : Shape).Idx} (h : Fin 2)
    (e : i 1 = gcol h (y 1)) (ha : ∀ k, a (ix2 (y 0) k) = U A Z (ix2 (i 0) (gcol h k))) (hG : ∀ k, b (ix2 (0 : Fin 1) k) = G (ix1 (gcol h k))) :
    normT wb hr hs hi hb hg a b y = groupsN A Z G i := by
  refine (normT_at wb hr hs hi hb hg 512 hwb hM (by decide) a b _ ha).trans ((congrArg (unit 512 eps (fun k => U A Z (ix2 (i 0) (gcol h k))) (y 1) * ·) (hG (y 1))).trans ?_)
  refine Eq.trans ?_ (congrArg (fun j : Fin 1024 => unit 512 eps (fun k => U A Z (ix2 (i 0) (gcol (grp j) k))) (pos j) * G (ix1 j)) e.symm)
  exact of_group (fun p x => unit 512 eps (fun k => U A Z (ix2 (i 0) (gcol p k))) x * G (ix1 (gcol h (y 1)))) h (y 1)

end

end Cert.Norm

namespace Cert.Kernel35Ideal.Hand

open Idealize.ShloMosaic hiding ix1 ix2 ix3 ix4 eq_ix1 eq_ix2 eq_ix3 eq_ix4
open Cert.Kernel35Ideal Cert.Kernel35Ideal.Gen Cert.Norm
open Cert.Proj (at2)
open Idealize.ShloMosaic.TcCoe Idealize.ShloMosaic.ValueIdx

variable (m : (ℓ : Loc nD τ sig) → Buf (Elt Ideal) ℓ) (c : Dev nD)

abbrev A0 : (⟨2, ![4096, 2048]⟩ : Shape).Idx → EReal := m ((c.tc : Thread nD τ).loc main_arg0)
abbrev A1 : (⟨1, ![2048]⟩ : Shape).Idx → EReal := m ((c.tc : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- The gain as the kernel is given it: one row. -/
theorem gain_v0 : V m c main_v0 = shapeCast S1x2048 (A1 m c) shapeCasts_S2048_S1x2048 := by
  unfold_abbrev_sides
  after_results
  rfl

theorem gain_at (t : Fin cfg0.N) (x : Fin 2048) : iblk m c 1 t (ix2 (0 : Fin 1) x) = A1 m c (ix1 x) := by
  refine Eq.trans ?_ (lie_at (A1 m c) shapeCasts_S2048_S1x2048 (0 : Fin 1) x)
  rw [← gain_v0]
  blk_simp [iblk]
  exact at2 (V m c main_v0) (by blk_simp [(idx t).2.1] <;> rfl) (by blk_simp [(idx t).2.1] <;> rfl)

theorem final : (dats m 0 c).arrAt 2 cfg0.N = rowsN 2048 (A0 m c) (A1 m c) := by
  refine (dats m 0 c).arrAt_eq_of_covers 2 _ (by decide +kernel) fun t hf y => ?_
  obtain ⟨i0, -, i2⟩ := idx t
  blk_simp
  rw [after0_2, out0_2, View.canon_cons_unit_lit _ _ _ (by decide), View.ld_unit_lit _ _ (by decide), View.ld_unit_lit _ _ (by decide)]
  refine rows_tile 0x45000000#32 reduces_S256x2048_S256 shapeCasts_S256_S256x1 shapeCasts_S1x2048_S1x2048 broadcasts_S256x1_S256x2048
    broadcasts_S1x2048_S256x2048 2048 w2048_f32 (by decide) (by decide) (iblk m c 0 t) (iblk m c 1 t) (A0 m c) (A1 m c)
    (Fin.ext (by blk_simp [i2] <;> rfl)) (fun k => ?_) (gain_at m c t)
  blk_simp [iblk]
  exact at2 (A0 m c) (by blk_simp [i0, i2] <;> rfl) (by blk_simp [i0] <;> rfl)

end Cert.Kernel35Ideal.Hand

namespace Cert.Kernel36Ideal.Hand

open Idealize.ShloMosaic hiding ix1 ix2 ix3 ix4 eq_ix1 eq_ix2 eq_ix3 eq_ix4
open Cert.Kernel36Ideal Cert.Kernel36Ideal.Gen Cert.Norm
open Cert.Proj (at2)
open Idealize.ShloMosaic.TcCoe Idealize.ShloMosaic.ValueIdx

variable (m : (ℓ : Loc nD τ sig) → Buf (Elt Ideal) ℓ) (c : Dev nD)

abbrev A0 : (⟨2, ![4096, 512]⟩ : Shape).Idx → EReal := m ((c.tc : Thread nD τ).loc main_arg0)
abbrev A1 : (⟨1, ![512]⟩ : Shape).Idx → EReal := m ((c.tc : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- The gain as the kernel is given it: one row. -/
theorem gain_v0 : V m c main_v0 = shapeCast S1x512 (A1 m c) shapeCasts_S512_S1x512 := by
  unfold_abbrev_sides
  after_results
  rfl

theorem gain_at (t : Fin cfg0.N) (x : Fin 512) : iblk m c 1 t (ix2 (0 : Fin 1) x) = A1 m c (ix1 x) := by
  refine Eq.trans ?_ (lie_at (A1 m c) shapeCasts_S512_S1x512 (0 : Fin 1) x)
  rw [← gain_v0]
  blk_simp [iblk]
  exact at2 (V m c main_v0) (by blk_simp [(idx t).2.1] <;> rfl) (by blk_simp [(idx t).2.1] <;> rfl)

theorem final : (dats m 0 c).arrAt 2 cfg0.N = rowsN 512 (A0 m c) (A1 m c) := by
  refine (dats m 0 c).arrAt_eq_of_covers 2 _ (by decide +kernel) fun t hf y => ?_
  obtain ⟨i0, -, i2⟩ := idx t
  blk_simp
  rw [after0_2, out0_2, View.canon_cons_unit_lit _ _ _ (by decide), View.ld_unit_lit _ _ (by decide), View.ld_unit_lit _ _ (by decide)]
  refine rows_tile 0x44000000#32 reduces_S1024x512_S1024 shapeCasts_S1024_S1024x1 shapeCasts_S1x512_S1x512 broadcasts_S1024x1_S1024x512
    broadcasts_S1x512_S1024x512 512 w512_f32 (by decide) (by decide) (iblk m c 0 t) (iblk m c 1 t) (A0 m c) (A1 m c)
    (Fin.ext (by blk_simp [i2] <;> rfl)) (fun k => ?_) (gain_at m c t)
  blk_simp [iblk]
  exact at2 (A0 m c) (by blk_simp [i0, i2] <;> rfl) (by blk_simp [i0] <;> rfl)

end Cert.Kernel36Ideal.Hand

namespace Cert.Kernel38Ideal.Hand

open Idealize.ShloMosaic hiding ix1 ix2 ix3 ix4 eq_ix1 eq_ix2 eq_ix3 eq_ix4
open Cert.Kernel38Ideal Cert.Kernel38Ideal.Gen Cert.Norm
open Cert.Proj (at2)
open Idealize.ShloMosaic.TcCoe Idealize.ShloMosaic.ValueIdx

variable (m : (ℓ : Loc nD τ sig) → Buf (Elt Ideal) ℓ) (c : Dev nD)

abbrev A0 : (⟨2, ![512, 2048]⟩ : Shape).Idx → EReal := m ((c.tc : Thread nD τ).loc main_arg0)
abbrev A1 : (⟨1, ![2048]⟩ : Shape).Idx → EReal := m ((c.tc : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- The gain as the kernel is given it: one row. -/
theorem gain_v0 : V m c main_v0 = shapeCast S1x2048 (A1 m c) shapeCasts_S2048_S1x2048 := by
  unfold_abbrev_sides
  after_results
  rfl

theorem gain_at (t : Fin cfg0.N) (x : Fin 2048) : iblk m c 1 t (ix2 (0 : Fin 1) x) = A1 m c (ix1 x) := by
  refine Eq.trans ?_ (lie_at (A1 m c) shapeCasts_S2048_S1x2048 (0 : Fin 1) x)
  rw [← gain_v0]
  blk_simp [iblk]
  exact at2 (V m c main_v0) (by blk_simp [(idx t).2.1] <;> rfl) (by blk_simp [(idx t).2.1] <;> rfl)

theorem final : (dats m 0 c).arrAt 2 cfg0.N = rowsN 2048 (A0 m c) (A1 m c) := by
  refine (dats m 0 c).arrAt_eq_of_covers 2 _ (by decide +kernel) fun t hf y => ?_
  obtain ⟨i0, -, i2⟩ := idx t
  blk_simp
  rw [after0_2, out0_2, View.canon_cons_unit_lit _ _ _ (by decide), View.ld_unit_lit _ _ (by decide), View.ld_unit_lit _ _ (by decide)]
  refine rows_tile 0x45000000#32 reduces_S256x2048_S256 shapeCasts_S256_S256x1 shapeCasts_S1x2048_S1x2048 broadcasts_S256x1_S256x2048
    broadcasts_S1x2048_S256x2048 2048 w2048_f32 (by decide) (by decide) (iblk m c 0 t) (iblk m c 1 t) (A0 m c) (A1 m c)
    (Fin.ext (by blk_simp [i2] <;> rfl)) (fun k => ?_) (gain_at m c t)
  blk_simp [iblk]
  exact at2 (A0 m c) (by blk_simp [i0, i2] <;> rfl) (by blk_simp [i0] <;> rfl)

end Cert.Kernel38Ideal.Hand

namespace Cert.Kernel37Ideal.Hand

open Idealize.ShloMosaic hiding ix1 ix2 ix3 ix4 eq_ix1 eq_ix2 eq_ix3 eq_ix4
open Cert.Kernel37Ideal Cert.Kernel37Ideal.Gen Cert.Norm
open Cert.Proj (at2)
open Cert.Kernel26Ideal.Hand (hcol)
open Idealize.ShloMosaic.TcCoe Idealize.ShloMosaic.ValueIdx

variable (m : (ℓ : Loc nD τ sig) → Buf (Elt Ideal) ℓ) (c : Dev nD)

abbrev A0 : (⟨2, ![4096, 512]⟩ : Shape).Idx → EReal := m ((c.tc : Thread nD τ).loc main_arg0)
abbrev A1 : (⟨1, ![128]⟩ : Shape).Idx → EReal := m ((c.tc : Thread nD τ).loc main_arg1)

theorem idx : ∀ t : Fin cfg0.N, win0_0.index t = ![0, t.val] ∧ win0_1.index t = ![0, 0] ∧ win0_2.index t = ![0, t.val] :=
  (by decide +kernel : ∀ t : Fin grid0.N, _)

/-- The gain as the kernel is given it: one row. -/
theorem gain_v0 : V m c main_v0 = shapeCast S1x128 (A1 m c) shapeCasts_S128_S1x128 := by
  unfold_abbrev_sides
  after_results
  rfl

theorem gain_at (t : Fin cfg0.N) (x : Fin 128) : iblk m c 1 t (ix2 (0 : Fin 1) x) = A1 m c (ix1 x) := by
  refine Eq.trans ?_ (lie_at (A1 m c) shapeCasts_S128_S1x128 (0 : Fin 1) x)
  rw [← gain_v0]
  blk_simp [iblk]
  exact at2 (V m c main_v0) (by blk_simp [(idx t).2.1] <;> rfl) (by blk_simp [(idx t).2.1] <;> rfl)

theorem final : (dats m 0 c).arrAt 2 cfg0.N = headsN (A0 m c) (A1 m c) := by
  refine (dats m 0 c).arrAt_eq_of_covers 2 _ (by decide +kernel) fun t hf y => ?_
  obtain ⟨i0, -, i2⟩ := idx t
  blk_simp
  rw [after0_2, out0_2, View.canon_cons_unit_lit _ _ _ (by decide), View.ld_unit_lit _ _ (by decide), View.ld_unit_lit _ _ (by decide)]
  refine heads_tile 0x43000000#32 reduces_S4096x128_S4096 shapeCasts_S4096_S4096x1 shapeCasts_S1x128_S1x128 broadcasts_S4096x1_S4096x128
    broadcasts_S1x128_S4096x128 w128_f32 (by decide) (iblk m c 0 t) (iblk m c 1 t) (A0 m c) (A1 m c) ⟨t.val, t.isLt⟩
    (Fin.ext (by blk_simp [i2] <;> rfl)) (fun k => ?_) (gain_at m c t)
  blk_simp [iblk]
  exact at2 (A0 m c) (by blk_simp [i0, i2] <;> rfl) (by blk_simp [i0] <;> rfl)

end Cert.Kernel37Ideal.Hand

namespace Cert.Kernel39Ideal.Hand

open Idealize.ShloMosaic hiding ix1 ix2 ix3 ix4 eq_ix1 eq_ix2 eq_ix3 eq_ix4
open Cert.Kernel39Ideal Cert.Kernel39Ideal.Gen Cert.Norm
open Cert.Proj (at2)
open Cert.Kernel26Ideal.Hand (hcol)
open Idealize.ShloMosaic.TcCoe Idealize.ShloMosaic.ValueIdx

variable (m : (ℓ : Loc nD τ sig) → Buf (Elt Ideal) ℓ) (c : Dev nD)

abbrev A0 : (⟨2, ![512, 512]⟩ : Shape).Idx → EReal := m ((c.tc : Thread nD τ).loc main_arg0)
abbrev A1 : (⟨1, ![128]⟩ : Shape).Idx → EReal := m ((c.tc : Thread nD τ).loc main_arg1)

theorem idx : ∀ t : Fin cfg0.N, win0_0.index t = ![0, t.val] ∧ win0_1.index t = ![0, 0] ∧ win0_2.index t = ![0, t.val] :=
  (by decide +kernel : ∀ t : Fin grid0.N, _)

/-- The gain as the kernel is given it: one row. -/
theorem gain_v0 : V m c main_v0 = shapeCast S1x128 (A1 m c) shapeCasts_S128_S1x128 := by
  unfold_abbrev_sides
  after_results
  rfl

theorem gain_at (t : Fin cfg0.N) (x : Fin 128) : iblk m c 1 t (ix2 (0 : Fin 1) x) = A1 m c (ix1 x) := by
  refine Eq.trans ?_ (lie_at (A1 m c) shapeCasts_S128_S1x128 (0 : Fin 1) x)
  rw [← gain_v0]
  blk_simp [iblk]
  exact at2 (V m c main_v0) (by blk_simp [(idx t).2.1] <;> rfl) (by blk_simp [(idx t).2.1] <;> rfl)

theorem final : (dats m 0 c).arrAt 2 cfg0.N = headsN (A0 m c) (A1 m c) := by
  refine (dats m 0 c).arrAt_eq_of_covers 2 _ (by decide +kernel) fun t hf y => ?_
  obtain ⟨i0, -, i2⟩ := idx t
  blk_simp
  rw [after0_2, out0_2, View.canon_cons_unit_lit _ _ _ (by decide), View.ld_unit_lit _ _ (by decide), View.ld_unit_lit _ _ (by decide)]
  refine heads_tile 0x43000000#32 reduces_S512x128_S512 shapeCasts_S512_S512x1 shapeCasts_S1x128_S1x128 broadcasts_S512x1_S512x128
    broadcasts_S1x128_S512x128 w128_f32 (by decide) (iblk m c 0 t) (iblk m c 1 t) (A0 m c) (A1 m c) ⟨t.val, t.isLt⟩
    (Fin.ext (by blk_simp [i2] <;> rfl)) (fun k => ?_) (gain_at m c t)
  blk_simp [iblk]
  exact at2 (A0 m c) (by blk_simp [i0, i2] <;> rfl) (by blk_simp [i0] <;> rfl)

end Cert.Kernel39Ideal.Hand

namespace Cert.Kernel40Ideal.Hand

open Idealize.ShloMosaic hiding ix1 ix2 ix3 ix4 eq_ix1 eq_ix2 eq_ix3 eq_ix4
open Cert.Kernel40Ideal Cert.Kernel40Ideal.Gen Cert.Norm
open Cert.Proj (at2)
open Cert.Kernel27Ideal.Hand (gcol U)
open Cert.Ffn (sigm one_f32 zero_f32)
open Idealize.ShloMosaic.TcCoe Idealize.ShloMosaic.ValueIdx

variable (m : (ℓ : Loc nD τ sig) → Buf (Elt Ideal) ℓ) (c : Dev nD)

abbrev A0 : (⟨2, ![4096, 1024]⟩ : Shape).Idx → EReal := m ((c.tc : Thread nD τ).loc main_arg0)
abbrev A1 : (⟨2, ![4096, 1024]⟩ : Shape).Idx → EReal := m ((c.tc : Thread nD τ).loc main_arg1)
abbrev A2 : (⟨1, ![1024]⟩ : Shape).Idx → EReal := m ((c.tc : Thread nD τ).loc main_arg2)

theorem idx : ∀ t : Fin cfg0.N, win0_0.index t = ![t.val % 4, t.val / 4] ∧ win0_1.index t = ![t.val % 4, t.val / 4] ∧ win0_2.index t = ![0, t.val / 4]
    ∧ win0_3.index t = ![t.val % 4, t.val / 4] :=
  (by decide +kernel : ∀ t : Fin grid0.N, _)

/-- The group a grid point works on. -/
def hOf (t : Fin cfg0.N) : Fin 2 := ⟨t.val / 4, by have : t.val < 8 := t.isLt; omega⟩

/-- The gain as the kernel is given it: one row. -/
theorem gain_v0 : V m c main_v0 = shapeCast S1x1024 (A2 m c) shapeCasts_S1024_S1x1024 := by
  unfold_abbrev_sides
  after_results
  rfl

theorem gain_at (t : Fin cfg0.N) (x : Fin 512) : iblk m c 2 t (ix2 (0 : Fin 1) x) = A2 m c (ix1 (gcol (hOf t) x)) := by
  refine Eq.trans ?_ (lie_at (A2 m c) shapeCasts_S1024_S1x1024 (0 : Fin 1) (gcol (hOf t) x))
  rw [← gain_v0]
  blk_simp [iblk]
  exact at2 (V m c main_v0) (by blk_simp [(idx t).2.2.1] <;> rfl) (by blk_simp [(idx t).2.2.1] <;> rfl)

/-- The rows after the gate. -/
def gatedT (x z : FVec Ideal S1024x512 .f32) : FVec Ideal S1024x512 .f32 :=
  mulf x (mulf z (divf (broadcast S1024x512 (Scalar.ofBits (F := Ideal) .f32 0x3F800000#32)) (addf (broadcast S1024x512 (Scalar.ofBits (F := Ideal) .f32 0x3F800000#32))
    (exp (subf (broadcast S1024x512 (Scalar.ofBits (F := Ideal) .f32 0x00000000#32)) z)))))

theorem gatedT_at (x z : FVec Ideal S1024x512 .f32) (i : S1024x512.Idx) : gatedT x z i = x i * (z i * sigm (z i)) := by
  show x i * (z i * Ideal.div (Ideal.ofBits .f32 0x3F800000#32) (Ideal.ofBits .f32 0x3F800000#32 + Ideal.exp (Ideal.ofBits .f32 0x00000000#32 - z i))) = _
  rw [one_f32, zero_f32, zero_sub]
  rfl

theorem final : (dats m 0 c).arrAt 3 cfg0.N = groupsN (A0 m c) (A1 m c) (A2 m c) := by
  refine (dats m 0 c).arrAt_eq_of_covers 3 _ (by decide +kernel) fun t hf y => ?_
  obtain ⟨i0, i1, -, i3⟩ := idx t
  blk_simp
  rw [after0_3, out0_3, View.canon_cons_unit_lit _ _ _ (by decide), View.ld_unit_lit _ _ (by decide), View.ld_unit_lit _ _ (by decide),
    View.ld_unit_lit _ _ (by decide)]
  refine groups_tile 0x44000000#32 reduces_S1024x512_S1024 shapeCasts_S1024_S1024x1 shapeCasts_S1x512_S1x512 broadcasts_S1024x1_S1024x512
    broadcasts_S1x512_S1024x512 w512_f32 (by decide) (gatedT (iblk m c 0 t) (iblk m c 1 t)) (iblk m c 2 t) (A0 m c) (A1 m c) (A2 m c) (hOf t)
    (Fin.ext (by blk_simp [i3] <;> rfl)) (fun k => (gatedT_at _ _ _).trans ?_) (gain_at m c t)
  refine congrArg₂ (fun x z : EReal => x * (z * sigm z)) ?_ ?_ <;> blk_simp [iblk]
  · exact at2 (A0 m c) (by blk_simp [i0, i3] <;> rfl) (by blk_simp [i0] <;> rfl)
  · exact at2 (A1 m c) (by blk_simp [i1, i3] <;> rfl) (by blk_simp [i1] <;> rfl)

end Cert.Kernel40Ideal.Hand

end
-- ==== Proof.Norm.ForwardRef.lean ====
module

public import proofs.«01_k».proof.Proof.Results
public import proofs.«01_k».proof.Proof.Norm.Forward
public import proofs.«01_k».proof.Proof.Norm.WideRef
public import proofs.«01_k».proof.Proof.Norm.Latent
public import proofs.«01_k».proof.Proof.Norm.HeadsRef
public import proofs.«01_k».proof.Proof.Norm.GatedRef
public import proofs.«01_k».proof.Proof.Gen.Reference35Ideal.Read
public import proofs.«01_k».proof.Proof.Gen.Reference35Ideal.Run
public import proofs.«01_k».proof.Proof.Gen.Reference36Ideal.Read
public import proofs.«01_k».proof.Proof.Gen.Reference36Ideal.Run
public import proofs.«01_k».proof.Proof.Gen.Reference37Ideal.Read
public import proofs.«01_k».proof.Proof.Gen.Reference37Ideal.Run
public import proofs.«01_k».proof.Proof.Gen.Reference38Ideal.Read
public import proofs.«01_k».proof.Proof.Gen.Reference38Ideal.Run
public import proofs.«01_k».proof.Proof.Gen.Reference39Ideal.Read
public import proofs.«01_k».proof.Proof.Gen.Reference39Ideal.Run
public import proofs.«01_k».proof.Proof.Gen.Reference40Ideal.Read
public import proofs.«01_k».proof.Proof.Gen.Reference40Ideal.Run
public import proofs.«01_k».proof.Defs

/- The normalisations, forward, as their references have them, and their equality with what the kernels leave. -/

@[expose] public section

noncomputable section

namespace Cert.Norm

open Idealize.ShloMosaic hiding ix1 ix2 ix3 ix4 eq_ix1 eq_ix2 eq_ix3 eq_ix4
open Idealize.ShloMosaic.ValueIdx

/-- The normalised rows times the gain, as the references compute them. -/
def hnorm {R N : ℕ} (wb : BitVec 32) (S : Shapes R N) (x : FVec Ideal ⟨2, ![R, N]⟩ .f32) (g : FVec Ideal ⟨1, ![N]⟩ .f32) : FVec Ideal ⟨2, ![R, N]⟩ .f32 :=
  hscaled S (mulf x (hwide wb S x)) g

theorem hnorm_eq {R N : ℕ} (wb : BitVec 32) (S : Shapes R N) (x : FVec Ideal ⟨2, ![R, N]⟩ .f32) (g : FVec Ideal ⟨1, ![N]⟩ .f32) (w : ℝ)
    (hwb : Ideal.ofBits .f32 wb = w) : hnorm wb S x g = rowsN w x g := by
  funext y
  obtain ⟨i, j, rfl⟩ : ∃ (i : Fin R) (j : Fin N), y = ix2 i j := ⟨y 0, y 1, eq_ix2 y⟩
  refine (hscaled_at S _ g i j).trans (congrArg (fun z : EReal => z * g (ix1 j)) ?_)
  exact congrArg (fun z : EReal => x (ix2 i j) * z) (hwide_at wb S x w hwb i j)

/-! ## By heads, for any number of rows -/

/-- What the operations on four heads of 128 columns ask of the shapes. -/
structure HeadShapes (R : ℕ) : Prop where
  split : (⟨2, ![R, 512]⟩ : Shape).ShapeCasts ⟨3, ![R, 4, 128]⟩
  join : (⟨3, ![R, 4, 128]⟩ : Shape).ShapeCasts ⟨2, ![R, 512]⟩
  last : (⟨3, ![R, 4, 128]⟩ : Shape).ReducesTo [2] ⟨2, ![R, 4]⟩
  last' : (⟨3, ![R, 4, 128]⟩ : Shape).Reduces [2] ⟨2, ![R, 4]⟩
  one : 0 < (⟨0, ![]⟩ : Shape).numel
  stand : (⟨2, ![R, 4]⟩ : Shape).BroadcastsInDim ⟨3, ![R, 4, 1]⟩ ![0, 1]
  point : (⟨0, ![]⟩ : Shape).BroadcastsInDim ⟨3, ![R, 4, 1]⟩ ![]
  wide : (⟨3, ![R, 4, 1]⟩ : Shape).BroadcastsInDim ⟨3, ![R, 4, 128]⟩ ![0, 1, 2]
  lie : (⟨1, ![128]⟩ : Shape).BroadcastsInDim ⟨3, ![1, 1, 128]⟩ ![2]
  down : (⟨3, ![1, 1, 128]⟩ : Shape).BroadcastsInDim ⟨3, ![R, 4, 128]⟩ ![0, 1, 2]
  rows_ne : R ≠ 1

section

open Cert.Kernel26Ideal.Hand (hcol head lane)

variable {R : ℕ} (S : HeadShapes R) (x : FVec Ideal ⟨2, ![R, 512]⟩ .f32) (g : FVec Ideal ⟨1, ![128]⟩ .f32)

/-- The rows cut into heads. -/
def hsplit : FVec Ideal ⟨3, ![R, 4, 128]⟩ .f32 := shapeCast ⟨3, ![R, 4, 128]⟩ x S.split

/-- The root of each head's row, along it. -/
def hheadRoot : FVec Ideal ⟨3, ![R, 4, 128]⟩ .f32 :=
  broadcastInDim ⟨3, ![R, 4, 128]⟩ ![0, 1, 2] S.wide (Host.rsqrt (addf (Host.divf
    (broadcastInDim ⟨3, ![R, 4, 1]⟩ ![0, 1] S.stand (Host.reduceAdd (mulf (hsplit S x) (hsplit S x)) (constant ⟨0, ![]⟩ .f32 0x00000000#32) S.last S.one))
    (broadcastInDim ⟨3, ![R, 4, 1]⟩ ![] S.point (constant ⟨0, ![]⟩ .f32 0x43000000#32)))
    (broadcastInDim ⟨3, ![R, 4, 1]⟩ ![] S.point (constant ⟨0, ![]⟩ .f32 0x358637BD#32))))

/-- Each head's rows normalised, times the gain, as the references compute them. -/
def hheads : FVec Ideal ⟨2, ![R, 512]⟩ .f32 :=
  shapeCast ⟨2, ![R, 512]⟩ (mulf (mulf (hsplit S x) (hheadRoot S x))
    (broadcastInDim ⟨3, ![R, 4, 128]⟩ ![0, 1, 2] S.down (broadcastInDim ⟨3, ![1, 1, 128]⟩ ![2] S.lie g))) S.join

theorem hsplit_at (i : Fin R) (h : Fin 4) (j : Fin 128) : hsplit S x (ix3 i h j) = x (ix2 i (hcol h j)) :=
  shapeCast_apply x S.split (ix3 i h j) (ix2 i (hcol h j)) <| by
    rw [Shape.rowMajor_val_two, Shape.rowMajor_val_three]
    show i.val * 512 + (h.val * 128 + j.val) = (i.val * 4 + h.val) * 128 + j.val
    omega

theorem hheadRoot_at (i : Fin R) (h : Fin 4) (j : Fin 128) : hheadRoot S x (ix3 i h j) = rs 128 eps fun k => x (ix2 i (hcol h k)) := by
  rw [hheadRoot, broadcastInDim_apply _ S.wide _ _ (ix3 i h (0 : Fin 1)) (fun a => match a with
    | ⟨0, _⟩ => by show i.val = if R = 1 then 0 else i.val; rw [if_neg S.rows_ne]
    | ⟨1, _⟩ => by show h.val = if (4 : ℕ) = 1 then 0 else h.val; rw [if_neg (by decide)]
    | ⟨2, _⟩ => by show 0 = if (1 : ℕ) = 1 then 0 else j.val; rw [if_pos rfl])]
  refine congrArg Ideal.rsqrt ?_
  show Ideal.div (broadcastInDim _ _ S.stand _ (ix3 i h (0 : Fin 1))) (Ideal.ofBits .f32 0x43000000#32) + Ideal.ofBits .f32 0x358637BD#32 = _
  rw [w128_f32, eps_f32, broadcastInDim_apply _ S.stand _ _ (ix2 i h) (fun a => match a with
    | ⟨0, _⟩ => by show i.val = if R = 1 then 0 else i.val; rw [if_neg S.rows_ne]
    | ⟨1, _⟩ => by show h.val = if (4 : ℕ) = 1 then 0 else h.val; rw [if_neg (by decide)]), add_zero_at S.last S.last' S.one, var]
  refine congrArg (fun z : EReal => Ideal.div z _ + _) (Finset.sum_congr rfl fun k _ => ?_)
  have e : S.last'.lift (ix2 i h) k = ix3 i h k := funext fun a => match a with
    | ⟨0, _⟩ => rfl
    | ⟨1, _⟩ => rfl
    | ⟨2, _⟩ => rfl
  exact (congrArg (fun y => hsplit S x y * hsplit S x y) e).trans (congrArg (fun z : EReal => z * z) (hsplit_at S x i h k))

theorem hheads_eq : hheads S x g = headsN x g := by
  funext y
  obtain ⟨i, j, rfl⟩ : ∃ (i : Fin R) (j : Fin 512), y = ix2 i j := ⟨y 0, y 1, eq_ix2 y⟩
  refine (shapeCast_apply _ S.join (ix2 i j) (ix3 i (head j) (lane j)) ?_).trans (congrArg₂ (fun a b : EReal => a * b)
    (congrArg₂ (fun a b : EReal => a * b) (hsplit_at S x i (head j) (lane j)) (hheadRoot_at S x i (head j) (lane j))) ?_)
  · rw [Shape.rowMajor_val_two, Shape.rowMajor_val_three]
    show (i.val * 4 + j.val / 128) * 128 + j.val % 128 = i.val * 512 + j.val
    omega
  · rw [broadcastInDim_apply _ S.down _ _ (ix3 (0 : Fin 1) (0 : Fin 1) (lane j)) (fun a => match a with
      | ⟨0, _⟩ => by show 0 = if (1 : ℕ) = 1 then 0 else i.val; rw [if_pos rfl]
      | ⟨1, _⟩ => by show 0 = if (1 : ℕ) = 1 then 0 else (head j).val; rw [if_pos rfl]
      | ⟨2, _⟩ => by show (lane j).val = if (128 : ℕ) = 1 then 0 else (lane j).val; rw [if_neg (by decide)]),
      broadcastInDim_apply _ S.lie _ _ (ix1 (lane j)) (fun a => match a with
      | ⟨0, _⟩ => by show (lane j).val = if (128 : ℕ) = 1 then 0 else (lane j).val; rw [if_neg (by decide)])]
    rfl

end

end Cert.Norm

namespace Cert.Reference35Ideal.Hand

open Idealize.ShloMosaic hiding ix1 ix2 ix3 ix4 eq_ix1 eq_ix2 eq_ix3 eq_ix4
open Cert.Reference35Ideal Cert.Reference35Ideal.Gen Cert.Reference35Ideal.Read Idealize.ShloMosaic.ValueIdx Cert.Norm

variable (x0 : (⟨S4096x2048, .f32⟩ : BufTy).Contents (Elt Ideal)) (x1 : (⟨S2048, .f32⟩ : BufTy).Contents (Elt Ideal))

theorem value_eq : val_main_v13 (F := Ideal) x0 x1 = rowsN 2048 x0 x1 :=
  (show val_main_v13 (F := Ideal) x0 x1 = hnorm 0x45000000#32 Cert.Reference24Ideal.Hand.shapes x0 x1 from rfl).trans (hnorm_eq _ _ _ _ 2048 w2048_f32)

end Cert.Reference35Ideal.Hand

namespace Cert.Reference36Ideal.Hand

open Idealize.ShloMosaic hiding ix1 ix2 ix3 ix4 eq_ix1 eq_ix2 eq_ix3 eq_ix4
open Cert.Reference36Ideal Cert.Reference36Ideal.Gen Cert.Reference36Ideal.Read Idealize.ShloMosaic.ValueIdx Cert.Norm

variable (x0 : (⟨S4096x512, .f32⟩ : BufTy).Contents (Elt Ideal)) (x1 : (⟨S512, .f32⟩ : BufTy).Contents (Elt Ideal))

theorem value_eq : val_main_v13 (F := Ideal) x0 x1 = rowsN 512 x0 x1 :=
  (show val_main_v13 (F := Ideal) x0 x1 = hnorm 0x44000000#32 Cert.Reference25Ideal.Hand.shapes x0 x1 from rfl).trans (hnorm_eq _ _ _ _ 512 w512_f32)

end Cert.Reference36Ideal.Hand

namespace Cert.Reference38Ideal.Hand

open Idealize.ShloMosaic hiding ix1 ix2 ix3 ix4 eq_ix1 eq_ix2 eq_ix3 eq_ix4
open Cert.Reference38Ideal Cert.Reference38Ideal.Gen Cert.Reference38Ideal.Read Idealize.ShloMosaic.ValueIdx Cert.Norm

variable (x0 : (⟨S512x2048, .f32⟩ : BufTy).Contents (Elt Ideal)) (x1 : (⟨S2048, .f32⟩ : BufTy).Contents (Elt Ideal))

theorem shapes : Shapes 512 2048 :=
  ⟨by decide, by decide, by decide, by decide, by decide, by decide, by decide, by decide, by decide, by decide, by decide, by decide, by decide, by decide,
    by decide, by decide, by decide, by decide, by decide⟩

theorem value_eq : val_main_v13 (F := Ideal) x0 x1 = rowsN 2048 x0 x1 :=
  (show val_main_v13 (F := Ideal) x0 x1 = hnorm 0x45000000#32 shapes x0 x1 from rfl).trans (hnorm_eq _ _ _ _ 2048 w2048_f32)

end Cert.Reference38Ideal.Hand

namespace Cert.Reference37Ideal.Hand

open Idealize.ShloMosaic hiding ix1 ix2 ix3 ix4 eq_ix1 eq_ix2 eq_ix3 eq_ix4
open Cert.Reference37Ideal Cert.Reference37Ideal.Gen Cert.Reference37Ideal.Read Idealize.ShloMosaic.ValueIdx Cert.Norm

variable (x0 : (⟨S4096x512, .f32⟩ : BufTy).Contents (Elt Ideal)) (x1 : (⟨S128, .f32⟩ : BufTy).Contents (Elt Ideal))

theorem value_eq : val_main_v15 (F := Ideal) x0 x1 = headsN x0 x1 :=
  (show val_main_v15 (F := Ideal) x0 x1 = hheads ⟨by decide, by decide, by decide, by decide, by decide, by decide, by decide, by decide, by decide, by decide,
    by decide⟩ x0 x1 from rfl).trans (hheads_eq _ _ _)

end Cert.Reference37Ideal.Hand

namespace Cert.Reference39Ideal.Hand

open Idealize.ShloMosaic hiding ix1 ix2 ix3 ix4 eq_ix1 eq_ix2 eq_ix3 eq_ix4
open Cert.Reference39Ideal Cert.Reference39Ideal.Gen Cert.Reference39Ideal.Read Idealize.ShloMosaic.ValueIdx Cert.Norm

variable (x0 : (⟨S512x512, .f32⟩ : BufTy).Contents (Elt Ideal)) (x1 : (⟨S128, .f32⟩ : BufTy).Contents (Elt Ideal))

theorem value_eq : val_main_v15 (F := Ideal) x0 x1 = headsN x0 x1 :=
  (show val_main_v15 (F := Ideal) x0 x1 = hheads ⟨by decide, by decide, by decide, by decide, by decide, by decide, by decide, by decide, by decide, by decide,
    by decide⟩ x0 x1 from rfl).trans (hheads_eq _ _ _)

end Cert.Reference39Ideal.Hand

namespace Cert.Reference40Ideal.Hand

open Idealize.ShloMosaic hiding ix1 ix2 ix3 ix4 eq_ix1 eq_ix2 eq_ix3 eq_ix4
open Cert.Reference40Ideal Cert.Reference40Ideal.Gen Cert.Reference40Ideal.Read Idealize.ShloMosaic.ValueIdx Cert.Norm

variable (x0 x1 : (⟨S4096x1024, .f32⟩ : BufTy).Contents (Elt Ideal)) (x2 : (⟨S1024, .f32⟩ : BufTy).Contents (Elt Ideal))

open Cert.Kernel27Ideal.Hand (U gcol grp pos gcol_grp)

theorem value_eq : val_main_v18 (F := Ideal) x0 x1 x2 = groupsN x0 x1 x2 := by
  funext y
  obtain ⟨i, j, rfl⟩ : ∃ (i : Fin 4096) (j : Fin 1024), y = ix2 i j := ⟨y 0, y 1, eq_ix2 y⟩
  have e : idx_main_v17 (ix2 i j) = ix3 i (grp j) (pos j) := funext fun a => Fin.ext <| by
    match a with
    | ⟨0, _⟩ => show (i.val * 1024 + j.val) / 1024 = i.val; omega
    | ⟨1, _⟩ => show (i.val * 1024 + j.val) / 512 % 2 = j.val / 512; omega
    | ⟨2, _⟩ => show (i.val * 1024 + j.val) % 512 = j.val % 512; omega
  show val_main_v17 (F := Ideal) x0 x1 x2 (ix2 i j) = _
  rw [val_main_v17_apply, e]
  refine (congrArg₂ (fun a b : EReal => a * b) (congrArg₂ (fun a b : EReal => a * b) (Cert.Reference27Ideal.Hand.v2_at x0 x1 i (grp j) (pos j))
    (Cert.Reference27Ideal.Hand.v15_at x0 x1 i (grp j) (pos j))) (Cert.Reference27Ideal.Hand.v25_at x2 i (grp j) (pos j))).trans ?_
  exact congrArg (fun z => unit 512 eps _ (pos j) * x2 (ix1 z)) (gcol_grp j)

end Cert.Reference40Ideal.Hand

namespace Cert.Norm

open Idealize.ShloMosaic Cert

theorem wide_out : @algebraic_Kernel35Ideal_Reference35Ideal Kernel35Ideal.Gen.facts Reference35Ideal.Gen.facts := fun m g m' g' _ same =>
  ⟨fun c => rowsN 2048 (Kernel35Ideal.Hand.A0 m c) (Kernel35Ideal.Hand.A1 m c),
    result_is (Kernel35Ideal.Value.run_blocks (F := Ideal) m g) (Kernel35Ideal.Hand.final m),
    result_is (Reference35Ideal.Value.run (F := Ideal) m' g') fun c => by
      rw [Reference35Ideal.Read.val_main_v13_eq, (same c).1, (same c).2]
      exact Reference35Ideal.Hand.value_eq _ _⟩

theorem latent_out : @algebraic_Kernel36Ideal_Reference36Ideal Kernel36Ideal.Gen.facts Reference36Ideal.Gen.facts := fun m g m' g' _ same =>
  ⟨fun c => rowsN 512 (Kernel36Ideal.Hand.A0 m c) (Kernel36Ideal.Hand.A1 m c),
    result_is (Kernel36Ideal.Value.run_blocks (F := Ideal) m g) (Kernel36Ideal.Hand.final m),
    result_is (Reference36Ideal.Value.run (F := Ideal) m' g') fun c => by
      rw [Reference36Ideal.Read.val_main_v13_eq, (same c).1, (same c).2]
      exact Reference36Ideal.Hand.value_eq _ _⟩

theorem heads_out : @algebraic_Kernel37Ideal_Reference37Ideal Kernel37Ideal.Gen.facts Reference37Ideal.Gen.facts := fun m g m' g' _ same =>
  ⟨fun c => headsN (Kernel37Ideal.Hand.A0 m c) (Kernel37Ideal.Hand.A1 m c),
    result_is (Kernel37Ideal.Value.run_blocks (F := Ideal) m g) (Kernel37Ideal.Hand.final m),
    result_is (Reference37Ideal.Value.run (F := Ideal) m' g') fun c => by
      rw [Reference37Ideal.Read.val_main_v15_eq, (same c).1, (same c).2]
      exact Reference37Ideal.Hand.value_eq _ _⟩

theorem memory_out : @algebraic_Kernel38Ideal_Reference38Ideal Kernel38Ideal.Gen.facts Reference38Ideal.Gen.facts := fun m g m' g' _ same =>
  ⟨fun c => rowsN 2048 (Kernel38Ideal.Hand.A0 m c) (Kernel38Ideal.Hand.A1 m c),
    result_is (Kernel38Ideal.Value.run_blocks (F := Ideal) m g) (Kernel38Ideal.Hand.final m),
    result_is (Reference38Ideal.Value.run (F := Ideal) m' g') fun c => by
      rw [Reference38Ideal.Read.val_main_v13_eq, (same c).1, (same c).2]
      exact Reference38Ideal.Hand.value_eq _ _⟩

theorem memory_heads_out : @algebraic_Kernel39Ideal_Reference39Ideal Kernel39Ideal.Gen.facts Reference39Ideal.Gen.facts := fun m g m' g' _ same =>
  ⟨fun c => headsN (Kernel39Ideal.Hand.A0 m c) (Kernel39Ideal.Hand.A1 m c),
    result_is (Kernel39Ideal.Value.run_blocks (F := Ideal) m g) (Kernel39Ideal.Hand.final m),
    result_is (Reference39Ideal.Value.run (F := Ideal) m' g') fun c => by
      rw [Reference39Ideal.Read.val_main_v15_eq, (same c).1, (same c).2]
      exact Reference39Ideal.Hand.value_eq _ _⟩

theorem gate_out : @algebraic_Kernel40Ideal_Reference40Ideal Kernel40Ideal.Gen.facts Reference40Ideal.Gen.facts := fun m g m' g' _ same =>
  ⟨fun c => groupsN (Kernel40Ideal.Hand.A0 m c) (Kernel40Ideal.Hand.A1 m c) (Kernel40Ideal.Hand.A2 m c),
    result_is (Kernel40Ideal.Value.run_blocks (F := Ideal) m g) (Kernel40Ideal.Hand.final m),
    result_is (Reference40Ideal.Value.run (F := Ideal) m' g') fun c => by
      rw [Reference40Ideal.Read.val_main_v18_eq, (same c).1, (same c).2.1, (same c).2.2]
      exact Reference40Ideal.Hand.value_eq _ _ _⟩

end Cert.Norm

end
-- ==== Proof.Step.AdamW.lean ====
module

public import proofs.«01_k».proof.Defs
public import proofs.«01_k».proof.Proof.Gen.Kernel41Ideal.Value
public import proofs.«01_k».proof.Proof.Gen.Reference41Ideal.Read
public import proofs.«01_k».proof.Proof.Gen.Reference41Ideal.Run
public import Idealize.ShloMosaic.Adequacy
public import Idealize.ShloMosaic.Init

/- The update of a weight with its moments: the kernel's operations at an entry are the reference's. -/

@[expose] public section

noncomputable section

namespace Cert.Step

open Idealize.ShloMosaic Cert

theorem adamw : @algebraic_Kernel41Ideal_Reference41Ideal Kernel41Ideal.Gen.facts Reference41Ideal.Gen.facts := by
  intro m g m' g' _ same
  refine ⟨_, _, _, Kernel41Ideal.Value.run (F := Ideal) m g, ?_⟩
  refine (θ_run Reference41Ideal.defs _ _).mono (fun r h c => ?_) (Reference41Ideal.Value.run (F := Ideal) m' g')
  obtain ⟨e0, e1, e2, e3⟩ := same c
  refine ⟨(h c).1.trans ?_, (h c).2.1.trans ?_, (h c).2.2.1.trans ?_, (h c).2.2.2⟩
  · rw [e0, e1, e2, e3]
    rfl
  · rw [e1, e2]
    rfl
  · rw [e1, e3]
    rfl

end Cert.Step

end
-- ==== Proof.Step.Loss.lean ====
module

public import proofs.«01_k».proof.Defs
public import proofs.«01_k».proof.Proof.Norm.Tile
public import proofs.«01_k».proof.Proof.Norm.Row
public import proofs.«01_k».proof.Proof.Gen.Kernel42Ideal.Value
public import proofs.«01_k».proof.Proof.Gen.Reference42Ideal.Read
public import Idealize.ShloMosaic.Lib.Pointwise.Reduce
public import Idealize.ShloMosaic.Lib.Pipeline.Value
public import Idealize.ShloMosaic.Lib.Pipeline.ValueKit.Acc
public import Idealize.ShloMosaic.Lib.Pipeline.ValueKit.Geometry

/- The loss and its gradient: what the kernel leaves, and its reference. -/

@[expose] public section

set_option maxRecDepth 16384

noncomputable section

namespace Cert.Step.Loss

open Idealize.ShloMosaic hiding ix1 ix2 ix3 ix4 eq_ix1 eq_ix2 eq_ix3 eq_ix4
open Idealize.ShloMosaic.ValueIdx Cert.Norm Cert.Tile Cert.Row
open scoped BigOperators

/-- The rows' array. -/
abbrev Rows := (⟨2, ![4096, 2048]⟩ : Shape).Idx → EReal

/-! ## The literals -/

theorem half_lit : Ideal.ofBits .f32 0x3F000000#32 = ((1 / 2 : ℝ) : EReal) := by
  simp [Ideal.ofBits, Ideal.ieee]
  rw [← EReal.coe_mul]
  norm_num

theorem two_lit : Ideal.ofBits .f32 0x40000000#32 = ((2 : ℝ) : EReal) := by
  simp [Ideal.ofBits, Ideal.ieee]
  rw [← EReal.coe_mul]
  norm_num

theorem one_lit : Ideal.ofBits .f32 0x3F800000#32 = ((1 : ℝ) : EReal) := by
  simp [Ideal.ofBits, Ideal.ieee]
  rw [← EReal.coe_mul]
  norm_num

theorem part_lit : Ideal.ofBits .f32 0x3A000000#32 = ((1 / 2048 : ℝ) : EReal) := by
  simp [Ideal.ofBits, Ideal.ieee]
  rw [← EReal.coe_mul]
  norm_num

/-- Half of the mean's weight, times twice a number, is the number times the mean's weight. -/
theorem weight (e : EReal) :
    Ideal.div (Ideal.ofBits .f32 0x3F000000#32 * Ideal.ofBits .f32 0x3F800000#32) (Ideal.ofBits .f32 0x45000000#32) * (Ideal.ofBits .f32 0x40000000#32 * e)
      = e * Ideal.ofBits .f32 0x3A000000#32 := by
  rw [half_lit, one_lit, w2048_f32, two_lit, part_lit, Ideal.div, if_neg (by norm_num), ← EReal.coe_mul, ← EReal.coe_inv, ← EReal.coe_mul, ← mul_assoc,
    ← EReal.coe_mul, mul_comm e]
  norm_num

/-! ## The results -/

/-- The gradient of the loss in an entry. -/
def DY (y t : Rows) : Rows := fun i => (y i - t i) * Ideal.ofBits .f32 0x3A000000#32

/-- A row's mean square error. -/
def err (y t : Rows) (i : Fin 4096) : EReal :=
  Ideal.div (∑ k : Fin 2048, (y (ix2 i k) - t (ix2 i k)) * (y (ix2 i k) - t (ix2 i k))) (Ideal.ofBits .f32 0x45000000#32)

/-- The loss, in every entry of the array it is returned in. -/
def LO (y t : Rows) : (⟨2, ![8, 128]⟩ : Shape).Idx → EReal := fun _ => Ideal.ofBits .f32 0x3F000000#32 * ∑ i : Fin 4096, err y t i

/-! ## The sum of a tile's rows -/

theorem box_at {α : Type} {a : ℕ} (x : (⟨2, ![a, 1]⟩ : Shape).Idx → α) (h : (⟨2, ![a, 1]⟩ : Shape).ShapeCasts ⟨3, ![1, a, 1]⟩) (z : Fin 1) (r : Fin a)
    (o : Fin 1) : shapeCast ⟨3, ![1, a, 1]⟩ x h (ix3 z r o) = x (ix2 r (0 : Fin 1)) := by
  obtain rfl : z = 0 := Subsingleton.elim _ _
  obtain rfl : o = 0 := Subsingleton.elim _ _
  refine shapeCast_apply x h _ _ ?_
  rw [Shape.rowMajor_val_three, Shape.rowMajor_val_two]
  show r.val * 1 + 0 = (0 * a + r.val) * 1 + 0
  omega

theorem boxSum_at {a : ℕ} (h : (⟨3, ![1, a, 1]⟩ : Shape).Reduces [1, 2] ⟨1, ![1]⟩) (hs : (⟨2, ![a, 1]⟩ : Shape).ShapeCasts ⟨3, ![1, a, 1]⟩)
    (x : FVec Ideal ⟨2, ![a, 1]⟩ .f32) (j : (⟨1, ![1]⟩ : Shape).Idx) :
    multiReduction .add [1, 2] ⟨1, ![1]⟩ (shapeCast ⟨3, ![1, a, 1]⟩ x hs : FVec Ideal ⟨3, ![1, a, 1]⟩ .f32) 0x00000000#32 h (.inl rfl) rfl j
      = ∑ r : Fin a, x (ix2 r (0 : Fin 1)) :=
  (Ideal.reduceAdd_r3_a12 h _ j).trans <| Finset.sum_congr rfl fun r _ =>
    (Fin.sum_univ_one _).trans (box_at x hs _ r 0)

end Cert.Step.Loss

namespace Cert.Kernel42Ideal.Hand

open Idealize.ShloMosaic hiding ix1 ix2 ix3 ix4 eq_ix1 eq_ix2 eq_ix3 eq_ix4
open Cert.Kernel42Ideal Cert.Kernel42Ideal.Gen Cert.Norm Cert.Tile Cert.Step.Loss Cert.Row
open Idealize.ShloMosaic.TcCoe Idealize.ShloMosaic.ValueIdx
open scoped BigOperators

variable (m : (ℓ : Loc nD τ sig) → Buf (Elt Ideal) ℓ) (c : Dev nD)

/-- The argument arrays: the rows, and what they should be. -/
abbrev A0 : Rows := m ((c.tc : Thread nD τ).loc main_arg0)
abbrev A1 : Rows := m ((c.tc : Thread nD τ).loc main_arg1)

theorem idx_0 : ∀ t : Fin cfg0.N, win0_0.index t = ![t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_4 : ∀ t : Fin cfg0.N, win0_4.index t = ![t.val, 0] := (by decide +kernel : ∀ t : Fin grid0.N, _)

/-- A row of a grid point's tile, among all. -/
def rowOf (t : Fin cfg0.N) (r : Fin 256) : Fin 4096 := ⟨t.val * 256 + r.val, by have : t.val < 16 := t.isLt; omega⟩

theorem blk_0 (t : Fin cfg0.N) (r : Fin 256) (x : Fin 2048) : iblk m c 0 t (ix2 r x) = A0 m c (ix2 (rowOf t r) x) := by
  blk_simp [iblk]
  refine congrArg (A0 m c) (funext fun a => Fin.ext ?_)
  match a with
  | ⟨0, _⟩ => blk_simp [idx_0]; rfl
  | ⟨1, _⟩ => blk_simp [idx_0]

theorem blk_1 (t : Fin cfg0.N) (r : Fin 256) (x : Fin 2048) : iblk m c 1 t (ix2 r x) = A1 m c (ix2 (rowOf t r) x) := by
  blk_simp [iblk]
  refine congrArg (A1 m c) (funext fun a => Fin.ext ?_)
  match a with
  | ⟨0, _⟩ => blk_simp [idx_1]; rfl
  | ⟨1, _⟩ => blk_simp [idx_1]

/-! ## The tile's arrays -/

theorem zero_pay (i : S8x128.Idx) : k0_pay1 (F := Ideal) i = (0 : EReal) := Ideal.ofBits_zero_f32

theorem diff_at (t : Fin cfg0.N) (r : Fin 256) (x : Fin 2048) :
    k0_pay3 (F := Ideal) (iblk m c 0 t) (iblk m c 1 t) (ix2 r x) = DY (A0 m c) (A1 m c) (ix2 (rowOf t r) x) := by
  exact congrArg₂ (fun a b : EReal => (a - b) * Ideal.ofBits .f32 0x3A000000#32) (blk_0 m c t r x) (blk_1 m c t r x)

/-- What one grid point adds to the loss. -/
def part (t : Fin cfg0.N) : EReal := Ideal.ofBits .f32 0x3F000000#32 * ∑ r : Fin 256, err (A0 m c) (A1 m c) (rowOf t r)

theorem loss_at (t : Fin cfg0.N) (old : FVec Ideal S8x128 .f32) (i : S8x128.Idx) :
    k0_pay5 (F := Ideal) (iblk m c 0 t) (iblk m c 1 t) old i = old i + part m c t := by
  refine congrArg₂ (· + ·) (same_at old _ i) (congrArg (Ideal.ofBits .f32 0x3F000000#32 * ·) ?_)
  refine (boxSum_at reduces_S1x256x1_S1 shapeCasts_S256x1_S1x256x1 _ _).trans (Finset.sum_congr rfl fun r _ => ?_)
  refine congrArg (Ideal.div · (Ideal.ofBits .f32 0x45000000#32)) ?_
  refine (stand_at _ shapeCasts_S256_S256x1 r).trans ((rowSum_at reduces_S256x2048_S256 _ r).trans (Finset.sum_congr rfl fun k _ => ?_))
  exact congrArg₂ (fun a b : EReal => (a - b) * (a - b)) (blk_0 m c t r k) (blk_1 m c t r k)

theorem first_loss (t : Fin cfg0.N) (h0 : t.val % 16 = 0) (i : S8x128.Idx) : (outsAt0 m c t.val t.isLt).2.1 i = part m c t := by
  rw [outsAt0_A m c t h0]
  dsimp only
  frame_out
  rw [loss_at, zero_pay, zero_add]

theorem next_loss (t : Fin cfg0.N) (h0 : ¬t.val % 16 = 0) (i : S8x128.Idx) :
    (outsAt0 m c t.val t.isLt).2.1 i = (outsAt0 m c (t.val - 1) (by omega)).2.1 i + part m c t := by
  rw [outsAt0_B m c t h0]
  dsimp only
  frame_out
  exact loss_at m c t _ i

theorem loss_upto (i : S8x128.Idx) (n : ℕ) (h : n < cfg0.N) :
    (outsAt0 m c n h).2.1 i = ∑ s : Fin (n + 1), part m c ⟨s.val, lt_of_lt_of_le s.isLt h⟩ :=
  carried (fun n h => (outsAt0 m c n h).2.1 i) (fun t => part m c t) (fun h => first_loss m c ⟨0, h⟩ rfl i)
    (fun n h => next_loss m c ⟨n + 1, h⟩ (by have : n + 1 < 16 := h; show ¬(n + 1) % 16 = 0; omega) i) n h

theorem loss_all : ∑ s : Fin 16, part m c s = Ideal.ofBits .f32 0x3F000000#32 * ∑ i : Fin 4096, err (A0 m c) (A1 m c) i := by
  rw [← Fin.sum_mul_add_fin 16 256 fun i : Fin 4096 => err (A0 m c) (A1 m c) i, half_lit, mul_sum_of _ _ (by norm_num)]
  refine Finset.sum_congr rfl fun s _ => ?_
  exact congrArg (· * ∑ r : Fin 256, err (A0 m c) (A1 m c) (rowOf s r)) half_lit

/-! ## The three outputs -/

theorem out2_at (t : Fin cfg0.N) (r : Fin 256) (x : Fin 2048) :
    (outsAt0 m c t.val t.isLt).1 (ix2 r x) = DY (A0 m c) (A1 m c) (ix2 (rowOf t r) x) := by
  by_cases h0 : t.val % 16 = 0
  · rw [outsAt0_A m c t h0]
    dsimp only
    frame_out
    exact diff_at m c t r x
  · rw [outsAt0_B m c t h0]
    dsimp only
    frame_out
    exact diff_at m c t r x

theorem out4_at (t : Fin cfg0.N) (r : Fin 256) (x : Fin 2048) :
    (outsAt0 m c t.val t.isLt).2.2 (ix2 r x) = DY (A0 m c) (A1 m c) (ix2 (rowOf t r) x) := by
  by_cases h0 : t.val % 16 = 0
  · rw [outsAt0_A m c t h0]
    dsimp only
    frame_out
    exact diff_at m c t r x
  · rw [outsAt0_B m c t h0]
    dsimp only
    frame_out
    exact diff_at m c t r x

theorem final_dy : (dats m 0 c).arrAt 2 cfg0.N = DY (A0 m c) (A1 m c) := by
  refine (dats m 0 c).arrAt_eq_of_covers 2 _ (by decide +kernel) fun t hf y => ?_
  blk_simp
  rw [after0_2]
  obtain ⟨r, x, rfl⟩ : ∃ (r : Fin 256) (x : Fin 2048), y = ix2 r x := ⟨y 0, y 1, eq_ix2 y⟩
  have e : ((cfg0.win 2).blk t).view.emb (ix2 r x) = ix2 (rowOf t r) x := funext fun a => Fin.ext <| by
    match a with
    | ⟨0, _⟩ => blk_simp [idx_2]; rfl
    | ⟨1, _⟩ => blk_simp [idx_2]
  rw [e]
  exact out2_at m c t r x

theorem final_copy : (dats m 0 c).arrAt 4 cfg0.N = DY (A0 m c) (A1 m c) := by
  refine (dats m 0 c).arrAt_eq_of_covers 4 _ (by decide +kernel) fun t hf y => ?_
  blk_simp
  rw [after0_4]
  obtain ⟨r, x, rfl⟩ : ∃ (r : Fin 256) (x : Fin 2048), y = ix2 r x := ⟨y 0, y 1, eq_ix2 y⟩
  have e : ((cfg0.win 4).blk t).view.emb (ix2 r x) = ix2 (rowOf t r) x := funext fun a => Fin.ext <| by
    match a with
    | ⟨0, _⟩ => blk_simp [idx_4]; rfl
    | ⟨1, _⟩ => blk_simp [idx_4]
  rw [e]
  exact out4_at m c t r x

theorem final_loss : (dats m 0 c).arrAt 3 cfg0.N = LO (A0 m c) (A1 m c) := by
  refine (dats m 0 c).arrAt_eq_of_covers 3 _ (by decide +kernel) fun t hf y => ?_
  blk_simp
  rw [after0_3]
  have ht : t.val = 15 := by have := (flush0_3 t).mp hf; have : t.val < 16 := t.isLt; omega
  obtain rfl : t = ⟨15, by decide⟩ := Fin.ext ht
  exact (loss_upto m c y 15 _).trans (loss_all m c)

end Cert.Kernel42Ideal.Hand

namespace Cert.Reference42Ideal.Hand

open Idealize.ShloMosaic hiding ix1 ix2 ix3 ix4 eq_ix1 eq_ix2 eq_ix3 eq_ix4
open Cert.Reference42Ideal Cert.Reference42Ideal.Gen Cert.Reference42Ideal.Read Idealize.ShloMosaic.ValueIdx Cert.Step.Loss Cert.Norm

variable (x0 x1 : (⟨S4096x2048, .f32⟩ : BufTy).Contents (Elt Ideal))

theorem dy_eq : val_main_v14 (F := Ideal) x0 x1 = DY x0 x1 := by
  funext i
  rw [val_main_v14_apply, val_main_v13_apply, val_main_v12_apply, val_main_v10_apply, val_main_v11_apply, val_main_v3_apply, val_main_v2_apply]
  exact weight (x0 i - x1 i)

theorem copy_eq : val_main_v16 (F := Ideal) x0 x1 = DY x0 x1 := dy_eq x0 x1

theorem err_eq (i : Fin 4096) : val_main_v6 (F := Ideal) x0 x1 (ix1 i) = err x0 x1 i := by
  rw [val_main_v6_apply, val_main_v5_apply, val_main_v4_apply]
  refine congrArg (Ideal.div · (Ideal.ofBits .f32 0x45000000#32)) ?_
  refine (congrArg (· + _) (Ideal.ofBits_zero_f32)).trans ((zero_add _).trans (Finset.sum_congr rfl fun k _ => ?_))
  have e : idx_main_v4 (ix1 i) k = ix2 i k := funext fun a => match a with
    | ⟨0, _⟩ => rfl
    | ⟨1, _⟩ => rfl
  rw [e]
  rfl

theorem loss_eq : val_main_v15 (F := Ideal) x0 x1 = LO x0 x1 := by
  funext i
  rw [val_main_v15_apply, val_main_v8_apply, val_main_v7_apply]
  refine congrArg (Ideal.ofBits .f32 0x3F000000#32 * ·) ?_
  refine (congrArg (· + _) (Ideal.ofBits_zero_f32)).trans ((zero_add _).trans ?_)
  refine Fintype.sum_equiv ⟨fun j : S4096.Idx => (j 0 : Fin 4096), fun k => ix1 k, fun j => (eq_ix1 j).symm, fun _ => rfl⟩ _ _ fun j => ?_
  exact (congrArg (val_main_v6 (F := Ideal) x0 x1) (eq_ix1 j)).trans (err_eq x0 x1 (j 0))

end Cert.Reference42Ideal.Hand

end
-- ==== Proof.Norm.Memory.lean ====
module

public import proofs.«01_k».proof.Proof.Norm.Ref
public import proofs.«01_k».proof.Proof.Norm.ForwardRef
public import proofs.«01_k».proof.Proof.Gen.Kernel43Ideal.Value
public import proofs.«01_k».proof.Proof.Gen.Reference43Ideal.Read
public import Idealize.ShloMosaic.Lib.Pipeline.Value
public import Idealize.ShloMosaic.Lib.Pipeline.ValueKit.Acc
public import Idealize.ShloMosaic.Lib.Pipeline.ValueKit.Geometry

/- The gradient of the memory's normalisation: what its kernel leaves in two tiles of 256 rows, and its reference. -/

@[expose] public section

set_option maxRecDepth 16384

noncomputable section

namespace Cert.Kernel43Ideal.Hand

open Idealize.ShloMosaic hiding ix1 ix2 ix3 ix4 eq_ix1 eq_ix2 eq_ix3 eq_ix4
open Cert.Kernel43Ideal Cert.Kernel43Ideal.Gen Cert.Norm
open Idealize.ShloMosaic.TcCoe Idealize.ShloMosaic.ValueIdx
open scoped BigOperators

variable (m : (ℓ : Loc nD τ sig) → Buf (Elt Ideal) ℓ) (c : Dev nD)

/-- The argument arrays: the memory's rows, the gain, and the result's gradient. -/
abbrev A0 : (⟨2, ![512, 2048]⟩ : Shape).Idx → EReal := m ((c.tc : Thread nD τ).loc main_arg0)
abbrev A1 : (⟨1, ![2048]⟩ : Shape).Idx → EReal := m ((c.tc : Thread nD τ).loc main_arg1)
abbrev A2 : (⟨2, ![512, 2048]⟩ : Shape).Idx → EReal := m ((c.tc : Thread nD τ).loc main_arg2)

theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![0, 0] := (by decide +kernel : ∀ t : Fin grid0.N, _)

/-- A row of a grid point's tile, among all. -/
def rowOf (t : Fin cfg0.N) (r : Fin 256) : Fin 512 := ⟨t.val * 256 + r.val, by have : t.val < 2 := t.isLt; omega⟩

/-- The gain as the kernel is given it: one row. -/
theorem gain_v0 : V m c main_v0 = shapeCast S1x2048 (A1 m c) shapeCasts_S2048_S1x2048 := by
  unfold_abbrev_sides
  after_results
  rfl

theorem blk_0 (t : Fin cfg0.N) (r : Fin 256) (x : Fin 2048) : iblk m c 0 t (ix2 r x) = A0 m c (ix2 (rowOf t r) x) := by
  blk_simp [iblk]
  refine congrArg (A0 m c) (funext fun a => Fin.ext ?_)
  match a with
  | ⟨0, _⟩ => blk_simp [idx_0]; rfl
  | ⟨1, _⟩ => blk_simp [idx_0]

theorem blk_1 (t : Fin cfg0.N) (x : Fin 2048) : iblk m c 1 t (ix2 (0 : Fin 1) x) = A1 m c (ix1 x) := by
  refine Eq.trans ?_ (lie_at (A1 m c) shapeCasts_S2048_S1x2048 (0 : Fin 1) x)
  rw [← gain_v0]
  blk_simp [iblk]
  refine congrArg (V m c main_v0) (funext fun a => Fin.ext ?_)
  match a with
  | ⟨0, _⟩ => blk_simp [idx_1]
  | ⟨1, _⟩ => blk_simp [idx_1]

theorem blk_2 (t : Fin cfg0.N) (r : Fin 256) (x : Fin 2048) : iblk m c 2 t (ix2 r x) = A2 m c (ix2 (rowOf t r) x) := by
  blk_simp [iblk]
  refine congrArg (A2 m c) (funext fun a => Fin.ext ?_)
  match a with
  | ⟨0, _⟩ => blk_simp [idx_2]; rfl
  | ⟨1, _⟩ => blk_simp [idx_2]

/-! ## The tile's arrays -/

theorem grad_at (t : Fin cfg0.N) (r : Fin 256) (x : Fin 2048) :
    k0_pay5 (F := Ideal) (iblk m c 0 t) (iblk m c 2 t) (iblk m c 1 t) (ix2 r x) = dx 2048 (A0 m c) (A2 m c) (A1 m c) (rowOf t r) x := by
  refine (gradT_at 0x45000000#32 reduces_S256x2048_S256 shapeCasts_S256_S256x1 broadcasts_S256x1_S256x2048 2048 w2048_f32 (by decide) _
    (scaledT shapeCasts_S1x2048_S1x2048 broadcasts_S1x2048_S256x2048 (iblk m c 2 t) (iblk m c 1 t)) r x).trans ?_
  refine congrArg₂ (fun a b => grad 2048 eps a b x) (funext fun k => blk_0 m c t r k) (funext fun k => ?_)
  rw [scaledT_at _ _ (by decide), blk_2, blk_1]

/-- What one grid point adds to the gain's gradient. -/
def part (t : Fin cfg0.N) (x : Fin 2048) : EReal :=
  ∑ r : Fin 256, A2 m c (ix2 (rowOf t r) x) * unit 2048 eps (fun k => A0 m c (ix2 (rowOf t r) k)) x

theorem gain_at (t : Fin cfg0.N) (old : FVec Ideal S1x2048 .f32) (x : Fin 2048) :
    k0_pay4 (F := Ideal) (iblk m c 0 t) (iblk m c 2 t) old (ix2 (0 : Fin 1) x) = old (ix2 (0 : Fin 1) x) + part m c t x := by
  refine (gainT_at 0x45000000#32 reduces_S256x2048_S256 reduces_S256x2048_S2048 shapeCasts_S256_S256x1 shapeCasts_S2048_S1x2048
    shapeCasts_S1x2048_S1x2048 broadcasts_S256x1_S256x2048 2048 w2048_f32 (by decide) _ _ old x).trans ?_
  refine congrArg (fun z : EReal => old (ix2 (0 : Fin 1) x) + z) (Finset.sum_congr rfl fun r _ => ?_)
  rw [blk_2]
  exact congrArg (fun a => _ * unit 2048 eps a x) (funext fun k => blk_0 m c t r k)

/-- The two grid points' shares of the gain's gradient. -/
theorem gain_first (t : Fin cfg0.N) (h0 : t.val % 2 = 0) (x : Fin 2048) : (outsAt0 m c t.val t.isLt).2 (ix2 (0 : Fin 1) x) = part m c t x := by
  rw [outsAt0_A m c t h0]
  dsimp only
  frame_out
  refine (gain_at m c t _ x).trans ((congrArg (· + part m c t x) ?_).trans (zero_add _))
  exact Ideal.ofBits_zero_f32

theorem gain_last (t : Fin cfg0.N) (h0 : ¬t.val % 2 = 0) (x : Fin 2048) :
    (outsAt0 m c t.val t.isLt).2 (ix2 (0 : Fin 1) x) = part m c ⟨t.val - 1, by omega⟩ x + part m c t x := by
  rw [outsAt0_B m c t h0]
  dsimp only
  frame_out
  refine (gain_at m c t _ x).trans (congrArg (· + part m c t x) ?_)
  exact gain_first m c ⟨t.val - 1, by omega⟩ (by have : t.val < 2 := t.isLt; show (t.val - 1) % 2 = 0; omega) x

/-! ## The two outputs -/

theorem rows_out (t : Fin cfg0.N) (r : Fin 256) (x : Fin 2048) :
    (outsAt0 m c t.val t.isLt).1 (ix2 r x) = dx 2048 (A0 m c) (A2 m c) (A1 m c) (rowOf t r) x := by
  by_cases h0 : t.val % 2 = 0
  · rw [outsAt0_A m c t h0]
    dsimp only
    frame_out
    exact grad_at m c t r x
  · rw [outsAt0_B m c t h0]
    dsimp only
    frame_out
    exact grad_at m c t r x

/-- The rows' gradient. -/
def DX (x : (⟨2, ![512, 2048]⟩ : Shape).Idx → EReal) (g : (⟨1, ![2048]⟩ : Shape).Idx → EReal) (dy : (⟨2, ![512, 2048]⟩ : Shape).Idx → EReal) :
    (⟨2, ![512, 2048]⟩ : Shape).Idx → EReal := fun y => dx 2048 x dy g (y 0) (y 1)

/-- The gain's gradient, as one row. -/
def DG (x dy : (⟨2, ![512, 2048]⟩ : Shape).Idx → EReal) : (⟨2, ![1, 2048]⟩ : Shape).Idx → EReal := fun y => dg 2048 x dy (y 1)

theorem final_x : (dats m 0 c).arrAt 3 cfg0.N = DX (A0 m c) (A1 m c) (A2 m c) := by
  refine (dats m 0 c).arrAt_eq_of_covers 3 _ (by decide +kernel) fun t hf y => ?_
  blk_simp
  rw [after0_3]
  obtain ⟨r, x, rfl⟩ : ∃ (r : Fin 256) (x : Fin 2048), y = ix2 r x := ⟨y 0, y 1, eq_ix2 y⟩
  have e : ((cfg0.win 3).blk t).view.emb (ix2 r x) = ix2 (rowOf t r) x := funext fun a => Fin.ext <| by
    match a with
    | ⟨0, _⟩ => blk_simp [idx_3]; rfl
    | ⟨1, _⟩ => blk_simp [idx_3]
  rw [e]
  exact rows_out m c t r x

theorem final_gain : (dats m 0 c).arrAt 4 cfg0.N = DG (A0 m c) (A2 m c) := by
  refine (dats m 0 c).arrAt_eq_of_covers 4 _ (by decide +kernel) fun t hf y => ?_
  blk_simp
  rw [after0_4]
  obtain ⟨x, rfl⟩ : ∃ x : Fin 2048, y = ix2 (0 : Fin 1) x :=
    ⟨y 1, (eq_ix2 y).trans (congrArg (fun z => ix2 z (y 1)) (Subsingleton.elim (α := Fin 1) _ _))⟩
  have e : ((cfg0.win 4).blk t).view.emb (ix2 (0 : Fin 1) x) = ix2 (0 : Fin 1) x := funext fun a => Fin.ext <| by
    match a with
    | ⟨0, _⟩ => blk_simp [idx_4]
    | ⟨1, _⟩ => blk_simp [idx_4]
  rw [e]
  have ht : t.val = 1 := by have := (flush0_4 t).mp hf; have : t.val < 2 := t.isLt; omega
  obtain rfl : t = ⟨1, by decide⟩ := Fin.ext ht
  refine (gain_last m c _ (by decide) x).trans ?_
  refine (Fin.sum_univ_two fun s : Fin 2 => part m c s x).symm.trans ?_
  exact (Fin.sum_mul_add_fin 2 256 fun i : Fin 512 => A2 m c (ix2 i x) * unit 2048 eps (fun k => A0 m c (ix2 i k)) x)

end Cert.Kernel43Ideal.Hand

namespace Cert.Reference43Ideal.Hand

open Idealize.ShloMosaic hiding ix1 ix2 ix3 ix4 eq_ix1 eq_ix2 eq_ix3 eq_ix4
open Cert.Reference43Ideal Cert.Reference43Ideal.Gen Cert.Reference43Ideal.Read Idealize.ShloMosaic.ValueIdx Cert.Norm
open Cert.Kernel43Ideal.Hand (DX DG)
open Cert.Reference38Ideal.Hand (shapes)

variable (x0 : (⟨S512x2048, .f32⟩ : BufTy).Contents (Elt Ideal)) (x1 : (⟨S2048, .f32⟩ : BufTy).Contents (Elt Ideal))
  (x2 : (⟨S512x2048, .f32⟩ : BufTy).Contents (Elt Ideal))

theorem x_eq : val_main_v35 (F := Ideal) x0 x1 x2 = DX x0 x1 x2 := by
  funext y
  obtain ⟨i, j, rfl⟩ : ∃ (i : Fin 512) (j : Fin 2048), y = ix2 i j := ⟨y 0, y 1, eq_ix2 y⟩
  rw [show val_main_v35 (F := Ideal) x0 x1 x2 = hgrad 0x45000000#32 shapes x0 x2 x1 from rfl, hgrad_at _ _ _ _ _ 2048 w2048_f32 (by norm_num)]
  rfl

theorem gain_eq : val_main_v36 (F := Ideal) x0 x2 = DG x0 x2 := by
  funext y
  obtain ⟨j, rfl⟩ : ∃ j : Fin 2048, y = ix2 (0 : Fin 1) j :=
    ⟨y 1, (eq_ix2 y).trans (congrArg (fun z => ix2 z (y 1)) (Subsingleton.elim (α := Fin 1) _ _))⟩
  rw [show val_main_v36 (F := Ideal) x0 x2 = hgain 0x45000000#32 shapes x0 x2 from rfl, hgain_at _ _ _ _ 2048 w2048_f32]
  rfl

end Cert.Reference43Ideal.Hand

end
-- ==== Proof.Step.Claims.lean ====
module

public import proofs.«01_k».proof.Proof.Step.AdamW
public import proofs.«01_k».proof.Proof.Step.Loss
public import proofs.«01_k».proof.Proof.Norm.Memory
public import proofs.«01_k».proof.Proof.Gen.Reference42Ideal.Run
public import proofs.«01_k».proof.Proof.Gen.Reference43Ideal.Run

/- The loss, and the gradient of the memory's normalisation, against their references. -/

@[expose] public section

noncomputable section

namespace Cert.Step

open Idealize.ShloMosaic Idealize.SL.Sem Cert

/-- The references end quietly. -/
theorem adamw_frame : @quiescent_Reference41Ideal Reference41Ideal.Gen.facts := fun m g _ =>
  (θ_run Reference41Ideal.defs _ _).mono (fun r h => ⟨fun c => (h c).2.2.2, sem_eq_zero_of_no_sems rfl r.2⟩) (Reference41Ideal.Value.run (F := Ideal) m g)
theorem loss_frame : @quiescent_Reference42Ideal Reference42Ideal.Gen.facts := fun m g _ =>
  (θ_run Reference42Ideal.defs _ _).mono (fun r h => ⟨fun c => (h c).2.2.2, sem_eq_zero_of_no_sems rfl r.2⟩) (Reference42Ideal.Value.run (F := Ideal) m g)
theorem memory_frame : @quiescent_Reference43Ideal Reference43Ideal.Gen.facts := fun m g _ =>
  (θ_run Reference43Ideal.defs _ _).mono (fun r h => ⟨fun c => (h c).2.2, sem_eq_zero_of_no_sems rfl r.2⟩) (Reference43Ideal.Value.run (F := Ideal) m g)

/-- The loss and its gradient, with the gradient's rounded copy, are the reference's. -/
theorem loss : @algebraic_Kernel42Ideal_Reference42Ideal Kernel42Ideal.Gen.facts Reference42Ideal.Gen.facts := by
  intro m g m' g' _ same
  refine ⟨fun c => Loss.DY (Kernel42Ideal.Hand.A0 m c) (Kernel42Ideal.Hand.A1 m c), fun c => Loss.LO (Kernel42Ideal.Hand.A0 m c) (Kernel42Ideal.Hand.A1 m c),
    fun c => Loss.DY (Kernel42Ideal.Hand.A0 m c) (Kernel42Ideal.Hand.A1 m c), ?_, ?_⟩
  · exact (θ_run Kernel42Ideal.defs _ _).mono (fun r h c => ⟨(h c).1.trans (Kernel42Ideal.Hand.final_dy m c),
      (h c).2.1.trans (Kernel42Ideal.Hand.final_loss m c), (h c).2.2.1.trans (Kernel42Ideal.Hand.final_copy m c), (h c).2.2.2⟩)
      (Kernel42Ideal.Value.run_blocks (F := Ideal) m g)
  · refine (θ_run Reference42Ideal.defs _ _).mono (fun r h c => ?_) (Reference42Ideal.Value.run (F := Ideal) m' g')
    obtain ⟨e0, e1⟩ := same c
    refine ⟨(h c).1.trans ?_, (h c).2.1.trans ?_, (h c).2.2.1.trans ?_, (h c).2.2.2⟩
    · rw [Reference42Ideal.Read.val_main_v14_eq, e0, e1]
      exact Reference42Ideal.Hand.dy_eq _ _
    · rw [Reference42Ideal.Read.val_main_v15_eq, e0, e1]
      exact Reference42Ideal.Hand.loss_eq _ _
    · rw [Reference42Ideal.Read.val_main_v16_eq, e0, e1]
      exact Reference42Ideal.Hand.copy_eq _ _

/-- The gradient of the memory's normalisation is the reference's. -/
theorem memory : @algebraic_Kernel43Ideal_Reference43Ideal Kernel43Ideal.Gen.facts Reference43Ideal.Gen.facts := by
  intro m g m' g' _ same
  refine ⟨fun c => Kernel43Ideal.Hand.DX (Kernel43Ideal.Hand.A0 m c) (Kernel43Ideal.Hand.A1 m c) (Kernel43Ideal.Hand.A2 m c),
    fun c => Kernel43Ideal.Hand.DG (Kernel43Ideal.Hand.A0 m c) (Kernel43Ideal.Hand.A2 m c), ?_, ?_⟩
  · exact (θ_run Kernel43Ideal.defs _ _).mono (fun r h c => ⟨(h c).1.trans (Kernel43Ideal.Hand.final_x m c),
      (h c).2.1.trans (Kernel43Ideal.Hand.final_gain m c), (h c).2.2⟩) (Kernel43Ideal.Value.run_blocks (F := Ideal) m g)
  · refine (θ_run Reference43Ideal.defs _ _).mono (fun r h c => ?_) (Reference43Ideal.Value.run (F := Ideal) m' g')
    obtain ⟨e0, e1, e2⟩ := same c
    refine ⟨(h c).1.trans ?_, (h c).2.1.trans ?_, (h c).2.2⟩
    · rw [Reference43Ideal.Read.val_main_v35_eq, e0, e1, e2]
      exact Reference43Ideal.Hand.x_eq _ _ _
    · rw [Reference43Ideal.Read.val_main_v36_eq, e0, e2]
      exact Reference43Ideal.Hand.gain_eq _ _

end Cert.Step

end
-- ==== Proof.Proj.Memory.lean ====
module

public import proofs.«01_k».proof.Defs
public import proofs.«01_k».proof.Proof.Results
public import proofs.«01_k».proof.Proof.Proj.Common
public import proofs.«01_k».proof.Proof.Gen.Kernel30Ideal.Value
public import proofs.«01_k».proof.Proof.Gen.Reference30Ideal.Read
public import proofs.«01_k».proof.Proof.Gen.Reference30Ideal.Run
public import proofs.«01_k».proof.Proof.Gen.Kernel31Ideal.Value
public import proofs.«01_k».proof.Proof.Gen.Reference31Ideal.Read
public import proofs.«01_k».proof.Proof.Gen.Reference31Ideal.Run
public import proofs.«01_k».proof.Proof.Gen.Kernel32Ideal.Value
public import proofs.«01_k».proof.Proof.Gen.Reference32Ideal.Read
public import proofs.«01_k».proof.Proof.Gen.Reference32Ideal.Run
public import proofs.«01_k».proof.Proof.Gen.Kernel33Ideal.Value
public import proofs.«01_k».proof.Proof.Gen.Reference33Ideal.Read
public import proofs.«01_k».proof.Proof.Gen.Reference33Ideal.Run
public import proofs.«01_k».proof.Proof.Gen.Kernel34Ideal.Value
public import proofs.«01_k».proof.Proof.Gen.Reference34Ideal.Read
public import proofs.«01_k».proof.Proof.Gen.Reference34Ideal.Run
public import Idealize.ShloMosaic.Lib.Pipeline.ValueKit.Geometry
public import Idealize.ShloMosaic.Adequacy
public import Idealize.ShloMosaic.Init

/- The projections of the memory: its rows are few, so each product's sum fits a grid point. -/

@[expose] public section

set_option maxRecDepth 16384

noncomputable section

namespace Cert.Proj

open Idealize.ShloMosaic hiding ix1 ix2 ix3 ix4 eq_ix1 eq_ix2 eq_ix3 eq_ix4
open Idealize.ShloMosaic.ValueIdx

theorem tn_tile {M K N tm tn : ℕ} {φ₁ φ₂ : FTy} (A : (⟨2, ![K, M]⟩ : Shape).Idx → EReal) (B : (⟨2, ![K, N]⟩ : Shape).Idx → EReal)
    (a : FVec Ideal ⟨2, ![K, tm]⟩ φ₁) (b : FVec Ideal ⟨2, ![K, tn]⟩ φ₂) {y : (⟨2, ![tm, tn]⟩ : Shape).Idx} {i : (⟨2, ![M, N]⟩ : Shape).Idx}
    (ha : ∀ k, a (ix2 k (y 0)) = A (ix2 k (i 0))) (hb : ∀ k, b (ix2 k (y 1)) = B (ix2 k (i 1))) :
    matmul (Cert.Tile.firsts K tm tn) none a b (constant ⟨2, ![tm, tn]⟩ .f32 0x00000000#32) y = tnArr A B i := by
  rw [eq_ix2 y]
  exact (Cert.Ffn.tn_at a b (y 0) (y 1)).trans (Finset.sum_congr rfl fun k _ => congrArg₂ (· * ·) (ha k) (hb k))

end Cert.Proj

namespace Cert.Kernel30Ideal.Hand

open Idealize.ShloMosaic hiding ix1 ix2 ix3 ix4 eq_ix1 eq_ix2 eq_ix3 eq_ix4
open Cert.Kernel30Ideal Cert.Kernel30Ideal.Gen Cert.Proj
open Idealize.ShloMosaic.TcCoe Idealize.ShloMosaic.ValueIdx

variable (m : (ℓ : Loc nD τ sig) → Buf (Elt Ideal) ℓ) (c : Dev nD)

/-- The argument arrays. -/
abbrev A0 : (⟨2, ![512, 2048]⟩ : Shape).Idx → EReal := m ((c.tc : Thread nD τ).loc main_arg0)
abbrev A1 : (⟨2, ![2048, 512]⟩ : Shape).Idx → EReal := m ((c.tc : Thread nD τ).loc main_arg1)

/-- The arguments' blocks at a point, by the result's. -/
theorem idx : ∀ t : Fin cfg0.N, win0_0.index t = ![win0_2.index t 0, 0] ∧ win0_1.index t = ![0, win0_2.index t 1] :=
  (by decide +kernel : ∀ t : Fin grid0.N, _)

theorem final : (dats m 0 c).arrAt 2 cfg0.N = nnArr (A0 m c) (A1 m c) := by
  refine (dats m 0 c).arrAt_eq_of_covers 2 _ (by decide +kernel) fun t hf y => ?_
  obtain ⟨i0, i1⟩ := idx t
  blk_simp
  rw [after0_2, out0_2, View.canon_cons_unit_lit _ _ _ (by decide), View.ld_unit_lit _ _ (by decide), View.ld_unit_lit _ _ (by decide)]
  refine nn_tile (A0 m c) (A1 m c) (iblk m c 0 t) (iblk m c 1 t) (fun k => ?_) (fun k => ?_) <;> blk_simp [iblk]
  · exact at2 (A0 m c) (by blk_simp [i0] <;> rfl) (by blk_simp [i0] <;> rfl)
  · exact at2 (A1 m c) (by blk_simp [i1] <;> rfl) (by blk_simp [i1] <;> rfl)

end Cert.Kernel30Ideal.Hand

namespace Cert.Reference30Ideal.Hand

open Idealize.ShloMosaic hiding ix1 ix2 ix3 ix4 eq_ix1 eq_ix2 eq_ix3 eq_ix4
open Cert.Reference30Ideal Cert.Reference30Ideal.Read Cert.Proj Idealize.ShloMosaic.ValueIdx

variable (x0 : (⟨S512x2048, .bf16⟩ : BufTy).Contents (Elt Ideal)) (x1 : (⟨S2048x512, .bf16⟩ : BufTy).Contents (Elt Ideal))

theorem value_eq : val_main_v2 (F := Ideal) x0 x1 = nnArr x0 x1 :=
  funext fun y => (val_main_v2_apply x0 x1 y).trans <|
    Finset.sum_congr rfl fun k _ => congrArg₂ (· * ·) (congrArg x0 (eq_ix2 _)) (congrArg x1 (eq_ix2 _))

end Cert.Reference30Ideal.Hand

namespace Cert.Kernel31Ideal.Hand

open Idealize.ShloMosaic hiding ix1 ix2 ix3 ix4 eq_ix1 eq_ix2 eq_ix3 eq_ix4
open Cert.Kernel31Ideal Cert.Kernel31Ideal.Gen Cert.Proj
open Idealize.ShloMosaic.TcCoe Idealize.ShloMosaic.ValueIdx

variable (m : (ℓ : Loc nD τ sig) → Buf (Elt Ideal) ℓ) (c : Dev nD)

/-- The argument arrays. -/
abbrev A0 : (⟨2, ![512, 2048]⟩ : Shape).Idx → EReal := m ((c.tc : Thread nD τ).loc main_arg0)
abbrev A1 : (⟨2, ![2048, 512]⟩ : Shape).Idx → EReal := m ((c.tc : Thread nD τ).loc main_arg1)

/-- The arguments' blocks at a point, by the result's. -/
theorem idx : ∀ t : Fin cfg0.N, win0_0.index t = ![win0_2.index t 0, 0] ∧ win0_1.index t = ![0, win0_2.index t 1] :=
  (by decide +kernel : ∀ t : Fin grid0.N, _)

theorem final : (dats m 0 c).arrAt 2 cfg0.N = nnArr (A0 m c) (A1 m c) := by
  refine (dats m 0 c).arrAt_eq_of_covers 2 _ (by decide +kernel) fun t hf y => ?_
  obtain ⟨i0, i1⟩ := idx t
  blk_simp
  rw [after0_2, out0_2, View.canon_cons_unit_lit _ _ _ (by decide), View.ld_unit_lit _ _ (by decide), View.ld_unit_lit _ _ (by decide)]
  refine nn_tile (φ₁ := .bf16) (φ₂ := .bf16) (A0 m c) (A1 m c) (iblk m c 0 t) (iblk m c 1 t) (fun k => ?_) (fun k => ?_) <;> blk_simp [iblk]
  · exact at2 (A0 m c) (by blk_simp [i0] <;> rfl) (by blk_simp [i0] <;> rfl)
  · exact at2 (A1 m c) (by blk_simp [i1] <;> rfl) (by blk_simp [i1] <;> rfl)

end Cert.Kernel31Ideal.Hand

namespace Cert.Reference31Ideal.Hand

open Idealize.ShloMosaic hiding ix1 ix2 ix3 ix4 eq_ix1 eq_ix2 eq_ix3 eq_ix4
open Cert.Reference31Ideal Cert.Reference31Ideal.Read Cert.Proj Idealize.ShloMosaic.ValueIdx

variable (x0 : (⟨S512x2048, .bf16⟩ : BufTy).Contents (Elt Ideal)) (x1 : (⟨S2048x512, .bf16⟩ : BufTy).Contents (Elt Ideal))

theorem value_eq : val_main_v3 (F := Ideal) x0 x1 = nnArr x0 x1 := Cert.Reference30Ideal.Hand.value_eq x0 x1

end Cert.Reference31Ideal.Hand

namespace Cert.Kernel32Ideal.Hand

open Idealize.ShloMosaic hiding ix1 ix2 ix3 ix4 eq_ix1 eq_ix2 eq_ix3 eq_ix4
open Cert.Kernel32Ideal Cert.Kernel32Ideal.Gen Cert.Proj
open Idealize.ShloMosaic.TcCoe Idealize.ShloMosaic.ValueIdx

variable (m : (ℓ : Loc nD τ sig) → Buf (Elt Ideal) ℓ) (c : Dev nD)

/-- The argument arrays. -/
abbrev A0 : (⟨2, ![512, 512]⟩ : Shape).Idx → EReal := m ((c.tc : Thread nD τ).loc main_arg0)
abbrev A1 : (⟨2, ![2048, 512]⟩ : Shape).Idx → EReal := m ((c.tc : Thread nD τ).loc main_arg1)

/-- The arguments' blocks at a point, by the result's. -/
theorem idx : ∀ t : Fin cfg0.N, win0_0.index t = ![win0_2.index t 0, 0] ∧ win0_1.index t = ![win0_2.index t 1, 0] :=
  (by decide +kernel : ∀ t : Fin grid0.N, _)

theorem final : (dats m 0 c).arrAt 2 cfg0.N = ntArr (A0 m c) (A1 m c) := by
  refine (dats m 0 c).arrAt_eq_of_covers 2 _ (by decide +kernel) fun t hf y => ?_
  obtain ⟨i0, i1⟩ := idx t
  blk_simp
  rw [after0_2, out0_2, View.canon_cons_unit_lit _ _ _ (by decide), View.ld_unit_lit _ _ (by decide), View.ld_unit_lit _ _ (by decide)]
  refine nt_tile (φ₁ := .bf16) (A0 m c) (A1 m c) (iblk m c 0 t) (iblk m c 1 t) (fun k => ?_) (fun k => ?_) <;> blk_simp [iblk]
  · exact at2 (A0 m c) (by blk_simp [i0] <;> rfl) (by blk_simp [i0] <;> rfl)
  · exact at2 (A1 m c) (by blk_simp [i1] <;> rfl) (by blk_simp [i1] <;> rfl)

end Cert.Kernel32Ideal.Hand

namespace Cert.Reference32Ideal.Hand

open Idealize.ShloMosaic hiding ix1 ix2 ix3 ix4 eq_ix1 eq_ix2 eq_ix3 eq_ix4
open Cert.Reference32Ideal Cert.Reference32Ideal.Read Cert.Proj Idealize.ShloMosaic.ValueIdx

variable (x0 : (⟨S512x512, .f32⟩ : BufTy).Contents (Elt Ideal)) (x1 : (⟨S2048x512, .bf16⟩ : BufTy).Contents (Elt Ideal))

theorem value_eq : val_main_v1 (F := Ideal) x0 x1 = ntArr x0 x1 :=
  funext fun y => (val_main_v1_apply x0 x1 y).trans <|
    Finset.sum_congr rfl fun k _ => congrArg₂ (· * ·) (congrArg x0 (eq_ix2 _)) (congrArg x1 (eq_ix2 _))

end Cert.Reference32Ideal.Hand

namespace Cert.Kernel33Ideal.Hand

open Idealize.ShloMosaic hiding ix1 ix2 ix3 ix4 eq_ix1 eq_ix2 eq_ix3 eq_ix4
open Cert.Kernel33Ideal Cert.Kernel33Ideal.Gen Cert.Proj
open Idealize.ShloMosaic.TcCoe Idealize.ShloMosaic.ValueIdx

variable (m : (ℓ : Loc nD τ sig) → Buf (Elt Ideal) ℓ) (c : Dev nD)

/-- The argument arrays. -/
abbrev A0 : (⟨2, ![512, 512]⟩ : Shape).Idx → EReal := m ((c.tc : Thread nD τ).loc main_arg0)
abbrev A1 : (⟨2, ![2048, 512]⟩ : Shape).Idx → EReal := m ((c.tc : Thread nD τ).loc main_arg1)
abbrev A2 : (⟨2, ![512, 2048]⟩ : Shape).Idx → EReal := m ((c.tc : Thread nD τ).loc main_arg2)

/-- The arguments' blocks at a point, by the result's. -/
theorem idx : ∀ t : Fin cfg0.N, win0_0.index t = ![win0_3.index t 0, 0] ∧ win0_1.index t = ![win0_3.index t 1, 0] ∧ win0_2.index t = win0_3.index t :=
  (by decide +kernel : ∀ t : Fin grid0.N, _)

theorem final : (dats m 0 c).arrAt 3 cfg0.N = plus (A2 m c) (ntArr (A0 m c) (A1 m c)) := by
  refine (dats m 0 c).arrAt_eq_of_covers 3 _ (by decide +kernel) fun t hf y => ?_
  obtain ⟨i0, i1, i2⟩ := idx t
  blk_simp
  rw [after0_3, out0_3, View.canon_cons_unit_lit _ _ _ (by decide), View.ld_unit_lit _ _ (by decide), View.ld_unit_lit _ _ (by decide),
    View.ld_unit_lit _ _ (by decide)]
  refine congrArg₂ (· + ·) (nt_tile (φ₁ := .bf16) (A0 m c) (A1 m c) (iblk m c 0 t) (iblk m c 1 t) (fun k => ?_) (fun k => ?_)) ?_ <;> blk_simp [iblk]
  · exact at2 (A0 m c) (by blk_simp [i0] <;> rfl) (by blk_simp [i0] <;> rfl)
  · exact at2 (A1 m c) (by blk_simp [i1] <;> rfl) (by blk_simp [i1] <;> rfl)
  · exact same2 (A2 m c) (by blk_simp [i2] <;> rfl) (by blk_simp [i2] <;> rfl)

end Cert.Kernel33Ideal.Hand

namespace Cert.Reference33Ideal.Hand

open Idealize.ShloMosaic hiding ix1 ix2 ix3 ix4 eq_ix1 eq_ix2 eq_ix3 eq_ix4
open Cert.Reference33Ideal Cert.Reference33Ideal.Read Cert.Proj Idealize.ShloMosaic.ValueIdx

variable (x0 : (⟨S512x512, .f32⟩ : BufTy).Contents (Elt Ideal)) (x1 : (⟨S2048x512, .bf16⟩ : BufTy).Contents (Elt Ideal))
  (x2 : (⟨S512x2048, .f32⟩ : BufTy).Contents (Elt Ideal))

theorem value_eq : val_main_v2 (F := Ideal) x0 x1 x2 = plus x2 (ntArr x0 x1) :=
  funext fun y => (add_comm (x2 y) _).trans (congrArg (· + x2 y) (congrFun (Cert.Reference32Ideal.Hand.value_eq x0 x1) y))

end Cert.Reference33Ideal.Hand

namespace Cert.Kernel34Ideal.Hand

open Idealize.ShloMosaic hiding ix1 ix2 ix3 ix4 eq_ix1 eq_ix2 eq_ix3 eq_ix4
open Cert.Kernel34Ideal Cert.Kernel34Ideal.Gen Cert.Proj
open Idealize.ShloMosaic.TcCoe Idealize.ShloMosaic.ValueIdx

variable (m : (ℓ : Loc nD τ sig) → Buf (Elt Ideal) ℓ) (c : Dev nD)

/-- The argument arrays. -/
abbrev A0 : (⟨2, ![512, 2048]⟩ : Shape).Idx → EReal := m ((c.tc : Thread nD τ).loc main_arg0)
abbrev A1 : (⟨2, ![512, 512]⟩ : Shape).Idx → EReal := m ((c.tc : Thread nD τ).loc main_arg1)

/-- The arguments' blocks at a point, by the result's. -/
theorem idx : ∀ t : Fin cfg0.N, win0_0.index t = ![0, win0_2.index t 0] ∧ win0_1.index t = ![0, win0_2.index t 1] :=
  (by decide +kernel : ∀ t : Fin grid0.N, _)

theorem final : (dats m 0 c).arrAt 2 cfg0.N = tnArr (A0 m c) (A1 m c) := by
  refine (dats m 0 c).arrAt_eq_of_covers 2 _ (by decide +kernel) fun t hf y => ?_
  obtain ⟨i0, i1⟩ := idx t
  blk_simp
  rw [after0_2, out0_2, View.canon_cons_unit_lit _ _ _ (by decide), View.ld_unit_lit _ _ (by decide), View.ld_unit_lit _ _ (by decide)]
  refine tn_tile (φ₁ := .bf16) (φ₂ := .bf16) (A0 m c) (A1 m c) (iblk m c 0 t) (iblk m c 1 t) (fun k => ?_) (fun k => ?_) <;> blk_simp [iblk]
  · exact at2 (A0 m c) (by blk_simp [i0] <;> rfl) (by blk_simp [i0] <;> rfl)
  · exact at2 (A1 m c) (by blk_simp [i1] <;> rfl) (by blk_simp [i1] <;> rfl)

end Cert.Kernel34Ideal.Hand

namespace Cert.Reference34Ideal.Hand

open Idealize.ShloMosaic hiding ix1 ix2 ix3 ix4 eq_ix1 eq_ix2 eq_ix3 eq_ix4
open Cert.Reference34Ideal Cert.Reference34Ideal.Read Cert.Proj Idealize.ShloMosaic.ValueIdx

variable (x0 : (⟨S512x2048, .bf16⟩ : BufTy).Contents (Elt Ideal)) (x1 : (⟨S512x512, .f32⟩ : BufTy).Contents (Elt Ideal))

theorem value_eq : val_main_v3 (F := Ideal) x0 x1 = tnArr x0 x1 := by
  funext y
  show val_main_v2 (F := Ideal) x0 x1 y = _
  rw [val_main_v2_apply, val_main_v1_apply]
  exact Finset.sum_congr rfl fun k _ => (mul_comm _ _).trans (congrArg₂ (· * ·) (congrArg x0 (eq_ix2 _)) (congrArg x1 (eq_ix2 _)))

end Cert.Reference34Ideal.Hand

namespace Cert.Proj

open Idealize.ShloMosaic Cert

theorem xk : @algebraic_Kernel30Ideal_Reference30Ideal Kernel30Ideal.Gen.facts Reference30Ideal.Gen.facts := fun m g m' g' _ same =>
  ⟨fun c => nnArr (Kernel30Ideal.Hand.A0 m c) (Kernel30Ideal.Hand.A1 m c),
    result_is (Kernel30Ideal.Value.run_blocks (F := Ideal) m g) (Kernel30Ideal.Hand.final m),
    result_is (Reference30Ideal.Value.run (F := Ideal) m' g') fun c => by
      rw [Reference30Ideal.Read.val_main_v2_eq, (same c).1, (same c).2]
      exact Reference30Ideal.Hand.value_eq _ _⟩

theorem xv : @algebraic_Kernel31Ideal_Reference31Ideal Kernel31Ideal.Gen.facts Reference31Ideal.Gen.facts := fun m g m' g' _ same =>
  ⟨fun c => nnArr (Kernel31Ideal.Hand.A0 m c) (Kernel31Ideal.Hand.A1 m c),
    result_is (Kernel31Ideal.Value.run_blocks (F := Ideal) m g) (Kernel31Ideal.Hand.final m),
    result_is (Reference31Ideal.Value.run (F := Ideal) m' g') fun c => by
      rw [Reference31Ideal.Read.val_main_v3_eq, (same c).1, (same c).2]
      exact Reference31Ideal.Hand.value_eq _ _⟩

theorem xk_dx : @algebraic_Kernel32Ideal_Reference32Ideal Kernel32Ideal.Gen.facts Reference32Ideal.Gen.facts := fun m g m' g' _ same =>
  ⟨fun c => ntArr (Kernel32Ideal.Hand.A0 m c) (Kernel32Ideal.Hand.A1 m c),
    result_is (Kernel32Ideal.Value.run_blocks (F := Ideal) m g) (Kernel32Ideal.Hand.final m),
    result_is (Reference32Ideal.Value.run (F := Ideal) m' g') fun c => by
      rw [Reference32Ideal.Read.val_main_v1_eq, (same c).1, (same c).2]
      exact Reference32Ideal.Hand.value_eq _ _⟩

theorem xv_dx : @algebraic_Kernel33Ideal_Reference33Ideal Kernel33Ideal.Gen.facts Reference33Ideal.Gen.facts := fun m g m' g' _ same =>
  ⟨fun c => plus (Kernel33Ideal.Hand.A2 m c) (ntArr (Kernel33Ideal.Hand.A0 m c) (Kernel33Ideal.Hand.A1 m c)),
    result_is (Kernel33Ideal.Value.run_blocks (F := Ideal) m g) (Kernel33Ideal.Hand.final m),
    result_is (Reference33Ideal.Value.run (F := Ideal) m' g') fun c => by
      rw [Reference33Ideal.Read.val_main_v2_eq, (same c).1, (same c).2.1, (same c).2.2]
      exact Reference33Ideal.Hand.value_eq _ _ _⟩

theorem xk_dw : @algebraic_Kernel34Ideal_Reference34Ideal Kernel34Ideal.Gen.facts Reference34Ideal.Gen.facts := fun m g m' g' _ same =>
  ⟨fun c => tnArr (Kernel34Ideal.Hand.A0 m c) (Kernel34Ideal.Hand.A1 m c),
    result_is (Kernel34Ideal.Value.run_blocks (F := Ideal) m g) (Kernel34Ideal.Hand.final m),
    result_is (Reference34Ideal.Value.run (F := Ideal) m' g') fun c => by
      rw [Reference34Ideal.Read.val_main_v3_eq, (same c).1, (same c).2]
      exact Reference34Ideal.Hand.value_eq _ _⟩

end Cert.Proj

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel3
public import proofs.«01_k».proof.Proof.Gen.Kernel3.Frame
public import proofs.«01_k».proof.Proof.Gen.Kernel4
public import proofs.«01_k».proof.Proof.Gen.Kernel4.Frame
public import proofs.«01_k».proof.Proof.Gen.Kernel5
public import proofs.«01_k».proof.Proof.Gen.Kernel5.Frame
public import proofs.«01_k».proof.Proof.Gen.Kernel6
public import proofs.«01_k».proof.Proof.Gen.Kernel6.Frame
public import proofs.«01_k».proof.Proof.Gen.Kernel7
public import proofs.«01_k».proof.Proof.Gen.Kernel7.Frame
public import proofs.«01_k».proof.Proof.Gen.Kernel8
public import proofs.«01_k».proof.Proof.Gen.Kernel8.Frame
public import proofs.«01_k».proof.Proof.Gen.Kernel9
public import proofs.«01_k».proof.Proof.Gen.Kernel9.Frame
public import proofs.«01_k».proof.Proof.Gen.Kernel10
public import proofs.«01_k».proof.Proof.Gen.Kernel10.Frame
public import proofs.«01_k».proof.Proof.Gen.Kernel11
public import proofs.«01_k».proof.Proof.Gen.Kernel11.Frame
public import proofs.«01_k».proof.Proof.Gen.Kernel12
public import proofs.«01_k».proof.Proof.Gen.Kernel12.Frame
public import proofs.«01_k».proof.Proof.Gen.Kernel13
public import proofs.«01_k».proof.Proof.Gen.Kernel13.Frame
public import proofs.«01_k».proof.Proof.Gen.Kernel14
public import proofs.«01_k».proof.Proof.Gen.Kernel14.Frame
public import proofs.«01_k».proof.Proof.Gen.Kernel15
public import proofs.«01_k».proof.Proof.Gen.Kernel15.Frame
public import proofs.«01_k».proof.Proof.Gen.Kernel16
public import proofs.«01_k».proof.Proof.Gen.Kernel16.Frame
public import proofs.«01_k».proof.Proof.Gen.Kernel17
public import proofs.«01_k».proof.Proof.Gen.Kernel17.Frame
public import proofs.«01_k».proof.Proof.Gen.Kernel18
public import proofs.«01_k».proof.Proof.Gen.Kernel18.Frame
public import proofs.«01_k».proof.Proof.Gen.Kernel19
public import proofs.«01_k».proof.Proof.Gen.Kernel19.Frame
public import proofs.«01_k».proof.Proof.Gen.Kernel20
public import proofs.«01_k».proof.Proof.Gen.Kernel20.Frame
public import proofs.«01_k».proof.Proof.Gen.Kernel2Ideal
public import proofs.«01_k».proof.Proof.Gen.Kernel3Ideal
public import proofs.«01_k».proof.Proof.Gen.Kernel4Ideal
public import proofs.«01_k».proof.Proof.Gen.Kernel5Ideal
public import proofs.«01_k».proof.Proof.Gen.Kernel6Ideal
public import proofs.«01_k».proof.Proof.Gen.Kernel7Ideal
public import proofs.«01_k».proof.Proof.Gen.Kernel8Ideal
public import proofs.«01_k».proof.Proof.Gen.Kernel9Ideal
public import proofs.«01_k».proof.Proof.Gen.Kernel10Ideal
public import proofs.«01_k».proof.Proof.Gen.Kernel11Ideal
public import proofs.«01_k».proof.Proof.Gen.Kernel12Ideal
public import proofs.«01_k».proof.Proof.Gen.Kernel13Ideal
public import proofs.«01_k».proof.Proof.Gen.Kernel14Ideal
public import proofs.«01_k».proof.Proof.Gen.Kernel15Ideal
public import proofs.«01_k».proof.Proof.Gen.Kernel16Ideal
public import proofs.«01_k».proof.Proof.Gen.Kernel17Ideal
public import proofs.«01_k».proof.Proof.Gen.Kernel18Ideal
public import proofs.«01_k».proof.Proof.Gen.Kernel19Ideal
public import proofs.«01_k».proof.Proof.Gen.Kernel20Ideal
public import proofs.«01_k».proof.Proof.Gen.Reference2Ideal
public import proofs.«01_k».proof.Proof.Gen.Reference3Ideal
public import proofs.«01_k».proof.Proof.Gen.Reference4Ideal
public import proofs.«01_k».proof.Proof.Gen.Reference5Ideal
public import proofs.«01_k».proof.Proof.Gen.Reference6Ideal
public import proofs.«01_k».proof.Proof.Gen.Reference7Ideal
public import proofs.«01_k».proof.Proof.Gen.Reference8Ideal
public import proofs.«01_k».proof.Proof.Gen.Reference9Ideal
public import proofs.«01_k».proof.Proof.Gen.Reference10Ideal
public import proofs.«01_k».proof.Proof.Gen.Reference11Ideal
public import proofs.«01_k».proof.Proof.Gen.Reference12Ideal
public import proofs.«01_k».proof.Proof.Gen.Reference13Ideal
public import proofs.«01_k».proof.Proof.Gen.Reference14Ideal
public import proofs.«01_k».proof.Proof.Gen.Reference15Ideal
public import proofs.«01_k».proof.Proof.Gen.Reference16Ideal
public import proofs.«01_k».proof.Proof.Gen.Reference17Ideal
public import proofs.«01_k».proof.Proof.Gen.Reference18Ideal
public import proofs.«01_k».proof.Proof.Gen.Reference19Ideal
public import proofs.«01_k».proof.Proof.Gen.Reference20Ideal
public import proofs.«01_k».proof.Proof.Ffn.Claims
public import proofs.«01_k».proof.Proof.Proj.Claims
public import proofs.«01_k».proof.Proof.Cross.Claims
public import proofs.«01_k».proof.Proof.Mla.Claims
public import proofs.«01_k».proof.Proof.Norm.Claims
public import proofs.«01_k».proof.Proof.Final
public import proofs.«01_k».proof.Proof.Ref
public import Idealize.ShloMosaic.Lib.Claim
public import Idealize.ShloMosaic.Lib.Quiescent
public import Idealize.ShloMosaic.Adequacy
public import Idealize.ShloMosaic.Init
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Norm.GateClaims
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Reference37Ideal.Read
public import proofs.«01_k».proof.Proof.Gen.Kernel38
public import proofs.«01_k».proof.Proof.Gen.Kernel38.Frame
public import proofs.«01_k».proof.Proof.Gen.Kernel38Ideal
public import proofs.«01_k».proof.Proof.Gen.Kernel38Ideal.Frame
public import proofs.«01_k».proof.Proof.Gen.Kernel38Ideal.Value
public import proofs.«01_k».proof.Proof.Gen.Reference38Ideal
public import proofs.«01_k».proof.Proof.Gen.Reference38Ideal.Run
public import proofs.«01_k».proof.Proof.Gen.Reference38Ideal.Read
public import proofs.«01_k».proof.Proof.Gen.Kernel39
public import proofs.«01_k».proof.Proof.Gen.Kernel39.Frame
public import proofs.«01_k».proof.Proof.Gen.Kernel39Ideal
public import proofs.«01_k».proof.Proof.Gen.Kernel39Ideal.Frame
public import proofs.«01_k».proof.Proof.Gen.Kernel39Ideal.Value
public import proofs.«01_k».proof.Proof.Gen.Reference39Ideal
public import proofs.«01_k».proof.Proof.Gen.Reference39Ideal.Run
public import proofs.«01_k».proof.Proof.Gen.Reference39Ideal.Read
public import proofs.«01_k».proof.Proof.Gen.Kernel40
public import proofs.«01_k».proof.Proof.Gen.Kernel40.Frame
public import proofs.«01_k».proof.Proof.Gen.Kernel40Ideal
public import proofs.«01_k».proof.Proof.Gen.Kernel40Ideal.Frame
public import proofs.«01_k».proof.Proof.Gen.Kernel40Ideal.Value
public import proofs.«01_k».proof.Proof.Gen.Reference40Ideal
public import proofs.«01_k».proof.Proof.Gen.Reference40Ideal.Run
public import proofs.«01_k».proof.Proof.Gen.Reference40Ideal.Read
public import proofs.«01_k».proof.Proof.Gen.Kernel41
public import proofs.«01_k».proof.Proof.Gen.Kernel41.Frame
public import proofs.«01_k».proof.Proof.Gen.Kernel41Ideal
public import proofs.«01_k».proof.Proof.Gen.Kernel41Ideal.Frame
public import proofs.«01_k».proof.Proof.Gen.Kernel41Ideal.Value
public import proofs.«01_k».proof.Proof.Gen.Reference41Ideal
public import proofs.«01_k».proof.Proof.Gen.Reference41Ideal.Run
public import proofs.«01_k».proof.Proof.Gen.Reference41Ideal.Read
public import proofs.«01_k».proof.Proof.Gen.Kernel42
public import proofs.«01_k».proof.Proof.Gen.Kernel42.Frame
public import proofs.«01_k».proof.Proof.Gen.Kernel42Ideal
public import proofs.«01_k».proof.Proof.Gen.Kernel42Ideal.Frame
public import proofs.«01_k».proof.Proof.Gen.Kernel42Ideal.Value
public import proofs.«01_k».proof.Proof.Gen.Reference42Ideal
public import proofs.«01_k».proof.Proof.Gen.Reference42Ideal.Run
public import proofs.«01_k».proof.Proof.Gen.Reference42Ideal.Read
public import proofs.«01_k».proof.Proof.Gen.Kernel43
public import proofs.«01_k».proof.Proof.Gen.Kernel43.Frame
public import proofs.«01_k».proof.Proof.Gen.Kernel43Ideal
public import proofs.«01_k».proof.Proof.Gen.Kernel43Ideal.Frame
public import proofs.«01_k».proof.Proof.Gen.Kernel43Ideal.Value
public import proofs.«01_k».proof.Proof.Gen.Reference43Ideal
public import proofs.«01_k».proof.Proof.Gen.Reference43Ideal.Run
public import proofs.«01_k».proof.Proof.Gen.Reference43Ideal.Read
public import proofs.«01_k».proof.Proof.Conv.Claims
public import proofs.«01_k».proof.Proof.Conv.Forward
public import proofs.«01_k».proof.Proof.Norm.ForwardRef
public import proofs.«01_k».proof.Proof.Step.Claims
public import proofs.«01_k».proof.Proof.Proj.Memory

@[expose] public section

noncomputable section

namespace Cert.Proof

open Idealize.ShloMosaic Idealize.SL.Sem

/-- The reference uses no semaphore, so its counters are zero at the end; its arguments are unchanged by its run. -/
theorem frame_r (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2.2, sem_eq_zero_of_no_sems rfl r.2⟩) (Cert.ReferenceIdeal.Value.run (F := Ideal) m g)

/-- The words of the named constants. -/
local instance words : Named Bits := ⟨fun _ _ {φ} b => Scalar.ofBits φ b⟩

set_option smartUnfolding false in
set_option backward.isDefEq.respectTransparency.types false in
/-- The kernel is its idealization with the named constants read as their words: its frame is the idealization's. -/
theorem frame_k (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) :=
  Cert.KernelIdeal.Hand.frame (F := Bits) m g

/-- The precondition's side conditions. -/
theorem pre_facts : Cert.Pre_finite_qk.Facts := ⟨by decide, by decide⟩

theorem algebraic : @Cert.algebraic_KernelIdeal_ReferenceIdeal_pre_finite_qk Cert.KernelIdeal.Gen.facts Cert.ReferenceIdeal.Gen.facts pre_facts := by
  intro m g m' g' hpre hagree
  have hreal : ∀ c y, (∃ a : ℝ, Cert.KernelIdeal.Hand.A0 m c y = a) ∧ ∃ a : ℝ, Cert.KernelIdeal.Hand.A1 m c y = a := fun c y => by
    obtain ⟨h0, h1⟩ := Cert.Ffn.and_one _ _ (congrFun (hpre c) y)
    exact ⟨Cert.Ffn.real_of_abs h0, Cert.Ffn.real_of_abs h1⟩
  have hR : ∀ c, Cert.Spec.Rows (Cert.KernelIdeal.Hand.A0 m c) (Cert.KernelIdeal.Hand.A1 m c) := fun c =>
    Cert.Spec.rows_of_real _ _ (fun y => (hreal c y).1) (fun y => (hreal c y).2)
  refine ⟨fun c => Cert.Spec.DQ (Cert.KernelIdeal.Hand.A0 m c) (Cert.KernelIdeal.Hand.A1 m c) (Cert.KernelIdeal.Hand.A2 m c) (Cert.KernelIdeal.Hand.A3 m c),
    fun c => Cert.Spec.DK (Cert.KernelIdeal.Hand.A0 m c) (Cert.KernelIdeal.Hand.A1 m c) (Cert.KernelIdeal.Hand.A2 m c) (Cert.KernelIdeal.Hand.A3 m c),
    fun c => Cert.Spec.DV (Cert.KernelIdeal.Hand.A0 m c) (Cert.KernelIdeal.Hand.A1 m c) (Cert.KernelIdeal.Hand.A3 m c), ?_, ?_⟩
  · refine (θ_run Cert.KernelIdeal.defs _ _).mono (fun r h c => ?_) (θ_run_and (Cert.KernelIdeal.Hand.run_all (F := Ideal) m g) (Cert.KernelIdeal.Hand.frame (F := Ideal) m g))
    obtain ⟨⟨hp, -⟩, hf, -⟩ := h
    exact ⟨((hp c).1 4).trans (Cert.KernelIdeal.Hand.final_q m c (hR c)), ((hp c).1 5).trans (Cert.KernelIdeal.Hand.final_k m c (hR c)),
      ((hp c).1 6).trans (Cert.KernelIdeal.Hand.final_v m c (hR c)), hf c⟩
  · refine (θ_run Cert.ReferenceIdeal.defs _ _).mono (fun r h c => ?_) (Cert.ReferenceIdeal.Value.run (F := Ideal) m' g')
    obtain ⟨h77, h76, h75, h0, h1, h2, h3⟩ := h c
    obtain ⟨e0, e1, e2, e3⟩ := hagree c
    refine ⟨h77.trans ?_, h76.trans ?_, h75.trans ?_, h0, h1, h2, h3⟩
    · rw [Cert.ReferenceIdeal.Read.val_main_v77_eq, e0, e1, e2, e3]
      exact Cert.ReferenceIdeal.Hand.q_eq _ _ _ _ (hR c)
    · rw [Cert.ReferenceIdeal.Read.val_main_v76_eq, e0, e1, e2, e3]
      exact Cert.ReferenceIdeal.Hand.k_eq _ _ _ _ (hR c)
    · rw [Cert.ReferenceIdeal.Read.val_main_v75_eq, e0, e1, e3]
      exact Cert.ReferenceIdeal.Hand.v_eq _ _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Kernel40.Gen.facts, Cert.Kernel40Ideal.Gen.facts, Cert.Reference40Ideal.Gen.facts,
  Cert.Kernel41.Gen.facts, Cert.Kernel41Ideal.Gen.facts, Cert.Reference41Ideal.Gen.facts,
  Cert.Kernel42.Gen.facts, Cert.Kernel42Ideal.Gen.facts, Cert.Reference42Ideal.Gen.facts,
  Cert.Kernel43.Gen.facts, Cert.Kernel43Ideal.Gen.facts, Cert.Reference43Ideal.Gen.facts,
  pre_facts, Cert.Ffn.pre_dy_facts, Cert.Cross.pre_grad_facts, Cert.Cross.pre_fwd_facts, Cert.Mla.pre_fwd_facts, Cert.Norm.pre_gain_dy_facts, Cert.Conv.pre_conv_dy_facts,
  fun m g _ => frame_k m g, fun m g _ => Cert.KernelIdeal.Hand.frame m g, fun m g _ => Cert.KernelIdeal.Hand.frame m g,
  fun m g _ => frame_r m g, fun m g _ => frame_r m g,
  fun m g _ => Cert.Kernel2.Gen.frame m g, fun m g _ => Cert.Kernel2Ideal.Gen.frame m g, Cert.Ffn.frame_r2,
  fun m g _ => Cert.Kernel3.Gen.frame m g, fun m g _ => Cert.Kernel3Ideal.Gen.frame m g, fun m g _ => Cert.Kernel3Ideal.Gen.frame m g,
  Cert.Ffn.frame_r3, fun m g _ => Cert.Ffn.frame_r3 m g trivial,
  fun m g _ => Cert.Kernel4.Gen.frame m g, fun m g _ => Cert.Kernel4Ideal.Gen.frame m g, fun m g _ => ends_quietly rfl (Cert.Reference4Ideal.Value.run m g),
  fun m g _ => Cert.Kernel5.Gen.frame m g, fun m g _ => Cert.Kernel5Ideal.Gen.frame m g, fun m g _ => ends_quietly rfl (Cert.Reference5Ideal.Value.run m g),
  fun m g _ => Cert.Kernel6.Gen.frame m g, fun m g _ => Cert.Kernel6Ideal.Gen.frame m g, fun m g _ => ends_quietly rfl (Cert.Reference6Ideal.Value.run m g),
  fun m g _ => Cert.Kernel7.Gen.frame m g, fun m g _ => Cert.Kernel7Ideal.Gen.frame m g, fun m g _ => ends_quietly rfl (Cert.Reference7Ideal.Value.run m g),
  fun m g _ => Cert.Kernel8.Gen.frame m g, fun m g _ => Cert.Kernel8Ideal.Gen.frame m g, fun m g _ => ends_quietly rfl (Cert.Reference8Ideal.Value.run m g),
  fun m g _ => Cert.Kernel9.Gen.frame m g, fun m g _ => Cert.Kernel9Ideal.Gen.frame m g, fun m g _ => ends_quietly rfl (Cert.Reference9Ideal.Value.run m g),
  fun m g _ => Cert.Kernel10.Gen.frame m g, fun m g _ => Cert.Kernel10Ideal.Gen.frame m g, fun m g _ => ends_quietly rfl (Cert.Reference10Ideal.Value.run m g),
  fun m g _ => Cert.Kernel11.Gen.frame m g, fun m g _ => Cert.Kernel11Ideal.Gen.frame m g, fun m g _ => ends_quietly rfl (Cert.Reference11Ideal.Value.run m g),
  fun m g _ => Cert.Kernel12.Gen.frame m g, fun m g _ => Cert.Kernel12Ideal.Gen.frame m g, fun m g _ => ends_quietly rfl (Cert.Reference12Ideal.Value.run m g),
  fun m g _ => Cert.Kernel13.Gen.frame m g, fun m g _ => Cert.Kernel13Ideal.Gen.frame m g, fun m g _ => ends_quietly rfl (Cert.Reference13Ideal.Value.run m g),
  fun m g _ => Cert.Kernel14.Gen.frame m g, fun m g _ => Cert.Kernel14Ideal.Gen.frame m g, fun m g _ => ends_quietly rfl (Cert.Reference14Ideal.Value.run m g),
  fun m g _ => Cert.Kernel15.Gen.frame m g, fun m g _ => Cert.Kernel15Ideal.Gen.frame m g, fun m g _ => ends_quietly rfl (Cert.Reference15Ideal.Value.run m g),
  fun m g _ => Cert.Kernel16.Gen.frame m g, fun m g _ => Cert.Kernel16Ideal.Gen.frame m g, fun m g _ => ends_quietly rfl (Cert.Reference16Ideal.Value.run m g),
  fun m g _ => Cert.Kernel17.Gen.frame m g, fun m g _ => Cert.Kernel17Ideal.Gen.frame m g, fun m g _ => ends_quietly rfl (Cert.Reference17Ideal.Value.run m g),
  fun m g _ => Cert.Kernel18.Gen.frame m g, fun m g _ => Cert.Kernel18Ideal.Gen.frame m g, fun m g _ => ends_quietly rfl (Cert.Reference18Ideal.Value.run m g),
  fun m g _ => Cert.Kernel19.Gen.frame m g, fun m g _ => Cert.Kernel19Ideal.Gen.frame m g, fun m g _ => ends_quietly rfl (Cert.Reference19Ideal.Value.run m g),
  fun m g _ => Cert.Kernel20.Gen.frame m g, fun m g _ => Cert.Kernel20Ideal.Gen.frame m g, fun m g _ => ends_quietly rfl (Cert.Reference20Ideal.Value.run m g),
  fun m g _ => Cert.Kernel21.Gen.frame m g, fun m g _ => Cert.Kernel21Ideal.Gen.frame m g, fun m g _ => Cert.Kernel21Ideal.Gen.frame m g,
  Cert.Cross.frame_r, fun m g _ => Cert.Cross.frame_r m g trivial,
  fun m g _ => Cert.Kernel22.Gen.frame m g, fun m g _ => Cert.Kernel22Ideal.Gen.frame m g, fun m g _ => Cert.Kernel22Ideal.Gen.frame m g,
  fun m g _ => ends_quietly rfl (Cert.Reference22Ideal.Value.run m g), fun m g _ => ends_quietly rfl (Cert.Reference22Ideal.Value.run m g),
  fun m g _ => Cert.Kernel23.Gen.frame m g, fun m g _ => Cert.Kernel23Ideal.Gen.frame m g, fun m g _ => Cert.Kernel23Ideal.Gen.frame m g,
  fun m g _ => ends_quietly rfl (Cert.Reference23Ideal.Value.run m g), fun m g _ => ends_quietly rfl (Cert.Reference23Ideal.Value.run m g),
  fun m g _ => Cert.Kernel24.Gen.frame m g, fun m g _ => Cert.Kernel24Ideal.Gen.frame m g, Cert.Norm.wide_frame,
  fun m g _ => Cert.Kernel25.Gen.frame m g, fun m g _ => Cert.Kernel25Ideal.Gen.frame m g, Cert.Norm.latent_frame,
  fun m g _ => Cert.Kernel26.Gen.frame m g, fun m g _ => Cert.Kernel26Ideal.Gen.frame m g, Cert.Norm.heads_frame,
  fun m g _ => Cert.Kernel27.Gen.frame m g, fun m g _ => Cert.Kernel27Ideal.Gen.frame m g, fun m g _ => Cert.Kernel27Ideal.Gen.frame m g,
  Cert.Norm.gate_frame, fun m g _ => Cert.Norm.gate_frame m g trivial,
  fun m g _ => Cert.Kernel28.Gen.frame m g, fun m g _ => Cert.Kernel28Ideal.Gen.frame m g, fun m g _ => Cert.Kernel28Ideal.Gen.frame m g,
  Cert.Conv.conv_frame, fun m g _ => Cert.Conv.conv_frame m g trivial,
  fun m g _ => Cert.Kernel29.Gen.frame m g, fun m g _ => Cert.Kernel29Ideal.Gen.frame m g, fun m g _ => ends_quietly rfl (Cert.Reference29Ideal.Value.run m g),
  fun m g _ => Cert.Kernel30.Gen.frame m g, fun m g _ => Cert.Kernel30Ideal.Gen.frame m g, fun m g _ => ends_quietly rfl (Cert.Reference30Ideal.Value.run m g),
  fun m g _ => Cert.Kernel31.Gen.frame m g, fun m g _ => Cert.Kernel31Ideal.Gen.frame m g, fun m g _ => ends_quietly rfl (Cert.Reference31Ideal.Value.run m g),
  fun m g _ => Cert.Kernel32.Gen.frame m g, fun m g _ => Cert.Kernel32Ideal.Gen.frame m g, fun m g _ => ends_quietly rfl (Cert.Reference32Ideal.Value.run m g),
  fun m g _ => Cert.Kernel33.Gen.frame m g, fun m g _ => Cert.Kernel33Ideal.Gen.frame m g, fun m g _ => ends_quietly rfl (Cert.Reference33Ideal.Value.run m g),
  fun m g _ => Cert.Kernel34.Gen.frame m g, fun m g _ => Cert.Kernel34Ideal.Gen.frame m g, fun m g _ => ends_quietly rfl (Cert.Reference34Ideal.Value.run m g),
  fun m g _ => Cert.Kernel35.Gen.frame m g, fun m g _ => Cert.Kernel35Ideal.Gen.frame m g, fun m g _ => ends_quietly rfl (Cert.Reference35Ideal.Value.run m g),
  fun m g _ => Cert.Kernel36.Gen.frame m g, fun m g _ => Cert.Kernel36Ideal.Gen.frame m g, fun m g _ => ends_quietly rfl (Cert.Reference36Ideal.Value.run m g),
  fun m g _ => Cert.Kernel37.Gen.frame m g, fun m g _ => Cert.Kernel37Ideal.Gen.frame m g, fun m g _ => ends_quietly rfl (Cert.Reference37Ideal.Value.run m g),
  fun m g _ => Cert.Kernel38.Gen.frame m g, fun m g _ => Cert.Kernel38Ideal.Gen.frame m g, fun m g _ => ends_quietly rfl (Cert.Reference38Ideal.Value.run m g),
  fun m g _ => Cert.Kernel39.Gen.frame m g, fun m g _ => Cert.Kernel39Ideal.Gen.frame m g, fun m g _ => ends_quietly rfl (Cert.Reference39Ideal.Value.run m g),
  fun m g _ => Cert.Kernel40.Gen.frame m g, fun m g _ => Cert.Kernel40Ideal.Gen.frame m g, fun m g _ => ends_quietly rfl (Cert.Reference40Ideal.Value.run m g),
  fun m g _ => Cert.Kernel41.Gen.frame m g, fun m g _ => Cert.Kernel41Ideal.Gen.frame m g, Cert.Step.adamw_frame,
  fun m g _ => Cert.Kernel42.Gen.frame m g, fun m g _ => Cert.Kernel42Ideal.Gen.frame m g, Cert.Step.loss_frame,
  fun m g _ => Cert.Kernel43.Gen.frame m g, fun m g _ => Cert.Kernel43Ideal.Gen.frame m g, Cert.Step.memory_frame,
  IdealRules.named_const.statement Cert.KernelIdeal.κ "mask" .f32 0xF149F2CA#32 ⊥ rfl, algebraic,
  trivial, Cert.Ffn.algebraic2, trivial, Cert.Ffn.algebraic3, trivial, Cert.Ffn.algebraic4, trivial, Cert.Ffn.algebraic5, trivial, Cert.Ffn.algebraic6,
  trivial, Cert.Ffn.algebraic7, trivial, Cert.Proj.in_proj, trivial, Cert.Proj.in_dx, trivial, Cert.Proj.in_dw, trivial, Cert.Proj.out_proj,
  trivial, Cert.Proj.out_dx, trivial, Cert.Proj.out_dw, trivial, Cert.Proj.heads, trivial, Cert.Proj.heads_dx, trivial, Cert.Proj.heads_dw,
  trivial, Cert.Proj.xq, trivial, Cert.Proj.xq_dx, trivial, Cert.Proj.xq_dw, trivial, Cert.Proj.xo_proj,
  trivial, Cert.Cross.gradient, trivial, Cert.Cross.output,
  IdealRules.named_const.statement Cert.Kernel23Ideal.κ "mask" .f32 0xF149F2CA#32 ⊥ rfl, Cert.Mla.output,
  trivial, Cert.Norm.wide, trivial, Cert.Norm.latent, trivial, Cert.Norm.heads, trivial, Cert.Norm.gate,
  trivial, Cert.Conv.conv, trivial, Cert.Conv.forward, trivial, Cert.Proj.xk, trivial, Cert.Proj.xv, trivial, Cert.Proj.xk_dx, trivial, Cert.Proj.xv_dx,
  trivial, Cert.Proj.xk_dw, trivial, Cert.Norm.wide_out, trivial, Cert.Norm.latent_out, trivial, Cert.Norm.heads_out,
  trivial, Cert.Norm.memory_out, trivial, Cert.Norm.memory_heads_out, trivial, Cert.Norm.gate_out,
  trivial, Cert.Step.adamw, trivial, Cert.Step.loss, trivial, Cert.Step.memory⟩

end Cert.Proof

end
